-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite28 [hPre_finite28 : Cert.Pre_finite28.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))).1 = (fun _ => 1#1)
    ∧ (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))).2 = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite28 [hPre_finite28 : Cert.Pre_finite28.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2))).1 = (fun _ => 1#1)
    ∧ (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2))).2 = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite29 [hPre_finite29 : Cert.Pre_finite29.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))).1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))).2 = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite29 [hPre_finite29 : Cert.Pre_finite29.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2))).1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4)
      ∧ r.2.mem ((c.tc : Thread Cert.Kernel38.nD Cert.Kernel38.τ).loc Cert.Kernel38.main_arg5) = m ((c.tc : Thread Cert.Kernel38.nD Cert.Kernel38.τ).loc Cert.Kernel38.main_arg5)
      ∧ r.2.mem ((c.tc : Thread Cert.Kernel38.nD Cert.Kernel38.τ).loc Cert.Kernel38.main_arg6) = m ((c.tc : Thread Cert.Kernel38.nD Cert.Kernel38.τ).loc Cert.Kernel38.main_arg6)
      ∧ r.2.mem ((c.tc : Thread Cert.Kernel38.nD Cert.Kernel38.τ).loc Cert.Kernel38.main_arg7) = m ((c.tc : Thread Cert.Kernel38.nD Cert.Kernel38.τ).loc Cert.Kernel38.main_arg7))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
      ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5)
      ∧ r.2.mem ((c.tc : Thread Cert.Kernel38Ideal.nD Cert.Kernel38Ideal.τ).loc Cert.Kernel38Ideal.main_arg6) = m ((c.tc : Thread Cert.Kernel38Ideal.nD Cert.Kernel38Ideal.τ).loc Cert.Kernel38Ideal.main_arg6)
      ∧ r.2.mem ((c.tc : Thread Cert.Kernel38Ideal.nD Cert.Kernel38Ideal.τ).loc Cert.Kernel38Ideal.main_arg7) = m ((c.tc : Thread Cert.Kernel38Ideal.nD Cert.Kernel38Ideal.τ).loc Cert.Kernel38Ideal.main_arg7))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4)
      ∧ r.2.mem ((c.tc : Thread Cert.Reference38Ideal.nD Cert.Reference38Ideal.τ).loc Cert.Reference38Ideal.main_arg5) = m ((c.tc : Thread Cert.Reference38Ideal.nD Cert.Reference38Ideal.τ).loc Cert.Reference38Ideal.main_arg5)
      ∧ r.2.mem ((c.tc : Thread Cert.Reference38Ideal.nD Cert.Reference38Ideal.τ).loc Cert.Reference38Ideal.main_arg6) = m ((c.tc : Thread Cert.Reference38Ideal.nD Cert.Reference38Ideal.τ).loc Cert.Reference38Ideal.main_arg6)
      ∧ r.2.mem ((c.tc : Thread Cert.Reference38Ideal.nD Cert.Reference38Ideal.τ).loc Cert.Reference38Ideal.main_arg7) = m ((c.tc : Thread Cert.Reference38Ideal.nD Cert.Reference38Ideal.τ).loc Cert.Reference38Ideal.main_arg7))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4)
      ∧ r.2.mem ((c.tc : Thread Cert.Kernel39.nD Cert.Kernel39.τ).loc Cert.Kernel39.main_arg5) = m ((c.tc : Thread Cert.Kernel39.nD Cert.Kernel39.τ).loc Cert.Kernel39.main_arg5)
      ∧ r.2.mem ((c.tc : Thread Cert.Kernel39.nD Cert.Kernel39.τ).loc Cert.Kernel39.main_arg6) = m ((c.tc : Thread Cert.Kernel39.nD Cert.Kernel39.τ).loc Cert.Kernel39.main_arg6)
      ∧ r.2.mem ((c.tc : Thread Cert.Kernel39.nD Cert.Kernel39.τ).loc Cert.Kernel39.main_arg7) = m ((c.tc : Thread Cert.Kernel39.nD Cert.Kernel39.τ).loc Cert.Kernel39.main_arg7))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
      ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
      ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5)
      ∧ r.2.mem ((c.tc : Thread Cert.Reference39Ideal.nD Cert.Reference39Ideal.τ).loc Cert.Reference39Ideal.main_arg6) = m ((c.tc : Thread Cert.Reference39Ideal.nD Cert.Reference39Ideal.τ).loc Cert.Reference39Ideal.main_arg6)
      ∧ r.2.mem ((c.tc : Thread Cert.Reference39Ideal.nD Cert.Reference39Ideal.τ).loc Cert.Reference39Ideal.main_arg7) = m ((c.tc : Thread Cert.Reference39Ideal.nD Cert.Reference39Ideal.τ).loc Cert.Reference39Ideal.main_arg7))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4)
      ∧ r.2.mem ((c.tc : Thread Cert.Kernel40.nD Cert.Kernel40.τ).loc Cert.Kernel40.main_arg5) = m ((c.tc : Thread Cert.Kernel40.nD Cert.Kernel40.τ).loc Cert.Kernel40.main_arg5)
      ∧ r.2.mem ((c.tc : Thread Cert.Kernel40.nD Cert.Kernel40.τ).loc Cert.Kernel40.main_arg6) = m ((c.tc : Thread Cert.Kernel40.nD Cert.Kernel40.τ).loc Cert.Kernel40.main_arg6)
      ∧ r.2.mem ((c.tc : Thread Cert.Kernel40.nD Cert.Kernel40.τ).loc Cert.Kernel40.main_arg7) = m ((c.tc : Thread Cert.Kernel40.nD Cert.Kernel40.τ).loc Cert.Kernel40.main_arg7))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
      ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5)
      ∧ r.2.mem ((c.tc : Thread Cert.Kernel40Ideal.nD Cert.Kernel40Ideal.τ).loc Cert.Kernel40Ideal.main_arg6) = m ((c.tc : Thread Cert.Kernel40Ideal.nD Cert.Kernel40Ideal.τ).loc Cert.Kernel40Ideal.main_arg6)
      ∧ r.2.mem ((c.tc : Thread Cert.Kernel40Ideal.nD Cert.Kernel40Ideal.τ).loc Cert.Kernel40Ideal.main_arg7) = m ((c.tc : Thread Cert.Kernel40Ideal.nD Cert.Kernel40Ideal.τ).loc Cert.Kernel40Ideal.main_arg7))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4)
      ∧ r.2.mem ((c.tc : Thread Cert.Reference40Ideal.nD Cert.Reference40Ideal.τ).loc Cert.Reference40Ideal.main_arg5) = m ((c.tc : Thread Cert.Reference40Ideal.nD Cert.Reference40Ideal.τ).loc Cert.Reference40Ideal.main_arg5)
      ∧ r.2.mem ((c.tc : Thread Cert.Reference40Ideal.nD Cert.Reference40Ideal.τ).loc Cert.Reference40Ideal.main_arg6) = m ((c.tc : Thread Cert.Reference40Ideal.nD Cert.Reference40Ideal.τ).loc Cert.Reference40Ideal.main_arg6)
      ∧ r.2.mem ((c.tc : Thread Cert.Reference40Ideal.nD Cert.Reference40Ideal.τ).loc Cert.Reference40Ideal.main_arg7) = m ((c.tc : Thread Cert.Reference40Ideal.nD Cert.Reference40Ideal.τ).loc Cert.Reference40Ideal.main_arg7))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3)
      ∧ r.2.mem ((c.tc : Thread Cert.Kernel41.nD Cert.Kernel41.τ).loc Cert.Kernel41.main_arg4) = m ((c.tc : Thread Cert.Kernel41.nD Cert.Kernel41.τ).loc Cert.Kernel41.main_arg4)
      ∧ r.2.mem ((c.tc : Thread Cert.Kernel41.nD Cert.Kernel41.τ).loc Cert.Kernel41.main_arg5) = m ((c.tc : Thread Cert.Kernel41.nD Cert.Kernel41.τ).loc Cert.Kernel41.main_arg5)
      ∧ r.2.mem ((c.tc : Thread Cert.Kernel41.nD Cert.Kernel41.τ).loc Cert.Kernel41.main_arg6) = m ((c.tc : Thread Cert.Kernel41.nD Cert.Kernel41.τ).loc Cert.Kernel41.main_arg6)
      ∧ r.2.mem ((c.tc : Thread Cert.Kernel41.nD Cert.Kernel41.τ).loc Cert.Kernel41.main_arg7) = m ((c.tc : Thread Cert.Kernel41.nD Cert.Kernel41.τ).loc Cert.Kernel41.main_arg7))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
      ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
      ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
      ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6)
      ∧ r.2.mem ((c.tc : Thread Cert.Kernel41Ideal.nD Cert.Kernel41Ideal.τ).loc Cert.Kernel41Ideal.main_arg7) = m ((c.tc : Thread Cert.Kernel41Ideal.nD Cert.Kernel41Ideal.τ).loc Cert.Kernel41Ideal.main_arg7))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3)
      ∧ r.2.mem ((c.tc : Thread Cert.Reference41Ideal.nD Cert.Reference41Ideal.τ).loc Cert.Reference41Ideal.main_arg4) = m ((c.tc : Thread Cert.Reference41Ideal.nD Cert.Reference41Ideal.τ).loc Cert.Reference41Ideal.main_arg4)
      ∧ r.2.mem ((c.tc : Thread Cert.Reference41Ideal.nD Cert.Reference41Ideal.τ).loc Cert.Reference41Ideal.main_arg5) = m ((c.tc : Thread Cert.Reference41Ideal.nD Cert.Reference41Ideal.τ).loc Cert.Reference41Ideal.main_arg5)
      ∧ r.2.mem ((c.tc : Thread Cert.Reference41Ideal.nD Cert.Reference41Ideal.τ).loc Cert.Reference41Ideal.main_arg6) = m ((c.tc : Thread Cert.Reference41Ideal.nD Cert.Reference41Ideal.τ).loc Cert.Reference41Ideal.main_arg6)
      ∧ r.2.mem ((c.tc : Thread Cert.Reference41Ideal.nD Cert.Reference41Ideal.τ).loc Cert.Reference41Ideal.main_arg7) = m ((c.tc : Thread Cert.Reference41Ideal.nD Cert.Reference41Ideal.τ).loc Cert.Reference41Ideal.main_arg7))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3)
      ∧ r.2.mem ((c.tc : Thread Cert.Kernel42.nD Cert.Kernel42.τ).loc Cert.Kernel42.main_arg4) = m ((c.tc : Thread Cert.Kernel42.nD Cert.Kernel42.τ).loc Cert.Kernel42.main_arg4)
      ∧ r.2.mem ((c.tc : Thread Cert.Kernel42.nD Cert.Kernel42.τ).loc Cert.Kernel42.main_arg5) = m ((c.tc : Thread Cert.Kernel42.nD Cert.Kernel42.τ).loc Cert.Kernel42.main_arg5)
      ∧ r.2.mem ((c.tc : Thread Cert.Kernel42.nD Cert.Kernel42.τ).loc Cert.Kernel42.main_arg6) = m ((c.tc : Thread Cert.Kernel42.nD Cert.Kernel42.τ).loc Cert.Kernel42.main_arg6)
      ∧ r.2.mem ((c.tc : Thread Cert.Kernel42.nD Cert.Kernel42.τ).loc Cert.Kernel42.main_arg7) = m ((c.tc : Thread Cert.Kernel42.nD Cert.Kernel42.τ).loc Cert.Kernel42.main_arg7))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3)
      ∧ r.2.mem ((c.tc : Thread Cert.Kernel42Ideal.nD Cert.Kernel42Ideal.τ).loc Cert.Kernel42Ideal.main_arg4) = m ((c.tc : Thread Cert.Kernel42Ideal.nD Cert.Kernel42Ideal.τ).loc Cert.Kernel42Ideal.main_arg4)
      ∧ r.2.mem ((c.tc : Thread Cert.Kernel42Ideal.nD Cert.Kernel42Ideal.τ).loc Cert.Kernel42Ideal.main_arg5) = m ((c.tc : Thread Cert.Kernel42Ideal.nD Cert.Kernel42Ideal.τ).loc Cert.Kernel42Ideal.main_arg5)
      ∧ r.2.mem ((c.tc : Thread Cert.Kernel42Ideal.nD Cert.Kernel42Ideal.τ).loc Cert.Kernel42Ideal.main_arg6) = m ((c.tc : Thread Cert.Kernel42Ideal.nD Cert.Kernel42Ideal.τ).loc Cert.Kernel42Ideal.main_arg6)
      ∧ r.2.mem ((c.tc : Thread Cert.Kernel42Ideal.nD Cert.Kernel42Ideal.τ).loc Cert.Kernel42Ideal.main_arg7) = m ((c.tc : Thread Cert.Kernel42Ideal.nD Cert.Kernel42Ideal.τ).loc Cert.Kernel42Ideal.main_arg7))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3)
      ∧ r.2.mem ((c.tc : Thread Cert.Reference42Ideal.nD Cert.Reference42Ideal.τ).loc Cert.Reference42Ideal.main_arg4) = m ((c.tc : Thread Cert.Reference42Ideal.nD Cert.Reference42Ideal.τ).loc Cert.Reference42Ideal.main_arg4)
      ∧ r.2.mem ((c.tc : Thread Cert.Reference42Ideal.nD Cert.Reference42Ideal.τ).loc Cert.Reference42Ideal.main_arg5) = m ((c.tc : Thread Cert.Reference42Ideal.nD Cert.Reference42Ideal.τ).loc Cert.Reference42Ideal.main_arg5)
      ∧ r.2.mem ((c.tc : Thread Cert.Reference42Ideal.nD Cert.Reference42Ideal.τ).loc Cert.Reference42Ideal.main_arg6) = m ((c.tc : Thread Cert.Reference42Ideal.nD Cert.Reference42Ideal.τ).loc Cert.Reference42Ideal.main_arg6)
      ∧ r.2.mem ((c.tc : Thread Cert.Reference42Ideal.nD Cert.Reference42Ideal.τ).loc Cert.Reference42Ideal.main_arg7) = m ((c.tc : Thread Cert.Reference42Ideal.nD Cert.Reference42Ideal.τ).loc Cert.Reference42Ideal.main_arg7))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3)
      ∧ r.2.mem ((c.tc : Thread Cert.Kernel43.nD Cert.Kernel43.τ).loc Cert.Kernel43.main_arg4) = m ((c.tc : Thread Cert.Kernel43.nD Cert.Kernel43.τ).loc Cert.Kernel43.main_arg4)
      ∧ r.2.mem ((c.tc : Thread Cert.Kernel43.nD Cert.Kernel43.τ).loc Cert.Kernel43.main_arg5) = m ((c.tc : Thread Cert.Kernel43.nD Cert.Kernel43.τ).loc Cert.Kernel43.main_arg5)
      ∧ r.2.mem ((c.tc : Thread Cert.Kernel43.nD Cert.Kernel43.τ).loc Cert.Kernel43.main_arg6) = m ((c.tc : Thread Cert.Kernel43.nD Cert.Kernel43.τ).loc Cert.Kernel43.main_arg6)
      ∧ r.2.mem ((c.tc : Thread Cert.Kernel43.nD Cert.Kernel43.τ).loc Cert.Kernel43.main_arg7) = m ((c.tc : Thread Cert.Kernel43.nD Cert.Kernel43.τ).loc Cert.Kernel43.main_arg7))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3)
      ∧ r.2.mem ((c.tc : Thread Cert.Kernel43Ideal.nD Cert.Kernel43Ideal.τ).loc Cert.Kernel43Ideal.main_arg4) = m ((c.tc : Thread Cert.Kernel43Ideal.nD Cert.Kernel43Ideal.τ).loc Cert.Kernel43Ideal.main_arg4)
      ∧ r.2.mem ((c.tc : Thread Cert.Kernel43Ideal.nD Cert.Kernel43Ideal.τ).loc Cert.Kernel43Ideal.main_arg5) = m ((c.tc : Thread Cert.Kernel43Ideal.nD Cert.Kernel43Ideal.τ).loc Cert.Kernel43Ideal.main_arg5)
      ∧ r.2.mem ((c.tc : Thread Cert.Kernel43Ideal.nD Cert.Kernel43Ideal.τ).loc Cert.Kernel43Ideal.main_arg6) = m ((c.tc : Thread Cert.Kernel43Ideal.nD Cert.Kernel43Ideal.τ).loc Cert.Kernel43Ideal.main_arg6)
      ∧ r.2.mem ((c.tc : Thread Cert.Kernel43Ideal.nD Cert.Kernel43Ideal.τ).loc Cert.Kernel43Ideal.main_arg7) = m ((c.tc : Thread Cert.Kernel43Ideal.nD Cert.Kernel43Ideal.τ).loc Cert.Kernel43Ideal.main_arg7))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3)
      ∧ r.2.mem ((c.tc : Thread Cert.Reference43Ideal.nD Cert.Reference43Ideal.τ).loc Cert.Reference43Ideal.main_arg4) = m ((c.tc : Thread Cert.Reference43Ideal.nD Cert.Reference43Ideal.τ).loc Cert.Reference43Ideal.main_arg4)
      ∧ r.2.mem ((c.tc : Thread Cert.Reference43Ideal.nD Cert.Reference43Ideal.τ).loc Cert.Reference43Ideal.main_arg5) = m ((c.tc : Thread Cert.Reference43Ideal.nD Cert.Reference43Ideal.τ).loc Cert.Reference43Ideal.main_arg5)
      ∧ r.2.mem ((c.tc : Thread Cert.Reference43Ideal.nD Cert.Reference43Ideal.τ).loc Cert.Reference43Ideal.main_arg6) = m ((c.tc : Thread Cert.Reference43Ideal.nD Cert.Reference43Ideal.τ).loc Cert.Reference43Ideal.main_arg6)
      ∧ r.2.mem ((c.tc : Thread Cert.Reference43Ideal.nD Cert.Reference43Ideal.τ).loc Cert.Reference43Ideal.main_arg7) = m ((c.tc : Thread Cert.Reference43Ideal.nD Cert.Reference43Ideal.τ).loc Cert.Reference43Ideal.main_arg7))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3)
      ∧ r.2.mem ((c.tc : Thread Cert.Kernel44.nD Cert.Kernel44.τ).loc Cert.Kernel44.main_arg4) = m ((c.tc : Thread Cert.Kernel44.nD Cert.Kernel44.τ).loc Cert.Kernel44.main_arg4)
      ∧ r.2.mem ((c.tc : Thread Cert.Kernel44.nD Cert.Kernel44.τ).loc Cert.Kernel44.main_arg5) = m ((c.tc : Thread Cert.Kernel44.nD Cert.Kernel44.τ).loc Cert.Kernel44.main_arg5)
      ∧ r.2.mem ((c.tc : Thread Cert.Kernel44.nD Cert.Kernel44.τ).loc Cert.Kernel44.main_arg6) = m ((c.tc : Thread Cert.Kernel44.nD Cert.Kernel44.τ).loc Cert.Kernel44.main_arg6)
      ∧ r.2.mem ((c.tc : Thread Cert.Kernel44.nD Cert.Kernel44.τ).loc Cert.Kernel44.main_arg7) = m ((c.tc : Thread Cert.Kernel44.nD Cert.Kernel44.τ).loc Cert.Kernel44.main_arg7))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3)
      ∧ r.2.mem ((c.tc : Thread Cert.Kernel44Ideal.nD Cert.Kernel44Ideal.τ).loc Cert.Kernel44Ideal.main_arg4) = m ((c.tc : Thread Cert.Kernel44Ideal.nD Cert.Kernel44Ideal.τ).loc Cert.Kernel44Ideal.main_arg4)
      ∧ r.2.mem ((c.tc : Thread Cert.Kernel44Ideal.nD Cert.Kernel44Ideal.τ).loc Cert.Kernel44Ideal.main_arg5) = m ((c.tc : Thread Cert.Kernel44Ideal.nD Cert.Kernel44Ideal.τ).loc Cert.Kernel44Ideal.main_arg5)
      ∧ r.2.mem ((c.tc : Thread Cert.Kernel44Ideal.nD Cert.Kernel44Ideal.τ).loc Cert.Kernel44Ideal.main_arg6) = m ((c.tc : Thread Cert.Kernel44Ideal.nD Cert.Kernel44Ideal.τ).loc Cert.Kernel44Ideal.main_arg6)
      ∧ r.2.mem ((c.tc : Thread Cert.Kernel44Ideal.nD Cert.Kernel44Ideal.τ).loc Cert.Kernel44Ideal.main_arg7) = m ((c.tc : Thread Cert.Kernel44Ideal.nD Cert.Kernel44Ideal.τ).loc Cert.Kernel44Ideal.main_arg7))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3)
      ∧ r.2.mem ((c.tc : Thread Cert.Reference44Ideal.nD Cert.Reference44Ideal.τ).loc Cert.Reference44Ideal.main_arg4) = m ((c.tc : Thread Cert.Reference44Ideal.nD Cert.Reference44Ideal.τ).loc Cert.Reference44Ideal.main_arg4)
      ∧ r.2.mem ((c.tc : Thread Cert.Reference44Ideal.nD Cert.Reference44Ideal.τ).loc Cert.Reference44Ideal.main_arg5) = m ((c.tc : Thread Cert.Reference44Ideal.nD Cert.Reference44Ideal.τ).loc Cert.Reference44Ideal.main_arg5)
      ∧ r.2.mem ((c.tc : Thread Cert.Reference44Ideal.nD Cert.Reference44Ideal.τ).loc Cert.Reference44Ideal.main_arg6) = m ((c.tc : Thread Cert.Reference44Ideal.nD Cert.Reference44Ideal.τ).loc Cert.Reference44Ideal.main_arg6)
      ∧ r.2.mem ((c.tc : Thread Cert.Reference44Ideal.nD Cert.Reference44Ideal.τ).loc Cert.Reference44Ideal.main_arg7) = m ((c.tc : Thread Cert.Reference44Ideal.nD Cert.Reference44Ideal.τ).loc Cert.Reference44Ideal.main_arg7))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Kernel28Ideal_pre_finite28 [hKernel28Ideal : Cert.Kernel28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite28 m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Reference28Ideal_pre_finite28 [hReference28Ideal : Cert.Reference28Ideal.Facts] [hPre_finite28 : Cert.Pre_finite28.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite28 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Kernel29Ideal_pre_finite29 [hKernel29Ideal : Cert.Kernel29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite29 m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Reference29Ideal_pre_finite29 [hReference29Ideal : Cert.Reference29Ideal.Facts] [hPre_finite29 : Cert.Pre_finite29.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite29 m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)) (v4 : (c : Dev Cert.KernelIdeal.nD) → Buf (Elt Ideal) ((c.tc : Thread Cert.KernelIdeal.nD Cert.KernelIdeal.τ).loc Cert.KernelIdeal.main_v18_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_v18_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v91) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v32) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v13) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v13) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v2) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v26) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v1_0)) (v1 : (c : Dev Cert.Kernel33Ideal.nD) → Buf (Elt Ideal) ((c.tc : Thread Cert.Kernel33Ideal.nD Cert.Kernel33Ideal.τ).loc Cert.Kernel33Ideal.main_v1_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1_0) = v0 c
          ∧ r.2.mem ((c.tc : Thread Cert.Kernel33Ideal.nD Cert.Kernel33Ideal.τ).loc Cert.Kernel33Ideal.main_v1_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v36) = v0 c
          ∧ r.2.mem ((c.tc : Thread Cert.Reference33Ideal.nD Cert.Reference33Ideal.τ).loc Cert.Reference33Ideal.main_v37) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v1) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v17) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v1_2)) (v1 : (c : Dev Cert.Kernel35Ideal.nD) → Buf (Elt Ideal) ((c.tc : Thread Cert.Kernel35Ideal.nD Cert.Kernel35Ideal.τ).loc Cert.Kernel35Ideal.main_v1_0)) (v2 : (c : Dev Cert.Kernel35Ideal.nD) → Buf (Elt Ideal) ((c.tc : Thread Cert.Kernel35Ideal.nD Cert.Kernel35Ideal.τ).loc Cert.Kernel35Ideal.main_v1_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v1_2) = v0 c
          ∧ r.2.mem ((c.tc : Thread Cert.Kernel35Ideal.nD Cert.Kernel35Ideal.τ).loc Cert.Kernel35Ideal.main_v1_0) = v1 c
          ∧ r.2.mem ((c.tc : Thread Cert.Kernel35Ideal.nD Cert.Kernel35Ideal.τ).loc Cert.Kernel35Ideal.main_v1_1) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v51) = v0 c
          ∧ r.2.mem ((c.tc : Thread Cert.Reference35Ideal.nD Cert.Reference35Ideal.τ).loc Cert.Reference35Ideal.main_v50) = v1 c
          ∧ r.2.mem ((c.tc : Thread Cert.Reference35Ideal.nD Cert.Reference35Ideal.τ).loc Cert.Reference35Ideal.main_v52) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v0) = v0 c
          ∧ r.2.mem ((c.tc : Thread Cert.Reference36Ideal.nD Cert.Reference36Ideal.τ).loc Cert.Reference36Ideal.main_v24) = v1 c
          ∧ r.2.mem ((c.tc : Thread Cert.Reference36Ideal.nD Cert.Reference36Ideal.τ).loc Cert.Reference36Ideal.main_v5) = v2 c
          ∧ r.2.mem ((c.tc : Thread Cert.Reference36Ideal.nD Cert.Reference36Ideal.τ).loc Cert.Reference36Ideal.main_v11) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v0) = v0 c
          ∧ r.2.mem ((c.tc : Thread Cert.Reference37Ideal.nD Cert.Reference37Ideal.τ).loc Cert.Reference37Ideal.main_v24) = v1 c
          ∧ r.2.mem ((c.tc : Thread Cert.Reference37Ideal.nD Cert.Reference37Ideal.τ).loc Cert.Reference37Ideal.main_v5) = v2 c
          ∧ r.2.mem ((c.tc : Thread Cert.Reference37Ideal.nD Cert.Reference37Ideal.τ).loc Cert.Reference37Ideal.main_v11) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)
      ∧ m' ((c.tc : Thread Cert.Reference38Ideal.nD Cert.Reference38Ideal.τ).loc Cert.Reference38Ideal.main_arg5) = m ((c.tc : Thread Cert.Kernel38Ideal.nD Cert.Kernel38Ideal.τ).loc Cert.Kernel38Ideal.main_arg5)
      ∧ m' ((c.tc : Thread Cert.Reference38Ideal.nD Cert.Reference38Ideal.τ).loc Cert.Reference38Ideal.main_arg6) = m ((c.tc : Thread Cert.Kernel38Ideal.nD Cert.Kernel38Ideal.τ).loc Cert.Kernel38Ideal.main_arg6)
      ∧ m' ((c.tc : Thread Cert.Reference38Ideal.nD Cert.Reference38Ideal.τ).loc Cert.Reference38Ideal.main_arg7) = m ((c.tc : Thread Cert.Kernel38Ideal.nD Cert.Kernel38Ideal.τ).loc Cert.Kernel38Ideal.main_arg7)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
          ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5)
          ∧ r.2.mem ((c.tc : Thread Cert.Kernel38Ideal.nD Cert.Kernel38Ideal.τ).loc Cert.Kernel38Ideal.main_arg6) = m ((c.tc : Thread Cert.Kernel38Ideal.nD Cert.Kernel38Ideal.τ).loc Cert.Kernel38Ideal.main_arg6)
          ∧ r.2.mem ((c.tc : Thread Cert.Kernel38Ideal.nD Cert.Kernel38Ideal.τ).loc Cert.Kernel38Ideal.main_arg7) = m ((c.tc : Thread Cert.Kernel38Ideal.nD Cert.Kernel38Ideal.τ).loc Cert.Kernel38Ideal.main_arg7))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v2) = v0 c
          ∧ r.2.mem ((c.tc : Thread Cert.Reference38Ideal.nD Cert.Reference38Ideal.τ).loc Cert.Reference38Ideal.main_v26) = v1 c
          ∧ r.2.mem ((c.tc : Thread Cert.Reference38Ideal.nD Cert.Reference38Ideal.τ).loc Cert.Reference38Ideal.main_v7) = v2 c
          ∧ r.2.mem ((c.tc : Thread Cert.Reference38Ideal.nD Cert.Reference38Ideal.τ).loc Cert.Reference38Ideal.main_v13) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4)
          ∧ r.2.mem ((c.tc : Thread Cert.Reference38Ideal.nD Cert.Reference38Ideal.τ).loc Cert.Reference38Ideal.main_arg5) = m' ((c.tc : Thread Cert.Reference38Ideal.nD Cert.Reference38Ideal.τ).loc Cert.Reference38Ideal.main_arg5)
          ∧ r.2.mem ((c.tc : Thread Cert.Reference38Ideal.nD Cert.Reference38Ideal.τ).loc Cert.Reference38Ideal.main_arg6) = m' ((c.tc : Thread Cert.Reference38Ideal.nD Cert.Reference38Ideal.τ).loc Cert.Reference38Ideal.main_arg6)
          ∧ r.2.mem ((c.tc : Thread Cert.Reference38Ideal.nD Cert.Reference38Ideal.τ).loc Cert.Reference38Ideal.main_arg7) = m' ((c.tc : Thread Cert.Reference38Ideal.nD Cert.Reference38Ideal.τ).loc Cert.Reference38Ideal.main_arg7))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)
      ∧ m' ((c.tc : Thread Cert.Reference39Ideal.nD Cert.Reference39Ideal.τ).loc Cert.Reference39Ideal.main_arg5) = m ((c.tc : Thread Cert.Kernel39Ideal.nD Cert.Kernel39Ideal.τ).loc Cert.Kernel39Ideal.main_arg5)
      ∧ m' ((c.tc : Thread Cert.Reference39Ideal.nD Cert.Reference39Ideal.τ).loc Cert.Reference39Ideal.main_arg6) = m ((c.tc : Thread Cert.Kernel39Ideal.nD Cert.Kernel39Ideal.τ).loc Cert.Kernel39Ideal.main_arg6)
      ∧ m' ((c.tc : Thread Cert.Reference39Ideal.nD Cert.Reference39Ideal.τ).loc Cert.Reference39Ideal.main_arg7) = m ((c.tc : Thread Cert.Kernel39Ideal.nD Cert.Kernel39Ideal.τ).loc Cert.Kernel39Ideal.main_arg7)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)) (v3 : (c : Dev Cert.Kernel39Ideal.nD) → Buf (Elt Ideal) ((c.tc : Thread Cert.Kernel39Ideal.nD Cert.Kernel39Ideal.τ).loc Cert.Kernel39Ideal.main_v0_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_v0_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
          ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
          ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
          ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v34) = v0 c
          ∧ r.2.mem ((c.tc : Thread Cert.Reference39Ideal.nD Cert.Reference39Ideal.τ).loc Cert.Reference39Ideal.main_v37) = v1 c
          ∧ r.2.mem ((c.tc : Thread Cert.Reference39Ideal.nD Cert.Reference39Ideal.τ).loc Cert.Reference39Ideal.main_v40) = v2 c
          ∧ r.2.mem ((c.tc : Thread Cert.Reference39Ideal.nD Cert.Reference39Ideal.τ).loc Cert.Reference39Ideal.main_v43) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4)
          ∧ r.2.mem ((c.tc : Thread Cert.Reference39Ideal.nD Cert.Reference39Ideal.τ).loc Cert.Reference39Ideal.main_arg5) = m' ((c.tc : Thread Cert.Reference39Ideal.nD Cert.Reference39Ideal.τ).loc Cert.Reference39Ideal.main_arg5)
          ∧ r.2.mem ((c.tc : Thread Cert.Reference39Ideal.nD Cert.Reference39Ideal.τ).loc Cert.Reference39Ideal.main_arg6) = m' ((c.tc : Thread Cert.Reference39Ideal.nD Cert.Reference39Ideal.τ).loc Cert.Reference39Ideal.main_arg6)
          ∧ r.2.mem ((c.tc : Thread Cert.Reference39Ideal.nD Cert.Reference39Ideal.τ).loc Cert.Reference39Ideal.main_arg7) = m' ((c.tc : Thread Cert.Reference39Ideal.nD Cert.Reference39Ideal.τ).loc Cert.Reference39Ideal.main_arg7))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)
      ∧ m' ((c.tc : Thread Cert.Reference40Ideal.nD Cert.Reference40Ideal.τ).loc Cert.Reference40Ideal.main_arg5) = m ((c.tc : Thread Cert.Kernel40Ideal.nD Cert.Kernel40Ideal.τ).loc Cert.Kernel40Ideal.main_arg5)
      ∧ m' ((c.tc : Thread Cert.Reference40Ideal.nD Cert.Reference40Ideal.τ).loc Cert.Reference40Ideal.main_arg6) = m ((c.tc : Thread Cert.Kernel40Ideal.nD Cert.Kernel40Ideal.τ).loc Cert.Kernel40Ideal.main_arg6)
      ∧ m' ((c.tc : Thread Cert.Reference40Ideal.nD Cert.Reference40Ideal.τ).loc Cert.Reference40Ideal.main_arg7) = m ((c.tc : Thread Cert.Kernel40Ideal.nD Cert.Kernel40Ideal.τ).loc Cert.Kernel40Ideal.main_arg7)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
          ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5)
          ∧ r.2.mem ((c.tc : Thread Cert.Kernel40Ideal.nD Cert.Kernel40Ideal.τ).loc Cert.Kernel40Ideal.main_arg6) = m ((c.tc : Thread Cert.Kernel40Ideal.nD Cert.Kernel40Ideal.τ).loc Cert.Kernel40Ideal.main_arg6)
          ∧ r.2.mem ((c.tc : Thread Cert.Kernel40Ideal.nD Cert.Kernel40Ideal.τ).loc Cert.Kernel40Ideal.main_arg7) = m ((c.tc : Thread Cert.Kernel40Ideal.nD Cert.Kernel40Ideal.τ).loc Cert.Kernel40Ideal.main_arg7))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v34) = v0 c
          ∧ r.2.mem ((c.tc : Thread Cert.Reference40Ideal.nD Cert.Reference40Ideal.τ).loc Cert.Reference40Ideal.main_v37) = v1 c
          ∧ r.2.mem ((c.tc : Thread Cert.Reference40Ideal.nD Cert.Reference40Ideal.τ).loc Cert.Reference40Ideal.main_v40) = v2 c
          ∧ r.2.mem ((c.tc : Thread Cert.Reference40Ideal.nD Cert.Reference40Ideal.τ).loc Cert.Reference40Ideal.main_v43) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4)
          ∧ r.2.mem ((c.tc : Thread Cert.Reference40Ideal.nD Cert.Reference40Ideal.τ).loc Cert.Reference40Ideal.main_arg5) = m' ((c.tc : Thread Cert.Reference40Ideal.nD Cert.Reference40Ideal.τ).loc Cert.Reference40Ideal.main_arg5)
          ∧ r.2.mem ((c.tc : Thread Cert.Reference40Ideal.nD Cert.Reference40Ideal.τ).loc Cert.Reference40Ideal.main_arg6) = m' ((c.tc : Thread Cert.Reference40Ideal.nD Cert.Reference40Ideal.τ).loc Cert.Reference40Ideal.main_arg6)
          ∧ r.2.mem ((c.tc : Thread Cert.Reference40Ideal.nD Cert.Reference40Ideal.τ).loc Cert.Reference40Ideal.main_arg7) = m' ((c.tc : Thread Cert.Reference40Ideal.nD Cert.Reference40Ideal.τ).loc Cert.Reference40Ideal.main_arg7))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)
      ∧ m' ((c.tc : Thread Cert.Reference41Ideal.nD Cert.Reference41Ideal.τ).loc Cert.Reference41Ideal.main_arg4) = m ((c.tc : Thread Cert.Kernel41Ideal.nD Cert.Kernel41Ideal.τ).loc Cert.Kernel41Ideal.main_arg4)
      ∧ m' ((c.tc : Thread Cert.Reference41Ideal.nD Cert.Reference41Ideal.τ).loc Cert.Reference41Ideal.main_arg5) = m ((c.tc : Thread Cert.Kernel41Ideal.nD Cert.Kernel41Ideal.τ).loc Cert.Kernel41Ideal.main_arg5)
      ∧ m' ((c.tc : Thread Cert.Reference41Ideal.nD Cert.Reference41Ideal.τ).loc Cert.Reference41Ideal.main_arg6) = m ((c.tc : Thread Cert.Kernel41Ideal.nD Cert.Kernel41Ideal.τ).loc Cert.Kernel41Ideal.main_arg6)
      ∧ m' ((c.tc : Thread Cert.Reference41Ideal.nD Cert.Reference41Ideal.τ).loc Cert.Reference41Ideal.main_arg7) = m ((c.tc : Thread Cert.Kernel41Ideal.nD Cert.Kernel41Ideal.τ).loc Cert.Kernel41Ideal.main_arg7)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)) (v3 : (c : Dev Cert.Kernel41Ideal.nD) → Buf (Elt Ideal) ((c.tc : Thread Cert.Kernel41Ideal.nD Cert.Kernel41Ideal.τ).loc Cert.Kernel41Ideal.main_v0_3)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_v0_3) = v3 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
          ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
          ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
          ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6)
          ∧ r.2.mem ((c.tc : Thread Cert.Kernel41Ideal.nD Cert.Kernel41Ideal.τ).loc Cert.Kernel41Ideal.main_arg7) = m ((c.tc : Thread Cert.Kernel41Ideal.nD Cert.Kernel41Ideal.τ).loc Cert.Kernel41Ideal.main_arg7))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v34) = v0 c
          ∧ r.2.mem ((c.tc : Thread Cert.Reference41Ideal.nD Cert.Reference41Ideal.τ).loc Cert.Reference41Ideal.main_v37) = v1 c
          ∧ r.2.mem ((c.tc : Thread Cert.Reference41Ideal.nD Cert.Reference41Ideal.τ).loc Cert.Reference41Ideal.main_v40) = v2 c
          ∧ r.2.mem ((c.tc : Thread Cert.Reference41Ideal.nD Cert.Reference41Ideal.τ).loc Cert.Reference41Ideal.main_v43) = v3 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3)
          ∧ r.2.mem ((c.tc : Thread Cert.Reference41Ideal.nD Cert.Reference41Ideal.τ).loc Cert.Reference41Ideal.main_arg4) = m' ((c.tc : Thread Cert.Reference41Ideal.nD Cert.Reference41Ideal.τ).loc Cert.Reference41Ideal.main_arg4)
          ∧ r.2.mem ((c.tc : Thread Cert.Reference41Ideal.nD Cert.Reference41Ideal.τ).loc Cert.Reference41Ideal.main_arg5) = m' ((c.tc : Thread Cert.Reference41Ideal.nD Cert.Reference41Ideal.τ).loc Cert.Reference41Ideal.main_arg5)
          ∧ r.2.mem ((c.tc : Thread Cert.Reference41Ideal.nD Cert.Reference41Ideal.τ).loc Cert.Reference41Ideal.main_arg6) = m' ((c.tc : Thread Cert.Reference41Ideal.nD Cert.Reference41Ideal.τ).loc Cert.Reference41Ideal.main_arg6)
          ∧ r.2.mem ((c.tc : Thread Cert.Reference41Ideal.nD Cert.Reference41Ideal.τ).loc Cert.Reference41Ideal.main_arg7) = m' ((c.tc : Thread Cert.Reference41Ideal.nD Cert.Reference41Ideal.τ).loc Cert.Reference41Ideal.main_arg7))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)
      ∧ m' ((c.tc : Thread Cert.Reference42Ideal.nD Cert.Reference42Ideal.τ).loc Cert.Reference42Ideal.main_arg4) = m ((c.tc : Thread Cert.Kernel42Ideal.nD Cert.Kernel42Ideal.τ).loc Cert.Kernel42Ideal.main_arg4)
      ∧ m' ((c.tc : Thread Cert.Reference42Ideal.nD Cert.Reference42Ideal.τ).loc Cert.Reference42Ideal.main_arg5) = m ((c.tc : Thread Cert.Kernel42Ideal.nD Cert.Kernel42Ideal.τ).loc Cert.Kernel42Ideal.main_arg5)
      ∧ m' ((c.tc : Thread Cert.Reference42Ideal.nD Cert.Reference42Ideal.τ).loc Cert.Reference42Ideal.main_arg6) = m ((c.tc : Thread Cert.Kernel42Ideal.nD Cert.Kernel42Ideal.τ).loc Cert.Kernel42Ideal.main_arg6)
      ∧ m' ((c.tc : Thread Cert.Reference42Ideal.nD Cert.Reference42Ideal.τ).loc Cert.Reference42Ideal.main_arg7) = m ((c.tc : Thread Cert.Kernel42Ideal.nD Cert.Kernel42Ideal.τ).loc Cert.Kernel42Ideal.main_arg7)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)) (v2 : (c : Dev Cert.Kernel42Ideal.nD) → Buf (Elt Ideal) ((c.tc : Thread Cert.Kernel42Ideal.nD Cert.Kernel42Ideal.τ).loc Cert.Kernel42Ideal.main_v0_2)) (v3 : (c : Dev Cert.Kernel42Ideal.nD) → Buf (Elt Ideal) ((c.tc : Thread Cert.Kernel42Ideal.nD Cert.Kernel42Ideal.τ).loc Cert.Kernel42Ideal.main_v0_3)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_v0_2) = v2 c
          ∧ r.2.mem ((c.tc : Thread Cert.Kernel42Ideal.nD Cert.Kernel42Ideal.τ).loc Cert.Kernel42Ideal.main_v0_3) = v3 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3)
          ∧ r.2.mem ((c.tc : Thread Cert.Kernel42Ideal.nD Cert.Kernel42Ideal.τ).loc Cert.Kernel42Ideal.main_arg4) = m ((c.tc : Thread Cert.Kernel42Ideal.nD Cert.Kernel42Ideal.τ).loc Cert.Kernel42Ideal.main_arg4)
          ∧ r.2.mem ((c.tc : Thread Cert.Kernel42Ideal.nD Cert.Kernel42Ideal.τ).loc Cert.Kernel42Ideal.main_arg5) = m ((c.tc : Thread Cert.Kernel42Ideal.nD Cert.Kernel42Ideal.τ).loc Cert.Kernel42Ideal.main_arg5)
          ∧ r.2.mem ((c.tc : Thread Cert.Kernel42Ideal.nD Cert.Kernel42Ideal.τ).loc Cert.Kernel42Ideal.main_arg6) = m ((c.tc : Thread Cert.Kernel42Ideal.nD Cert.Kernel42Ideal.τ).loc Cert.Kernel42Ideal.main_arg6)
          ∧ r.2.mem ((c.tc : Thread Cert.Kernel42Ideal.nD Cert.Kernel42Ideal.τ).loc Cert.Kernel42Ideal.main_arg7) = m ((c.tc : Thread Cert.Kernel42Ideal.nD Cert.Kernel42Ideal.τ).loc Cert.Kernel42Ideal.main_arg7))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v34) = v0 c
          ∧ r.2.mem ((c.tc : Thread Cert.Reference42Ideal.nD Cert.Reference42Ideal.τ).loc Cert.Reference42Ideal.main_v37) = v1 c
          ∧ r.2.mem ((c.tc : Thread Cert.Reference42Ideal.nD Cert.Reference42Ideal.τ).loc Cert.Reference42Ideal.main_v40) = v2 c
          ∧ r.2.mem ((c.tc : Thread Cert.Reference42Ideal.nD Cert.Reference42Ideal.τ).loc Cert.Reference42Ideal.main_v43) = v3 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3)
          ∧ r.2.mem ((c.tc : Thread Cert.Reference42Ideal.nD Cert.Reference42Ideal.τ).loc Cert.Reference42Ideal.main_arg4) = m' ((c.tc : Thread Cert.Reference42Ideal.nD Cert.Reference42Ideal.τ).loc Cert.Reference42Ideal.main_arg4)
          ∧ r.2.mem ((c.tc : Thread Cert.Reference42Ideal.nD Cert.Reference42Ideal.τ).loc Cert.Reference42Ideal.main_arg5) = m' ((c.tc : Thread Cert.Reference42Ideal.nD Cert.Reference42Ideal.τ).loc Cert.Reference42Ideal.main_arg5)
          ∧ r.2.mem ((c.tc : Thread Cert.Reference42Ideal.nD Cert.Reference42Ideal.τ).loc Cert.Reference42Ideal.main_arg6) = m' ((c.tc : Thread Cert.Reference42Ideal.nD Cert.Reference42Ideal.τ).loc Cert.Reference42Ideal.main_arg6)
          ∧ r.2.mem ((c.tc : Thread Cert.Reference42Ideal.nD Cert.Reference42Ideal.τ).loc Cert.Reference42Ideal.main_arg7) = m' ((c.tc : Thread Cert.Reference42Ideal.nD Cert.Reference42Ideal.τ).loc Cert.Reference42Ideal.main_arg7))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)
      ∧ m' ((c.tc : Thread Cert.Reference43Ideal.nD Cert.Reference43Ideal.τ).loc Cert.Reference43Ideal.main_arg4) = m ((c.tc : Thread Cert.Kernel43Ideal.nD Cert.Kernel43Ideal.τ).loc Cert.Kernel43Ideal.main_arg4)
      ∧ m' ((c.tc : Thread Cert.Reference43Ideal.nD Cert.Reference43Ideal.τ).loc Cert.Reference43Ideal.main_arg5) = m ((c.tc : Thread Cert.Kernel43Ideal.nD Cert.Kernel43Ideal.τ).loc Cert.Kernel43Ideal.main_arg5)
      ∧ m' ((c.tc : Thread Cert.Reference43Ideal.nD Cert.Reference43Ideal.τ).loc Cert.Reference43Ideal.main_arg6) = m ((c.tc : Thread Cert.Kernel43Ideal.nD Cert.Kernel43Ideal.τ).loc Cert.Kernel43Ideal.main_arg6)
      ∧ m' ((c.tc : Thread Cert.Reference43Ideal.nD Cert.Reference43Ideal.τ).loc Cert.Reference43Ideal.main_arg7) = m ((c.tc : Thread Cert.Kernel43Ideal.nD Cert.Kernel43Ideal.τ).loc Cert.Kernel43Ideal.main_arg7)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)) (v2 : (c : Dev Cert.Kernel43Ideal.nD) → Buf (Elt Ideal) ((c.tc : Thread Cert.Kernel43Ideal.nD Cert.Kernel43Ideal.τ).loc Cert.Kernel43Ideal.main_v0_2)) (v3 : (c : Dev Cert.Kernel43Ideal.nD) → Buf (Elt Ideal) ((c.tc : Thread Cert.Kernel43Ideal.nD Cert.Kernel43Ideal.τ).loc Cert.Kernel43Ideal.main_v0_3)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_v0_2) = v2 c
          ∧ r.2.mem ((c.tc : Thread Cert.Kernel43Ideal.nD Cert.Kernel43Ideal.τ).loc Cert.Kernel43Ideal.main_v0_3) = v3 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3)
          ∧ r.2.mem ((c.tc : Thread Cert.Kernel43Ideal.nD Cert.Kernel43Ideal.τ).loc Cert.Kernel43Ideal.main_arg4) = m ((c.tc : Thread Cert.Kernel43Ideal.nD Cert.Kernel43Ideal.τ).loc Cert.Kernel43Ideal.main_arg4)
          ∧ r.2.mem ((c.tc : Thread Cert.Kernel43Ideal.nD Cert.Kernel43Ideal.τ).loc Cert.Kernel43Ideal.main_arg5) = m ((c.tc : Thread Cert.Kernel43Ideal.nD Cert.Kernel43Ideal.τ).loc Cert.Kernel43Ideal.main_arg5)
          ∧ r.2.mem ((c.tc : Thread Cert.Kernel43Ideal.nD Cert.Kernel43Ideal.τ).loc Cert.Kernel43Ideal.main_arg6) = m ((c.tc : Thread Cert.Kernel43Ideal.nD Cert.Kernel43Ideal.τ).loc Cert.Kernel43Ideal.main_arg6)
          ∧ r.2.mem ((c.tc : Thread Cert.Kernel43Ideal.nD Cert.Kernel43Ideal.τ).loc Cert.Kernel43Ideal.main_arg7) = m ((c.tc : Thread Cert.Kernel43Ideal.nD Cert.Kernel43Ideal.τ).loc Cert.Kernel43Ideal.main_arg7))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v34) = v0 c
          ∧ r.2.mem ((c.tc : Thread Cert.Reference43Ideal.nD Cert.Reference43Ideal.τ).loc Cert.Reference43Ideal.main_v37) = v1 c
          ∧ r.2.mem ((c.tc : Thread Cert.Reference43Ideal.nD Cert.Reference43Ideal.τ).loc Cert.Reference43Ideal.main_v40) = v2 c
          ∧ r.2.mem ((c.tc : Thread Cert.Reference43Ideal.nD Cert.Reference43Ideal.τ).loc Cert.Reference43Ideal.main_v43) = v3 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3)
          ∧ r.2.mem ((c.tc : Thread Cert.Reference43Ideal.nD Cert.Reference43Ideal.τ).loc Cert.Reference43Ideal.main_arg4) = m' ((c.tc : Thread Cert.Reference43Ideal.nD Cert.Reference43Ideal.τ).loc Cert.Reference43Ideal.main_arg4)
          ∧ r.2.mem ((c.tc : Thread Cert.Reference43Ideal.nD Cert.Reference43Ideal.τ).loc Cert.Reference43Ideal.main_arg5) = m' ((c.tc : Thread Cert.Reference43Ideal.nD Cert.Reference43Ideal.τ).loc Cert.Reference43Ideal.main_arg5)
          ∧ r.2.mem ((c.tc : Thread Cert.Reference43Ideal.nD Cert.Reference43Ideal.τ).loc Cert.Reference43Ideal.main_arg6) = m' ((c.tc : Thread Cert.Reference43Ideal.nD Cert.Reference43Ideal.τ).loc Cert.Reference43Ideal.main_arg6)
          ∧ r.2.mem ((c.tc : Thread Cert.Reference43Ideal.nD Cert.Reference43Ideal.τ).loc Cert.Reference43Ideal.main_arg7) = m' ((c.tc : Thread Cert.Reference43Ideal.nD Cert.Reference43Ideal.τ).loc Cert.Reference43Ideal.main_arg7))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)
      ∧ m' ((c.tc : Thread Cert.Reference44Ideal.nD Cert.Reference44Ideal.τ).loc Cert.Reference44Ideal.main_arg4) = m ((c.tc : Thread Cert.Kernel44Ideal.nD Cert.Kernel44Ideal.τ).loc Cert.Kernel44Ideal.main_arg4)
      ∧ m' ((c.tc : Thread Cert.Reference44Ideal.nD Cert.Reference44Ideal.τ).loc Cert.Reference44Ideal.main_arg5) = m ((c.tc : Thread Cert.Kernel44Ideal.nD Cert.Kernel44Ideal.τ).loc Cert.Kernel44Ideal.main_arg5)
      ∧ m' ((c.tc : Thread Cert.Reference44Ideal.nD Cert.Reference44Ideal.τ).loc Cert.Reference44Ideal.main_arg6) = m ((c.tc : Thread Cert.Kernel44Ideal.nD Cert.Kernel44Ideal.τ).loc Cert.Kernel44Ideal.main_arg6)
      ∧ m' ((c.tc : Thread Cert.Reference44Ideal.nD Cert.Reference44Ideal.τ).loc Cert.Reference44Ideal.main_arg7) = m ((c.tc : Thread Cert.Kernel44Ideal.nD Cert.Kernel44Ideal.τ).loc Cert.Kernel44Ideal.main_arg7)) →
    ∃ (v0 : (c : Dev Cert.Kernel44Ideal.nD) → Buf (Elt Ideal) ((c.tc : Thread Cert.Kernel44Ideal.nD Cert.Kernel44Ideal.τ).loc Cert.Kernel44Ideal.main_v0_0)) (v1 : (c : Dev Cert.Kernel44Ideal.nD) → Buf (Elt Ideal) ((c.tc : Thread Cert.Kernel44Ideal.nD Cert.Kernel44Ideal.τ).loc Cert.Kernel44Ideal.main_v0_1)) (v2 : (c : Dev Cert.Kernel44Ideal.nD) → Buf (Elt Ideal) ((c.tc : Thread Cert.Kernel44Ideal.nD Cert.Kernel44Ideal.τ).loc Cert.Kernel44Ideal.main_v0_2)) (v3 : (c : Dev Cert.Kernel44Ideal.nD) → Buf (Elt Ideal) ((c.tc : Thread Cert.Kernel44Ideal.nD Cert.Kernel44Ideal.τ).loc Cert.Kernel44Ideal.main_v0_3)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0_0) = v0 c
          ∧ r.2.mem ((c.tc : Thread Cert.Kernel44Ideal.nD Cert.Kernel44Ideal.τ).loc Cert.Kernel44Ideal.main_v0_1) = v1 c
          ∧ r.2.mem ((c.tc : Thread Cert.Kernel44Ideal.nD Cert.Kernel44Ideal.τ).loc Cert.Kernel44Ideal.main_v0_2) = v2 c
          ∧ r.2.mem ((c.tc : Thread Cert.Kernel44Ideal.nD Cert.Kernel44Ideal.τ).loc Cert.Kernel44Ideal.main_v0_3) = v3 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3)
          ∧ r.2.mem ((c.tc : Thread Cert.Kernel44Ideal.nD Cert.Kernel44Ideal.τ).loc Cert.Kernel44Ideal.main_arg4) = m ((c.tc : Thread Cert.Kernel44Ideal.nD Cert.Kernel44Ideal.τ).loc Cert.Kernel44Ideal.main_arg4)
          ∧ r.2.mem ((c.tc : Thread Cert.Kernel44Ideal.nD Cert.Kernel44Ideal.τ).loc Cert.Kernel44Ideal.main_arg5) = m ((c.tc : Thread Cert.Kernel44Ideal.nD Cert.Kernel44Ideal.τ).loc Cert.Kernel44Ideal.main_arg5)
          ∧ r.2.mem ((c.tc : Thread Cert.Kernel44Ideal.nD Cert.Kernel44Ideal.τ).loc Cert.Kernel44Ideal.main_arg6) = m ((c.tc : Thread Cert.Kernel44Ideal.nD Cert.Kernel44Ideal.τ).loc Cert.Kernel44Ideal.main_arg6)
          ∧ r.2.mem ((c.tc : Thread Cert.Kernel44Ideal.nD Cert.Kernel44Ideal.τ).loc Cert.Kernel44Ideal.main_arg7) = m ((c.tc : Thread Cert.Kernel44Ideal.nD Cert.Kernel44Ideal.τ).loc Cert.Kernel44Ideal.main_arg7))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v34) = v0 c
          ∧ r.2.mem ((c.tc : Thread Cert.Reference44Ideal.nD Cert.Reference44Ideal.τ).loc Cert.Reference44Ideal.main_v37) = v1 c
          ∧ r.2.mem ((c.tc : Thread Cert.Reference44Ideal.nD Cert.Reference44Ideal.τ).loc Cert.Reference44Ideal.main_v40) = v2 c
          ∧ r.2.mem ((c.tc : Thread Cert.Reference44Ideal.nD Cert.Reference44Ideal.τ).loc Cert.Reference44Ideal.main_v43) = v3 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3)
          ∧ r.2.mem ((c.tc : Thread Cert.Reference44Ideal.nD Cert.Reference44Ideal.τ).loc Cert.Reference44Ideal.main_arg4) = m' ((c.tc : Thread Cert.Reference44Ideal.nD Cert.Reference44Ideal.τ).loc Cert.Reference44Ideal.main_arg4)
          ∧ r.2.mem ((c.tc : Thread Cert.Reference44Ideal.nD Cert.Reference44Ideal.τ).loc Cert.Reference44Ideal.main_arg5) = m' ((c.tc : Thread Cert.Reference44Ideal.nD Cert.Reference44Ideal.τ).loc Cert.Reference44Ideal.main_arg5)
          ∧ r.2.mem ((c.tc : Thread Cert.Reference44Ideal.nD Cert.Reference44Ideal.τ).loc Cert.Reference44Ideal.main_arg6) = m' ((c.tc : Thread Cert.Reference44Ideal.nD Cert.Reference44Ideal.τ).loc Cert.Reference44Ideal.main_arg6)
          ∧ r.2.mem ((c.tc : Thread Cert.Reference44Ideal.nD Cert.Reference44Ideal.τ).loc Cert.Reference44Ideal.main_arg7) = m' ((c.tc : Thread Cert.Reference44Ideal.nD Cert.Reference44Ideal.τ).loc Cert.Reference44Ideal.main_arg7))

def preserves_Kernel28_Kernel28Ideal : Prop :=
  True

def algebraic_Kernel28Ideal_Reference28Ideal_pre_finite28 [hKernel28Ideal : Cert.Kernel28Ideal.Facts] [hReference28Ideal : Cert.Reference28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite28 m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v67) = v0 c
          ∧ r.2.mem ((c.tc : Thread Cert.Reference28Ideal.nD Cert.Reference28Ideal.τ).loc Cert.Reference28Ideal.main_v66) = v1 c
          ∧ r.2.mem ((c.tc : Thread Cert.Reference28Ideal.nD Cert.Reference28Ideal.τ).loc Cert.Reference28Ideal.main_v65) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal_pre_finite29 [hKernel29Ideal : Cert.Kernel29Ideal.Facts] [hReference29Ideal : Cert.Reference29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite29 m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v67) = v0 c
          ∧ r.2.mem ((c.tc : Thread Cert.Reference29Ideal.nD Cert.Reference29Ideal.τ).loc Cert.Reference29Ideal.main_v66) = v1 c
          ∧ r.2.mem ((c.tc : Thread Cert.Reference29Ideal.nD Cert.Reference29Ideal.τ).loc Cert.Reference29Ideal.main_v65) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts) (hPre_finite28 : Cert.Pre_finite28.Facts) (hPre_finite29 : Cert.Pre_finite29.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel28 (hKernel28 := hKernel28)
    ∧ quiescent_Kernel28Ideal (hKernel28Ideal := hKernel28Ideal)
    ∧ quiescent_Kernel28Ideal_pre_finite28 (hKernel28Ideal := hKernel28Ideal) (hPre_finite28 := hPre_finite28)
    ∧ quiescent_Reference28Ideal (hReference28Ideal := hReference28Ideal)
    ∧ quiescent_Reference28Ideal_pre_finite28 (hReference28Ideal := hReference28Ideal) (hPre_finite28 := hPre_finite28)
    ∧ quiescent_Kernel29 (hKernel29 := hKernel29)
    ∧ quiescent_Kernel29Ideal (hKernel29Ideal := hKernel29Ideal)
    ∧ quiescent_Kernel29Ideal_pre_finite29 (hKernel29Ideal := hKernel29Ideal) (hPre_finite29 := hPre_finite29)
    ∧ quiescent_Reference29Ideal (hReference29Ideal := hReference29Ideal)
    ∧ quiescent_Reference29Ideal_pre_finite29 (hReference29Ideal := hReference29Ideal) (hPre_finite29 := hPre_finite29)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel28_Kernel28Ideal
    ∧ algebraic_Kernel28Ideal_Reference28Ideal_pre_finite28 (hKernel28Ideal := hKernel28Ideal) (hReference28Ideal := hReference28Ideal) (hPre_finite28 := hPre_finite28)
    ∧ preserves_Kernel29_Kernel29Ideal
    ∧ algebraic_Kernel29Ideal_Reference29Ideal_pre_finite29 (hKernel29Ideal := hKernel29Ideal) (hReference29Ideal := hReference29Ideal) (hPre_finite29 := hPre_finite29)
-- ==== Pre_finite.lean ====
abbrev S2048x768 : Shape := ⟨2, ![2048, 768]⟩
abbrev S12x2048 : Shape := ⟨2, ![12, 2048]⟩
abbrev S_ : Shape := ⟨0, ![]⟩

class Facts : Prop where
  bcast_S_S2048x768 : S_.BroadcastsInDim S2048x768 (![] : Fin 0 → Fin S2048x768.rank)
  bcast_S_S12x2048 : S_.BroadcastsInDim S12x2048 (![] : Fin 0 → Fin S12x2048.rank)

variable [Facts]

def fn {F : FTy → Type} [FloatOps F] (main_arg0 : FVec F S2048x768 .f32) (main_arg1 : FVec F S2048x768 .f32) (main_arg2 : FVec F S2048x768 .f32) (main_arg3 : FVec F S12x2048 .f32) (main_arg4 : FVec F S2048x768 .f32) : IVec S2048x768 1 × IVec S2048x768 1 × IVec S2048x768 1 × IVec S12x2048 1 × IVec S2048x768 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_v3 : FVec F S2048x768 .f32 := Host.absf main_arg1
  let main_cst_0 : FVec F S_ .f32 := constant S_ .f32 0x7F800000#32
  let main_v4 : FVec F S2048x768 .f32 := broadcastInDim S2048x768 ![] bcast_S_S2048x768 main_cst_0
  let main_v5 : IVec S2048x768 1 := cmpf .olt main_v3 main_v4
  let main_v6 : FVec F S2048x768 .f32 := Host.absf main_arg2
  let main_cst_1 : FVec F S_ .f32 := constant S_ .f32 0x7F800000#32
  let main_v7 : FVec F S2048x768 .f32 := broadcastInDim S2048x768 ![] bcast_S_S2048x768 main_cst_1
  let main_v8 : IVec S2048x768 1 := cmpf .olt main_v6 main_v7
  let main_v9 : FVec F S12x2048 .f32 := Host.absf main_arg3
  let main_cst_2 : FVec F S_ .f32 := constant S_ .f32 0x7F800000#32
  let main_v10 : FVec F S12x2048 .f32 := broadcastInDim S12x2048 ![] bcast_S_S12x2048 main_cst_2
  let main_v11 : IVec S12x2048 1 := cmpf .olt main_v9 main_v10
  let main_v12 : FVec F S2048x768 .f32 := Host.absf main_arg4
  let main_cst_3 : FVec F S_ .f32 := constant S_ .f32 0x7F800000#32
  let main_v13 : FVec F S2048x768 .f32 := broadcastInDim S2048x768 ![] bcast_S_S2048x768 main_cst_3
  let main_v14 : IVec S2048x768 1 := cmpf .olt main_v12 main_v13
  (main_v2, main_v5, main_v8, main_v11, main_v14)
-- ==== Pre_finite28.lean ====
abbrev S2048x1792 : Shape := ⟨2, ![2048, 1792]⟩
abbrev S256x512 : Shape := ⟨2, ![256, 512]⟩
abbrev S2048x1024 : Shape := ⟨2, ![2048, 1024]⟩
abbrev S2048x256 : Shape := ⟨2, ![2048, 256]⟩
abbrev S256x256 : Shape := ⟨2, ![256, 256]⟩
abbrev S_ : Shape := ⟨0, ![]⟩

class Facts : Prop where
  slices_S2048x1792_S2048x256_0_1536 : S2048x1792.Slices ![0, 1536] S2048x256
  slices_S256x512_S256x256_0_0 : S256x512.Slices ![0, 0] S256x256
  bitsLt_bf16_f32 : FTy.bits .bf16 < FTy.bits .f32
  bcast_S_S2048x256 : S_.BroadcastsInDim S2048x256 (![] : Fin 0 → Fin S2048x256.rank)
  bcast_S_S256x256 : S_.BroadcastsInDim S256x256 (![] : Fin 0 → Fin S256x256.rank)

variable [Facts]

def fn {F : FTy → Type} [FloatOps F] (main_arg0 : FVec F S2048x1792 .f32) (main_arg1 : FVec F S256x512 .bf16) (main_arg2 : FVec F S2048x1024 .f32) : IVec S2048x256 1 × IVec S256x256 1 :=
  let main_v0 : FVec F S2048x256 .f32 := (extractStridedSlice S2048x256 ![0, 1536] · slices_S2048x1792_S2048x256_0_1536) main_arg0
  let main_v1 : FVec F S256x256 .bf16 := (extractStridedSlice S256x256 ![0, 0] · slices_S256x512_S256x256_0_0) main_arg1
  let main_v2 : FVec F S256x256 .f32 := (extf .f32 · bitsLt_bf16_f32) main_v1
  let main_v3 : FVec F S2048x256 .f32 := Host.absf main_v0
  let main_cst : FVec F S_ .f32 := constant S_ .f32 0x7F800000#32
  let main_v4 : FVec F S2048x256 .f32 := broadcastInDim S2048x256 ![] bcast_S_S2048x256 main_cst
  let main_v5 : IVec S2048x256 1 := cmpf .olt main_v3 main_v4
  let main_v6 : FVec F S256x256 .f32 := Host.absf main_v2
  let main_cst_0 : FVec F S_ .f32 := constant S_ .f32 0x7F800000#32
  let main_v7 : FVec F S256x256 .f32 := broadcastInDim S256x256 ![] bcast_S_S256x256 main_cst_0
  let main_v8 : IVec S256x256 1 := cmpf .olt main_v6 main_v7
  (main_v5, main_v8)
-- ==== Pre_finite29.lean ====
abbrev S2048x1024 : Shape := ⟨2, ![2048, 1024]⟩
abbrev S256x512 : Shape := ⟨2, ![256, 512]⟩
abbrev S2048x256 : Shape := ⟨2, ![2048, 256]⟩
abbrev S256x256 : Shape := ⟨2, ![256, 256]⟩
abbrev S_ : Shape := ⟨0, ![]⟩

class Facts : Prop where
  slices_S2048x1024_S2048x256_0_768 : S2048x1024.Slices ![0, 768] S2048x256
  slices_S256x512_S256x256_0_0 : S256x512.Slices ![0, 0] S256x256
  bitsLt_bf16_f32 : FTy.bits .bf16 < FTy.bits .f32
  bcast_S_S2048x256 : S_.BroadcastsInDim S2048x256 (![] : Fin 0 → Fin S2048x256.rank)
  bcast_S_S256x256 : S_.BroadcastsInDim S256x256 (![] : Fin 0 → Fin S256x256.rank)

variable [Facts]

def fn {F : FTy → Type} [FloatOps F] (main_arg0 : FVec F S2048x1024 .f32) (main_arg1 : FVec F S256x512 .bf16) (main_arg2 : FVec F S2048x1024 .f32) : IVec S2048x256 1 × IVec S256x256 1 :=
  let main_v0 : FVec F S2048x256 .f32 := (extractStridedSlice S2048x256 ![0, 768] · slices_S2048x1024_S2048x256_0_768) main_arg0
  let main_v1 : FVec F S256x256 .bf16 := (extractStridedSlice S256x256 ![0, 0] · slices_S256x512_S256x256_0_0) main_arg1
  let main_v2 : FVec F S256x256 .f32 := (extf .f32 · bitsLt_bf16_f32) main_v1
  let main_v3 : FVec F S2048x256 .f32 := Host.absf main_v0
  let main_cst : FVec F S_ .f32 := constant S_ .f32 0x7F800000#32
  let main_v4 : FVec F S2048x256 .f32 := broadcastInDim S2048x256 ![] bcast_S_S2048x256 main_cst
  let main_v5 : IVec S2048x256 1 := cmpf .olt main_v3 main_v4
  let main_v6 : FVec F S256x256 .f32 := Host.absf main_v2
  let main_cst_0 : FVec F S_ .f32 := constant S_ .f32 0x7F800000#32
  let main_v7 : FVec F S256x256 .f32 := broadcastInDim S256x256 ![] bcast_S_S256x256 main_cst_0
  let main_v8 : IVec S256x256 1 := cmpf .olt main_v6 main_v7
  (main_v5, main_v8)
-- ==== Kernel.lean ====
abbrev S2048x768 : Shape := ⟨2, ![2048, 768]⟩
abbrev S12x2048 : Shape := ⟨2, ![12, 2048]⟩
abbrev S2048x12x64 : Shape := ⟨3, ![2048, 12, 64]⟩
abbrev S12x2048x64 : Shape := ⟨3, ![12, 2048, 64]⟩
abbrev S8x256x12x64 : Shape := ⟨4, ![8, 256, 12, 64]⟩
abbrev S12x8x64x256 : Shape := ⟨4, ![12, 8, 64, 256]⟩
abbrev S12x8x1x256 : Shape := ⟨4, ![12, 8, 1, 256]⟩
abbrev S12x2048x1 : Shape := ⟨3, ![12, 2048, 1]⟩
abbrev S12x64x2048 : Shape := ⟨3, ![12, 64, 2048]⟩
abbrev S3x256x64 : Shape := ⟨3, ![3, 256, 64]⟩
abbrev S3x2048x64 : Shape := ⟨3, ![3, 2048, 64]⟩
abbrev S3x8x64x256 : Shape := ⟨4, ![3, 8, 64, 256]⟩
abbrev S3x8x1x256 : Shape := ⟨4, ![3, 8, 1, 256]⟩
abbrev S3x2048x1 : Shape := ⟨3, ![3, 2048, 1]⟩
abbrev S3x64x256 : Shape := ⟨3, ![3, 64, 256]⟩
abbrev S3x1x1x256 : Shape := ⟨4, ![3, 1, 1, 256]⟩
abbrev S1x256x64 : Shape := ⟨3, ![1, 256, 64]⟩
abbrev S256x64 : Shape := ⟨2, ![256, 64]⟩
abbrev S1x1x1x256 : Shape := ⟨4, ![1, 1, 1, 256]⟩
abbrev S1x256 : Shape := ⟨2, ![1, 256]⟩
abbrev S64x256 : Shape := ⟨2, ![64, 256]⟩
abbrev S1x256x1 : Shape := ⟨3, ![1, 256, 1]⟩
abbrev S256x1 : Shape := ⟨2, ![256, 1]⟩
abbrev S256x256 : Shape := ⟨2, ![256, 256]⟩
abbrev S256 : Shape := ⟨1, ![256]⟩
abbrev S1x1x64x256 : Shape := ⟨4, ![1, 1, 64, 256]⟩
abbrev S1x64x256 : Shape := ⟨3, ![1, 64, 256]⟩
abbrev S768x2048 : Shape := ⟨2, ![768, 2048]⟩

abbrev nBuf : Space → Nat
  | .hbm => 29
  | .vmem => 42
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S12x2048, .f32⟩
  | .hbm, ⟨4, _⟩ => ⟨S2048x768, .f32⟩
  | .hbm, ⟨5, _⟩ => ⟨S2048x768, .bf16⟩
  | .hbm, ⟨6, _⟩ => ⟨S2048x768, .bf16⟩
  | .hbm, ⟨7, _⟩ => ⟨S2048x12x64, .bf16⟩
  | .hbm, ⟨8, _⟩ => ⟨S12x2048x64, .bf16⟩
  | .hbm, ⟨9, _⟩ => ⟨S2048x12x64, .bf16⟩
  | .hbm, ⟨10, _⟩ => ⟨S12x2048x64, .bf16⟩
  | .hbm, ⟨11, _⟩ => ⟨S8x256x12x64, .bf16⟩
  | .hbm, ⟨12, _⟩ => ⟨S12x8x64x256, .bf16⟩
  | .hbm, ⟨13, _⟩ => ⟨S8x256x12x64, .bf16⟩
  | .hbm, ⟨14, _⟩ => ⟨S12x8x64x256, .bf16⟩
  | .hbm, ⟨15, _⟩ => ⟨S12x8x1x256, .f32⟩
  | .hbm, ⟨16, _⟩ => ⟨S12x2048x1, .f32⟩
  | .hbm, ⟨17, _⟩ => ⟨S2048x12x64, .f32⟩
  | .hbm, ⟨18, _⟩ => ⟨S12x2048x64, .f32⟩
  | .hbm, ⟨19, _⟩ => ⟨S12x2048x64, .bf16⟩
  | .hbm, ⟨20, _⟩ => ⟨S12x64x2048, .f32⟩
  | .hbm, ⟨21, _⟩ => ⟨S12x8x1x256, .f32⟩
  | .hbm, ⟨22, _⟩ => ⟨S768x2048, .f32⟩
  | .hbm, ⟨23, _⟩ => ⟨S12x64x2048, .f32⟩
  | .hbm, ⟨24, _⟩ => ⟨S12x64x2048, .f32⟩
  | .hbm, ⟨25, _⟩ => ⟨S12x2048x64, .f32⟩
  | .hbm, ⟨26, _⟩ => ⟨S12x2048x64, .f32⟩
  | .hbm, ⟨27, _⟩ => ⟨S12x8x1x256, .f32⟩
  | .hbm, ⟨28, _⟩ => ⟨S12x2048x1, .f32⟩
  | .local _ .vmem, ⟨0, _⟩ => ⟨S3x256x64, .bf16⟩
  | .local _ .vmem, ⟨1, _⟩ => ⟨S3x256x64, .bf16⟩
  | .local _ .vmem, ⟨2, _⟩ => ⟨S3x2048x64, .bf16⟩
  | .local _ .vmem, ⟨3, _⟩ => ⟨S3x2048x64, .bf16⟩
  | .local _ .vmem, ⟨4, _⟩ => ⟨S3x8x64x256, .bf16⟩
  | .local _ .vmem, ⟨5, _⟩ => ⟨S3x8x64x256, .bf16⟩
  | .local _ .vmem, ⟨6, _⟩ => ⟨S3x8x1x256, .f32⟩
  | .local _ .vmem, ⟨7, _⟩ => ⟨S3x8x1x256, .f32⟩
  | .local _ .vmem, ⟨8, _⟩ => ⟨S3x2048x1, .f32⟩
  | .local _ .vmem, ⟨9, _⟩ => ⟨S3x2048x1, .f32⟩
  | .local _ .vmem, ⟨10, _⟩ => ⟨S3x64x256, .f32⟩
  | .local _ .vmem, ⟨11, _⟩ => ⟨S3x64x256, .f32⟩
  | .local _ .vmem, ⟨12, _⟩ => ⟨S3x1x1x256, .f32⟩
  | .local _ .vmem, ⟨13, _⟩ => ⟨S3x1x1x256, .f32⟩
  | .local _ .vmem, ⟨14, _⟩ => ⟨S3x256x64, .bf16⟩
  | .local _ .vmem, ⟨15, _⟩ => ⟨S3x256x64, .bf16⟩
  | .local _ .vmem, ⟨16, _⟩ => ⟨S3x2048x64, .bf16⟩
  | .local _ .vmem, ⟨17, _⟩ => ⟨S3x2048x64, .bf16⟩
  | .local _ .vmem, ⟨18, _⟩ => ⟨S3x8x64x256, .bf16⟩
  | .local _ .vmem, ⟨19, _⟩ => ⟨S3x8x64x256, .bf16⟩
  | .local _ .vmem, ⟨20, _⟩ => ⟨S3x2048x64, .bf16⟩
  | .local _ .vmem, ⟨21, _⟩ => ⟨S3x2048x64, .bf16⟩
  | .local _ .vmem, ⟨22, _⟩ => ⟨S3x8x1x256, .f32⟩
  | .local _ .vmem, ⟨23, _⟩ => ⟨S3x8x1x256, .f32⟩
  | .local _ .vmem, ⟨24, _⟩ => ⟨S3x2048x1, .f32⟩
  | .local _ .vmem, ⟨25, _⟩ => ⟨S3x2048x1, .f32⟩
  | .local _ .vmem, ⟨26, _⟩ => ⟨S3x64x256, .f32⟩
  | .local _ .vmem, ⟨27, _⟩ => ⟨S3x64x256, .f32⟩
  | .local _ .vmem, ⟨28, _⟩ => ⟨S3x1x1x256, .f32⟩
  | .local _ .vmem, ⟨29, _⟩ => ⟨S3x1x1x256, .f32⟩
  | .local _ .vmem, ⟨30, _⟩ => ⟨S3x64x256, .f32⟩
  | .local _ .vmem, ⟨31, _⟩ => ⟨S3x64x256, .f32⟩
  | .local _ .vmem, ⟨32, _⟩ => ⟨S3x64x256, .f32⟩
  | .local _ .vmem, ⟨33, _⟩ => ⟨S3x64x256, .f32⟩
  | .local _ .vmem, ⟨34, _⟩ => ⟨S3x2048x64, .f32⟩
  | .local _ .vmem, ⟨35, _⟩ => ⟨S3x2048x64, .f32⟩
  | .local _ .vmem, ⟨36, _⟩ => ⟨S3x2048x64, .f32⟩
  | .local _ .vmem, ⟨37, _⟩ => ⟨S3x2048x64, .f32⟩
  | .local _ .vmem, ⟨38, _⟩ => ⟨S3x1x1x256, .f32⟩
  | .local _ .vmem, ⟨39, _⟩ => ⟨S3x1x1x256, .f32⟩
  | .local _ .vmem, ⟨40, _⟩ => ⟨S3x2048x1, .f32⟩
  | .local _ .vmem, ⟨41, _⟩ => ⟨S3x2048x1, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v18_3 : Ref sig .tc := ⟨.hbm, 27, rfl⟩
abbrev main_v18_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40
abbrev cc1_sem13_1 : DmaSem sig := 41

abbrev nD : Nat := 1
abbrev τ : Topo := Topo.v7x

variable {F : FTy → Type} [FloatOps F]

abbrev grid0 : Pipeline.Grid := ⟨2, ![4, 8], ![false, false]⟩

def k0_off1 (i : grid0.Coords) : Fin 4 → Nat :=
  let c0_6 : Index := 0#32
  let arg1 : BitVec 32 := BitVec.ofNat 32 (i 1).val
  let v6 : Index := Scalar.indexCast arg1
  let c0_7 : Index := 0#32
  let c0_8 : Index := 0#32
  ![0, v6.toNat, 0, 0]
def k0_off2 (i : grid0.Coords) : Fin 4 → Nat :=
  let c1_9 : Index := 1#32
  let arg1 : BitVec 32 := BitVec.ofNat 32 (i 1).val
  let v9 : Index := Scalar.indexCast arg1
  let c0_10 : Index := 0#32
  let c0_11 : Index := 0#32
  ![1, v9.toNat, 0, 0]
def k0_off3 (i : grid0.Coords) : Fin 4 → Nat :=
  let c2_12 : Index := 2#32
  let arg1 : BitVec 32 := BitVec.ofNat 32 (i 1).val
  let v12 : Index := Scalar.indexCast arg1
  let c0_13 : Index := 0#32
  let c0_14 : Index := 0#32
  ![2, v12.toNat, 0, 0]
@[reducible] def k0_t1_loop (i : grid0.Coords) : Scf.Loop 32 :=
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_23 : BitVec 32 := 1#32
  ⟨c0_i32, v28, c1_i32_23⟩
def k0_mult1 (i : grid0.Coords) (k0_t1 : Fin (k0_t1_loop i).trips) : BitVec 32 :=
  let c0_i32 : BitVec 32 := 0#32
  let c1_i32_23 : BitVec 32 := 1#32
  let arg9 : BitVec 32 := Scf.iv c0_i32 c1_i32_23 k0_t1
  let c256_i32_85 : BitVec 32 := 256#32
  let v177 : BitVec 32 := Scalar.muli arg9 c256_i32_85
  v177
def k0_off4 (i : grid0.Coords) (k0_t1 : Fin (k0_t1_loop i).trips) : Fin 3 → Nat :=
  let c0_86 : Index := 0#32
  let c0_i32 : BitVec 32 := 0#32
  let c1_i32_23 : BitVec 32 := 1#32
  let arg9 : BitVec 32 := Scf.iv c0_i32 c1_i32_23 k0_t1
  let c256_i32_85 : BitVec 32 := 256#32
  let v177 : BitVec 32 := Scalar.muli arg9 c256_i32_85
  let v178 : BitVec 32 := v177
  let v179 : Index := Scalar.indexCast v178
  let c0_87 : Index := 0#32
  ![0, v179.toNat, 0]
def k0_off5 (i : grid0.Coords) (k0_t1 : Fin (k0_t1_loop i).trips) : Fin 3 → Nat :=
  let c0_88 : Index := 0#32
  let c0_i32 : BitVec 32 := 0#32
  let c1_i32_23 : BitVec 32 := 1#32
  let arg9 : BitVec 32 := Scf.iv c0_i32 c1_i32_23 k0_t1
  let c256_i32_85 : BitVec 32 := 256#32
  let v177 : BitVec 32 := Scalar.muli arg9 c256_i32_85
  let v178 : BitVec 32 := v177
  let v182 : Index := Scalar.indexCast v178
  let c0_89 : Index := 0#32
  ![0, v182.toNat, 0]
def k0_off6 (i : grid0.Coords) (k0_t1 : Fin (k0_t1_loop i).trips) : Fin 4 → Nat :=
  let c0_94 : Index := 0#32
  let c0_i32 : BitVec 32 := 0#32
  let c1_i32_23 : BitVec 32 := 1#32
  let arg9 : BitVec 32 := Scf.iv c0_i32 c1_i32_23 k0_t1
  let v206 : Index := Scalar.indexCast arg9
  let c0_95 : Index := 0#32
  let c0_96 : Index := 0#32
  ![0, v206.toNat, 0, 0]
def k0_off7 (i : grid0.Coords) (k0_t1 : Fin (k0_t1_loop i).trips) : Fin 3 → Nat :=
  let c1_98 : Index := 1#32
  let c0_i32 : BitVec 32 := 0#32
  let c1_i32_23 : BitVec 32 := 1#32
  let arg9 : BitVec 32 := Scf.iv c0_i32 c1_i32_23 k0_t1
  let c256_i32_85 : BitVec 32 := 256#32
  let v177 : BitVec 32 := Scalar.muli arg9 c256_i32_85
  let v178 : BitVec 32 := v177
  let v212 : Index := Scalar.indexCast v178
  let c0_99 : Index := 0#32
  ![1, v212.toNat, 0]
def k0_off8 (i : grid0.Coords) (k0_t1 : Fin (k0_t1_loop i).trips) : Fin 3 → Nat :=
  let c1_100 : Index := 1#32
  let c0_i32 : BitVec 32 := 0#32
  let c1_i32_23 : BitVec 32 := 1#32
  let arg9 : BitVec 32 := Scf.iv c0_i32 c1_i32_23 k0_t1
  let c256_i32_85 : BitVec 32 := 256#32
  let v177 : BitVec 32 := Scalar.muli arg9 c256_i32_85
  let v178 : BitVec 32 := v177
  let v215 : Index := Scalar.indexCast v178
  let c0_101 : Index := 0#32
  ![1, v215.toNat, 0]
def k0_off9 (i : grid0.Coords) (k0_t1 : Fin (k0_t1_loop i).trips) : Fin 4 → Nat :=
  let c1_106 : Index := 1#32
  let c0_i32 : BitVec 32 := 0#32
  let c1_i32_23 : BitVec 32 := 1#32
  let arg9 : BitVec 32 := Scf.iv c0_i32 c1_i32_23 k0_t1
  let v239 : Index := Scalar.indexCast arg9
  let c0_107 : Index := 0#32
  let c0_108 : Index := 0#32
  ![1, v239.toNat, 0, 0]
def k0_off10 (i : grid0.Coords) (k0_t1 : Fin (k0_t1_loop i).trips) : Fin 3 → Nat :=
  let c2_110 : Index := 2#32
  let c0_i32 : BitVec 32 := 0#32
  let c1_i32_23 : BitVec 32 := 1#32
  let arg9 : BitVec 32 := Scf.iv c0_i32 c1_i32_23 k0_t1
  let c256_i32_85 : BitVec 32 := 256#32
  let v177 : BitVec 32 := Scalar.muli arg9 c256_i32_85
  let v178 : BitVec 32 := v177
  let v245 : Index := Scalar.indexCast v178
  let c0_111 : Index := 0#32
  ![2, v245.toNat, 0]
def k0_off11 (i : grid0.Coords) (k0_t1 : Fin (k0_t1_loop i).trips) : Fin 3 → Nat :=
  let c2_112 : Index := 2#32
  let c0_i32 : BitVec 32 := 0#32
  let c1_i32_23 : BitVec 32 := 1#32
  let arg9 : BitVec 32 := Scf.iv c0_i32 c1_i32_23 k0_t1
  let c256_i32_85 : BitVec 32 := 256#32
  let v177 : BitVec 32 := Scalar.muli arg9 c256_i32_85
  let v178 : BitVec 32 := v177
  let v248 : Index := Scalar.indexCast v178
  let c0_113 : Index := 0#32
  ![2, v248.toNat, 0]
def k0_off12 (i : grid0.Coords) (k0_t1 : Fin (k0_t1_loop i).trips) : Fin 4 → Nat :=
  let c2_118 : Index := 2#32
  let c0_i32 : BitVec 32 := 0#32
  let c1_i32_23 : BitVec 32 := 1#32
  let arg9 : BitVec 32 := Scf.iv c0_i32 c1_i32_23 k0_t1
  let v272 : Index := Scalar.indexCast arg9
  let c0_119 : Index := 0#32
  let c0_120 : Index := 0#32
  ![2, v272.toNat, 0, 0]
@[reducible] def k0_t2_loop (i : grid0.Coords) : Scf.Loop 32 :=
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let v25 : BitVec 32 := Scalar.addi c0_i32 v24
  let c1_i32_24 : BitVec 32 := 1#32
  ⟨v28, v25, c1_i32_24⟩
def k0_mult2 (i : grid0.Coords) (k0_t2 : Fin (k0_t2_loop i).trips) : BitVec 32 :=
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_24 : BitVec 32 := 1#32
  let arg9 : BitVec 32 := Scf.iv v28 c1_i32_24 k0_t2
  let c256_i32_85 : BitVec 32 := 256#32
  let v177 : BitVec 32 := Scalar.muli arg9 c256_i32_85
  v177
def k0_off13 (i : grid0.Coords) (k0_t2 : Fin (k0_t2_loop i).trips) : Fin 3 → Nat :=
  let c0_86 : Index := 0#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_24 : BitVec 32 := 1#32
  let arg9 : BitVec 32 := Scf.iv v28 c1_i32_24 k0_t2
  let c256_i32_85 : BitVec 32 := 256#32
  let v177 : BitVec 32 := Scalar.muli arg9 c256_i32_85
  let v178 : BitVec 32 := v177
  let v179 : Index := Scalar.indexCast v178
  let c0_87 : Index := 0#32
  ![0, v179.toNat, 0]
def k0_off14 (i : grid0.Coords) (k0_t2 : Fin (k0_t2_loop i).trips) : Fin 3 → Nat :=
  let c0_88 : Index := 0#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_24 : BitVec 32 := 1#32
  let arg9 : BitVec 32 := Scf.iv v28 c1_i32_24 k0_t2
  let c256_i32_85 : BitVec 32 := 256#32
  let v177 : BitVec 32 := Scalar.muli arg9 c256_i32_85
  let v178 : BitVec 32 := v177
  let v182 : Index := Scalar.indexCast v178
  let c0_89 : Index := 0#32
  ![0, v182.toNat, 0]
def k0_off15 (i : grid0.Coords) (k0_t2 : Fin (k0_t2_loop i).trips) : Fin 4 → Nat :=
  let c0_94 : Index := 0#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_24 : BitVec 32 := 1#32
  let arg9 : BitVec 32 := Scf.iv v28 c1_i32_24 k0_t2
  let v206 : Index := Scalar.indexCast arg9
  let c0_95 : Index := 0#32
  let c0_96 : Index := 0#32
  ![0, v206.toNat, 0, 0]
def k0_off16 (i : grid0.Coords) (k0_t2 : Fin (k0_t2_loop i).trips) : Fin 3 → Nat :=
  let c1_98 : Index := 1#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_24 : BitVec 32 := 1#32
  let arg9 : BitVec 32 := Scf.iv v28 c1_i32_24 k0_t2
  let c256_i32_85 : BitVec 32 := 256#32
  let v177 : BitVec 32 := Scalar.muli arg9 c256_i32_85
  let v178 : BitVec 32 := v177
  let v212 : Index := Scalar.indexCast v178
  let c0_99 : Index := 0#32
  ![1, v212.toNat, 0]
def k0_off17 (i : grid0.Coords) (k0_t2 : Fin (k0_t2_loop i).trips) : Fin 3 → Nat :=
  let c1_100 : Index := 1#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_24 : BitVec 32 := 1#32
  let arg9 : BitVec 32 := Scf.iv v28 c1_i32_24 k0_t2
  let c256_i32_85 : BitVec 32 := 256#32
  let v177 : BitVec 32 := Scalar.muli arg9 c256_i32_85
  let v178 : BitVec 32 := v177
  let v215 : Index := Scalar.indexCast v178
  let c0_101 : Index := 0#32
  ![1, v215.toNat, 0]
def k0_off18 (i : grid0.Coords) (k0_t2 : Fin (k0_t2_loop i).trips) : Fin 4 → Nat :=
  let c1_106 : Index := 1#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_24 : BitVec 32 := 1#32
  let arg9 : BitVec 32 := Scf.iv v28 c1_i32_24 k0_t2
  let v239 : Index := Scalar.indexCast arg9
  let c0_107 : Index := 0#32
  let c0_108 : Index := 0#32
  ![1, v239.toNat, 0, 0]
def k0_off19 (i : grid0.Coords) (k0_t2 : Fin (k0_t2_loop i).trips) : Fin 3 → Nat :=
  let c2_110 : Index := 2#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_24 : BitVec 32 := 1#32
  let arg9 : BitVec 32 := Scf.iv v28 c1_i32_24 k0_t2
  let c256_i32_85 : BitVec 32 := 256#32
  let v177 : BitVec 32 := Scalar.muli arg9 c256_i32_85
  let v178 : BitVec 32 := v177
  let v245 : Index := Scalar.indexCast v178
  let c0_111 : Index := 0#32
  ![2, v245.toNat, 0]
def k0_off20 (i : grid0.Coords) (k0_t2 : Fin (k0_t2_loop i).trips) : Fin 3 → Nat :=
  let c2_112 : Index := 2#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_24 : BitVec 32 := 1#32
  let arg9 : BitVec 32 := Scf.iv v28 c1_i32_24 k0_t2
  let c256_i32_85 : BitVec 32 := 256#32
  let v177 : BitVec 32 := Scalar.muli arg9 c256_i32_85
  let v178 : BitVec 32 := v177
  let v248 : Index := Scalar.indexCast v178
  let c0_113 : Index := 0#32
  ![2, v248.toNat, 0]
def k0_off21 (i : grid0.Coords) (k0_t2 : Fin (k0_t2_loop i).trips) : Fin 4 → Nat :=
  let c2_118 : Index := 2#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_24 : BitVec 32 := 1#32
  let arg9 : BitVec 32 := Scf.iv v28 c1_i32_24 k0_t2
  let v272 : Index := Scalar.indexCast arg9
  let c0_119 : Index := 0#32
  let c0_120 : Index := 0#32
  ![2, v272.toNat, 0, 0]
def k0_mult3 (i : grid0.Coords) : BitVec 32 :=
  let arg1 : BitVec 32 := BitVec.ofNat 32 (i 1).val
  let c256_i32 : BitVec 32 := 256#32
  let v31 : BitVec 32 := Scalar.muli arg1 c256_i32
  v31
def k0_off22 (i : grid0.Coords) : Fin 3 → Nat :=
  let c0_25 : Index := 0#32
  let arg1 : BitVec 32 := BitVec.ofNat 32 (i 1).val
  let c256_i32 : BitVec 32 := 256#32
  let v31 : BitVec 32 := Scalar.muli arg1 c256_i32
  let v32 : BitVec 32 := v31
  let v33 : Index := Scalar.indexCast v32
  let c0_26 : Index := 0#32
  ![0, v33.toNat, 0]
def k0_off23 (i : grid0.Coords) : Fin 3 → Nat :=
  let c0_27 : Index := 0#32
  let arg1 : BitVec 32 := BitVec.ofNat 32 (i 1).val
  let c256_i32 : BitVec 32 := 256#32
  let v31 : BitVec 32 := Scalar.muli arg1 c256_i32
  let v32 : BitVec 32 := v31
  let v36 : Index := Scalar.indexCast v32
  let c0_28 : Index := 0#32
  ![0, v36.toNat, 0]
def k0_off24 (i : grid0.Coords) : Fin 4 → Nat :=
  let c0_34 : Index := 0#32
  let arg1 : BitVec 32 := BitVec.ofNat 32 (i 1).val
  let v65 : Index := Scalar.indexCast arg1
  let c0_35 : Index := 0#32
  let c0_36 : Index := 0#32
  ![0, v65.toNat, 0, 0]
def k0_off25 (i : grid0.Coords) : Fin 3 → Nat :=
  let c1_38 : Index := 1#32
  let arg1 : BitVec 32 := BitVec.ofNat 32 (i 1).val
  let c256_i32 : BitVec 32 := 256#32
  let v31 : BitVec 32 := Scalar.muli arg1 c256_i32
  let v32 : BitVec 32 := v31
  let v71 : Index := Scalar.indexCast v32
  let c0_39 : Index := 0#32
  ![1, v71.toNat, 0]
def k0_off26 (i : grid0.Coords) : Fin 3 → Nat :=
  let c1_40 : Index := 1#32
  let arg1 : BitVec 32 := BitVec.ofNat 32 (i 1).val
  let c256_i32 : BitVec 32 := 256#32
  let v31 : BitVec 32 := Scalar.muli arg1 c256_i32
  let v32 : BitVec 32 := v31
  let v74 : Index := Scalar.indexCast v32
  let c0_41 : Index := 0#32
  ![1, v74.toNat, 0]
def k0_off27 (i : grid0.Coords) : Fin 4 → Nat :=
  let c1_47 : Index := 1#32
  let arg1 : BitVec 32 := BitVec.ofNat 32 (i 1).val
  let v103 : Index := Scalar.indexCast arg1
  let c0_48 : Index := 0#32
  let c0_49 : Index := 0#32
  ![1, v103.toNat, 0, 0]
def k0_off28 (i : grid0.Coords) : Fin 3 → Nat :=
  let c2_51 : Index := 2#32
  let arg1 : BitVec 32 := BitVec.ofNat 32 (i 1).val
  let c256_i32 : BitVec 32 := 256#32
  let v31 : BitVec 32 := Scalar.muli arg1 c256_i32
  let v32 : BitVec 32 := v31
  let v109 : Index := Scalar.indexCast v32
  let c0_52 : Index := 0#32
  ![2, v109.toNat, 0]
def k0_off29 (i : grid0.Coords) : Fin 3 → Nat :=
  let c2_53 : Index := 2#32
  let arg1 : BitVec 32 := BitVec.ofNat 32 (i 1).val
  let c256_i32 : BitVec 32 := 256#32
  let v31 : BitVec 32 := Scalar.muli arg1 c256_i32
  let v32 : BitVec 32 := v31
  let v112 : Index := Scalar.indexCast v32
  let c0_54 : Index := 0#32
  ![2, v112.toNat, 0]
def k0_off30 (i : grid0.Coords) : Fin 4 → Nat :=
  let c2_60 : Index := 2#32
  let arg1 : BitVec 32 := BitVec.ofNat 32 (i 1).val
  let v141 : Index := Scalar.indexCast arg1
  let c0_61 : Index := 0#32
  let c0_62 : Index := 0#32
  ![2, v141.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S3x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3x8x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x8x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 8], ![false, false]⟩

def k1_off1 (i : grid1.Coords) : Fin 4 → Nat :=
  let c0_7 : Index := 0#32
  let arg1 : BitVec 32 := BitVec.ofNat 32 (i 1).val
  let v9 : Index := Scalar.indexCast arg1
  let c0_8 : Index := 0#32
  let c0_9 : Index := 0#32
  ![0, v9.toNat, 0, 0]
def k1_off2 (i : grid1.Coords) : Fin 4 → Nat :=
  let c1_10 : Index := 1#32
  let arg1 : BitVec 32 := BitVec.ofNat 32 (i 1).val
  let v12 : Index := Scalar.indexCast arg1
  let c0_11 : Index := 0#32
  let c0_12 : Index := 0#32
  ![1, v12.toNat, 0, 0]
def k1_off3 (i : grid1.Coords) : Fin 4 → Nat :=
  let c2_13 : Index := 2#32
  let arg1 : BitVec 32 := BitVec.ofNat 32 (i 1).val
  let v15 : Index := Scalar.indexCast arg1
  let c0_14 : Index := 0#32
  let c0_15 : Index := 0#32
  ![2, v15.toNat, 0, 0]
@[reducible] def k1_t1_loop (i : grid1.Coords) : Scf.Loop 32 :=
  let c0_i32_54 : BitVec 32 := 0#32
  let arg1 : BitVec 32 := BitVec.ofNat 32 (i 1).val
  let v57 : BitVec 32 := Scalar.subi arg1 c0_i32_54
  let c1_i32 : BitVec 32 := 1#32
  let v59 : BitVec 32 := Scalar.divsi v57 c1_i32
  let v60 : BitVec 32 := Scalar.muli v59 c1_i32
  let v61 : BitVec 32 := Scalar.addi c0_i32_54 v60
  let c1_i32_55 : BitVec 32 := 1#32
  ⟨c0_i32_54, v61, c1_i32_55⟩
def k1_mult1 (i : grid1.Coords) (k1_t1 : Fin (k1_t1_loop i).trips) : BitVec 32 :=
  let c0_i32_54 : BitVec 32 := 0#32
  let c1_i32_55 : BitVec 32 := 1#32
  let arg16 : BitVec 32 := Scf.iv c0_i32_54 c1_i32_55 k1_t1
  let c256_i32_177 : BitVec 32 := 256#32
  let v300 : BitVec 32 := Scalar.muli arg16 c256_i32_177
  v300
def k1_off4 (i : grid1.Coords) (k1_t1 : Fin (k1_t1_loop i).trips) : Fin 3 → Nat :=
  let c0_178 : Index := 0#32
  let c0_i32_54 : BitVec 32 := 0#32
  let c1_i32_55 : BitVec 32 := 1#32
  let arg16 : BitVec 32 := Scf.iv c0_i32_54 c1_i32_55 k1_t1
  let c256_i32_177 : BitVec 32 := 256#32
  let v300 : BitVec 32 := Scalar.muli arg16 c256_i32_177
  let v301 : BitVec 32 := v300
  let v302 : Index := Scalar.indexCast v301
  let c0_179 : Index := 0#32
  ![0, v302.toNat, 0]
def k1_off5 (i : grid1.Coords) (k1_t1 : Fin (k1_t1_loop i).trips) : Fin 3 → Nat :=
  let c0_180 : Index := 0#32
  let c0_i32_54 : BitVec 32 := 0#32
  let c1_i32_55 : BitVec 32 := 1#32
  let arg16 : BitVec 32 := Scf.iv c0_i32_54 c1_i32_55 k1_t1
  let c256_i32_177 : BitVec 32 := 256#32
  let v300 : BitVec 32 := Scalar.muli arg16 c256_i32_177
  let v301 : BitVec 32 := v300
  let v305 : Index := Scalar.indexCast v301
  let c0_181 : Index := 0#32
  ![0, v305.toNat, 0]
def k1_off6 (i : grid1.Coords) (k1_t1 : Fin (k1_t1_loop i).trips) : Fin 4 → Nat :=
  let c0_204 : Index := 0#32
  let c0_i32_54 : BitVec 32 := 0#32
  let c1_i32_55 : BitVec 32 := 1#32
  let arg16 : BitVec 32 := Scf.iv c0_i32_54 c1_i32_55 k1_t1
  let v359 : Index := Scalar.indexCast arg16
  let c0_205 : Index := 0#32
  let c0_206 : Index := 0#32
  ![0, v359.toNat, 0, 0]
def k1_off7 (i : grid1.Coords) (k1_t1 : Fin (k1_t1_loop i).trips) : Fin 3 → Nat :=
  let c1_209 : Index := 1#32
  let c0_i32_54 : BitVec 32 := 0#32
  let c1_i32_55 : BitVec 32 := 1#32
  let arg16 : BitVec 32 := Scf.iv c0_i32_54 c1_i32_55 k1_t1
  let c256_i32_177 : BitVec 32 := 256#32
  let v300 : BitVec 32 := Scalar.muli arg16 c256_i32_177
  let v301 : BitVec 32 := v300
  let v367 : Index := Scalar.indexCast v301
  let c0_210 : Index := 0#32
  ![1, v367.toNat, 0]
def k1_off8 (i : grid1.Coords) (k1_t1 : Fin (k1_t1_loop i).trips) : Fin 3 → Nat :=
  let c1_211 : Index := 1#32
  let c0_i32_54 : BitVec 32 := 0#32
  let c1_i32_55 : BitVec 32 := 1#32
  let arg16 : BitVec 32 := Scf.iv c0_i32_54 c1_i32_55 k1_t1
  let c256_i32_177 : BitVec 32 := 256#32
  let v300 : BitVec 32 := Scalar.muli arg16 c256_i32_177
  let v301 : BitVec 32 := v300
  let v370 : Index := Scalar.indexCast v301
  let c0_212 : Index := 0#32
  ![1, v370.toNat, 0]
def k1_off9 (i : grid1.Coords) (k1_t1 : Fin (k1_t1_loop i).trips) : Fin 4 → Nat :=
  let c1_235 : Index := 1#32
  let c0_i32_54 : BitVec 32 := 0#32
  let c1_i32_55 : BitVec 32 := 1#32
  let arg16 : BitVec 32 := Scf.iv c0_i32_54 c1_i32_55 k1_t1
  let v424 : Index := Scalar.indexCast arg16
  let c0_236 : Index := 0#32
  let c0_237 : Index := 0#32
  ![1, v424.toNat, 0, 0]
def k1_off10 (i : grid1.Coords) (k1_t1 : Fin (k1_t1_loop i).trips) : Fin 3 → Nat :=
  let c2_240 : Index := 2#32
  let c0_i32_54 : BitVec 32 := 0#32
  let c1_i32_55 : BitVec 32 := 1#32
  let arg16 : BitVec 32 := Scf.iv c0_i32_54 c1_i32_55 k1_t1
  let c256_i32_177 : BitVec 32 := 256#32
  let v300 : BitVec 32 := Scalar.muli arg16 c256_i32_177
  let v301 : BitVec 32 := v300
  let v432 : Index := Scalar.indexCast v301
  let c0_241 : Index := 0#32
  ![2, v432.toNat, 0]
def k1_off11 (i : grid1.Coords) (k1_t1 : Fin (k1_t1_loop i).trips) : Fin 3 → Nat :=
  let c2_242 : Index := 2#32
  let c0_i32_54 : BitVec 32 := 0#32
  let c1_i32_55 : BitVec 32 := 1#32
  let arg16 : BitVec 32 := Scf.iv c0_i32_54 c1_i32_55 k1_t1
  let c256_i32_177 : BitVec 32 := 256#32
  let v300 : BitVec 32 := Scalar.muli arg16 c256_i32_177
  let v301 : BitVec 32 := v300
  let v435 : Index := Scalar.indexCast v301
  let c0_243 : Index := 0#32
  ![2, v435.toNat, 0]
def k1_off12 (i : grid1.Coords) (k1_t1 : Fin (k1_t1_loop i).trips) : Fin 4 → Nat :=
  let c2_266 : Index := 2#32
  let c0_i32_54 : BitVec 32 := 0#32
  let c1_i32_55 : BitVec 32 := 1#32
  let arg16 : BitVec 32 := Scf.iv c0_i32_54 c1_i32_55 k1_t1
  let v489 : Index := Scalar.indexCast arg16
  let c0_267 : Index := 0#32
  let c0_268 : Index := 0#32
  ![2, v489.toNat, 0, 0]
@[reducible] def k1_t2_loop (i : grid1.Coords) : Scf.Loop 32 :=
  let c0_i32_54 : BitVec 32 := 0#32
  let arg1 : BitVec 32 := BitVec.ofNat 32 (i 1).val
  let v57 : BitVec 32 := Scalar.subi arg1 c0_i32_54
  let c1_i32 : BitVec 32 := 1#32
  let v59 : BitVec 32 := Scalar.divsi v57 c1_i32
  let v60 : BitVec 32 := Scalar.muli v59 c1_i32
  let v61 : BitVec 32 := Scalar.addi c0_i32_54 v60
  let v58 : BitVec 32 := Scalar.addi c0_i32_54 v57
  let c1_i32_56 : BitVec 32 := 1#32
  ⟨v61, v58, c1_i32_56⟩
def k1_mult2 (i : grid1.Coords) (k1_t2 : Fin (k1_t2_loop i).trips) : BitVec 32 :=
  let c0_i32_54 : BitVec 32 := 0#32
  let arg1 : BitVec 32 := BitVec.ofNat 32 (i 1).val
  let v57 : BitVec 32 := Scalar.subi arg1 c0_i32_54
  let c1_i32 : BitVec 32 := 1#32
  let v59 : BitVec 32 := Scalar.divsi v57 c1_i32
  let v60 : BitVec 32 := Scalar.muli v59 c1_i32
  let v61 : BitVec 32 := Scalar.addi c0_i32_54 v60
  let c1_i32_56 : BitVec 32 := 1#32
  let arg16 : BitVec 32 := Scf.iv v61 c1_i32_56 k1_t2
  let c256_i32_177 : BitVec 32 := 256#32
  let v300 : BitVec 32 := Scalar.muli arg16 c256_i32_177
  v300
def k1_off13 (i : grid1.Coords) (k1_t2 : Fin (k1_t2_loop i).trips) : Fin 3 → Nat :=
  let c0_178 : Index := 0#32
  let c0_i32_54 : BitVec 32 := 0#32
  let arg1 : BitVec 32 := BitVec.ofNat 32 (i 1).val
  let v57 : BitVec 32 := Scalar.subi arg1 c0_i32_54
  let c1_i32 : BitVec 32 := 1#32
  let v59 : BitVec 32 := Scalar.divsi v57 c1_i32
  let v60 : BitVec 32 := Scalar.muli v59 c1_i32
  let v61 : BitVec 32 := Scalar.addi c0_i32_54 v60
  let c1_i32_56 : BitVec 32 := 1#32
  let arg16 : BitVec 32 := Scf.iv v61 c1_i32_56 k1_t2
  let c256_i32_177 : BitVec 32 := 256#32
  let v300 : BitVec 32 := Scalar.muli arg16 c256_i32_177
  let v301 : BitVec 32 := v300
  let v302 : Index := Scalar.indexCast v301
  let c0_179 : Index := 0#32
  ![0, v302.toNat, 0]
def k1_off14 (i : grid1.Coords) (k1_t2 : Fin (k1_t2_loop i).trips) : Fin 3 → Nat :=
  let c0_180 : Index := 0#32
  let c0_i32_54 : BitVec 32 := 0#32
  let arg1 : BitVec 32 := BitVec.ofNat 32 (i 1).val
  let v57 : BitVec 32 := Scalar.subi arg1 c0_i32_54
  let c1_i32 : BitVec 32 := 1#32
  let v59 : BitVec 32 := Scalar.divsi v57 c1_i32
  let v60 : BitVec 32 := Scalar.muli v59 c1_i32
  let v61 : BitVec 32 := Scalar.addi c0_i32_54 v60
  let c1_i32_56 : BitVec 32 := 1#32
  let arg16 : BitVec 32 := Scf.iv v61 c1_i32_56 k1_t2
  let c256_i32_177 : BitVec 32 := 256#32
  let v300 : BitVec 32 := Scalar.muli arg16 c256_i32_177
  let v301 : BitVec 32 := v300
  let v305 : Index := Scalar.indexCast v301
  let c0_181 : Index := 0#32
  ![0, v305.toNat, 0]
def k1_off15 (i : grid1.Coords) (k1_t2 : Fin (k1_t2_loop i).trips) : Fin 4 → Nat :=
  let c0_204 : Index := 0#32
  let c0_i32_54 : BitVec 32 := 0#32
  let arg1 : BitVec 32 := BitVec.ofNat 32 (i 1).val
  let v57 : BitVec 32 := Scalar.subi arg1 c0_i32_54
  let c1_i32 : BitVec 32 := 1#32
  let v59 : BitVec 32 := Scalar.divsi v57 c1_i32
  let v60 : BitVec 32 := Scalar.muli v59 c1_i32
  let v61 : BitVec 32 := Scalar.addi c0_i32_54 v60
  let c1_i32_56 : BitVec 32 := 1#32
  let arg16 : BitVec 32 := Scf.iv v61 c1_i32_56 k1_t2
  let v359 : Index := Scalar.indexCast arg16
  let c0_205 : Index := 0#32
  let c0_206 : Index := 0#32
  ![0, v359.toNat, 0, 0]
def k1_off16 (i : grid1.Coords) (k1_t2 : Fin (k1_t2_loop i).trips) : Fin 3 → Nat :=
  let c1_209 : Index := 1#32
  let c0_i32_54 : BitVec 32 := 0#32
  let arg1 : BitVec 32 := BitVec.ofNat 32 (i 1).val
  let v57 : BitVec 32 := Scalar.subi arg1 c0_i32_54
  let c1_i32 : BitVec 32 := 1#32
  let v59 : BitVec 32 := Scalar.divsi v57 c1_i32
  let v60 : BitVec 32 := Scalar.muli v59 c1_i32
  let v61 : BitVec 32 := Scalar.addi c0_i32_54 v60
  let c1_i32_56 : BitVec 32 := 1#32
  let arg16 : BitVec 32 := Scf.iv v61 c1_i32_56 k1_t2
  let c256_i32_177 : BitVec 32 := 256#32
  let v300 : BitVec 32 := Scalar.muli arg16 c256_i32_177
  let v301 : BitVec 32 := v300
  let v367 : Index := Scalar.indexCast v301
  let c0_210 : Index := 0#32
  ![1, v367.toNat, 0]
def k1_off17 (i : grid1.Coords) (k1_t2 : Fin (k1_t2_loop i).trips) : Fin 3 → Nat :=
  let c1_211 : Index := 1#32
  let c0_i32_54 : BitVec 32 := 0#32
  let arg1 : BitVec 32 := BitVec.ofNat 32 (i 1).val
  let v57 : BitVec 32 := Scalar.subi arg1 c0_i32_54
  let c1_i32 : BitVec 32 := 1#32
  let v59 : BitVec 32 := Scalar.divsi v57 c1_i32
  let v60 : BitVec 32 := Scalar.muli v59 c1_i32
  let v61 : BitVec 32 := Scalar.addi c0_i32_54 v60
  let c1_i32_56 : BitVec 32 := 1#32
  let arg16 : BitVec 32 := Scf.iv v61 c1_i32_56 k1_t2
  let c256_i32_177 : BitVec 32 := 256#32
  let v300 : BitVec 32 := Scalar.muli arg16 c256_i32_177
  let v301 : BitVec 32 := v300
  let v370 : Index := Scalar.indexCast v301
  let c0_212 : Index := 0#32
  ![1, v370.toNat, 0]
def k1_off18 (i : grid1.Coords) (k1_t2 : Fin (k1_t2_loop i).trips) : Fin 4 → Nat :=
  let c1_235 : Index := 1#32
  let c0_i32_54 : BitVec 32 := 0#32
  let arg1 : BitVec 32 := BitVec.ofNat 32 (i 1).val
  let v57 : BitVec 32 := Scalar.subi arg1 c0_i32_54
  let c1_i32 : BitVec 32 := 1#32
  let v59 : BitVec 32 := Scalar.divsi v57 c1_i32
  let v60 : BitVec 32 := Scalar.muli v59 c1_i32
  let v61 : BitVec 32 := Scalar.addi c0_i32_54 v60
  let c1_i32_56 : BitVec 32 := 1#32
  let arg16 : BitVec 32 := Scf.iv v61 c1_i32_56 k1_t2
  let v424 : Index := Scalar.indexCast arg16
  let c0_236 : Index := 0#32
  let c0_237 : Index := 0#32
  ![1, v424.toNat, 0, 0]
def k1_off19 (i : grid1.Coords) (k1_t2 : Fin (k1_t2_loop i).trips) : Fin 3 → Nat :=
  let c2_240 : Index := 2#32
  let c0_i32_54 : BitVec 32 := 0#32
  let arg1 : BitVec 32 := BitVec.ofNat 32 (i 1).val
  let v57 : BitVec 32 := Scalar.subi arg1 c0_i32_54
  let c1_i32 : BitVec 32 := 1#32
  let v59 : BitVec 32 := Scalar.divsi v57 c1_i32
  let v60 : BitVec 32 := Scalar.muli v59 c1_i32
  let v61 : BitVec 32 := Scalar.addi c0_i32_54 v60
  let c1_i32_56 : BitVec 32 := 1#32
  let arg16 : BitVec 32 := Scf.iv v61 c1_i32_56 k1_t2
  let c256_i32_177 : BitVec 32 := 256#32
  let v300 : BitVec 32 := Scalar.muli arg16 c256_i32_177
  let v301 : BitVec 32 := v300
  let v432 : Index := Scalar.indexCast v301
  let c0_241 : Index := 0#32
  ![2, v432.toNat, 0]
def k1_off20 (i : grid1.Coords) (k1_t2 : Fin (k1_t2_loop i).trips) : Fin 3 → Nat :=
  let c2_242 : Index := 2#32
  let c0_i32_54 : BitVec 32 := 0#32
  let arg1 : BitVec 32 := BitVec.ofNat 32 (i 1).val
  let v57 : BitVec 32 := Scalar.subi arg1 c0_i32_54
  let c1_i32 : BitVec 32 := 1#32
  let v59 : BitVec 32 := Scalar.divsi v57 c1_i32
  let v60 : BitVec 32 := Scalar.muli v59 c1_i32
  let v61 : BitVec 32 := Scalar.addi c0_i32_54 v60
  let c1_i32_56 : BitVec 32 := 1#32
  let arg16 : BitVec 32 := Scf.iv v61 c1_i32_56 k1_t2
  let c256_i32_177 : BitVec 32 := 256#32
  let v300 : BitVec 32 := Scalar.muli arg16 c256_i32_177
  let v301 : BitVec 32 := v300
  let v435 : Index := Scalar.indexCast v301
  let c0_243 : Index := 0#32
  ![2, v435.toNat, 0]
def k1_off21 (i : grid1.Coords) (k1_t2 : Fin (k1_t2_loop i).trips) : Fin 4 → Nat :=
  let c2_266 : Index := 2#32
  let c0_i32_54 : BitVec 32 := 0#32
  let arg1 : BitVec 32 := BitVec.ofNat 32 (i 1).val
  let v57 : BitVec 32 := Scalar.subi arg1 c0_i32_54
  let c1_i32 : BitVec 32 := 1#32
  let v59 : BitVec 32 := Scalar.divsi v57 c1_i32
  let v60 : BitVec 32 := Scalar.muli v59 c1_i32
  let v61 : BitVec 32 := Scalar.addi c0_i32_54 v60
  let c1_i32_56 : BitVec 32 := 1#32
  let arg16 : BitVec 32 := Scf.iv v61 c1_i32_56 k1_t2
  let v489 : Index := Scalar.indexCast arg16
  let c0_267 : Index := 0#32
  let c0_268 : Index := 0#32
  ![2, v489.toNat, 0, 0]
def k1_mult3 (i : grid1.Coords) : BitVec 32 :=
  let arg1 : BitVec 32 := BitVec.ofNat 32 (i 1).val
  let c256_i32 : BitVec 32 := 256#32
  let v64 : BitVec 32 := Scalar.muli arg1 c256_i32
  v64
def k1_off22 (i : grid1.Coords) : Fin 3 → Nat :=
  let c0_57 : Index := 0#32
  let arg1 : BitVec 32 := BitVec.ofNat 32 (i 1).val
  let c256_i32 : BitVec 32 := 256#32
  let v64 : BitVec 32 := Scalar.muli arg1 c256_i32
  let v65 : BitVec 32 := v64
  let v66 : Index := Scalar.indexCast v65
  let c0_58 : Index := 0#32
  ![0, v66.toNat, 0]
def k1_off23 (i : grid1.Coords) : Fin 3 → Nat :=
  let c0_59 : Index := 0#32
  let arg1 : BitVec 32 := BitVec.ofNat 32 (i 1).val
  let c256_i32 : BitVec 32 := 256#32
  let v64 : BitVec 32 := Scalar.muli arg1 c256_i32
  let v65 : BitVec 32 := v64
  let v69 : Index := Scalar.indexCast v65
  let c0_60 : Index := 0#32
  ![0, v69.toNat, 0]
def k1_off24 (i : grid1.Coords) : Fin 4 → Nat :=
  let c0_84 : Index := 0#32
  let arg1 : BitVec 32 := BitVec.ofNat 32 (i 1).val
  let v128 : Index := Scalar.indexCast arg1
  let c0_85 : Index := 0#32
  let c0_86 : Index := 0#32
  ![0, v128.toNat, 0, 0]
def k1_off25 (i : grid1.Coords) : Fin 3 → Nat :=
  let c1_89 : Index := 1#32
  let arg1 : BitVec 32 := BitVec.ofNat 32 (i 1).val
  let c256_i32 : BitVec 32 := 256#32
  let v64 : BitVec 32 := Scalar.muli arg1 c256_i32
  let v65 : BitVec 32 := v64
  let v136 : Index := Scalar.indexCast v65
  let c0_90 : Index := 0#32
  ![1, v136.toNat, 0]
def k1_off26 (i : grid1.Coords) : Fin 3 → Nat :=
  let c1_91 : Index := 1#32
  let arg1 : BitVec 32 := BitVec.ofNat 32 (i 1).val
  let c256_i32 : BitVec 32 := 256#32
  let v64 : BitVec 32 := Scalar.muli arg1 c256_i32
  let v65 : BitVec 32 := v64
  let v139 : Index := Scalar.indexCast v65
  let c0_92 : Index := 0#32
  ![1, v139.toNat, 0]
def k1_off27 (i : grid1.Coords) : Fin 4 → Nat :=
  let c1_116 : Index := 1#32
  let arg1 : BitVec 32 := BitVec.ofNat 32 (i 1).val
  let v198 : Index := Scalar.indexCast arg1
  let c0_117 : Index := 0#32
  let c0_118 : Index := 0#32
  ![1, v198.toNat, 0, 0]
def k1_off28 (i : grid1.Coords) : Fin 3 → Nat :=
  let c2_121 : Index := 2#32
  let arg1 : BitVec 32 := BitVec.ofNat 32 (i 1).val
  let c256_i32 : BitVec 32 := 256#32
  let v64 : BitVec 32 := Scalar.muli arg1 c256_i32
  let v65 : BitVec 32 := v64
  let v206 : Index := Scalar.indexCast v65
  let c0_122 : Index := 0#32
  ![2, v206.toNat, 0]
def k1_off29 (i : grid1.Coords) : Fin 3 → Nat :=
  let c2_123 : Index := 2#32
  let arg1 : BitVec 32 := BitVec.ofNat 32 (i 1).val
  let c256_i32 : BitVec 32 := 256#32
  let v64 : BitVec 32 := Scalar.muli arg1 c256_i32
  let v65 : BitVec 32 := v64
  let v209 : Index := Scalar.indexCast v65
  let c0_124 : Index := 0#32
  ![2, v209.toNat, 0]
def k1_off30 (i : grid1.Coords) : Fin 4 → Nat :=
  let c2_148 : Index := 2#32
  let arg1 : BitVec 32 := BitVec.ofNat 32 (i 1).val
  let v268 : Index := Scalar.indexCast arg1
  let c0_149 : Index := 0#32
  let c0_150 : Index := 0#32
  ![2, v268.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S3x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S3x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S3x8x64x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S3x2048x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S3x8x1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S3x2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S3x64x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S3x1x1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S3x64x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S3x64x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S3x2048x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S3x2048x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S3x1x1x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S3x2048x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]
-- ==== KernelIdeal.lean ====
variable {F : FTy → Type} [FloatOps F] [Named F]
def κ : String → Option EReal := fun
  | "mask" => some ⊥
  | _ => none
-- ==== ReferenceIdeal.lean ====
abbrev S2048x768 : Shape := ⟨2, ![2048, 768]⟩
abbrev S12x2048 : Shape := ⟨2, ![12, 2048]⟩
abbrev S2048x12x64 : Shape := ⟨3, ![2048, 12, 64]⟩
abbrev S12x2048x2048 : Shape := ⟨3, ![12, 2048, 2048]⟩
abbrev S_ : Shape := ⟨0, ![]⟩
abbrev S12x2048x1 : Shape := ⟨3, ![12, 2048, 1]⟩
abbrev S12x1x2048 : Shape := ⟨3, ![12, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S12x64x2048 : Shape := ⟨3, ![12, 64, 2048]⟩
abbrev S12x2048x64 : Shape := ⟨3, ![12, 2048, 64]⟩
abbrev S768x2048 : Shape := ⟨2, ![768, 2048]⟩
abbrev S12x8x1x256 : Shape := ⟨4, ![12, 8, 1, 256]⟩

abbrev nBuf : Space → Nat
  | .hbm => 123
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S12x2048, .f32⟩
  | .hbm, ⟨4, _⟩ => ⟨S2048x768, .f32⟩
  | .hbm, ⟨5, _⟩ => ⟨S2048x12x64, .f32⟩
  | .hbm, ⟨6, _⟩ => ⟨S2048x12x64, .f32⟩
  | .hbm, ⟨7, _⟩ => ⟨S2048x12x64, .f32⟩
  | .hbm, ⟨8, _⟩ => ⟨S12x2048x2048, .f32⟩
  | .hbm, ⟨9, _⟩ => ⟨S_, .f32⟩
  | .hbm, ⟨10, _⟩ => ⟨S12x2048x2048, .f32⟩
  | .hbm, ⟨11, _⟩ => ⟨S12x2048x2048, .f32⟩
  | .hbm, ⟨12, _⟩ => ⟨S12x2048x1, .f32⟩
  | .hbm, ⟨13, _⟩ => ⟨S12x2048x2048, .f32⟩
  | .hbm, ⟨14, _⟩ => ⟨S12x2048x2048, .f32⟩
  | .hbm, ⟨15, _⟩ => ⟨S12x1x2048, .f32⟩
  | .hbm, ⟨16, _⟩ => ⟨S12x2048x2048, .f32⟩
  | .hbm, ⟨17, _⟩ => ⟨S12x2048x2048, .f32⟩
  | .hbm, ⟨18, _⟩ => ⟨S2048, .i32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S12x2048x2048, .i1⟩
  | .hbm, ⟨27, _⟩ => ⟨S12x2048x2048, .f32⟩
  | .hbm, ⟨28, _⟩ => ⟨S12x2048x2048, .f32⟩
  | .hbm, ⟨29, _⟩ => ⟨S_, .f32⟩
  | .hbm, ⟨30, _⟩ => ⟨S12x2048x2048, .f32⟩
  | .hbm, ⟨31, _⟩ => ⟨S_, .f32⟩
  | .hbm, ⟨32, _⟩ => ⟨S12x2048, .f32⟩
  | .hbm, ⟨33, _⟩ => ⟨S12x2048x1, .f32⟩
  | .hbm, ⟨34, _⟩ => ⟨S12x2048x2048, .f32⟩
  | .hbm, ⟨35, _⟩ => ⟨S12x2048x2048, .i1⟩
  | .hbm, ⟨36, _⟩ => ⟨S12x2048x2048, .f32⟩
  | .hbm, ⟨37, _⟩ => ⟨S_, .f32⟩
  | .hbm, ⟨38, _⟩ => ⟨S12x2048, .f32⟩
  | .hbm, ⟨39, _⟩ => ⟨S_, .f32⟩
  | .hbm, ⟨40, _⟩ => ⟨S12x2048, .f32⟩
  | .hbm, ⟨41, _⟩ => ⟨S12x2048, .f32⟩
  | .hbm, ⟨42, _⟩ => ⟨S_, .f32⟩
  | .hbm, ⟨43, _⟩ => ⟨S12x2048, .f32⟩
  | .hbm, ⟨44, _⟩ => ⟨S12x2048, .i1⟩
  | .hbm, ⟨45, _⟩ => ⟨S_, .f32⟩
  | .hbm, ⟨46, _⟩ => ⟨S12x2048, .f32⟩
  | .hbm, ⟨47, _⟩ => ⟨S12x2048, .i1⟩
  | .hbm, ⟨48, _⟩ => ⟨S_, .f32⟩
  | .hbm, ⟨49, _⟩ => ⟨S12x2048, .f32⟩
  | .hbm, ⟨50, _⟩ => ⟨S_, .f32⟩
  | .hbm, ⟨51, _⟩ => ⟨S12x2048, .f32⟩
  | .hbm, ⟨52, _⟩ => ⟨S_, .f32⟩
  | .hbm, ⟨53, _⟩ => ⟨S12x2048, .f32⟩
  | .hbm, ⟨54, _⟩ => ⟨S12x2048, .f32⟩
  | .hbm, ⟨55, _⟩ => ⟨S12x2048, .f32⟩
  | .hbm, ⟨56, _⟩ => ⟨S12x2048x1, .f32⟩
  | .hbm, ⟨57, _⟩ => ⟨S12x2048x2048, .f32⟩
  | .hbm, ⟨58, _⟩ => ⟨S12x2048x2048, .f32⟩
  | .hbm, ⟨59, _⟩ => ⟨S12x2048x2048, .f32⟩
  | .hbm, ⟨60, _⟩ => ⟨S_, .f32⟩
  | .hbm, ⟨61, _⟩ => ⟨S12x2048, .f32⟩
  | .hbm, ⟨62, _⟩ => ⟨S12x2048x1, .f32⟩
  | .hbm, ⟨63, _⟩ => ⟨S12x2048x2048, .f32⟩
  | .hbm, ⟨64, _⟩ => ⟨S12x2048x2048, .f32⟩
  | .hbm, ⟨65, _⟩ => ⟨S12x2048x1, .f32⟩
  | .hbm, ⟨66, _⟩ => ⟨S_, .f32⟩
  | .hbm, ⟨67, _⟩ => ⟨S12x2048x1, .f32⟩
  | .hbm, ⟨68, _⟩ => ⟨S12x2048x1, .f32⟩
  | .hbm, ⟨69, _⟩ => ⟨S12x64x2048, .f32⟩
  | .hbm, ⟨70, _⟩ => ⟨S2048x12x64, .f32⟩
  | .hbm, ⟨71, _⟩ => ⟨S2048x768, .f32⟩
  | .hbm, ⟨72, _⟩ => ⟨S2048x12x64, .f32⟩
  | .hbm, ⟨73, _⟩ => ⟨S12x64x2048, .f32⟩
  | .hbm, ⟨74, _⟩ => ⟨S12x2048x2048, .f32⟩
  | .hbm, ⟨75, _⟩ => ⟨S12x64x2048, .f32⟩
  | .hbm, ⟨76, _⟩ => ⟨S2048x12x64, .f32⟩
  | .hbm, ⟨77, _⟩ => ⟨S12x2048x2048, .f32⟩
  | .hbm, ⟨78, _⟩ => ⟨S12x2048x2048, .f32⟩
  | .hbm, ⟨79, _⟩ => ⟨S12x2048x2048, .f32⟩
  | .hbm, ⟨80, _⟩ => ⟨S_, .f32⟩
  | .hbm, ⟨81, _⟩ => ⟨S12x2048, .f32⟩
  | .hbm, ⟨82, _⟩ => ⟨S12x2048x1, .f32⟩
  | .hbm, ⟨83, _⟩ => ⟨S12x2048x1, .f32⟩
  | .hbm, ⟨84, _⟩ => ⟨S12x2048x2048, .f32⟩
  | .hbm, ⟨85, _⟩ => ⟨S12x2048x2048, .f32⟩
  | .hbm, ⟨86, _⟩ => ⟨S_, .f32⟩
  | .hbm, ⟨87, _⟩ => ⟨S12x2048, .f32⟩
  | .hbm, ⟨88, _⟩ => ⟨S12x2048x2048, .f32⟩
  | .hbm, ⟨89, _⟩ => ⟨S12x2048x2048, .f32⟩
  | .hbm, ⟨90, _⟩ => ⟨S12x2048x2048, .f32⟩
  | .hbm, ⟨91, _⟩ => ⟨S_, .f32⟩
  | .hbm, ⟨92, _⟩ => ⟨S12x2048x2048, .f32⟩
  | .hbm, ⟨93, _⟩ => ⟨S12x2048x2048, .f32⟩
  | .hbm, ⟨94, _⟩ => ⟨S12x2048x2048, .f32⟩
  | .hbm, ⟨95, _⟩ => ⟨S_, .f32⟩
  | .hbm, ⟨96, _⟩ => ⟨S12x2048, .f32⟩
  | .hbm, ⟨97, _⟩ => ⟨S12x1x2048, .f32⟩
  | .hbm, ⟨98, _⟩ => ⟨S_, .f32⟩
  | .hbm, ⟨99, _⟩ => ⟨S12x2048, .f32⟩
  | .hbm, ⟨100, _⟩ => ⟨S_, .f32⟩
  | .hbm, ⟨101, _⟩ => ⟨S12x2048, .f32⟩
  | .hbm, ⟨102, _⟩ => ⟨S12x2048x1, .f32⟩
  | .hbm, ⟨103, _⟩ => ⟨S_, .f32⟩
  | .hbm, ⟨104, _⟩ => ⟨S12x2048, .f32⟩
  | .hbm, ⟨105, _⟩ => ⟨S_, .f32⟩
  | .hbm, ⟨106, _⟩ => ⟨S12x2048x2048, .f32⟩
  | .hbm, ⟨107, _⟩ => ⟨S12x2048x2048, .f32⟩
  | .hbm, ⟨108, _⟩ => ⟨S12x2048x64, .f32⟩
  | .hbm, ⟨109, _⟩ => ⟨S2048x12x64, .f32⟩
  | .hbm, ⟨110, _⟩ => ⟨S12x2048x64, .f32⟩
  | .hbm, ⟨111, _⟩ => ⟨S2048x12x64, .f32⟩
  | .hbm, ⟨112, _⟩ => ⟨S2048x768, .f32⟩
  | .hbm, ⟨113, _⟩ => ⟨S2048x768, .f32⟩
  | .hbm, ⟨114, _⟩ => ⟨S2048x768, .f32⟩
  | .hbm, ⟨115, _⟩ => ⟨S768x2048, .f32⟩
  | .hbm, ⟨116, _⟩ => ⟨S12x64x2048, .f32⟩
  | .hbm, ⟨117, _⟩ => ⟨S2048x12x64, .f32⟩
  | .hbm, ⟨118, _⟩ => ⟨S12x2048x64, .f32⟩
  | .hbm, ⟨119, _⟩ => ⟨S2048x12x64, .f32⟩
  | .hbm, ⟨120, _⟩ => ⟨S12x2048x64, .f32⟩
  | .hbm, ⟨121, _⟩ => ⟨S12x8x1x256, .f32⟩
  | .hbm, ⟨122, _⟩ => ⟨S12x2048x1, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_v18_1 : Ref sig .tc := ⟨.hbm, 26, rfl⟩
abbrev main_call0_v2 : Ref sig .tc := ⟨.hbm, 27, rfl⟩
abbrev main_v18_0 : Ref sig .tc := ⟨.hbm, 28, rfl⟩
abbrev main_call0_cst : Ref sig .tc := ⟨.hbm, 29, rfl⟩
abbrev main_v18_2 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call1_cst : Ref sig .tc := ⟨.hbm, 91, rfl⟩
abbrev main_call1_v0 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]
-- ==== Kernel2.lean ====
abbrev S2816x1024 : Shape := ⟨2, ![2816, 1024]⟩
abbrev S2048x1024 : Shape := ⟨2, ![2048, 1024]⟩
abbrev S2048x2816 : Shape := ⟨2, ![2048, 2816]⟩
abbrev S256x1024 : Shape := ⟨2, ![256, 1024]⟩
abbrev S2048x256 : Shape := ⟨2, ![2048, 256]⟩
abbrev S512x1024 : Shape := ⟨2, ![512, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S2048x1024, .f32⟩
  | .hbm, ⟨2, _⟩ => ⟨S2048x2816, .f32⟩
  | .local _ .vmem, ⟨0, _⟩ => ⟨S2048x1024, .f32⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | .local _ .vmem, ⟨5, _⟩ => ⟨S2048x1024, .bf16⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S2816x1024 : Shape := ⟨2, ![2816, 1024]⟩
abbrev S2048x1024 : Shape := ⟨2, ![2048, 1024]⟩
abbrev S_ : Shape := ⟨0, ![]⟩
abbrev S2048x2816 : Shape := ⟨2, ![2048, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S2048x1024, .f32⟩
  | .hbm, ⟨2, _⟩ => ⟨S_, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x2816, .f32⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S2048x2816 : Shape := ⟨2, ![2048, 2816]⟩
abbrev S2048x1024 : Shape := ⟨2, ![2048, 1024]⟩
abbrev S2816x1024 : Shape := ⟨2, ![2816, 1024]⟩
abbrev S2048x256 : Shape := ⟨2, ![2048, 256]⟩
abbrev S256x1024 : Shape := ⟨2, ![256, 1024]⟩
abbrev S512x1024 : Shape := ⟨2, ![512, 1024]⟩
abbrev S512x256 : Shape := ⟨2, ![512, 256]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | .local _ .vmem, ⟨6, _⟩ => ⟨S2048x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S2048x2816 : Shape := ⟨2, ![2048, 2816]⟩
abbrev S5632x1024 : Shape := ⟨2, ![5632, 1024]⟩
abbrev S2048x1024 : Shape := ⟨2, ![2048, 1024]⟩
abbrev S512x2816 : Shape := ⟨2, ![512, 2816]⟩
abbrev S512x1024 : Shape := ⟨2, ![512, 1024]⟩
abbrev S2816x512 : Shape := ⟨2, ![2816, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S5632x1024, .bf16⟩
  | .hbm, ⟨3, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2048x2816 : Shape := ⟨2, ![2048, 2816]⟩
abbrev S5632x1024 : Shape := ⟨2, ![5632, 1024]⟩
abbrev S2048x5632 : Shape := ⟨2, ![2048, 5632]⟩
abbrev S_ : Shape := ⟨0, ![]⟩
abbrev S2048x1024 : Shape := ⟨2, ![2048, 1024]⟩
abbrev S1024x5632 : Shape := ⟨2, ![1024, 5632]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S5632x1024, .bf16⟩
  | .hbm, ⟨3, _⟩ => ⟨S2048x5632, .bf16⟩
  | .hbm, ⟨4, _⟩ => ⟨S2048x5632, .f32⟩
  | .hbm, ⟨5, _⟩ => ⟨S_, .f32⟩
  | .hbm, ⟨6, _⟩ => ⟨S2048x1024, .f32⟩
  | .hbm, ⟨7, _⟩ => ⟨S5632x1024, .f32⟩
  | .hbm, ⟨8, _⟩ => ⟨S1024x5632, .f32⟩
  | .hbm, ⟨9, _⟩ => ⟨S2048x5632, .f32⟩
  | .hbm, ⟨10, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S2048x2816 : Shape := ⟨2, ![2048, 2816]⟩
abbrev S2048x1024 : Shape := ⟨2, ![2048, 1024]⟩
abbrev S5632x1024 : Shape := ⟨2, ![5632, 1024]⟩
abbrev S2048x256 : Shape := ⟨2, ![2048, 256]⟩
abbrev S256x1024 : Shape := ⟨2, ![256, 1024]⟩
abbrev S512x256 : Shape := ⟨2, ![512, 256]⟩
abbrev S256x512 : Shape := ⟨2, ![256, 512]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S5632x1024, .bf16⟩
  | .hbm, ⟨4, _⟩ => ⟨S5632x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | .local _ .vmem, ⟨6, _⟩ => ⟨S2048x256, .bf16⟩
  | .local _ .vmem, ⟨7, _⟩ => ⟨S2048x256, .bf16⟩
  | .local _ .vmem, ⟨8, _⟩ => ⟨S2048x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![v0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Reference5Ideal.lean ====
abbrev S2048x2816 : Shape := ⟨2, ![2048, 2816]⟩
abbrev S2048x1024 : Shape := ⟨2, ![2048, 1024]⟩
abbrev S2048x5632 : Shape := ⟨2, ![2048, 5632]⟩
abbrev S_ : Shape := ⟨0, ![]⟩
abbrev S5632x1024 : Shape := ⟨2, ![5632, 1024]⟩
abbrev S1024x5632 : Shape := ⟨2, ![1024, 5632]⟩

abbrev nBuf : Space → Nat
  | .hbm => 14
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S2048x5632, .bf16⟩
  | .hbm, ⟨4, _⟩ => ⟨S2048x5632, .f32⟩
  | .hbm, ⟨5, _⟩ => ⟨S_, .f32⟩
  | .hbm, ⟨6, _⟩ => ⟨S5632x1024, .f32⟩
  | .hbm, ⟨7, _⟩ => ⟨S2048x1024, .f32⟩
  | .hbm, ⟨8, _⟩ => ⟨S1024x5632, .f32⟩
  | .hbm, ⟨9, _⟩ => ⟨S2048x5632, .f32⟩
  | .hbm, ⟨10, _⟩ => ⟨S5632x1024, .f32⟩
  | .hbm, ⟨11, _⟩ => ⟨S1024x5632, .f32⟩
  | .hbm, ⟨12, _⟩ => ⟨S5632x1024, .f32⟩
  | .hbm, ⟨13, _⟩ => ⟨S5632x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel6.lean ====
abbrev S2048x1024 : Shape := ⟨2, ![2048, 1024]⟩
abbrev S5632x1024 : Shape := ⟨2, ![5632, 1024]⟩
abbrev S2048x2816 : Shape := ⟨2, ![2048, 2816]⟩
abbrev S256x1024 : Shape := ⟨2, ![256, 1024]⟩
abbrev S2048x256 : Shape := ⟨2, ![2048, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x2816, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S2048x1024 : Shape := ⟨2, ![2048, 1024]⟩
abbrev S5632x1024 : Shape := ⟨2, ![5632, 1024]⟩
abbrev S1024x5632 : Shape := ⟨2, ![1024, 5632]⟩
abbrev S2048x5632 : Shape := ⟨2, ![2048, 5632]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x1024, .f32⟩
  | .hbm, ⟨3, _⟩ => ⟨S5632x1024, .f32⟩
  | .hbm, ⟨4, _⟩ => ⟨S1024x5632, .f32⟩
  | .hbm, ⟨5, _⟩ => ⟨S2048x5632, .f32⟩
  | .hbm, ⟨6, _⟩ => ⟨S2048x2816, .f32⟩
  | .hbm, ⟨7, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S2048x1024 : Shape := ⟨2, ![2048, 1024]⟩
abbrev S5632x1024 : Shape := ⟨2, ![5632, 1024]⟩
abbrev S2048x2816 : Shape := ⟨2, ![2048, 2816]⟩
abbrev S256x1024 : Shape := ⟨2, ![256, 1024]⟩
abbrev S2048x256 : Shape := ⟨2, ![2048, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x2816, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S2048x1024 : Shape := ⟨2, ![2048, 1024]⟩
abbrev S5632x1024 : Shape := ⟨2, ![5632, 1024]⟩
abbrev S1024x5632 : Shape := ⟨2, ![1024, 5632]⟩
abbrev S2048x5632 : Shape := ⟨2, ![2048, 5632]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x1024, .f32⟩
  | .hbm, ⟨3, _⟩ => ⟨S5632x1024, .f32⟩
  | .hbm, ⟨4, _⟩ => ⟨S1024x5632, .f32⟩
  | .hbm, ⟨5, _⟩ => ⟨S2048x5632, .f32⟩
  | .hbm, ⟨6, _⟩ => ⟨S2048x2816, .f32⟩
  | .hbm, ⟨7, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel8.lean ====
abbrev S2048x2816 : Shape := ⟨2, ![2048, 2816]⟩
abbrev S2816x1024 : Shape := ⟨2, ![2816, 1024]⟩
abbrev S2048x1024 : Shape := ⟨2, ![2048, 1024]⟩
abbrev S2816x512 : Shape := ⟨2, ![2816, 512]⟩
abbrev S2048x512 : Shape := ⟨2, ![2048, 512]⟩
abbrev S512x2816 : Shape := ⟨2, ![512, 2816]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S2048x2816, .bf16⟩
  | .local _ .vmem, ⟨1, _⟩ => ⟨S2816x512, .bf16⟩
  | .local _ .vmem, ⟨2, _⟩ => ⟨S2816x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S2048x2816 : Shape := ⟨2, ![2048, 2816]⟩
abbrev S3x5632 : Shape := ⟨2, ![3, 5632]⟩
abbrev S5632 : Shape := ⟨1, ![5632]⟩
abbrev S1x5632 : Shape := ⟨2, ![1, 5632]⟩
abbrev S2048x256 : Shape := ⟨2, ![2048, 256]⟩
abbrev S3x256 : Shape := ⟨2, ![3, 256]⟩
abbrev S1x256 : Shape := ⟨2, ![1, 256]⟩
abbrev S2056x256 : Shape := ⟨2, ![2056, 256]⟩
abbrev S8x256 : Shape := ⟨2, ![8, 256]⟩
abbrev S264x256 : Shape := ⟨2, ![264, 256]⟩
abbrev S256x256 : Shape := ⟨2, ![256, 256]⟩

abbrev nBuf : Space → Nat
  | .hbm => 6
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S3x5632, .f32⟩
  | .hbm, ⟨3, _⟩ => ⟨S5632, .f32⟩
  | .hbm, ⟨4, _⟩ => ⟨S1x5632, .f32⟩
  | .hbm, ⟨5, _⟩ => ⟨S2048x2816, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2056x256, .f32⟩
  | .local _ .vmem, ⟨15, _⟩ => ⟨S2056x256, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32 : BitVec 32 := 0#32
  let c8_i32 : BitVec 32 := 8#32
  let v16 : BitVec 32 := Scalar.addi c0_i32 c8_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v17 : BitVec 32 := Scalar.muli arg10 c256_i32
  v17
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v17 : BitVec 32 := Scalar.muli arg10 c256_i32
  let v18 : BitVec 32 := v17
  let v19 : Index := Scalar.indexCast v18
  let c0_12 : Index := 0#32
  ![v19.toNat, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_19 : BitVec 32 := 256#32
  let v41 : BitVec 32 := Scalar.muli arg10 c256_i32_19
  v41
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_34 : BitVec 32 := 256#32
  let v75 : BitVec 32 := Scalar.muli arg10 c256_i32_34
  v75
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32_34 : BitVec 32 := 256#32
  let v75 : BitVec 32 := Scalar.muli arg10 c256_i32_34
  let v76 : BitVec 32 := v75
  let v77 : Index := Scalar.indexCast v76
  let c0_35 : Index := 0#32
  ![v77.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S2048x2816 : Shape := ⟨2, ![2048, 2816]⟩
abbrev S3x5632 : Shape := ⟨2, ![3, 5632]⟩
abbrev S5632 : Shape := ⟨1, ![5632]⟩
abbrev S2048x5632 : Shape := ⟨2, ![2048, 5632]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩

abbrev nBuf : Space → Nat
  | .hbm => 47
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S3x5632, .f32⟩
  | .hbm, ⟨3, _⟩ => ⟨S5632, .f32⟩
  | .hbm, ⟨4, _⟩ => ⟨S2048x5632, .f32⟩
  | .hbm, ⟨5, _⟩ => ⟨S_, .f32⟩
  | .hbm, ⟨6, _⟩ => ⟨S2x5632, .f32⟩
  | .hbm, ⟨7, _⟩ => ⟨S2050x5632, .f32⟩
  | .hbm, ⟨8, _⟩ => ⟨S1x5632, .f32⟩
  | .hbm, ⟨9, _⟩ => ⟨S5632, .f32⟩
  | .hbm, ⟨10, _⟩ => ⟨S2048x5632, .f32⟩
  | .hbm, ⟨11, _⟩ => ⟨S1x5632, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S1x5632, .f32⟩
  | .hbm, ⟨18, _⟩ => ⟨S5632, .f32⟩
  | .hbm, ⟨19, _⟩ => ⟨S2048x5632, .f32⟩
  | .hbm, ⟨20, _⟩ => ⟨S1x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S1x5632, .f32⟩
  | .hbm, ⟨25, _⟩ => ⟨S5632, .f32⟩
  | .hbm, ⟨26, _⟩ => ⟨S2048x5632, .f32⟩
  | .hbm, ⟨27, _⟩ => ⟨S1x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S1x5632, .f32⟩
  | .hbm, ⟨32, _⟩ => ⟨S2048x5632, .f32⟩
  | .hbm, ⟨33, _⟩ => ⟨S2048x5632, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S_, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel11.lean ====
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S2048x1024, .f32⟩
  | .hbm, ⟨2, _⟩ => ⟨S2048x1024, .f32⟩
  | .local _ .vmem, ⟨0, _⟩ => ⟨S2048x1024, .f32⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S2048x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩
abbrev S512x1024 : Shape := ⟨2, ![512, 1024]⟩
abbrev S512x256 : Shape := ⟨2, ![512, 256]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | .local _ .vmem, ⟨6, _⟩ => ⟨S2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S2048x1792 : Shape := ⟨2, ![2048, 1792]⟩
abbrev S1792x1024 : Shape := ⟨2, ![1792, 1024]⟩
abbrev S2048x1024 : Shape := ⟨2, ![2048, 1024]⟩
abbrev S1792x512 : Shape := ⟨2, ![1792, 512]⟩
abbrev S2048x512 : Shape := ⟨2, ![2048, 512]⟩
abbrev S512x1792 : Shape := ⟨2, ![512, 1792]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1792, .bf16⟩
  | .hbm, ⟨1, _⟩ => ⟨S1792x1024, .bf16⟩
  | .hbm, ⟨2, _⟩ => ⟨S2048x1024, .f32⟩
  | .local _ .vmem, ⟨0, _⟩ => ⟨S2048x1792, .bf16⟩
  | .local _ .vmem, ⟨1, _⟩ => ⟨S1792x512, .bf16⟩
  | .local _ .vmem, ⟨2, _⟩ => ⟨S1792x512, .bf16⟩
  | .local _ .vmem, ⟨3, _⟩ => ⟨S2048x512, .f32⟩
  | .local _ .vmem, ⟨4, _⟩ => ⟨S2048x512, .f32⟩
  | _, _ => ⟨S2048x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x1792 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S2048x1792 : Shape := ⟨2, ![2048, 1792]⟩
abbrev S1792x1024 : Shape := ⟨2, ![1792, 1024]⟩
abbrev S_ : Shape := ⟨0, ![]⟩
abbrev S2048x1024 : Shape := ⟨2, ![2048, 1024]⟩
abbrev S1024x1792 : Shape := ⟨2, ![1024, 1792]⟩

abbrev nBuf : Space → Nat
  | .hbm => 9
  | .vmem => 0
  | .smem => 0
  | _ => 0

abbrev bufTy : (tb : Table) → Fin (tcTables nBuf tb) → BufTy
  | .hbm, ⟨0, _⟩ => ⟨S2048x1792, .bf16⟩
  | .hbm, ⟨1, _⟩ => ⟨S1792x1024, .bf16⟩
  | .hbm, ⟨2, _⟩ => ⟨S_, .f32⟩
  | .hbm, ⟨3, _⟩ => ⟨S2048x1024, .f32⟩
  | .hbm, ⟨4, _⟩ => ⟨S1792x1024, .f32⟩
  | .hbm, ⟨5, _⟩ => ⟨S1024x1792, .f32⟩
  | .hbm, ⟨6, _⟩ => ⟨S2048x1792, .f32⟩
  | .hbm, ⟨7, _⟩ => ⟨S2048x1792, .f32⟩
  | .hbm, ⟨8, _⟩ => ⟨S2048x1024, .f32⟩
  | _, _ => ⟨S2048x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S2048x1792 : Shape := ⟨2, ![2048, 1792]⟩
abbrev S2048x1024 : Shape := ⟨2, ![2048, 1024]⟩
abbrev S1792x1024 : Shape := ⟨2, ![1792, 1024]⟩
abbrev S2048x256 : Shape := ⟨2, ![2048, 256]⟩
abbrev S256x1024 : Shape := ⟨2, ![256, 1024]⟩
abbrev S512x256 : Shape := ⟨2, ![512, 256]⟩
abbrev S256x512 : Shape := ⟨2, ![256, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1792, .bf16⟩
  | .hbm, ⟨1, _⟩ => ⟨S2048x1024, .bf16⟩
  | .hbm, ⟨2, _⟩ => ⟨S1792x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S2048x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S2048x1792 : Shape := ⟨2, ![2048, 1792]⟩
abbrev S2048x1024 : Shape := ⟨2, ![2048, 1024]⟩
abbrev S_ : Shape := ⟨0, ![]⟩
abbrev S1792x1024 : Shape := ⟨2, ![1792, 1024]⟩
abbrev S1024x1792 : Shape := ⟨2, ![1024, 1792]⟩

abbrev nBuf : Space → Nat
  | .hbm => 12
  | .vmem => 0
  | .smem => 0
  | _ => 0

abbrev bufTy : (tb : Table) → Fin (tcTables nBuf tb) → BufTy
  | .hbm, ⟨0, _⟩ => ⟨S2048x1792, .bf16⟩
  | .hbm, ⟨1, _⟩ => ⟨S2048x1024, .bf16⟩
  | .hbm, ⟨2, _⟩ => ⟨S_, .f32⟩
  | .hbm, ⟨3, _⟩ => ⟨S1792x1024, .f32⟩
  | .hbm, ⟨4, _⟩ => ⟨S2048x1024, .f32⟩
  | .hbm, ⟨5, _⟩ => ⟨S1024x1792, .f32⟩
  | .hbm, ⟨6, _⟩ => ⟨S2048x1792, .f32⟩
  | .hbm, ⟨7, _⟩ => ⟨S2048x1792, .f32⟩
  | .hbm, ⟨8, _⟩ => ⟨S1792x1024, .f32⟩
  | .hbm, ⟨9, _⟩ => ⟨S1024x1792, .f32⟩
  | .hbm, ⟨10, _⟩ => ⟨S1792x1024, .f32⟩
  | .hbm, ⟨11, _⟩ => ⟨S1792x1024, .bf16⟩
  | _, _ => ⟨S2048x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel15.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩
abbrev S512x256 : Shape := ⟨2, ![512, 256]⟩
abbrev S256x512 : Shape := ⟨2, ![256, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S2048x1664 : Shape := ⟨2, ![2048, 1664]⟩
abbrev S1024x1664 : Shape := ⟨2, ![1024, 1664]⟩
abbrev S2048x1024 : Shape := ⟨2, ![2048, 1024]⟩
abbrev S512x1664 : Shape := ⟨2, ![512, 1664]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1664, .bf16⟩
  | .hbm, ⟨1, _⟩ => ⟨S1024x1664, .bf16⟩
  | .hbm, ⟨2, _⟩ => ⟨S2048x1024, .f32⟩
  | .local _ .vmem, ⟨0, _⟩ => ⟨S2048x1664, .bf16⟩
  | .local _ .vmem, ⟨1, _⟩ => ⟨S512x1664, .bf16⟩
  | .local _ .vmem, ⟨2, _⟩ => ⟨S512x1664, .bf16⟩
  | .local _ .vmem, ⟨3, _⟩ => ⟨S2048x512, .f32⟩
  | .local _ .vmem, ⟨4, _⟩ => ⟨S2048x512, .f32⟩
  | _, _ => ⟨S2048x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x1664 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S2048x1664 : Shape := ⟨2, ![2048, 1664]⟩
abbrev S1024x1664 : Shape := ⟨2, ![1024, 1664]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1664, .bf16⟩
  | .hbm, ⟨1, _⟩ => ⟨S1024x1664, .bf16⟩
  | .hbm, ⟨2, _⟩ => ⟨S_, .f32⟩
  | .hbm, ⟨3, _⟩ => ⟨S2048x1024, .f32⟩
  | .hbm, ⟨4, _⟩ => ⟨S1024x1664, .f32⟩
  | .hbm, ⟨5, _⟩ => ⟨S2048x1664, .f32⟩
  | .hbm, ⟨6, _⟩ => ⟨S2048x1664, .f32⟩
  | .hbm, ⟨7, _⟩ => ⟨S2048x1024, .f32⟩
  | _, _ => ⟨S2048x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S2048x1024 : Shape := ⟨2, ![2048, 1024]⟩
abbrev S2048x1664 : Shape := ⟨2, ![2048, 1664]⟩
abbrev S1024x1664 : Shape := ⟨2, ![1024, 1664]⟩
abbrev S2048x256 : Shape := ⟨2, ![2048, 256]⟩
abbrev S256x1664 : Shape := ⟨2, ![256, 1664]⟩
abbrev S512x256 : Shape := ⟨2, ![512, 256]⟩
abbrev S256x512 : Shape := ⟨2, ![256, 512]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1664, .bf16⟩
  | .hbm, ⟨2, _⟩ => ⟨S1024x1664, .bf16⟩
  | .local _ .vmem, ⟨0, _⟩ => ⟨S2048x256, .bf16⟩
  | .local _ .vmem, ⟨1, _⟩ => ⟨S2048x256, .bf16⟩
  | .local _ .vmem, ⟨2, _⟩ => ⟨S2048x1664, .bf16⟩
  | .local _ .vmem, ⟨3, _⟩ => ⟨S256x1664, .bf16⟩
  | .local _ .vmem, ⟨4, _⟩ => ⟨S256x1664, .bf16⟩
  | .local _ .vmem, ⟨5, _⟩ => ⟨S256x1664, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S2048x1024 : Shape := ⟨2, ![2048, 1024]⟩
abbrev S2048x1664 : Shape := ⟨2, ![2048, 1664]⟩
abbrev S_ : Shape := ⟨0, ![]⟩
abbrev S1024x1664 : Shape := ⟨2, ![1024, 1664]⟩
abbrev S1664x1024 : Shape := ⟨2, ![1664, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1664, .bf16⟩
  | .hbm, ⟨2, _⟩ => ⟨S_, .f32⟩
  | .hbm, ⟨3, _⟩ => ⟨S1024x1664, .f32⟩
  | .hbm, ⟨4, _⟩ => ⟨S2048x1024, .f32⟩
  | .hbm, ⟨5, _⟩ => ⟨S2048x1664, .f32⟩
  | .hbm, ⟨6, _⟩ => ⟨S2048x1664, .f32⟩
  | .hbm, ⟨7, _⟩ => ⟨S1664x1024, .f32⟩
  | .hbm, ⟨8, _⟩ => ⟨S1024x1664, .f32⟩
  | .hbm, ⟨9, _⟩ => ⟨S1024x1664, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩
abbrev S512x1024 : Shape := ⟨2, ![512, 1024]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S2048x1024 : Shape := ⟨2, ![2048, 1024]⟩
abbrev S1792x1024 : Shape := ⟨2, ![1792, 1024]⟩
abbrev S2048x1792 : Shape := ⟨2, ![2048, 1792]⟩
abbrev S256x1024 : Shape := ⟨2, ![256, 1024]⟩
abbrev S2048x256 : Shape := ⟨2, ![2048, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1792x1024, .bf16⟩
  | .hbm, ⟨2, _⟩ => ⟨S2048x1792, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S2048x1024 : Shape := ⟨2, ![2048, 1024]⟩
abbrev S1792x1024 : Shape := ⟨2, ![1792, 1024]⟩
abbrev S1024x1792 : Shape := ⟨2, ![1024, 1792]⟩
abbrev S2048x1792 : Shape := ⟨2, ![2048, 1792]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1792x1024, .bf16⟩
  | .hbm, ⟨2, _⟩ => ⟨S2048x1024, .f32⟩
  | .hbm, ⟨3, _⟩ => ⟨S1792x1024, .f32⟩
  | .hbm, ⟨4, _⟩ => ⟨S1024x1792, .f32⟩
  | .hbm, ⟨5, _⟩ => ⟨S2048x1792, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S2048x1024 : Shape := ⟨2, ![2048, 1024]⟩
abbrev S1024x1664 : Shape := ⟨2, ![1024, 1664]⟩
abbrev S2048x1664 : Shape := ⟨2, ![2048, 1664]⟩
abbrev S1024x128 : Shape := ⟨2, ![1024, 128]⟩
abbrev S2048x128 : Shape := ⟨2, ![2048, 128]⟩
abbrev S512x1024 : Shape := ⟨2, ![512, 1024]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1664, .bf16⟩
  | .hbm, ⟨2, _⟩ => ⟨S2048x1664, .f32⟩
  | .local _ .vmem, ⟨0, _⟩ => ⟨S2048x1024, .bf16⟩
  | .local _ .vmem, ⟨1, _⟩ => ⟨S1024x128, .bf16⟩
  | .local _ .vmem, ⟨2, _⟩ => ⟨S1024x128, .bf16⟩
  | .local _ .vmem, ⟨3, _⟩ => ⟨S2048x128, .f32⟩
  | .local _ .vmem, ⟨4, _⟩ => ⟨S2048x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S2048x1024 : Shape := ⟨2, ![2048, 1024]⟩
abbrev S1024x1664 : Shape := ⟨2, ![1024, 1664]⟩
abbrev S2048x1664 : Shape := ⟨2, ![2048, 1664]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1664, .bf16⟩
  | .hbm, ⟨2, _⟩ => ⟨S2048x1024, .f32⟩
  | .hbm, ⟨3, _⟩ => ⟨S1024x1664, .f32⟩
  | .hbm, ⟨4, _⟩ => ⟨S2048x1664, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S256x512 : Shape := ⟨2, ![256, 512]⟩
abbrev S1024x512 : Shape := ⟨2, ![1024, 512]⟩
abbrev S256x1024 : Shape := ⟨2, ![256, 1024]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S256x512, .bf16⟩
  | .hbm, ⟨1, _⟩ => ⟨S1024x512, .bf16⟩
  | .hbm, ⟨2, _⟩ => ⟨S256x1024, .f32⟩
  | .hbm, ⟨3, _⟩ => ⟨S256x1024, .f32⟩
  | .local _ .vmem, ⟨0, _⟩ => ⟨S256x512, .bf16⟩
  | .local _ .vmem, ⟨1, _⟩ => ⟨S512x512, .bf16⟩
  | .local _ .vmem, ⟨2, _⟩ => ⟨S512x512, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S256x512 : Shape := ⟨2, ![256, 512]⟩
abbrev S1024x512 : Shape := ⟨2, ![1024, 512]⟩
abbrev S256x1024 : Shape := ⟨2, ![256, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S1024x512, .bf16⟩
  | .hbm, ⟨2, _⟩ => ⟨S256x1024, .f32⟩
  | .hbm, ⟨3, _⟩ => ⟨S_, .f32⟩
  | .hbm, ⟨4, _⟩ => ⟨S256x1024, .f32⟩
  | .hbm, ⟨5, _⟩ => ⟨S1024x512, .f32⟩
  | .hbm, ⟨6, _⟩ => ⟨S256x512, .f32⟩
  | .hbm, ⟨7, _⟩ => ⟨S256x512, .f32⟩
  | .hbm, ⟨8, _⟩ => ⟨S256x1024, .f32⟩
  | .hbm, ⟨9, _⟩ => ⟨S256x1024, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel24.lean ====
abbrev S256x1024 : Shape := ⟨2, ![256, 1024]⟩
abbrev S256x512 : Shape := ⟨2, ![256, 512]⟩
abbrev S1024x512 : Shape := ⟨2, ![1024, 512]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S256x512, .bf16⟩
  | .hbm, ⟨2, _⟩ => ⟨S1024x512, .bf16⟩
  | .local _ .vmem, ⟨0, _⟩ => ⟨S256x256, .bf16⟩
  | .local _ .vmem, ⟨1, _⟩ => ⟨S256x256, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S256x1024 : Shape := ⟨2, ![256, 1024]⟩
abbrev S256x512 : Shape := ⟨2, ![256, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .bf16⟩
  | .hbm, ⟨2, _⟩ => ⟨S_, .f32⟩
  | .hbm, ⟨3, _⟩ => ⟨S1024x512, .f32⟩
  | .hbm, ⟨4, _⟩ => ⟨S256x1024, .f32⟩
  | .hbm, ⟨5, _⟩ => ⟨S256x512, .f32⟩
  | .hbm, ⟨6, _⟩ => ⟨S256x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel25.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x512, .bf16⟩
  | .hbm, ⟨2, _⟩ => ⟨S256x512, .bf16⟩
  | .local _ .vmem, ⟨0, _⟩ => ⟨S256x1024, .bf16⟩
  | .local _ .vmem, ⟨1, _⟩ => ⟨S1024x512, .bf16⟩
  | .local _ .vmem, ⟨2, _⟩ => ⟨S256x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference25Ideal.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x512, .bf16⟩
  | .hbm, ⟨2, _⟩ => ⟨S256x1024, .f32⟩
  | .hbm, ⟨3, _⟩ => ⟨S1024x512, .f32⟩
  | .hbm, ⟨4, _⟩ => ⟨S256x512, .f32⟩
  | .hbm, ⟨5, _⟩ => ⟨S256x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel26.lean ====
abbrev S2048x1792 : Shape := ⟨2, ![2048, 1792]⟩
abbrev S256x512 : Shape := ⟨2, ![256, 512]⟩
abbrev S2048x256 : Shape := ⟨2, ![2048, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x1792, .f32⟩
  | .hbm, ⟨1, _⟩ => ⟨S256x512, .bf16⟩
  | .hbm, ⟨2, _⟩ => ⟨S2048x256, .f32⟩
  | .local _ .vmem, ⟨0, _⟩ => ⟨S256x256, .f32⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | .local _ .vmem, ⟨4, _⟩ => ⟨S256x256, .f32⟩
  | .local _ .vmem, ⟨5, _⟩ => ⟨S256x256, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference26Ideal.lean ====
abbrev S2048x1792 : Shape := ⟨2, ![2048, 1792]⟩
abbrev S256x512 : Shape := ⟨2, ![256, 512]⟩
abbrev S2048x256 : Shape := ⟨2, ![2048, 256]⟩
abbrev S256x256 : Shape := ⟨2, ![256, 256]⟩
abbrev S2048x4x64 : Shape := ⟨3, ![2048, 4, 64]⟩
abbrev S256x4x64 : Shape := ⟨3, ![256, 4, 64]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x64x2048 : Shape := ⟨3, ![4, 64, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S256x512, .bf16⟩
  | .hbm, ⟨2, _⟩ => ⟨S2048x256, .f32⟩
  | .hbm, ⟨3, _⟩ => ⟨S256x512, .f32⟩
  | .hbm, ⟨4, _⟩ => ⟨S256x256, .f32⟩
  | .hbm, ⟨5, _⟩ => ⟨S256x256, .f32⟩
  | .hbm, ⟨6, _⟩ => ⟨S2048x4x64, .f32⟩
  | .hbm, ⟨7, _⟩ => ⟨S256x4x64, .f32⟩
  | .hbm, ⟨8, _⟩ => ⟨S256x4x64, .f32⟩
  | .hbm, ⟨9, _⟩ => ⟨S4x2048x256, .f32⟩
  | .hbm, ⟨10, _⟩ => ⟨S_, .f32⟩
  | .hbm, ⟨11, _⟩ => ⟨S4x2048x256, .f32⟩
  | .hbm, ⟨12, _⟩ => ⟨S4x2048x256, .f32⟩
  | .hbm, ⟨13, _⟩ => ⟨S_, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048x1, .f32⟩
  | .hbm, ⟨19, _⟩ => ⟨S4x2048x256, .f32⟩
  | .hbm, ⟨20, _⟩ => ⟨S4x2048x256, .f32⟩
  | .hbm, ⟨21, _⟩ => ⟨S4x2048x256, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x2048x256, .f32⟩
  | .hbm, ⟨26, _⟩ => ⟨S4x2048x256, .f32⟩
  | .hbm, ⟨27, _⟩ => ⟨S4x64x2048, .f32⟩
  | .hbm, ⟨28, _⟩ => ⟨S2048x4x64, .f32⟩
  | .hbm, ⟨29, _⟩ => ⟨S2048x256, .f32⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel27.lean ====
abbrev S2048x1024 : Shape := ⟨2, ![2048, 1024]⟩
abbrev S256x512 : Shape := ⟨2, ![256, 512]⟩
abbrev S2048x256 : Shape := ⟨2, ![2048, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S256x512, .bf16⟩
  | .hbm, ⟨2, _⟩ => ⟨S2048x256, .f32⟩
  | .local _ .vmem, ⟨0, _⟩ => ⟨S256x256, .f32⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | .local _ .vmem, ⟨4, _⟩ => ⟨S256x256, .f32⟩
  | .local _ .vmem, ⟨5, _⟩ => ⟨S256x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference27Ideal.lean ====
abbrev S2048x1024 : Shape := ⟨2, ![2048, 1024]⟩
abbrev S256x512 : Shape := ⟨2, ![256, 512]⟩
abbrev S2048x256 : Shape := ⟨2, ![2048, 256]⟩
abbrev S256x256 : Shape := ⟨2, ![256, 256]⟩
abbrev S2048x4x64 : Shape := ⟨3, ![2048, 4, 64]⟩
abbrev S256x4x64 : Shape := ⟨3, ![256, 4, 64]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x64x2048 : Shape := ⟨3, ![4, 64, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x512, .bf16⟩
  | .hbm, ⟨2, _⟩ => ⟨S2048x256, .f32⟩
  | .hbm, ⟨3, _⟩ => ⟨S256x512, .f32⟩
  | .hbm, ⟨4, _⟩ => ⟨S256x256, .f32⟩
  | .hbm, ⟨5, _⟩ => ⟨S256x256, .f32⟩
  | .hbm, ⟨6, _⟩ => ⟨S2048x4x64, .f32⟩
  | .hbm, ⟨7, _⟩ => ⟨S256x4x64, .f32⟩
  | .hbm, ⟨8, _⟩ => ⟨S256x4x64, .f32⟩
  | .hbm, ⟨9, _⟩ => ⟨S4x2048x256, .f32⟩
  | .hbm, ⟨10, _⟩ => ⟨S_, .f32⟩
  | .hbm, ⟨11, _⟩ => ⟨S4x2048x256, .f32⟩
  | .hbm, ⟨12, _⟩ => ⟨S4x2048x256, .f32⟩
  | .hbm, ⟨13, _⟩ => ⟨S_, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048x1, .f32⟩
  | .hbm, ⟨19, _⟩ => ⟨S4x2048x256, .f32⟩
  | .hbm, ⟨20, _⟩ => ⟨S4x2048x256, .f32⟩
  | .hbm, ⟨21, _⟩ => ⟨S4x2048x256, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x2048x256, .f32⟩
  | .hbm, ⟨26, _⟩ => ⟨S4x2048x256, .f32⟩
  | .hbm, ⟨27, _⟩ => ⟨S4x64x2048, .f32⟩
  | .hbm, ⟨28, _⟩ => ⟨S2048x4x64, .f32⟩
  | .hbm, ⟨29, _⟩ => ⟨S2048x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel30.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference30Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel31.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference31Ideal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel32.lean ====
abbrev S2048x768 : Shape := ⟨2, ![2048, 768]⟩
abbrev S768 : Shape := ⟨1, ![768]⟩
abbrev S2048x256 : Shape := ⟨2, ![2048, 256]⟩
abbrev S1x768 : Shape := ⟨2, ![1, 768]⟩
abbrev S2048x1024 : Shape := ⟨2, ![2048, 1024]⟩
abbrev S256x768 : Shape := ⟨2, ![256, 768]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S2048x768, .f32⟩
  | .hbm, ⟨1, _⟩ => ⟨S768, .f32⟩
  | .hbm, ⟨2, _⟩ => ⟨S768, .f32⟩
  | .hbm, ⟨3, _⟩ => ⟨S2048x256, .f32⟩
  | .hbm, ⟨4, _⟩ => ⟨S1x768, .f32⟩
  | .hbm, ⟨5, _⟩ => ⟨S1x768, .f32⟩
  | .hbm, ⟨6, _⟩ => ⟨S2048x1024, .bf16⟩
  | .local _ .vmem, ⟨0, _⟩ => ⟨S256x768, .f32⟩
  | .local _ .vmem, ⟨1, _⟩ => ⟨S256x768, .f32⟩
  | .local _ .vmem, ⟨2, _⟩ => ⟨S1x768, .f32⟩
  | .local _ .vmem, ⟨3, _⟩ => ⟨S1x768, .f32⟩
  | .local _ .vmem, ⟨4, _⟩ => ⟨S256x256, .f32⟩
  | .local _ .vmem, ⟨5, _⟩ => ⟨S256x256, .f32⟩
  | .local _ .vmem, ⟨6, _⟩ => ⟨S256x1024, .bf16⟩
  | .local _ .vmem, ⟨7, _⟩ => ⟨S256x1024, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference32Ideal.lean ====
abbrev S2048x768 : Shape := ⟨2, ![2048, 768]⟩
abbrev S768 : Shape := ⟨1, ![768]⟩
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S1x768 : Shape := ⟨2, ![1, 768]⟩
abbrev S2048x1024 : Shape := ⟨2, ![2048, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S768, .f32⟩
  | .hbm, ⟨2, _⟩ => ⟨S768, .f32⟩
  | .hbm, ⟨3, _⟩ => ⟨S2048x256, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x768, .f32⟩
  | .hbm, ⟨11, _⟩ => ⟨S2048x768, .f32⟩
  | .hbm, ⟨12, _⟩ => ⟨S2048x768, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x768, .f32⟩
  | .hbm, ⟨20, _⟩ => ⟨S2048x768, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x768, .f32⟩
  | .hbm, ⟨26, _⟩ => ⟨S2048x768, .f32⟩
  | .hbm, ⟨27, _⟩ => ⟨S1x768, .f32⟩
  | .hbm, ⟨28, _⟩ => ⟨S2048x768, .f32⟩
  | .hbm, ⟨29, _⟩ => ⟨S2048x768, .f32⟩
  | .hbm, ⟨30, _⟩ => ⟨S1x768, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S2048x768, .f32⟩
  | .hbm, ⟨35, _⟩ => ⟨S_, .f32⟩
  | .hbm, ⟨36, _⟩ => ⟨S2048x768, .f32⟩
  | .hbm, ⟨37, _⟩ => ⟨S2048x768, .f32⟩
  | .hbm, ⟨38, _⟩ => ⟨S_, .f32⟩
  | .hbm, ⟨39, _⟩ => ⟨S2048x768, .f32⟩
  | .hbm, ⟨40, _⟩ => ⟨S2048x768, .f32⟩
  | .hbm, ⟨41, _⟩ => ⟨S2048x768, .f32⟩
  | .hbm, ⟨42, _⟩ => ⟨S2048x1024, .f32⟩
  | .hbm, ⟨43, _⟩ => ⟨S2048x1024, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Kernel33.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference33Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel34.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference34Ideal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S1024, .f32⟩
  | .hbm, ⟨25, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel35.lean ====
abbrev S2048x1024 : Shape := ⟨2, ![2048, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x1024, .f32⟩
  | .hbm, ⟨6, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_18 : BitVec 32 := 0#32
  let v50 : BitVec 1 := Scalar.cmpi .ne v49 c0_i32_18
  v50

def k0_cond2 (i : grid0.Coords) : BitVec 1 :=
  let arg0 : BitVec 32 := BitVec.ofNat 32 (i 0).val
  let c0_i32_19 : BitVec 32 := 0#32
  let v51 : BitVec 1 := Scalar.cmpi .sgt arg0 c0_i32_19
  let v52 : BitVec 32 := Scalar.extui v51
  let c0_i32_20 : BitVec 32 := 0#32
  let v53 : BitVec 1 := Scalar.cmpi .ne v52 c0_i32_20
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference35Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S8x128, .f32⟩
  | .hbm, ⟨72, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel36.lean ====
abbrev S8x144x1024 : Shape := ⟨3, ![8, 144, 1024]⟩
abbrev S144x1024 : Shape := ⟨2, ![144, 1024]⟩
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S144x1024, .f32⟩
  | .hbm, ⟨5, _⟩ => ⟨S144x1024, .f32⟩
  | .hbm, ⟨6, _⟩ => ⟨S144x1024, .f32⟩
  | .hbm, ⟨7, _⟩ => ⟨S144x1024, .f32⟩
  | .local _ .vmem, ⟨0, _⟩ => ⟨S8x16x1024, .f32⟩
  | .local _ .vmem, ⟨1, _⟩ => ⟨S8x16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | _, _ => ⟨S8x144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference36Ideal.lean ====
abbrev S8x144x1024 : Shape := ⟨3, ![8, 144, 1024]⟩
abbrev S144x1024 : Shape := ⟨2, ![144, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S_, .f32⟩
  | .hbm, ⟨5, _⟩ => ⟨S144x1024, .f32⟩
  | .hbm, ⟨6, _⟩ => ⟨S_, .f32⟩
  | .hbm, ⟨7, _⟩ => ⟨S144x1024, .f32⟩
  | .hbm, ⟨8, _⟩ => ⟨S144x1024, .f32⟩
  | .hbm, ⟨9, _⟩ => ⟨S_, .f32⟩
  | .hbm, ⟨10, _⟩ => ⟨S144x1024, .f32⟩
  | .hbm, ⟨11, _⟩ => ⟨S144x1024, .f32⟩
  | .hbm, ⟨12, _⟩ => ⟨S144x1024, .f32⟩
  | .hbm, ⟨13, _⟩ => ⟨S_, .f32⟩
  | .hbm, ⟨14, _⟩ => ⟨S144x1024, .f32⟩
  | .hbm, ⟨15, _⟩ => ⟨S144x1024, .f32⟩
  | .hbm, ⟨16, _⟩ => ⟨S144x1024, .f32⟩
  | .hbm, ⟨17, _⟩ => ⟨S_, .f32⟩
  | .hbm, ⟨18, _⟩ => ⟨S144x1024, .f32⟩
  | .hbm, ⟨19, _⟩ => ⟨S144x1024, .f32⟩
  | .hbm, ⟨20, _⟩ => ⟨S144x1024, .f32⟩
  | .hbm, ⟨21, _⟩ => ⟨S_, .f32⟩
  | .hbm, ⟨22, _⟩ => ⟨S144x1024, .f32⟩
  | .hbm, ⟨23, _⟩ => ⟨S144x1024, .f32⟩
  | .hbm, ⟨24, _⟩ => ⟨S_, .f32⟩
  | .hbm, ⟨25, _⟩ => ⟨S144x1024, .f32⟩
  | .hbm, ⟨26, _⟩ => ⟨S144x1024, .f32⟩
  | .hbm, ⟨27, _⟩ => ⟨S144x1024, .f32⟩
  | .hbm, ⟨28, _⟩ => ⟨S_, .f32⟩
  | .hbm, ⟨29, _⟩ => ⟨S144x1024, .f32⟩
  | .hbm, ⟨30, _⟩ => ⟨S144x1024, .f32⟩
  | .hbm, ⟨31, _⟩ => ⟨S144x1024, .f32⟩
  | .hbm, ⟨32, _⟩ => ⟨S_, .f32⟩
  | .hbm, ⟨33, _⟩ => ⟨S144x1024, .f32⟩
  | .hbm, ⟨34, _⟩ => ⟨S144x1024, .f32⟩
  | .hbm, ⟨35, _⟩ => ⟨S144x1024, .f32⟩
  | .hbm, ⟨36, _⟩ => ⟨S_, .f32⟩
  | .hbm, ⟨37, _⟩ => ⟨S144x1024, .f32⟩
  | .hbm, ⟨38, _⟩ => ⟨S144x1024, .f32⟩
  | _, _ => ⟨S8x144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel37.lean ====
abbrev S8x96x1024 : Shape := ⟨3, ![8, 96, 1024]⟩
abbrev S96x1024 : Shape := ⟨2, ![96, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x96x1024, .f32⟩
  | .hbm, ⟨1, _⟩ => ⟨S96x1024, .f32⟩
  | .hbm, ⟨2, _⟩ => ⟨S96x1024, .f32⟩
  | .hbm, ⟨3, _⟩ => ⟨S96x1024, .f32⟩
  | .hbm, ⟨4, _⟩ => ⟨S96x1024, .f32⟩
  | .hbm, ⟨5, _⟩ => ⟨S96x1024, .f32⟩
  | .hbm, ⟨6, _⟩ => ⟨S96x1024, .f32⟩
  | .hbm, ⟨7, _⟩ => ⟨S96x1024, .f32⟩
  | .local _ .vmem, ⟨0, _⟩ => ⟨S8x32x1024, .f32⟩
  | .local _ .vmem, ⟨1, _⟩ => ⟨S8x32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S8x96x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference37Ideal.lean ====
abbrev S8x96x1024 : Shape := ⟨3, ![8, 96, 1024]⟩
abbrev S96x1024 : Shape := ⟨2, ![96, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x96x1024, .f32⟩
  | .hbm, ⟨1, _⟩ => ⟨S96x1024, .f32⟩
  | .hbm, ⟨2, _⟩ => ⟨S96x1024, .f32⟩
  | .hbm, ⟨3, _⟩ => ⟨S96x1024, .f32⟩
  | .hbm, ⟨4, _⟩ => ⟨S_, .f32⟩
  | .hbm, ⟨5, _⟩ => ⟨S96x1024, .f32⟩
  | .hbm, ⟨6, _⟩ => ⟨S_, .f32⟩
  | .hbm, ⟨7, _⟩ => ⟨S96x1024, .f32⟩
  | .hbm, ⟨8, _⟩ => ⟨S96x1024, .f32⟩
  | .hbm, ⟨9, _⟩ => ⟨S_, .f32⟩
  | .hbm, ⟨10, _⟩ => ⟨S96x1024, .f32⟩
  | .hbm, ⟨11, _⟩ => ⟨S96x1024, .f32⟩
  | .hbm, ⟨12, _⟩ => ⟨S96x1024, .f32⟩
  | .hbm, ⟨13, _⟩ => ⟨S_, .f32⟩
  | .hbm, ⟨14, _⟩ => ⟨S96x1024, .f32⟩
  | .hbm, ⟨15, _⟩ => ⟨S96x1024, .f32⟩
  | .hbm, ⟨16, _⟩ => ⟨S96x1024, .f32⟩
  | .hbm, ⟨17, _⟩ => ⟨S_, .f32⟩
  | .hbm, ⟨18, _⟩ => ⟨S96x1024, .f32⟩
  | .hbm, ⟨19, _⟩ => ⟨S96x1024, .f32⟩
  | .hbm, ⟨20, _⟩ => ⟨S96x1024, .f32⟩
  | .hbm, ⟨21, _⟩ => ⟨S_, .f32⟩
  | .hbm, ⟨22, _⟩ => ⟨S96x1024, .f32⟩
  | .hbm, ⟨23, _⟩ => ⟨S96x1024, .f32⟩
  | .hbm, ⟨24, _⟩ => ⟨S_, .f32⟩
  | .hbm, ⟨25, _⟩ => ⟨S96x1024, .f32⟩
  | .hbm, ⟨26, _⟩ => ⟨S96x1024, .f32⟩
  | .hbm, ⟨27, _⟩ => ⟨S96x1024, .f32⟩
  | .hbm, ⟨28, _⟩ => ⟨S_, .f32⟩
  | .hbm, ⟨29, _⟩ => ⟨S96x1024, .f32⟩
  | .hbm, ⟨30, _⟩ => ⟨S96x1024, .f32⟩
  | .hbm, ⟨31, _⟩ => ⟨S96x1024, .f32⟩
  | .hbm, ⟨32, _⟩ => ⟨S_, .f32⟩
  | .hbm, ⟨33, _⟩ => ⟨S96x1024, .f32⟩
  | .hbm, ⟨34, _⟩ => ⟨S96x1024, .f32⟩
  | .hbm, ⟨35, _⟩ => ⟨S96x1024, .f32⟩
  | .hbm, ⟨36, _⟩ => ⟨S_, .f32⟩
  | .hbm, ⟨37, _⟩ => ⟨S96x1024, .f32⟩
  | .hbm, ⟨38, _⟩ => ⟨S96x1024, .f32⟩
  | _, _ => ⟨S8x96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel38.lean ====
abbrev S8x128x1548 : Shape := ⟨3, ![8, 128, 1548]⟩
abbrev S1x128x1548 : Shape := ⟨3, ![1, 128, 1548]⟩
abbrev S128x1548 : Shape := ⟨2, ![128, 1548]⟩

abbrev nBuf : Space → Nat
  | .hbm => 12
  | .vmem => 8
  | .smem => 0
  | _ => 0

abbrev bufTy : (tb : Table) → Fin (tcTables nBuf tb) → BufTy
  | .hbm, ⟨0, _⟩ => ⟨S8x128x1548, .bf16⟩
  | .hbm, ⟨1, _⟩ => ⟨S1x128x1548, .f32⟩
  | .hbm, ⟨2, _⟩ => ⟨S1x128x1548, .f32⟩
  | .hbm, ⟨3, _⟩ => ⟨S1x128x1548, .f32⟩
  | .hbm, ⟨4, _⟩ => ⟨S1x128x1548, .f32⟩
  | .hbm, ⟨5, _⟩ => ⟨S1x128x1548, .f32⟩
  | .hbm, ⟨6, _⟩ => ⟨S1x128x1548, .f32⟩
  | .hbm, ⟨7, _⟩ => ⟨S1x128x1548, .f32⟩
  | .hbm, ⟨8, _⟩ => ⟨S1x128x1548, .f32⟩
  | .hbm, ⟨9, _⟩ => ⟨S1x128x1548, .f32⟩
  | .hbm, ⟨10, _⟩ => ⟨S1x128x1548, .f32⟩
  | .hbm, ⟨11, _⟩ => ⟨S1x128x1548, .f32⟩
  | .local _ .vmem, ⟨0, _⟩ => ⟨S8x128x1548, .bf16⟩
  | .local _ .vmem, ⟨1, _⟩ => ⟨S1x128x1548, .f32⟩
  | .local _ .vmem, ⟨2, _⟩ => ⟨S1x128x1548, .f32⟩
  | .local _ .vmem, ⟨3, _⟩ => ⟨S1x128x1548, .f32⟩
  | .local _ .vmem, ⟨4, _⟩ => ⟨S1x128x1548, .f32⟩
  | .local _ .vmem, ⟨5, _⟩ => ⟨S1x128x1548, .f32⟩
  | .local _ .vmem, ⟨6, _⟩ => ⟨S1x128x1548, .f32⟩
  | .local _ .vmem, ⟨7, _⟩ => ⟨S1x128x1548, .f32⟩
  | _, _ => ⟨S8x128x1548, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1548 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1548 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1548 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1548 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1548 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1548 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1548 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1548 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference38Ideal.lean ====
abbrev S8x128x1548 : Shape := ⟨3, ![8, 128, 1548]⟩
abbrev S1x128x1548 : Shape := ⟨3, ![1, 128, 1548]⟩
abbrev S_ : Shape := ⟨0, ![]⟩
abbrev S128x1548 : Shape := ⟨2, ![128, 1548]⟩

abbrev nBuf : Space → Nat
  | .hbm => 45
  | .vmem => 0
  | .smem => 0
  | _ => 0

abbrev bufTy : (tb : Table) → Fin (tcTables nBuf tb) → BufTy
  | .hbm, ⟨0, _⟩ => ⟨S8x128x1548, .bf16⟩
  | .hbm, ⟨1, _⟩ => ⟨S1x128x1548, .f32⟩
  | .hbm, ⟨2, _⟩ => ⟨S1x128x1548, .f32⟩
  | .hbm, ⟨3, _⟩ => ⟨S1x128x1548, .f32⟩
  | .hbm, ⟨4, _⟩ => ⟨S1x128x1548, .f32⟩
  | .hbm, ⟨5, _⟩ => ⟨S1x128x1548, .f32⟩
  | .hbm, ⟨6, _⟩ => ⟨S1x128x1548, .f32⟩
  | .hbm, ⟨7, _⟩ => ⟨S1x128x1548, .f32⟩
  | .hbm, ⟨8, _⟩ => ⟨S8x128x1548, .f32⟩
  | .hbm, ⟨9, _⟩ => ⟨S_, .f32⟩
  | .hbm, ⟨10, _⟩ => ⟨S128x1548, .f32⟩
  | .hbm, ⟨11, _⟩ => ⟨S1x128x1548, .f32⟩
  | .hbm, ⟨12, _⟩ => ⟨S_, .f32⟩
  | .hbm, ⟨13, _⟩ => ⟨S1x128x1548, .f32⟩
  | .hbm, ⟨14, _⟩ => ⟨S1x128x1548, .f32⟩
  | .hbm, ⟨15, _⟩ => ⟨S_, .f32⟩
  | .hbm, ⟨16, _⟩ => ⟨S1x128x1548, .f32⟩
  | .hbm, ⟨17, _⟩ => ⟨S1x128x1548, .f32⟩
  | .hbm, ⟨18, _⟩ => ⟨S1x128x1548, .f32⟩
  | .hbm, ⟨19, _⟩ => ⟨S_, .f32⟩
  | .hbm, ⟨20, _⟩ => ⟨S1x128x1548, .f32⟩
  | .hbm, ⟨21, _⟩ => ⟨S1x128x1548, .f32⟩
  | .hbm, ⟨22, _⟩ => ⟨S1x128x1548, .f32⟩
  | .hbm, ⟨23, _⟩ => ⟨S_, .f32⟩
  | .hbm, ⟨24, _⟩ => ⟨S1x128x1548, .f32⟩
  | .hbm, ⟨25, _⟩ => ⟨S1x128x1548, .f32⟩
  | .hbm, ⟨26, _⟩ => ⟨S1x128x1548, .f32⟩
  | .hbm, ⟨27, _⟩ => ⟨S_, .f32⟩
  | .hbm, ⟨28, _⟩ => ⟨S1x128x1548, .f32⟩
  | .hbm, ⟨29, _⟩ => ⟨S1x128x1548, .f32⟩
  | .hbm, ⟨30, _⟩ => ⟨S_, .f32⟩
  | .hbm, ⟨31, _⟩ => ⟨S1x128x1548, .f32⟩
  | .hbm, ⟨32, _⟩ => ⟨S1x128x1548, .f32⟩
  | .hbm, ⟨33, _⟩ => ⟨S1x128x1548, .f32⟩
  | .hbm, ⟨34, _⟩ => ⟨S_, .f32⟩
  | .hbm, ⟨35, _⟩ => ⟨S1x128x1548, .f32⟩
  | .hbm, ⟨36, _⟩ => ⟨S1x128x1548, .f32⟩
  | .hbm, ⟨37, _⟩ => ⟨S1x128x1548, .f32⟩
  | .hbm, ⟨38, _⟩ => ⟨S_, .f32⟩
  | .hbm, ⟨39, _⟩ => ⟨S1x128x1548, .f32⟩
  | .hbm, ⟨40, _⟩ => ⟨S1x128x1548, .f32⟩
  | .hbm, ⟨41, _⟩ => ⟨S1x128x1548, .f32⟩
  | .hbm, ⟨42, _⟩ => ⟨S_, .f32⟩
  | .hbm, ⟨43, _⟩ => ⟨S1x128x1548, .f32⟩
  | .hbm, ⟨44, _⟩ => ⟨S1x128x1548, .f32⟩
  | _, _ => ⟨S8x128x1548, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Kernel39.lean ====
abbrev S8x224x1024 : Shape := ⟨3, ![8, 224, 1024]⟩
abbrev S2x224x1024 : Shape := ⟨3, ![2, 224, 1024]⟩
abbrev S8x112x1024 : Shape := ⟨3, ![8, 112, 1024]⟩
abbrev S1x112x1024 : Shape := ⟨3, ![1, 112, 1024]⟩
abbrev S112x1024 : Shape := ⟨2, ![112, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x224x1024, .bf16⟩
  | .hbm, ⟨1, _⟩ => ⟨S2x224x1024, .f32⟩
  | .hbm, ⟨2, _⟩ => ⟨S2x224x1024, .f32⟩
  | .hbm, ⟨3, _⟩ => ⟨S2x224x1024, .f32⟩
  | .hbm, ⟨4, _⟩ => ⟨S2x224x1024, .f32⟩
  | .hbm, ⟨5, _⟩ => ⟨S2x224x1024, .f32⟩
  | .hbm, ⟨6, _⟩ => ⟨S2x224x1024, .f32⟩
  | .hbm, ⟨7, _⟩ => ⟨S2x224x1024, .f32⟩
  | .hbm, ⟨8, _⟩ => ⟨S2x224x1024, .f32⟩
  | .hbm, ⟨9, _⟩ => ⟨S2x224x1024, .f32⟩
  | .hbm, ⟨10, _⟩ => ⟨S2x224x1024, .f32⟩
  | .hbm, ⟨11, _⟩ => ⟨S2x224x1024, .f32⟩
  | .local _ .vmem, ⟨0, _⟩ => ⟨S8x112x1024, .bf16⟩
  | .local _ .vmem, ⟨1, _⟩ => ⟨S8x112x1024, .bf16⟩
  | .local _ .vmem, ⟨2, _⟩ => ⟨S1x112x1024, .f32⟩
  | .local _ .vmem, ⟨3, _⟩ => ⟨S1x112x1024, .f32⟩
  | .local _ .vmem, ⟨4, _⟩ => ⟨S1x112x1024, .f32⟩
  | .local _ .vmem, ⟨5, _⟩ => ⟨S1x112x1024, .f32⟩
  | .local _ .vmem, ⟨6, _⟩ => ⟨S1x112x1024, .f32⟩
  | .local _ .vmem, ⟨7, _⟩ => ⟨S1x112x1024, .f32⟩
  | .local _ .vmem, ⟨8, _⟩ => ⟨S1x112x1024, .f32⟩
  | .local _ .vmem, ⟨9, _⟩ => ⟨S1x112x1024, .f32⟩
  | .local _ .vmem, ⟨10, _⟩ => ⟨S1x112x1024, .f32⟩
  | .local _ .vmem, ⟨11, _⟩ => ⟨S1x112x1024, .f32⟩
  | .local _ .vmem, ⟨12, _⟩ => ⟨S1x112x1024, .f32⟩
  | .local _ .vmem, ⟨13, _⟩ => ⟨S1x112x1024, .f32⟩
  | .local _ .vmem, ⟨14, _⟩ => ⟨S1x112x1024, .f32⟩
  | .local _ .vmem, ⟨15, _⟩ => ⟨S1x112x1024, .f32⟩
  | _, _ => ⟨S8x224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x112x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x112x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x112x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x112x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x112x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x112x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference39Ideal.lean ====
abbrev S8x224x1024 : Shape := ⟨3, ![8, 224, 1024]⟩
abbrev S2x224x1024 : Shape := ⟨3, ![2, 224, 1024]⟩
abbrev S_ : Shape := ⟨0, ![]⟩
abbrev S224x1024 : Shape := ⟨2, ![224, 1024]⟩
abbrev S1x224x1024 : Shape := ⟨3, ![1, 224, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x224x1024, .bf16⟩
  | .hbm, ⟨1, _⟩ => ⟨S2x224x1024, .f32⟩
  | .hbm, ⟨2, _⟩ => ⟨S2x224x1024, .f32⟩
  | .hbm, ⟨3, _⟩ => ⟨S2x224x1024, .f32⟩
  | .hbm, ⟨4, _⟩ => ⟨S2x224x1024, .f32⟩
  | .hbm, ⟨5, _⟩ => ⟨S2x224x1024, .f32⟩
  | .hbm, ⟨6, _⟩ => ⟨S2x224x1024, .f32⟩
  | .hbm, ⟨7, _⟩ => ⟨S2x224x1024, .f32⟩
  | .hbm, ⟨8, _⟩ => ⟨S8x224x1024, .f32⟩
  | .hbm, ⟨9, _⟩ => ⟨S_, .f32⟩
  | .hbm, ⟨10, _⟩ => ⟨S224x1024, .f32⟩
  | .hbm, ⟨11, _⟩ => ⟨S1x224x1024, .f32⟩
  | .hbm, ⟨12, _⟩ => ⟨S224x1024, .f32⟩
  | .hbm, ⟨13, _⟩ => ⟨S1x224x1024, .f32⟩
  | .hbm, ⟨14, _⟩ => ⟨S224x1024, .f32⟩
  | .hbm, ⟨15, _⟩ => ⟨S1x224x1024, .f32⟩
  | .hbm, ⟨16, _⟩ => ⟨S224x1024, .f32⟩
  | .hbm, ⟨17, _⟩ => ⟨S_, .f32⟩
  | .hbm, ⟨18, _⟩ => ⟨S224x1024, .f32⟩
  | .hbm, ⟨19, _⟩ => ⟨S224x1024, .f32⟩
  | .hbm, ⟨20, _⟩ => ⟨S_, .f32⟩
  | .hbm, ⟨21, _⟩ => ⟨S224x1024, .f32⟩
  | .hbm, ⟨22, _⟩ => ⟨S224x1024, .f32⟩
  | .hbm, ⟨23, _⟩ => ⟨S224x1024, .f32⟩
  | .hbm, ⟨24, _⟩ => ⟨S_, .f32⟩
  | .hbm, ⟨25, _⟩ => ⟨S224x1024, .f32⟩
  | .hbm, ⟨26, _⟩ => ⟨S224x1024, .f32⟩
  | .hbm, ⟨27, _⟩ => ⟨S224x1024, .f32⟩
  | .hbm, ⟨28, _⟩ => ⟨S_, .f32⟩
  | .hbm, ⟨29, _⟩ => ⟨S224x1024, .f32⟩
  | .hbm, ⟨30, _⟩ => ⟨S224x1024, .f32⟩
  | .hbm, ⟨31, _⟩ => ⟨S224x1024, .f32⟩
  | .hbm, ⟨32, _⟩ => ⟨S_, .f32⟩
  | .hbm, ⟨33, _⟩ => ⟨S224x1024, .f32⟩
  | .hbm, ⟨34, _⟩ => ⟨S224x1024, .f32⟩
  | .hbm, ⟨35, _⟩ => ⟨S_, .f32⟩
  | .hbm, ⟨36, _⟩ => ⟨S224x1024, .f32⟩
  | .hbm, ⟨37, _⟩ => ⟨S224x1024, .f32⟩
  | .hbm, ⟨38, _⟩ => ⟨S224x1024, .f32⟩
  | .hbm, ⟨39, _⟩ => ⟨S_, .f32⟩
  | .hbm, ⟨40, _⟩ => ⟨S224x1024, .f32⟩
  | .hbm, ⟨41, _⟩ => ⟨S224x1024, .f32⟩
  | .hbm, ⟨42, _⟩ => ⟨S224x1024, .f32⟩
  | .hbm, ⟨43, _⟩ => ⟨S_, .f32⟩
  | .hbm, ⟨44, _⟩ => ⟨S224x1024, .f32⟩
  | .hbm, ⟨45, _⟩ => ⟨S224x1024, .f32⟩
  | .hbm, ⟨46, _⟩ => ⟨S224x1024, .f32⟩
  | .hbm, ⟨47, _⟩ => ⟨S_, .f32⟩
  | .hbm, ⟨48, _⟩ => ⟨S224x1024, .f32⟩
  | .hbm, ⟨49, _⟩ => ⟨S224x1024, .f32⟩
  | .hbm, ⟨50, _⟩ => ⟨S1x224x1024, .f32⟩
  | .hbm, ⟨51, _⟩ => ⟨S1x224x1024, .f32⟩
  | .hbm, ⟨52, _⟩ => ⟨S2x224x1024, .f32⟩
  | .hbm, ⟨53, _⟩ => ⟨S1x224x1024, .f32⟩
  | .hbm, ⟨54, _⟩ => ⟨S1x224x1024, .f32⟩
  | .hbm, ⟨55, _⟩ => ⟨S2x224x1024, .f32⟩
  | .hbm, ⟨56, _⟩ => ⟨S1x224x1024, .f32⟩
  | .hbm, ⟨57, _⟩ => ⟨S1x224x1024, .f32⟩
  | .hbm, ⟨58, _⟩ => ⟨S2x224x1024, .f32⟩
  | .hbm, ⟨59, _⟩ => ⟨S1x224x1024, .f32⟩
  | .hbm, ⟨60, _⟩ => ⟨S1x224x1024, .f32⟩
  | .hbm, ⟨61, _⟩ => ⟨S2x224x1024, .f32⟩
  | _, _ => ⟨S8x224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel40.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference40Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S128x1024, .f32⟩
  | .hbm, ⟨13, _⟩ => ⟨S1x128x1024, .f32⟩
  | .hbm, ⟨14, _⟩ => ⟨S128x1024, .f32⟩
  | .hbm, ⟨15, _⟩ => ⟨S1x128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S1x128x1024, .f32⟩
  | .hbm, ⟨51, _⟩ => ⟨S1x128x1024, .f32⟩
  | .hbm, ⟨52, _⟩ => ⟨S2x128x1024, .f32⟩
  | .hbm, ⟨53, _⟩ => ⟨S1x128x1024, .f32⟩
  | .hbm, ⟨54, _⟩ => ⟨S1x128x1024, .f32⟩
  | .hbm, ⟨55, _⟩ => ⟨S2x128x1024, .f32⟩
  | .hbm, ⟨56, _⟩ => ⟨S1x128x1024, .f32⟩
  | .hbm, ⟨57, _⟩ => ⟨S1x128x1024, .f32⟩
  | .hbm, ⟨58, _⟩ => ⟨S2x128x1024, .f32⟩
  | .hbm, ⟨59, _⟩ => ⟨S1x128x1024, .f32⟩
  | .hbm, ⟨60, _⟩ => ⟨S1x128x1024, .f32⟩
  | .hbm, ⟨61, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel41.lean ====
abbrev S8x128x512 : Shape := ⟨3, ![8, 128, 512]⟩
abbrev S4x128x512 : Shape := ⟨3, ![4, 128, 512]⟩
abbrev S1x128x512 : Shape := ⟨3, ![1, 128, 512]⟩
abbrev S128x512 : Shape := ⟨2, ![128, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x128x512, .bf16⟩
  | .hbm, ⟨1, _⟩ => ⟨S4x128x512, .f32⟩
  | .hbm, ⟨2, _⟩ => ⟨S4x128x512, .f32⟩
  | .hbm, ⟨3, _⟩ => ⟨S4x128x512, .f32⟩
  | .hbm, ⟨4, _⟩ => ⟨S4x128x512, .f32⟩
  | .hbm, ⟨5, _⟩ => ⟨S4x128x512, .f32⟩
  | .hbm, ⟨6, _⟩ => ⟨S4x128x512, .f32⟩
  | .hbm, ⟨7, _⟩ => ⟨S4x128x512, .f32⟩
  | .hbm, ⟨8, _⟩ => ⟨S4x128x512, .f32⟩
  | .hbm, ⟨9, _⟩ => ⟨S4x128x512, .f32⟩
  | .hbm, ⟨10, _⟩ => ⟨S4x128x512, .f32⟩
  | .hbm, ⟨11, _⟩ => ⟨S4x128x512, .f32⟩
  | .local _ .vmem, ⟨0, _⟩ => ⟨S8x128x512, .bf16⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | _, _ => ⟨S8x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference41Ideal.lean ====
abbrev S8x128x512 : Shape := ⟨3, ![8, 128, 512]⟩
abbrev S4x128x512 : Shape := ⟨3, ![4, 128, 512]⟩
abbrev S_ : Shape := ⟨0, ![]⟩
abbrev S128x512 : Shape := ⟨2, ![128, 512]⟩
abbrev S1x128x512 : Shape := ⟨3, ![1, 128, 512]⟩
abbrev S3x128x512 : Shape := ⟨3, ![3, 128, 512]⟩

abbrev nBuf : Space → Nat
  | .hbm => 62
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S4x128x512, .f32⟩
  | .hbm, ⟨2, _⟩ => ⟨S4x128x512, .f32⟩
  | .hbm, ⟨3, _⟩ => ⟨S4x128x512, .f32⟩
  | .hbm, ⟨4, _⟩ => ⟨S4x128x512, .f32⟩
  | .hbm, ⟨5, _⟩ => ⟨S4x128x512, .f32⟩
  | .hbm, ⟨6, _⟩ => ⟨S4x128x512, .f32⟩
  | .hbm, ⟨7, _⟩ => ⟨S4x128x512, .f32⟩
  | .hbm, ⟨8, _⟩ => ⟨S8x128x512, .f32⟩
  | .hbm, ⟨9, _⟩ => ⟨S_, .f32⟩
  | .hbm, ⟨10, _⟩ => ⟨S128x512, .f32⟩
  | .hbm, ⟨11, _⟩ => ⟨S1x128x512, .f32⟩
  | .hbm, ⟨12, _⟩ => ⟨S128x512, .f32⟩
  | .hbm, ⟨13, _⟩ => ⟨S1x128x512, .f32⟩
  | .hbm, ⟨14, _⟩ => ⟨S128x512, .f32⟩
  | .hbm, ⟨15, _⟩ => ⟨S1x128x512, .f32⟩
  | .hbm, ⟨16, _⟩ => ⟨S128x512, .f32⟩
  | .hbm, ⟨17, _⟩ => ⟨S_, .f32⟩
  | .hbm, ⟨18, _⟩ => ⟨S128x512, .f32⟩
  | .hbm, ⟨19, _⟩ => ⟨S128x512, .f32⟩
  | .hbm, ⟨20, _⟩ => ⟨S_, .f32⟩
  | .hbm, ⟨21, _⟩ => ⟨S128x512, .f32⟩
  | .hbm, ⟨22, _⟩ => ⟨S128x512, .f32⟩
  | .hbm, ⟨23, _⟩ => ⟨S128x512, .f32⟩
  | .hbm, ⟨24, _⟩ => ⟨S_, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S_, .f32⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S_, .f32⟩
  | .hbm, ⟨33, _⟩ => ⟨S128x512, .f32⟩
  | .hbm, ⟨34, _⟩ => ⟨S128x512, .f32⟩
  | .hbm, ⟨35, _⟩ => ⟨S_, .f32⟩
  | .hbm, ⟨36, _⟩ => ⟨S128x512, .f32⟩
  | .hbm, ⟨37, _⟩ => ⟨S128x512, .f32⟩
  | .hbm, ⟨38, _⟩ => ⟨S128x512, .f32⟩
  | .hbm, ⟨39, _⟩ => ⟨S_, .f32⟩
  | .hbm, ⟨40, _⟩ => ⟨S128x512, .f32⟩
  | .hbm, ⟨41, _⟩ => ⟨S128x512, .f32⟩
  | .hbm, ⟨42, _⟩ => ⟨S128x512, .f32⟩
  | .hbm, ⟨43, _⟩ => ⟨S_, .f32⟩
  | .hbm, ⟨44, _⟩ => ⟨S128x512, .f32⟩
  | .hbm, ⟨45, _⟩ => ⟨S128x512, .f32⟩
  | .hbm, ⟨46, _⟩ => ⟨S128x512, .f32⟩
  | .hbm, ⟨47, _⟩ => ⟨S_, .f32⟩
  | .hbm, ⟨48, _⟩ => ⟨S128x512, .f32⟩
  | .hbm, ⟨49, _⟩ => ⟨S128x512, .f32⟩
  | .hbm, ⟨50, _⟩ => ⟨S1x128x512, .f32⟩
  | .hbm, ⟨51, _⟩ => ⟨S3x128x512, .f32⟩
  | .hbm, ⟨52, _⟩ => ⟨S4x128x512, .f32⟩
  | .hbm, ⟨53, _⟩ => ⟨S1x128x512, .f32⟩
  | .hbm, ⟨54, _⟩ => ⟨S3x128x512, .f32⟩
  | .hbm, ⟨55, _⟩ => ⟨S4x128x512, .f32⟩
  | .hbm, ⟨56, _⟩ => ⟨S1x128x512, .f32⟩
  | .hbm, ⟨57, _⟩ => ⟨S3x128x512, .f32⟩
  | .hbm, ⟨58, _⟩ => ⟨S4x128x512, .f32⟩
  | .hbm, ⟨59, _⟩ => ⟨S1x128x512, .f32⟩
  | .hbm, ⟨60, _⟩ => ⟨S3x128x512, .f32⟩
  | .hbm, ⟨61, _⟩ => ⟨S4x128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel42.lean ====
abbrev S8x128x1024 : Shape := ⟨3, ![8, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference42Ideal.lean ====
abbrev S8x128x1024 : Shape := ⟨3, ![8, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩
abbrev S3x128x1024 : Shape := ⟨3, ![3, 128, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S128x1024, .f32⟩
  | .hbm, ⟨13, _⟩ => ⟨S1x128x1024, .f32⟩
  | .hbm, ⟨14, _⟩ => ⟨S128x1024, .f32⟩
  | .hbm, ⟨15, _⟩ => ⟨S1x128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S1x128x1024, .f32⟩
  | .hbm, ⟨51, _⟩ => ⟨S3x128x1024, .f32⟩
  | .hbm, ⟨52, _⟩ => ⟨S4x128x1024, .f32⟩
  | .hbm, ⟨53, _⟩ => ⟨S1x128x1024, .f32⟩
  | .hbm, ⟨54, _⟩ => ⟨S3x128x1024, .f32⟩
  | .hbm, ⟨55, _⟩ => ⟨S4x128x1024, .f32⟩
  | .hbm, ⟨56, _⟩ => ⟨S1x128x1024, .f32⟩
  | .hbm, ⟨57, _⟩ => ⟨S3x128x1024, .f32⟩
  | .hbm, ⟨58, _⟩ => ⟨S4x128x1024, .f32⟩
  | .hbm, ⟨59, _⟩ => ⟨S1x128x1024, .f32⟩
  | .hbm, ⟨60, _⟩ => ⟨S3x128x1024, .f32⟩
  | .hbm, ⟨61, _⟩ => ⟨S4x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel43.lean ====
abbrev S8x704x1024 : Shape := ⟨3, ![8, 704, 1024]⟩
abbrev S4x704x1024 : Shape := ⟨3, ![4, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference43Ideal.lean ====
abbrev S8x704x1024 : Shape := ⟨3, ![8, 704, 1024]⟩
abbrev S4x704x1024 : Shape := ⟨3, ![4, 704, 1024]⟩
abbrev S_ : Shape := ⟨0, ![]⟩
abbrev S704x1024 : Shape := ⟨2, ![704, 1024]⟩
abbrev S1x704x1024 : Shape := ⟨3, ![1, 704, 1024]⟩
abbrev S3x704x1024 : Shape := ⟨3, ![3, 704, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S704x1024, .f32⟩
  | .hbm, ⟨13, _⟩ => ⟨S1x704x1024, .f32⟩
  | .hbm, ⟨14, _⟩ => ⟨S704x1024, .f32⟩
  | .hbm, ⟨15, _⟩ => ⟨S1x704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S_, .f32⟩
  | .hbm, ⟨40, _⟩ => ⟨S704x1024, .f32⟩
  | .hbm, ⟨41, _⟩ => ⟨S704x1024, .f32⟩
  | .hbm, ⟨42, _⟩ => ⟨S704x1024, .f32⟩
  | .hbm, ⟨43, _⟩ => ⟨S_, .f32⟩
  | .hbm, ⟨44, _⟩ => ⟨S704x1024, .f32⟩
  | .hbm, ⟨45, _⟩ => ⟨S704x1024, .f32⟩
  | .hbm, ⟨46, _⟩ => ⟨S704x1024, .f32⟩
  | .hbm, ⟨47, _⟩ => ⟨S_, .f32⟩
  | .hbm, ⟨48, _⟩ => ⟨S704x1024, .f32⟩
  | .hbm, ⟨49, _⟩ => ⟨S704x1024, .f32⟩
  | .hbm, ⟨50, _⟩ => ⟨S1x704x1024, .f32⟩
  | .hbm, ⟨51, _⟩ => ⟨S3x704x1024, .f32⟩
  | .hbm, ⟨52, _⟩ => ⟨S4x704x1024, .f32⟩
  | .hbm, ⟨53, _⟩ => ⟨S1x704x1024, .f32⟩
  | .hbm, ⟨54, _⟩ => ⟨S3x704x1024, .f32⟩
  | .hbm, ⟨55, _⟩ => ⟨S4x704x1024, .f32⟩
  | .hbm, ⟨56, _⟩ => ⟨S1x704x1024, .f32⟩
  | .hbm, ⟨57, _⟩ => ⟨S3x704x1024, .f32⟩
  | .hbm, ⟨58, _⟩ => ⟨S4x704x1024, .f32⟩
  | .hbm, ⟨59, _⟩ => ⟨S1x704x1024, .f32⟩
  | .hbm, ⟨60, _⟩ => ⟨S3x704x1024, .f32⟩
  | .hbm, ⟨61, _⟩ => ⟨S4x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel44.lean ====
abbrev S8x352x1024 : Shape := ⟨3, ![8, 352, 1024]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference44Ideal.lean ====
abbrev S8x352x1024 : Shape := ⟨3, ![8, 352, 1024]⟩
abbrev S4x352x1024 : Shape := ⟨3, ![4, 352, 1024]⟩
abbrev S_ : Shape := ⟨0, ![]⟩
abbrev S352x1024 : Shape := ⟨2, ![352, 1024]⟩
abbrev S1x352x1024 : Shape := ⟨3, ![1, 352, 1024]⟩
abbrev S3x352x1024 : Shape := ⟨3, ![3, 352, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S352x1024, .f32⟩
  | .hbm, ⟨13, _⟩ => ⟨S1x352x1024, .f32⟩
  | .hbm, ⟨14, _⟩ => ⟨S352x1024, .f32⟩
  | .hbm, ⟨15, _⟩ => ⟨S1x352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | .hbm, ⟨42, _⟩ => ⟨S352x1024, .f32⟩
  | .hbm, ⟨43, _⟩ => ⟨S_, .f32⟩
  | .hbm, ⟨44, _⟩ => ⟨S352x1024, .f32⟩
  | .hbm, ⟨45, _⟩ => ⟨S352x1024, .f32⟩
  | .hbm, ⟨46, _⟩ => ⟨S352x1024, .f32⟩
  | .hbm, ⟨47, _⟩ => ⟨S_, .f32⟩
  | .hbm, ⟨48, _⟩ => ⟨S352x1024, .f32⟩
  | .hbm, ⟨49, _⟩ => ⟨S352x1024, .f32⟩
  | .hbm, ⟨50, _⟩ => ⟨S1x352x1024, .f32⟩
  | .hbm, ⟨51, _⟩ => ⟨S3x352x1024, .f32⟩
  | .hbm, ⟨52, _⟩ => ⟨S4x352x1024, .f32⟩
  | .hbm, ⟨53, _⟩ => ⟨S1x352x1024, .f32⟩
  | .hbm, ⟨54, _⟩ => ⟨S3x352x1024, .f32⟩
  | .hbm, ⟨55, _⟩ => ⟨S4x352x1024, .f32⟩
  | .hbm, ⟨56, _⟩ => ⟨S1x352x1024, .f32⟩
  | .hbm, ⟨57, _⟩ => ⟨S3x352x1024, .f32⟩
  | .hbm, ⟨58, _⟩ => ⟨S4x352x1024, .f32⟩
  | .hbm, ⟨59, _⟩ => ⟨S1x352x1024, .f32⟩
  | .hbm, ⟨60, _⟩ => ⟨S3x352x1024, .f32⟩
  | .hbm, ⟨61, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel28.lean ====
abbrev S2048x1792 : Shape := ⟨2, ![2048, 1792]⟩
abbrev S256x512 : Shape := ⟨2, ![256, 512]⟩
abbrev S2048x1024 : Shape := ⟨2, ![2048, 1024]⟩
abbrev S2048x256 : Shape := ⟨2, ![2048, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1792, .f32⟩
  | .hbm, ⟨1, _⟩ => ⟨S256x512, .bf16⟩
  | .hbm, ⟨2, _⟩ => ⟨S2048x1024, .f32⟩
  | .hbm, ⟨3, _⟩ => ⟨S2048x256, .f32⟩
  | .hbm, ⟨4, _⟩ => ⟨S256x256, .f32⟩
  | .hbm, ⟨5, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference28Ideal.lean ====
abbrev S2048x1792 : Shape := ⟨2, ![2048, 1792]⟩
abbrev S256x512 : Shape := ⟨2, ![256, 512]⟩
abbrev S2048x1024 : Shape := ⟨2, ![2048, 1024]⟩
abbrev S2048x256 : Shape := ⟨2, ![2048, 256]⟩
abbrev S256x256 : Shape := ⟨2, ![256, 256]⟩
abbrev S2048x4x64 : Shape := ⟨3, ![2048, 4, 64]⟩
abbrev S256x4x64 : Shape := ⟨3, ![256, 4, 64]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x64x2048 : Shape := ⟨3, ![4, 64, 2048]⟩
abbrev S4x64x256 : Shape := ⟨3, ![4, 64, 256]⟩
abbrev S4x256x64 : Shape := ⟨3, ![4, 256, 64]⟩
abbrev S4x2048x64 : Shape := ⟨3, ![4, 2048, 64]⟩

abbrev nBuf : Space → Nat
  | .hbm => 85
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S256x512, .bf16⟩
  | .hbm, ⟨2, _⟩ => ⟨S2048x1024, .f32⟩
  | .hbm, ⟨3, _⟩ => ⟨S2048x256, .f32⟩
  | .hbm, ⟨4, _⟩ => ⟨S256x512, .f32⟩
  | .hbm, ⟨5, _⟩ => ⟨S256x256, .f32⟩
  | .hbm, ⟨6, _⟩ => ⟨S256x256, .f32⟩
  | .hbm, ⟨7, _⟩ => ⟨S2048x4x64, .f32⟩
  | .hbm, ⟨8, _⟩ => ⟨S256x4x64, .f32⟩
  | .hbm, ⟨9, _⟩ => ⟨S256x4x64, .f32⟩
  | .hbm, ⟨10, _⟩ => ⟨S4x2048x256, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S4x2048x256, .f32⟩
  | .hbm, ⟨18, _⟩ => ⟨S4x2048x256, .i1⟩
  | .hbm, ⟨19, _⟩ => ⟨S4x2048x256, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S4x2048, .f32⟩
  | .hbm, ⟨39, _⟩ => ⟨S4x2048x1, .f32⟩
  | .hbm, ⟨40, _⟩ => ⟨S4x2048x256, .f32⟩
  | .hbm, ⟨41, _⟩ => ⟨S4x2048x256, .f32⟩
  | .hbm, ⟨42, _⟩ => ⟨S4x2048x256, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S4x2048x256, .f32⟩
  | .hbm, ⟨47, _⟩ => ⟨S4x2048x256, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x64x2048, .f32⟩
  | .hbm, ⟨53, _⟩ => ⟨S2048x4x64, .f32⟩
  | .hbm, ⟨54, _⟩ => ⟨S2048x256, .f32⟩
  | .hbm, ⟨55, _⟩ => ⟨S2048x256, .f32⟩
  | .hbm, ⟨56, _⟩ => ⟨S2048x4x64, .f32⟩
  | .hbm, ⟨57, _⟩ => ⟨S4x64x2048, .f32⟩
  | .hbm, ⟨58, _⟩ => ⟨S4x2048x256, .f32⟩
  | .hbm, ⟨59, _⟩ => ⟨S4x64x256, .f32⟩
  | .hbm, ⟨60, _⟩ => ⟨S256x4x64, .f32⟩
  | .hbm, ⟨61, _⟩ => ⟨S4x2048x256, .f32⟩
  | .hbm, ⟨62, _⟩ => ⟨S4x2048x256, .f32⟩
  | .hbm, ⟨63, _⟩ => ⟨S4x2048x256, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1, .f32⟩
  | .hbm, ⟨68, _⟩ => ⟨S4x2048x256, .f32⟩
  | .hbm, ⟨69, _⟩ => ⟨S4x2048x256, .f32⟩
  | .hbm, ⟨70, _⟩ => ⟨S_, .f32⟩
  | .hbm, ⟨71, _⟩ => ⟨S4x2048, .f32⟩
  | .hbm, ⟨72, _⟩ => ⟨S4x2048x256, .f32⟩
  | .hbm, ⟨73, _⟩ => ⟨S4x2048x256, .f32⟩
  | .hbm, ⟨74, _⟩ => ⟨S4x2048x256, .f32⟩
  | .hbm, ⟨75, _⟩ => ⟨S_, .f32⟩
  | .hbm, ⟨76, _⟩ => ⟨S4x2048x256, .f32⟩
  | .hbm, ⟨77, _⟩ => ⟨S4x2048x256, .f32⟩
  | .hbm, ⟨78, _⟩ => ⟨S4x256x64, .f32⟩
  | .hbm, ⟨79, _⟩ => ⟨S256x4x64, .f32⟩
  | .hbm, ⟨80, _⟩ => ⟨S4x2048x64, .f32⟩
  | .hbm, ⟨81, _⟩ => ⟨S2048x4x64, .f32⟩
  | .hbm, ⟨82, _⟩ => ⟨S256x256, .f32⟩
  | .hbm, ⟨83, _⟩ => ⟨S256x256, .f32⟩
  | .hbm, ⟨84, _⟩ => ⟨S2048x256, .f32⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Kernel29.lean ====
abbrev S2048x1024 : Shape := ⟨2, ![2048, 1024]⟩
abbrev S256x512 : Shape := ⟨2, ![256, 512]⟩
abbrev S2048x256 : Shape := ⟨2, ![2048, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S256x512, .bf16⟩
  | .hbm, ⟨2, _⟩ => ⟨S2048x1024, .f32⟩
  | .hbm, ⟨3, _⟩ => ⟨S2048x256, .f32⟩
  | .hbm, ⟨4, _⟩ => ⟨S256x256, .f32⟩
  | .hbm, ⟨5, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference29Ideal.lean ====
abbrev S2048x1024 : Shape := ⟨2, ![2048, 1024]⟩
abbrev S256x512 : Shape := ⟨2, ![256, 512]⟩
abbrev S2048x256 : Shape := ⟨2, ![2048, 256]⟩
abbrev S256x256 : Shape := ⟨2, ![256, 256]⟩
abbrev S2048x4x64 : Shape := ⟨3, ![2048, 4, 64]⟩
abbrev S256x4x64 : Shape := ⟨3, ![256, 4, 64]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x64x2048 : Shape := ⟨3, ![4, 64, 2048]⟩
abbrev S4x64x256 : Shape := ⟨3, ![4, 64, 256]⟩
abbrev S4x256x64 : Shape := ⟨3, ![4, 256, 64]⟩
abbrev S4x2048x64 : Shape := ⟨3, ![4, 2048, 64]⟩

abbrev nBuf : Space → Nat
  | .hbm => 85
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x512, .bf16⟩
  | .hbm, ⟨2, _⟩ => ⟨S2048x1024, .f32⟩
  | .hbm, ⟨3, _⟩ => ⟨S2048x256, .f32⟩
  | .hbm, ⟨4, _⟩ => ⟨S256x512, .f32⟩
  | .hbm, ⟨5, _⟩ => ⟨S256x256, .f32⟩
  | .hbm, ⟨6, _⟩ => ⟨S256x256, .f32⟩
  | .hbm, ⟨7, _⟩ => ⟨S2048x4x64, .f32⟩
  | .hbm, ⟨8, _⟩ => ⟨S256x4x64, .f32⟩
  | .hbm, ⟨9, _⟩ => ⟨S256x4x64, .f32⟩
  | .hbm, ⟨10, _⟩ => ⟨S4x2048x256, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S4x2048x256, .f32⟩
  | .hbm, ⟨18, _⟩ => ⟨S4x2048x256, .i1⟩
  | .hbm, ⟨19, _⟩ => ⟨S4x2048x256, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S4x2048, .f32⟩
  | .hbm, ⟨39, _⟩ => ⟨S4x2048x1, .f32⟩
  | .hbm, ⟨40, _⟩ => ⟨S4x2048x256, .f32⟩
  | .hbm, ⟨41, _⟩ => ⟨S4x2048x256, .f32⟩
  | .hbm, ⟨42, _⟩ => ⟨S4x2048x256, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S4x2048x256, .f32⟩
  | .hbm, ⟨47, _⟩ => ⟨S4x2048x256, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x64x2048, .f32⟩
  | .hbm, ⟨53, _⟩ => ⟨S2048x4x64, .f32⟩
  | .hbm, ⟨54, _⟩ => ⟨S2048x256, .f32⟩
  | .hbm, ⟨55, _⟩ => ⟨S2048x256, .f32⟩
  | .hbm, ⟨56, _⟩ => ⟨S2048x4x64, .f32⟩
  | .hbm, ⟨57, _⟩ => ⟨S4x64x2048, .f32⟩
  | .hbm, ⟨58, _⟩ => ⟨S4x2048x256, .f32⟩
  | .hbm, ⟨59, _⟩ => ⟨S4x64x256, .f32⟩
  | .hbm, ⟨60, _⟩ => ⟨S256x4x64, .f32⟩
  | .hbm, ⟨61, _⟩ => ⟨S4x2048x256, .f32⟩
  | .hbm, ⟨62, _⟩ => ⟨S4x2048x256, .f32⟩
  | .hbm, ⟨63, _⟩ => ⟨S4x2048x256, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1, .f32⟩
  | .hbm, ⟨68, _⟩ => ⟨S4x2048x256, .f32⟩
  | .hbm, ⟨69, _⟩ => ⟨S4x2048x256, .f32⟩
  | .hbm, ⟨70, _⟩ => ⟨S_, .f32⟩
  | .hbm, ⟨71, _⟩ => ⟨S4x2048, .f32⟩
  | .hbm, ⟨72, _⟩ => ⟨S4x2048x256, .f32⟩
  | .hbm, ⟨73, _⟩ => ⟨S4x2048x256, .f32⟩
  | .hbm, ⟨74, _⟩ => ⟨S4x2048x256, .f32⟩
  | .hbm, ⟨75, _⟩ => ⟨S_, .f32⟩
  | .hbm, ⟨76, _⟩ => ⟨S4x2048x256, .f32⟩
  | .hbm, ⟨77, _⟩ => ⟨S4x2048x256, .f32⟩
  | .hbm, ⟨78, _⟩ => ⟨S4x256x64, .f32⟩
  | .hbm, ⟨79, _⟩ => ⟨S256x4x64, .f32⟩
  | .hbm, ⟨80, _⟩ => ⟨S4x2048x64, .f32⟩
  | .hbm, ⟨81, _⟩ => ⟨S2048x4x64, .f32⟩
  | .hbm, ⟨82, _⟩ => ⟨S256x256, .f32⟩
  | .hbm, ⟨83, _⟩ => ⟨S256x256, .f32⟩
  | .hbm, ⟨84, _⟩ => ⟨S2048x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Proof.Spec.lean ====
/- One head of causal attention with a forgetting gate, and its gradient, over the real numbers; and the two facts that
   join the blocked evaluation to it: sums over keys split into blocks of 256, and the running softmax (a maximum, a
   sum and an accumulator, rescaled when the maximum moves) holds the plain sums up to a common factor. No program is
   mentioned here. -/
module

public import Idealize.ShloMosaic.PureOps.Ideal.Laws

@[expose] public section

noncomputable section

namespace Cert.Fox

open Idealize.ShloMosaic

/-- What one head reads: queries, keys, values and the result's cotangent by row and feature, the gate's running sum
    by row. -/
structure Head where
  Q : ℕ → Fin 64 → ℝ
  K : ℕ → Fin 64 → ℝ
  V : ℕ → Fin 64 → ℝ
  CT : ℕ → Fin 64 → ℝ
  C : ℕ → ℝ

namespace Head
variable (x : Head)

/-- The logit of query `r` against key `s`. -/
def lg (r s : ℕ) : ℝ := (∑ d, x.Q r d * x.K s d) * (1 / 8) + x.C r - x.C s
/-- The exponential of the logit where the mask admits the key, else zero. -/
def ex (r s : ℕ) : ℝ := if s ≤ r then Real.exp (x.lg r s) else 0
/-- The softmax's denominator over the keys below `n`. -/
def Zn (n r : ℕ) : ℝ := ∑ s ∈ Finset.range n, x.ex r s
/-- The weighted values over the keys below `n`, before division. -/
def An (n r : ℕ) (d : Fin 64) : ℝ := ∑ s ∈ Finset.range n, x.V s d * x.ex r s
def Z (r : ℕ) : ℝ := x.Zn 2048 r
def p (r s : ℕ) : ℝ := x.ex r s / x.Z r
def O (r : ℕ) (d : Fin 64) : ℝ := x.An 2048 r d / x.Z r
def dp (r s : ℕ) : ℝ := ∑ d, x.V s d * x.CT r d
def delta (r : ℕ) : ℝ := ∑ d, x.CT r d * x.O r d
def ds (r s : ℕ) : ℝ := x.p r s * (x.dp r s - x.delta r)
/-- The five gradients, over the keys (or the queries) below `n`. -/
def dqn (n r : ℕ) (d : Fin 64) : ℝ := ∑ s ∈ Finset.range n, x.K s d * x.ds r s
def dcqn (n r : ℕ) : ℝ := ∑ s ∈ Finset.range n, x.ds r s
def dkn (n s : ℕ) (d : Fin 64) : ℝ := ∑ r ∈ Finset.range n, x.ds r s * x.Q r d
def dvn (n s : ℕ) (d : Fin 64) : ℝ := ∑ r ∈ Finset.range n, x.p r s * x.CT r d
def dckn (n s : ℕ) : ℝ := ∑ r ∈ Finset.range n, -x.ds r s

theorem ex_of_lt {r s : ℕ} (h : r < s) : x.ex r s = 0 := if_neg (by omega)
theorem ex_nonneg (r s : ℕ) : 0 ≤ x.ex r s := by
  unfold ex; split_ifs
  · exact (Real.exp_pos _).le
  · exact le_rfl
theorem p_of_lt {r s : ℕ} (h : r < s) : x.p r s = 0 := by rw [p, x.ex_of_lt h, zero_div]
theorem ds_of_lt {r s : ℕ} (h : r < s) : x.ds r s = 0 := by rw [ds, x.p_of_lt h, zero_mul]

theorem Zn_pos {n r : ℕ} (h : r < n) : 0 < x.Zn n r := by
  refine Finset.sum_pos' (fun s _ => x.ex_nonneg r s) ⟨r, Finset.mem_range.2 h, ?_⟩
  rw [ex, if_pos le_rfl]; exact Real.exp_pos _

/-- Keys past the query add nothing to a sum whose terms vanish there. -/
theorem sum_cut {r n : ℕ} (hr : r < n) (hn : n ≤ 2048) (f : ℕ → ℝ) (hf : ∀ s, r < s → f s = 0) :
    ∑ s ∈ Finset.range n, f s = ∑ s ∈ Finset.range 2048, f s :=
  Finset.sum_subset (Finset.range_mono hn) fun s _ hs => hf s (by have := Finset.mem_range.not.1 hs; omega)

theorem Zn_eq {r n : ℕ} (hr : r < n) (hn : n ≤ 2048) : x.Zn n r = x.Z r :=
  sum_cut hr hn _ fun _ h => x.ex_of_lt h
theorem An_eq {r n : ℕ} (hr : r < n) (hn : n ≤ 2048) (d : Fin 64) : x.An n r d = x.An 2048 r d :=
  sum_cut hr hn _ fun _ h => by rw [x.ex_of_lt h, mul_zero]
theorem dqn_eq {r n : ℕ} (hr : r < n) (hn : n ≤ 2048) (d : Fin 64) : x.dqn n r d = x.dqn 2048 r d :=
  sum_cut hr hn _ fun _ h => by rw [x.ds_of_lt h, mul_zero]
theorem dcqn_eq {r n : ℕ} (hr : r < n) (hn : n ≤ 2048) : x.dcqn n r = x.dcqn 2048 r :=
  sum_cut hr hn _ fun _ h => x.ds_of_lt h
theorem Z_pos {r : ℕ} (h : r < 2048) : 0 < x.Z r := x.Zn_pos h

end Head

/-- A sum over the rows below the end of block `n` is the sum below its start plus the block's own. -/
theorem sum_block (n : ℕ) (f : ℕ → ℝ) :
    ∑ s ∈ Finset.range (256 * (n + 1)), f s = ∑ s ∈ Finset.range (256 * n), f s + ∑ k : Fin 256, f (256 * n + k.val) := by
  rw [Nat.mul_succ, Finset.sum_range_add, Finset.sum_range]
  exact congrArg _ (Finset.sum_range fun k => f (256 * n + k))

/-- A finite sum of real numbers, read in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The running softmax of one query: for some real `μ` the maximum `m` is `μ` (or nothing has been seen), and the sum
    and the accumulator are the plain sums `Z`, `A` divided by `e^μ`. -/
def Inv (m l : EReal) (acc : Fin 64 → EReal) (Z : ℝ) (A : Fin 64 → ℝ) : Prop :=
  ∃ μ : ℝ, (m = (μ : EReal) ∨ (m = ⊥ ∧ Z = 0 ∧ ∀ d, A d = 0)) ∧ l = ((Real.exp (-μ) * Z : ℝ) : EReal)
    ∧ ∀ d, acc d = ((Real.exp (-μ) * A d : ℝ) : EReal)

theorem Inv.start : Inv ⊥ 0 (fun _ => 0) 0 (fun _ => 0) :=
  ⟨0, .inr ⟨rfl, rfl, fun _ => rfl⟩, by simp, fun _ => by simp⟩

/-- A masked logit: the real `x` where `ok`, else minus infinity. -/
def masked (ok : Prop) [Decidable ok] (x : ℝ) : EReal := if ok then (x : EReal) else ⊥

theorem exp_masked_sub (ok : Prop) [Decidable ok] (x μ : ℝ) :
    Ideal.exp (masked ok x - (μ : EReal)) = ((Real.exp (-μ) * (if ok then Real.exp x else 0) : ℝ) : EReal) := by
  unfold masked; split_ifs
  · rw [← EReal.coe_sub, Ideal.exp_coe, ← Real.exp_add]; congr 2; ring
  · rw [EReal.bot_sub, Ideal.exp_bot, mul_zero, EReal.coe_zero]

/-- One block of 256 keys taken into the running softmax. -/
theorem Inv.step {m l : EReal} {acc : Fin 64 → EReal} {Z : ℝ} {A : Fin 64 → ℝ} (h : Inv m l acc Z A)
    (ok : Fin 256 → Prop) [∀ k, Decidable (ok k)] (x : Fin 256 → ℝ) (v : Fin 256 → Fin 64 → ℝ) (hok : ∃ k, ok k)
    {m2 : EReal} (hm2 : m2 = max m (Finset.univ.fold max ⊥ fun k => masked (ok k) (x k))) :
    Inv m2 (Ideal.exp (m - m2) * l + ∑ k, Ideal.exp (masked (ok k) (x k) - m2))
      (fun d => Ideal.exp (m - m2) * acc d + ∑ k, ((v k d : ℝ) : EReal) * Ideal.exp (masked (ok k) (x k) - m2))
      (Z + ∑ k, if ok k then Real.exp (x k) else 0)
      (fun d => A d + ∑ k, v k d * if ok k then Real.exp (x k) else 0) := by
  obtain ⟨μ, hm, hl, hacc⟩ := h
  have hsup : (Finset.univ.fold max ⊥ fun k => masked (ok k) (x k)) = Finset.univ.sup fun k => masked (ok k) (x k) := rfl
  have hlt : m2 < ⊤ := by
    rw [hm2, hsup, max_lt_iff]
    refine ⟨?_, (Finset.sup_lt_iff (by exact bot_lt_top)).2 fun k _ => ?_⟩
    · rcases hm with hm | ⟨hm, -⟩ <;> rw [hm]
      exacts [EReal.coe_lt_top _, bot_lt_top]
    · unfold masked; split_ifs
      exacts [EReal.coe_lt_top _, bot_lt_top]
  have hgt : ⊥ < m2 := by
    obtain ⟨k, hk⟩ := hok
    rw [hm2, hsup]
    refine lt_of_lt_of_le ?_ (le_max_of_le_right (Finset.le_sup (f := fun k => masked (ok k) (x k)) (Finset.mem_univ k)))
    simp only [masked, if_pos hk]; exact EReal.bot_lt_coe _
  obtain ⟨μ2, hμ2⟩ : ∃ μ2 : ℝ, m2 = (μ2 : EReal) := ⟨m2.toReal, (EReal.coe_toReal hlt.ne hgt.ne').symm⟩
  clear hm2 hlt hgt
  subst hμ2
  have hscale (B : ℝ) (hB : m = ⊥ → B = 0) : Ideal.exp (m - (μ2 : EReal)) * ((Real.exp (-μ) * B : ℝ) : EReal)
      = ((Real.exp (-μ2) * B : ℝ) : EReal) := by
    rcases hm with hm | ⟨hm, -⟩
    · rw [hm, ← EReal.coe_sub, Ideal.exp_coe, ← EReal.coe_mul, ← mul_assoc, ← Real.exp_add]
      congr 3; ring
    · rw [hm, EReal.bot_sub, Ideal.exp_bot, hB hm, mul_zero, mul_zero, EReal.coe_zero, mul_zero]
  have hbot : m = ⊥ → Z = 0 ∧ ∀ d, A d = 0 := fun hb => by
    rcases hm with hm | ⟨-, h1, h2⟩
    · exact absurd (hm.symm.trans hb) (EReal.coe_ne_bot _)
    · exact ⟨h1, h2⟩
  refine ⟨μ2, .inl rfl, ?_, fun d => ?_⟩
  · rw [hl, hscale Z fun hb => (hbot hb).1]
    simp only [exp_masked_sub]
    rw [coe_sum, ← EReal.coe_add, ← Finset.mul_sum, mul_add]
  · simp only [hacc d, exp_masked_sub]
    rw [hscale (A d) fun hb => (hbot hb).2 d]
    simp only [← EReal.coe_mul]
    rw [coe_sum, ← EReal.coe_add, mul_add, Finset.mul_sum]
    refine congrArg _ (congrArg _ (Finset.sum_congr rfl fun k _ => ?_))
    ring

/-- At the end the accumulator over the sum is the plain quotient, and the maximum plus the sum's logarithm the plain
    logarithm. -/
theorem Inv.finish {m l : EReal} {acc : Fin 64 → EReal} {Z : ℝ} {A : Fin 64 → ℝ} (h : Inv m l acc Z A) (hZ : 0 < Z) :
    (∀ d, Ideal.div (acc d) l = ((A d / Z : ℝ) : EReal)) ∧ m + Ideal.log l = ((Real.log Z : ℝ) : EReal) := by
  obtain ⟨μ, hm, hl, hacc⟩ := h
  have hm : m = (μ : EReal) := hm.resolve_right fun h => hZ.ne' h.2.1
  have hpos : 0 < Real.exp (-μ) * Z := mul_pos (Real.exp_pos _) hZ
  refine ⟨fun d => ?_, ?_⟩
  · rw [hacc, hl, Ideal.div_coe hpos.ne', ← EReal.coe_mul]
    congr 1
    have := (Real.exp_pos (-μ)).ne'
    field_simp
  · rw [hm, hl, Ideal.log_coe, if_neg hpos.not_ge, ← EReal.coe_add, Real.log_mul (Real.exp_pos _).ne' hZ.ne', Real.log_exp]
    congr 1; ring

/-- The probability recovered from the saved logarithm. -/
theorem exp_masked_sub_log (ok : Prop) [Decidable ok] (x : ℝ) {Z : ℝ} (hZ : 0 < Z) :
    Ideal.exp (masked ok x - ((Real.log Z : ℝ) : EReal)) = (((if ok then Real.exp x else 0) / Z : ℝ) : EReal) := by
  rw [exp_masked_sub, Real.exp_neg, Real.exp_log hZ, div_eq_inv_mul]

end Cert.Fox

end
-- ==== Proof.Blocks.lean ====
/- What one step of the attention's forward body computes from the blocks it reads, named: the logits of a block of 256
   keys against a block of 256 queries, the running maximum, sum and accumulator after the block, and the two results at
   the end; each then read at an index. -/
module

public import proofs.«01_k».proof.Proof.Gen.KernelIdeal.Skeleton
public import proofs.«01_k».proof.Proof.Spec
public import Idealize.ShloMosaic.Lib.Pointwise
public import Idealize.ShloMosaic.Lib.WordCmp

@[expose] public section

set_option maxRecDepth 16384

noncomputable section

namespace Cert.KernelIdeal.Fox

open Idealize.ShloMosaic Idealize.ShloMosaic.Tactic Cert.KernelIdeal Cert.KernelIdeal.Gen Cert.Fox

/-- The scale `0.125`, the maximum's start and the mask's constant, as extended reals. -/
theorem ofBits_eighth : Ideal.ofBits FTy.f32 0x3E000000#32 = ((1 / 8 : ℝ) : EReal) := by
  simp [Ideal.ofBits, Ideal.ieee, -EReal.coe_mul]; norm_num
theorem ofBits_neg_inf : Ideal.ofBits FTy.f32 0xFF800000#32 = ⊥ := by
  simp [Ideal.ofBits, Ideal.ieee]
theorem mask_eq : Named.named (F := Ideal) κ "mask" (φ := .f32) 0xF149F2CA#32 = (⊥ : EReal) :=
  IdealRules.named_const.ideal_named_scalar _ _ _ _ rfl

/-- The logits: keys by rows, queries by columns. -/
def LG (q : FVec Ideal S256x64 .bf16) (cq : FVec Ideal S1x256 .f32) (k : FVec Ideal S1x256x64 .bf16)
    (ck : FVec Ideal S1x256x1 .f32) : FVec Ideal S256x256 .f32 :=
  subf (addf (mulf (matmul dot_S256x64_S256x64_S256x256_1_1_0_0_n_n none (shapeCast S256x64 k shapeCasts_S1x256x64_S256x64) q
      (constant S256x256 .f32 0x00000000#32)) (broadcast S256x256 (Scalar.ofBits .f32 0x3E000000#32)))
      (broadcastTo S256x256 cq broadcasts_S1x256_S256x256))
    (broadcastTo S256x256 (shapeCast S256x1 ck shapeCasts_S1x256x1_S256x1) broadcasts_S256x1_S256x256)

/-- The running maximum after logits `s`. -/
def M2 (s : FVec Ideal S256x256 .f32) (m : FVec Ideal S1x256 .f32) : FVec Ideal S1x256 .f32 :=
  maximumf m (shapeCast S1x256 (multiReduction .maximumf [0] S256 s 0xFF800000#32 reduces_S256x256_S256 (.inl rfl) rfl)
    shapeCasts_S256_S1x256)
def PR (s : FVec Ideal S256x256 .f32) (m2 : FVec Ideal S1x256 .f32) : FVec Ideal S256x256 .f32 :=
  exp (subf s (broadcastTo S256x256 m2 broadcasts_S1x256_S256x256))
/-- The running sum after logits `s`. -/
def L2 (s : FVec Ideal S256x256 .f32) (m l : FVec Ideal S1x256 .f32) : FVec Ideal S1x256 .f32 :=
  addf (mulf (exp (subf m (M2 s m))) l)
    (shapeCast S1x256 (multiReduction .add [0] S256 (PR s (M2 s m)) 0x00000000#32 reduces_S256x256_S256 (.inl rfl) rfl)
      shapeCasts_S256_S1x256)
/-- The running accumulator after logits `s` and the values `v` (features by rows). -/
def A2 (s : FVec Ideal S256x256 .f32) (m : FVec Ideal S1x256 .f32) (a : FVec Ideal S64x256 .f32)
    (v : FVec Ideal S1x1x64x256 .bf16) : FVec Ideal S64x256 .f32 :=
  addf (mulf (broadcastTo S64x256 (exp (subf m (M2 s m))) broadcasts_S1x256_S64x256) a)
    (matmul dot_S64x256_S256x256_S64x256_1_0_0_1_n_n none (shapeCast S64x256 v shapeCasts_S1x1x64x256_S64x256)
      (truncf .bf16 (PR s (M2 s m)) bitsLt_bf16_f32) (constant S64x256 .f32 0x00000000#32))

theorem LG_apply (q : FVec Ideal S256x64 .bf16) (cq : FVec Ideal S1x256 .f32) (k : FVec Ideal S1x256x64 .bf16)
    (ck : FVec Ideal S1x256x1 .f32) (b a : Fin 256) :
    LG q cq k ck (ix2 b a) = (∑ d : Fin 64, k (ix3 0 b d) * q (ix2 a d)) * ((1 / 8 : ℝ) : EReal) + cq (ix2 0 a) - ck (ix3 0 b 0) := by
  pointwise [LG]
  rw [ofBits_eighth]

theorem M2_apply (s : FVec Ideal S256x256 .f32) (m : FVec Ideal S1x256 .f32) (a : Fin 256) :
    M2 s m (ix2 0 a) = max (m (ix2 0 a)) (Finset.univ.fold max ⊥ fun b : Fin 256 => s (ix2 b a)) := by
  pointwise [M2]
  rw [ofBits_neg_inf]

theorem L2_apply (s : FVec Ideal S256x256 .f32) (m l : FVec Ideal S1x256 .f32) (a : Fin 256) :
    L2 s m l (ix2 0 a) = Ideal.exp (m (ix2 0 a) - M2 s m (ix2 0 a)) * l (ix2 0 a)
      + ∑ b : Fin 256, Ideal.exp (s (ix2 b a) - M2 s m (ix2 0 a)) := by
  pointwise [L2, PR]

theorem A2_apply (s : FVec Ideal S256x256 .f32) (m : FVec Ideal S1x256 .f32) (acc : FVec Ideal S64x256 .f32)
    (v : FVec Ideal S1x1x64x256 .bf16) (d : Fin 64) (a : Fin 256) :
    A2 s m acc v (ix2 d a) = Ideal.exp (m (ix2 0 a) - M2 s m (ix2 0 a)) * acc (ix2 d a)
      + ∑ b : Fin 256, v (ix4 0 0 d b) * Ideal.exp (s (ix2 b a) - M2 s m (ix2 0 a)) := by
  pointwise [A2, PR]

/-- Logits kept where the key's index in the block is at most the query's, else the mask's constant. -/
def MK (s : FVec Ideal S256x256 .f32) : FVec Ideal S256x256 .f32 :=
  select (cmpi .sle (iota .tc S256x256 32 [0] iota_S256x256_d0_w32) (iota .tc S256x256 32 [1] iota_S256x256_d1_w32)) s (broadcast S256x256 (Named.named κ "mask" 0xF149F2CA#32))

theorem MK_apply (s : FVec Ideal S256x256 .f32) (b a : Fin 256) :
    MK s (ix2 b a) = if b.val ≤ a.val then s (ix2 b a) else ⊥ := by
  pointwise [MK]
  rw [mask_eq, WordCmp.cmpi_sle_ofNat (by have := b.isLt; omega) (by have := a.isLt; omega)]
  by_cases h : b.val ≤ a.val
  · rw [if_pos h, decide_eq_true h]; rfl
  · rw [if_neg h, decide_eq_false h]; rfl

/-- One block of keys taken into the running softmax of query column `a`. -/
theorem step_inv {s : FVec Ideal S256x256 .f32} {m l : FVec Ideal S1x256 .f32} {acc : FVec Ideal S64x256 .f32}
    {v : FVec Ideal S1x1x64x256 .bf16} {a : Fin 256} {Z : ℝ} {A : Fin 64 → ℝ}
    (h : Inv (m (ix2 0 a)) (l (ix2 0 a)) (fun d => acc (ix2 d a)) Z A)
    (ok : Fin 256 → Prop) [∀ k, Decidable (ok k)] (x : Fin 256 → ℝ) (w : Fin 256 → Fin 64 → ℝ) (hok : ∃ k, ok k)
    (hs : ∀ b, s (ix2 b a) = masked (ok b) (x b)) (hv : ∀ d b, v (ix4 0 0 d b) = ((w b d : ℝ) : EReal)) :
    Inv (M2 s m (ix2 0 a)) (L2 s m l (ix2 0 a)) (fun d => A2 s m acc v (ix2 d a))
      (Z + ∑ k, if ok k then Real.exp (x k) else 0) (fun d => A d + ∑ k, w k d * if ok k then Real.exp (x k) else 0) := by
  simp only [L2_apply, A2_apply, hs, hv]
  exact h.step ok x w hok (by rw [M2_apply]; simp only [hs])

end Cert.KernelIdeal.Fox

end
-- ==== Proof.Trips.lean ====
/- The blocks the attention's bodies load at trip `j` of their loops, as functions of the array they are loaded from; the
   loops' trip counts; and one trip of the forward body in terms of the named steps. -/
module

public import proofs.«01_k».proof.Proof.Gen.KernelIdeal.Frame
public import proofs.«01_k».proof.Proof.Blocks
public import Idealize.ShloMosaic.Lib.Pipeline.ValueKit.Tiles

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Fox

/-- Row `256 j + b` of the 2048, as an index. -/
def row (j : Fin 8) (b : Fin 256) : Fin 2048 := ⟨256 * j.val + b.val, by omega⟩

/-- Block `j` of head `e`'s rows. -/
def KB (x : Vec Ideal S3x2048x64 .bf16) (e : Fin 3) (j : Fin 8) : FVec Ideal S1x256x64 .bf16 :=
  fun y => x (ix3 e (row j (y 1)) (y 2))
/-- Block `j` of head `e`'s column. -/
def CB (x : Vec Ideal S3x2048x1 .f32) (e : Fin 3) (j : Fin 8) : FVec Ideal S1x256x1 .f32 :=
  fun y => x (ix3 e (row j (y 1)) (y 2))
/-- Block `j` of head `e`'s transposed rows. -/
def VB (x : Vec Ideal S3x8x64x256 .bf16) (e : Fin 3) (j : Fin 8) : FVec Ideal S1x1x64x256 .bf16 :=
  fun y => x (ix4 e j (y 2) (y 3))

theorem load_k (arg : Memref sig .tc .vmem S3x2048x64 .bf16) (h : arg.IsWhole) (x : Vec Ideal S3x2048x64 .bf16)
    (off : Fin 3 → ℕ) (inb) (e : Fin 3) (j : Fin 8) (ho : off = ![e.val, 256 * j.val, 0]) :
    View.readAt (Elt Ideal) arg.view (Rect.unit (s := S3x2048x64) off S1x256x64.size inb).toLoadRect (h.unread x) = KB x e j := by
  subst ho
  rw [View.readAt_eq_ld, h.read_unread]
  funext y
  refine View.ld_unit_apply_of _ _ _ _ _ _ fun a => ?_
  match a with
  | 0 => have h0 : (y 0).val < 1 := (y 0).isLt
         show e.val = e.val + (y 0).val; omega
  | 1 => rfl
  | 2 => show (y 2).val = 0 + (y 2).val; omega

theorem load_c (arg : Memref sig .tc .vmem S3x2048x1 .f32) (h : arg.IsWhole) (x : Vec Ideal S3x2048x1 .f32)
    (off : Fin 3 → ℕ) (inb) (e : Fin 3) (j : Fin 8) (ho : off = ![e.val, 256 * j.val, 0]) :
    View.readAt (Elt Ideal) arg.view (Rect.unit (s := S3x2048x1) off S1x256x1.size inb).toLoadRect (h.unread x) = CB x e j := by
  subst ho
  rw [View.readAt_eq_ld, h.read_unread]
  funext y
  refine View.ld_unit_apply_of _ _ _ _ _ _ fun a => ?_
  match a with
  | 0 => have h0 : (y 0).val < 1 := (y 0).isLt
         show e.val = e.val + (y 0).val; omega
  | 1 => rfl
  | 2 => show (y 2).val = 0 + (y 2).val; omega

theorem load_v (arg : Memref sig .tc .vmem S3x8x64x256 .bf16) (h : arg.IsWhole) (x : Vec Ideal S3x8x64x256 .bf16)
    (off : Fin 4 → ℕ) (inb) (e : Fin 3) (j : Fin 8) (ho : off = ![e.val, j.val, 0, 0]) :
    View.readAt (Elt Ideal) arg.view (Rect.unit (s := S3x8x64x256) off S1x1x64x256.size inb).toLoadRect (h.unread x) = VB x e j := by
  subst ho
  rw [View.readAt_eq_ld, h.read_unread]
  funext y
  refine View.ld_unit_apply_of _ _ _ _ _ _ fun a => ?_
  match a with
  | 0 => have h0 : (y 0).val < 1 := (y 0).isLt
         show e.val = e.val + (y 0).val; omega
  | 1 => have h0 : (y 1).val < 1 := (y 1).isLt
         show j.val = j.val + (y 1).val; omega
  | 2 => show (y 2).val = 0 + (y 2).val; omega
  | 3 => show (y 3).val = 0 + (y 3).val; omega

/-- The row a trip of a loop over blocks starts at, and the block's own number, as the bodies compute them. -/
theorem iv_row : ∀ j : Fin 8, (Scalar.indexCast (Scalar.muli (Scf.iv 0#32 1#32 j.val) 256#32)).toNat = 256 * j.val := by
  decide +kernel
theorem iv_blk : ∀ j : Fin 8, (Scalar.indexCast (Scf.iv 0#32 1#32 j.val)).toNat = j.val := by
  decide +kernel
theorem pt_row : ∀ j : Fin 8, (Scalar.indexCast (Scalar.muli (BitVec.ofNat 32 j.val) 256#32)).toNat = 256 * j.val := by
  decide +kernel
theorem pt_blk : ∀ j : Fin 8, (Scalar.indexCast (BitVec.ofNat 32 j.val)).toNat = j.val := by
  decide +kernel

/-- The main loop runs over the blocks before the point's own; the loop after it over none. -/
theorem trips_t1 (i : grid0.Coords) : (k0_t1_loop i).trips = (i 1).val :=
  (by decide +kernel : ∀ n : Fin 8, (Scf.Loop.trips ⟨0#32, Scalar.addi 0#32 (Scalar.muli (Scalar.divsi (Scalar.subi
    (BitVec.ofNat 32 n.val) 0#32) 1#32) 1#32), 1#32⟩) = n.val) (i 1)
theorem trips_t2 (i : grid0.Coords) : (k0_t2_loop i).trips = 0 :=
  (by decide +kernel : ∀ n : Fin 8, (Scf.Loop.trips ⟨Scalar.addi 0#32 (Scalar.muli (Scalar.divsi (Scalar.subi
    (BitVec.ofNat 32 n.val) 0#32) 1#32) 1#32), Scalar.addi 0#32 (Scalar.subi (BitVec.ofNat 32 n.val) 0#32), 1#32⟩) = 0) (i 1)

/-- The block trip `k` of the main loop takes. -/
def blk0 (i : grid0.Coords) (k : Fin (k0_t1_loop i).trips) : Fin 8 :=
  ⟨k.val, (k.isLt.trans_eq (trips_t1 i)).trans (i 1).isLt⟩

/-- The carry of one head. -/
abbrev Carry := FVec Ideal S1x256 .f32 × FVec Ideal S1x256 .f32 × FVec Ideal S64x256 .f32

variable (𝒱 : Variants) (c : Dev nD) (bd : Option 𝒱.V) (i : grid0.Coords)
  (arg2 : Memref sig .tc .vmem S3x256x64 .bf16) (harg2 : arg2.IsWhole) (arg3 : Memref sig .tc .vmem S3x2048x64 .bf16)
  (harg3 : arg3.IsWhole) (arg4 : Memref sig .tc .vmem S3x8x64x256 .bf16) (harg4 : arg4.IsWhole)
  (arg5 : Memref sig .tc .vmem S3x8x1x256 .f32) (harg5 : arg5.IsWhole) (arg6 : Memref sig .tc .vmem S3x2048x1 .f32)
  (harg6 : arg6.IsWhole) (arg7 : Memref sig .tc .vmem S3x64x256 .f32) (harg7 : arg7.IsWhole)
  (arg8 : Memref sig .tc .vmem S3x1x1x256 .f32) (harg8 : arg8.IsWhole) (arg1 : BitVec 32)
  (v1 v3 v5 : FVec Ideal S256x64 .bf16) (v8 v11 v14 : FVec Ideal S1x256 .f32)
  (v15 v16 : FVec Ideal S1x256 .f32) (v17 : FVec Ideal S64x256 .f32) (v18 v19 : FVec Ideal S1x256 .f32)
  (v20 : FVec Ideal S64x256 .f32) (v21 v22 : FVec Ideal S1x256 .f32) (v23 : FVec Ideal S64x256 .f32)
  (c0_i32 v28 : BitVec 32)
  (x1 : Vec Ideal S3x2048x64 .bf16) (x2 : Vec Ideal S3x8x64x256 .bf16) (x4 : Vec Ideal S3x2048x1 .f32)

/-- Head `e`'s logits at block `j`, from its queries and its row of the gate's sums. -/
def LGB (q : FVec Ideal S256x64 .bf16) (cq : FVec Ideal S1x256 .f32) (e : Fin 3) (j : Fin 8) : FVec Ideal S256x256 .f32 :=
  LG q cq (KB x1 e j) (CB x4 e j)

/-- One trip of the main loop. -/
theorem trip_eq (k : Fin (k0_t1_loop i).trips) (m0 l0 : FVec Ideal S1x256 .f32) (a0 : FVec Ideal S64x256 .f32)
    (m1 l1 : FVec Ideal S1x256 .f32) (a1 : FVec Ideal S64x256 .f32) (m2 l2 : FVec Ideal S1x256 .f32) (a2 : FVec Ideal S64x256 .f32) :
    tripR_k0_t1 (F := Ideal) 𝒱 c bd i arg2 harg2 arg3 harg3 arg4 harg4 arg5 harg5 arg6 harg6 arg7 harg7 arg8 harg8 arg1
        v1 v3 v5 v8 v11 v14 v15 v16 v17 v18 v19 v20 v21 v22 v23 c0_i32 v28 (harg3.unread x1) (harg4.unread x2) (harg6.unread x4) k
        (m0, l0, a0, m1, l1, a1, m2, l2, a2)
      = (M2 (LGB x1 x4 v1 v8 0 (blk0 i k)) m0, L2 (LGB x1 x4 v1 v8 0 (blk0 i k)) m0 l0,
          A2 (LGB x1 x4 v1 v8 0 (blk0 i k)) m0 a0 (VB x2 0 (blk0 i k)),
         M2 (LGB x1 x4 v3 v11 1 (blk0 i k)) m1, L2 (LGB x1 x4 v3 v11 1 (blk0 i k)) m1 l1,
          A2 (LGB x1 x4 v3 v11 1 (blk0 i k)) m1 a1 (VB x2 1 (blk0 i k)),
         M2 (LGB x1 x4 v5 v14 2 (blk0 i k)) m2, L2 (LGB x1 x4 v5 v14 2 (blk0 i k)) m2 l2,
          A2 (LGB x1 x4 v5 v14 2 (blk0 i k)) m2 a2 (VB x2 2 (blk0 i k))) := by
  have hr := iv_row (blk0 i k)
  have hb := iv_blk (blk0 i k)
  unfold LGB
  rw [← load_k arg3 harg3 x1 (k0_off4 i k) (k0_off4_inb i k) 0 (blk0 i k) (congrArg (![0, ·, 0]) hr),
    ← load_c arg6 harg6 x4 (k0_off5 i k) (k0_off5_inb i k) 0 (blk0 i k) (congrArg (![0, ·, 0]) hr),
    ← load_v arg4 harg4 x2 (k0_off6 i k) (k0_off6_inb i k) 0 (blk0 i k) (congrArg (![0, ·, 0, 0]) hb),
    ← load_k arg3 harg3 x1 (k0_off7 i k) (k0_off7_inb i k) 1 (blk0 i k) (congrArg (![1, ·, 0]) hr),
    ← load_c arg6 harg6 x4 (k0_off8 i k) (k0_off8_inb i k) 1 (blk0 i k) (congrArg (![1, ·, 0]) hr),
    ← load_v arg4 harg4 x2 (k0_off9 i k) (k0_off9_inb i k) 1 (blk0 i k) (congrArg (![1, ·, 0, 0]) hb),
    ← load_k arg3 harg3 x1 (k0_off10 i k) (k0_off10_inb i k) 2 (blk0 i k) (congrArg (![2, ·, 0]) hr),
    ← load_c arg6 harg6 x4 (k0_off11 i k) (k0_off11_inb i k) 2 (blk0 i k) (congrArg (![2, ·, 0]) hr),
    ← load_v arg4 harg4 x2 (k0_off12 i k) (k0_off12_inb i k) 2 (blk0 i k) (congrArg (![2, ·, 0, 0]) hb)]
  unfold tripR_k0_t1 trip_k0_t1
  dsimp only
  sl_unfold_words
  rfl

end Cert.KernelIdeal.Fox

end
-- ==== Proof.Forward.lean ====
/- The forward body at one grid point: the loop over the blocks before the point's own, the point's own block under the
   mask, and the two result blocks in terms of the named steps. -/
module

public import proofs.«01_k».proof.Proof.Trips

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Fox

/-- Head `e`'s block of the queries, and its row of the gate's sums at block `j`. -/
def QB (x : Vec Ideal S3x256x64 .bf16) (e : Fin 3) : FVec Ideal S1x256x64 .bf16 := fun y => x (ix3 e (y 1) (y 2))
def RB (x : Vec Ideal S3x8x1x256 .f32) (e : Fin 3) (j : Fin 8) : FVec Ideal S1x1x1x256 .f32 := fun y => x (ix4 e j (y 2) (y 3))

theorem load_q (arg : Memref sig .tc .vmem S3x256x64 .bf16) (h : arg.IsWhole) (x : Vec Ideal S3x256x64 .bf16)
    (off : Fin 3 → ℕ) (inb) (e : Fin 3) (ho : off = ![e.val, 0, 0]) :
    View.readAt (Elt Ideal) arg.view (Rect.unit (s := S3x256x64) off S1x256x64.size inb).toLoadRect (h.unread x) = QB x e := by
  subst ho
  rw [View.readAt_eq_ld, h.read_unread]
  funext y
  refine View.ld_unit_apply_of _ _ _ _ _ _ fun a => ?_
  match a with
  | 0 => have h0 : (y 0).val < 1 := (y 0).isLt
         show e.val = e.val + (y 0).val; omega
  | 1 => show (y 1).val = 0 + (y 1).val; omega
  | 2 => show (y 2).val = 0 + (y 2).val; omega

theorem load_r (arg : Memref sig .tc .vmem S3x8x1x256 .f32) (h : arg.IsWhole) (x : Vec Ideal S3x8x1x256 .f32)
    (off : Fin 4 → ℕ) (inb) (e : Fin 3) (j : Fin 8) (ho : off = ![e.val, j.val, 0, 0]) :
    View.readAt (Elt Ideal) arg.view (Rect.unit (s := S3x8x1x256) off S1x1x1x256.size inb).toLoadRect (h.unread x) = RB x e j := by
  subst ho
  rw [View.readAt_eq_ld, h.read_unread]
  funext y
  refine View.ld_unit_apply_of _ _ _ _ _ _ fun a => ?_
  match a with
  | 0 => have h0 : (y 0).val < 1 := (y 0).isLt
         show e.val = e.val + (y 0).val; omega
  | 1 => have h0 : (y 1).val < 1 := (y 1).isLt
         show j.val = j.val + (y 1).val; omega
  | 2 => show (y 2).val = 0 + (y 2).val; omega
  | 3 => show (y 3).val = 0 + (y 3).val; omega

/-- The queries and the gate's row, without their unit axes. -/
def QH (x : Vec Ideal S3x256x64 .bf16) (e : Fin 3) : FVec Ideal S256x64 .bf16 :=
  shapeCast S256x64 (QB x e) shapeCasts_S1x256x64_S256x64
def CQ (x : Vec Ideal S3x8x1x256 .f32) (e : Fin 3) (j : Fin 8) : FVec Ideal S1x256 .f32 :=
  shapeCast S1x256 (RB x e j) shapeCasts_S1x1x1x256_S1x256

theorem QH_apply (x : Vec Ideal S3x256x64 .bf16) (e : Fin 3) (a : Fin 256) (d : Fin 64) :
    QH x e (ix2 a d) = x (ix3 e a d) := by
  pointwise [QH, QB]
theorem CQ_apply (x : Vec Ideal S3x8x1x256 .f32) (e : Fin 3) (j : Fin 8) (a : Fin 256) :
    CQ x e j (ix2 0 a) = x (ix4 e j 0 a) := by
  pointwise [CQ, RB]

/-- One head's carry after logits `s` and values `v`. -/
def stepC (s : FVec Ideal S256x256 .f32) (y : Carry) (v : FVec Ideal S1x1x64x256 .bf16) : Carry :=
  (M2 s y.1, L2 s y.1 y.2.1, A2 s y.1 y.2.2 v)

/-- The carry before the first block. -/
def start : Carry := (broadcast S1x256 (Named.named κ "mask" 0xF149F2CA#32), broadcast S1x256 (Scalar.ofBits .f32 0x00000000#32),
  broadcast S64x256 (Scalar.ofBits .f32 0x00000000#32))

/-- One head's carry after the first `n` blocks. -/
def FST (x1 : Vec Ideal S3x2048x64 .bf16) (x2 : Vec Ideal S3x8x64x256 .bf16) (x4 : Vec Ideal S3x2048x1 .f32)
    (q : FVec Ideal S256x64 .bf16) (cq : FVec Ideal S1x256 .f32) (e : Fin 3) : ℕ → Carry
  | 0 => start
  | n + 1 => stepC (LGB x1 x4 q cq e (Fin.ofNat 8 n)) (FST x1 x2 x4 q cq e n) (VB x2 e (Fin.ofNat 8 n))

/-- One head's carry after the point's own block `j`, which is masked. -/
def FIN (x0 : Vec Ideal S3x256x64 .bf16) (x1 : Vec Ideal S3x2048x64 .bf16) (x2 : Vec Ideal S3x8x64x256 .bf16)
    (x3 : Vec Ideal S3x8x1x256 .f32) (x4 : Vec Ideal S3x2048x1 .f32) (j : Fin 8) (e : Fin 3) : Carry :=
  stepC (MK (LGB x1 x4 (QH x0 e) (CQ x3 e j) e j)) (FST x1 x2 x4 (QH x0 e) (CQ x3 e j) e j.val) (VB x2 e j)

/-- The result blocks of a head from its last carry. -/
def OW (y : Carry) : FVec Ideal S1x64x256 .f32 :=
  shapeCast S1x64x256 (divf y.2.2 (broadcastTo S64x256 y.2.1 broadcasts_S1x256_S64x256)) shapeCasts_S64x256_S1x64x256
def LW (y : Carry) : FVec Ideal S1x1x1x256 .f32 :=
  shapeCast S1x1x1x256 (addf y.1 (log y.2.1)) shapeCasts_S1x256_S1x1x1x256

section
variable (c : Dev nD) (i : grid0.Coords)
  (arg2 : Memref sig .tc .vmem S3x256x64 .bf16) (harg2 : arg2.IsWhole) (arg3 : Memref sig .tc .vmem S3x2048x64 .bf16)
  (harg3 : arg3.IsWhole) (arg4 : Memref sig .tc .vmem S3x8x64x256 .bf16) (harg4 : arg4.IsWhole)
  (arg5 : Memref sig .tc .vmem S3x8x1x256 .f32) (harg5 : arg5.IsWhole) (arg6 : Memref sig .tc .vmem S3x2048x1 .f32)
  (harg6 : arg6.IsWhole) (arg7 : Memref sig .tc .vmem S3x64x256 .f32) (harg7 : arg7.IsWhole)
  (arg8 : Memref sig .tc .vmem S3x1x1x256 .f32) (harg8 : arg8.IsWhole)
  (x0 : Vec Ideal S3x256x64 .bf16) (x1 : Vec Ideal S3x2048x64 .bf16) (x2 : Vec Ideal S3x8x64x256 .bf16)
  (x3 : Vec Ideal S3x8x1x256 .f32) (x4 : Vec Ideal S3x2048x1 .f32)

/-- The main loop's carry after `n` trips. -/
theorem loop_eq (arg1 : BitVec 32) (v1 v3 v5 : FVec Ideal S256x64 .bf16) (v8 v11 v14 : FVec Ideal S1x256 .f32)
    (v15 v16 : FVec Ideal S1x256 .f32) (v17 : FVec Ideal S64x256 .f32) (v18 v19 : FVec Ideal S1x256 .f32)
    (v20 : FVec Ideal S64x256 .f32) (v21 v22 : FVec Ideal S1x256 .f32) (v23 : FVec Ideal S64x256 .f32)
    (c0_i32 v28 : BitVec 32) (n : ℕ) (hn : n ≤ (k0_t1_loop i).trips) :
    st_k0_t1 (F := Ideal) Variants.none c none i arg2 harg2 arg3 harg3 arg4 harg4 arg5 harg5 arg6 harg6 arg7 harg7 arg8 harg8 arg1
        v1 v3 v5 v8 v11 v14 v15 v16 v17 v18 v19 v20 v21 v22 v23 c0_i32 v28 (harg3.unread x1) (harg4.unread x2) (harg6.unread x4)
        (k0_pay45, k0_pay46, k0_pay47, k0_pay48, k0_pay49, k0_pay50, k0_pay51, k0_pay52, k0_pay53) n
      = ((FST x1 x2 x4 v1 v8 0 n).1, (FST x1 x2 x4 v1 v8 0 n).2.1, (FST x1 x2 x4 v1 v8 0 n).2.2,
         (FST x1 x2 x4 v3 v11 1 n).1, (FST x1 x2 x4 v3 v11 1 n).2.1, (FST x1 x2 x4 v3 v11 1 n).2.2,
         (FST x1 x2 x4 v5 v14 2 n).1, (FST x1 x2 x4 v5 v14 2 n).2.1, (FST x1 x2 x4 v5 v14 2 n).2.2) := by
  induction n with
  | zero => rw [st_k0_t1_zero]; rfl
  | succ n ih =>
    have e := st_k0_t1_succ (F := Ideal) Variants.none c none i arg2 harg2 arg3 harg3 arg4 harg4 arg5 harg5 arg6 harg6 arg7 harg7
      arg8 harg8 arg1 v1 v3 v5 v8 v11 v14 v15 v16 v17 v18 v19 v20 v21 v22 v23 c0_i32 v28 (harg3.unread x1) (harg4.unread x2)
      (harg6.unread x4) (k0_pay45, k0_pay46, k0_pay47, k0_pay48, k0_pay49, k0_pay50, k0_pay51, k0_pay52, k0_pay53) ⟨n, hn⟩
    rw [ih (Nat.le_of_succ_le hn), trip_eq] at e
    rw [e]
    have hb : blk0 i ⟨n, hn⟩ = Fin.ofNat 8 n := Fin.ext (Nat.mod_eq_of_lt (blk0 i ⟨n, hn⟩).isLt).symm
    rw [hb]; rfl

theorem out_eq : out0_A_5 (F := Ideal) c i arg2 harg2 arg3 harg3 arg4 harg4 arg5 harg5 arg6 harg6 arg7 harg7 arg8 harg8 x0 x1 x2 x3 x4
    = View.canon [⟨Rect.unit ![2, 0, 0] ![1, 64, 256] inb_S3x64x256_S1x64x256_2_0_0, OW (FIN x0 x1 x2 x3 x4 (i 1) 2)⟩,
        ⟨Rect.unit ![1, 0, 0] ![1, 64, 256] inb_S3x64x256_S1x64x256_1_0_0, OW (FIN x0 x1 x2 x3 x4 (i 1) 1)⟩,
        ⟨Rect.unit ![0, 0, 0] ![1, 64, 256] inb_S3x64x256_S1x64x256_0_0_0, OW (FIN x0 x1 x2 x3 x4 (i 1) 0)⟩]
    ∧ out0_A_6 (F := Ideal) c i arg2 harg2 arg3 harg3 arg4 harg4 arg5 harg5 arg6 harg6 arg7 harg7 arg8 harg8 x0 x1 x2 x3 x4
    = View.canon [⟨Rect.unit ![2, 0, 0, 0] ![1, 1, 1, 256] inb_S3x1x1x256_S1x1x1x256_2_0_0_0, LW (FIN x0 x1 x2 x3 x4 (i 1) 2)⟩,
        ⟨Rect.unit ![1, 0, 0, 0] ![1, 1, 1, 256] inb_S3x1x1x256_S1x1x1x256_1_0_0_0, LW (FIN x0 x1 x2 x3 x4 (i 1) 1)⟩,
        ⟨Rect.unit ![0, 0, 0, 0] ![1, 1, 1, 256] inb_S3x1x1x256_S1x1x1x256_0_0_0_0, LW (FIN x0 x1 x2 x3 x4 (i 1) 0)⟩] := by
  have hr := pt_row (i 1)
  have hb := pt_blk (i 1)
  have ht2 : Scf.trips (k0_t2_loop i).lb (k0_t2_loop i).ub (k0_t2_loop i).st = 0 := trips_t2 i
  unfold out0_A_5 out0_A_6
  rw [View.read_writes_junk_eq_canon, View.read_writes_junk_eq_canon]
  unfold kernelRun0_A; dsimp only; sl_unfold_words
  rw [ht2, st_k0_t2_zero, loop_eq (hn := le_rfl)]
  rw [load_q arg2 harg2 x0 ![0, 0, 0] _ 0 rfl, load_q arg2 harg2 x0 ![1, 0, 0] _ 1 rfl, load_q arg2 harg2 x0 ![2, 0, 0] _ 2 rfl,
    load_r arg5 harg5 x3 ![0, (Scalar.indexCast (BitVec.ofNat 32 (i 1).val)).toNat, 0, 0] (k0_off1_inb i) 0 (i 1) (congrArg (![0, ·, 0, 0]) hb),
    load_r arg5 harg5 x3 ![1, (Scalar.indexCast (BitVec.ofNat 32 (i 1).val)).toNat, 0, 0] (k0_off2_inb i) 1 (i 1) (congrArg (![1, ·, 0, 0]) hb),
    load_r arg5 harg5 x3 ![2, (Scalar.indexCast (BitVec.ofNat 32 (i 1).val)).toNat, 0, 0] (k0_off3_inb i) 2 (i 1) (congrArg (![2, ·, 0, 0]) hb),
    load_k arg3 harg3 x1 ![0, (Scalar.indexCast (Scalar.muli (BitVec.ofNat 32 (i 1).val) 256#32)).toNat, 0] (k0_off22_inb i) 0 (i 1) (congrArg (![0, ·, 0]) hr),
    load_c arg6 harg6 x4 ![0, (Scalar.indexCast (Scalar.muli (BitVec.ofNat 32 (i 1).val) 256#32)).toNat, 0] (k0_off23_inb i) 0 (i 1) (congrArg (![0, ·, 0]) hr),
    load_v arg4 harg4 x2 ![0, (Scalar.indexCast (BitVec.ofNat 32 (i 1).val)).toNat, 0, 0] (k0_off24_inb i) 0 (i 1) (congrArg (![0, ·, 0, 0]) hb),
    load_k arg3 harg3 x1 ![1, (Scalar.indexCast (Scalar.muli (BitVec.ofNat 32 (i 1).val) 256#32)).toNat, 0] (k0_off25_inb i) 1 (i 1) (congrArg (![1, ·, 0]) hr),
    load_c arg6 harg6 x4 ![1, (Scalar.indexCast (Scalar.muli (BitVec.ofNat 32 (i 1).val) 256#32)).toNat, 0] (k0_off26_inb i) 1 (i 1) (congrArg (![1, ·, 0]) hr),
    load_v arg4 harg4 x2 ![1, (Scalar.indexCast (BitVec.ofNat 32 (i 1).val)).toNat, 0, 0] (k0_off27_inb i) 1 (i 1) (congrArg (![1, ·, 0, 0]) hb),
    load_k arg3 harg3 x1 ![2, (Scalar.indexCast (Scalar.muli (BitVec.ofNat 32 (i 1).val) 256#32)).toNat, 0] (k0_off28_inb i) 2 (i 1) (congrArg (![2, ·, 0]) hr),
    load_c arg6 harg6 x4 ![2, (Scalar.indexCast (Scalar.muli (BitVec.ofNat 32 (i 1).val) 256#32)).toNat, 0] (k0_off29_inb i) 2 (i 1) (congrArg (![2, ·, 0]) hr),
    load_v arg4 harg4 x2 ![2, (Scalar.indexCast (BitVec.ofNat 32 (i 1).val)).toNat, 0, 0] (k0_off30_inb i) 2 (i 1) (congrArg (![2, ·, 0, 0]) hb)]
  rw [trips_t1 i]
  exact ⟨rfl, rfl⟩
end

end Cert.KernelIdeal.Fox

end
-- ==== Proof.ForwardValue.lean ====
/- What the forward body's two result blocks hold at a grid point whose blocks hold real numbers: the attention's output,
   and the logarithm of the softmax's denominator. -/
module

public import proofs.«01_k».proof.Proof.Forward

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Fox

/-- Three stores, one for each head, read back: head `e`'s block is head `e`'s payload. -/
theorem heads_o (W : Fin 3 → FVec Ideal S1x64x256 .f32) (e : Fin 3) (d : Fin 64) (a : Fin 256) :
    View.canon (Val := Elt Ideal) (s := S3x64x256) (e := .f32)
      [⟨Rect.unit ![2, 0, 0] ![1, 64, 256] inb_S3x64x256_S1x64x256_2_0_0, W 2⟩,
        ⟨Rect.unit ![1, 0, 0] ![1, 64, 256] inb_S3x64x256_S1x64x256_1_0_0, W 1⟩,
        ⟨Rect.unit ![0, 0, 0] ![1, 64, 256] inb_S3x64x256_S1x64x256_0_0_0, W 0⟩] (ix3 e d a) = W e (ix3 0 d a) := by
  refine View.canon_eq_of_allAt _ _ _ (View.cover_of_tiled_head _ _ _ rfl _) ?_
  refine View.allAt_cons_unit _ _ _ _ _ (fun x h => ?_) (View.allAt_cons_unit _ _ _ _ _ (fun x h => ?_)
    (View.allAt_cons_unit _ _ _ _ _ (fun x h => ?_) (View.allAt_nil _ _)))
  all_goals
    have h0 := h 0; have h1 := h 1; have h2 := h 2
    have hx : (x 0).val < 1 := (x 0).isLt
    obtain ⟨e, he⟩ := e
    change e = _ at h0
    change d.val = 0 + (x 1).val at h1
    change a.val = 0 + (x 2).val at h2
    have hxe : x = ix3 0 d a := funext fun k => by
      match k with
      | 0 => exact Fin.ext (by show (x 0).val = 0; omega)
      | 1 => exact Fin.ext (by show (x 1).val = d.val; omega)
      | 2 => exact Fin.ext (by show (x 2).val = a.val; omega)
    rw [hxe]
  · have : e = 2 := h0.trans (show 2 + (x 0).val = 2 by omega)
    subst this; rfl
  · have : e = 1 := h0.trans (show 1 + (x 0).val = 1 by omega)
    subst this; rfl
  · have : e = 0 := h0.trans (show 0 + (x 0).val = 0 by omega)
    subst this; rfl

theorem heads_r (W : Fin 3 → FVec Ideal S1x1x1x256 .f32) (e : Fin 3) (a : Fin 256) :
    View.canon (Val := Elt Ideal) (s := S3x1x1x256) (e := .f32)
      [⟨Rect.unit ![2, 0, 0, 0] ![1, 1, 1, 256] inb_S3x1x1x256_S1x1x1x256_2_0_0_0, W 2⟩,
        ⟨Rect.unit ![1, 0, 0, 0] ![1, 1, 1, 256] inb_S3x1x1x256_S1x1x1x256_1_0_0_0, W 1⟩,
        ⟨Rect.unit ![0, 0, 0, 0] ![1, 1, 1, 256] inb_S3x1x1x256_S1x1x1x256_0_0_0_0, W 0⟩] (ix4 e 0 0 a) = W e (ix4 0 0 0 a) := by
  refine View.canon_eq_of_allAt _ _ _ (View.cover_of_tiled_head _ _ _ rfl _) ?_
  refine View.allAt_cons_unit _ _ _ _ _ (fun x h => ?_) (View.allAt_cons_unit _ _ _ _ _ (fun x h => ?_)
    (View.allAt_cons_unit _ _ _ _ _ (fun x h => ?_) (View.allAt_nil _ _)))
  all_goals
    have h0 := h 0; have h3 := h 3
    have hx : (x 0).val < 1 := (x 0).isLt
    have hx1 : (x 1).val < 1 := (x 1).isLt
    have hx2 : (x 2).val < 1 := (x 2).isLt
    obtain ⟨e, he⟩ := e
    change e = _ at h0
    change a.val = 0 + (x 3).val at h3
    have hxe : x = ix4 0 0 0 a := funext fun k => by
      match k with
      | 0 => exact Fin.ext (by show (x 0).val = 0; omega)
      | 1 => exact Fin.ext (by show (x 1).val = 0; omega)
      | 2 => exact Fin.ext (by show (x 2).val = 0; omega)
      | 3 => exact Fin.ext (by show (x 3).val = a.val; omega)
    rw [hxe]
  · have : e = 2 := h0.trans (show 2 + (x 0).val = 2 by omega)
    subst this; rfl
  · have : e = 1 := h0.trans (show 1 + (x 0).val = 1 by omega)
    subst this; rfl
  · have : e = 0 := h0.trans (show 0 + (x 0).val = 0 by omega)
    subst this; rfl

/-- The blocks of a grid point of the forward pass hold head `x`'s real numbers, at the group's head `e` and the block
    `j` of queries. -/
structure Holds (x0 : Vec Ideal S3x256x64 .bf16) (x1 : Vec Ideal S3x2048x64 .bf16) (x3 : Vec Ideal S3x8x1x256 .f32)
    (x4 : Vec Ideal S3x2048x1 .f32) (x : Head) (e : Fin 3) (j : Fin 8) : Prop where
  q : ∀ (a : Fin 256) (d : Fin 64), x0 (ix3 e a d) = ((x.Q (256 * j.val + a.val) d : ℝ) : EReal)
  k : ∀ (r : Fin 2048) (d : Fin 64), x1 (ix3 e r d) = ((x.K r.val d : ℝ) : EReal)
  cq : ∀ (n : Fin 8) (a : Fin 256), x3 (ix4 e n 0 a) = ((x.C (256 * n.val + a.val) : ℝ) : EReal)
  ck : ∀ r : Fin 2048, x4 (ix3 e r 0) = ((x.C r.val : ℝ) : EReal)

variable {x0 : Vec Ideal S3x256x64 .bf16} {x1 : Vec Ideal S3x2048x64 .bf16} {x2 : Vec Ideal S3x8x64x256 .bf16}
  {x3 : Vec Ideal S3x8x1x256 .f32} {x4 : Vec Ideal S3x2048x1 .f32} {x : Head} {e : Fin 3} {j : Fin 8}

/-- The logits are the head's. -/
theorem Holds.lg (h : Holds x0 x1 x3 x4 x e j) (n : Fin 8) (b a : Fin 256) :
    LGB x1 x4 (QH x0 e) (CQ x3 e j) e n (ix2 b a) = ((x.lg (256 * j.val + a.val) (256 * n.val + b.val) : ℝ) : EReal) := by
  rw [LGB, LG_apply, CQ_apply, h.cq]
  have hk (d : Fin 64) : KB x1 e n (ix3 0 b d) = ((x.K (256 * n.val + b.val) d : ℝ) : EReal) := h.k (row n b) d
  have hc : CB x4 e n (ix3 0 b 0) = ((x.C (256 * n.val + b.val) : ℝ) : EReal) := h.ck (row n b)
  simp only [hk, hc, QH_apply, h.q, ← EReal.coe_mul]
  rw [coe_sum, ← EReal.coe_mul, ← EReal.coe_add, ← EReal.coe_sub]
  refine congrArg _ ?_
  rw [Head.lg]
  simp only [mul_comm]

/-- The masked logits of the point's own block. -/
theorem Holds.diag (h : Holds x0 x1 x3 x4 x e j) (b a : Fin 256) :
    MK (LGB x1 x4 (QH x0 e) (CQ x3 e j) e j) (ix2 b a)
      = masked (256 * j.val + b.val ≤ 256 * j.val + a.val) (x.lg (256 * j.val + a.val) (256 * j.val + b.val)) := by
  rw [MK_apply, h.lg, masked]
  exact if_congr (by omega) rfl rfl

/-- Logits of an earlier block are all admitted. -/
theorem Holds.un (h : Holds x0 x1 x3 x4 x e j) {n : ℕ} (hn : n < j.val) (b a : Fin 256) :
    LGB x1 x4 (QH x0 e) (CQ x3 e j) e (Fin.ofNat 8 n) (ix2 b a)
      = masked (256 * n + b.val ≤ 256 * j.val + a.val) (x.lg (256 * j.val + a.val) (256 * n + b.val)) := by
  have hv : (Fin.ofNat 8 n).val = n := Nat.mod_eq_of_lt (hn.trans j.isLt)
  rw [h.lg, hv, masked, if_pos (by omega)]

theorem start_apply (a : Fin 256) : start.1 (ix2 0 a) = ⊥ ∧ start.2.1 (ix2 0 a) = 0 ∧ ∀ d, start.2.2 (ix2 d a) = 0 := by
  refine ⟨mask_eq, ?_, fun d => ?_⟩ <;> pointwise [start]

/-- The running softmax after the first `n` blocks. -/
theorem Holds.fst (h : Holds x0 x1 x3 x4 x e j)
    (hv : ∀ (n : Fin 8) (d : Fin 64) (b : Fin 256), x2 (ix4 e n d b) = ((x.V (256 * n.val + b.val) d : ℝ) : EReal))
    (a : Fin 256) (n : ℕ) (hn : n ≤ j.val) :
    Inv ((FST x1 x2 x4 (QH x0 e) (CQ x3 e j) e n).1 (ix2 0 a)) ((FST x1 x2 x4 (QH x0 e) (CQ x3 e j) e n).2.1 (ix2 0 a))
      (fun d => (FST x1 x2 x4 (QH x0 e) (CQ x3 e j) e n).2.2 (ix2 d a))
      (x.Zn (256 * n) (256 * j.val + a.val)) (x.An (256 * n) (256 * j.val + a.val)) := by
  induction n with
  | zero =>
    obtain ⟨h0, h1, h2⟩ := start_apply a
    show Inv (start.1 _) (start.2.1 _) (fun d => start.2.2 _) _ _
    rw [h0, h1]; simp only [h2]
    exact Inv.start
  | succ n ih =>
    have hj := j.isLt
    have hnv : (Fin.ofNat 8 n).val = n := Nat.mod_eq_of_lt (by omega)
    have H := step_inv (ih (by omega)) (v := VB x2 e (Fin.ofNat 8 n)) (s := LGB x1 x4 (QH x0 e) (CQ x3 e j) e (Fin.ofNat 8 n))
      (fun b : Fin 256 => 256 * n + b.val ≤ 256 * j.val + a.val) (fun b => x.lg (256 * j.val + a.val) (256 * n + b.val))
      (fun b => x.V (256 * n + b.val)) ⟨0, by simp; omega⟩ (fun b => h.un (by omega) b a)
      (fun d b => (hv (Fin.ofNat 8 n) d b).trans (by rw [hnv]))
    rw [Head.Zn, sum_block]
    have hA : x.An (256 * (n + 1)) (256 * j.val + a.val) = fun d => x.An (256 * n) (256 * j.val + a.val) d
        + ∑ b : Fin 256, x.V (256 * n + b.val) d * x.ex (256 * j.val + a.val) (256 * n + b.val) := funext fun d => sum_block n _
    rw [hA]
    exact H

/-- After the point's own block: the whole softmax. -/
theorem Holds.fin (h : Holds x0 x1 x3 x4 x e j)
    (hv : ∀ (n : Fin 8) (d : Fin 64) (b : Fin 256), x2 (ix4 e n d b) = ((x.V (256 * n.val + b.val) d : ℝ) : EReal))
    (a : Fin 256) :
    Inv ((FIN x0 x1 x2 x3 x4 j e).1 (ix2 0 a)) ((FIN x0 x1 x2 x3 x4 j e).2.1 (ix2 0 a))
      (fun d => (FIN x0 x1 x2 x3 x4 j e).2.2 (ix2 d a))
      (x.Z (256 * j.val + a.val)) (x.An 2048 (256 * j.val + a.val)) := by
  have hj := j.isLt
  have H := step_inv (h.fst hv a j.val le_rfl) (v := VB x2 e j) (s := MK (LGB x1 x4 (QH x0 e) (CQ x3 e j) e j))
      (fun b : Fin 256 => 256 * j.val + b.val ≤ 256 * j.val + a.val) (fun b => x.lg (256 * j.val + a.val) (256 * j.val + b.val))
      (fun b => x.V (256 * j.val + b.val)) ⟨0, by simp⟩ (fun b => h.diag b a) (fun d b => hv j d b)
  have hr : 256 * j.val + a.val < 256 * (j.val + 1) := by omega
  have hm : 256 * (j.val + 1) ≤ 2048 := by omega
  rw [← x.Zn_eq hr hm, Head.Zn, sum_block]
  have hA : x.An 2048 (256 * j.val + a.val) = fun d => x.An (256 * j.val) (256 * j.val + a.val) d
      + ∑ b : Fin 256, x.V (256 * j.val + b.val) d * x.ex (256 * j.val + a.val) (256 * j.val + b.val) := funext fun d => by
    rw [← x.An_eq hr hm]; exact sum_block j.val _
  rw [hA]
  exact H

theorem OW_apply (y : Carry) (d : Fin 64) (a : Fin 256) : OW y (ix3 0 d a) = Ideal.div (y.2.2 (ix2 d a)) (y.2.1 (ix2 0 a)) := by
  pointwise [OW]
theorem LW_apply (y : Carry) (a : Fin 256) : LW y (ix4 0 0 0 a) = y.1 (ix2 0 a) + Ideal.log (y.2.1 (ix2 0 a)) := by
  pointwise [LW]

section
variable (c : Dev nD) (i : grid0.Coords)
  (arg2 : Memref sig .tc .vmem S3x256x64 .bf16) (harg2 : arg2.IsWhole) (arg3 : Memref sig .tc .vmem S3x2048x64 .bf16)
  (harg3 : arg3.IsWhole) (arg4 : Memref sig .tc .vmem S3x8x64x256 .bf16) (harg4 : arg4.IsWhole)
  (arg5 : Memref sig .tc .vmem S3x8x1x256 .f32) (harg5 : arg5.IsWhole) (arg6 : Memref sig .tc .vmem S3x2048x1 .f32)
  (harg6 : arg6.IsWhole) (arg7 : Memref sig .tc .vmem S3x64x256 .f32) (harg7 : arg7.IsWhole)
  (arg8 : Memref sig .tc .vmem S3x1x1x256 .f32) (harg8 : arg8.IsWhole)

theorem out_o (h : Holds x0 x1 x3 x4 x e (i 1))
    (hv : ∀ (n : Fin 8) (d : Fin 64) (b : Fin 256), x2 (ix4 e n d b) = ((x.V (256 * n.val + b.val) d : ℝ) : EReal))
    (d : Fin 64) (a : Fin 256) :
    out0_A_5 (F := Ideal) c i arg2 harg2 arg3 harg3 arg4 harg4 arg5 harg5 arg6 harg6 arg7 harg7 arg8 harg8 x0 x1 x2 x3 x4 (ix3 e d a)
      = ((x.O (256 * (i 1).val + a.val) d : ℝ) : EReal) := by
  have hlt : 256 * (i 1).val + a.val < 2048 := by have : (i 1).val < 8 := (i 1).isLt; omega
  rw [(out_eq ..).1, heads_o (fun e => OW (FIN x0 x1 x2 x3 x4 (i 1) e)), OW_apply]
  exact ((h.fin hv a).finish (x.Z_pos hlt)).1 d

theorem out_l (h : Holds x0 x1 x3 x4 x e (i 1))
    (hv : ∀ (n : Fin 8) (d : Fin 64) (b : Fin 256), x2 (ix4 e n d b) = ((x.V (256 * n.val + b.val) d : ℝ) : EReal))
    (a : Fin 256) :
    out0_A_6 (F := Ideal) c i arg2 harg2 arg3 harg3 arg4 harg4 arg5 harg5 arg6 harg6 arg7 harg7 arg8 harg8 x0 x1 x2 x3 x4 (ix4 e 0 0 a)
      = ((Real.log (x.Z (256 * (i 1).val + a.val)) : ℝ) : EReal) := by
  have hlt : 256 * (i 1).val + a.val < 2048 := by have : (i 1).val < 8 := (i 1).isLt; omega
  rw [(out_eq ..).2, heads_r (fun e => LW (FIN x0 x1 x2 x3 x4 (i 1) e)), LW_apply]
  exact ((h.fin hv a).finish (x.Z_pos hlt)).2
end

end Cert.KernelIdeal.Fox

end
-- ==== Proof.BackBlocks.lean ====
/- What one step of the attention's backward body computes from the blocks it reads, named: the probabilities and the
   logits' gradient of a block of 256 keys against a block of 256 queries, and what that step adds to each of the five
   gradients; each then read at an index. -/
module

public import proofs.«01_k».proof.Proof.ForwardValue
public import Idealize.ShloMosaic.Lib.WritesUnit

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Fox

/-- What the body holds of one head's block of queries: the queries, their gate sums, the logarithm of the softmax's
    denominator, the result's cotangent, and the cotangent's product with the result. -/
structure Rows where
  q : FVec Ideal S256x64 .bf16
  cq : FVec Ideal S1x256 .f32
  ls : FVec Ideal S1x256 .f32
  g : FVec Ideal S64x256 .bf16
  dl : FVec Ideal S1x256 .f32

/-- The probabilities of logits `s`. -/
def PB (s : FVec Ideal S256x256 .f32) (ls : FVec Ideal S1x256 .f32) : FVec Ideal S256x256 .f32 :=
  exp (subf s (broadcastTo S256x256 ls broadcasts_S1x256_S256x256))
/-- The logits' gradient from the probabilities and a block of values. -/
def DS (p : FVec Ideal S256x256 .f32) (v : FVec Ideal S1x256x64 .bf16) (g : FVec Ideal S64x256 .bf16)
    (dl : FVec Ideal S1x256 .f32) : FVec Ideal S256x256 .f32 :=
  mulf p (subf (matmul dot_S256x64_S64x256_S256x256_1_0_0_1_n_n none (shapeCast S256x64 v shapeCasts_S1x256x64_S256x64) g
    (constant S256x256 .f32 0x00000000#32)) (broadcastTo S256x256 dl broadcasts_S1x256_S256x256))
/-- The keys' gradient after the block. -/
def DKW (old : FVec Ideal S1x256x64 .f32) (ds : FVec Ideal S256x256 .f32) (q : FVec Ideal S256x64 .bf16) :
    FVec Ideal S1x256x64 .f32 :=
  shapeCast S1x256x64 (addf (shapeCast S256x64 old shapeCasts_S1x256x64_S256x64)
    (mulf (matmul dot_S256x256_S256x64_S256x64_1_0_0_1_n_n none (truncf .bf16 ds bitsLt_bf16_f32) q
      (constant S256x64 .f32 0x00000000#32)) (broadcast S256x64 (Scalar.ofBits .f32 0x3E000000#32)))) shapeCasts_S256x64_S1x256x64
/-- The values' gradient after the block. -/
def DVW (old : FVec Ideal S1x256x64 .f32) (p : FVec Ideal S256x256 .f32) (g : FVec Ideal S64x256 .bf16) :
    FVec Ideal S1x256x64 .f32 :=
  shapeCast S1x256x64 (addf (shapeCast S256x64 old shapeCasts_S1x256x64_S256x64)
    (matmul dot_S256x256_S64x256_S256x64_1_1_0_0_n_n none (truncf .bf16 p bitsLt_bf16_f32) g
      (constant S256x64 .f32 0x00000000#32))) shapeCasts_S256x64_S1x256x64
/-- The keys' gate gradient after the block. -/
def DCW (old : FVec Ideal S1x256x1 .f32) (ds : FVec Ideal S256x256 .f32) : FVec Ideal S1x256x1 .f32 :=
  shapeCast S1x256x1 (addf (shapeCast S256x1 old shapeCasts_S1x256x1_S256x1)
    (subf (broadcast S256x1 (Scalar.ofBits .f32 0x00000000#32))
      (shapeCast S256x1 (multiReduction .add [1] S256 ds 0x00000000#32 reduces_S256x256_S256_2 (.inl rfl) rfl)
        shapeCasts_S256_S256x1))) shapeCasts_S256x1_S1x256x1
/-- The queries' gradient (before its scale) and gate gradient after the block. -/
def DQS (acc : FVec Ideal S64x256 .f32) (kt : FVec Ideal S1x1x64x256 .bf16) (ds : FVec Ideal S256x256 .f32) :
    FVec Ideal S64x256 .f32 :=
  addf acc (matmul dot_S64x256_S256x256_S64x256_1_0_0_1_n_n none (shapeCast S64x256 kt shapeCasts_S1x1x64x256_S64x256)
    (truncf .bf16 ds bitsLt_bf16_f32) (constant S64x256 .f32 0x00000000#32))
def RSS (acc : FVec Ideal S1x256 .f32) (ds : FVec Ideal S256x256 .f32) : FVec Ideal S1x256 .f32 :=
  addf acc (shapeCast S1x256 (multiReduction .add [0] S256 ds 0x00000000#32 reduces_S256x256_S256 (.inl rfl) rfl)
    shapeCasts_S256_S1x256)

theorem PB_apply (s : FVec Ideal S256x256 .f32) (ls : FVec Ideal S1x256 .f32) (b a : Fin 256) :
    PB s ls (ix2 b a) = Ideal.exp (s (ix2 b a) - ls (ix2 0 a)) := by
  pointwise [PB]
theorem DS_apply (p : FVec Ideal S256x256 .f32) (v : FVec Ideal S1x256x64 .bf16) (g : FVec Ideal S64x256 .bf16)
    (dl : FVec Ideal S1x256 .f32) (b a : Fin 256) :
    DS p v g dl (ix2 b a) = p (ix2 b a) * ((∑ d : Fin 64, v (ix3 0 b d) * g (ix2 d a)) - dl (ix2 0 a)) := by
  pointwise [DS]
theorem DKW_apply (old : FVec Ideal S1x256x64 .f32) (ds : FVec Ideal S256x256 .f32) (q : FVec Ideal S256x64 .bf16)
    (b : Fin 256) (d : Fin 64) :
    DKW old ds q (ix3 0 b d) = old (ix3 0 b d) + (∑ a : Fin 256, ds (ix2 b a) * q (ix2 a d)) * ((1 / 8 : ℝ) : EReal) := by
  pointwise [DKW]
  rw [ofBits_eighth]
theorem DVW_apply (old : FVec Ideal S1x256x64 .f32) (p : FVec Ideal S256x256 .f32) (g : FVec Ideal S64x256 .bf16)
    (b : Fin 256) (d : Fin 64) :
    DVW old p g (ix3 0 b d) = old (ix3 0 b d) + ∑ a : Fin 256, p (ix2 b a) * g (ix2 d a) := by
  pointwise [DVW]
theorem DCW_apply (old : FVec Ideal S1x256x1 .f32) (ds : FVec Ideal S256x256 .f32) (b : Fin 256) :
    DCW old ds (ix3 0 b 0) = old (ix3 0 b 0) + (0 - ∑ a : Fin 256, ds (ix2 b a)) := by
  pointwise [DCW]
theorem DQS_apply (acc : FVec Ideal S64x256 .f32) (kt : FVec Ideal S1x1x64x256 .bf16) (ds : FVec Ideal S256x256 .f32)
    (d : Fin 64) (a : Fin 256) :
    DQS acc kt ds (ix2 d a) = acc (ix2 d a) + ∑ b : Fin 256, kt (ix4 0 0 d b) * ds (ix2 b a) := by
  pointwise [DQS]
theorem RSS_apply (acc : FVec Ideal S1x256 .f32) (ds : FVec Ideal S256x256 .f32) (a : Fin 256) :
    RSS acc ds (ix2 0 a) = acc (ix2 0 a) + ∑ b : Fin 256, ds (ix2 b a) := by
  pointwise [RSS]

/-- Head `e`'s block of the cotangent (or of the result), features by rows; and of the logarithms. -/
def GB (x : Vec Ideal S3x64x256 .f32) (e : Fin 3) : FVec Ideal S1x64x256 .f32 := fun y => x (ix3 e (y 1) (y 2))
def SB (x : Vec Ideal S3x1x1x256 .f32) (e : Fin 3) : FVec Ideal S1x1x1x256 .f32 := fun y => x (ix4 e 0 0 (y 3))
/-- Block `j` of head `e`'s rows of an array of results. -/
def OB (x : Vec Ideal S3x2048x64 .f32) (e : Fin 3) (j : Fin 8) : FVec Ideal S1x256x64 .f32 :=
  fun y => x (ix3 e (row j (y 1)) (y 2))

theorem load_g (arg : Memref sig .tc .vmem S3x64x256 .f32) (h : arg.IsWhole) (x : Vec Ideal S3x64x256 .f32)
    (off : Fin 3 → ℕ) (inb) (e : Fin 3) (ho : off = ![e.val, 0, 0]) :
    View.readAt (Elt Ideal) arg.view (Rect.unit (s := S3x64x256) off S1x64x256.size inb).toLoadRect (h.unread x) = GB x e := by
  subst ho
  rw [View.readAt_eq_ld, h.read_unread]
  funext y
  refine View.ld_unit_apply_of _ _ _ _ _ _ fun a => ?_
  match a with
  | 0 => have h0 : (y 0).val < 1 := (y 0).isLt
         show e.val = e.val + (y 0).val; omega
  | 1 => show (y 1).val = 0 + (y 1).val; omega
  | 2 => show (y 2).val = 0 + (y 2).val; omega

theorem load_s (arg : Memref sig .tc .vmem S3x1x1x256 .f32) (h : arg.IsWhole) (x : Vec Ideal S3x1x1x256 .f32)
    (off : Fin 4 → ℕ) (inb) (e : Fin 3) (ho : off = ![e.val, 0, 0, 0]) :
    View.readAt (Elt Ideal) arg.view (Rect.unit (s := S3x1x1x256) off S1x1x1x256.size inb).toLoadRect (h.unread x) = SB x e := by
  subst ho
  rw [View.readAt_eq_ld, h.read_unread]
  funext y
  refine View.ld_unit_apply_of _ _ _ _ _ _ fun a => ?_
  match a with
  | 0 => have h0 : (y 0).val < 1 := (y 0).isLt
         show e.val = e.val + (y 0).val; omega
  | 1 => have h0 : (y 1).val < 1 := (y 1).isLt
         show 0 = 0 + (y 1).val; omega
  | 2 => have h0 : (y 2).val < 1 := (y 2).isLt
         show 0 = 0 + (y 2).val; omega
  | 3 => show (y 3).val = 0 + (y 3).val; omega

/-- A block of a result's rows is loaded from whatever the result's buffer holds. -/
theorem load_o (arg : Memref sig .tc .vmem S3x2048x64 .f32) (f : arg.view.ty.Contents (Elt Ideal))
    (off : Fin 3 → ℕ) (inb) (e : Fin 3) (j : Fin 8) (ho : off = ![e.val, 256 * j.val, 0]) :
    View.readAt (Elt Ideal) arg.view (Rect.unit (s := S3x2048x64) off S1x256x64.size inb).toLoadRect f
      = OB (arg.view.read (Elt Ideal) f) e j := by
  subst ho
  rw [View.readAt_eq_ld]
  funext y
  refine View.ld_unit_apply_of _ _ _ _ _ _ fun a => ?_
  match a with
  | 0 => have h0 : (y 0).val < 1 := (y 0).isLt
         show e.val = e.val + (y 0).val; omega
  | 1 => rfl
  | 2 => show (y 2).val = 0 + (y 2).val; omega
theorem load_p (arg : Memref sig .tc .vmem S3x2048x1 .f32) (f : arg.view.ty.Contents (Elt Ideal))
    (off : Fin 3 → ℕ) (inb) (e : Fin 3) (j : Fin 8) (ho : off = ![e.val, 256 * j.val, 0]) :
    View.readAt (Elt Ideal) arg.view (Rect.unit (s := S3x2048x1) off S1x256x1.size inb).toLoadRect f
      = CB (arg.view.read (Elt Ideal) f) e j := by
  subst ho
  rw [View.readAt_eq_ld]
  funext y
  refine View.ld_unit_apply_of _ _ _ _ _ _ fun a => ?_
  match a with
  | 0 => have h0 : (y 0).val < 1 := (y 0).isLt
         show e.val = e.val + (y 0).val; omega
  | 1 => rfl
  | 2 => show (y 2).val = 0 + (y 2).val; omega

/-- An array of rows with block `j` of each head replaced. -/
def UP (x : Vec Ideal S3x2048x64 .f32) (j : Fin 8) (W : Fin 3 → FVec Ideal S1x256x64 .f32) : Vec Ideal S3x2048x64 .f32 :=
  fun y => if h : 256 * j.val ≤ (y 1).val ∧ (y 1).val < 256 * j.val + 256 then
    W (y 0) (ix3 0 ⟨(y 1).val - 256 * j.val, by omega⟩ (y 2)) else x y
def UC (x : Vec Ideal S3x2048x1 .f32) (j : Fin 8) (W : Fin 3 → FVec Ideal S1x256x1 .f32) : Vec Ideal S3x2048x1 .f32 :=
  fun y => if h : 256 * j.val ≤ (y 1).val ∧ (y 1).val < 256 * j.val + 256 then
    W (y 0) (ix3 0 ⟨(y 1).val - 256 * j.val, by omega⟩ (y 2)) else x y

theorem UP_row (x : Vec Ideal S3x2048x64 .f32) (j : Fin 8) (W : Fin 3 → FVec Ideal S1x256x64 .f32) (e : Fin 3) (b : Fin 256)
    (d : Fin 64) : UP x j W (ix3 e (row j b) d) = W e (ix3 0 b d) := by
  have hb := b.isLt
  refine (dif_pos ⟨by show _ ≤ 256 * j.val + b.val; omega, by show 256 * j.val + b.val < _; omega⟩).trans ?_
  refine congrArg (W e) (congrArg (fun z => ix3 0 z d) (Fin.ext ?_))
  show 256 * j.val + b.val - 256 * j.val = b.val
  omega
theorem UP_off (x : Vec Ideal S3x2048x64 .f32) (j n : Fin 8) (h : n ≠ j) (W : Fin 3 → FVec Ideal S1x256x64 .f32) (e : Fin 3)
    (b : Fin 256) (d : Fin 64) : UP x j W (ix3 e (row n b) d) = x (ix3 e (row n b) d) := by
  have hb := b.isLt
  have hn : n.val ≠ j.val := fun e => h (Fin.ext e)
  refine dif_neg fun k => ?_
  have k0 : 256 * j.val ≤ 256 * n.val + b.val := k.1
  have k1 : 256 * n.val + b.val < 256 * j.val + 256 := k.2
  omega
theorem UC_row (x : Vec Ideal S3x2048x1 .f32) (j : Fin 8) (W : Fin 3 → FVec Ideal S1x256x1 .f32) (e : Fin 3) (b : Fin 256) :
    UC x j W (ix3 e (row j b) 0) = W e (ix3 0 b 0) := by
  have hb := b.isLt
  refine (dif_pos ⟨by show _ ≤ 256 * j.val + b.val; omega, by show 256 * j.val + b.val < _; omega⟩).trans ?_
  refine congrArg (W e) (congrArg (fun z => ix3 0 z 0) (Fin.ext ?_))
  show 256 * j.val + b.val - 256 * j.val = b.val
  omega
theorem UC_off (x : Vec Ideal S3x2048x1 .f32) (j n : Fin 8) (h : n ≠ j) (W : Fin 3 → FVec Ideal S1x256x1 .f32) (e : Fin 3)
    (b : Fin 256) : UC x j W (ix3 e (row n b) 0) = x (ix3 e (row n b) 0) := by
  have hb := b.isLt
  have hn : n.val ≠ j.val := fun e => h (Fin.ext e)
  refine dif_neg fun k => ?_
  have k0 : 256 * j.val ≤ 256 * n.val + b.val := k.1
  have k1 : 256 * n.val + b.val < 256 * j.val + 256 := k.2
  omega

section
variable (arg : Memref sig .tc .vmem S3x2048x64 .f32) (f : arg.view.ty.Contents (Elt Ideal))
  (arg' : Memref sig .tc .vmem S3x2048x1 .f32) (f' : arg'.view.ty.Contents (Elt Ideal))

/-- One head's store, read at an index. -/
theorem store_o (off : Fin 3 → ℕ) (inb) (e : Fin 3) (j : Fin 8) (ho : off = ![e.val, 256 * j.val, 0])
    (w : FVec Ideal S1x256x64 .f32) (L : List (View.Piece (Elt Ideal) S3x2048x64 .f32)) (y : S3x2048x64.Idx) :
    arg.view.read (Elt Ideal) (arg.view.writes (Elt Ideal) f (⟨Rect.unit (s := S3x2048x64) off ![1, 256, 64] inb, w⟩ :: L)) y
      = if h : (y 0).val = e.val ∧ 256 * j.val ≤ (y 1).val ∧ (y 1).val < 256 * j.val + 256 then
          w (ix3 0 ⟨(y 1).val - 256 * j.val, by omega⟩ (y 2))
        else arg.view.read (Elt Ideal) (arg.view.writes (Elt Ideal) f L) y := by
  by_cases h : (y 0).val = e.val ∧ 256 * j.val ≤ (y 1).val ∧ (y 1).val < 256 * j.val + 256
  · rw [dif_pos h]
    refine View.read_writes_cons_unit_of_mem arg.view f inb w L y _ ho fun a => ?_
    match a with
    | 0 => show (y 0).val = e.val + 0; rw [h.1, Nat.add_zero]
    | 1 => show (y 1).val = 256 * j.val + ((y 1).val - 256 * j.val); omega
    | 2 => show (y 2).val = 0 + (y 2).val; omega
  · rw [dif_neg h]
    by_cases h0 : (y 0).val = e.val
    · refine View.read_writes_cons_unit_of_not_mem arg.view f inb w L y ho 1 ?_
      have h1 : ¬(256 * j.val ≤ (y 1).val ∧ (y 1).val < 256 * j.val + 256) := fun k => h ⟨h0, k⟩
      show (y 1).val < 256 * j.val ∨ 256 * j.val + 256 ≤ (y 1).val
      omega
    · refine View.read_writes_cons_unit_of_not_mem arg.view f inb w L y ho 0 ?_
      show (y 0).val < e.val ∨ e.val + 1 ≤ (y 0).val
      omega
theorem store_p (off : Fin 3 → ℕ) (inb) (e : Fin 3) (j : Fin 8) (ho : off = ![e.val, 256 * j.val, 0])
    (w : FVec Ideal S1x256x1 .f32) (L : List (View.Piece (Elt Ideal) S3x2048x1 .f32)) (y : S3x2048x1.Idx) :
    arg'.view.read (Elt Ideal) (arg'.view.writes (Elt Ideal) f' (⟨Rect.unit (s := S3x2048x1) off ![1, 256, 1] inb, w⟩ :: L)) y
      = if h : (y 0).val = e.val ∧ 256 * j.val ≤ (y 1).val ∧ (y 1).val < 256 * j.val + 256 then
          w (ix3 0 ⟨(y 1).val - 256 * j.val, by omega⟩ (y 2))
        else arg'.view.read (Elt Ideal) (arg'.view.writes (Elt Ideal) f' L) y := by
  by_cases h : (y 0).val = e.val ∧ 256 * j.val ≤ (y 1).val ∧ (y 1).val < 256 * j.val + 256
  · rw [dif_pos h]
    refine View.read_writes_cons_unit_of_mem arg'.view f' inb w L y _ ho fun a => ?_
    match a with
    | 0 => show (y 0).val = e.val + 0; rw [h.1, Nat.add_zero]
    | 1 => show (y 1).val = 256 * j.val + ((y 1).val - 256 * j.val); omega
    | 2 => show (y 2).val = 0 + (y 2).val; omega
  · rw [dif_neg h]
    by_cases h0 : (y 0).val = e.val
    · refine View.read_writes_cons_unit_of_not_mem arg'.view f' inb w L y ho 1 ?_
      have h1 : ¬(256 * j.val ≤ (y 1).val ∧ (y 1).val < 256 * j.val + 256) := fun k => h ⟨h0, k⟩
      show (y 1).val < 256 * j.val ∨ 256 * j.val + 256 ≤ (y 1).val
      omega
    · refine View.read_writes_cons_unit_of_not_mem arg'.view f' inb w L y ho 0 ?_
      show (y 0).val < e.val ∨ e.val + 1 ≤ (y 0).val
      omega

/-- The three heads' stores at block `j` together replace block `j`. -/
theorem stores_o (o0 o1 o2 : Fin 3 → ℕ) (i0 i1 i2) (j : Fin 8) (h0 : o0 = ![0, 256 * j.val, 0]) (h1 : o1 = ![1, 256 * j.val, 0])
    (h2 : o2 = ![2, 256 * j.val, 0]) (W : Fin 3 → FVec Ideal S1x256x64 .f32) (L : List (View.Piece (Elt Ideal) S3x2048x64 .f32)) :
    arg.view.read (Elt Ideal) (arg.view.writes (Elt Ideal) f (⟨Rect.unit (s := S3x2048x64) o2 ![1, 256, 64] i2, W 2⟩
        :: ⟨Rect.unit (s := S3x2048x64) o1 ![1, 256, 64] i1, W 1⟩ :: ⟨Rect.unit (s := S3x2048x64) o0 ![1, 256, 64] i0, W 0⟩ :: L))
      = UP (arg.view.read (Elt Ideal) (arg.view.writes (Elt Ideal) f L)) j W := by
  funext y
  rw [store_o arg f o2 i2 2 j h2, store_o arg f o1 i1 1 j h1, store_o arg f o0 i0 0 j h0, UP]
  by_cases h : 256 * j.val ≤ (y 1).val ∧ (y 1).val < 256 * j.val + 256
  · obtain ⟨e, he⟩ : ∃ e : Fin 3, y 0 = e := ⟨y 0, rfl⟩
    rw [dif_pos h]
    match e with
    | 0 => rw [dif_neg (fun k => absurd ((congrArg Fin.val he).symm.trans k.1) (by decide)), dif_neg (fun k => absurd ((congrArg Fin.val he).symm.trans k.1) (by decide)),
            dif_pos ⟨congrArg Fin.val he, h⟩]; exact congrArg (fun z => W z _) he.symm
    | 1 => rw [dif_neg (fun k => absurd ((congrArg Fin.val he).symm.trans k.1) (by decide)), dif_pos ⟨congrArg Fin.val he, h⟩]; exact congrArg (fun z => W z _) he.symm
    | 2 => rw [dif_pos ⟨congrArg Fin.val he, h⟩]; exact congrArg (fun z => W z _) he.symm
  · rw [dif_neg (fun k => h k.2), dif_neg (fun k => h k.2), dif_neg (fun k => h k.2), dif_neg h]
theorem stores_p (o0 o1 o2 : Fin 3 → ℕ) (i0 i1 i2) (j : Fin 8) (h0 : o0 = ![0, 256 * j.val, 0]) (h1 : o1 = ![1, 256 * j.val, 0])
    (h2 : o2 = ![2, 256 * j.val, 0]) (W : Fin 3 → FVec Ideal S1x256x1 .f32) (L : List (View.Piece (Elt Ideal) S3x2048x1 .f32)) :
    arg'.view.read (Elt Ideal) (arg'.view.writes (Elt Ideal) f' (⟨Rect.unit (s := S3x2048x1) o2 ![1, 256, 1] i2, W 2⟩
        :: ⟨Rect.unit (s := S3x2048x1) o1 ![1, 256, 1] i1, W 1⟩ :: ⟨Rect.unit (s := S3x2048x1) o0 ![1, 256, 1] i0, W 0⟩ :: L))
      = UC (arg'.view.read (Elt Ideal) (arg'.view.writes (Elt Ideal) f' L)) j W := by
  funext y
  rw [store_p arg' f' o2 i2 2 j h2, store_p arg' f' o1 i1 1 j h1, store_p arg' f' o0 i0 0 j h0, UC]
  by_cases h : 256 * j.val ≤ (y 1).val ∧ (y 1).val < 256 * j.val + 256
  · obtain ⟨e, he⟩ : ∃ e : Fin 3, y 0 = e := ⟨y 0, rfl⟩
    rw [dif_pos h]
    match e with
    | 0 => rw [dif_neg (fun k => absurd ((congrArg Fin.val he).symm.trans k.1) (by decide)), dif_neg (fun k => absurd ((congrArg Fin.val he).symm.trans k.1) (by decide)),
            dif_pos ⟨congrArg Fin.val he, h⟩]; exact congrArg (fun z => W z _) he.symm
    | 1 => rw [dif_neg (fun k => absurd ((congrArg Fin.val he).symm.trans k.1) (by decide)), dif_pos ⟨congrArg Fin.val he, h⟩]; exact congrArg (fun z => W z _) he.symm
    | 2 => rw [dif_pos ⟨congrArg Fin.val he, h⟩]; exact congrArg (fun z => W z _) he.symm
  · rw [dif_neg (fun k => h k.2), dif_neg (fun k => h k.2), dif_neg (fun k => h k.2), dif_neg h]

/-- A head's block does not see an earlier head's store. -/
theorem skip_o (off size : Fin 3 → ℕ) (inb) (e' : Fin 3) (j' : Fin 8)
    (w : (Rect.unit (s := S3x2048x64) off size inb).shape.Idx → Elt Ideal .f32) (L : List (View.Piece (Elt Ideal) S3x2048x64 .f32))
    (he : off 0 + size 0 ≤ e'.val) :
    OB (arg.view.read (Elt Ideal) (arg.view.writes (Elt Ideal) f (⟨Rect.unit (s := S3x2048x64) off size inb, w⟩ :: L))) e' j'
      = OB (arg.view.read (Elt Ideal) (arg.view.writes (Elt Ideal) f L)) e' j' :=
  funext fun y => View.read_writes_cons_unit_of_not_mem arg.view f inb w L _ rfl 0 (Or.inr he)
theorem skip_p (off size : Fin 3 → ℕ) (inb) (e' : Fin 3) (j' : Fin 8)
    (w : (Rect.unit (s := S3x2048x1) off size inb).shape.Idx → Elt Ideal .f32) (L : List (View.Piece (Elt Ideal) S3x2048x1 .f32))
    (he : off 0 + size 0 ≤ e'.val) :
    CB (arg'.view.read (Elt Ideal) (arg'.view.writes (Elt Ideal) f' (⟨Rect.unit (s := S3x2048x1) off size inb, w⟩ :: L))) e' j'
      = CB (arg'.view.read (Elt Ideal) (arg'.view.writes (Elt Ideal) f' L)) e' j' :=
  funext fun y => View.read_writes_cons_unit_of_not_mem arg'.view f' inb w L _ rfl 0 (Or.inr he)
end

end Cert.KernelIdeal.Fox

end
-- ==== Proof.BackTrips.lean ====
/- One trip of the backward body's loop in terms of the named steps: the carry, and the stores it makes to the gradients
   of the keys, the values and the keys' gate. -/
module

public import proofs.«01_k».proof.Proof.BackBlocks

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Fox

/-- The main loop runs over the blocks before the point's own; the loop after it over none. -/
theorem trips1_t1 (i : grid1.Coords) : (k1_t1_loop i).trips = (i 1).val :=
  (by decide +kernel : ∀ n : Fin 8, (Scf.Loop.trips ⟨0#32, Scalar.addi 0#32 (Scalar.muli (Scalar.divsi (Scalar.subi
    (BitVec.ofNat 32 n.val) 0#32) 1#32) 1#32), 1#32⟩) = n.val) (i 1)
theorem trips1_t2 (i : grid1.Coords) : (k1_t2_loop i).trips = 0 :=
  (by decide +kernel : ∀ n : Fin 8, (Scf.Loop.trips ⟨Scalar.addi 0#32 (Scalar.muli (Scalar.divsi (Scalar.subi
    (BitVec.ofNat 32 n.val) 0#32) 1#32) 1#32), Scalar.addi 0#32 (Scalar.subi (BitVec.ofNat 32 n.val) 0#32), 1#32⟩) = 0) (i 1)

/-- The block trip `k` of the main loop takes. -/
def blk1 (i : grid1.Coords) (k : Fin (k1_t1_loop i).trips) : Fin 8 :=
  ⟨k.val, (k.isLt.trans_eq (trips1_t1 i)).trans (i 1).isLt⟩

section
variable (x1 : Vec Ideal S3x2048x64 .bf16) (x2 : Vec Ideal S3x8x64x256 .bf16) (x3 : Vec Ideal S3x2048x64 .bf16)
  (x5 : Vec Ideal S3x2048x1 .f32)

/-- Head `e`'s probabilities at block `j`, all admitted or under the mask, and the logits' gradient from them. -/
def PU (R : Rows) (e : Fin 3) (j : Fin 8) : FVec Ideal S256x256 .f32 := PB (LGB x1 x5 R.q R.cq e j) R.ls
def PM (R : Rows) (e : Fin 3) (j : Fin 8) : FVec Ideal S256x256 .f32 := PB (MK (LGB x1 x5 R.q R.cq e j)) R.ls
def DB (p : FVec Ideal S256x256 .f32) (R : Rows) (e : Fin 3) (j : Fin 8) : FVec Ideal S256x256 .f32 := DS p (KB x3 e j) R.g R.dl
end

section
variable (𝒱 : Variants) (c : Dev nD) (bd : Option 𝒱.V) (i : grid1.Coords)
  (arg2 : Memref sig .tc .vmem S3x256x64 .bf16) (harg2 : arg2.IsWhole) (arg3 : Memref sig .tc .vmem S3x2048x64 .bf16)
  (harg3 : arg3.IsWhole) (arg4 : Memref sig .tc .vmem S3x8x64x256 .bf16) (harg4 : arg4.IsWhole)
  (arg5 : Memref sig .tc .vmem S3x2048x64 .bf16) (harg5 : arg5.IsWhole)
  (arg6 : Memref sig .tc .vmem S3x8x1x256 .f32) (harg6 : arg6.IsWhole) (arg7 : Memref sig .tc .vmem S3x2048x1 .f32)
  (harg7 : arg7.IsWhole) (arg8 : Memref sig .tc .vmem S3x64x256 .f32) (harg8 : arg8.IsWhole)
  (arg9 : Memref sig .tc .vmem S3x1x1x256 .f32) (harg9 : arg9.IsWhole) (arg10 : Memref sig .tc .vmem S3x64x256 .f32)
  (harg10 : arg10.IsWhole) (arg11 : Memref sig .tc .vmem S3x64x256 .f32) (harg11 : arg11.IsWhole)
  (arg12 : Memref sig .tc .vmem S3x2048x64 .f32) (harg12 : arg12.IsWhole) (arg13 : Memref sig .tc .vmem S3x2048x64 .f32)
  (harg13 : arg13.IsWhole) (arg14 : Memref sig .tc .vmem S3x1x1x256 .f32) (harg14 : arg14.IsWhole)
  (arg15 : Memref sig .tc .vmem S3x2048x1 .f32) (harg15 : arg15.IsWhole) (arg1 : BitVec 32) (R : Fin 3 → Rows)
  (v51 : FVec Ideal S64x256 .f32) (v52 : FVec Ideal S1x256 .f32) (v53 : FVec Ideal S64x256 .f32) (v54 : FVec Ideal S1x256 .f32)
  (v55 : FVec Ideal S64x256 .f32) (v56 : FVec Ideal S1x256 .f32) (c0_i32_54 : BitVec 32)
  (x1 : Vec Ideal S3x2048x64 .bf16) (x2 : Vec Ideal S3x8x64x256 .bf16) (x3 : Vec Ideal S3x2048x64 .bf16)
  (x5 : Vec Ideal S3x2048x1 .f32)
  (k : Fin (k1_t1_loop i).trips) (a0 : FVec Ideal S64x256 .f32) (r0 : FVec Ideal S1x256 .f32) (a1 : FVec Ideal S64x256 .f32)
  (r1 : FVec Ideal S1x256 .f32) (a2 : FVec Ideal S64x256 .f32) (r2 : FVec Ideal S1x256 .f32)
  (f12 : arg12.view.ty.Contents (Elt Ideal)) (f13 : arg13.view.ty.Contents (Elt Ideal)) (f15 : arg15.view.ty.Contents (Elt Ideal))

/-- The carry of one trip. -/
theorem trip1_carry :
    tripR_k1_t1 (F := Ideal) 𝒱 c bd i arg2 harg2 arg3 harg3 arg4 harg4 arg5 harg5 arg6 harg6 arg7 harg7 arg8 harg8 arg9 harg9
        arg10 harg10 arg11 harg11 arg12 harg12 arg13 harg13 arg14 harg14 arg15 harg15 arg1 (R 0).q (R 1).q (R 2).q
        (R 0).cq (R 1).cq (R 2).cq (R 0).ls (R 1).ls (R 2).ls (R 0).g (R 1).g (R 2).g (R 0).dl (R 1).dl (R 2).dl
        v51 v52 v53 v54 v55 v56 c0_i32_54 (harg3.unread x1) (harg4.unread x2) (harg5.unread x3) (harg7.unread x5) k
        (a0, r0, a1, r1, a2, r2) f12 f13 f15
      = (DQS a0 (VB x2 0 (blk1 i k)) (DB x3 (PU x1 x5 (R 0) 0 (blk1 i k)) (R 0) 0 (blk1 i k)),
         RSS r0 (DB x3 (PU x1 x5 (R 0) 0 (blk1 i k)) (R 0) 0 (blk1 i k)),
         DQS a1 (VB x2 1 (blk1 i k)) (DB x3 (PU x1 x5 (R 1) 1 (blk1 i k)) (R 1) 1 (blk1 i k)),
         RSS r1 (DB x3 (PU x1 x5 (R 1) 1 (blk1 i k)) (R 1) 1 (blk1 i k)),
         DQS a2 (VB x2 2 (blk1 i k)) (DB x3 (PU x1 x5 (R 2) 2 (blk1 i k)) (R 2) 2 (blk1 i k)),
         RSS r2 (DB x3 (PU x1 x5 (R 2) 2 (blk1 i k)) (R 2) 2 (blk1 i k))) := by
  have hr := iv_row (blk1 i k)
  have hb := iv_blk (blk1 i k)
  unfold DB PU LGB
  rw [← load_k arg3 harg3 x1 (k1_off4 i k) (k1_off4_inb i k) 0 (blk1 i k) (congrArg (![0, ·, 0]) hr),
    ← load_c arg7 harg7 x5 (k1_off5 i k) (k1_off5_inb i k) 0 (blk1 i k) (congrArg (![0, ·, 0]) hr),
    ← load_k arg5 harg5 x3 (k1_off4 i k) (k1_off4_inb i k) 0 (blk1 i k) (congrArg (![0, ·, 0]) hr),
    ← load_v arg4 harg4 x2 (k1_off6 i k) (k1_off6_inb i k) 0 (blk1 i k) (congrArg (![0, ·, 0, 0]) hb),
    ← load_k arg3 harg3 x1 (k1_off7 i k) (k1_off7_inb i k) 1 (blk1 i k) (congrArg (![1, ·, 0]) hr),
    ← load_c arg7 harg7 x5 (k1_off8 i k) (k1_off8_inb i k) 1 (blk1 i k) (congrArg (![1, ·, 0]) hr),
    ← load_k arg5 harg5 x3 (k1_off7 i k) (k1_off7_inb i k) 1 (blk1 i k) (congrArg (![1, ·, 0]) hr),
    ← load_v arg4 harg4 x2 (k1_off9 i k) (k1_off9_inb i k) 1 (blk1 i k) (congrArg (![1, ·, 0, 0]) hb),
    ← load_k arg3 harg3 x1 (k1_off10 i k) (k1_off10_inb i k) 2 (blk1 i k) (congrArg (![2, ·, 0]) hr),
    ← load_c arg7 harg7 x5 (k1_off11 i k) (k1_off11_inb i k) 2 (blk1 i k) (congrArg (![2, ·, 0]) hr),
    ← load_k arg5 harg5 x3 (k1_off10 i k) (k1_off10_inb i k) 2 (blk1 i k) (congrArg (![2, ·, 0]) hr),
    ← load_v arg4 harg4 x2 (k1_off12 i k) (k1_off12_inb i k) 2 (blk1 i k) (congrArg (![2, ·, 0, 0]) hb)]
  unfold tripR_k1_t1 trip_k1_t1
  dsimp only
  sl_unfold_words
  rfl

/-- The stores of one trip. -/
theorem trip1_stores (acc : FVec Ideal S64x256 .f32 × FVec Ideal S1x256 .f32 × FVec Ideal S64x256 .f32 × FVec Ideal S1x256 .f32
      × FVec Ideal S64x256 .f32 × FVec Ideal S1x256 .f32) :
    tripL_k1_t1 (F := Ideal) 𝒱 c bd i arg2 harg2 arg3 harg3 arg4 harg4 arg5 harg5 arg6 harg6 arg7 harg7 arg8 harg8 arg9 harg9
        arg10 harg10 arg11 harg11 arg12 harg12 arg13 harg13 arg14 harg14 arg15 harg15 arg1 (R 0).q (R 1).q (R 2).q
        (R 0).cq (R 1).cq (R 2).cq (R 0).ls (R 1).ls (R 2).ls (R 0).g (R 1).g (R 2).g (R 0).dl (R 1).dl (R 2).dl
        v51 v52 v53 v54 v55 v56 c0_i32_54 (harg3.unread x1) (harg4.unread x2) (harg5.unread x3) (harg7.unread x5) k
        acc f12 f13 f15
      = ([⟨Rect.unit (k1_off10 i k) ![1, 256, 64] (k1_off10_inb i k), DKW (OB (arg12.view.read (Elt Ideal) f12) 2 (blk1 i k))
            (DB x3 (PU x1 x5 (R 2) 2 (blk1 i k)) (R 2) 2 (blk1 i k)) (R 2).q⟩,
          ⟨Rect.unit (k1_off7 i k) ![1, 256, 64] (k1_off7_inb i k), DKW (OB (arg12.view.read (Elt Ideal) f12) 1 (blk1 i k))
            (DB x3 (PU x1 x5 (R 1) 1 (blk1 i k)) (R 1) 1 (blk1 i k)) (R 1).q⟩,
          ⟨Rect.unit (k1_off4 i k) ![1, 256, 64] (k1_off4_inb i k), DKW (OB (arg12.view.read (Elt Ideal) f12) 0 (blk1 i k))
            (DB x3 (PU x1 x5 (R 0) 0 (blk1 i k)) (R 0) 0 (blk1 i k)) (R 0).q⟩],
         [⟨Rect.unit (k1_off10 i k) ![1, 256, 64] (k1_off10_inb i k), DVW (OB (arg13.view.read (Elt Ideal) f13) 2 (blk1 i k))
            (PU x1 x5 (R 2) 2 (blk1 i k)) (R 2).g⟩,
          ⟨Rect.unit (k1_off7 i k) ![1, 256, 64] (k1_off7_inb i k), DVW (OB (arg13.view.read (Elt Ideal) f13) 1 (blk1 i k))
            (PU x1 x5 (R 1) 1 (blk1 i k)) (R 1).g⟩,
          ⟨Rect.unit (k1_off4 i k) ![1, 256, 64] (k1_off4_inb i k), DVW (OB (arg13.view.read (Elt Ideal) f13) 0 (blk1 i k))
            (PU x1 x5 (R 0) 0 (blk1 i k)) (R 0).g⟩],
         [⟨Rect.unit (k1_off11 i k) ![1, 256, 1] (k1_off11_inb i k), DCW (CB (arg15.view.read (Elt Ideal) f15) 2 (blk1 i k))
            (DB x3 (PU x1 x5 (R 2) 2 (blk1 i k)) (R 2) 2 (blk1 i k))⟩,
          ⟨Rect.unit (k1_off8 i k) ![1, 256, 1] (k1_off8_inb i k), DCW (CB (arg15.view.read (Elt Ideal) f15) 1 (blk1 i k))
            (DB x3 (PU x1 x5 (R 1) 1 (blk1 i k)) (R 1) 1 (blk1 i k))⟩,
          ⟨Rect.unit (k1_off5 i k) ![1, 256, 1] (k1_off5_inb i k), DCW (CB (arg15.view.read (Elt Ideal) f15) 0 (blk1 i k))
            (DB x3 (PU x1 x5 (R 0) 0 (blk1 i k)) (R 0) 0 (blk1 i k))⟩]) := by
  have hr := iv_row (blk1 i k)
  have hb := iv_blk (blk1 i k)
  unfold DB PU LGB
  rw [← load_k arg3 harg3 x1 (k1_off4 i k) (k1_off4_inb i k) 0 (blk1 i k) (congrArg (![0, ·, 0]) hr),
    ← load_c arg7 harg7 x5 (k1_off5 i k) (k1_off5_inb i k) 0 (blk1 i k) (congrArg (![0, ·, 0]) hr),
    ← load_k arg5 harg5 x3 (k1_off4 i k) (k1_off4_inb i k) 0 (blk1 i k) (congrArg (![0, ·, 0]) hr),
    ← load_o arg12 f12 (k1_off4 i k) (k1_off4_inb i k) 0 (blk1 i k) (congrArg (![0, ·, 0]) hr),
    ← load_o arg13 f13 (k1_off4 i k) (k1_off4_inb i k) 0 (blk1 i k) (congrArg (![0, ·, 0]) hr),
    ← load_p arg15 f15 (k1_off5 i k) (k1_off5_inb i k) 0 (blk1 i k) (congrArg (![0, ·, 0]) hr),
    ← load_k arg3 harg3 x1 (k1_off7 i k) (k1_off7_inb i k) 1 (blk1 i k) (congrArg (![1, ·, 0]) hr),
    ← load_c arg7 harg7 x5 (k1_off8 i k) (k1_off8_inb i k) 1 (blk1 i k) (congrArg (![1, ·, 0]) hr),
    ← load_k arg5 harg5 x3 (k1_off7 i k) (k1_off7_inb i k) 1 (blk1 i k) (congrArg (![1, ·, 0]) hr),
    ← load_o arg12 f12 (k1_off7 i k) (k1_off7_inb i k) 1 (blk1 i k) (congrArg (![1, ·, 0]) hr),
    ← load_o arg13 f13 (k1_off7 i k) (k1_off7_inb i k) 1 (blk1 i k) (congrArg (![1, ·, 0]) hr),
    ← load_p arg15 f15 (k1_off8 i k) (k1_off8_inb i k) 1 (blk1 i k) (congrArg (![1, ·, 0]) hr),
    ← load_k arg3 harg3 x1 (k1_off10 i k) (k1_off10_inb i k) 2 (blk1 i k) (congrArg (![2, ·, 0]) hr),
    ← load_c arg7 harg7 x5 (k1_off11 i k) (k1_off11_inb i k) 2 (blk1 i k) (congrArg (![2, ·, 0]) hr),
    ← load_k arg5 harg5 x3 (k1_off10 i k) (k1_off10_inb i k) 2 (blk1 i k) (congrArg (![2, ·, 0]) hr),
    ← load_o arg12 f12 (k1_off10 i k) (k1_off10_inb i k) 2 (blk1 i k) (congrArg (![2, ·, 0]) hr),
    ← load_o arg13 f13 (k1_off10 i k) (k1_off10_inb i k) 2 (blk1 i k) (congrArg (![2, ·, 0]) hr),
    ← load_p arg15 f15 (k1_off11 i k) (k1_off11_inb i k) 2 (blk1 i k) (congrArg (![2, ·, 0]) hr)]
  unfold tripL_k1_t1 trip_k1_t1
  dsimp only
  sl_unfold_words
  rfl
end

end Cert.KernelIdeal.Fox

end
-- ==== Proof.BackLoop.lean ====
/- The backward body's loop over the blocks before the point's own: the carries and the contents of the three gradients
   it stores, after any number of trips. -/
module

public import proofs.«01_k».proof.Proof.BackTrips

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Fox

section
variable (x1 : Vec Ideal S3x2048x64 .bf16) (x2 : Vec Ideal S3x8x64x256 .bf16) (x3 : Vec Ideal S3x2048x64 .bf16)
  (x5 : Vec Ideal S3x2048x1 .f32) (R : Fin 3 → Rows)

/-- The logits' gradient of head `e` at the earlier block `j`. -/
abbrev DU (e : Fin 3) (j : Fin 8) : FVec Ideal S256x256 .f32 := DB x3 (PU x1 x5 (R e) e j) (R e) e j

/-- Head `e`'s carries after the first `n` blocks. -/
def CAR (e : Fin 3) : ℕ → FVec Ideal S64x256 .f32 × FVec Ideal S1x256 .f32
  | 0 => (broadcast S64x256 (Scalar.ofBits .f32 0x00000000#32), broadcast S1x256 (Scalar.ofBits .f32 0x00000000#32))
  | n + 1 => (DQS (CAR e n).1 (VB x2 e (Fin.ofNat 8 n)) (DU x1 x3 x5 R e (Fin.ofNat 8 n)),
      RSS (CAR e n).2 (DU x1 x3 x5 R e (Fin.ofNat 8 n)))

/-- The gradients of the keys, the values and the keys' gate after the first `n` blocks, from what was there before. -/
def AK (y : Vec Ideal S3x2048x64 .f32) : ℕ → Vec Ideal S3x2048x64 .f32
  | 0 => y
  | n + 1 => UP (AK y n) (Fin.ofNat 8 n) fun e => DKW (OB (AK y n) e (Fin.ofNat 8 n)) (DU x1 x3 x5 R e (Fin.ofNat 8 n)) (R e).q
def AV (y : Vec Ideal S3x2048x64 .f32) : ℕ → Vec Ideal S3x2048x64 .f32
  | 0 => y
  | n + 1 => UP (AV y n) (Fin.ofNat 8 n) fun e => DVW (OB (AV y n) e (Fin.ofNat 8 n)) (PU x1 x5 (R e) e (Fin.ofNat 8 n)) (R e).g
def AC (y : Vec Ideal S3x2048x1 .f32) : ℕ → Vec Ideal S3x2048x1 .f32
  | 0 => y
  | n + 1 => UC (AC y n) (Fin.ofNat 8 n) fun e => DCW (CB (AC y n) e (Fin.ofNat 8 n)) (DU x1 x3 x5 R e (Fin.ofNat 8 n))
end

section
variable (c : Dev nD) (i : grid1.Coords)
  (arg2 : Memref sig .tc .vmem S3x256x64 .bf16) (harg2 : arg2.IsWhole) (arg3 : Memref sig .tc .vmem S3x2048x64 .bf16)
  (harg3 : arg3.IsWhole) (arg4 : Memref sig .tc .vmem S3x8x64x256 .bf16) (harg4 : arg4.IsWhole)
  (arg5 : Memref sig .tc .vmem S3x2048x64 .bf16) (harg5 : arg5.IsWhole)
  (arg6 : Memref sig .tc .vmem S3x8x1x256 .f32) (harg6 : arg6.IsWhole) (arg7 : Memref sig .tc .vmem S3x2048x1 .f32)
  (harg7 : arg7.IsWhole) (arg8 : Memref sig .tc .vmem S3x64x256 .f32) (harg8 : arg8.IsWhole)
  (arg9 : Memref sig .tc .vmem S3x1x1x256 .f32) (harg9 : arg9.IsWhole) (arg10 : Memref sig .tc .vmem S3x64x256 .f32)
  (harg10 : arg10.IsWhole) (arg11 : Memref sig .tc .vmem S3x64x256 .f32) (harg11 : arg11.IsWhole)
  (arg12 : Memref sig .tc .vmem S3x2048x64 .f32) (harg12 : arg12.IsWhole) (arg13 : Memref sig .tc .vmem S3x2048x64 .f32)
  (harg13 : arg13.IsWhole) (arg14 : Memref sig .tc .vmem S3x1x1x256 .f32) (harg14 : arg14.IsWhole)
  (arg15 : Memref sig .tc .vmem S3x2048x1 .f32) (harg15 : arg15.IsWhole) (arg1 : BitVec 32)
  (v51 : FVec Ideal S64x256 .f32) (v52 : FVec Ideal S1x256 .f32) (v53 : FVec Ideal S64x256 .f32) (v54 : FVec Ideal S1x256 .f32)
  (v55 : FVec Ideal S64x256 .f32) (v56 : FVec Ideal S1x256 .f32) (c0_i32_54 : BitVec 32)
  (x1 : Vec Ideal S3x2048x64 .bf16) (x2 : Vec Ideal S3x8x64x256 .bf16) (x3 : Vec Ideal S3x2048x64 .bf16)
  (x5 : Vec Ideal S3x2048x1 .f32)
  (g12 : arg12.view.ty.Contents (Elt Ideal)) (g13 : arg13.view.ty.Contents (Elt Ideal)) (g15 : arg15.view.ty.Contents (Elt Ideal))

/-- The state before trip `n`. -/
abbrev ST (R : Fin 3 → Rows) (n : ℕ) :=
  st_k1_t1 (F := Ideal) Variants.none c none i arg2 harg2 arg3 harg3 arg4 harg4 arg5 harg5 arg6 harg6 arg7 harg7 arg8 harg8 arg9 harg9
        arg10 harg10 arg11 harg11 arg12 harg12 arg13 harg13 arg14 harg14 arg15 harg15 arg1 (R 0).q (R 1).q (R 2).q
        (R 0).cq (R 1).cq (R 2).cq (R 0).ls (R 1).ls (R 2).ls (R 0).g (R 1).g (R 2).g (R 0).dl (R 1).dl (R 2).dl
        v51 v52 v53 v54 v55 v56 c0_i32_54 (harg3.unread x1) (harg4.unread x2) (harg5.unread x3) (harg7.unread x5) g12 g13 g15
        (k1_pay84, k1_pay85, k1_pay86, k1_pay87, k1_pay88, k1_pay89) n

theorem loop1_eq (R : Fin 3 → Rows) (n : ℕ) (hn : n ≤ (k1_t1_loop i).trips) :
    (ST c i arg2 harg2 arg3 harg3 arg4 harg4 arg5 harg5 arg6 harg6 arg7 harg7 arg8 harg8 arg9 harg9
        arg10 harg10 arg11 harg11 arg12 harg12 arg13 harg13 arg14 harg14 arg15 harg15 arg1 v51 v52 v53 v54 v55 v56 c0_i32_54
        x1 x2 x3 x5 g12 g13 g15 R n).1
      = ((CAR x1 x2 x3 x5 R 0 n).1, (CAR x1 x2 x3 x5 R 0 n).2, (CAR x1 x2 x3 x5 R 1 n).1, (CAR x1 x2 x3 x5 R 1 n).2,
         (CAR x1 x2 x3 x5 R 2 n).1, (CAR x1 x2 x3 x5 R 2 n).2)
    ∧ arg12.view.read (Elt Ideal) (arg12.view.writes (Elt Ideal) g12 (ST c i arg2 harg2 arg3 harg3 arg4 harg4 arg5 harg5 arg6 harg6
        arg7 harg7 arg8 harg8 arg9 harg9 arg10 harg10 arg11 harg11 arg12 harg12 arg13 harg13 arg14 harg14 arg15 harg15 arg1
        v51 v52 v53 v54 v55 v56 c0_i32_54 x1 x2 x3 x5 g12 g13 g15 R n).2.1) = AK x1 x3 x5 R (arg12.view.read (Elt Ideal) g12) n
    ∧ arg13.view.read (Elt Ideal) (arg13.view.writes (Elt Ideal) g13 (ST c i arg2 harg2 arg3 harg3 arg4 harg4 arg5 harg5 arg6 harg6
        arg7 harg7 arg8 harg8 arg9 harg9 arg10 harg10 arg11 harg11 arg12 harg12 arg13 harg13 arg14 harg14 arg15 harg15 arg1
        v51 v52 v53 v54 v55 v56 c0_i32_54 x1 x2 x3 x5 g12 g13 g15 R n).2.2.1) = AV x1 x5 R (arg13.view.read (Elt Ideal) g13) n
    ∧ arg15.view.read (Elt Ideal) (arg15.view.writes (Elt Ideal) g15 (ST c i arg2 harg2 arg3 harg3 arg4 harg4 arg5 harg5 arg6 harg6
        arg7 harg7 arg8 harg8 arg9 harg9 arg10 harg10 arg11 harg11 arg12 harg12 arg13 harg13 arg14 harg14 arg15 harg15 arg1
        v51 v52 v53 v54 v55 v56 c0_i32_54 x1 x2 x3 x5 g12 g13 g15 R n).2.2.2) = AC x1 x3 x5 R (arg15.view.read (Elt Ideal) g15) n := by
  induction n with
  | zero => exact ⟨rfl, rfl, rfl, rfl⟩
  | succ n ih =>
    have e := st_k1_t1_succ (F := Ideal) Variants.none c none i arg2 harg2 arg3 harg3 arg4 harg4 arg5 harg5 arg6 harg6 arg7 harg7 arg8
        harg8 arg9 harg9 arg10 harg10 arg11 harg11 arg12 harg12 arg13 harg13 arg14 harg14 arg15 harg15 arg1 (R 0).q (R 1).q (R 2).q
        (R 0).cq (R 1).cq (R 2).cq (R 0).ls (R 1).ls (R 2).ls (R 0).g (R 1).g (R 2).g (R 0).dl (R 1).dl (R 2).dl
        v51 v52 v53 v54 v55 v56 c0_i32_54 (harg3.unread x1) (harg4.unread x2) (harg5.unread x3) (harg7.unread x5) g12 g13 g15
        (k1_pay84, k1_pay85, k1_pay86, k1_pay87, k1_pay88, k1_pay89) ⟨n, hn⟩
    obtain ⟨h1, h2, h3, h4⟩ := ih (Nat.le_of_succ_le hn)
    have hr := iv_row (blk1 i ⟨n, hn⟩)
    have hb : blk1 i ⟨n, hn⟩ = Fin.ofNat 8 n := Fin.ext (Nat.mod_eq_of_lt (blk1 i ⟨n, hn⟩).isLt).symm
    unfold ST at h1 h2 h3 h4 ⊢
    rw [trip1_stores, h1, trip1_carry, h2, h3, h4] at e
    rw [e]
    dsimp only
    refine ⟨?_, ?_, ?_, ?_⟩
    · rw [hb]; rfl
    · rw [View.writes_append]
      refine (stores_o arg12 _ (k1_off4 i ⟨n, hn⟩) (k1_off7 i ⟨n, hn⟩) (k1_off10 i ⟨n, hn⟩) _ _ _ (blk1 i ⟨n, hn⟩)
        (congrArg (![0, ·, 0]) hr) (congrArg (![1, ·, 0]) hr) (congrArg (![2, ·, 0]) hr)
        (fun e => DKW (OB (AK x1 x3 x5 R (arg12.view.read (Elt Ideal) g12) n) e (blk1 i ⟨n, hn⟩)) (DU x1 x3 x5 R e (blk1 i ⟨n, hn⟩)) (R e).q) []).trans ?_
      rw [View.writes_nil, h2, hb]; rfl
    · rw [View.writes_append]
      refine (stores_o arg13 _ (k1_off4 i ⟨n, hn⟩) (k1_off7 i ⟨n, hn⟩) (k1_off10 i ⟨n, hn⟩) _ _ _ (blk1 i ⟨n, hn⟩)
        (congrArg (![0, ·, 0]) hr) (congrArg (![1, ·, 0]) hr) (congrArg (![2, ·, 0]) hr)
        (fun e => DVW (OB (AV x1 x5 R (arg13.view.read (Elt Ideal) g13) n) e (blk1 i ⟨n, hn⟩)) (PU x1 x5 (R e) e (blk1 i ⟨n, hn⟩)) (R e).g) []).trans ?_
      rw [View.writes_nil, h3, hb]; rfl
    · rw [View.writes_append]
      refine (stores_p arg15 _ (k1_off5 i ⟨n, hn⟩) (k1_off8 i ⟨n, hn⟩) (k1_off11 i ⟨n, hn⟩) _ _ _ (blk1 i ⟨n, hn⟩)
        (congrArg (![0, ·, 0]) hr) (congrArg (![1, ·, 0]) hr) (congrArg (![2, ·, 0]) hr)
        (fun e => DCW (CB (AC x1 x3 x5 R (arg15.view.read (Elt Ideal) g15) n) e (blk1 i ⟨n, hn⟩)) (DU x1 x3 x5 R e (blk1 i ⟨n, hn⟩))) []).trans ?_
      rw [View.writes_nil, h4, hb]; rfl
end

end Cert.KernelIdeal.Fox

end
-- ==== Proof.BackBody.lean ====
/- The backward body at one grid point: the loop over the blocks before the point's own, the point's own block under the
   mask, and the five result blocks in terms of the named steps. -/
module

public import proofs.«01_k».proof.Proof.BackLoop
public import Idealize.ShloMosaic.Lib.VecWindow

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Fox

/-- The rows' data of head `e` at block `j` of queries, from the blocks the point reads. -/
def ROW (x0 : Vec Ideal S3x256x64 .bf16) (x4 : Vec Ideal S3x8x1x256 .f32) (x6 : Vec Ideal S3x64x256 .f32)
    (x7 : Vec Ideal S3x1x1x256 .f32) (x8 : Vec Ideal S3x64x256 .f32) (j : Fin 8) (e : Fin 3) : Rows where
  q := QH x0 e
  cq := CQ x4 e j
  ls := shapeCast S1x256 (SB x7 e) shapeCasts_S1x1x1x256_S1x256
  g := truncf .bf16 (shapeCast S64x256 (GB x8 e) shapeCasts_S1x64x256_S64x256) bitsLt_bf16_f32
  dl := shapeCast S1x256 (multiReduction .add [0] S256 (mulf (extf .f32 (truncf .bf16 (shapeCast S64x256 (GB x8 e)
    shapeCasts_S1x64x256_S64x256) bitsLt_bf16_f32) bitsLt_bf16_f32) (shapeCast S64x256 (GB x6 e) shapeCasts_S1x64x256_S64x256))
    0x00000000#32 reduces_S64x256_S256 (.inl rfl) rfl) shapeCasts_S256_S1x256

/-- The queries' gradient and gate gradient of a head, as stored. -/
def QO (acc : FVec Ideal S64x256 .f32) : FVec Ideal S1x64x256 .f32 :=
  shapeCast S1x64x256 (mulf acc (broadcast S64x256 (Scalar.ofBits .f32 0x3E000000#32))) shapeCasts_S64x256_S1x64x256
def RO (acc : FVec Ideal S1x256 .f32) : FVec Ideal S1x1x1x256 .f32 :=
  shapeCast S1x1x1x256 acc shapeCasts_S1x256_S1x1x1x256

/-- Three heads' blocks, stored one after the other. -/
def H3O (w2 w1 w0 : FVec Ideal S1x64x256 .f32) : Vec Ideal S3x64x256 .f32 :=
  View.canon (Val := Elt Ideal) (s := S3x64x256) (e := .f32)
    [⟨Rect.unit ![2, 0, 0] ![1, 64, 256] inb_S3x64x256_S1x64x256_2_0_0, w2⟩,
      ⟨Rect.unit ![1, 0, 0] ![1, 64, 256] inb_S3x64x256_S1x64x256_1_0_0, w1⟩,
      ⟨Rect.unit ![0, 0, 0] ![1, 64, 256] inb_S3x64x256_S1x64x256_0_0_0, w0⟩]
def H3R (w2 w1 w0 : FVec Ideal S1x1x1x256 .f32) : Vec Ideal S3x1x1x256 .f32 :=
  View.canon (Val := Elt Ideal) (s := S3x1x1x256) (e := .f32)
    [⟨Rect.unit ![2, 0, 0, 0] ![1, 1, 1, 256] inb_S3x1x1x256_S1x1x1x256_2_0_0_0, w2⟩,
      ⟨Rect.unit ![1, 0, 0, 0] ![1, 1, 1, 256] inb_S3x1x1x256_S1x1x1x256_1_0_0_0, w1⟩,
      ⟨Rect.unit ![0, 0, 0, 0] ![1, 1, 1, 256] inb_S3x1x1x256_S1x1x1x256_0_0_0_0, w0⟩]

section
variable (x1 : Vec Ideal S3x2048x64 .bf16) (x2 : Vec Ideal S3x8x64x256 .bf16) (x3 : Vec Ideal S3x2048x64 .bf16)
  (x5 : Vec Ideal S3x2048x1 .f32) (R : Fin 3 → Rows) (j : Fin 8)
/-- The logits' gradient at the point's own block. -/
abbrev DM (e : Fin 3) : FVec Ideal S256x256 .f32 := DB x3 (PM x1 x5 (R e) e j) (R e) e j
/-- A head's carries after the point's own block. -/
def CF (e : Fin 3) : FVec Ideal S64x256 .f32 × FVec Ideal S1x256 .f32 :=
  (DQS (CAR x1 x2 x3 x5 R e j.val).1 (VB x2 e j) (DM x1 x3 x5 R j e), RSS (CAR x1 x2 x3 x5 R e j.val).2 (DM x1 x3 x5 R j e))
/-- What the point's own block adds to the stored gradients, and the gradients after it. -/
def WK (z : Vec Ideal S3x2048x64 .f32) (e : Fin 3) : FVec Ideal S1x256x64 .f32 := DKW (OB z e j) (DM x1 x3 x5 R j e) (R e).q
def WV (z : Vec Ideal S3x2048x64 .f32) (e : Fin 3) : FVec Ideal S1x256x64 .f32 := DVW (OB z e j) (PM x1 x5 (R e) e j) (R e).g
def WC (z : Vec Ideal S3x2048x1 .f32) (e : Fin 3) : FVec Ideal S1x256x1 .f32 := DCW (CB z e j) (DM x1 x3 x5 R j e)
def KF (y : Vec Ideal S3x2048x64 .f32) : Vec Ideal S3x2048x64 .f32 :=
  UP (AK x1 x3 x5 R y j.val) j (WK x1 x3 x5 R j (AK x1 x3 x5 R y j.val))
def VF (y : Vec Ideal S3x2048x64 .f32) : Vec Ideal S3x2048x64 .f32 :=
  UP (AV x1 x5 R y j.val) j (WV x1 x5 R j (AV x1 x5 R y j.val))
def PF (y : Vec Ideal S3x2048x1 .f32) : Vec Ideal S3x2048x1 .f32 :=
  UC (AC x1 x3 x5 R y j.val) j (WC x1 x3 x5 R j (AC x1 x3 x5 R y j.val))
end

section
variable (c : Dev nD) (i : grid1.Coords)
  (arg2 : Memref sig .tc .vmem S3x256x64 .bf16) (harg2 : arg2.IsWhole) (arg3 : Memref sig .tc .vmem S3x2048x64 .bf16)
  (harg3 : arg3.IsWhole) (arg4 : Memref sig .tc .vmem S3x8x64x256 .bf16) (harg4 : arg4.IsWhole)
  (arg5 : Memref sig .tc .vmem S3x2048x64 .bf16) (harg5 : arg5.IsWhole)
  (arg6 : Memref sig .tc .vmem S3x8x1x256 .f32) (harg6 : arg6.IsWhole) (arg7 : Memref sig .tc .vmem S3x2048x1 .f32)
  (harg7 : arg7.IsWhole) (arg8 : Memref sig .tc .vmem S3x64x256 .f32) (harg8 : arg8.IsWhole)
  (arg9 : Memref sig .tc .vmem S3x1x1x256 .f32) (harg9 : arg9.IsWhole) (arg10 : Memref sig .tc .vmem S3x64x256 .f32)
  (harg10 : arg10.IsWhole) (arg11 : Memref sig .tc .vmem S3x64x256 .f32) (harg11 : arg11.IsWhole)
  (arg12 : Memref sig .tc .vmem S3x2048x64 .f32) (harg12 : arg12.IsWhole) (arg13 : Memref sig .tc .vmem S3x2048x64 .f32)
  (harg13 : arg13.IsWhole) (arg14 : Memref sig .tc .vmem S3x1x1x256 .f32) (harg14 : arg14.IsWhole)
  (arg15 : Memref sig .tc .vmem S3x2048x1 .f32) (harg15 : arg15.IsWhole)
  (x0 : Vec Ideal S3x256x64 .bf16) (x1 : Vec Ideal S3x2048x64 .bf16) (x2 : Vec Ideal S3x8x64x256 .bf16)
  (x3 : Vec Ideal S3x2048x64 .bf16) (x4 : Vec Ideal S3x8x1x256 .f32) (x5 : Vec Ideal S3x2048x1 .f32) (x6 : Vec Ideal S3x64x256 .f32)
  (x7 : Vec Ideal S3x1x1x256 .f32) (x8 : Vec Ideal S3x64x256 .f32)
  (p10 p11 : Vec Ideal S3x2048x64 .f32) (p13 : Vec Ideal S3x2048x1 .f32)

set_option maxHeartbeats 2000000 in
set_option backward.isDefEq.respectTransparency.types false in
/-- At a point other than its group's first: the stored gradients continue from what the group's point before left. -/
theorem backB (hc0 : ¬cond1_0 i) :
    out1_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 p10 p11 p13
      = H3O (QO (CF x1 x2 x3 x5 (ROW x0 x4 x6 x7 x8 (i 1)) (i 1) 2).1) (QO (CF x1 x2 x3 x5 (ROW x0 x4 x6 x7 x8 (i 1)) (i 1) 1).1) (QO (CF x1 x2 x3 x5 (ROW x0 x4 x6 x7 x8 (i 1)) (i 1) 0).1)
    ∧ out1_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 p10 p11 p13
      = KF x1 x3 x5 (ROW x0 x4 x6 x7 x8 (i 1)) (i 1) p10
    ∧ out1_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 p10 p11 p13
      = VF x1 x5 (ROW x0 x4 x6 x7 x8 (i 1)) (i 1) p11
    ∧ out1_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 p10 p11 p13
      = H3R (RO (CF x1 x2 x3 x5 (ROW x0 x4 x6 x7 x8 (i 1)) (i 1) 2).2) (RO (CF x1 x2 x3 x5 (ROW x0 x4 x6 x7 x8 (i 1)) (i 1) 1).2) (RO (CF x1 x2 x3 x5 (ROW x0 x4 x6 x7 x8 (i 1)) (i 1) 0).2)
    ∧ out1_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 p10 p11 p13
      = PF x1 x3 x5 (ROW x0 x4 x6 x7 x8 (i 1)) (i 1) p13 := by
  have hr := pt_row (i 1)
  have hb := pt_blk (i 1)
  have ht2 : Scf.trips (k1_t2_loop i).lb (k1_t2_loop i).ub (k1_t2_loop i).st = 0 := trips1_t2 i
  unfold out1_B_9 out1_B_10 out1_B_11 out1_B_12 out1_B_13
  rw [View.read_writes_junk_eq_canon VO1_9, View.read_writes_junk_eq_canon VO1_12]
  unfold kernelRun1_B; dsimp only; sl_unfold_words
  rw [ht2, st_k1_t2.eq_1]
  rw [load_q arg2 harg2 x0 ![0, 0, 0] _ 0 rfl,
    load_r arg6 harg6 x4 ![0, (Scalar.indexCast (BitVec.ofNat 32 (i 1).val)).toNat, 0, 0] (k1_off1_inb i) 0 (i 1) (congrArg (![0, ·, 0, 0]) hb),
    load_s arg9 harg9 x7 ![0, 0, 0, 0] _ 0 rfl,
    load_g arg10 harg10 x8 ![0, 0, 0] _ 0 rfl,
    load_g arg8 harg8 x6 ![0, 0, 0] _ 0 rfl,
    load_q arg2 harg2 x0 ![1, 0, 0] _ 1 rfl,
    load_r arg6 harg6 x4 ![1, (Scalar.indexCast (BitVec.ofNat 32 (i 1).val)).toNat, 0, 0] (k1_off2_inb i) 1 (i 1) (congrArg (![1, ·, 0, 0]) hb),
    load_s arg9 harg9 x7 ![1, 0, 0, 0] _ 1 rfl,
    load_g arg10 harg10 x8 ![1, 0, 0] _ 1 rfl,
    load_g arg8 harg8 x6 ![1, 0, 0] _ 1 rfl,
    load_q arg2 harg2 x0 ![2, 0, 0] _ 2 rfl,
    load_r arg6 harg6 x4 ![2, (Scalar.indexCast (BitVec.ofNat 32 (i 1).val)).toNat, 0, 0] (k1_off3_inb i) 2 (i 1) (congrArg (![2, ·, 0, 0]) hb),
    load_s arg9 harg9 x7 ![2, 0, 0, 0] _ 2 rfl,
    load_g arg10 harg10 x8 ![2, 0, 0] _ 2 rfl,
    load_g arg8 harg8 x6 ![2, 0, 0] _ 2 rfl,
    load_k arg3 harg3 x1 ![0, (Scalar.indexCast (Scalar.muli (BitVec.ofNat 32 (i 1).val) 256#32)).toNat, 0] (k1_off22_inb i) 0 (i 1) (congrArg (![0, ·, 0]) hr),
    load_c arg7 harg7 x5 ![0, (Scalar.indexCast (Scalar.muli (BitVec.ofNat 32 (i 1).val) 256#32)).toNat, 0] (k1_off23_inb i) 0 (i 1) (congrArg (![0, ·, 0]) hr),
    load_k arg5 harg5 x3 ![0, (Scalar.indexCast (Scalar.muli (BitVec.ofNat 32 (i 1).val) 256#32)).toNat, 0] (k1_off22_inb i) 0 (i 1) (congrArg (![0, ·, 0]) hr),
    load_k arg3 harg3 x1 ![1, (Scalar.indexCast (Scalar.muli (BitVec.ofNat 32 (i 1).val) 256#32)).toNat, 0] (k1_off25_inb i) 1 (i 1) (congrArg (![1, ·, 0]) hr),
    load_c arg7 harg7 x5 ![1, (Scalar.indexCast (Scalar.muli (BitVec.ofNat 32 (i 1).val) 256#32)).toNat, 0] (k1_off26_inb i) 1 (i 1) (congrArg (![1, ·, 0]) hr),
    load_k arg5 harg5 x3 ![1, (Scalar.indexCast (Scalar.muli (BitVec.ofNat 32 (i 1).val) 256#32)).toNat, 0] (k1_off25_inb i) 1 (i 1) (congrArg (![1, ·, 0]) hr),
    load_k arg3 harg3 x1 ![2, (Scalar.indexCast (Scalar.muli (BitVec.ofNat 32 (i 1).val) 256#32)).toNat, 0] (k1_off28_inb i) 2 (i 1) (congrArg (![2, ·, 0]) hr),
    load_c arg7 harg7 x5 ![2, (Scalar.indexCast (Scalar.muli (BitVec.ofNat 32 (i 1).val) 256#32)).toNat, 0] (k1_off29_inb i) 2 (i 1) (congrArg (![2, ·, 0]) hr),
    load_k arg5 harg5 x3 ![2, (Scalar.indexCast (Scalar.muli (BitVec.ofNat 32 (i 1).val) 256#32)).toNat, 0] (k1_off28_inb i) 2 (i 1) (congrArg (![2, ·, 0]) hr),
    load_v arg4 harg4 x2 ![0, (Scalar.indexCast (BitVec.ofNat 32 (i 1).val)).toNat, 0, 0] (k1_off24_inb i) 0 (i 1) (congrArg (![0, ·, 0, 0]) hb),
    load_v arg4 harg4 x2 ![1, (Scalar.indexCast (BitVec.ofNat 32 (i 1).val)).toNat, 0, 0] (k1_off27_inb i) 1 (i 1) (congrArg (![1, ·, 0, 0]) hb),
    load_v arg4 harg4 x2 ![2, (Scalar.indexCast (BitVec.ofNat 32 (i 1).val)).toNat, 0, 0] (k1_off30_inb i) 2 (i 1) (congrArg (![2, ·, 0, 0]) hb),
    load_o arg12 _ ![2, (Scalar.indexCast (Scalar.muli (BitVec.ofNat 32 (i 1).val) 256#32)).toNat, 0] (k1_off28_inb i) 2 (i 1) (congrArg (![2, ·, 0]) hr),
    load_o arg12 _ ![1, (Scalar.indexCast (Scalar.muli (BitVec.ofNat 32 (i 1).val) 256#32)).toNat, 0] (k1_off25_inb i) 1 (i 1) (congrArg (![1, ·, 0]) hr),
    load_o arg12 _ ![0, (Scalar.indexCast (Scalar.muli (BitVec.ofNat 32 (i 1).val) 256#32)).toNat, 0] (k1_off22_inb i) 0 (i 1) (congrArg (![0, ·, 0]) hr),
    load_o arg13 _ ![2, (Scalar.indexCast (Scalar.muli (BitVec.ofNat 32 (i 1).val) 256#32)).toNat, 0] (k1_off28_inb i) 2 (i 1) (congrArg (![2, ·, 0]) hr),
    load_o arg13 _ ![1, (Scalar.indexCast (Scalar.muli (BitVec.ofNat 32 (i 1).val) 256#32)).toNat, 0] (k1_off25_inb i) 1 (i 1) (congrArg (![1, ·, 0]) hr),
    load_o arg13 _ ![0, (Scalar.indexCast (Scalar.muli (BitVec.ofNat 32 (i 1).val) 256#32)).toNat, 0] (k1_off22_inb i) 0 (i 1) (congrArg (![0, ·, 0]) hr),
    load_p arg15 _ ![2, (Scalar.indexCast (Scalar.muli (BitVec.ofNat 32 (i 1).val) 256#32)).toNat, 0] (k1_off29_inb i) 2 (i 1) (congrArg (![2, ·, 0]) hr),
    load_p arg15 _ ![1, (Scalar.indexCast (Scalar.muli (BitVec.ofNat 32 (i 1).val) 256#32)).toNat, 0] (k1_off26_inb i) 1 (i 1) (congrArg (![1, ·, 0]) hr),
    load_p arg15 _ ![0, (Scalar.indexCast (Scalar.muli (BitVec.ofNat 32 (i 1).val) 256#32)).toNat, 0] (k1_off23_inb i) 0 (i 1) (congrArg (![0, ·, 0]) hr)]
  rw [skip_o arg12 (e' := 2), skip_o arg12 (e' := 2), skip_o arg12 (e' := 1), skip_o arg13 (e' := 2), skip_o arg13 (e' := 2), skip_o arg13 (e' := 1), skip_p arg15 (e' := 2), skip_p arg15 (e' := 2), skip_p arg15 (e' := 1)]
  rotate_left
  iterate 9 exact Nat.le_of_ble_eq_true rfl
  obtain ⟨H, H12, H13, H15⟩ := loop1_eq c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val)
    k1_pay84 k1_pay85 k1_pay86 k1_pay87 k1_pay88 k1_pay89 0#32 x1 x2 x3 x5
    (harg12.unread p10)
    (harg13.unread p11)
    (harg15.unread p13)
    (ROW x0 x4 x6 x7 x8 (i 1)) _ le_rfl
  rw [harg12.read_unread] at H12
  rw [harg13.read_unread] at H13
  rw [harg15.read_unread] at H15
  refine ⟨?_, ?_, ?_, ?_, ?_⟩
  · refine (congrArg (fun z : FVec Ideal S64x256 .f32 × FVec Ideal S1x256 .f32 × FVec Ideal S64x256 .f32 × FVec Ideal S1x256 .f32
        × FVec Ideal S64x256 .f32 × FVec Ideal S1x256 .f32 => H3O (QO (DQS z.2.2.2.2.1 (VB x2 2 (i 1)) (DM x1 x3 x5 (ROW x0 x4 x6 x7 x8 (i 1)) (i 1) 2))) (QO (DQS z.2.2.1 (VB x2 1 (i 1)) (DM x1 x3 x5 (ROW x0 x4 x6 x7 x8 (i 1)) (i 1) 1))) (QO (DQS z.1 (VB x2 0 (i 1)) (DM x1 x3 x5 (ROW x0 x4 x6 x7 x8 (i 1)) (i 1) 0)))) H).trans ?_
    rw [trips1_t1 i]; rfl
  · exact (stores_o arg12 _ _ _ _ _ _ _ (i 1) (congrArg (![0, ·, 0]) hr) (congrArg (![1, ·, 0]) hr) (congrArg (![2, ·, 0]) hr)
      (WK x1 x3 x5 (ROW x0 x4 x6 x7 x8 (i 1)) (i 1) (arg12.view.read (Elt Ideal) (arg12.view.writes (Elt Ideal) _ _))) _).trans
      (congrArg (fun z => UP z (i 1) (WK x1 x3 x5 (ROW x0 x4 x6 x7 x8 (i 1)) (i 1) z)) (H12.trans (congrArg _ (trips1_t1 i))))
  · exact (stores_o arg13 _ _ _ _ _ _ _ (i 1) (congrArg (![0, ·, 0]) hr) (congrArg (![1, ·, 0]) hr) (congrArg (![2, ·, 0]) hr)
      (WV x1 x5 (ROW x0 x4 x6 x7 x8 (i 1)) (i 1) (arg13.view.read (Elt Ideal) (arg13.view.writes (Elt Ideal) _ _))) _).trans
      (congrArg (fun z => UP z (i 1) (WV x1 x5 (ROW x0 x4 x6 x7 x8 (i 1)) (i 1) z)) (H13.trans (congrArg _ (trips1_t1 i))))
  · refine (congrArg (fun z : FVec Ideal S64x256 .f32 × FVec Ideal S1x256 .f32 × FVec Ideal S64x256 .f32 × FVec Ideal S1x256 .f32
        × FVec Ideal S64x256 .f32 × FVec Ideal S1x256 .f32 => H3R (RO (RSS z.2.2.2.2.2 (DM x1 x3 x5 (ROW x0 x4 x6 x7 x8 (i 1)) (i 1) 2))) (RO (RSS z.2.2.2.1 (DM x1 x3 x5 (ROW x0 x4 x6 x7 x8 (i 1)) (i 1) 1))) (RO (RSS z.2.1 (DM x1 x3 x5 (ROW x0 x4 x6 x7 x8 (i 1)) (i 1) 0)))) H).trans ?_
    rw [trips1_t1 i]; rfl
  · exact (stores_p arg15 _ _ _ _ _ _ _ (i 1) (congrArg (![0, ·, 0]) hr) (congrArg (![1, ·, 0]) hr) (congrArg (![2, ·, 0]) hr)
      (WC x1 x3 x5 (ROW x0 x4 x6 x7 x8 (i 1)) (i 1) (arg15.view.read (Elt Ideal) (arg15.view.writes (Elt Ideal) _ _))) _).trans
      (congrArg (fun z => UC z (i 1) (WC x1 x3 x5 (ROW x0 x4 x6 x7 x8 (i 1)) (i 1) z)) (H15.trans (congrArg _ (trips1_t1 i))))

set_option maxHeartbeats 2000000 in
set_option backward.isDefEq.respectTransparency.types false in
/-- At a group's first point: the stored gradients start from zero. -/
theorem backA (hc0 : cond1_0 i) :
    out1_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
      = H3O (QO (CF x1 x2 x3 x5 (ROW x0 x4 x6 x7 x8 (i 1)) (i 1) 2).1) (QO (CF x1 x2 x3 x5 (ROW x0 x4 x6 x7 x8 (i 1)) (i 1) 1).1) (QO (CF x1 x2 x3 x5 (ROW x0 x4 x6 x7 x8 (i 1)) (i 1) 0).1)
    ∧ out1_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
      = KF x1 x3 x5 (ROW x0 x4 x6 x7 x8 (i 1)) (i 1) (k1_pay66 (F := Ideal))
    ∧ out1_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
      = VF x1 x5 (ROW x0 x4 x6 x7 x8 (i 1)) (i 1) (k1_pay67 (F := Ideal))
    ∧ out1_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
      = H3R (RO (CF x1 x2 x3 x5 (ROW x0 x4 x6 x7 x8 (i 1)) (i 1) 2).2) (RO (CF x1 x2 x3 x5 (ROW x0 x4 x6 x7 x8 (i 1)) (i 1) 1).2) (RO (CF x1 x2 x3 x5 (ROW x0 x4 x6 x7 x8 (i 1)) (i 1) 0).2)
    ∧ out1_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
      = PF x1 x3 x5 (ROW x0 x4 x6 x7 x8 (i 1)) (i 1) (k1_pay68 (F := Ideal)) := by
  have hr := pt_row (i 1)
  have hb := pt_blk (i 1)
  have ht2 : Scf.trips (k1_t2_loop i).lb (k1_t2_loop i).ub (k1_t2_loop i).st = 0 := trips1_t2 i
  unfold out1_A_9 out1_A_10 out1_A_11 out1_A_12 out1_A_13
  rw [View.read_writes_junk_eq_canon VO1_9, View.read_writes_junk_eq_canon VO1_12]
  rw [View.read_writes_junk_eq_canon VO1_10, View.read_writes_junk_eq_canon VO1_11, View.read_writes_junk_eq_canon VO1_13,
    ← View.read_writes_junk_eq_canon arg12.view, ← View.read_writes_junk_eq_canon arg13.view,
    ← View.read_writes_junk_eq_canon arg15.view]
  unfold kernelRun1_A; dsimp only; sl_unfold_words
  rw [ht2, st_k1_t2.eq_1]
  rw [load_q arg2 harg2 x0 ![0, 0, 0] _ 0 rfl,
    load_r arg6 harg6 x4 ![0, (Scalar.indexCast (BitVec.ofNat 32 (i 1).val)).toNat, 0, 0] (k1_off1_inb i) 0 (i 1) (congrArg (![0, ·, 0, 0]) hb),
    load_s arg9 harg9 x7 ![0, 0, 0, 0] _ 0 rfl,
    load_g arg10 harg10 x8 ![0, 0, 0] _ 0 rfl,
    load_g arg8 harg8 x6 ![0, 0, 0] _ 0 rfl,
    load_q arg2 harg2 x0 ![1, 0, 0] _ 1 rfl,
    load_r arg6 harg6 x4 ![1, (Scalar.indexCast (BitVec.ofNat 32 (i 1).val)).toNat, 0, 0] (k1_off2_inb i) 1 (i 1) (congrArg (![1, ·, 0, 0]) hb),
    load_s arg9 harg9 x7 ![1, 0, 0, 0] _ 1 rfl,
    load_g arg10 harg10 x8 ![1, 0, 0] _ 1 rfl,
    load_g arg8 harg8 x6 ![1, 0, 0] _ 1 rfl,
    load_q arg2 harg2 x0 ![2, 0, 0] _ 2 rfl,
    load_r arg6 harg6 x4 ![2, (Scalar.indexCast (BitVec.ofNat 32 (i 1).val)).toNat, 0, 0] (k1_off3_inb i) 2 (i 1) (congrArg (![2, ·, 0, 0]) hb),
    load_s arg9 harg9 x7 ![2, 0, 0, 0] _ 2 rfl,
    load_g arg10 harg10 x8 ![2, 0, 0] _ 2 rfl,
    load_g arg8 harg8 x6 ![2, 0, 0] _ 2 rfl,
    load_k arg3 harg3 x1 ![0, (Scalar.indexCast (Scalar.muli (BitVec.ofNat 32 (i 1).val) 256#32)).toNat, 0] (k1_off22_inb i) 0 (i 1) (congrArg (![0, ·, 0]) hr),
    load_c arg7 harg7 x5 ![0, (Scalar.indexCast (Scalar.muli (BitVec.ofNat 32 (i 1).val) 256#32)).toNat, 0] (k1_off23_inb i) 0 (i 1) (congrArg (![0, ·, 0]) hr),
    load_k arg5 harg5 x3 ![0, (Scalar.indexCast (Scalar.muli (BitVec.ofNat 32 (i 1).val) 256#32)).toNat, 0] (k1_off22_inb i) 0 (i 1) (congrArg (![0, ·, 0]) hr),
    load_k arg3 harg3 x1 ![1, (Scalar.indexCast (Scalar.muli (BitVec.ofNat 32 (i 1).val) 256#32)).toNat, 0] (k1_off25_inb i) 1 (i 1) (congrArg (![1, ·, 0]) hr),
    load_c arg7 harg7 x5 ![1, (Scalar.indexCast (Scalar.muli (BitVec.ofNat 32 (i 1).val) 256#32)).toNat, 0] (k1_off26_inb i) 1 (i 1) (congrArg (![1, ·, 0]) hr),
    load_k arg5 harg5 x3 ![1, (Scalar.indexCast (Scalar.muli (BitVec.ofNat 32 (i 1).val) 256#32)).toNat, 0] (k1_off25_inb i) 1 (i 1) (congrArg (![1, ·, 0]) hr),
    load_k arg3 harg3 x1 ![2, (Scalar.indexCast (Scalar.muli (BitVec.ofNat 32 (i 1).val) 256#32)).toNat, 0] (k1_off28_inb i) 2 (i 1) (congrArg (![2, ·, 0]) hr),
    load_c arg7 harg7 x5 ![2, (Scalar.indexCast (Scalar.muli (BitVec.ofNat 32 (i 1).val) 256#32)).toNat, 0] (k1_off29_inb i) 2 (i 1) (congrArg (![2, ·, 0]) hr),
    load_k arg5 harg5 x3 ![2, (Scalar.indexCast (Scalar.muli (BitVec.ofNat 32 (i 1).val) 256#32)).toNat, 0] (k1_off28_inb i) 2 (i 1) (congrArg (![2, ·, 0]) hr),
    load_v arg4 harg4 x2 ![0, (Scalar.indexCast (BitVec.ofNat 32 (i 1).val)).toNat, 0, 0] (k1_off24_inb i) 0 (i 1) (congrArg (![0, ·, 0, 0]) hb),
    load_v arg4 harg4 x2 ![1, (Scalar.indexCast (BitVec.ofNat 32 (i 1).val)).toNat, 0, 0] (k1_off27_inb i) 1 (i 1) (congrArg (![1, ·, 0, 0]) hb),
    load_v arg4 harg4 x2 ![2, (Scalar.indexCast (BitVec.ofNat 32 (i 1).val)).toNat, 0, 0] (k1_off30_inb i) 2 (i 1) (congrArg (![2, ·, 0, 0]) hb),
    load_o arg12 _ ![2, (Scalar.indexCast (Scalar.muli (BitVec.ofNat 32 (i 1).val) 256#32)).toNat, 0] (k1_off28_inb i) 2 (i 1) (congrArg (![2, ·, 0]) hr),
    load_o arg12 _ ![1, (Scalar.indexCast (Scalar.muli (BitVec.ofNat 32 (i 1).val) 256#32)).toNat, 0] (k1_off25_inb i) 1 (i 1) (congrArg (![1, ·, 0]) hr),
    load_o arg12 _ ![0, (Scalar.indexCast (Scalar.muli (BitVec.ofNat 32 (i 1).val) 256#32)).toNat, 0] (k1_off22_inb i) 0 (i 1) (congrArg (![0, ·, 0]) hr),
    load_o arg13 _ ![2, (Scalar.indexCast (Scalar.muli (BitVec.ofNat 32 (i 1).val) 256#32)).toNat, 0] (k1_off28_inb i) 2 (i 1) (congrArg (![2, ·, 0]) hr),
    load_o arg13 _ ![1, (Scalar.indexCast (Scalar.muli (BitVec.ofNat 32 (i 1).val) 256#32)).toNat, 0] (k1_off25_inb i) 1 (i 1) (congrArg (![1, ·, 0]) hr),
    load_o arg13 _ ![0, (Scalar.indexCast (Scalar.muli (BitVec.ofNat 32 (i 1).val) 256#32)).toNat, 0] (k1_off22_inb i) 0 (i 1) (congrArg (![0, ·, 0]) hr),
    load_p arg15 _ ![2, (Scalar.indexCast (Scalar.muli (BitVec.ofNat 32 (i 1).val) 256#32)).toNat, 0] (k1_off29_inb i) 2 (i 1) (congrArg (![2, ·, 0]) hr),
    load_p arg15 _ ![1, (Scalar.indexCast (Scalar.muli (BitVec.ofNat 32 (i 1).val) 256#32)).toNat, 0] (k1_off26_inb i) 1 (i 1) (congrArg (![1, ·, 0]) hr),
    load_p arg15 _ ![0, (Scalar.indexCast (Scalar.muli (BitVec.ofNat 32 (i 1).val) 256#32)).toNat, 0] (k1_off23_inb i) 0 (i 1) (congrArg (![0, ·, 0]) hr)]
  rw [skip_o arg12 (e' := 2), skip_o arg12 (e' := 2), skip_o arg12 (e' := 1), skip_o arg13 (e' := 2), skip_o arg13 (e' := 2), skip_o arg13 (e' := 1), skip_p arg15 (e' := 2), skip_p arg15 (e' := 2), skip_p arg15 (e' := 1)]
  rotate_left
  iterate 9 exact Nat.le_of_ble_eq_true rfl
  obtain ⟨H, H12, H13, H15⟩ := loop1_eq c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val)
    k1_pay84 k1_pay85 k1_pay86 k1_pay87 k1_pay88 k1_pay89 0#32 x1 x2 x3 x5
    (arg12.view.writes (Elt Ideal) arg12.view.junk [⟨Rect.unit ![0, 0, 0] ![3, 2048, 64] inb_S3x2048x64_S3x2048x64_0_0_0, k1_pay66 (F := Ideal)⟩])
    (arg13.view.writes (Elt Ideal) arg13.view.junk [⟨Rect.unit ![0, 0, 0] ![3, 2048, 64] inb_S3x2048x64_S3x2048x64_0_0_0, k1_pay67 (F := Ideal)⟩])
    (arg15.view.writes (Elt Ideal) arg15.view.junk [⟨Rect.unit ![0, 0, 0] ![3, 2048, 1] inb_S3x2048x1_S3x2048x1_0_0_0, k1_pay68 (F := Ideal)⟩])
    (ROW x0 x4 x6 x7 x8 (i 1)) _ le_rfl
  rw [← View.writes_append] at H12 H13 H15
  replace H12 := H12.trans (congrArg (fun z => AK x1 x3 x5 (ROW x0 x4 x6 x7 x8 (i 1)) z _) (View.read_writes_full arg12.view _ _ _ []))
  replace H13 := H13.trans (congrArg (fun z => AV x1 x5 (ROW x0 x4 x6 x7 x8 (i 1)) z _) (View.read_writes_full arg13.view _ _ _ []))
  replace H15 := H15.trans (congrArg (fun z => AC x1 x3 x5 (ROW x0 x4 x6 x7 x8 (i 1)) z _) (View.read_writes_full arg15.view _ _ _ []))
  refine ⟨?_, ?_, ?_, ?_, ?_⟩
  · refine (congrArg (fun z : FVec Ideal S64x256 .f32 × FVec Ideal S1x256 .f32 × FVec Ideal S64x256 .f32 × FVec Ideal S1x256 .f32
        × FVec Ideal S64x256 .f32 × FVec Ideal S1x256 .f32 => H3O (QO (DQS z.2.2.2.2.1 (VB x2 2 (i 1)) (DM x1 x3 x5 (ROW x0 x4 x6 x7 x8 (i 1)) (i 1) 2))) (QO (DQS z.2.2.1 (VB x2 1 (i 1)) (DM x1 x3 x5 (ROW x0 x4 x6 x7 x8 (i 1)) (i 1) 1))) (QO (DQS z.1 (VB x2 0 (i 1)) (DM x1 x3 x5 (ROW x0 x4 x6 x7 x8 (i 1)) (i 1) 0)))) H).trans ?_
    rw [trips1_t1 i]; rfl
  · exact (stores_o arg12 _ _ _ _ _ _ _ (i 1) (congrArg (![0, ·, 0]) hr) (congrArg (![1, ·, 0]) hr) (congrArg (![2, ·, 0]) hr)
      (WK x1 x3 x5 (ROW x0 x4 x6 x7 x8 (i 1)) (i 1) (arg12.view.read (Elt Ideal) (arg12.view.writes (Elt Ideal) _ _))) _).trans
      (congrArg (fun z => UP z (i 1) (WK x1 x3 x5 (ROW x0 x4 x6 x7 x8 (i 1)) (i 1) z)) (H12.trans (congrArg _ (trips1_t1 i))))
  · exact (stores_o arg13 _ _ _ _ _ _ _ (i 1) (congrArg (![0, ·, 0]) hr) (congrArg (![1, ·, 0]) hr) (congrArg (![2, ·, 0]) hr)
      (WV x1 x5 (ROW x0 x4 x6 x7 x8 (i 1)) (i 1) (arg13.view.read (Elt Ideal) (arg13.view.writes (Elt Ideal) _ _))) _).trans
      (congrArg (fun z => UP z (i 1) (WV x1 x5 (ROW x0 x4 x6 x7 x8 (i 1)) (i 1) z)) (H13.trans (congrArg _ (trips1_t1 i))))
  · refine (congrArg (fun z : FVec Ideal S64x256 .f32 × FVec Ideal S1x256 .f32 × FVec Ideal S64x256 .f32 × FVec Ideal S1x256 .f32
        × FVec Ideal S64x256 .f32 × FVec Ideal S1x256 .f32 => H3R (RO (RSS z.2.2.2.2.2 (DM x1 x3 x5 (ROW x0 x4 x6 x7 x8 (i 1)) (i 1) 2))) (RO (RSS z.2.2.2.1 (DM x1 x3 x5 (ROW x0 x4 x6 x7 x8 (i 1)) (i 1) 1))) (RO (RSS z.2.1 (DM x1 x3 x5 (ROW x0 x4 x6 x7 x8 (i 1)) (i 1) 0)))) H).trans ?_
    rw [trips1_t1 i]; rfl
  · exact (stores_p arg15 _ _ _ _ _ _ _ (i 1) (congrArg (![0, ·, 0]) hr) (congrArg (![1, ·, 0]) hr) (congrArg (![2, ·, 0]) hr)
      (WC x1 x3 x5 (ROW x0 x4 x6 x7 x8 (i 1)) (i 1) (arg15.view.read (Elt Ideal) (arg15.view.writes (Elt Ideal) _ _))) _).trans
      (congrArg (fun z => UC z (i 1) (WC x1 x3 x5 (ROW x0 x4 x6 x7 x8 (i 1)) (i 1) z)) (H15.trans (congrArg _ (trips1_t1 i))))

end

end Cert.KernelIdeal.Fox

end
-- ==== Proof.BackValue.lean ====
/- The backward body at one grid point over the real numbers: with the blocks it reads holding a head's queries, keys,
   values, gate sums, cotangent, result and softmax logarithm, its five result blocks are that head's gradients, the ones
   for the keys' rows grown by this block of queries. -/
module

public import proofs.«01_k».proof.Proof.BackBody

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Fox

/-- The blocks of a grid point of the backward pass hold head `x`'s real numbers, at the group's head `e` and the block
    `j` of queries. -/
structure BHolds (x0 : Vec Ideal S3x256x64 .bf16) (x1 : Vec Ideal S3x2048x64 .bf16) (x2 : Vec Ideal S3x8x64x256 .bf16)
    (x3 : Vec Ideal S3x2048x64 .bf16) (x4 : Vec Ideal S3x8x1x256 .f32) (x5 : Vec Ideal S3x2048x1 .f32) (x6 : Vec Ideal S3x64x256 .f32)
    (x7 : Vec Ideal S3x1x1x256 .f32) (x8 : Vec Ideal S3x64x256 .f32) (x : Head) (e : Fin 3) (j : Fin 8) : Prop
    extends Holds x0 x1 x4 x5 x e j where
  kt : ∀ (n : Fin 8) (d : Fin 64) (b : Fin 256), x2 (ix4 e n d b) = ((x.K (256 * n.val + b.val) d : ℝ) : EReal)
  v : ∀ (r : Fin 2048) (d : Fin 64), x3 (ix3 e r d) = ((x.V r.val d : ℝ) : EReal)
  o : ∀ (d : Fin 64) (a : Fin 256), x6 (ix3 e d a) = ((x.O (256 * j.val + a.val) d : ℝ) : EReal)
  ls : ∀ a : Fin 256, x7 (ix4 e 0 0 a) = ((Real.log (x.Z (256 * j.val + a.val)) : ℝ) : EReal)
  ct : ∀ (d : Fin 64) (a : Fin 256), x8 (ix3 e d a) = ((x.CT (256 * j.val + a.val) d : ℝ) : EReal)

variable {x0 : Vec Ideal S3x256x64 .bf16} {x1 : Vec Ideal S3x2048x64 .bf16} {x2 : Vec Ideal S3x8x64x256 .bf16}
  {x3 : Vec Ideal S3x2048x64 .bf16} {x4 : Vec Ideal S3x8x1x256 .f32} {x5 : Vec Ideal S3x2048x1 .f32} {x6 : Vec Ideal S3x64x256 .f32}
  {x7 : Vec Ideal S3x1x1x256 .f32} {x8 : Vec Ideal S3x64x256 .f32} {x : Head} {e : Fin 3} {j : Fin 8}

theorem ROW_g (d : Fin 64) (a : Fin 256) : (ROW x0 x4 x6 x7 x8 j e).g (ix2 d a) = x8 (ix3 e d a) := by
  pointwise [ROW, GB]
theorem ROW_ls (a : Fin 256) : (ROW x0 x4 x6 x7 x8 j e).ls (ix2 0 a) = x7 (ix4 e 0 0 a) := by
  pointwise [ROW, SB]
theorem ROW_dl (a : Fin 256) : (ROW x0 x4 x6 x7 x8 j e).dl (ix2 0 a) = ∑ d : Fin 64, x8 (ix3 e d a) * x6 (ix3 e d a) := by
  pointwise [ROW, GB]

section
variable (h : BHolds x0 x1 x2 x3 x4 x5 x6 x7 x8 x e j)
include h

theorem BHolds.g (d : Fin 64) (a : Fin 256) : (ROW x0 x4 x6 x7 x8 j e).g (ix2 d a) = ((x.CT (256 * j.val + a.val) d : ℝ) : EReal) := by
  rw [ROW_g, h.ct]
theorem BHolds.dl (a : Fin 256) : (ROW x0 x4 x6 x7 x8 j e).dl (ix2 0 a) = ((x.delta (256 * j.val + a.val) : ℝ) : EReal) := by
  rw [ROW_dl]
  simp only [h.ct, h.o, ← EReal.coe_mul]
  rw [coe_sum, Head.delta]

theorem BHolds.pos (a : Fin 256) : 0 < x.Z (256 * j.val + a.val) := by
  have := j.isLt
  exact x.Z_pos (by omega)

/-- Probabilities of an earlier block, of the point's own block, and the logits' gradients at both. -/
theorem BHolds.pu {n : ℕ} (hn : n < j.val) (b a : Fin 256) :
    PU x1 x5 (ROW x0 x4 x6 x7 x8 j e) e (Fin.ofNat 8 n) (ix2 b a) = ((x.p (256 * j.val + a.val) (256 * n + b.val) : ℝ) : EReal) := by
  rw [PU, PB_apply, ROW_ls, h.ls]
  refine (congrArg (fun z => Ideal.exp (z - _)) (h.un hn b a)).trans ?_
  rw [exp_masked_sub_log _ _ (h.pos a)]
  rfl
theorem BHolds.pm (b a : Fin 256) :
    PM x1 x5 (ROW x0 x4 x6 x7 x8 j e) e j (ix2 b a) = ((x.p (256 * j.val + a.val) (256 * j.val + b.val) : ℝ) : EReal) := by
  rw [PM, PB_apply, ROW_ls, h.ls]
  refine (congrArg (fun z => Ideal.exp (z - _)) (h.diag b a)).trans ?_
  rw [exp_masked_sub_log _ _ (h.pos a)]
  rfl
theorem BHolds.db (p : FVec Ideal S256x256 .f32) (m : Fin 8) (b a : Fin 256)
    (hp : p (ix2 b a) = ((x.p (256 * j.val + a.val) (256 * m.val + b.val) : ℝ) : EReal)) :
    DB x3 p (ROW x0 x4 x6 x7 x8 j e) e m (ix2 b a) = ((x.ds (256 * j.val + a.val) (256 * m.val + b.val) : ℝ) : EReal) := by
  rw [DB, DS_apply, hp, h.dl]
  have hv (d : Fin 64) : KB x3 e m (ix3 0 b d) = ((x.V (256 * m.val + b.val) d : ℝ) : EReal) := h.v (row m b) d
  simp only [hv, h.g, ← EReal.coe_mul]
  rw [coe_sum, ← EReal.coe_sub, ← EReal.coe_mul]
  rfl
theorem BHolds.du {n : ℕ} (hn : n < j.val) (b a : Fin 256) :
    DU x1 x3 x5 (ROW x0 x4 x6 x7 x8 j) e (Fin.ofNat 8 n) (ix2 b a)
      = ((x.ds (256 * j.val + a.val) (256 * n + b.val) : ℝ) : EReal) := by
  have hv : (Fin.ofNat 8 n).val = n := Nat.mod_eq_of_lt (hn.trans j.isLt)
  refine (h.db _ (Fin.ofNat 8 n) b a ((h.pu hn b a).trans (by rw [hv]))).trans (by rw [hv])
theorem BHolds.dm (b a : Fin 256) : DM x1 x3 x5 (ROW x0 x4 x6 x7 x8 j) j e (ix2 b a)
    = ((x.ds (256 * j.val + a.val) (256 * j.val + b.val) : ℝ) : EReal) :=
  h.db _ j b a (h.pm b a)

/-- The carries after one more block. -/
theorem BHolds.dqs (n : ℕ) (hn : n < 8) (acc : FVec Ideal S64x256 .f32) (w : FVec Ideal S256x256 .f32) (d : Fin 64) (a : Fin 256)
    (ha : acc (ix2 d a) = ((x.dqn (256 * n) (256 * j.val + a.val) d : ℝ) : EReal))
    (hw : ∀ b, w (ix2 b a) = ((x.ds (256 * j.val + a.val) (256 * n + b.val) : ℝ) : EReal)) :
    DQS acc (VB x2 e (Fin.ofNat 8 n)) w (ix2 d a) = ((x.dqn (256 * (n + 1)) (256 * j.val + a.val) d : ℝ) : EReal) := by
  have hv : (Fin.ofNat 8 n).val = n := Nat.mod_eq_of_lt hn
  have hk (b : Fin 256) : VB x2 e (Fin.ofNat 8 n) (ix4 0 0 d b) = ((x.K (256 * n + b.val) d : ℝ) : EReal) :=
    (h.kt (Fin.ofNat 8 n) d b).trans (by rw [hv])
  rw [DQS_apply, ha]
  simp only [hk, hw, ← EReal.coe_mul]
  rw [coe_sum, ← EReal.coe_add, Head.dqn, Head.dqn, sum_block]
omit h in
theorem rss (n : ℕ) (acc : FVec Ideal S1x256 .f32) (w : FVec Ideal S256x256 .f32) (a : Fin 256)
    (ha : acc (ix2 0 a) = ((x.dcqn (256 * n) (256 * j.val + a.val) : ℝ) : EReal))
    (hw : ∀ b, w (ix2 b a) = ((x.ds (256 * j.val + a.val) (256 * n + b.val) : ℝ) : EReal)) :
    RSS acc w (ix2 0 a) = ((x.dcqn (256 * (n + 1)) (256 * j.val + a.val) : ℝ) : EReal) := by
  rw [RSS_apply, ha]
  simp only [hw]
  rw [coe_sum, ← EReal.coe_add, Head.dcqn, Head.dcqn, sum_block]

theorem BHolds.car (n : ℕ) (hn : n ≤ j.val) (a : Fin 256) :
    (∀ d, (CAR x1 x2 x3 x5 (ROW x0 x4 x6 x7 x8 j) e n).1 (ix2 d a) = ((x.dqn (256 * n) (256 * j.val + a.val) d : ℝ) : EReal))
    ∧ (CAR x1 x2 x3 x5 (ROW x0 x4 x6 x7 x8 j) e n).2 (ix2 0 a) = ((x.dcqn (256 * n) (256 * j.val + a.val) : ℝ) : EReal) := by
  induction n with
  | zero =>
    refine ⟨fun d => ?_, ?_⟩
    · have : (CAR x1 x2 x3 x5 (ROW x0 x4 x6 x7 x8 j) e 0).1 (ix2 d a) = 0 := by pointwise [CAR]
      rw [this]; simp [Head.dqn]
    · have : (CAR x1 x2 x3 x5 (ROW x0 x4 x6 x7 x8 j) e 0).2 (ix2 0 a) = 0 := by pointwise [CAR]
      rw [this]; simp [Head.dcqn]
  | succ n ih =>
    have hj := j.isLt
    obtain ⟨h1, h2⟩ := ih (by omega)
    exact ⟨fun d => h.dqs n (by omega) _ _ d a (h1 d) fun b => h.du (by omega) b a,
      rss n _ _ a h2 fun b => h.du (by omega) b a⟩

theorem BHolds.cf (a : Fin 256) :
    (∀ d, (CF x1 x2 x3 x5 (ROW x0 x4 x6 x7 x8 j) j e).1 (ix2 d a) = ((x.dqn 2048 (256 * j.val + a.val) d : ℝ) : EReal))
    ∧ (CF x1 x2 x3 x5 (ROW x0 x4 x6 x7 x8 j) j e).2 (ix2 0 a) = ((x.dcqn 2048 (256 * j.val + a.val) : ℝ) : EReal) := by
  have hj := j.isLt
  have hv : Fin.ofNat 8 j.val = j := Fin.ext (Nat.mod_eq_of_lt hj)
  have hr : 256 * j.val + a.val < 256 * (j.val + 1) := by omega
  have hm : 256 * (j.val + 1) ≤ 2048 := by omega
  obtain ⟨h1, h2⟩ := h.car j.val le_rfl a
  rw [← x.dcqn_eq hr hm]
  refine ⟨fun d => ?_, rss j.val _ _ a h2 fun b => h.dm b a⟩
  rw [← x.dqn_eq hr hm]
  have := h.dqs j.val hj _ (DM x1 x3 x5 (ROW x0 x4 x6 x7 x8 j) j e) d a (h1 d) fun b => h.dm b a
  rw [hv] at this
  exact this
end

/-- Replacing block `j` by itself plus real numbers. -/
theorem up_step (e : Fin 3) (G : Vec Ideal S3x2048x64 .f32) (j : Fin 8) (W : Fin 3 → FVec Ideal S1x256x64 .f32)
    (A : Fin 8 → Fin 256 → Fin 64 → ℝ) (T : Fin 256 → Fin 64 → ℝ) (hG : ∀ m b d, G (ix3 e (row m b) d) = ((A m b d : ℝ) : EReal))
    (hW : ∀ b d, W e (ix3 0 b d) = G (ix3 e (row j b) d) + ((T b d : ℝ) : EReal)) (m : Fin 8) (b : Fin 256) (d : Fin 64) :
    UP G j W (ix3 e (row m b) d) = ((A m b d + (if m = j then T b d else 0) : ℝ) : EReal) := by
  by_cases hm : m = j
  · subst hm
    rw [UP_row, hW, hG, if_pos rfl, EReal.coe_add]
  · rw [UP_off _ _ _ hm, hG, if_neg hm, add_zero]
theorem uc_step (e : Fin 3) (G : Vec Ideal S3x2048x1 .f32) (j : Fin 8) (W : Fin 3 → FVec Ideal S1x256x1 .f32)
    (A : Fin 8 → Fin 256 → ℝ) (T : Fin 256 → ℝ) (hG : ∀ m b, G (ix3 e (row m b) 0) = ((A m b : ℝ) : EReal))
    (hW : ∀ b, W e (ix3 0 b 0) = G (ix3 e (row j b) 0) + ((T b : ℝ) : EReal)) (m : Fin 8) (b : Fin 256) :
    UC G j W (ix3 e (row m b) 0) = ((A m b + (if m = j then T b else 0) : ℝ) : EReal) := by
  by_cases hm : m = j
  · subst hm
    rw [UC_row, hW, hG, if_pos rfl, EReal.coe_add]
  · rw [UC_off _ _ _ hm, hG, if_neg hm, add_zero]

/-- Blocks `0 … j` each grown once by `T`, later ones left: since `T` is zero past `j`, every row has grown by `T`. -/
theorem grown (j m : Fin 8) (y T : ℝ) (hT : j < m → T = 0) :
    y + (if m.val < j.val then T else 0) + (if m = j then T else 0) = y + T := by
  rcases lt_trichotomy m j with h | h | h
  · rw [if_pos (Fin.lt_def.1 h), if_neg h.ne, add_zero]
  · rw [if_pos h, if_neg (by rw [h]; exact lt_irrefl _), add_zero]
  · rw [hT h, ite_self, ite_self, add_zero, add_zero]
theorem grow_next (n : ℕ) (hn : n < 8) (m : Fin 8) (y T T' : ℝ) (hT : m = Fin.ofNat 8 n → T' = T) :
    y + (if m.val < n then T else 0) + (if m = Fin.ofNat 8 n then T' else 0) = y + (if m.val < n + 1 then T else 0) := by
  have hv : (Fin.ofNat 8 n).val = n := Nat.mod_eq_of_lt hn
  have hiff : m = Fin.ofNat 8 n ↔ m.val = n := by rw [Fin.ext_iff, hv]
  by_cases h : m.val = n
  · rw [if_neg (by omega), if_pos (hiff.2 h), if_pos (by omega), hT (hiff.2 h), add_zero]
  · rw [if_neg (fun k => h (hiff.1 k)), add_zero]
    exact congrArg _ (if_congr (by omega) rfl rfl)

section
variable (h : BHolds x0 x1 x2 x3 x4 x5 x6 x7 x8 x e j)
include h

/-- What the block of queries adds to a key's three gradients. -/
theorem BHolds.dkw (old : FVec Ideal S1x256x64 .f32) (w : FVec Ideal S256x256 .f32) (m : ℕ) (b : Fin 256) (d : Fin 64)
    (hw : ∀ a, w (ix2 b a) = ((x.ds (256 * j.val + a.val) (256 * m + b.val) : ℝ) : EReal)) :
    DKW old w (ROW x0 x4 x6 x7 x8 j e).q (ix3 0 b d) = old (ix3 0 b d)
      + (((∑ a : Fin 256, x.ds (256 * j.val + a.val) (256 * m + b.val) * x.Q (256 * j.val + a.val) d) * (1 / 8) : ℝ) : EReal) := by
  have hq (a : Fin 256) : (ROW x0 x4 x6 x7 x8 j e).q (ix2 a d) = ((x.Q (256 * j.val + a.val) d : ℝ) : EReal) :=
    (QH_apply ..).trans (h.q a d)
  rw [DKW_apply]
  simp only [hw, hq, ← EReal.coe_mul]
  rw [coe_sum, ← EReal.coe_mul]
theorem BHolds.dvw (old : FVec Ideal S1x256x64 .f32) (w : FVec Ideal S256x256 .f32) (m : ℕ) (b : Fin 256) (d : Fin 64)
    (hw : ∀ a, w (ix2 b a) = ((x.p (256 * j.val + a.val) (256 * m + b.val) : ℝ) : EReal)) :
    DVW old w (ROW x0 x4 x6 x7 x8 j e).g (ix3 0 b d) = old (ix3 0 b d)
      + ((∑ a : Fin 256, x.p (256 * j.val + a.val) (256 * m + b.val) * x.CT (256 * j.val + a.val) d : ℝ) : EReal) := by
  rw [DVW_apply]
  simp only [hw, h.g, ← EReal.coe_mul]
  rw [coe_sum]
omit h in
theorem dcw (old : FVec Ideal S1x256x1 .f32) (w : FVec Ideal S256x256 .f32) (m : ℕ) (b : Fin 256)
    (hw : ∀ a, w (ix2 b a) = ((x.ds (256 * j.val + a.val) (256 * m + b.val) : ℝ) : EReal)) :
    DCW old w (ix3 0 b 0) = old (ix3 0 b 0)
      + ((∑ a : Fin 256, -x.ds (256 * j.val + a.val) (256 * m + b.val) : ℝ) : EReal) := by
  rw [DCW_apply]
  simp only [hw]
  rw [coe_sum, ← EReal.coe_zero, ← EReal.coe_sub, zero_sub, Finset.sum_neg_distrib]

/-- The keys' gradient: every row grows by the block's part. -/
theorem BHolds.kf (y : Vec Ideal S3x2048x64 .f32) (Y : Fin 8 → Fin 256 → Fin 64 → ℝ)
    (hy : ∀ m b d, y (ix3 e (row m b) d) = ((Y m b d : ℝ) : EReal)) (m : Fin 8) (b : Fin 256) (d : Fin 64) :
    KF x1 x3 x5 (ROW x0 x4 x6 x7 x8 j) j y (ix3 e (row m b) d) = ((Y m b d
      + (∑ a : Fin 256, x.ds (256 * j.val + a.val) (256 * m.val + b.val) * x.Q (256 * j.val + a.val) d) * (1 / 8) : ℝ) : EReal) := by
  have hj := j.isLt
  have H (n : ℕ) (hn : n ≤ j.val) (m : Fin 8) (b : Fin 256) (d : Fin 64) : AK x1 x3 x5 (ROW x0 x4 x6 x7 x8 j) y n (ix3 e (row m b) d)
      = ((Y m b d + (if m.val < n then (∑ a : Fin 256, x.ds (256 * j.val + a.val) (256 * m.val + b.val)
        * x.Q (256 * j.val + a.val) d) * (1 / 8) else 0) : ℝ) : EReal) := by
    induction n generalizing m b d with
    | zero => exact (hy m b d).trans (by simp)
    | succ n ih =>
      have hv : (Fin.ofNat 8 n).val = n := Nat.mod_eq_of_lt (by omega)
      refine (up_step e _ (Fin.ofNat 8 n) _ _ _ (ih (by omega))
        (fun b d => h.dkw _ _ n b d fun a => h.du (by omega) b a) m b d).trans (congrArg _ (grow_next n (by omega) m _ _ _ fun hm => ?_))
      rw [hm, hv]
  refine (up_step e _ j _ _ _ (H j.val le_rfl) (fun b d => h.dkw _ _ j.val b d fun a => h.dm b a) m b d).trans
    (congrArg _ ?_)
  have := grown j m (Y m b d) ((∑ a : Fin 256, x.ds (256 * j.val + a.val) (256 * m.val + b.val) * x.Q (256 * j.val + a.val) d) * (1 / 8))
    fun hm => by
      have hm : j.val < m.val := hm
      rw [Finset.sum_eq_zero fun a _ => by rw [x.ds_of_lt (by omega), zero_mul], zero_mul]
  rw [← this]
  refine congrArg _ (if_ctx_congr Iff.rfl (fun hm => by rw [hm]) fun _ => rfl)
theorem BHolds.vf (y : Vec Ideal S3x2048x64 .f32) (Y : Fin 8 → Fin 256 → Fin 64 → ℝ)
    (hy : ∀ m b d, y (ix3 e (row m b) d) = ((Y m b d : ℝ) : EReal)) (m : Fin 8) (b : Fin 256) (d : Fin 64) :
    VF x1 x5 (ROW x0 x4 x6 x7 x8 j) j y (ix3 e (row m b) d) = ((Y m b d
      + ∑ a : Fin 256, x.p (256 * j.val + a.val) (256 * m.val + b.val) * x.CT (256 * j.val + a.val) d : ℝ) : EReal) := by
  have hj := j.isLt
  have H (n : ℕ) (hn : n ≤ j.val) (m : Fin 8) (b : Fin 256) (d : Fin 64) : AV x1 x5 (ROW x0 x4 x6 x7 x8 j) y n (ix3 e (row m b) d)
      = ((Y m b d + (if m.val < n then ∑ a : Fin 256, x.p (256 * j.val + a.val) (256 * m.val + b.val)
        * x.CT (256 * j.val + a.val) d else 0) : ℝ) : EReal) := by
    induction n generalizing m b d with
    | zero => exact (hy m b d).trans (by simp)
    | succ n ih =>
      have hv : (Fin.ofNat 8 n).val = n := Nat.mod_eq_of_lt (by omega)
      refine (up_step e _ (Fin.ofNat 8 n) _ _ _ (ih (by omega))
        (fun b d => h.dvw _ _ n b d fun a => h.pu (by omega) b a) m b d).trans (congrArg _ (grow_next n (by omega) m _ _ _ fun hm => ?_))
      rw [hm, hv]
  refine (up_step e _ j _ _ _ (H j.val le_rfl) (fun b d => h.dvw _ _ j.val b d fun a => h.pm b a) m b d).trans
    (congrArg _ ?_)
  have := grown j m (Y m b d) (∑ a : Fin 256, x.p (256 * j.val + a.val) (256 * m.val + b.val) * x.CT (256 * j.val + a.val) d)
    fun hm => by
      have hm : j.val < m.val := hm
      rw [Finset.sum_eq_zero fun a _ => by rw [x.p_of_lt (by omega), zero_mul]]
  rw [← this]
  refine congrArg _ (if_ctx_congr Iff.rfl (fun hm => by rw [hm]) fun _ => rfl)
theorem BHolds.pf (y : Vec Ideal S3x2048x1 .f32) (Y : Fin 8 → Fin 256 → ℝ)
    (hy : ∀ m b, y (ix3 e (row m b) 0) = ((Y m b : ℝ) : EReal)) (m : Fin 8) (b : Fin 256) :
    PF x1 x3 x5 (ROW x0 x4 x6 x7 x8 j) j y (ix3 e (row m b) 0) = ((Y m b
      + ∑ a : Fin 256, -x.ds (256 * j.val + a.val) (256 * m.val + b.val) : ℝ) : EReal) := by
  have hj := j.isLt
  have H (n : ℕ) (hn : n ≤ j.val) (m : Fin 8) (b : Fin 256) : AC x1 x3 x5 (ROW x0 x4 x6 x7 x8 j) y n (ix3 e (row m b) 0)
      = ((Y m b + (if m.val < n then ∑ a : Fin 256, -x.ds (256 * j.val + a.val) (256 * m.val + b.val) else 0) : ℝ) : EReal) := by
    induction n generalizing m b with
    | zero => exact (hy m b).trans (by simp)
    | succ n ih =>
      have hv : (Fin.ofNat 8 n).val = n := Nat.mod_eq_of_lt (by omega)
      refine (uc_step e _ (Fin.ofNat 8 n) _ _ _ (ih (by omega))
        (fun b => dcw _ _ n b fun a => h.du (by omega) b a) m b).trans (congrArg _ (grow_next n (by omega) m _ _ _ fun hm => ?_))
      rw [hm, hv]
  refine (uc_step e _ j _ _ _ (H j.val le_rfl) (fun b => dcw _ _ j.val b fun a => h.dm b a) m b).trans
    (congrArg _ ?_)
  have := grown j m (Y m b) (∑ a : Fin 256, -x.ds (256 * j.val + a.val) (256 * m.val + b.val))
    fun hm => by
      have hm : j.val < m.val := hm
      rw [Finset.sum_eq_zero fun a _ => by rw [x.ds_of_lt (by omega), neg_zero]]
  rw [← this]
  refine congrArg _ (if_ctx_congr Iff.rfl (fun hm => by rw [hm]) fun _ => rfl)
end

end Cert.KernelIdeal.Fox

end
-- ==== Proof.Entry.lean ====
/- The heads the launch is given, read off the argument arrays, and what the two calls' operands hold of them when each call
   is entered. -/
module

public import proofs.«01_k».proof.Proof.BackValue
public import Idealize.ShloMosaic.Lib.Claim

@[expose] public section

set_option maxRecDepth 16384

noncomputable section

namespace Cert.Fox

open Idealize.ShloMosaic Idealize.ShloMosaic.Tactic

abbrev SQ : Shape := ⟨2, ![2048, 768]⟩
abbrev SC : Shape := ⟨2, ![12, 2048]⟩

/-- Feature `d` of head `h` among the 768 columns. -/
def feat (h : Fin 12) (d : Fin 64) : Fin 768 := ⟨h.val * 64 + d.val, by omega⟩

/-- Every element is a real number. -/
def IsReal {s : Shape} (x : FVec Ideal s .f32) : Prop := ∀ y, x y = ((EReal.toReal (x y) : ℝ) : EReal)

/-- Head `h` of the arrays of queries, keys, values, gate sums and the result's cotangent. -/
def headOf (q k v : FVec Ideal SQ .f32) (g : FVec Ideal SC .f32) (ct : FVec Ideal SQ .f32) (h : Fin 12) : Head where
  Q r d := EReal.toReal (q (ix2 (Fin.ofNat 2048 r) (feat h d)))
  K r d := EReal.toReal (k (ix2 (Fin.ofNat 2048 r) (feat h d)))
  V r d := EReal.toReal (v (ix2 (Fin.ofNat 2048 r) (feat h d)))
  CT r d := EReal.toReal (ct (ix2 (Fin.ofNat 2048 r) (feat h d)))
  C r := EReal.toReal (g (ix2 h (Fin.ofNat 2048 r)))

theorem ofNat_val (r : Fin 2048) : Fin.ofNat 2048 r.val = r := Fin.ext (Nat.mod_eq_of_lt r.isLt)

theorem IsReal.at {q : FVec Ideal SQ .f32} (hq : IsReal q) (r : Fin 2048) (h : Fin 12) (d : Fin 64) :
    q (ix2 r (feat h d)) = ((EReal.toReal (q (ix2 (Fin.ofNat 2048 r.val) (feat h d))) : ℝ) : EReal) := by
  rw [ofNat_val]; exact hq _
theorem IsReal.atc {g : FVec Ideal SC .f32} (hg : IsReal g) (r : Fin 2048) (h : Fin 12) :
    g (ix2 h r) = ((EReal.toReal (g (ix2 h (Fin.ofNat 2048 r.val))) : ℝ) : EReal) := by
  rw [ofNat_val]; exact hg _

end Cert.Fox

namespace Cert.KernelIdeal.Fox

open Idealize.ShloMosaic Idealize.ShloMosaic.TcCoe Idealize.ShloMosaic.Tactic Cert.KernelIdeal Cert.KernelIdeal.Gen Cert.Fox

variable (m : (ℓ : Loc nD τ sig) → Buf (Elt Ideal) ℓ) (ρ : Dev nD → PrngReg) (c : Dev nD)

/-- Head `h` of a device's arguments. -/
def HD (h : Fin 12) : Head :=
  headOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) h

/-- The device's arguments are real numbers. -/
structure Given : Prop where
  q : IsReal (m ((c.tc : Thread nD τ).loc main_arg0))
  k : IsReal (m ((c.tc : Thread nD τ).loc main_arg1))
  v : IsReal (m ((c.tc : Thread nD τ).loc main_arg2))
  g : IsReal (m ((c.tc : Thread nD τ).loc main_arg3))
  ct : IsReal (m ((c.tc : Thread nD τ).loc main_arg4))

variable {m c} (G : Given m c)
include G

theorem V1_q (h : Fin 12) (r : Fin 2048) (d : Fin 64) :
    V1 m ρ c main_v14 (ix3 h r d) = (((HD m c h).Q r.val d : ℝ) : EReal) := by
  refine Eq.trans ?_ (G.q.at r h d)
  unfold_abbrev_sides
  after_results
  pointwise
  rfl
theorem V1_k (h : Fin 12) (r : Fin 2048) (d : Fin 64) :
    V1 m ρ c main_v3 (ix3 h r d) = (((HD m c h).K r.val d : ℝ) : EReal) := by
  refine Eq.trans ?_ (G.k.at r h d)
  unfold_abbrev_sides
  after_results
  pointwise
  rfl
theorem V1_v (h : Fin 12) (r : Fin 2048) (d : Fin 64) :
    V1 m ρ c main_v5 (ix3 h r d) = (((HD m c h).V r.val d : ℝ) : EReal) := by
  refine Eq.trans ?_ (G.v.at r h d)
  unfold_abbrev_sides
  after_results
  pointwise
  rfl
theorem V1_kt (h : Fin 12) (n : Fin 8) (d : Fin 64) (b : Fin 256) :
    V1 m ρ c main_v7 (ix4 h n d b) = (((HD m c h).K (256 * n.val + b.val) d : ℝ) : EReal) := by
  refine Eq.trans ?_ (G.k.at (row n b) h d)
  unfold_abbrev_sides
  after_results
  pointwise
  exact congrArg (fun z => m ((c.tc : Thread nD τ).loc main_arg1) (ix2 z (feat h d))) (Fin.ext (by show n.val * 256 + b.val = 256 * n.val + b.val; omega))
theorem V1_vt (h : Fin 12) (n : Fin 8) (d : Fin 64) (b : Fin 256) :
    V1 m ρ c main_v9 (ix4 h n d b) = (((HD m c h).V (256 * n.val + b.val) d : ℝ) : EReal) := by
  refine Eq.trans ?_ (G.v.at (row n b) h d)
  unfold_abbrev_sides
  after_results
  pointwise
  exact congrArg (fun z => m ((c.tc : Thread nD τ).loc main_arg2) (ix2 z (feat h d))) (Fin.ext (by show n.val * 256 + b.val = 256 * n.val + b.val; omega))
theorem V1_cq (h : Fin 12) (n : Fin 8) (b : Fin 256) :
    V1 m ρ c main_v10 (ix4 h n 0 b) = (((HD m c h).C (256 * n.val + b.val) : ℝ) : EReal) := by
  refine Eq.trans ?_ (G.g.atc (row n b) h)
  unfold_abbrev_sides
  after_results
  pointwise
  exact congrArg (fun z => m ((c.tc : Thread nD τ).loc main_arg3) (ix2 h z)) (Fin.ext (by show n.val * 256 + b.val = 256 * n.val + b.val; omega))
theorem V1_ck (h : Fin 12) (r : Fin 2048) :
    V1 m ρ c main_v11 (ix3 h r 0) = (((HD m c h).C r.val : ℝ) : EReal) := by
  refine Eq.trans ?_ (G.g.atc r h)
  unfold_abbrev_sides
  after_results
  pointwise
theorem V3_ct (h : Fin 12) (d : Fin 64) (r : Fin 2048) :
    V3 m ρ c main_v17 (ix3 h d r) = (((HD m c h).CT r.val d : ℝ) : EReal) := by
  refine Eq.trans ?_ (G.ct.at r h d)
  unfold_abbrev_sides
  after_results
  pointwise
  rw [W2_args m ρ c main_arg4 (by decide)]
  rfl

omit G in
/-- The second call's operands that the first leaves as they were. -/
theorem V3_of (r : Ref sig .tc) (h3 : r ∉ hostOps1_W) (h : ∀ w : Fin cfg0.W, Pipeline.arrRef spec0 w = r → (cfg0.win w).isOut = false) :
    V3 m ρ c r = V1 m ρ c r :=
  (W3_of m ρ c r h3).trans (W2_of m ρ c r h)

end Cert.KernelIdeal.Fox

end
-- ==== Proof.Region0.lean ====
/- The first call's two result arrays: every head's attention and the logarithm of its softmax's denominator. -/
module

public import proofs.«01_k».proof.Proof.Entry
public import Idealize.ShloMosaic.Lib.Pipeline.ValueKit

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Fox

/-- Head `e` of grid point `t`'s group. -/
def hd0 (t : Fin cfg0.N) (e : Fin 3) : Fin 12 := ⟨t.val / 8 * 3 + e.val, by have : t.val < 32 := t.isLt; omega⟩

theorem idx0 : ∀ t : Fin cfg0.N, win0_0.index t = ![t.val / 8, (grid0.coords t 1).val, 0] ∧ win0_1.index t = ![t.val / 8, 0, 0]
    ∧ win0_2.index t = ![t.val / 8, 0, 0, 0] ∧ win0_3.index t = ![t.val / 8, 0, 0, 0] ∧ win0_4.index t = ![t.val / 8, 0, 0]
    ∧ win0_5.index t = ![t.val / 8, 0, (grid0.coords t 1).val] ∧ win0_6.index t = ![t.val / 8, (grid0.coords t 1).val, 0, 0] := by
  decide +kernel

variable {m : (ℓ : Loc nD τ sig) → Buf (Elt Ideal) ℓ} (ρ : Dev nD → PrngReg) {c : Dev nD} (G : Given m c)
include G

/-- A point's blocks hold its group's heads. -/
theorem holds0 (t : Fin cfg0.N) (e : Fin 3) : Holds (iblk0 (V1 m ρ) c 0 t) (iblk0 (V1 m ρ) c 1 t) (iblk0 (V1 m ρ) c 3 t)
    (iblk0 (V1 m ρ) c 4 t) (HD m c (hd0 t e)) e (grid0.coords t 1) where
  q a d := by
    refine Eq.trans ?_ (V1_q ρ G (hd0 t e) (row (grid0.coords t 1) a) d)
    have h := (idx0 t).1
    blk_ext [iblk0, h, hd0, row]
  k r d := by
    refine Eq.trans ?_ (V1_k ρ G (hd0 t e) r d)
    have h := (idx0 t).2.1
    blk_ext [iblk0, h, hd0]
  cq n a := by
    refine Eq.trans ?_ (V1_cq ρ G (hd0 t e) n a)
    have h := (idx0 t).2.2.2.1
    blk_ext [iblk0, h, hd0]
  ck r := by
    refine Eq.trans ?_ (V1_ck ρ G (hd0 t e) r)
    have h := (idx0 t).2.2.2.2.1
    blk_ext [iblk0, h, hd0]

theorem holds0_v (t : Fin cfg0.N) (e : Fin 3) (n : Fin 8) (d : Fin 64) (b : Fin 256) :
    iblk0 (V1 m ρ) c 2 t (ix4 e n d b) = (((HD m c (hd0 t e)).V (256 * n.val + b.val) d : ℝ) : EReal) := by
  refine Eq.trans ?_ (V1_vt ρ G (hd0 t e) n d b)
  have h := (idx0 t).2.2.1
  blk_ext [iblk0, h, hd0]

theorem pt0_o (t : Fin cfg0.N) (e : Fin 3) (d : Fin 64) (a : Fin 256) : (outsAt0 (V1 m ρ) c t).1 (ix3 e d a)
    = (((HD m c (hd0 t e)).O (256 * (grid0.coords t 1).val + a.val) d : ℝ) : EReal) := by
  unfold outsAt0
  dsimp only
  have H := out_o c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (holds0 ρ G t e) (holds0_v ρ G t e) d a
  exact H
theorem pt0_l (t : Fin cfg0.N) (e : Fin 3) (a : Fin 256) : (outsAt0 (V1 m ρ) c t).2 (ix4 e 0 0 a)
    = ((Real.log ((HD m c (hd0 t e)).Z (256 * (grid0.coords t 1).val + a.val)) : ℝ) : EReal) := by
  unfold outsAt0
  dsimp only
  have H := out_l c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (holds0 ρ G t e) (holds0_v ρ G t e) a
  exact H

omit G in
theorem ex3 {a b d : ℕ} (y : (⟨3, ![a, b, d]⟩ : Shape).Idx) : ∃ (i : Fin a) (j : Fin b) (k : Fin d), y = ix3 i j k :=
  ⟨y 0, y 1, y 2, funext fun x => by match x with | 0 => rfl | 1 => rfl | 2 => rfl⟩
omit G in
theorem ex4 {a b d e : ℕ} (y : (⟨4, ![a, b, d, e]⟩ : Shape).Idx) : ∃ (i : Fin a) (j : Fin b) (k : Fin d) (l : Fin e), y = ix4 i j k l :=
  ⟨y 0, y 1, y 2, y 3, funext fun x => by match x with | 0 => rfl | 1 => rfl | 2 => rfl | 3 => rfl⟩

/-- The attention, features by rows. -/
theorem W2_o : (W2 m ρ c (Proc.devRef .tc main_v15_0) : FVec Ideal S12x64x2048 .f32)
    = fun y => (((HD m c (y 0)).O (y 2).val (y 1) : ℝ) : EReal) := by
  refine (W2_arr m ρ c 5).trans ((dat0 (V1 m ρ) c).arrAt_eq_of_covers 5 _ (by decide +kernel) fun t hf y => ?_)
  have h := (idx0 t).2.2.2.2.2.1
  obtain ⟨e, d, a, rfl⟩ := ex3 (a := 3) (b := 64) (d := 256) y
  have hy : ((cfg0.win 5).blk t).view.emb (ix3 e d a) = ix3 (hd0 t e) d (row (grid0.coords t 1) a) := by
    blk_ext [h, hd0, row]
  rw [hy]
  show (dat0 (V1 m ρ) c).after 5 t (ix3 e d a) = _
  rw [after0_5]
  exact pt0_o ρ G t e d a
/-- The logarithms of the denominators, by blocks of rows. -/
theorem W2_l : (W2 m ρ c (Proc.devRef .tc main_v15_1) : FVec Ideal S12x8x1x256 .f32)
    = fun y => ((Real.log ((HD m c (y 0)).Z (256 * (y 1).val + (y 3).val)) : ℝ) : EReal) := by
  refine (W2_arr m ρ c 6).trans ((dat0 (V1 m ρ) c).arrAt_eq_of_covers 6 _ (by decide +kernel) fun t hf y => ?_)
  have h := (idx0 t).2.2.2.2.2.2
  obtain ⟨e, z, z', a, rfl⟩ := ex4 (a := 3) (b := 1) (d := 1) (e := 256) y
  obtain rfl : z = 0 := Subsingleton.elim _ _
  obtain rfl : z' = 0 := Subsingleton.elim _ _
  have hy : ((cfg0.win 6).blk t).view.emb (ix4 e 0 0 a) = ix4 (hd0 t e) (grid0.coords t 1) 0 a := by
    blk_ext [h, hd0]
  rw [hy]
  show (dat0 (V1 m ρ) c).after 6 t (ix4 e 0 0 a) = _
  rw [after0_6]
  exact pt0_l ρ G t e a

end Cert.KernelIdeal.Fox

end
-- ==== Proof.Region1.lean ====
/- The second call's five result arrays: every head's gradients. Along a group's eight points the gradients of the keys,
   the values and the keys' gate grow by one block of queries each. -/
module

public import proofs.«01_k».proof.Proof.Region0

@[expose] public section

set_option maxRecDepth 16384

noncomputable section

namespace Cert.KernelIdeal.Fox

open Idealize.ShloMosaic Idealize.ShloMosaic.TcCoe Idealize.ShloMosaic.Tactic Cert.KernelIdeal Cert.KernelIdeal.Gen Cert.Fox

/-- Head `e` of grid point `t`'s group. -/
def hd1 (t : Fin cfg1.N) (e : Fin 3) : Fin 12 := ⟨t.val / 8 * 3 + e.val, by have : t.val < 32 := t.isLt; omega⟩

theorem idx1 : ∀ t : Fin cfg1.N, win1_0.index t = ![t.val / 8, (grid1.coords t 1).val, 0] ∧ win1_1.index t = ![t.val / 8, 0, 0]
    ∧ win1_2.index t = ![t.val / 8, 0, 0, 0] ∧ win1_3.index t = ![t.val / 8, 0, 0] ∧ win1_4.index t = ![t.val / 8, 0, 0, 0]
    ∧ win1_5.index t = ![t.val / 8, 0, 0] ∧ win1_6.index t = ![t.val / 8, 0, (grid1.coords t 1).val]
    ∧ win1_7.index t = ![t.val / 8, (grid1.coords t 1).val, 0, 0] ∧ win1_8.index t = ![t.val / 8, 0, (grid1.coords t 1).val] := by
  decide +kernel
theorem idx1' : ∀ t : Fin cfg1.N, win1_9.index t = ![t.val / 8, 0, (grid1.coords t 1).val] ∧ win1_10.index t = ![t.val / 8, 0, 0]
    ∧ win1_11.index t = ![t.val / 8, 0, 0] ∧ win1_12.index t = ![t.val / 8, (grid1.coords t 1).val, 0, 0]
    ∧ win1_13.index t = ![t.val / 8, 0, 0] := by
  decide +kernel
theorem pt1 : ∀ t : Fin cfg1.N, (grid1.coords t 1).val = t.val % 8 := by decide +kernel
/-- The arrays that grow are written back at their group's last point. -/
theorem last1 : ∀ t : Fin cfg1.N, ((cfg1.win 10).flush t = true → t.val % 8 = 7) ∧ ((cfg1.win 11).flush t = true → t.val % 8 = 7)
    ∧ ((cfg1.win 13).flush t = true → t.val % 8 = 7) := by decide +kernel

/-- A point's five result blocks. -/
def PtVal (cf : Fin 3 → FVec Ideal S64x256 .f32 × FVec Ideal S1x256 .f32) (k v : Vec Ideal S3x2048x64 .f32) (p : Vec Ideal S3x2048x1 .f32) :
    Vec Ideal S3x64x256 .f32 × Vec Ideal S3x2048x64 .f32 × Vec Ideal S3x2048x64 .f32 × Vec Ideal S3x1x1x256 .f32 × Vec Ideal S3x2048x1 .f32 :=
  (H3O (QO (cf 2).1) (QO (cf 1).1) (QO (cf 0).1), k, v, H3R (RO (cf 2).2) (RO (cf 1).2) (RO (cf 0).2), p)

theorem H3O_apply (W : Fin 3 → FVec Ideal S1x64x256 .f32) (e : Fin 3) (d : Fin 64) (a : Fin 256) :
    H3O (W 2) (W 1) (W 0) (ix3 e d a) = W e (ix3 0 d a) := heads_o W e d a
theorem H3R_apply (W : Fin 3 → FVec Ideal S1x1x1x256 .f32) (e : Fin 3) (a : Fin 256) :
    H3R (W 2) (W 1) (W 0) (ix4 e 0 0 a) = W e (ix4 0 0 0 a) := heads_r W e a
theorem QO_apply (w : FVec Ideal S64x256 .f32) (d : Fin 64) (a : Fin 256) :
    QO w (ix3 0 d a) = w (ix2 d a) * ((1 / 8 : ℝ) : EReal) := by
  rw [← ofBits_eighth]
  pointwise [QO]
theorem RO_apply (w : FVec Ideal S1x256 .f32) (a : Fin 256) : RO w (ix4 0 0 0 a) = w (ix2 0 a) := by
  pointwise [RO]
theorem PtVal_q (cf : Fin 3 → FVec Ideal S64x256 .f32 × FVec Ideal S1x256 .f32) (k v : Vec Ideal S3x2048x64 .f32)
    (p : Vec Ideal S3x2048x1 .f32) (e : Fin 3) (d : Fin 64) (a : Fin 256) :
    (PtVal cf k v p).1 (ix3 e d a) = (cf e).1 (ix2 d a) * ((1 / 8 : ℝ) : EReal) := by
  have h : (PtVal cf k v p).1 = H3O (QO (cf 2).1) (QO (cf 1).1) (QO (cf 0).1) := by dsimp only [PtVal]
  have h' := H3O_apply (fun e => QO (cf e).1) e d a
  beta_reduce at h'
  rw [h, h', QO_apply]
theorem PtVal_r (cf : Fin 3 → FVec Ideal S64x256 .f32 × FVec Ideal S1x256 .f32) (k v : Vec Ideal S3x2048x64 .f32)
    (p : Vec Ideal S3x2048x1 .f32) (e : Fin 3) (a : Fin 256) :
    (PtVal cf k v p).2.2.2.1 (ix4 e 0 0 a) = (cf e).2 (ix2 0 a) := by
  have h : (PtVal cf k v p).2.2.2.1 = H3R (RO (cf 2).2) (RO (cf 1).2) (RO (cf 0).2) := by dsimp only [PtVal]
  have h' := H3R_apply (fun e => RO (cf e).2) e a
  beta_reduce at h'
  rw [h, h', RO_apply]
theorem zero66 (e : Fin 3) (r : Fin 2048) (d : Fin 64) : k1_pay66 (F := Ideal) (ix3 e r d) = ((0 : ℝ) : EReal) := by
  pointwise [k1_pay66]
  exact EReal.coe_zero.symm
theorem zero67 (e : Fin 3) (r : Fin 2048) (d : Fin 64) : k1_pay67 (F := Ideal) (ix3 e r d) = ((0 : ℝ) : EReal) := by
  pointwise [k1_pay67]
  exact EReal.coe_zero.symm
theorem zero68 (e : Fin 3) (r : Fin 2048) : k1_pay68 (F := Ideal) (ix3 e r 0) = ((0 : ℝ) : EReal) := by
  pointwise [k1_pay68]
  exact EReal.coe_zero.symm
theorem exists_row (r : Fin 2048) : ∃ (n : Fin 8) (b : Fin 256), r = row n b :=
  ⟨⟨r.val / 256, by omega⟩, ⟨r.val % 256, by omega⟩, Fin.ext (by show r.val = 256 * (r.val / 256) + r.val % 256; omega)⟩

section
variable (m : (ℓ : Loc nD τ sig) → Buf (Elt Ideal) ℓ) (ρ : Dev nD → PrngReg) (c : Dev nD)

theorem point_A (t : Fin cfg1.N) (h0 : t.val % 8 = 0) : outsAt1 (V3 m ρ) c t.val t.isLt =
    PtVal (CF (iblk1 (V3 m ρ) c 1 t) (iblk1 (V3 m ρ) c 2 t) (iblk1 (V3 m ρ) c 3 t) (iblk1 (V3 m ρ) c 5 t) (ROW (iblk1 (V3 m ρ) c 0 t) (iblk1 (V3 m ρ) c 4 t) (iblk1 (V3 m ρ) c 6 t) (iblk1 (V3 m ρ) c 7 t) (iblk1 (V3 m ρ) c 8 t) (grid1.coords t 1)) (grid1.coords t 1))
      (KF (iblk1 (V3 m ρ) c 1 t) (iblk1 (V3 m ρ) c 3 t) (iblk1 (V3 m ρ) c 5 t) (ROW (iblk1 (V3 m ρ) c 0 t) (iblk1 (V3 m ρ) c 4 t) (iblk1 (V3 m ρ) c 6 t) (iblk1 (V3 m ρ) c 7 t) (iblk1 (V3 m ρ) c 8 t) (grid1.coords t 1)) (grid1.coords t 1) (k1_pay66 (F := Ideal))) (VF (iblk1 (V3 m ρ) c 1 t) (iblk1 (V3 m ρ) c 5 t) (ROW (iblk1 (V3 m ρ) c 0 t) (iblk1 (V3 m ρ) c 4 t) (iblk1 (V3 m ρ) c 6 t) (iblk1 (V3 m ρ) c 7 t) (iblk1 (V3 m ρ) c 8 t) (grid1.coords t 1)) (grid1.coords t 1) (k1_pay67 (F := Ideal)))
      (PF (iblk1 (V3 m ρ) c 1 t) (iblk1 (V3 m ρ) c 3 t) (iblk1 (V3 m ρ) c 5 t) (ROW (iblk1 (V3 m ρ) c 0 t) (iblk1 (V3 m ρ) c 4 t) (iblk1 (V3 m ρ) c 6 t) (iblk1 (V3 m ρ) c 7 t) (iblk1 (V3 m ρ) c 8 t) (grid1.coords t 1)) (grid1.coords t 1) (k1_pay68 (F := Ideal))) := by
  have h := (hcond1_0 t).mpr h0
  have H := backA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) h
  rw [outsAt1_A (V3 m ρ) c t h0]
  obtain ⟨h9, h10, h11, h12, h13⟩ := H
  rw [h9, h10, h11, h12, h13]
  rfl
theorem point_B (t : Fin cfg1.N) (h0 : ¬t.val % 8 = 0) : outsAt1 (V3 m ρ) c t.val t.isLt =
    PtVal (CF (iblk1 (V3 m ρ) c 1 t) (iblk1 (V3 m ρ) c 2 t) (iblk1 (V3 m ρ) c 3 t) (iblk1 (V3 m ρ) c 5 t) (ROW (iblk1 (V3 m ρ) c 0 t) (iblk1 (V3 m ρ) c 4 t) (iblk1 (V3 m ρ) c 6 t) (iblk1 (V3 m ρ) c 7 t) (iblk1 (V3 m ρ) c 8 t) (grid1.coords t 1)) (grid1.coords t 1))
      (KF (iblk1 (V3 m ρ) c 1 t) (iblk1 (V3 m ρ) c 3 t) (iblk1 (V3 m ρ) c 5 t) (ROW (iblk1 (V3 m ρ) c 0 t) (iblk1 (V3 m ρ) c 4 t) (iblk1 (V3 m ρ) c 6 t) (iblk1 (V3 m ρ) c 7 t) (iblk1 (V3 m ρ) c 8 t) (grid1.coords t 1)) (grid1.coords t 1) (outsAt1 (V3 m ρ) c (t.val - 1) (Nat.lt_of_le_of_lt (Nat.sub_le _ _) t.isLt)).2.1) (VF (iblk1 (V3 m ρ) c 1 t) (iblk1 (V3 m ρ) c 5 t) (ROW (iblk1 (V3 m ρ) c 0 t) (iblk1 (V3 m ρ) c 4 t) (iblk1 (V3 m ρ) c 6 t) (iblk1 (V3 m ρ) c 7 t) (iblk1 (V3 m ρ) c 8 t) (grid1.coords t 1)) (grid1.coords t 1) (outsAt1 (V3 m ρ) c (t.val - 1) (Nat.lt_of_le_of_lt (Nat.sub_le _ _) t.isLt)).2.2.1)
      (PF (iblk1 (V3 m ρ) c 1 t) (iblk1 (V3 m ρ) c 3 t) (iblk1 (V3 m ρ) c 5 t) (ROW (iblk1 (V3 m ρ) c 0 t) (iblk1 (V3 m ρ) c 4 t) (iblk1 (V3 m ρ) c 6 t) (iblk1 (V3 m ρ) c 7 t) (iblk1 (V3 m ρ) c 8 t) (grid1.coords t 1)) (grid1.coords t 1) (outsAt1 (V3 m ρ) c (t.val - 1) (Nat.lt_of_le_of_lt (Nat.sub_le _ _) t.isLt)).2.2.2.2) := by
  have h := mt (hcond1_0 t).mp h0
  have H := backB c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (outsAt1 (V3 m ρ) c (t.val - 1) (Nat.lt_of_le_of_lt (Nat.sub_le _ _) t.isLt)).2.1 (outsAt1 (V3 m ρ) c (t.val - 1) (Nat.lt_of_le_of_lt (Nat.sub_le _ _) t.isLt)).2.2.1 (outsAt1 (V3 m ρ) c (t.val - 1) (Nat.lt_of_le_of_lt (Nat.sub_le _ _) t.isLt)).2.2.2.2 h
  rw [outsAt1_B (V3 m ρ) c t h0]
  obtain ⟨h9, h10, h11, h12, h13⟩ := H
  rw [h9, h10, h11, h12, h13]
  rfl
end

variable {m : (ℓ : Loc nD τ sig) → Buf (Elt Ideal) ℓ} (ρ : Dev nD → PrngReg) {c : Dev nD} (G : Given m c)
include G

set_option maxHeartbeats 2000000 in
/-- A point's blocks hold its group's heads. -/
theorem holds1 (t : Fin cfg1.N) (e : Fin 3) : BHolds (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (HD m c (hd1 t e)) e (grid1.coords t 1) where
  q a d := by
    refine Eq.trans ?_ ((congrFun (V3_of ρ main_v14 (by decide) (by decide)) _).trans (V1_q ρ G (hd1 t e) (row (grid1.coords t 1) a) d))
    have h := (idx1 t).1
    blk_ext [iblk1, h, hd1, row]
  k r d := by
    refine Eq.trans ?_ ((congrFun (V3_of ρ main_v3 (by decide) (by decide)) _).trans (V1_k ρ G (hd1 t e) r d))
    have h := (idx1 t).2.1
    blk_ext [iblk1, h, hd1]
  cq n a := by
    refine Eq.trans ?_ ((congrFun (V3_of ρ main_v10 (by decide) (by decide)) _).trans (V1_cq ρ G (hd1 t e) n a))
    have h := (idx1 t).2.2.2.2.1
    blk_ext [iblk1, h, hd1]
  ck r := by
    refine Eq.trans ?_ ((congrFun (V3_of ρ main_v11 (by decide) (by decide)) _).trans (V1_ck ρ G (hd1 t e) r))
    have h := (idx1 t).2.2.2.2.2.1
    blk_ext [iblk1, h, hd1]
  kt n d b := by
    refine Eq.trans ?_ ((congrFun (V3_of ρ main_v7 (by decide) (by decide)) _).trans (V1_kt ρ G (hd1 t e) n d b))
    have h := (idx1 t).2.2.1
    blk_ext [iblk1, h, hd1]
  v r d := by
    refine Eq.trans ?_ ((congrFun (V3_of ρ main_v5 (by decide) (by decide)) _).trans (V1_v ρ G (hd1 t e) r d))
    have h := (idx1 t).2.2.2.1
    blk_ext [iblk1, h, hd1]
  o d a := by
    refine Eq.trans ?_ (congrFun ((W3_of m ρ c main_v15_0 (by decide)).trans (W2_o ρ G)) (ix3 (hd1 t e) d (row (grid1.coords t 1) a)))
    have h := (idx1 t).2.2.2.2.2.2.1
    blk_ext [iblk1, h, hd1, row]
  ls a := by
    refine Eq.trans ?_ (congrFun ((W3_of m ρ c main_v15_1 (by decide)).trans (W2_l ρ G)) (ix4 (hd1 t e) (grid1.coords t 1) 0 a))
    have h := (idx1 t).2.2.2.2.2.2.2.1
    blk_ext [iblk1, h, hd1]
  ct d a := by
    refine Eq.trans ?_ (V3_ct ρ G (hd1 t e) d (row (grid1.coords t 1) a))
    have h := (idx1 t).2.2.2.2.2.2.2.2
    blk_ext [iblk1, h, hd1, row]

/-- The gradients of the queries and of the queries' gate that a point writes. -/
theorem qs (t : Fin cfg1.N) (k v : Vec Ideal S3x2048x64 .f32) (p : Vec Ideal S3x2048x1 .f32) (e : Fin 3) (a : Fin 256) :
    (∀ d, (PtVal (CF (iblk1 (V3 m ρ) c 1 t) (iblk1 (V3 m ρ) c 2 t) (iblk1 (V3 m ρ) c 3 t) (iblk1 (V3 m ρ) c 5 t) (ROW (iblk1 (V3 m ρ) c 0 t) (iblk1 (V3 m ρ) c 4 t) (iblk1 (V3 m ρ) c 6 t) (iblk1 (V3 m ρ) c 7 t) (iblk1 (V3 m ρ) c 8 t) (grid1.coords t 1)) (grid1.coords t 1)) k v p).1 (ix3 e d a)
      = (((HD m c (hd1 t e)).dqn 2048 (256 * (grid1.coords t 1).val + a.val) d * (1 / 8) : ℝ) : EReal))
    ∧ (PtVal (CF (iblk1 (V3 m ρ) c 1 t) (iblk1 (V3 m ρ) c 2 t) (iblk1 (V3 m ρ) c 3 t) (iblk1 (V3 m ρ) c 5 t) (ROW (iblk1 (V3 m ρ) c 0 t) (iblk1 (V3 m ρ) c 4 t) (iblk1 (V3 m ρ) c 6 t) (iblk1 (V3 m ρ) c 7 t) (iblk1 (V3 m ρ) c 8 t) (grid1.coords t 1)) (grid1.coords t 1)) k v p).2.2.2.1 (ix4 e 0 0 a)
      = (((HD m c (hd1 t e)).dcqn 2048 (256 * (grid1.coords t 1).val + a.val) : ℝ) : EReal) := by
  obtain ⟨h1, h2⟩ := (holds1 ρ G t e).cf a
  refine ⟨fun d => ?_, ?_⟩
  · rw [PtVal_q, h1, ← EReal.coe_mul]
  · rw [PtVal_r, h2]

theorem point_q (t : Fin cfg1.N) (e : Fin 3) (a : Fin 256) :
    (∀ d, (outsAt1 (V3 m ρ) c t.val t.isLt).1 (ix3 e d a) = (((HD m c (hd1 t e)).dqn 2048 (256 * (grid1.coords t 1).val + a.val) d * (1 / 8) : ℝ) : EReal))
    ∧ (outsAt1 (V3 m ρ) c t.val t.isLt).2.2.2.1 (ix4 e 0 0 a) = (((HD m c (hd1 t e)).dcqn 2048 (256 * (grid1.coords t 1).val + a.val) : ℝ) : EReal) := by
  by_cases h0 : t.val % 8 = 0
  · rw [point_A m ρ c t h0]; exact qs ρ G t _ _ _ e a
  · rw [point_B m ρ c t h0]; exact qs ρ G t _ _ _ e a

omit G in
/-- What has grown after query blocks up to `n`. -/
def Grown (x : Head) (n : ℕ) (e : Fin 3) (k v : Vec Ideal S3x2048x64 .f32) (p : Vec Ideal S3x2048x1 .f32) : Prop :=
  (∀ m b d, k (ix3 e (row m b) d) = ((x.dkn (256 * n) (256 * m.val + b.val) d * (1 / 8) : ℝ) : EReal))
  ∧ (∀ m b d, v (ix3 e (row m b) d) = ((x.dvn (256 * n) (256 * m.val + b.val) d : ℝ) : EReal))
  ∧ (∀ m b, p (ix3 e (row m b) 0) = ((x.dckn (256 * n) (256 * m.val + b.val) : ℝ) : EReal))

theorem grow (t : Fin cfg1.N) (e : Fin 3) (k v : Vec Ideal S3x2048x64 .f32) (p : Vec Ideal S3x2048x1 .f32)
    (h : Grown (HD m c (hd1 t e)) (t.val % 8) e k v p) : Grown (HD m c (hd1 t e)) (t.val % 8 + 1) e
      (KF (iblk1 (V3 m ρ) c 1 t) (iblk1 (V3 m ρ) c 3 t) (iblk1 (V3 m ρ) c 5 t) (ROW (iblk1 (V3 m ρ) c 0 t) (iblk1 (V3 m ρ) c 4 t) (iblk1 (V3 m ρ) c 6 t) (iblk1 (V3 m ρ) c 7 t) (iblk1 (V3 m ρ) c 8 t) (grid1.coords t 1)) (grid1.coords t 1) k) (VF (iblk1 (V3 m ρ) c 1 t) (iblk1 (V3 m ρ) c 5 t) (ROW (iblk1 (V3 m ρ) c 0 t) (iblk1 (V3 m ρ) c 4 t) (iblk1 (V3 m ρ) c 6 t) (iblk1 (V3 m ρ) c 7 t) (iblk1 (V3 m ρ) c 8 t) (grid1.coords t 1)) (grid1.coords t 1) v) (PF (iblk1 (V3 m ρ) c 1 t) (iblk1 (V3 m ρ) c 3 t) (iblk1 (V3 m ρ) c 5 t) (ROW (iblk1 (V3 m ρ) c 0 t) (iblk1 (V3 m ρ) c 4 t) (iblk1 (V3 m ρ) c 6 t) (iblk1 (V3 m ρ) c 7 t) (iblk1 (V3 m ρ) c 8 t) (grid1.coords t 1)) (grid1.coords t 1) p) := by
  obtain ⟨hk, hv, hp⟩ := h
  have H := holds1 ρ G t e
  refine ⟨fun n b d => (H.kf _ _ hk n b d).trans ?_, fun n b d => (H.vf _ _ hv n b d).trans ?_, fun n b => (H.pf _ _ hp n b).trans ?_⟩
  · rw [Head.dkn, Head.dkn, sum_block, add_mul, pt1]
  · rw [Head.dvn, Head.dvn, sum_block, pt1]
  · rw [Head.dckn, Head.dckn, sum_block, pt1]

theorem grown1 (n : ℕ) (hn : n < cfg1.N) (e : Fin 3) : Grown (HD m c (hd1 ⟨n, hn⟩ e)) (n % 8 + 1) e
    (outsAt1 (V3 m ρ) c n hn).2.1 (outsAt1 (V3 m ρ) c n hn).2.2.1 (outsAt1 (V3 m ρ) c n hn).2.2.2.2 := by
  induction n using Nat.strong_induction_on with
  | _ n ih =>
    by_cases h0 : n % 8 = 0
    · rw [point_A m ρ c ⟨n, hn⟩ h0]
      refine grow ρ G ⟨n, hn⟩ e _ _ _ ?_
      show Grown _ (n % 8) e _ _ _
      rw [h0]
      exact ⟨fun _ _ _ => (zero66 ..).trans (by simp [Head.dkn]), fun _ _ _ => (zero67 ..).trans (by simp [Head.dvn]),
        fun _ _ => (zero68 ..).trans (by simp [Head.dckn])⟩
    · rw [point_B m ρ c ⟨n, hn⟩ h0]
      refine grow ρ G ⟨n, hn⟩ e _ _ _ ?_
      have H := ih (n - 1) (by omega) (by omega)
      have hh : hd1 ⟨n - 1, by omega⟩ e = hd1 ⟨n, hn⟩ e := Fin.ext (by show (n - 1) / 8 * 3 + e.val = n / 8 * 3 + e.val; omega)
      have h8 : (n - 1) % 8 + 1 = n % 8 := by omega
      rw [hh, h8] at H
      exact H

/-- The gradient of the queries, features by rows. -/
theorem W4_dq : (W4 m ρ c (Proc.devRef .tc main_v18_0) : FVec Ideal S12x64x2048 .f32)
    = fun y => (((HD m c (y 0)).dqn 2048 (y 2).val (y 1) * (1 / 8) : ℝ) : EReal) := by
  refine (W4_arr m ρ c 9).trans ((dat1 (V3 m ρ) c).arrAt_eq_of_covers 9 _ (by decide +kernel) fun t hf y => ?_)
  have h := (idx1' t).1
  obtain ⟨e, d, a, rfl⟩ := ex3 (a := 3) (b := 64) (d := 256) y
  have hy : ((cfg1.win 9).blk t).view.emb (ix3 e d a) = ix3 (hd1 t e) d (row (grid1.coords t 1) a) := by
    blk_ext [h, hd1, row]
  rw [hy]
  show (dat1 (V3 m ρ) c).after 9 t (ix3 e d a) = _
  rw [after1_9]
  exact (point_q ρ G t e a).1 d
/-- The gradient of the keys. -/
theorem W4_dk : (W4 m ρ c (Proc.devRef .tc main_v18_1) : FVec Ideal S12x2048x64 .f32)
    = fun y => (((HD m c (y 0)).dkn 2048 (y 1).val (y 2) * (1 / 8) : ℝ) : EReal) := by
  refine (W4_arr m ρ c 10).trans ((dat1 (V3 m ρ) c).arrAt_eq_of_covers 10 _ (by decide +kernel) fun t hf y => ?_)
  have h := (idx1' t).2.1
  obtain ⟨e, r, d, rfl⟩ := ex3 (a := 3) (b := 2048) (d := 64) y
  obtain ⟨n, b, rfl⟩ := exists_row r
  have hy : ((cfg1.win 10).blk t).view.emb (ix3 e (row n b) d) = ix3 (hd1 t e) (row n b) d := by
    blk_ext [h, hd1, row]
  rw [hy]
  show (dat1 (V3 m ρ) c).after 10 t (ix3 e (row n b) d) = _
  rw [after1_10]
  have H := (grown1 ρ G t.val t.isLt e).1 n b d
  rw [(last1 t).1 hf] at H
  exact H
/-- The gradient of the values. -/
theorem W4_dv : (W4 m ρ c (Proc.devRef .tc main_v18_2) : FVec Ideal S12x2048x64 .f32)
    = fun y => (((HD m c (y 0)).dvn 2048 (y 1).val (y 2) : ℝ) : EReal) := by
  refine (W4_arr m ρ c 11).trans ((dat1 (V3 m ρ) c).arrAt_eq_of_covers 11 _ (by decide +kernel) fun t hf y => ?_)
  have h := (idx1' t).2.2.1
  obtain ⟨e, r, d, rfl⟩ := ex3 (a := 3) (b := 2048) (d := 64) y
  obtain ⟨n, b, rfl⟩ := exists_row r
  have hy : ((cfg1.win 11).blk t).view.emb (ix3 e (row n b) d) = ix3 (hd1 t e) (row n b) d := by
    blk_ext [h, hd1, row]
  rw [hy]
  show (dat1 (V3 m ρ) c).after 11 t (ix3 e (row n b) d) = _
  rw [after1_11]
  have H := (grown1 ρ G t.val t.isLt e).2.1 n b d
  rw [(last1 t).2.1 hf] at H
  exact H
/-- The gradient of the queries' gate, by blocks of rows. -/
theorem W4_dcq : (W4 m ρ c (Proc.devRef .tc main_v18_3) : FVec Ideal S12x8x1x256 .f32)
    = fun y => (((HD m c (y 0)).dcqn 2048 (256 * (y 1).val + (y 3).val) : ℝ) : EReal) := by
  refine (W4_arr m ρ c 12).trans ((dat1 (V3 m ρ) c).arrAt_eq_of_covers 12 _ (by decide +kernel) fun t hf y => ?_)
  have h := (idx1' t).2.2.2.1
  obtain ⟨e, z, z', a, rfl⟩ := ex4 (a := 3) (b := 1) (d := 1) (e := 256) y
  obtain rfl : z = 0 := Subsingleton.elim _ _
  obtain rfl : z' = 0 := Subsingleton.elim _ _
  have hy : ((cfg1.win 12).blk t).view.emb (ix4 e 0 0 a) = ix4 (hd1 t e) (grid1.coords t 1) 0 a := by
    blk_ext [h, hd1]
  rw [hy]
  show (dat1 (V3 m ρ) c).after 12 t (ix4 e 0 0 a) = _
  rw [after1_12]
  exact (point_q ρ G t e a).2
/-- The gradient of the keys' gate. -/
theorem W4_dck : (W4 m ρ c (Proc.devRef .tc main_v18_4) : FVec Ideal S12x2048x1 .f32)
    = fun y => (((HD m c (y 0)).dckn 2048 (y 1).val : ℝ) : EReal) := by
  refine (W4_arr m ρ c 13).trans ((dat1 (V3 m ρ) c).arrAt_eq_of_covers 13 _ (by decide +kernel) fun t hf y => ?_)
  have h := (idx1' t).2.2.2.2
  obtain ⟨e, r, z, rfl⟩ := ex3 (a := 3) (b := 2048) (d := 1) y
  obtain rfl : z = 0 := Subsingleton.elim _ _
  obtain ⟨n, b, rfl⟩ := exists_row r
  have hy : ((cfg1.win 13).blk t).view.emb (ix3 e (row n b) 0) = ix3 (hd1 t e) (row n b) 0 := by
    blk_ext [h, hd1, row]
  rw [hy]
  show (dat1 (V3 m ρ) c).after 13 t (ix3 e (row n b) 0) = _
  rw [after1_13]
  have H := (grown1 ρ G t.val t.isLt e).2.2 n b
  rw [(last1 t).2.2 hf] at H
  exact H

end Cert.KernelIdeal.Fox

end
-- ==== Proof.Launch.lean ====
/- The run of the two calls: every fair execution ends with the five result arrays as the second call leaves them and the
   arguments as launched; for real arguments those are the gradients of every head. -/
module

public import proofs.«01_k».proof.Proof.Region1

@[expose] public section

set_option maxRecDepth 16384

noncomputable section

namespace Cert.KernelIdeal.Fox

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe Idealize.ShloMosaic.Tactic Cert.KernelIdeal Cert.KernelIdeal.Gen Cert.Fox
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The launch of the two calls, with the results read at the end. -/
theorem run : θ_run defs (onTc (τ := τ) (main (F := Ideal))) ⟨m, fun _ => 0, ρ⟩ (fun r => ∀ c : Dev nD,
      r.2.mem ((c.tc : Thread nD τ).loc main_v18_0) = W4 m ρ c (Proc.devRef .tc main_v18_0)
      ∧ r.2.mem ((c.tc : Thread nD τ).loc main_v18_1) = W4 m ρ c (Proc.devRef .tc main_v18_1)
      ∧ r.2.mem ((c.tc : Thread nD τ).loc main_v18_2) = W4 m ρ c (Proc.devRef .tc main_v18_2)
      ∧ r.2.mem ((c.tc : Thread nD τ).loc main_v18_3) = W4 m ρ c (Proc.devRef .tc main_v18_3)
      ∧ r.2.mem ((c.tc : Thread nD τ).loc main_v18_4) = W4 m ρ c (Proc.devRef .tc main_v18_4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v18_0 (by decide)),
       h c _ (mem_uc main_v18_1 (by decide)),
       h c _ (mem_uc main_v18_2 (by decide)),
       h c _ (mem_uc main_v18_3 (by decide)),
       h c _ (mem_uc main_v18_4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Fox

end
-- ==== Proof.RefValue.lean ====
/- The reference's values: each stage of the plain gradient of attention is the head's real number of the same name, up to
   the rescaling of the softmax by its row's maximum, which cancels. -/
module

public import proofs.«01_k».proof.Proof.Entry
public import proofs.«01_k».proof.Proof.Gen.ReferenceIdeal.Read
public import Idealize.ShloMosaic.Lib.IdealHost

@[expose] public section

set_option maxRecDepth 16384

noncomputable section

namespace Cert.Fox

open Idealize.ShloMosaic Idealize.ShloMosaic.Tactic

namespace Head
variable (x : Head)

/-- The weighted logits' gradients add up to the row's correction. -/
theorem delta_eq (r : ℕ) : ∑ s ∈ Finset.range 2048, x.dp r s * x.p r s = x.delta r := by
  unfold delta O An dp p
  simp only [Finset.sum_mul, Finset.mul_sum, Finset.sum_div]
  rw [Finset.sum_comm]
  exact Finset.sum_congr rfl fun d _ => Finset.sum_congr rfl fun s _ => by ring

/-- The softmax's gradient as it is written with the rescaled exponentials and their sum. -/
theorem ds_eq (r s : ℕ) (hZ : 0 < x.Z r) {E : ℝ} (hE : 0 < E) :
    (x.dp r s / (E * x.Z r) + -∑ s' ∈ Finset.range 2048, x.dp r s' * (1 / (E * x.Z r * (E * x.Z r))) * (E * x.ex r s')) * (E * x.ex r s)
      = x.ds r s := by
  have h : ∑ s' ∈ Finset.range 2048, x.dp r s' * (1 / (E * x.Z r * (E * x.Z r))) * (E * x.ex r s')
      = (1 / (E * x.Z r)) * x.delta r := by
    rw [← x.delta_eq, Finset.mul_sum]
    refine Finset.sum_congr rfl fun s' _ => ?_
    rw [p]; field_simp
  rw [h, ds, p]
  field_simp
  ring
end Head

theorem eq2 {a b : ℕ} {y : (⟨2, ![a, b]⟩ : Shape).Idx} {i : Fin a} {j : Fin b} (h0 : y 0 = i) (h1 : y 1 = j) : y = ix2 i j := by
  subst h0 h1
  exact funext fun x => by match x with | 0 => rfl | 1 => rfl
theorem eq3 {a b d : ℕ} {y : (⟨3, ![a, b, d]⟩ : Shape).Idx} {i : Fin a} {j : Fin b} {k : Fin d} (h0 : y 0 = i) (h1 : y 1 = j)
    (h2 : y 2 = k) : y = ix3 i j k := by
  subst h0 h1 h2
  exact funext fun x => by match x with | 0 => rfl | 1 => rfl | 2 => rfl

end Cert.Fox

namespace Cert.ReferenceIdeal.Fox

open Idealize.ShloMosaic Idealize.ShloMosaic.TcCoe Idealize.ShloMosaic.Tactic Cert.ReferenceIdeal Cert.ReferenceIdeal.Gen
  Cert.ReferenceIdeal.Read Cert.Fox

variable {x0 x1 x2 x4 : FVec Ideal SQ .f32} {x3 : FVec Ideal SC .f32}

/-! ## The arguments by heads -/

theorem v0 (h0 : IsReal x0) (r : Fin 2048) (h : Fin 12) (d : Fin 64) :
    val_main_v0 (F := Ideal) x0 (ix3 r h d) = (((headOf x0 x1 x2 x3 x4 h).Q r.val d : ℝ) : EReal) := by
  refine Eq.trans ?_ (h0.at r h d)
  pointwise [val_main_v0]
  rfl
theorem v1 (h1 : IsReal x1) (r : Fin 2048) (h : Fin 12) (d : Fin 64) :
    val_main_v1 (F := Ideal) x1 (ix3 r h d) = (((headOf x0 x1 x2 x3 x4 h).K r.val d : ℝ) : EReal) := by
  refine Eq.trans ?_ (h1.at r h d)
  pointwise [val_main_v1]
  rfl
theorem v2 (h2 : IsReal x2) (r : Fin 2048) (h : Fin 12) (d : Fin 64) :
    val_main_v2 (F := Ideal) x2 (ix3 r h d) = (((headOf x0 x1 x2 x3 x4 h).V r.val d : ℝ) : EReal) := by
  refine Eq.trans ?_ (h2.at r h d)
  pointwise [val_main_v2]
  rfl
theorem v51 (h4 : IsReal x4) (r : Fin 2048) (h : Fin 12) (d : Fin 64) :
    val_main_v51 (F := Ideal) x4 (ix3 h d r) = (((headOf x0 x1 x2 x3 x4 h).CT r.val d : ℝ) : EReal) := by
  refine Eq.trans ?_ (h4.at r h d)
  pointwise [val_main_v51, val_main_v50]
  rfl
theorem v7 (h3 : IsReal x3) (h : Fin 12) (r s : Fin 2048) :
    val_main_v7 (F := Ideal) x3 (ix3 h r s) = (((headOf x0 x1 x2 x3 x4 h).C r.val : ℝ) : EReal) := by
  refine Eq.trans ?_ (h3.atc r h)
  pointwise [val_main_v7, val_main_v6]
theorem v10 (h3 : IsReal x3) (h : Fin 12) (r s : Fin 2048) :
    val_main_v10 (F := Ideal) x3 (ix3 h r s) = (((headOf x0 x1 x2 x3 x4 h).C s.val : ℝ) : EReal) := by
  refine Eq.trans ?_ (h3.atc s h)
  pointwise [val_main_v10, val_main_v9]

/-! ## Logits, their mask and the rescaled exponentials -/

variable (h0 : IsReal x0) (h1 : IsReal x1) (h2 : IsReal x2) (h3 : IsReal x3) (h4 : IsReal x4)

section
include h0 h1 h3

theorem v11 (h : Fin 12) (r s : Fin 2048) :
    val_main_v11 (F := Ideal) x0 x1 x3 (ix3 h r s) = (((headOf x0 x1 x2 x3 x4 h).lg r.val s.val : ℝ) : EReal) := by
  have e3 : val_main_v3 (F := Ideal) x0 x1 (ix3 h r s) = ((∑ d, (headOf x0 x1 x2 x3 x4 h).Q r.val d * (headOf x0 x1 x2 x3 x4 h).K s.val d : ℝ) : EReal) := by
    rw [val_main_v3_apply, ← coe_sum]
    refine Finset.sum_congr rfl fun d _ => ?_
    rw [show lidx_main_v3 (ix3 h r s) d = ix3 r h d from eq3 rfl rfl rfl, show ridx_main_v3 (ix3 h r s) d = ix3 s h d from eq3 rfl rfl rfl,
      v0 h0 (x1 := x1) (x2 := x2) (x3 := x3) (x4 := x4), v1 h1 (x0 := x0) (x2 := x2) (x3 := x3) (x4 := x4), EReal.coe_mul]
  have e4 : val_main_v4 (F := Ideal) (ix3 h r s) = ((1 / 8 : ℝ) : EReal) := by
    rw [val_main_v4_apply, val_main_cst_apply]; exact Cert.KernelIdeal.Fox.ofBits_eighth
  rw [val_main_v11_apply, val_main_v8_apply, val_main_v5_apply, e3, e4, v7 h3 (x0 := x0) (x1 := x1) (x2 := x2) (x4 := x4),
    v10 h3 (x0 := x0) (x1 := x1) (x2 := x2) (x4 := x4)]
  show _ * _ + _ - _ = _
  rw [← EReal.coe_mul, ← EReal.coe_add, ← EReal.coe_sub]
  rfl

omit h0 h1 h3 in
theorem mask (h : Fin 12) (r s : Fin 2048) : val_main_v18_1 (F := Ideal) (ix3 h r s) = BitVec.ofBool (decide (s.val ≤ r.val)) := by
  have e : val_main_v18_1 (F := Ideal) (ix3 h r s) = IntOp.cmpi .sle (BitVec.ofNat 32 s.val) (BitVec.ofNat 32 r.val) := by
    rw [val_main_v18_1_apply, val_main_v17_apply, val_main_v15_apply, val_main_v16_apply, val_main_v13_apply, val_main_v14_apply,
      val_main_v12_apply, val_main_v12_apply]
    rfl
  rw [e, WordCmp.cmpi_sle_ofNat (by have := s.isLt; omega) (by have := r.isLt; omega)]

theorem v18 (h : Fin 12) (r s : Fin 2048) :
    val_main_v18_0 (F := Ideal) x0 x1 x3 (ix3 h r s) = masked (s.val ≤ r.val) ((headOf x0 x1 x2 x3 x4 h).lg r.val s.val) := by
  rw [val_main_v18_0_apply, mask, v11 h0 h1 h3 (x2 := x2) (x4 := x4), val_main_call0_v2_apply, val_main_call0_v0_apply, val_main_cst_0_apply]
  rw [show (FloatOps.ofBits FTy.f32 0xFF800000#32 : Ideal .f32) = ⊥ from Cert.KernelIdeal.Fox.ofBits_neg_inf]
  unfold masked
  by_cases hs : s.val ≤ r.val
  · rw [if_pos hs, decide_eq_true hs]; rfl
  · rw [if_neg hs, decide_eq_false hs]; rfl

/-- A row's maximum is a real number: every logit is below infinity and the row's own key is admitted. -/
theorem v26 (h : Fin 12) (r : Fin 2048) : ∃ μ : ℝ, val_main_v26 (F := Ideal) x0 x1 x3 (ix2 h r) = (μ : EReal) := by
  have e19 : val_main_v19 (F := Ideal) x0 x1 x3 (ix2 h r) = (Finset.univ.filter fun i => reducesTo_S12x2048x2048_S12x2048_d2.drop i = ix2 h r).fold
      max ⊥ (val_main_v18_0 (F := Ideal) x0 x1 x3) := by
    rw [val_main_v19, Host.reduce_eq_fold]
    rw [show val_main_cst_1 (F := Ideal) (Shape.Idx.first h_S_) = ⊥ from Cert.KernelIdeal.Fox.ofBits_neg_inf]
    rfl
  have e26 : val_main_v26 (F := Ideal) x0 x1 x3 (ix2 h r) = val_main_v19 (F := Ideal) x0 x1 x3 (ix2 h r) := by
    rw [val_main_v26_apply, val_main_v25_apply, val_main_cst_3_apply]
    show max (Ideal.ofBits FTy.f32 0xFF800000#32) _ = _
    rw [Cert.KernelIdeal.Fox.ofBits_neg_inf]
    exact max_eq_right bot_le
  rw [e26, e19]
  have hT : (Finset.univ.filter fun i => reducesTo_S12x2048x2048_S12x2048_d2.drop i = ix2 h r).fold
      max ⊥ (val_main_v18_0 (F := Ideal) x0 x1 x3) < ⊤ := by
    refine (Finset.fold_max_lt _).2 ⟨bot_lt_top, fun i _ => ?_⟩
    obtain ⟨a, b, s, rfl⟩ : ∃ (a : Fin 12) (b s : Fin 2048), i = ix3 a b s := ⟨i 0, i 1, i 2, eq3 rfl rfl rfl⟩
    rw [v18 h0 h1 h3 (x2 := x0) (x4 := x0)]
    unfold masked; split_ifs
    · exact EReal.coe_lt_top _
    · exact bot_lt_top
  have hB : ⊥ < (Finset.univ.filter fun i => reducesTo_S12x2048x2048_S12x2048_d2.drop i = ix2 h r).fold
      max ⊥ (val_main_v18_0 (F := Ideal) x0 x1 x3) := by
    refine (Finset.lt_fold_max _).2 (.inr ⟨ix3 h r r, Finset.mem_filter.2 ⟨Finset.mem_univ _, ?_⟩, ?_⟩)
    · exact eq2 (Fin.ext (Shape.ReducesTo.drop_apply_val_of_eq reducesTo_S12x2048x2048_S12x2048_d2 (ix3 h r r) 0 0)) (Fin.ext (Shape.ReducesTo.drop_apply_val_of_eq reducesTo_S12x2048x2048_S12x2048_d2 (ix3 h r r) 1 1))
    · rw [v18 h0 h1 h3 (x2 := x0) (x4 := x0)]
      unfold masked; rw [if_pos le_rfl]; exact EReal.bot_lt_coe _
  exact ⟨_, (EReal.coe_toReal hT.ne hB.ne').symm⟩

/-- A row's rescaling. -/
def scl (x0 x1 : FVec Ideal SQ .f32) (x3 : FVec Ideal SC .f32) (h : Fin 12) (r : Fin 2048) : ℝ :=
  Real.exp (-EReal.toReal (val_main_v26 (F := Ideal) x0 x1 x3 (ix2 h r)))
omit h0 h1 h3 in
theorem scl_pos (h : Fin 12) (r : Fin 2048) : 0 < scl x0 x1 x3 h r := Real.exp_pos _

theorem v39 (h : Fin 12) (r s : Fin 2048) : val_main_v39 (F := Ideal) x0 x1 x3 (ix3 h r s)
    = ((scl x0 x1 x3 h r * (headOf x0 x1 x2 x3 x4 h).ex r.val s.val : ℝ) : EReal) := by
  obtain ⟨μ, hμ⟩ := v26 h0 h1 h3 h r
  rw [val_main_v39_apply, val_main_v38_apply, val_main_v37_apply, val_main_v36_apply,
    show idx_main_v36 (idx_main_v37 (ix3 h r s)) = ix2 h r from eq2 rfl rfl, v18 h0 h1 h3 (x2 := x2) (x4 := x4), scl, hμ, EReal.toReal_coe]
  exact exp_masked_sub _ _ _

theorem v41 (h : Fin 12) (r : Fin 2048) : val_main_v41 (F := Ideal) x0 x1 x3 (ix3 h r 0)
    = ((scl x0 x1 x3 h r * (headOf x0 x1 x2 x3 x4 h).Z r.val : ℝ) : EReal) := by
  rw [val_main_v41_apply, val_main_v40_apply, show val_main_cst_9 (F := Ideal) (Shape.Idx.first h_S_) = 0 from Ideal.ofBits_zero FTy.f32, zero_add]
  have e (s : Fin 2048) : val_main_v39 (F := Ideal) x0 x1 x3 (idx_main_v40 (idx_main_v41 (ix3 h r 0)) s)
      = ((scl x0 x1 x3 h r * (headOf x0 x1 x2 x3 x4 h).ex r.val s.val : ℝ) : EReal) := by
    rw [show idx_main_v40 (idx_main_v41 (ix3 h r 0)) s = ix3 h r s from eq3 rfl rfl rfl, v39 h0 h1 h3 (x2 := x2) (x4 := x4)]
  simp only [e]
  rw [coe_sum, ← Finset.mul_sum, Head.Z, Head.Zn, Finset.sum_range]

theorem Zs_ne (h : Fin 12) (r : Fin 2048) : scl x0 x1 x3 h r * (headOf x0 x1 x2 x3 x4 h).Z r.val ≠ 0 :=
  (mul_pos (scl_pos h r) ((headOf x0 x1 x2 x3 x4 h).Z_pos r.isLt)).ne'

theorem v43 (h : Fin 12) (r s : Fin 2048) : val_main_v43 (F := Ideal) x0 x1 x3 (ix3 h r s)
    = (((headOf x0 x1 x2 x3 x4 h).p r.val s.val : ℝ) : EReal) := by
  rw [val_main_v43_apply, val_main_v42_apply, show idx_main_v42 (ix3 h r s) = ix3 h r 0 from eq3 rfl rfl rfl,
    v39 h0 h1 h3 (x2 := x2) (x4 := x4), v41 h0 h1 h3 (x2 := x2) (x4 := x4)]
  rw [Ideal.hostDivf_def, Ideal.div_coe (Zs_ne h0 h1 h3 h r), ← EReal.coe_mul, mul_one_div, Head.p, mul_div_mul_left _ _ (scl_pos h r).ne']

theorem v46 (h : Fin 12) (r : Fin 2048) : val_main_v46 (F := Ideal) x0 x1 x3 (ix3 h r 0)
    = ((1 / (scl x0 x1 x3 h r * (headOf x0 x1 x2 x3 x4 h).Z r.val * (scl x0 x1 x3 h r * (headOf x0 x1 x2 x3 x4 h).Z r.val)) : ℝ) : EReal) := by
  rw [val_main_v46_apply, val_main_v44_apply, v41 h0 h1 h3 (x2 := x2) (x4 := x4), val_main_v45_apply, val_main_cst_10_apply]
  rw [Ideal.hostDivf_def]
  show Ideal.div (Ideal.ofBits .f32 0x3F800000#32) (_ * _) = _
  rw [← EReal.coe_mul, Ideal.div_coe (mul_ne_zero (Zs_ne h0 h1 h3 h r) (Zs_ne h0 h1 h3 h r)), Ideal.ofBits_one_f32, one_mul]
end

/-! ## The gradient of the logits -/

section
include h2 h4
theorem v52 (h : Fin 12) (r s : Fin 2048) : val_main_v52 (F := Ideal) x2 x4 (ix3 h r s)
    = (((headOf x0 x1 x2 x3 x4 h).dp r.val s.val : ℝ) : EReal) := by
  rw [val_main_v52_apply, Head.dp, ← coe_sum]
  refine Finset.sum_congr rfl fun d _ => ?_
  rw [show lidx_main_v52 (ix3 h r s) d = ix3 h d r from eq3 rfl rfl rfl, show ridx_main_v52 (ix3 h r s) d = ix3 s h d from eq3 rfl rfl rfl,
    v51 h4 (x0 := x0) (x1 := x1) (x2 := x2) (x3 := x3), v2 h2 (x0 := x0) (x1 := x1) (x3 := x3) (x4 := x4), ← EReal.coe_mul, mul_comm]
end

include h0 h1 h2 h3 h4

theorem v60 (h : Fin 12) (r : Fin 2048) : val_main_v60 (F := Ideal) x0 x1 x2 x3 x4 (ix3 h r 0)
    = ((-∑ s ∈ Finset.range 2048, (headOf x0 x1 x2 x3 x4 h).dp r.val s
        * (1 / (scl x0 x1 x3 h r * (headOf x0 x1 x2 x3 x4 h).Z r.val * (scl x0 x1 x3 h r * (headOf x0 x1 x2 x3 x4 h).Z r.val)))
        * (scl x0 x1 x3 h r * (headOf x0 x1 x2 x3 x4 h).ex r.val s) : ℝ) : EReal) := by
  have e59 : val_main_v59 (F := Ideal) x0 x1 x2 x3 x4 (ix3 h r 0) = val_main_v58 (F := Ideal) x0 x1 x2 x3 x4 (ix2 h r) := by
    unfold val_main_v59
    generalize val_main_v58 (F := Ideal) x0 x1 x2 x3 x4 = y
    pointwise
  rw [val_main_v60_apply, e59, val_main_v58_apply, show val_main_cst_11 (F := Ideal) (Shape.Idx.first h_S_) = 0 from Ideal.ofBits_zero FTy.f32, zero_add]
  have e (s : Fin 2048) : val_main_v57 (F := Ideal) x0 x1 x2 x3 x4 (idx_main_v58 (ix2 h r) s)
      = (((headOf x0 x1 x2 x3 x4 h).dp r.val s.val
        * (1 / (scl x0 x1 x3 h r * (headOf x0 x1 x2 x3 x4 h).Z r.val * (scl x0 x1 x3 h r * (headOf x0 x1 x2 x3 x4 h).Z r.val)))
        * (scl x0 x1 x3 h r * (headOf x0 x1 x2 x3 x4 h).ex r.val s.val) : ℝ) : EReal) := by
    rw [show idx_main_v58 (ix2 h r) s = ix3 h r s from eq3 rfl rfl rfl, val_main_v57_apply, val_main_v56_apply, val_main_v55_apply,
      show idx_main_v55 (ix3 h r s) = ix3 h r 0 from eq3 rfl rfl rfl, v46 h0 h1 h3 (x2 := x2) (x4 := x4), v39 h0 h1 h3 (x2 := x2) (x4 := x4),
      v52 h2 h4 (x0 := x0) (x1 := x1) (x3 := x3)]
    show _ * _ * _ = _
    rw [← EReal.coe_mul, ← EReal.coe_mul]
  simp only [e]
  rw [coe_sum, Finset.sum_range]
  exact (EReal.coe_neg _).symm

theorem v66 (h : Fin 12) (r s : Fin 2048) : val_main_v66 (F := Ideal) x0 x1 x2 x3 x4 (ix3 h r s)
    = (((headOf x0 x1 x2 x3 x4 h).ds r.val s.val : ℝ) : EReal) := by
  have e63 : val_main_v63 (F := Ideal) x0 x1 x2 x3 x4 (ix2 h r) = val_main_v60 (F := Ideal) x0 x1 x2 x3 x4 (ix3 h r 0) := by
    rw [val_main_v63_apply, show val_main_cst_12 (F := Ideal) (Shape.Idx.first h_S_) = 0 from Ideal.ofBits_zero FTy.f32, zero_add]
    rw [Fin.sum_univ_one]
    exact congrArg _ (eq3 rfl rfl rfl)
  rw [val_main_v66_apply, val_main_v65_apply, val_main_v64_apply, val_main_v62_apply, val_main_v61_apply,
    show idx_main_v61 (ix3 h r s) = ix3 h r 0 from eq3 rfl rfl rfl, show idx_main_v64 (ix3 h r s) = ix2 h r from eq2 rfl rfl,
    e63, v60 h0 h1 h2 h3 h4, v52 h2 h4 (x0 := x0) (x1 := x1) (x3 := x3), v41 h0 h1 h3 (x2 := x2) (x4 := x4), v39 h0 h1 h3 (x2 := x2) (x4 := x4)]
  rw [Ideal.hostDivf_def, Ideal.div_coe (Zs_ne h0 h1 h3 h r)]
  show (_ * _ + _) * _ = _
  rw [← EReal.coe_mul, ← EReal.coe_add, ← EReal.coe_mul, mul_one_div]
  rw [Head.ds_eq _ _ _ ((headOf x0 x1 x2 x3 x4 h).Z_pos r.isLt) (scl_pos h r)]

theorem v67 (h : Fin 12) (r s : Fin 2048) : val_main_v67 (F := Ideal) x0 x1 x2 x3 x4 (ix3 h r s)
    = (((headOf x0 x1 x2 x3 x4 h).ds r.val s.val : ℝ) : EReal) := by
  rw [val_main_v67_apply, mask, v66 h0 h1 h2 h3 h4, val_main_call1_v0_apply, val_main_call1_cst_apply]
  rw [show (FloatOps.ofBits FTy.f32 0x00000000#32 : Ideal .f32) = 0 from Ideal.ofBits_zero FTy.f32]
  by_cases hs : s.val ≤ r.val
  · rw [decide_eq_true hs]; rfl
  · rw [decide_eq_false hs, Head.ds_of_lt _ (by omega)]; exact EReal.coe_zero.symm

theorem v76 (h : Fin 12) (r s : Fin 2048) : val_main_v76 (F := Ideal) x0 x1 x2 x3 x4 (ix3 h r s)
    = (((headOf x0 x1 x2 x3 x4 h).ds r.val s.val * (1 / 8) : ℝ) : EReal) := by
  rw [val_main_v76_apply, v67 h0 h1 h2 h3 h4, val_main_v75_apply, val_main_cst_17_apply]
  show _ * Ideal.ofBits FTy.f32 0x3E000000#32 = _
  rw [Cert.KernelIdeal.Fox.ofBits_eighth, EReal.coe_mul]

/-! ## The five gradients -/

theorem res_dq : val_main_v85 (F := Ideal) x0 x1 x2 x3 x4
    = fun y => (((headOf x0 x1 x2 x3 x4 (y 0)).dqn 2048 (y 2).val (y 1) * (1 / 8) : ℝ) : EReal) := by
  funext y
  obtain ⟨h, d, r, rfl⟩ : ∃ (h : Fin 12) (d : Fin 64) (r : Fin 2048), y = ix3 h d r := ⟨y 0, y 1, y 2, eq3 rfl rfl rfl⟩
  have e : val_main_v85 (F := Ideal) x0 x1 x2 x3 x4 (ix3 h d r) = val_main_v79 (F := Ideal) x0 x1 x2 x3 x4 (ix3 h r d) := by
    unfold val_main_v85 val_main_v84 val_main_v83 val_main_v80
    generalize val_main_v79 (F := Ideal) x0 x1 x2 x3 x4 = z
    pointwise
  show _ = (((headOf x0 x1 x2 x3 x4 h).dqn 2048 r.val d * (1 / 8) : ℝ) : EReal)
  rw [e, val_main_v79_apply, Head.dqn, Finset.sum_range, Finset.sum_mul, ← coe_sum]
  refine Finset.sum_congr rfl fun s _ => ?_
  rw [show lidx_main_v79 (ix3 h r d) s = ix3 h r s from eq3 rfl rfl rfl, show ridx_main_v79 (ix3 h r d) s = ix3 s h d from eq3 rfl rfl rfl,
    v76 h0 h1 h2 h3 h4, v1 h1 (x0 := x0) (x2 := x2) (x3 := x3) (x4 := x4), ← EReal.coe_mul]
  congr 1; ring

theorem res_dk : val_main_v87 (F := Ideal) x0 x1 x2 x3 x4
    = fun y => (((headOf x0 x1 x2 x3 x4 (y 0)).dkn 2048 (y 1).val (y 2) * (1 / 8) : ℝ) : EReal) := by
  funext y
  obtain ⟨h, s, d, rfl⟩ : ∃ (h : Fin 12) (s : Fin 2048) (d : Fin 64), y = ix3 h s d := ⟨y 0, y 1, y 2, eq3 rfl rfl rfl⟩
  have e : val_main_v87 (F := Ideal) x0 x1 x2 x3 x4 (ix3 h s d) = val_main_v77 (F := Ideal) x0 x1 x2 x3 x4 (ix3 h s d) := by
    unfold val_main_v87 val_main_v86 val_main_v82 val_main_v78
    generalize val_main_v77 (F := Ideal) x0 x1 x2 x3 x4 = z
    pointwise
  show _ = (((headOf x0 x1 x2 x3 x4 h).dkn 2048 s.val d * (1 / 8) : ℝ) : EReal)
  rw [e, val_main_v77_apply, Head.dkn, Finset.sum_range, Finset.sum_mul, ← coe_sum]
  refine Finset.sum_congr rfl fun r _ => ?_
  rw [show lidx_main_v77 (ix3 h s d) r = ix3 h r s from eq3 rfl rfl rfl, show ridx_main_v77 (ix3 h s d) r = ix3 r h d from eq3 rfl rfl rfl,
    v76 h0 h1 h2 h3 h4, v0 h0 (x1 := x1) (x2 := x2) (x3 := x3) (x4 := x4), ← EReal.coe_mul]
  congr 1; ring

omit h2 in
theorem res_dv : val_main_v89 (F := Ideal) x0 x1 x3 x4
    = fun y => (((headOf x0 x1 x2 x3 x4 (y 0)).dvn 2048 (y 1).val (y 2) : ℝ) : EReal) := by
  funext y
  obtain ⟨h, s, d, rfl⟩ : ∃ (h : Fin 12) (s : Fin 2048) (d : Fin 64), y = ix3 h s d := ⟨y 0, y 1, y 2, eq3 rfl rfl rfl⟩
  have e : val_main_v89 (F := Ideal) x0 x1 x3 x4 (ix3 h s d) = val_main_v53 (F := Ideal) x0 x1 x3 x4 (ix3 h d s) := by
    unfold val_main_v89 val_main_v88 val_main_v81 val_main_v54
    generalize val_main_v53 (F := Ideal) x0 x1 x3 x4 = z
    pointwise
  show _ = (((headOf x0 x1 x2 x3 x4 h).dvn 2048 s.val d : ℝ) : EReal)
  rw [e, val_main_v53_apply, Head.dvn, Finset.sum_range, ← coe_sum]
  refine Finset.sum_congr rfl fun r _ => ?_
  rw [show lidx_main_v53 (ix3 h d s) r = ix3 h d r from eq3 rfl rfl rfl, show ridx_main_v53 (ix3 h d s) r = ix3 h r s from eq3 rfl rfl rfl,
    v43 h0 h1 h3 (x2 := x2) (x4 := x4), v51 h4 (x0 := x0) (x1 := x1) (x2 := x2) (x3 := x3), ← EReal.coe_mul, mul_comm]

theorem res_dcq : val_main_v90 (F := Ideal) x0 x1 x2 x3 x4
    = fun y => (((headOf x0 x1 x2 x3 x4 (y 0)).dcqn 2048 (256 * (y 1).val + (y 3).val) : ℝ) : EReal) := by
  funext y
  obtain ⟨h, n, z, a, rfl⟩ : ∃ (h : Fin 12) (n : Fin 8) (z : Fin 1) (a : Fin 256), y = ix4 h n z a :=
    ⟨y 0, y 1, y 2, y 3, funext fun x => by match x with | 0 => rfl | 1 => rfl | 2 => rfl | 3 => rfl⟩
  obtain rfl : z = 0 := Subsingleton.elim _ _
  have e : val_main_v90 (F := Ideal) x0 x1 x2 x3 x4 (ix4 h n 0 a) = val_main_v74 (F := Ideal) x0 x1 x2 x3 x4 (ix2 h (Cert.KernelIdeal.Fox.row n a)) := by
    unfold val_main_v90
    generalize val_main_v74 (F := Ideal) x0 x1 x2 x3 x4 = z
    pointwise [Cert.KernelIdeal.Fox.row]
    exact congrArg z (eq2 rfl (Fin.ext (by show n.val * 256 + a.val = 256 * n.val + a.val; omega)))
  generalize hr : Cert.KernelIdeal.Fox.row n a = r at e
  have hv : 256 * n.val + a.val = r.val := by rw [← hr]; rfl
  have e73 : val_main_v73 (F := Ideal) x0 x1 x2 x3 x4 (ix3 h r 0) = val_main_v72 (F := Ideal) x0 x1 x2 x3 x4 (ix2 h r) := by
    unfold val_main_v73
    generalize val_main_v72 (F := Ideal) x0 x1 x2 x3 x4 = z
    pointwise
  show _ = (((headOf x0 x1 x2 x3 x4 h).dcqn 2048 (256 * n.val + a.val) : ℝ) : EReal)
  rw [hv, e, val_main_v74_apply, show val_main_cst_16 (F := Ideal) (Shape.Idx.first h_S_) = 0 from Ideal.ofBits_zero FTy.f32, zero_add, Fin.sum_univ_one,
    show idx_main_v74 (ix2 h r) 0 = ix3 h r 0 from eq3 rfl rfl rfl, e73, val_main_v72_apply,
    show val_main_cst_15 (F := Ideal) (Shape.Idx.first h_S_) = 0 from Ideal.ofBits_zero FTy.f32, zero_add, Head.dcqn, Finset.sum_range, ← coe_sum]
  refine Finset.sum_congr rfl fun s _ => ?_
  rw [show idx_main_v72 (ix2 h r) s = ix3 h r s from eq3 rfl rfl rfl, v67 h0 h1 h2 h3 h4]

theorem res_dck : val_main_v91 (F := Ideal) x0 x1 x2 x3 x4
    = fun y => (((headOf x0 x1 x2 x3 x4 (y 0)).dckn 2048 (y 1).val : ℝ) : EReal) := by
  funext y
  obtain ⟨h, s, z, rfl⟩ : ∃ (h : Fin 12) (s : Fin 2048) (z : Fin 1), y = ix3 h s z := ⟨y 0, y 1, y 2, eq3 rfl rfl rfl⟩
  obtain rfl : z = 0 := Subsingleton.elim _ _
  have e : val_main_v91 (F := Ideal) x0 x1 x2 x3 x4 (ix3 h s 0) = val_main_v71 (F := Ideal) x0 x1 x2 x3 x4 (ix2 h s) := by
    unfold val_main_v91
    generalize val_main_v71 (F := Ideal) x0 x1 x2 x3 x4 = z
    pointwise
  have e70 : val_main_v70 (F := Ideal) x0 x1 x2 x3 x4 (ix3 h 0 s) = val_main_v69 (F := Ideal) x0 x1 x2 x3 x4 (ix2 h s) := by
    unfold val_main_v70
    generalize val_main_v69 (F := Ideal) x0 x1 x2 x3 x4 = z
    pointwise
  show _ = (((headOf x0 x1 x2 x3 x4 h).dckn 2048 s.val : ℝ) : EReal)
  rw [e, val_main_v71_apply, show val_main_cst_14 (F := Ideal) (Shape.Idx.first h_S_) = 0 from Ideal.ofBits_zero FTy.f32, zero_add, Fin.sum_univ_one,
    show idx_main_v71 (ix2 h s) 0 = ix3 h 0 s from eq3 rfl rfl rfl, e70, val_main_v69_apply,
    show val_main_cst_13 (F := Ideal) (Shape.Idx.first h_S_) = 0 from Ideal.ofBits_zero FTy.f32, zero_add, Head.dckn, Finset.sum_range, ← coe_sum]
  refine Finset.sum_congr rfl fun r _ => ?_
  rw [show idx_main_v69 (ix2 h s) r = ix3 h r s from eq3 rfl rfl rfl, val_main_v68_apply, v67 h0 h1 h2 h3 h4]
  exact (EReal.coe_neg _).symm

end Cert.ReferenceIdeal.Fox

end
-- ==== Proof.Finite.lean ====
/- What the precondition says: every element of the five arguments is a real number. -/
module

public import proofs.«01_k».proof.Defs
public import proofs.«01_k».proof.Proof.Entry
public import proofs.«01_k».proof.Proof.Gen.Pre_finite

@[expose] public section

set_option maxRecDepth 16384

noncomputable section

namespace Cert.Fox

open Idealize.ShloMosaic Idealize.ShloMosaic.TcCoe Idealize.ShloMosaic.Tactic

theorem real_of_lt {a : EReal} (h : BitVec.ofBool (decide (max a (-a) < (⊤ : EReal))) = 1#1) : a = ((EReal.toReal a : ℝ) : EReal) := by
  have h' : max a (-a) < ⊤ := by
    by_contra hn
    rw [decide_eq_false hn] at h
    exact absurd h (by decide)
  have h1 := lt_of_le_of_lt (le_max_left _ _) h'
  have h2 := lt_of_le_of_lt (le_max_right _ _) h'
  refine (EReal.coe_toReal h1.ne fun hb => ?_).symm
  rw [hb] at h2
  exact absurd h2 (by simp)

theorem ofBits_inf : Ideal.ofBits FTy.f32 0x7F800000#32 = ⊤ := by
  simp [Ideal.ofBits, Ideal.ieee]

/-- An array every element of which compares below infinity in absolute value. -/
theorem isReal_of {s : Shape} (x : FVec Ideal s .f32) (dims : Fin (⟨0, ![]⟩ : Shape).rank → Fin s.rank)
    (hb : (⟨0, ![]⟩ : Shape).BroadcastsInDim s dims)
    (h : cmpf .olt (Host.absf x) (broadcastInDim s dims hb (constant (F := Ideal) ⟨0, ![]⟩ .f32 0x7F800000#32)) = fun _ => 1#1) : IsReal x := by
  intro y
  have hy := congrFun h y
  refine real_of_lt (Eq.trans ?_ hy)
  show _ = BitVec.ofBool (decide (max (x y) (-(x y)) < Ideal.ofBits FTy.f32 0x7F800000#32))
  rw [ofBits_inf]

end Cert.Fox

namespace Cert.KernelIdeal.Fox

open Idealize.ShloMosaic Idealize.ShloMosaic.TcCoe Cert.Fox

theorem given {m : (ℓ : Loc nD τ sig) → Buf (Elt Ideal) ℓ} (h : Pre_KernelIdeal_finite (hPre_finite := Cert.Pre_finite.Gen.facts) m)
    (c : Dev nD) : Given m c where
  q := isReal_of _ _ _ (h c).1
  k := isReal_of _ _ _ (h c).2.1
  v := isReal_of _ _ _ (h c).2.2.1
  g := isReal_of _ _ _ (h c).2.2.2.1
  ct := isReal_of _ _ _ (h c).2.2.2.2

end Cert.KernelIdeal.Fox

end
-- ==== Proof.Agree.lean ====
/- The value claim: the two calls' five results are the plain gradient's. -/
module

public import proofs.«01_k».proof.Proof.Launch
public import proofs.«01_k».proof.Proof.RefValue
public import proofs.«01_k».proof.Proof.Finite

@[expose] public section

set_option maxRecDepth 16384

noncomputable section

namespace Cert.Fox

open Idealize.ShloMosaic Idealize.ShloMosaic.TcCoe Idealize.SL.Sem

open Cert.KernelIdeal.Gen in
theorem agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  refine ⟨fun c => W4 m g c (Proc.devRef .tc Cert.KernelIdeal.main_v18_0), fun c => W4 m g c (Proc.devRef .tc Cert.KernelIdeal.main_v18_1),
    fun c => W4 m g c (Proc.devRef .tc Cert.KernelIdeal.main_v18_2), fun c => W4 m g c (Proc.devRef .tc Cert.KernelIdeal.main_v18_3),
    fun c => W4 m g c (Proc.devRef .tc Cert.KernelIdeal.main_v18_4), Cert.KernelIdeal.Fox.run m g, ?_⟩
  refine (θ_run Cert.ReferenceIdeal.defs _ _).mono (fun r h c => ?_) (Cert.ReferenceIdeal.Value.run (F := Ideal) m' g')
  obtain ⟨r0, r1, r2, r3, r4, hargs⟩ := h c
  obtain ⟨a0, a1, a2, a3, a4⟩ := hag c
  have G := Cert.KernelIdeal.Fox.given hpre c
  rw [Cert.ReferenceIdeal.Read.val_main_v85_eq, a0, a1, a2, a3, a4, Cert.ReferenceIdeal.Fox.res_dq G.q G.k G.v G.g G.ct] at r0
  rw [Cert.ReferenceIdeal.Read.val_main_v87_eq, a0, a1, a2, a3, a4, Cert.ReferenceIdeal.Fox.res_dk G.q G.k G.v G.g G.ct] at r1
  rw [Cert.ReferenceIdeal.Read.val_main_v89_eq, a0, a1, a3, a4, Cert.ReferenceIdeal.Fox.res_dv (x2 := m ((c.tc : Thread Cert.KernelIdeal.nD Cert.KernelIdeal.τ).loc Cert.KernelIdeal.main_arg2)) G.q G.k G.g G.ct] at r2
  rw [Cert.ReferenceIdeal.Read.val_main_v90_eq, a0, a1, a2, a3, a4, Cert.ReferenceIdeal.Fox.res_dcq G.q G.k G.v G.g G.ct] at r3
  rw [Cert.ReferenceIdeal.Read.val_main_v91_eq, a0, a1, a2, a3, a4, Cert.ReferenceIdeal.Fox.res_dck G.q G.k G.v G.g G.ct] at r4
  exact ⟨r0.trans (Cert.KernelIdeal.Fox.W4_dq g G).symm, r1.trans (Cert.KernelIdeal.Fox.W4_dk g G).symm,
    r2.trans (Cert.KernelIdeal.Fox.W4_dv g G).symm, r3.trans (Cert.KernelIdeal.Fox.W4_dcq g G).symm,
    r4.trans (Cert.KernelIdeal.Fox.W4_dck g G).symm, hargs⟩

end Cert.Fox

end
-- ==== Proof.UpProj.lean ====
/- The two halves of the feed-forward's first product: a point's columns are the rows' products with its rows of the weights. -/
module

public import proofs.«01_k».proof.Proof.Gen.Kernel6Ideal.Value
public import proofs.«01_k».proof.Proof.Gen.Kernel7Ideal.Value
public import proofs.«01_k».proof.Proof.Gen.Reference6Ideal.Read
public import proofs.«01_k».proof.Proof.Gen.Reference7Ideal.Read
public import proofs.«01_k».proof.Defs
public import Idealize.ShloMosaic.Lib.Claim
public import Idealize.ShloMosaic.Lib.Pipeline.ValueKit

@[expose] public section

set_option maxRecDepth 16384

noncomputable section

namespace Cert.Ffn

open Idealize.ShloMosaic Idealize.ShloMosaic.Tactic

/-- The product of the activations with the `o`-th row on of the stacked weights. -/
def half (o : Fin 2817) (h : FVec Ideal ⟨2, ![2048, 1024]⟩ .bf16) (w : FVec Ideal ⟨2, ![5632, 1024]⟩ .bf16) :
    FVec Ideal ⟨2, ![2048, 2816]⟩ .f32 :=
  fun y => ∑ k : Fin 1024, h (ix2 (y 0) k) * w (ix2 ⟨o.val + (y 1).val, by have : (y 1).val < 2816 := (y 1).isLt; omega⟩ k)

end Cert.Ffn

namespace Cert.Kernel6Ideal.Ffn

open Idealize.ShloMosaic Idealize.ShloMosaic.TcCoe Idealize.ShloMosaic.Tactic Cert.Kernel6Ideal Cert.Kernel6Ideal.Gen

theorem pay (w : Vec Ideal S256x1024 .bf16) (h : Vec Ideal S512x1024 .bf16) (x : S512x256.Idx) :
    k0_pay1 w h x = ∑ k : Fin 1024, h (ix2 (x 0) k) * w (ix2 (x 1) k) := by
  obtain ⟨i, j, rfl⟩ : ∃ (i : Fin 512) (j : Fin 256), x = ix2 i j := ⟨x 0, x 1, funext fun a => by match a with | 0 => rfl | 1 => rfl⟩
  pointwise [k0_pay1]

theorem out (x0 : Vec Ideal S2048x1024 .bf16) (x1 : Vec Ideal S256x1024 .bf16) (y : S2048x256.Idx) :
    out0_2 x0 x1 y = ∑ k : Fin 1024, x0 (ix2 (y 0) k) * x1 (ix2 (y 1) k) := by
  unfold out0_2
  refine View.canon_apply_of_pieces (Val := Elt Ideal) (S := S2048x256) (e := .f32) (fun y => ∑ k : Fin 1024, x0 (ix2 (y 0) k) * x1 (ix2 (y 1) k)) _ ?_ y ?_
  case refine_2 => exact View.cover_of_tiled_head _ _ _ rfl _
  intro p hp x
  simp only [List.mem_cons, List.not_mem_nil, or_false] at hp
  rcases hp with rfl | rfl | rfl | rfl
  all_goals
    refine (pay _ _ x).trans (Finset.sum_congr rfl fun k _ => ?_)
    refine congrArg₂ (· * ·) (congrArg x0 (?_ : Rect.emb _ _ = _)) (congrArg x1 (?_ : Rect.emb _ _ = _))
    · blk_ext []
    · blk_ext []

theorem idx : ∀ t : Fin cfg0.N, win0_0.index t = ![0, 0] ∧ win0_1.index t = ![t.val, 0] ∧ win0_2.index t = ![0, t.val] := by
  decide +kernel

variable (m : (ℓ : Loc nD τ sig) → Buf (Elt Ideal) ℓ) (c : Dev nD)

/-- The call's result: row `i` of the activations against row `j` of the weights. -/
theorem arr : ((dats m 0 c).arrAt 2 cfg0.N : FVec Ideal S2048x2816 .f32)
    = Cert.Ffn.half 0 (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  refine (out _ _ y).trans (Finset.sum_congr rfl fun k _ => ?_)
  refine congrArg₂ (· * ·) ?_ ?_
  · blk_ext [iblk, h0, h2]
  · blk_ext [iblk, h1, h2]

end Cert.Kernel6Ideal.Ffn

namespace Cert.Kernel7Ideal.Ffn

open Idealize.ShloMosaic Idealize.ShloMosaic.TcCoe Idealize.ShloMosaic.Tactic Cert.Kernel7Ideal Cert.Kernel7Ideal.Gen

theorem out (x0 : Vec Ideal S2048x1024 .bf16) (x1 : Vec Ideal S256x1024 .bf16) (y : S2048x256.Idx) :
    out0_2 x0 x1 y = ∑ k : Fin 1024, x0 (ix2 (y 0) k) * x1 (ix2 (y 1) k) :=
  Cert.Kernel6Ideal.Ffn.out x0 x1 y

theorem idx : ∀ t : Fin cfg0.N, win0_0.index t = ![0, 0] ∧ win0_1.index t = ![11 + t.val, 0] ∧ win0_2.index t = ![0, t.val] := by
  decide +kernel

variable (m : (ℓ : Loc nD τ sig) → Buf (Elt Ideal) ℓ) (c : Dev nD)

/-- The second half's rows start at row 2816 of the weights. -/
theorem arr : ((dats m 0 c).arrAt 2 cfg0.N : FVec Ideal S2048x2816 .f32)
    = Cert.Ffn.half 2816 (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  refine (out _ _ y).trans (Finset.sum_congr rfl fun k _ => ?_)
  refine congrArg₂ (· * ·) ?_ ?_
  · blk_ext [iblk, h0, h2]
  · blk_ext [iblk, h1, h2]

end Cert.Kernel7Ideal.Ffn

namespace Cert.Ffn

open Idealize.ShloMosaic Idealize.ShloMosaic.TcCoe Idealize.ShloMosaic.Tactic Idealize.SL.Sem

open Cert.Reference6Ideal Cert.Reference6Ideal.Read in
theorem ref6 (h : FVec Ideal S2048x1024 .bf16) (w : FVec Ideal S5632x1024 .bf16) : val_main_v4 (F := Ideal) h w = half 0 h w := by
  funext y
  rw [val_main_v4_apply, val_main_v3_apply]
  refine Finset.sum_congr rfl fun k _ => ?_
  rw [val_main_v0_apply, val_main_v2_apply, val_main_v1_apply]
  refine congrArg₂ (· * ·) (congrArg h ?_) (congrArg w ?_)
  · blk_ext [idx_main_v4, lidx_main_v3]
  · blk_ext [idx_main_v4, idx_main_v2, ridx_main_v3]

open Cert.Reference7Ideal Cert.Reference7Ideal.Read in
theorem ref7 (h : FVec Ideal S2048x1024 .bf16) (w : FVec Ideal S5632x1024 .bf16) : val_main_v5 (F := Ideal) h w = half 2816 h w := by
  funext y
  rw [val_main_v5_apply, val_main_v3_apply]
  refine Finset.sum_congr rfl fun k _ => ?_
  rw [val_main_v0_apply, val_main_v2_apply, val_main_v1_apply]
  refine congrArg₂ (· * ·) (congrArg h ?_) (congrArg w ?_)
  · blk_ext [idx_main_v5, lidx_main_v3]
  · blk_ext [idx_main_v5, idx_main_v2, ridx_main_v3]

theorem agree6 : Cert.algebraic_Kernel6Ideal_Reference6Ideal (hKernel6Ideal := Cert.Kernel6Ideal.Gen.facts)
    (hReference6Ideal := Cert.Reference6Ideal.Gen.facts) := by
  intro m g m' g' _ hag
  refine ⟨fun c => half 0 (m ((c.tc : Thread _ _).loc Cert.Kernel6Ideal.main_arg0)) (m ((c.tc : Thread _ _).loc Cert.Kernel6Ideal.main_arg1)), ?_, ?_⟩
  · refine (θ_run Cert.Kernel6Ideal.defs _ _).mono (fun r h c => ?_) (Cert.Kernel6Ideal.Value.run_blocks m g)
    exact ⟨(h c).1.trans (Cert.Kernel6Ideal.Ffn.arr m c), (h c).2⟩
  · refine (θ_run Cert.Reference6Ideal.defs _ _).mono (fun r h c => ?_) (Cert.Reference6Ideal.Value.run (F := Ideal) m' g')
    obtain ⟨a0, a1⟩ := hag c
    obtain ⟨r0, hargs⟩ := h c
    rw [Cert.Reference6Ideal.Read.val_main_v4_eq, ref6, a0, a1] at r0
    exact ⟨r0, hargs⟩

theorem agree7 : Cert.algebraic_Kernel7Ideal_Reference7Ideal (hKernel7Ideal := Cert.Kernel7Ideal.Gen.facts)
    (hReference7Ideal := Cert.Reference7Ideal.Gen.facts) := by
  intro m g m' g' _ hag
  refine ⟨fun c => half 2816 (m ((c.tc : Thread _ _).loc Cert.Kernel7Ideal.main_arg0)) (m ((c.tc : Thread _ _).loc Cert.Kernel7Ideal.main_arg1)), ?_, ?_⟩
  · refine (θ_run Cert.Kernel7Ideal.defs _ _).mono (fun r h c => ?_) (Cert.Kernel7Ideal.Value.run_blocks m g)
    exact ⟨(h c).1.trans (Cert.Kernel7Ideal.Ffn.arr m c), (h c).2⟩
  · refine (θ_run Cert.Reference7Ideal.defs _ _).mono (fun r h c => ?_) (Cert.Reference7Ideal.Value.run (F := Ideal) m' g')
    obtain ⟨a0, a1⟩ := hag c
    obtain ⟨r0, hargs⟩ := h c
    rw [Cert.Reference7Ideal.Read.val_main_v5_eq, ref7, a0, a1] at r0
    exact ⟨r0, hargs⟩

end Cert.Ffn

end
-- ==== Proof.DownProj.lean ====
/- The feed-forward's second product with the residual: a point's columns, in four chunks of rows. -/
module

public import proofs.«01_k».proof.Proof.Gen.Kernel8Ideal.Value
public import proofs.«01_k».proof.Proof.Gen.Reference8Ideal.Read
public import proofs.«01_k».proof.Defs
public import Idealize.ShloMosaic.Lib.Claim
public import Idealize.ShloMosaic.Lib.Pipeline.ValueKit

@[expose] public section

set_option maxRecDepth 16384

noncomputable section

namespace Cert.Ffn

open Idealize.ShloMosaic Idealize.ShloMosaic.Tactic

/-- The gated activations times the weights, added to the residual. -/
def down (a : FVec Ideal ⟨2, ![2048, 2816]⟩ .bf16) (w : FVec Ideal ⟨2, ![2816, 1024]⟩ .bf16) (x : FVec Ideal ⟨2, ![2048, 1024]⟩ .f32) :
    FVec Ideal ⟨2, ![2048, 1024]⟩ .f32 :=
  fun y => (∑ k : Fin 2816, a (ix2 (y 0) k) * w (ix2 k (y 1))) + x y

end Cert.Ffn

namespace Cert.Kernel8Ideal.Ffn

open Idealize.ShloMosaic Idealize.ShloMosaic.TcCoe Idealize.ShloMosaic.Tactic Cert.Kernel8Ideal Cert.Kernel8Ideal.Gen

theorem pay (w : Vec Ideal S2816x512 .bf16) (a : Vec Ideal S512x2816 .bf16) (r : Vec Ideal S512x512 .f32) (x : S512x512.Idx) :
    k0_pay1 w a r x = (∑ k : Fin 2816, a (ix2 (x 0) k) * w (ix2 k (x 1))) + r x := by
  obtain ⟨i, j, rfl⟩ : ∃ (i : Fin 512) (j : Fin 512), x = ix2 i j := ⟨x 0, x 1, funext fun a => by match a with | 0 => rfl | 1 => rfl⟩
  pointwise [k0_pay1]

/-- What a point leaves: its columns of the product, plus its columns of the residual. -/
theorem out (x0 : Vec Ideal S2048x2816 .bf16) (x1 : Vec Ideal S2816x512 .bf16) (x2 : Vec Ideal S2048x512 .f32) (y : S2048x512.Idx) :
    out0_3 x0 x1 x2 y = (∑ k : Fin 2816, x0 (ix2 (y 0) k) * x1 (ix2 k (y 1))) + x2 y := by
  unfold out0_3
  refine View.canon_apply_of_pieces (Val := Elt Ideal) (S := S2048x512) (e := .f32)
    (fun y => (∑ k : Fin 2816, x0 (ix2 (y 0) k) * x1 (ix2 k (y 1))) + x2 y) _ ?_ y ?_
  case refine_2 => exact View.cover_of_tiled_head _ _ _ rfl _
  intro p hp x
  simp only [List.mem_cons, List.not_mem_nil, or_false] at hp
  rcases hp with rfl | rfl | rfl | rfl
  all_goals
    refine (pay _ _ _ x).trans (congrArg₂ (· + ·) (Finset.sum_congr rfl fun k _ => ?_) rfl)
    refine congrArg₂ (· * ·) (congrArg x0 (?_ : Rect.emb _ _ = _)) (congrArg x1 (?_ : Rect.emb _ _ = _))
    · blk_ext []
    · blk_ext []

theorem idx : ∀ t : Fin cfg0.N, win0_0.index t = ![0, 0] ∧ win0_1.index t = ![0, t.val] ∧ win0_2.index t = ![0, t.val]
    ∧ win0_3.index t = ![0, t.val] := by
  decide +kernel

variable (m : (ℓ : Loc nD τ sig) → Buf (Elt Ideal) ℓ) (c : Dev nD)

theorem arr : ((dats m 0 c).arrAt 3 cfg0.N : FVec Ideal S2048x1024 .f32)
    = Cert.Ffn.down (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨h0, h1, h2, h3⟩ := idx t
  show (dats m 0 c).after 3 t y = _
  rw [after0_3]
  refine (out _ _ _ y).trans (congrArg₂ (· + ·) (Finset.sum_congr rfl fun k _ => congrArg₂ (· * ·) ?_ ?_) ?_)
  · blk_ext [iblk, h0, h3]
  · blk_ext [iblk, h1, h3]
  · blk_ext [iblk, h2, h3]

end Cert.Kernel8Ideal.Ffn

namespace Cert.Ffn

open Idealize.ShloMosaic Idealize.ShloMosaic.TcCoe Idealize.ShloMosaic.Tactic Idealize.SL.Sem

open Cert.Reference8Ideal Cert.Reference8Ideal.Read in
theorem ref8 (a : FVec Ideal S2048x2816 .bf16) (w : FVec Ideal S2816x1024 .bf16) (x : FVec Ideal S2048x1024 .f32) :
    val_main_v3 (F := Ideal) a w x = down a w x := by
  funext y
  rw [val_main_v3_apply, val_main_v2_apply]
  refine (add_comm _ _).trans (congrArg₂ (· + ·) (Finset.sum_congr rfl fun k _ => ?_) rfl)
  rw [val_main_v0_apply, val_main_v1_apply]
  refine congrArg₂ (· * ·) (congrArg a ?_) (congrArg w ?_)
  · blk_ext [lidx_main_v2]
  · blk_ext [ridx_main_v2]

theorem agree8 : Cert.algebraic_Kernel8Ideal_Reference8Ideal (hKernel8Ideal := Cert.Kernel8Ideal.Gen.facts)
    (hReference8Ideal := Cert.Reference8Ideal.Gen.facts) := by
  intro m g m' g' _ hag
  refine ⟨fun c => down (m ((c.tc : Thread _ _).loc Cert.Kernel8Ideal.main_arg0)) (m ((c.tc : Thread _ _).loc Cert.Kernel8Ideal.main_arg1))
    (m ((c.tc : Thread _ _).loc Cert.Kernel8Ideal.main_arg2)), ?_, ?_⟩
  · refine (θ_run Cert.Kernel8Ideal.defs _ _).mono (fun r h c => ?_) (Cert.Kernel8Ideal.Value.run_blocks m g)
    exact ⟨(h c).1.trans (Cert.Kernel8Ideal.Ffn.arr m c), (h c).2⟩
  · refine (θ_run Cert.Reference8Ideal.defs _ _).mono (fun r h c => ?_) (Cert.Reference8Ideal.Value.run (F := Ideal) m' g')
    obtain ⟨a0, a1, a2⟩ := hag c
    obtain ⟨r0, hargs⟩ := h c
    rw [Cert.Reference8Ideal.Read.val_main_v3_eq, ref8, a0, a1, a2] at r0
    exact ⟨r0, hargs⟩

end Cert.Ffn

end
-- ==== Proof.DUp.lean ====
/- The gradient of the feed-forward's normed input: the two halves' gradients against the two halves of the weights, a point's
   rows in two chunks of columns. -/
module

public import proofs.«01_k».proof.Proof.Gen.Kernel4Ideal.Value
public import proofs.«01_k».proof.Proof.Gen.Reference4Ideal.Read
public import proofs.«01_k».proof.Defs
public import Idealize.ShloMosaic.Lib.Claim
public import Idealize.ShloMosaic.Lib.Pipeline.ValueKit

@[expose] public section

set_option maxRecDepth 16384

noncomputable section

namespace Cert.Ffn

open Idealize.ShloMosaic Idealize.ShloMosaic.Tactic

/-- Both halves' gradients times the stacked weights. -/
def dup (g v : FVec Ideal ⟨2, ![2048, 2816]⟩ .bf16) (w : FVec Ideal ⟨2, ![5632, 1024]⟩ .bf16) : FVec Ideal ⟨2, ![2048, 1024]⟩ .f32 :=
  fun y => (∑ k : Fin 2816, g (ix2 (y 0) k) * w (ix2 ⟨k.val, by omega⟩ (y 1)))
    + ∑ k : Fin 2816, v (ix2 (y 0) k) * w (ix2 ⟨2816 + k.val, by omega⟩ (y 1))

end Cert.Ffn

namespace Cert.Kernel4Ideal.Ffn

open Idealize.ShloMosaic Idealize.ShloMosaic.TcCoe Idealize.ShloMosaic.Tactic Cert.Kernel4Ideal Cert.Kernel4Ideal.Gen

theorem pay (g v : Vec Ideal S512x2816 .bf16) (w w' : Vec Ideal S2816x512 .bf16) (x : S512x512.Idx) :
    k0_pay1 g v w w' x = (∑ k : Fin 2816, g (ix2 (x 0) k) * w (ix2 k (x 1))) + ∑ k : Fin 2816, v (ix2 (x 0) k) * w' (ix2 k (x 1)) := by
  obtain ⟨i, j, rfl⟩ : ∃ (i : Fin 512) (j : Fin 512), x = ix2 i j := ⟨x 0, x 1, funext fun a => by match a with | 0 => rfl | 1 => rfl⟩
  pointwise [k0_pay1]

/-- What a point leaves: its rows' gradient. -/
theorem out (x0 x1 : Vec Ideal S512x2816 .bf16) (x2 : Vec Ideal S5632x1024 .bf16) (y : S512x1024.Idx) :
    out0_3 x0 x1 x2 y = (∑ k : Fin 2816, x0 (ix2 (y 0) k) * x2 (ix2 ⟨k.val, by omega⟩ (y 1)))
      + ∑ k : Fin 2816, x1 (ix2 (y 0) k) * x2 (ix2 ⟨2816 + k.val, by omega⟩ (y 1)) := by
  unfold out0_3
  refine View.canon_apply_of_pieces (Val := Elt Ideal) (S := S512x1024) (e := .f32)
    (fun y => (∑ k : Fin 2816, x0 (ix2 (y 0) k) * x2 (ix2 ⟨k.val, by omega⟩ (y 1)))
      + ∑ k : Fin 2816, x1 (ix2 (y 0) k) * x2 (ix2 ⟨2816 + k.val, by omega⟩ (y 1))) _ ?_ y ?_
  case refine_2 => exact View.cover_of_tiled_head _ _ _ rfl _
  intro p hp x
  simp only [List.mem_cons, List.not_mem_nil, or_false] at hp
  rcases hp with rfl | rfl
  all_goals
    refine (pay _ _ _ _ x).trans (congrArg₂ (· + ·) (Finset.sum_congr rfl fun k _ => ?_) (Finset.sum_congr rfl fun k _ => ?_))
    all_goals
      refine congrArg₂ (· * ·) (congrArg _ (?_ : Rect.emb _ _ = _)) (congrArg x2 (?_ : Rect.emb _ _ = _))
      · blk_ext []
      · blk_ext []

theorem idx : ∀ t : Fin cfg0.N, win0_0.index t = ![t.val, 0] ∧ win0_1.index t = ![t.val, 0] ∧ win0_2.index t = ![0, 0]
    ∧ win0_3.index t = ![t.val, 0] := by
  decide +kernel

variable (m : (ℓ : Loc nD τ sig) → Buf (Elt Ideal) ℓ) (c : Dev nD)

theorem arr : ((dats m 0 c).arrAt 3 cfg0.N : FVec Ideal S2048x1024 .f32)
    = Cert.Ffn.dup (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨h0, h1, h2, h3⟩ := idx t
  show (dats m 0 c).after 3 t y = _
  rw [after0_3]
  refine (out _ _ _ y).trans (congrArg₂ (· + ·) (Finset.sum_congr rfl fun k _ => congrArg₂ (· * ·) ?_ ?_)
    (Finset.sum_congr rfl fun k _ => congrArg₂ (· * ·) ?_ ?_))
  · blk_ext [iblk, h0, h3]
  · blk_ext [iblk, h2, h3]
  · blk_ext [iblk, h1, h3]
  · blk_ext [iblk, h2, h3]

end Cert.Kernel4Ideal.Ffn

namespace Cert.Ffn

open Idealize.ShloMosaic Idealize.ShloMosaic.TcCoe Idealize.ShloMosaic.Tactic Idealize.SL.Sem

open Cert.Reference4Ideal Cert.Reference4Ideal.Gen Cert.Reference4Ideal.Read in
/-- The reference's sum runs over both halves side by side. -/
theorem ref4 (g v : FVec Ideal S2048x2816 .bf16) (w : FVec Ideal S5632x1024 .bf16) : val_main_v6 (F := Ideal) g v w = dup g v w := by
  funext y
  rw [val_main_v6_apply]
  refine (Fin.sum_univ_add (a := 2816) (b := 2816) _).trans (congrArg₂ (· + ·) (Finset.sum_congr rfl fun k _ => ?_) (Finset.sum_congr rfl fun k _ => ?_))
  all_goals
    rw [val_main_v1_apply, val_main_v4_apply, val_main_v3_apply]
    refine congrArg₂ (· * ·) ?_ (congrArg w ?_)
  · exact concatenate_pair_apply_left 1 g v concatenates_S2048x2816_S2048x2816_S2048x5632_d1 _ rfl (ix2 (y 0) k) fun b => by
      match b with | 0 => rfl | 1 => rfl
  · (blk_ext [ridx_main_v6, idx_main_v4]; rfl)
  · exact concatenate_pair_apply_right 1 g v concatenates_S2048x2816_S2048x2816_S2048x5632_d1 _ rfl rfl (ix2 (y 0) k)
      (fun b hb => by match b with | 0 => rfl | 1 => exact absurd rfl hb) (Nat.add_comm _ _)
  · (blk_ext [ridx_main_v6, idx_main_v4]; rfl)

theorem agree4 : Cert.algebraic_Kernel4Ideal_Reference4Ideal (hKernel4Ideal := Cert.Kernel4Ideal.Gen.facts)
    (hReference4Ideal := Cert.Reference4Ideal.Gen.facts) := by
  intro m g m' g' _ hag
  refine ⟨fun c => dup (m ((c.tc : Thread _ _).loc Cert.Kernel4Ideal.main_arg0)) (m ((c.tc : Thread _ _).loc Cert.Kernel4Ideal.main_arg1))
    (m ((c.tc : Thread _ _).loc Cert.Kernel4Ideal.main_arg2)), ?_, ?_⟩
  · refine (θ_run Cert.Kernel4Ideal.defs _ _).mono (fun r h c => ?_) (Cert.Kernel4Ideal.Value.run_blocks m g)
    exact ⟨(h c).1.trans (Cert.Kernel4Ideal.Ffn.arr m c), (h c).2⟩
  · refine (θ_run Cert.Reference4Ideal.defs _ _).mono (fun r h c => ?_) (Cert.Reference4Ideal.Value.run (F := Ideal) m' g')
    obtain ⟨a0, a1, a2⟩ := hag c
    obtain ⟨r0, hargs⟩ := h c
    rw [Cert.Reference4Ideal.Read.val_main_v6_eq, ref4, a0, a1, a2] at r0
    exact ⟨r0, hargs⟩

end Cert.Ffn

end
-- ==== Proof.DAct.lean ====
/- The gradient of the feed-forward's gated activations: the first point keeps a narrow copy of the residual gradient, every point
   multiplies it by its rows of the weights. -/
module

public import proofs.«01_k».proof.Proof.Gen.Kernel2Ideal.Value
public import proofs.«01_k».proof.Proof.Gen.Reference2Ideal.Read
public import proofs.«01_k».proof.Defs
public import Idealize.ShloMosaic.Lib.Claim
public import Idealize.ShloMosaic.Lib.Pipeline.ValueKit

@[expose] public section

set_option maxRecDepth 16384

noncomputable section

namespace Cert.Ffn

open Idealize.ShloMosaic Idealize.ShloMosaic.Tactic

/-- The residual gradient against the weights' rows. -/
def dact (g : FVec Ideal ⟨2, ![2048, 1024]⟩ .f32) (w : FVec Ideal ⟨2, ![2816, 1024]⟩ .bf16) : FVec Ideal ⟨2, ![2048, 2816]⟩ .f32 :=
  fun y => ∑ k : Fin 1024, g (ix2 (y 0) k) * w (ix2 (y 1) k)

end Cert.Ffn

namespace Cert.Kernel2Ideal.Ffn

open Idealize.ShloMosaic Idealize.ShloMosaic.TcCoe Idealize.ShloMosaic.Tactic Cert.Kernel2Ideal Cert.Kernel2Ideal.Gen

theorem pay (w : Vec Ideal S256x1024 .bf16) (h : Vec Ideal S512x1024 .bf16) (x : S512x256.Idx) :
    k0_pay5 w h x = ∑ k : Fin 1024, h (ix2 (x 0) k) * w (ix2 (x 1) k) := by
  obtain ⟨i, j, rfl⟩ : ∃ (i : Fin 512) (j : Fin 256), x = ix2 i j := ⟨x 0, x 1, funext fun a => by match a with | 0 => rfl | 1 => rfl⟩
  pointwise [k0_pay5]

theorem narrow (v : Vec Ideal S512x1024 .f32) (x : S512x1024.Idx) : k0_pay1 v x = v x := by
  obtain ⟨i, j, rfl⟩ : ∃ (i : Fin 512) (j : Fin 1024), x = ix2 i j := ⟨x 0, x 1, funext fun a => by match a with | 0 => rfl | 1 => rfl⟩
  pointwise [k0_pay1]

/-- One block of columns of the product. -/
def cols (x0 : Vec Ideal S2048x1024 .bf16) (x1 : Vec Ideal S256x1024 .bf16) : Vec Ideal S2048x256 .f32 :=
  fun y => ∑ k : Fin 1024, x0 (ix2 (y 0) k) * x1 (ix2 (y 1) k)

/-- Four chunks of rows of the product. -/
theorem chunks (x0 : Vec Ideal S2048x1024 .bf16) (x1 : Vec Ideal S256x1024 .bf16) (y : S2048x256.Idx) :
    View.canon (Val := Elt Ideal) (s := S2048x256) (e := .f32)
      [⟨Rect.unit ![1536, 0] ![512, 256] inb_S2048x256_S512x256_1536_0, k0_pay8 (View.ld x1 (Rect.unit ![0, 0] ![256, 1024] inb_S256x1024_S256x1024_0_0))
          (View.ld x0 (Rect.unit ![1536, 0] ![512, 1024] inb_S2048x1024_S512x1024_1536_0))⟩,
        ⟨Rect.unit ![1024, 0] ![512, 256] inb_S2048x256_S512x256_1024_0, k0_pay7 (View.ld x1 (Rect.unit ![0, 0] ![256, 1024] inb_S256x1024_S256x1024_0_0))
          (View.ld x0 (Rect.unit ![1024, 0] ![512, 1024] inb_S2048x1024_S512x1024_1024_0))⟩,
        ⟨Rect.unit ![512, 0] ![512, 256] inb_S2048x256_S512x256_512_0, k0_pay6 (View.ld x1 (Rect.unit ![0, 0] ![256, 1024] inb_S256x1024_S256x1024_0_0))
          (View.ld x0 (Rect.unit ![512, 0] ![512, 1024] inb_S2048x1024_S512x1024_512_0))⟩,
        ⟨Rect.unit ![0, 0] ![512, 256] inb_S2048x256_S512x256_0_0, k0_pay5 (View.ld x1 (Rect.unit ![0, 0] ![256, 1024] inb_S256x1024_S256x1024_0_0))
          (View.ld x0 (Rect.unit ![0, 0] ![512, 1024] inb_S2048x1024_S512x1024_0_0))⟩] y
      = cols x0 x1 y := by
  refine View.canon_apply_of_pieces (Val := Elt Ideal) (S := S2048x256) (e := .f32) (cols x0 x1) _ ?_ y ?_
  case refine_2 => exact View.cover_of_tiled_head _ _ _ rfl _
  intro p hp x
  simp only [List.mem_cons, List.not_mem_nil, or_false] at hp
  rcases hp with rfl | rfl | rfl | rfl
  all_goals
    refine (pay _ _ x).trans (Finset.sum_congr rfl fun k _ => ?_)
    refine congrArg₂ (· * ·) (congrArg x0 (?_ : Rect.emb _ _ = _)) (congrArg x1 (?_ : Rect.emb _ _ = _))
    · blk_ext []
    · blk_ext []

/-- Four chunks of rows, copied. -/
theorem copied (x0 : Vec Ideal S2048x1024 .f32) :
    View.canon (Val := Elt Ideal) (s := S2048x1024) (e := .bf16)
      [⟨Rect.unit ![1536, 0] S512x1024.size inb_S2048x1024_S512x1024_1536_0, k0_pay4 (View.ld x0 (Rect.unit ![1536, 0] S512x1024.size inb_S2048x1024_S512x1024_1536_0))⟩,
        ⟨Rect.unit ![1024, 0] S512x1024.size inb_S2048x1024_S512x1024_1024_0, k0_pay3 (View.ld x0 (Rect.unit ![1024, 0] S512x1024.size inb_S2048x1024_S512x1024_1024_0))⟩,
        ⟨Rect.unit ![512, 0] S512x1024.size inb_S2048x1024_S512x1024_512_0, k0_pay2 (View.ld x0 (Rect.unit ![512, 0] S512x1024.size inb_S2048x1024_S512x1024_512_0))⟩,
        ⟨Rect.unit ![0, 0] S512x1024.size inb_S2048x1024_S512x1024_0_0, k0_pay1 (View.ld x0 (Rect.unit ![0, 0] S512x1024.size inb_S2048x1024_S512x1024_0_0))⟩]
      = x0 := by
  funext y
  refine View.canon_apply_of_pieces (Val := Elt Ideal) (S := S2048x1024) (e := .bf16) x0 _ ?_ y ?_
  case refine_2 => exact View.cover_of_tiled_head _ _ _ rfl _
  intro p hp x
  simp only [List.mem_cons, List.not_mem_nil, or_false] at hp
  rcases hp with rfl | rfl | rfl | rfl
  all_goals exact narrow _ x

/-- What is read of the copy is what was copied. -/
theorem cov (arg4 : Memref sig .tc .vmem S2048x1024 .bf16) (x0 : Vec Ideal S2048x1024 .f32) (r : Rect S2048x1024) :
    arg4.view.readCov (Val := Elt Ideal)
      [⟨Rect.unit ![1536, 0] ![512, 1024] inb_S2048x1024_S512x1024_1536_0, k0_pay4 (View.ld x0 (Rect.unit ![1536, 0] ![512, 1024] inb_S2048x1024_S512x1024_1536_0))⟩,
        ⟨Rect.unit ![1024, 0] ![512, 1024] inb_S2048x1024_S512x1024_1024_0, k0_pay3 (View.ld x0 (Rect.unit ![1024, 0] ![512, 1024] inb_S2048x1024_S512x1024_1024_0))⟩,
        ⟨Rect.unit ![512, 0] ![512, 1024] inb_S2048x1024_S512x1024_512_0, k0_pay2 (View.ld x0 (Rect.unit ![512, 0] ![512, 1024] inb_S2048x1024_S512x1024_512_0))⟩,
        ⟨Rect.unit ![0, 0] ![512, 1024] inb_S2048x1024_S512x1024_0_0, k0_pay1 (View.ld x0 (Rect.unit ![0, 0] ![512, 1024] inb_S2048x1024_S512x1024_0_0))⟩] r.toLoadRect
      = View.ld (Val := Elt Ideal) (e' := .bf16) x0 r := by
  rw [View.readCov_eq_canon', copied]

section
variable (c : Dev nD) (i : grid0.Coords) (arg1 : Memref sig .tc .vmem S2048x1024 .f32) (harg1 : arg1.IsWhole)
  (arg2 : Memref sig .tc .vmem S256x1024 .bf16) (harg2 : arg2.IsWhole) (arg3 : Memref sig .tc .vmem S2048x256 .f32)
  (harg3 : arg3.IsWhole) (arg4 : Memref sig .tc .vmem S2048x1024 .bf16) (harg4 : arg4.IsWhole)
  (x0 : Vec Ideal S2048x1024 .f32) (x1 : Vec Ideal S256x1024 .bf16) (xs0 : Vec Ideal S2048x1024 .bf16)

theorem outB (hc0 : ¬cond0_0 i) :
    out0_B_2 c i arg1 harg1 arg2 harg2 arg3 harg3 arg4 harg4 hc0 x0 x1 xs0 = cols xs0 x1 := by
  funext y
  unfold out0_B_2
  rw [View.read_writes_junk_eq_canon VO0_2]
  unfold kernelRun0_B; dsimp only; sl_unfold_words
  simp only [View.readAt_eq_ld, harg2.read_unread, harg4.read_unread]
  exact chunks xs0 x1 y

theorem outA (hc0 : cond0_0 i) :
    out0_A_2 c i arg1 harg1 arg2 harg2 arg3 harg3 arg4 harg4 hc0 x0 x1 = cols x0 x1 := by
  funext y
  unfold out0_A_2
  rw [View.read_writes_junk_eq_canon VO0_2]
  unfold kernelRun0_A; dsimp only; sl_unfold_words
  simp only [View.readAt_eq_ld, harg1.read_unread, harg2.read_unread, cov]
  exact chunks x0 x1 y

theorem soutA (hc0 : cond0_0 i) :
    sout0_A_0 c i arg1 harg1 arg2 harg2 arg3 harg3 arg4 harg4 hc0 x0 x1 = x0 := by
  unfold sout0_A_0
  rw [View.read_writes_junk_eq_canon VS0_0]
  unfold kernelRun0_A; dsimp only; sl_unfold_words
  simp only [View.readAt_eq_ld, harg1.read_unread]
  exact copied x0
end

theorem idx : ∀ t : Fin cfg0.N, win0_0.index t = ![0, 0] ∧ win0_1.index t = ![t.val, 0] ∧ win0_2.index t = ![0, t.val] := by
  decide +kernel

variable (m : (ℓ : Loc nD τ sig) → Buf (Elt Ideal) ℓ) (c : Dev nD)

/-- The residual gradient's block is all of it. -/
theorem whole (t : Fin cfg0.N) : (iblk m c 0 t : Vec Ideal S2048x1024 .f32) = (m ((c.tc : Thread nD τ).loc main_arg1) : FVec Ideal S2048x1024 .f32) := by
  funext y
  obtain ⟨h0, -, -⟩ := idx t
  blk_ext [iblk, h0]

/-- The copy after any point. -/
theorem held : ∀ (n : ℕ) (hn : n < cfg0.N), (outsAt0 m c n hn).2 = (m ((c.tc : Thread nD τ).loc main_arg1) : FVec Ideal S2048x1024 .f32)
  | 0, hn => by
    rw [outsAt0_A m c ⟨0, hn⟩ rfl]
    dsimp only
    rw [soutA]
    exact whole m c _
  | n + 1, hn => by
    have hN : cfg0.N = 11 := N_0
    rw [outsAt0_B m c ⟨n + 1, hn⟩ (by dsimp only; omega)]
    exact held n (Nat.lt_of_succ_lt hn)

/-- What a point leaves, over the residual gradient. -/
theorem point (t : Fin cfg0.N) : (outsAt0 m c t.val t.isLt).1 = cols (m ((c.tc : Thread nD τ).loc main_arg1)) (iblk m c 1 t) := by
  by_cases h : t.val % 11 = 0
  · rw [outsAt0_A m c t h]
    dsimp only
    rw [outA, whole]
  · rw [outsAt0_B m c t h]
    dsimp only
    rw [outB, held]

theorem arr : ((dats m 0 c).arrAt 2 cfg0.N : FVec Ideal S2048x2816 .f32)
    = Cert.Ffn.dact (m ((c.tc : Thread nD τ).loc main_arg1)) (m ((c.tc : Thread nD τ).loc main_arg0)) := by
  refine (dats m 0 c).arrAt_eq_of_covers 2 _ (by decide +kernel) fun t hf y => ?_
  obtain ⟨h0, h1, h2⟩ := idx t
  show (dats m 0 c).after 2 t y = _
  rw [after0_2]
  refine (congrFun (point m c t) y).trans (Finset.sum_congr rfl fun k _ => congrArg₂ (· * ·) ?_ ?_)
  · blk_ext [h2]
  · blk_ext [iblk, h1, h2]

end Cert.Kernel2Ideal.Ffn

namespace Cert.Ffn

open Idealize.ShloMosaic Idealize.ShloMosaic.TcCoe Idealize.ShloMosaic.Tactic Idealize.SL.Sem

open Cert.Reference2Ideal Cert.Reference2Ideal.Gen Cert.Reference2Ideal.Read in
theorem ref2 (w : FVec Ideal S2816x1024 .bf16) (g : FVec Ideal S2048x1024 .f32) : val_main_v3 (F := Ideal) w g = dact g w := by
  funext y
  rw [val_main_v3_apply]
  refine Finset.sum_congr rfl fun k _ => congrArg₂ (· * ·) (congrArg g ?_) ?_
  · blk_ext [lidx_main_v3]
  · rw [val_main_v1_apply]
    exact congrArg w (by blk_ext [ridx_main_v3])

theorem agree2 : Cert.algebraic_Kernel2Ideal_Reference2Ideal (hKernel2Ideal := Cert.Kernel2Ideal.Gen.facts)
    (hReference2Ideal := Cert.Reference2Ideal.Gen.facts) := by
  intro m g m' g' _ hag
  refine ⟨fun c => dact (m ((c.tc : Thread _ _).loc Cert.Kernel2Ideal.main_arg1)) (m ((c.tc : Thread _ _).loc Cert.Kernel2Ideal.main_arg0)), ?_, ?_⟩
  · refine (θ_run Cert.Kernel2Ideal.defs _ _).mono (fun r h c => ?_) (Cert.Kernel2Ideal.Value.run_blocks m g)
    exact ⟨(h c).1.trans (Cert.Kernel2Ideal.Ffn.arr m c), (h c).2⟩
  · refine (θ_run Cert.Reference2Ideal.defs _ _).mono (fun r h c => ?_) (Cert.Reference2Ideal.Value.run (F := Ideal) m' g')
    obtain ⟨a0, a1⟩ := hag c
    obtain ⟨r0, hargs⟩ := h c
    rw [Cert.Reference2Ideal.Read.val_main_v3_eq, ref2, a0, a1] at r0
    exact ⟨r0, hargs⟩

end Cert.Ffn

end
-- ==== Proof.DWDown.lean ====
/- The gradient of the down projection's weights: each point's columns of the activations, transposed, against the residual
   gradient kept as a narrow copy, the rows summed in four chunks. -/
module

public import proofs.«01_k».proof.Proof.Gen.Kernel3Ideal.Value
public import proofs.«01_k».proof.Proof.Gen.Reference3Ideal.Read
public import proofs.«01_k».proof.Defs
public import Idealize.ShloMosaic.Lib.Claim
public import Idealize.ShloMosaic.Lib.Pipeline.ValueKit

@[expose] public section

set_option maxRecDepth 16384

noncomputable section

namespace Cert.Ffn

open Idealize.ShloMosaic Idealize.ShloMosaic.Tactic

/-- The activations transposed, times the residual gradient. -/
def dwdown (a : FVec Ideal ⟨2, ![2048, 2816]⟩ .bf16) (g : FVec Ideal ⟨2, ![2048, 1024]⟩ .f32) : FVec Ideal ⟨2, ![2816, 1024]⟩ .bf16 :=
  fun y => ∑ k : Fin 2048, g (ix2 k (y 1)) * a (ix2 k (y 0))

/-- A sum over the rows is the sum of four chunks'. -/
theorem rows4 (f : Fin 2048 → EReal) : ∑ k, f k = (((∑ k : Fin 512, f ⟨k.val, by omega⟩) + ∑ k : Fin 512, f ⟨512 + k.val, by omega⟩)
    + ∑ k : Fin 512, f ⟨1024 + k.val, by omega⟩) + ∑ k : Fin 512, f ⟨1536 + k.val, by omega⟩ := by
  refine (Fin.sum_univ_add (a := 1536) (b := 512) f).trans (congrArg₂ (· + ·) ?_ rfl)
  refine (Fin.sum_univ_add (a := 1024) (b := 512) _).trans (congrArg₂ (· + ·) ?_ rfl)
  exact Fin.sum_univ_add (a := 512) (b := 512) _

end Cert.Ffn

namespace Cert.Kernel3Ideal.Ffn

open Idealize.ShloMosaic Idealize.ShloMosaic.TcCoe Idealize.ShloMosaic.Tactic Cert.Kernel3Ideal Cert.Kernel3Ideal.Gen

theorem first (a : Vec Ideal S512x256 .bf16) (h : Vec Ideal S512x1024 .bf16) (x : S256x1024.Idx) :
    k0_pay8 a h x = ∑ k : Fin 512, a (ix2 k (x 0)) * h (ix2 k (x 1)) := by
  obtain ⟨i, j, rfl⟩ : ∃ (i : Fin 256) (j : Fin 1024), x = ix2 i j := ⟨x 0, x 1, funext fun a => by match a with | 0 => rfl | 1 => rfl⟩
  pointwise [k0_pay8]

theorem next (a : Vec Ideal S512x256 .bf16) (h : Vec Ideal S512x1024 .bf16) (s : Vec Ideal S256x1024 .f32) (x : S256x1024.Idx) :
    k0_pay9 a h s x = s x + ∑ k : Fin 512, a (ix2 k (x 0)) * h (ix2 k (x 1)) := by
  obtain ⟨i, j, rfl⟩ : ∃ (i : Fin 256) (j : Fin 1024), x = ix2 i j := ⟨x 0, x 1, funext fun a => by match a with | 0 => rfl | 1 => rfl⟩
  pointwise [k0_pay9]

theorem third (a : Vec Ideal S512x256 .bf16) (h : Vec Ideal S512x1024 .bf16) (s : Vec Ideal S256x1024 .f32) (x : S256x1024.Idx) :
    k0_pay1 (k0_pay10 a h s) x = s x + ∑ k : Fin 512, a (ix2 k (x 0)) * h (ix2 k (x 1)) := by
  obtain ⟨i, j, rfl⟩ : ∃ (i : Fin 256) (j : Fin 1024), x = ix2 i j := ⟨x 0, x 1, funext fun a => by match a with | 0 => rfl | 1 => rfl⟩
  pointwise [k0_pay1, k0_pay10]

theorem narrow (v : Vec Ideal S512x1024 .f32) (x : S512x1024.Idx) : k0_pay4 v x = v x := by
  obtain ⟨i, j, rfl⟩ : ∃ (i : Fin 512) (j : Fin 1024), x = ix2 i j := ⟨x 0, x 1, funext fun a => by match a with | 0 => rfl | 1 => rfl⟩
  pointwise [k0_pay4]

/-- One block of rows of the gradient. -/
def cols (x0 : Vec Ideal S2048x256 .bf16) (h : Vec Ideal S2048x1024 .bf16) : Vec Ideal S256x1024 .bf16 :=
  fun y => ∑ k : Fin 2048, x0 (ix2 k (y 0)) * h (ix2 k (y 1))

/-- The four chunks, accumulated. -/
theorem chunks (x0 : Vec Ideal S2048x256 .bf16) (h : Vec Ideal S2048x1024 .bf16) :
    k0_pay3 (k0_pay2 (View.ld x0 (Rect.unit ![1536, 0] ![512, 256] inb_S2048x256_S512x256_1536_0)) (View.ld h (Rect.unit ![1536, 0] ![512, 1024] inb_S2048x1024_S512x1024_1536_0))
      (k0_pay1 (k0_pay10 (View.ld x0 (Rect.unit ![1024, 0] ![512, 256] inb_S2048x256_S512x256_1024_0)) (View.ld h (Rect.unit ![1024, 0] ![512, 1024] inb_S2048x1024_S512x1024_1024_0))
        (k0_pay9 (View.ld x0 (Rect.unit ![512, 0] ![512, 256] inb_S2048x256_S512x256_512_0)) (View.ld h (Rect.unit ![512, 0] ![512, 1024] inb_S2048x1024_S512x1024_512_0))
          (k0_pay8 (View.ld x0 (Rect.unit ![0, 0] ![512, 256] inb_S2048x256_S512x256_0_0)) (View.ld h (Rect.unit ![0, 0] ![512, 1024] inb_S2048x1024_S512x1024_0_0)))))))
      = cols x0 h := by
  funext y
  refine Eq.trans ?_ (Cert.Ffn.rows4 fun k => x0 (ix2 k (y 0)) * h (ix2 k (y 1))).symm
  refine (next _ _ _ y).trans (congrArg₂ (· + ·) ((third _ _ _ y).trans (congrArg₂ (· + ·) ((next _ _ _ y).trans (congrArg₂ (· + ·) (first _ _ y) rfl)) rfl)) rfl) |>.trans ?_
  refine congrArg₂ (· + ·) (congrArg₂ (· + ·) (congrArg₂ (· + ·) ?_ ?_) ?_) ?_
  all_goals
    refine Finset.sum_congr rfl fun k _ => ?_
    refine congrArg₂ (· * ·) (congrArg x0 (?_ : Rect.emb _ _ = _)) (congrArg h (?_ : Rect.emb _ _ = _))
    · blk_ext []
    · blk_ext []

/-- Four chunks of rows, copied. -/
theorem copied (x1 : Vec Ideal S2048x1024 .f32) :
    View.canon (Val := Elt Ideal) (s := S2048x1024) (e := .bf16)
      [⟨Rect.unit ![1536, 0] ![512, 1024] inb_S2048x1024_S512x1024_1536_0, k0_pay7 (View.ld x1 (Rect.unit ![1536, 0] ![512, 1024] inb_S2048x1024_S512x1024_1536_0))⟩,
        ⟨Rect.unit ![1024, 0] ![512, 1024] inb_S2048x1024_S512x1024_1024_0, k0_pay6 (View.ld x1 (Rect.unit ![1024, 0] ![512, 1024] inb_S2048x1024_S512x1024_1024_0))⟩,
        ⟨Rect.unit ![512, 0] ![512, 1024] inb_S2048x1024_S512x1024_512_0, k0_pay5 (View.ld x1 (Rect.unit ![512, 0] ![512, 1024] inb_S2048x1024_S512x1024_512_0))⟩,
        ⟨Rect.unit ![0, 0] ![512, 1024] inb_S2048x1024_S512x1024_0_0, k0_pay4 (View.ld x1 (Rect.unit ![0, 0] ![512, 1024] inb_S2048x1024_S512x1024_0_0))⟩]
      = x1 := by
  funext y
  refine View.canon_apply_of_pieces (Val := Elt Ideal) (S := S2048x1024) (e := .bf16) x1 _ ?_ y ?_
  case refine_2 => exact View.cover_of_tiled_head _ _ _ rfl _
  intro p hp x
  simp only [List.mem_cons, List.not_mem_nil, or_false] at hp
  rcases hp with rfl | rfl | rfl | rfl
  all_goals exact narrow _ x

/-- What is read of the copy is what was copied. -/
theorem cov (arg5 : Memref sig .tc .vmem S2048x1024 .bf16) (x1 : Vec Ideal S2048x1024 .f32) (r : Rect S2048x1024) :
    arg5.view.readCov (Val := Elt Ideal)
      [⟨Rect.unit ![1536, 0] ![512, 1024] inb_S2048x1024_S512x1024_1536_0, k0_pay7 (View.ld x1 (Rect.unit ![1536, 0] ![512, 1024] inb_S2048x1024_S512x1024_1536_0))⟩,
        ⟨Rect.unit ![1024, 0] ![512, 1024] inb_S2048x1024_S512x1024_1024_0, k0_pay6 (View.ld x1 (Rect.unit ![1024, 0] ![512, 1024] inb_S2048x1024_S512x1024_1024_0))⟩,
        ⟨Rect.unit ![512, 0] ![512, 1024] inb_S2048x1024_S512x1024_512_0, k0_pay5 (View.ld x1 (Rect.unit ![512, 0] ![512, 1024] inb_S2048x1024_S512x1024_512_0))⟩,
        ⟨Rect.unit ![0, 0] ![512, 1024] inb_S2048x1024_S512x1024_0_0, k0_pay4 (View.ld x1 (Rect.unit ![0, 0] ![512, 1024] inb_S2048x1024_S512x1024_0_0))⟩] r.toLoadRect
      = View.ld (Val := Elt Ideal) (e' := .bf16) x1 r := by
  rw [View.readCov_eq_canon', copied]

theorem hz : (![0, 0] : Fin 2 → Nat) = fun _ => 0 := funext fun a => by fin_cases a <;> rfl

section
variable (c : Dev nD) (i : grid0.Coords) (arg1 : Memref sig .tc .vmem S2048x256 .bf16) (harg1 : arg1.IsWhole)
  (arg2 : Memref sig .tc .vmem S2048x1024 .f32) (harg2 : arg2.IsWhole) (arg3 : Memref sig .tc .vmem S256x1024 .bf16)
  (harg3 : arg3.IsWhole) (arg4 : Memref sig .tc .vmem S256x1024 .f32) (harg4 : arg4.IsWhole)
  (arg5 : Memref sig .tc .vmem S2048x1024 .bf16) (harg5 : arg5.IsWhole)
  (x0 : Vec Ideal S2048x256 .bf16) (x1 : Vec Ideal S2048x1024 .f32) (xs1 : Vec Ideal S2048x1024 .bf16)

theorem outB (hc0 : ¬cond0_0 i) :
    out0_B_2 c i arg1 harg1 arg2 harg2 arg3 harg3 arg4 harg4 arg5 harg5 hc0 x0 x1 xs1 = cols x0 xs1 := by
  unfold out0_B_2
  rw [View.read_writes_junk_eq_canon VO0_2]
  unfold kernelRun0_B; dsimp only; sl_unfold_words
  simp only [View.readAt_eq_ld, harg1.read_unread, harg5.read_unread, View.readCov_cons_toLoadRect]
  rw [View.canon_unit_zero hz]
  exact chunks x0 xs1

theorem outA (hc0 : cond0_0 i) :
    out0_A_2 c i arg1 harg1 arg2 harg2 arg3 harg3 arg4 harg4 arg5 harg5 hc0 x0 x1 = cols x0 x1 := by
  unfold out0_A_2
  rw [View.read_writes_junk_eq_canon VO0_2]
  unfold kernelRun0_A; dsimp only; sl_unfold_words
  simp only [View.readAt_eq_ld, harg1.read_unread, harg2.read_unread, cov]
  simp only [View.readCov_cons_toLoadRect]
  rw [View.canon_unit_zero hz]
  exact chunks x0 x1

theorem soutA (hc0 : cond0_0 i) :
    sout0_A_1 c i arg1 harg1 arg2 harg2 arg3 harg3 arg4 harg4 arg5 harg5 hc0 x0 x1 = x1 := by
  unfold sout0_A_1
  rw [View.read_writes_junk_eq_canon VS0_1]
  unfold kernelRun0_A; dsimp only; sl_unfold_words
  simp only [View.readAt_eq_ld, harg2.read_unread]
  exact copied x1
end

theorem idx : ∀ t : Fin cfg0.N, win0_0.index t = ![0, t.val] ∧ win0_1.index t = ![0, 0] ∧ win0_2.index t = ![t.val, 0] := by
  decide +kernel

variable (m : (ℓ : Loc nD τ sig) → Buf (Elt Ideal) ℓ) (c : Dev nD)

/-- The residual gradient's block is all of it. -/
theorem whole (t : Fin cfg0.N) : (iblk m c 1 t : Vec Ideal S2048x1024 .f32) = (m ((c.tc : Thread nD τ).loc main_arg1) : FVec Ideal S2048x1024 .f32) := by
  funext y
  obtain ⟨-, h1, -⟩ := idx t
  blk_ext [iblk, h1]

/-- The copy after any point. -/
theorem held : ∀ (n : ℕ) (hn : n < cfg0.N), (outsAt0 m c n hn).2 = (m ((c.tc : Thread nD τ).loc main_arg1) : FVec Ideal S2048x1024 .f32)
  | 0, hn => by
    rw [outsAt0_A m c ⟨0, hn⟩ rfl]
    dsimp only
    rw [soutA]
    exact whole m c _
  | n + 1, hn => by
    have hN : cfg0.N = 11 := N_0
    rw [outsAt0_B m c ⟨n + 1, hn⟩ (by dsimp only; omega)]
    exact held n (Nat.lt_of_succ_lt hn)

/-- What a point leaves, over the residual gradient. -/
theorem point (t : Fin cfg0.N) : (outsAt0 m c t.val t.isLt).1 = cols (iblk m c 0 t) (m ((c.tc : Thread nD τ).loc main_arg1)) := by
  by_cases h : t.val % 11 = 0
  · rw [outsAt0_A m c t h]
    dsimp only
    rw [outA, whole]
  · rw [outsAt0_B m c t h]
    dsimp only
    rw [outB, held]

theorem arr : ((dats m 0 c).arrAt 2 cfg0.N : FVec Ideal S2816x1024 .bf16)
    = Cert.Ffn.dwdown (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  refine (congrFun (point m c t) y).trans (Finset.sum_congr rfl fun k _ => (mul_comm _ _).trans (congrArg₂ (· * ·) ?_ ?_))
  · blk_ext [h2]
  · blk_ext [iblk, h0, h2]

end Cert.Kernel3Ideal.Ffn

namespace Cert.Ffn

open Idealize.ShloMosaic Idealize.ShloMosaic.TcCoe Idealize.ShloMosaic.Tactic Idealize.SL.Sem

open Cert.Reference3Ideal Cert.Reference3Ideal.Gen Cert.Reference3Ideal.Read in
theorem ref3 (a : FVec Ideal S2048x2816 .bf16) (g : FVec Ideal S2048x1024 .f32) : val_main_v5 (F := Ideal) a g = dwdown a g := by
  funext y
  rw [val_main_v5_apply, val_main_v4_apply, val_main_v3_apply]
  refine Finset.sum_congr rfl fun k _ => congrArg₂ (· * ·) (congrArg g ?_) ?_
  · blk_ext [lidx_main_v3, idx_main_v4]
  · rw [val_main_v1_apply]
    exact congrArg a (by blk_ext [ridx_main_v3, idx_main_v4])

theorem agree3 : Cert.algebraic_Kernel3Ideal_Reference3Ideal (hKernel3Ideal := Cert.Kernel3Ideal.Gen.facts)
    (hReference3Ideal := Cert.Reference3Ideal.Gen.facts) := by
  intro m g m' g' _ hag
  refine ⟨fun c => dwdown (m ((c.tc : Thread _ _).loc Cert.Kernel3Ideal.main_arg0)) (m ((c.tc : Thread _ _).loc Cert.Kernel3Ideal.main_arg1)), ?_, ?_⟩
  · refine (θ_run Cert.Kernel3Ideal.defs _ _).mono (fun r h c => ?_) (Cert.Kernel3Ideal.Value.run_blocks m g)
    exact ⟨(h c).1.trans (Cert.Kernel3Ideal.Ffn.arr m c), (h c).2⟩
  · refine (θ_run Cert.Reference3Ideal.defs _ _).mono (fun r h c => ?_) (Cert.Reference3Ideal.Value.run (F := Ideal) m' g')
    obtain ⟨a0, a1⟩ := hag c
    obtain ⟨r0, hargs⟩ := h c
    rw [Cert.Reference3Ideal.Read.val_main_v5_eq, ref3, a0, a1] at r0
    exact ⟨r0, hargs⟩

end Cert.Ffn

end
-- ==== Proof.DWUp.lean ====
/- The gradient of the up projection's weights, one call for each half's rows: each point's columns of a half's gradient,
   transposed, against the normed input, the rows summed in four chunks. The second call writes over a copy of the first's result. -/
module

public import proofs.«01_k».proof.Proof.Gen.Kernel5Ideal.Frame
public import proofs.«01_k».proof.Proof.Gen.Reference5Ideal.Read
public import proofs.«01_k».proof.Proof.DWDown

@[expose] public section

set_option maxRecDepth 16384

noncomputable section

namespace Cert.Ffn

open Idealize.ShloMosaic Idealize.ShloMosaic.Tactic

/-- Each half's gradient transposed, times the normed input, one above the other. -/
def dwup (g v : FVec Ideal ⟨2, ![2048, 2816]⟩ .bf16) (h : FVec Ideal ⟨2, ![2048, 1024]⟩ .bf16) : FVec Ideal ⟨2, ![5632, 1024]⟩ .bf16 :=
  fun y => if hy : (y 0).val < 2816 then ∑ k : Fin 2048, g (ix2 k ⟨(y 0).val, hy⟩) * h (ix2 k (y 1))
    else ∑ k : Fin 2048, v (ix2 k ⟨(y 0).val - 2816, by have : (y 0).val < 5632 := (y 0).isLt; omega⟩) * h (ix2 k (y 1))

variable (g v : FVec Ideal ⟨2, ![2048, 2816]⟩ .bf16) (h : FVec Ideal ⟨2, ![2048, 1024]⟩ .bf16)

theorem dwup_low (r : Fin 5632) (j : Fin 1024) (q : Fin 2816) (hq : r.val = q.val) :
    dwup g v h (ix2 r j) = ∑ k : Fin 2048, g (ix2 k q) * h (ix2 k j) := by
  obtain ⟨r, hr⟩ := r
  obtain ⟨q, hq'⟩ := q
  obtain rfl : r = q := hq
  exact dif_pos hq'

theorem dwup_high (r : Fin 5632) (j : Fin 1024) (q : Fin 2816) (hq : r.val = 2816 + q.val) :
    dwup g v h (ix2 r j) = ∑ k : Fin 2048, v (ix2 k q) * h (ix2 k j) := by
  obtain ⟨r, hr⟩ := r
  obtain rfl : r = 2816 + q.val := hq
  refine (dif_neg (by show ¬ (2816 + q.val < 2816); omega)).trans (Finset.sum_congr rfl fun k _ => ?_)
  exact congrArg₂ (· * ·) (congrArg (fun q => v (ix2 k q)) (Fin.ext (Nat.add_sub_cancel_left 2816 q.val))) rfl

end Cert.Ffn

namespace Cert.Kernel5Ideal.Ffn

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe Idealize.ShloMosaic.Tactic Cert.Kernel5Ideal Cert.Kernel5Ideal.Gen
open Idealize.ShloMosaic.Rounds

theorem first (a : Vec Ideal S512x256 .bf16) (h : Vec Ideal S512x1024 .bf16) (x : S256x1024.Idx) :
    k0_pay3 a h x = ∑ k : Fin 512, a (ix2 k (x 0)) * h (ix2 k (x 1)) := by
  obtain ⟨i, j, rfl⟩ : ∃ (i : Fin 256) (j : Fin 1024), x = ix2 i j := ⟨x 0, x 1, funext fun a => by match a with | 0 => rfl | 1 => rfl⟩
  pointwise [k0_pay3]

theorem next (a : Vec Ideal S512x256 .bf16) (h : Vec Ideal S512x1024 .bf16) (s : Vec Ideal S256x1024 .f32) (x : S256x1024.Idx) :
    k0_pay4 a h s x = s x + ∑ k : Fin 512, a (ix2 k (x 0)) * h (ix2 k (x 1)) := by
  obtain ⟨i, j, rfl⟩ : ∃ (i : Fin 256) (j : Fin 1024), x = ix2 i j := ⟨x 0, x 1, funext fun a => by match a with | 0 => rfl | 1 => rfl⟩
  pointwise [k0_pay4]

/-- One block of rows of the gradient. -/
def cols (x0 : Vec Ideal S2048x256 .bf16) (h : Vec Ideal S2048x1024 .bf16) : Vec Ideal S256x1024 .bf16 :=
  fun y => ∑ k : Fin 2048, x0 (ix2 k (y 0)) * h (ix2 k (y 1))

/-- The four chunks, accumulated. -/
theorem chunks (x0 : Vec Ideal S2048x256 .bf16) (h : Vec Ideal S2048x1024 .bf16) :
    k0_pay2 (k0_pay1 (View.ld x0 (Rect.unit ![1536, 0] ![512, 256] inb_S2048x256_S512x256_1536_0)) (View.ld h (Rect.unit ![1536, 0] ![512, 1024] inb_S2048x1024_S512x1024_1536_0))
      (k0_pay5 (View.ld x0 (Rect.unit ![1024, 0] ![512, 256] inb_S2048x256_S512x256_1024_0)) (View.ld h (Rect.unit ![1024, 0] ![512, 1024] inb_S2048x1024_S512x1024_1024_0))
        (k0_pay4 (View.ld x0 (Rect.unit ![512, 0] ![512, 256] inb_S2048x256_S512x256_512_0)) (View.ld h (Rect.unit ![512, 0] ![512, 1024] inb_S2048x1024_S512x1024_512_0))
          (k0_pay3 (View.ld x0 (Rect.unit ![0, 0] ![512, 256] inb_S2048x256_S512x256_0_0)) (View.ld h (Rect.unit ![0, 0] ![512, 1024] inb_S2048x1024_S512x1024_0_0))))))
      = cols x0 h := by
  funext y
  refine Eq.trans ?_ (Cert.Ffn.rows4 fun k => x0 (ix2 k (y 0)) * h (ix2 k (y 1))).symm
  refine (next _ _ _ y).trans (congrArg₂ (· + ·) ((next _ _ _ y).trans (congrArg₂ (· + ·) ((next _ _ _ y).trans (congrArg₂ (· + ·) (first _ _ y) rfl)) rfl)) rfl) |>.trans ?_
  refine congrArg₂ (· + ·) (congrArg₂ (· + ·) (congrArg₂ (· + ·) ?_ ?_) ?_) ?_
  all_goals
    refine Finset.sum_congr rfl fun k _ => ?_
    refine congrArg₂ (· * ·) (congrArg x0 (?_ : Rect.emb _ _ = _)) (congrArg h (?_ : Rect.emb _ _ = _))
    · blk_ext []
    · blk_ext []

/-- A block's columns are the first half's rows of the gradient where its operands are the arrays' elements, -/
theorem cols_low {x0 : Vec Ideal S2048x256 .bf16} {x1 : Vec Ideal S2048x1024 .bf16} {g v : FVec Ideal S2048x2816 .bf16}
    {h : FVec Ideal S2048x1024 .bf16} (y : S256x1024.Idx) (r : Fin 5632) (q : Fin 2816) (hq : r.val = q.val)
    (e0 : ∀ k, x0 (ix2 k (y 0)) = g (ix2 k q)) (e1 : ∀ k, x1 (ix2 k (y 1)) = h (ix2 k (y 1))) :
    cols x0 x1 y = Cert.Ffn.dwup g v h (ix2 r (y 1)) :=
  (Finset.sum_congr rfl fun k _ => congrArg₂ (· * ·) (e0 k) (e1 k)).trans (Cert.Ffn.dwup_low g v h r (y 1) q hq).symm

/-- or the second half's. -/
theorem cols_high {x0 : Vec Ideal S2048x256 .bf16} {x1 : Vec Ideal S2048x1024 .bf16} {g v : FVec Ideal S2048x2816 .bf16}
    {h : FVec Ideal S2048x1024 .bf16} (y : S256x1024.Idx) (r : Fin 5632) (q : Fin 2816) (hq : r.val = 2816 + q.val)
    (e0 : ∀ k, x0 (ix2 k (y 0)) = v (ix2 k q)) (e1 : ∀ k, x1 (ix2 k (y 1)) = h (ix2 k (y 1))) :
    cols x0 x1 y = Cert.Ffn.dwup g v h (ix2 r (y 1)) :=
  (Finset.sum_congr rfl fun k _ => congrArg₂ (· * ·) (e0 k) (e1 k)).trans (Cert.Ffn.dwup_high g v h r (y 1) q hq).symm

theorem hz : (![0, 0] : Fin 2 → Nat) = fun _ => 0 := funext fun a => by fin_cases a <;> rfl

/-- What a point of the first call leaves. -/
theorem out0 (c : Dev nD) (i : grid0.Coords) (arg1 : Memref sig .tc .vmem S2048x256 .bf16) (harg1 : arg1.IsWhole)
    (arg2 : Memref sig .tc .vmem S2048x1024 .bf16) (harg2 : arg2.IsWhole) (arg3 : Memref sig .tc .vmem S256x1024 .bf16) (harg3 : arg3.IsWhole)
    (arg4 : Memref sig .tc .vmem S256x1024 .f32) (harg4 : arg4.IsWhole) (x0 : Vec Ideal S2048x256 .bf16) (x1 : Vec Ideal S2048x1024 .bf16) :
    out0_A_2 c i arg1 harg1 arg2 harg2 arg3 harg3 arg4 harg4 x0 x1 = cols x0 x1 := by
  unfold out0_A_2
  rw [View.read_writes_junk_eq_canon VO0_2]
  unfold kernelRun0_A; dsimp only; sl_unfold_words
  simp only [View.readAt_eq_ld, harg1.read_unread, harg2.read_unread, View.readCov_cons_toLoadRect]
  rw [View.canon_unit_zero hz]
  exact chunks x0 x1

/-- What a point of the second leaves. -/
theorem out1 (c : Dev nD) (i : grid1.Coords) (arg1 : Memref sig .tc .vmem S2048x256 .bf16) (harg1 : arg1.IsWhole)
    (arg2 : Memref sig .tc .vmem S2048x1024 .bf16) (harg2 : arg2.IsWhole) (arg4 : Memref sig .tc .vmem S256x1024 .bf16) (harg4 : arg4.IsWhole)
    (arg5 : Memref sig .tc .vmem S256x1024 .f32) (harg5 : arg5.IsWhole) (x0 : Vec Ideal S2048x256 .bf16) (x1 : Vec Ideal S2048x1024 .bf16) :
    out1_A_2 c i arg1 harg1 arg2 harg2 arg4 harg4 arg5 harg5 x0 x1 = cols x0 x1 := by
  unfold out1_A_2
  rw [View.read_writes_junk_eq_canon VO1_2]
  unfold kernelRun1_A; dsimp only; sl_unfold_words
  simp only [View.readAt_eq_ld, harg1.read_unread, harg2.read_unread, View.readCov_cons_toLoadRect]
  rw [View.canon_unit_zero hz]
  exact chunks x0 x1

theorem idx0 : ∀ t : Fin cfg0.N, win0_0.index t = ![0, t.val] ∧ win0_1.index t = ![0, 0] ∧ win0_2.index t = ![t.val, 0] := by
  decide +kernel
theorem idx1 : ∀ t : Fin cfg1.N, win1_0.index t = ![0, t.val] ∧ win1_1.index t = ![0, 0] ∧ win1_2.index t = ![11 + t.val, 0] := by
  decide +kernel

local notation "𝕄" => MT nD τ sig Unit (Elt Ideal) ℕ (UR sig nD τ) ℕ

variable (m : (ℓ : Loc nD τ sig) → Buf (Elt Ideal) ℓ) (ρ : Dev nD → PrngReg) (c : Dev nD)

/-- The gradient of a device's arguments. -/
abbrev spec : FVec Ideal S5632x1024 .bf16 :=
  Cert.Ffn.dwup (m ((c.tc : Thread nD τ).loc main_arg0)) (m ((c.tc : Thread nD τ).loc main_arg1)) (m ((c.tc : Thread nD τ).loc main_arg2))

/-- The first call's rows. -/
theorem low (i : S5632x1024.Idx) (hi : (i 0).val < 2816) :
    ((dat0 (V0 m ρ) c).arrAt 2 cfg0.N : FVec Ideal S5632x1024 .bf16) i = spec m c i := by
  refine ((dat0 (V0 m ρ) c).arrAt_apply_of_coversWhere 2 (spec m c) (P := fun i => (i 0 : ℕ) / 256 < 11)
    (fun β => β (0 : Fin 2) < 11) (by decide +kernel) (fun t hf y => ?_) (fun j => Iff.rfl) i).trans (if_pos (by omega))
  obtain ⟨h0, h1, h2⟩ := idx0 t
  show (dat0 (V0 m ρ) c).after 2 t y = _
  rw [after0_2]
  unfold outsAt0
  rw [out0]
  have ht : t.val < 11 := lt_of_lt_of_eq t.isLt N_0
  have hy : (y 0).val < 256 := (y 0).isLt
  refine Eq.trans ?_ (congrArg (spec m c) (?_ : ix2 (⟨t.val * 256 + (y 0).val, by omega⟩ : Fin 5632) (y 1) = _))
  · refine cols_low y _ ⟨t.val * 256 + (y 0).val, by omega⟩ rfl (fun k => ?_) (fun k => ?_)
    · blk_ext [iblk0, h0]
    · blk_ext [iblk0, h1]
  · blk_ext [h2]

theorem arr : ((dat1 (V2 m ρ) c).arrAt 2 cfg1.N : FVec Ideal S5632x1024 .bf16) = spec m c := by
  refine (dat1 (V2 m ρ) c).arrAt_eq_of_coversWhere_of_agree 2 (spec m c)
    (fun β => 11 ≤ β (0 : Fin 2)) (by decide +kernel) (fun t hf y => ?_) (fun j hj => ?_)
  · obtain ⟨h0, h1, h2⟩ := idx1 t
    show (dat1 (V2 m ρ) c).after 2 t y = _
    rw [after1_2]
    unfold outsAt1
    rw [out1]
    have ht : t.val < 11 := lt_of_lt_of_eq t.isLt N_1
    have hy : (y 0).val < 256 := (y 0).isLt
    refine Eq.trans ?_ (congrArg (spec m c) (?_ : ix2 (⟨(11 + t.val) * 256 + (y 0).val, by omega⟩ : Fin 5632) (y 1) = _))
    · refine cols_high y _ ⟨t.val * 256 + (y 0).val, by omega⟩ (by dsimp only; omega) (fun k => ?_) (fun k => ?_)
      · blk_ext [iblk1, h0]
      · refine (congrFun (W2_args m ρ c main_arg2 (by decide)) ((win1_1.blk t).view.emb (ix2 k (y 1)))).trans ?_
        blk_ext [h1]
    · blk_ext [h2]
  · rw [A_eq1]
    have hj' : (j 0).val < 2816 := by
      have : ¬ 11 ≤ (j 0).val / 256 := hj
      omega
    refine Eq.trans ?_ (low m ρ c j hj')
    show StableHlo.after hostOps1 (W1 m ρ c) (Proc.devRef .tc main_v1) j = _
    rw [show StableHlo.after hostOps1 (W1 m ρ c) (Proc.devRef .tc main_v1) = W1 m ρ c (Proc.devRef .tc main_v0) by after_results; rfl]
    exact congrFun (W1_arr m ρ c 2) j

set_option backward.isDefEq.respectTransparency.types false in
/-- The launch of the two calls, with the result read at the end. -/
theorem run : θ_run defs (onTc (τ := τ) (main (F := Ideal))) ⟨m, fun _ => 0, ρ⟩ (fun r => ∀ c : Dev nD,
      r.2.mem ((c.tc : Thread nD τ).loc main_v1) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v1 (by decide))).trans ((W3_arr m ρ c 2).trans (arr m ρ c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.Kernel5Ideal.Ffn

namespace Cert.Ffn

open Idealize.ShloMosaic Idealize.ShloMosaic.TcCoe Idealize.ShloMosaic.Tactic Idealize.SL.Sem

open Cert.Reference5Ideal Cert.Reference5Ideal.Gen Cert.Reference5Ideal.Read in
/-- The reference's product of both halves side by side. -/
theorem ref5 (g v : FVec Ideal S2048x2816 .bf16) (h : FVec Ideal S2048x1024 .bf16) : val_main_v9 (F := Ideal) g v h = dwup g v h := by
  funext y
  obtain ⟨r, j, rfl⟩ : ∃ (r : Fin 5632) (j : Fin 1024), y = ix2 r j := ⟨y 0, y 1, funext fun a => by match a with | 0 => rfl | 1 => rfl⟩
  rw [val_main_v9_apply, val_main_v8_apply, val_main_v7_apply, val_main_v6_apply]
  by_cases hr : r.val < 2816
  · refine Eq.trans ?_ (dwup_low g v h r j ⟨r.val, hr⟩ rfl).symm
    refine Finset.sum_congr rfl fun k _ => ?_
    rw [val_main_v1_apply, val_main_v3_apply]
    refine congrArg₂ (· * ·) ?_ (congrArg h ?_)
    · exact concatenate_pair_apply_left 1 g v concatenates_S2048x2816_S2048x2816_S2048x5632_d1 _ rfl (ix2 k ⟨r.val, hr⟩) fun b => by
        match b with | 0 => rfl | 1 => rfl
    · blk_ext [ridx_main_v6, idx_main_v7, idx_main_v8]
  · have hlt := r.isLt
    refine Eq.trans ?_ (dwup_high g v h r j ⟨r.val - 2816, by omega⟩ (by dsimp only; omega)).symm
    refine Finset.sum_congr rfl fun k _ => ?_
    rw [val_main_v1_apply, val_main_v3_apply]
    refine congrArg₂ (· * ·) ?_ (congrArg h ?_)
    · exact concatenate_pair_apply_right 1 g v concatenates_S2048x2816_S2048x2816_S2048x5632_d1 _ rfl rfl (ix2 k ⟨r.val - 2816, by omega⟩)
        (fun b hb => by match b with | 0 => rfl | 1 => exact absurd rfl hb) (by show r.val - 2816 + 2816 = r.val; omega)
    · blk_ext [ridx_main_v6, idx_main_v7, idx_main_v8]

theorem agree5 : Cert.algebraic_Kernel5Ideal_Reference5Ideal (hKernel5Ideal := Cert.Kernel5Ideal.Gen.facts)
    (hReference5Ideal := Cert.Reference5Ideal.Gen.facts) := by
  intro m g m' g' _ hag
  refine ⟨fun c => Cert.Kernel5Ideal.Ffn.spec m c, ?_, ?_⟩
  · exact Cert.Kernel5Ideal.Ffn.run m g
  · refine (θ_run Cert.Reference5Ideal.defs _ _).mono (fun r h c => ?_) (Cert.Reference5Ideal.Value.run (F := Ideal) m' g')
    obtain ⟨a0, a1, a2⟩ := hag c
    obtain ⟨r0, hargs⟩ := h c
    rw [Cert.Reference5Ideal.Read.val_main_v9_eq, ref5, a0, a1, a2] at r0
    exact ⟨r0, hargs⟩

end Cert.Ffn

end
-- ==== Proof.Gate.lean ====
/- The gated convolution of the feed-forward block, one column at a time: the three taps, the gate, their gradients; and what
   a load finds in an array that holds a column block below eight rows of zeros. -/
module

public import Idealize.ShloMosaic.Lib.Claim
public import Idealize.ShloMosaic.Lib.WritesUnit
public import Idealize.ShloMosaic.Lib.Pipeline.ValueKit
public import Idealize.ShloMosaic.Lib.Pipeline.ValueKit.Tiles
public import Idealize.ShloMosaic.PureOps.Ideal

@[expose] public section

set_option maxRecDepth 16384

noncomputable section

namespace Cert.Gate

open Idealize.ShloMosaic Idealize.ShloMosaic.Tactic

/-- Entry `a` of a column with eight zeros in front. -/
def up (x : Fin 2048 → EReal) (a : ℕ) : EReal := if h : 8 ≤ a ∧ a < 2056 then x ⟨a - 8, by omega⟩ else 0

/-- The causal convolution with three taps, and its bias. -/
def conv (x : Fin 2048 → EReal) (w : Fin 3 → EReal) (b : EReal) (r : ℕ) : EReal :=
  w 0 * up x (r + 6) + w 1 * up x (r + 7) + w 2 * up x (r + 8) + b

/-- The logistic function. -/
def lg (t : EReal) : EReal := Ideal.div 1 (1 + Ideal.exp (0 - t))

/-- The gate: the logistic unit of `g`, times `v`. -/
def gate (g v : EReal) : EReal := g * lg g * v

/-- Rows `o` on of an array that holds `x` below eight rows of zeros. -/
theorem load_up {sig : RefSig} {κ : Kind} {sp : Space} (v : View sig κ sp ⟨2, ![2056, 256]⟩ .f32) (f : v.ty.Contents (Elt Ideal))
    (x : FVec Ideal ⟨2, ![2048, 256]⟩ .f32) (z : FVec Ideal ⟨2, ![8, 256]⟩ .f32) (hz : ∀ y, z y = 0) (off : Fin 2 → ℕ)
    (inb inb8 inb0) (o : ℕ) (ho : off = ![o, 0]) (a : Fin 264) (j : Fin 256) :
    View.readAt (Elt Ideal) v (Rect.unit (s := ⟨2, ![2056, 256]⟩) off ![264, 256] inb).toLoadRect
      (v.writes (Elt Ideal) f [⟨Rect.unit (s := ⟨2, ![2056, 256]⟩) ![8, 0] ![2048, 256] inb8, x⟩,
        ⟨Rect.unit (s := ⟨2, ![2056, 256]⟩) ![0, 0] ![8, 256] inb0, z⟩]) (ix2 a j) = up (fun r => x (ix2 r j)) (o + a.val) := by
  subst ho
  have hi : o + 264 ≤ 2056 := inb 0
  rw [View.readAt_eq_ld]
  rw [View.ld_unit_apply_of _ _ _ _ _ (ix2 (⟨o + a.val, by omega⟩ : Fin 2056) j) (fun k => by
    match k with
    | 0 => rfl
    | 1 => show j.val = 0 + j.val; omega)]
  unfold up
  by_cases h : 8 ≤ o + a.val
  · rw [dif_pos ⟨h, by omega⟩]
    exact View.read_writes_cons_rows_of_mem v f _ x _ _ (ix2 (⟨o + a.val - 8, by omega⟩ : Fin 2048) j) rfl
      (by show o + a.val = 8 + (o + a.val - 8); omega) rfl
  · rw [dif_neg (by omega)]
    refine (View.read_writes_cons_rows_of_not_mem (o := 8) (W := 2048) v f _ x _ _ rfl rfl (Or.inl ?_)).trans ?_
    · show o + a.val < 8
      omega
    exact (View.read_writes_cons_rows_of_mem v f _ z _ _ (ix2 (⟨o + a.val, by omega⟩ : Fin 8) j) rfl
      (by show o + a.val = 0 + (o + a.val); omega) rfl).trans (hz _)

/-- A row of an array with few rows, loaded alone. -/
theorem load_row {sig : RefSig} {n : ℕ} (arg : Memref sig .tc .vmem ⟨2, ![n, 256]⟩ .f32) (h : arg.IsWhole)
    (x : FVec Ideal ⟨2, ![n, 256]⟩ .f32) (k : Fin n) (inb) (j : Fin 256) :
    View.readAt (Elt Ideal) arg.view (Rect.unit (s := ⟨2, ![n, 256]⟩) ![k.val, 0] ![1, 256] inb).toLoadRect (h.unread x) (ix2 0 j)
      = x (ix2 k j) := by
  rw [View.readAt_eq_ld, h.read_unread]
  exact View.ld_unit_apply_of _ _ _ _ _ _ fun a => by
    match a with
    | 0 => rfl
    | 1 => show j.val = 0 + j.val; omega

/-- A whole block, loaded. -/
theorem load_all {sig : RefSig} {n w : ℕ} (arg : Memref sig .tc .vmem ⟨2, ![n, w]⟩ .f32) (h : arg.IsWhole)
    (x : FVec Ideal ⟨2, ![n, w]⟩ .f32) (inb) :
    View.readAt (Elt Ideal) arg.view (Rect.unit (s := ⟨2, ![n, w]⟩) ![0, 0] ![n, w] inb).toLoadRect (h.unread x) = x := by
  rw [View.readAt_eq_ld, h.read_unread]
  funext y
  exact View.ld_unit_apply_of _ _ _ _ _ y fun a => by
    match a with
    | 0 => exact (Nat.zero_add _).symm
    | 1 => exact (Nat.zero_add _).symm

theorem conv_congr {x : Fin 2048 → EReal} {w w' : Fin 3 → EReal} {b b' : EReal} {r : ℕ} (h0 : w 0 = w' 0) (h1 : w 1 = w' 1)
    (h2 : w 2 = w' 2) (hb : b = b') : conv x w b r = conv x w' b' r := by
  simp only [conv, h0, h1, h2, hb]

theorem conv_col {x x' : Fin 2048 → EReal} {w w' : Fin 3 → EReal} {b b' : EReal} {r r' : ℕ} (hx : ∀ r, x r = x' r)
    (hw : ∀ k, w k = w' k) (hb : b = b') (hr : r = r') : conv x w b r = conv x' w' b' r' := by
  rw [funext hx, funext hw, hb, hr]

end Cert.Gate

end
-- ==== Proof.GateAct.lean ====
/- The feed-forward block's activation: what the body stores for a block of columns, the array after all blocks, the
   reference's result, and their equation. -/
module

public import proofs.«01_k».proof.Proof.Gate
public import proofs.«01_k».proof.Proof.Gen.Kernel10Ideal.Value
public import proofs.«01_k».proof.Proof.Gen.Reference10Ideal.Read
public import proofs.«01_k».proof.Defs

@[expose] public section

set_option maxRecDepth 16384

noncomputable section

namespace Cert.Gate

open Idealize.ShloMosaic

/-- A tap's and a bias's place in the stacked columns: the gate's columns come first, then the value's. -/
def lo (j : Fin 2816) : Fin 5632 := ⟨j.val, by omega⟩
def hi (j : Fin 2816) : Fin 5632 := ⟨2816 + j.val, by omega⟩

/-- The convolution of column `j` of `x`, with the taps and the bias of column `o`. -/
def cv (x : FVec Ideal ⟨2, ![2048, 2816]⟩ .f32) (w : FVec Ideal ⟨2, ![3, 5632]⟩ .f32) (b : FVec Ideal ⟨1, ![5632]⟩ .f32)
    (o : Fin 5632) (j : Fin 2816) (r : ℕ) : EReal :=
  conv (fun r => x (ix2 r j)) (fun k => w (ix2 k o)) (b (ix1 o)) r

/-- The activation. -/
def act (ug uv : FVec Ideal ⟨2, ![2048, 2816]⟩ .f32) (w : FVec Ideal ⟨2, ![3, 5632]⟩ .f32) (b : FVec Ideal ⟨1, ![5632]⟩ .f32) :
    FVec Ideal ⟨2, ![2048, 2816]⟩ .bf16 :=
  fun y => gate (cv ug w b (lo (y 1)) (y 1) (y 0).val) (cv uv w b (hi (y 1)) (y 1) (y 0).val)

end Cert.Gate

namespace Cert.Kernel10Ideal.Ffn

open Idealize.ShloMosaic Idealize.ShloMosaic.TcCoe Idealize.ShloMosaic.Tactic Cert.Kernel10Ideal Cert.Kernel10Ideal.Gen Cert.Gate

/-- Rows `o` on of a column block below its zeros. -/
def ext (x : Vec Ideal S2048x256 .f32) (o : ℕ) : Vec Ideal S264x256 .f32 := fun y => up (fun r => x (ix2 r (y 1))) (o + (y 0).val)

theorem pay6 (x : Vec Ideal S2048x256 .f32) (o : ℕ) (u0 u1 u2 b : Vec Ideal S1x256 .f32) (r j : Fin 256) :
    k0_pay6 (ext x o) u0 u1 u2 b (ix2 r j)
      = conv (fun r => x (ix2 r j)) ![u0 (ix2 0 j), u1 (ix2 0 j), u2 (ix2 0 j)] (b (ix2 0 j)) (o + r.val) := by
  pointwise [k0_pay6, ext]
  have h6 : (r.val + 264 - 258) % 264 = r.val + 6 := by omega
  have h7 : (r.val + 264 - 257) % 264 = r.val + 7 := by omega
  show _ = _ * _ + _ * _ + _ * _ + _
  simp only [h6, h7, Nat.add_assoc, Nat.add_comm 8]
  rfl

theorem pay57 (g : FVec Ideal S256x256 .f32) (x : Vec Ideal S2048x256 .f32) (o : ℕ) (u0 u1 u2 b : Vec Ideal S1x256 .f32) (r j : Fin 256) :
    k0_pay5 g (ext x o) (k0_pay7 (ext x o) u0 u1) u2 b (ix2 r j)
      = gate (g (ix2 r j)) (conv (fun r => x (ix2 r j)) ![u0 (ix2 0 j), u1 (ix2 0 j), u2 (ix2 0 j)] (b (ix2 0 j)) (o + r.val)) := by
  pointwise [k0_pay5, k0_pay7, ext]
  have h6 : (r.val + 264 - 258) % 264 = r.val + 6 := by omega
  have h7 : (r.val + 264 - 257) % 264 = r.val + 7 := by omega
  show _ = _ * _ * (_ * _ + _ * _ + _ * _ + _)
  simp only [h6, h7, Nat.add_assoc, Nat.add_comm 8]
  rfl

/-- What a column block's result is. -/
def blk (x0 x1 : Vec Ideal S2048x256 .f32) (x2 x3 : Vec Ideal S3x256 .f32) (x4 x5 : Vec Ideal S1x256 .f32) : Vec Ideal S2048x256 .bf16 :=
  fun y => gate (conv (fun r => x0 (ix2 r (y 1))) (fun k => x2 (ix2 k (y 1))) (x4 (ix2 0 (y 1))) (y 0).val)
    (conv (fun r => x1 (ix2 r (y 1))) (fun k => x3 (ix2 k (y 1))) (x5 (ix2 0 (y 1))) (y 0).val)

theorem trips_eq : k0_t1_loop.trips = 8 := by decide +kernel

theorem iv_row : ∀ j : Fin 8, (Scalar.indexCast (Scalar.muli (Scf.iv 0#32 1#32 j.val) 256#32)).toNat = 256 * j.val := by
  decide +kernel

section
variable (c : Dev nD) (i : grid0.Coords) (arg1 : Memref sig .tc .vmem S2048x256 .f32) (harg1 : arg1.IsWhole)
  (arg2 : Memref sig .tc .vmem S2048x256 .f32) (harg2 : arg2.IsWhole) (arg3 : Memref sig .tc .vmem S3x256 .f32) (harg3 : arg3.IsWhole)
  (arg4 : Memref sig .tc .vmem S3x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S2048x256 .bf16) (harg7 : arg7.IsWhole)
  (arg8 : Memref sig .tc .vmem S2056x256 .f32) (harg8 : arg8.IsWhole) (arg9 : Memref sig .tc .vmem S2056x256 .f32) (harg9 : arg9.IsWhole)
  (x0 x1 : Vec Ideal S2048x256 .f32) (x2 x3 : Vec Ideal S3x256 .f32) (x4 x5 : Vec Ideal S1x256 .f32)

/-- What the body stores at trip `k`: rows `256 k` on of the block's result. -/
theorem trip_mem (X8 : BufTy.Contents (Elt Ideal) arg8.view.ty) (X9 : BufTy.Contents (Elt Ideal) arg9.view.ty)
    (h8 : ∀ off inb o, off = ![o, 0] → View.readAt (Elt Ideal) arg8.view (Rect.unit (s := S2056x256) off ![264, 256] inb).toLoadRect X8 = ext x0 o)
    (h9 : ∀ off inb o, off = ![o, 0] → View.readAt (Elt Ideal) arg9.view (Rect.unit (s := S2056x256) off ![264, 256] inb).toLoadRect X9 = ext x1 o)
    (k : Fin k0_t1_loop.trips) (p : View.Piece (Elt Ideal) S2048x256 .bf16)
    (hp : p ∈ tripL_k0_t1 (F := Ideal) Variants.none c none i arg1 harg1 arg2 harg2 arg3 harg3 arg4 harg4 arg5 harg5 arg6 harg6 arg7 harg7 arg8 harg8 arg9 harg9
      (harg3.unread x2) (harg4.unread x3) (harg5.unread x4) (harg6.unread x5) X8 X9 k) (x : p.1.shape.Idx) :
    p.2 x = blk x0 x1 x2 x3 x4 x5 (p.1.emb x) := by
  have hk := iv_row ⟨k.val, k.isLt.trans_eq trips_eq⟩
  unfold tripL_k0_t1 trip_k0_t1 at hp
  dsimp only at hp
  rw [List.mem_singleton] at hp
  subst hp
  obtain ⟨r, j, rfl⟩ : ∃ (r : Fin 256) (j : Fin 256), x = ix2 r j := ⟨x 0, x 1, funext fun a => by match a with | 0 => rfl | 1 => rfl⟩
  dsimp only
  unfold trip_k0_t1.sl.r trip_k0_t1.sl.r_1 trip_k0_t1.sl.r_2
  have e8 := fun inb => h8 (k0_off1 k) inb (256 * k.val) (congrArg (![·, 0]) hk)
  have e9 := fun inb => h9 (k0_off1 k) inb (256 * k.val) (congrArg (![·, 0]) hk)
  rw [e8, e9, pay57, pay6]
  have he : (Rect.unit (s := S2048x256) (k0_off2 k) ![256, 256] (k0_off2_inb k)).emb (ix2 r j)
      = ix2 (⟨256 * k.val + r.val, by have := k.isLt.trans_eq trips_eq; omega⟩ : Fin 2048) j := funext fun a => Fin.ext (by
    match a with
    | 0 => exact congrArg₂ (· + ·) hk (Nat.one_mul _)
    | 1 => show 0 + 1 * j.val = j.val; omega)
  rw [he]
  exact congrArg₂ gate
    (conv_congr (load_row arg3 harg3 x2 0 _ j) (load_row arg3 harg3 x2 1 _ j) (load_row arg3 harg3 x2 2 _ j) (load_row arg5 harg5 x4 0 _ j))
    (conv_congr (load_row arg4 harg4 x3 0 _ j) (load_row arg4 harg4 x3 1 _ j) (load_row arg4 harg4 x3 2 _ j) (load_row arg6 harg6 x5 0 _ j))

/-- A piece that the first `n` trips store is one trip's. -/
theorem pb_mem (X3 X4 X5 X6 X8 X9) (n : ℕ) (hn : n ≤ k0_t1_loop.trips) (p : View.Piece (Elt Ideal) S2048x256 .bf16)
    (hp : p ∈ pb_k0_t1 (F := Ideal) Variants.none c none i arg1 harg1 arg2 harg2 arg3 harg3 arg4 harg4 arg5 harg5 arg6 harg6 arg7 harg7 arg8 harg8 arg9 harg9
      X3 X4 X5 X6 X8 X9 n) :
    ∃ k, p ∈ tripL_k0_t1 (F := Ideal) Variants.none c none i arg1 harg1 arg2 harg2 arg3 harg3 arg4 harg4 arg5 harg5 arg6 harg6 arg7 harg7 arg8 harg8 arg9 harg9
      X3 X4 X5 X6 X8 X9 k := by
  induction n with
  | zero => exact absurd hp List.not_mem_nil
  | succ n ih =>
    have e := pb_k0_t1_succ (F := Ideal) Variants.none c none i arg1 harg1 arg2 harg2 arg3 harg3 arg4 harg4 arg5 harg5 arg6 harg6 arg7 harg7 arg8 harg8 arg9 harg9
      X3 X4 X5 X6 X8 X9 ⟨n, hn⟩
    rcases List.mem_append.mp (e ▸ hp) with h | h
    · exact ⟨_, h⟩
    · exact ih (Nat.le_of_succ_le hn) h

/-- The body's result block. -/
theorem out_eq : out0_A_6 (F := Ideal) c i arg1 harg1 arg2 harg2 arg3 harg3 arg4 harg4 arg5 harg5 arg6 harg6 arg7 harg7 arg8 harg8 arg9 harg9
    x0 x1 x2 x3 x4 x5 = blk x0 x1 x2 x3 x4 x5 := by
  funext y
  unfold out0_A_6
  rw [View.read_writes_junk_eq_canon]
  refine View.canon_apply_of_pieces (Val := Elt Ideal) (S := S2048x256) (e := .bf16) (blk x0 x1 x2 x3 x4 x5) _ (fun p hp x => ?_) y
    (cover0_A_6 c i arg1 harg1 arg2 harg2 arg3 harg3 arg4 harg4 arg5 harg5 arg6 harg6 arg7 harg7 arg8 harg8 arg9 harg9 x0 x1 x2 x3 x4 x5 y)
  unfold kernelRun0_A at hp
  dsimp only at hp
  obtain ⟨k, hk⟩ := pb_mem _ _ _ _ _ _ _ _ _ _ _ _ _ _ _ _ _ _ _ _ _ _ _ _ _ _ _ le_rfl p hp
  refine trip_mem c i arg1 harg1 arg2 harg2 arg3 harg3 arg4 harg4 arg5 harg5 arg6 harg6 arg7 harg7 arg8 harg8 arg9 harg9
    x0 x1 x2 x3 x4 x5 _ _ (fun off inb o ho => funext fun y => ?_) (fun off inb o ho => funext fun y => ?_) k p hk x
  all_goals
    obtain ⟨a, j, rfl⟩ : ∃ (a : Fin 264) (j : Fin 256), y = ix2 a j := ⟨y 0, y 1, funext fun a => by match a with | 0 => rfl | 1 => rfl⟩
  · unfold kernelRun0_A.sl.HS0_2
    rw [load_all arg1 harg1 x0]
    refine (load_up arg8.view _ _ _ (fun y => ?_) off inb _ _ o ho a j).trans ?_
    · pointwise [k0_pay1]
    · exact congrArg (up · _) (funext fun r => by pointwise [k0_pay3])
  · unfold kernelRun0_A.sl.HS1_2
    rw [load_all arg2 harg2 x1]
    refine (load_up arg9.view _ _ _ (fun y => ?_) off inb _ _ o ho a j).trans ?_
    · pointwise [k0_pay2]
    · exact congrArg (up · _) (funext fun r => by pointwise [k0_pay4])
end

theorem idx : ∀ t : Fin cfg0.N, win0_0.index t = ![0, t.val] ∧ win0_1.index t = ![0, t.val] ∧ win0_2.index t = ![0, t.val]
    ∧ win0_3.index t = ![0, 11 + t.val] ∧ win0_4.index t = ![0, t.val] ∧ win0_5.index t = ![0, 11 + t.val] ∧ win0_6.index t = ![0, t.val] := by
  decide +kernel

variable (m : (ℓ : Loc nD τ sig) → Buf (Elt Ideal) ℓ) (c : Dev nD)

/-- The bias as the call takes it: one row. -/
theorem bias_eq (j : Fin 5632) :
    (V m c main_v0 : FVec Ideal S1x5632 .f32) (ix2 0 j) = (m ((c.tc : Thread nD τ).loc main_arg3) : FVec Ideal S5632 .f32) (ix1 j) := by
  unfold_abbrev_sides
  after_results
  pointwise

/-- The call's result. -/
theorem arr : ((dats m 0 c).arrAt 6 cfg0.N : FVec Ideal S2048x2816 .bf16)
    = Cert.Gate.act (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 6 _ (by decide +kernel) fun t hf y => ?_
  obtain ⟨h0, h1, h2, h3, h4, h5, h6⟩ := idx t
  show (dats m 0 c).after 6 t y = _
  rw [after0_6]
  unfold outsAt0
  rw [out_eq]
  obtain ⟨r, j, rfl⟩ : ∃ (r : Fin 2048) (j : Fin 256), y = ix2 r j := ⟨y 0, y 1, funext fun a => by match a with | 0 => rfl | 1 => rfl⟩
  refine congrArg₂ gate (conv_col (fun r => ?_) (fun k => ?_) ?_ ?_) (conv_col (fun r => ?_) (fun k => ?_) ?_ ?_)
  · refine Eq.trans ?_ (congrFun (V_main_arg0 m c) _); blk_ext [iblk, h0, h6]
  · refine Eq.trans ?_ (congrFun (V_main_arg2 m c) _); blk_ext [iblk, h2, h6, lo]
  · refine Eq.trans ?_ (bias_eq m c _); blk_ext [iblk, h4, h6, lo]
  · blk_ext [h6]
  · refine Eq.trans ?_ (congrFun (V_main_arg1 m c) _); blk_ext [iblk, h1, h6]
  · refine Eq.trans ?_ (congrFun (V_main_arg2 m c) _); blk_ext [iblk, h3, h6, hi]
  · refine Eq.trans ?_ (bias_eq m c _); blk_ext [iblk, h5, h6, hi]
  · blk_ext [h6]

end Cert.Kernel10Ideal.Ffn

namespace Cert.Gate

open Idealize.ShloMosaic Idealize.ShloMosaic.TcCoe Idealize.ShloMosaic.Tactic Idealize.SL.Sem

section
open Cert.Reference10Ideal Cert.Reference10Ideal.Gen Cert.Reference10Ideal.Read

variable (ug uv : FVec Ideal S2048x2816 .f32) (w : FVec Ideal S3x5632 .f32) (b : FVec Ideal S5632 .f32)

/-- The stacked columns are the gate's, then the value's. -/
theorem stack_lo (r : Fin 2048) (j : Fin 2816) : val_main_v0 (F := Ideal) ug uv (ix2 r (lo j)) = ug (ix2 r j) :=
  concatenate_pair_apply_left (t := S2048x5632) (s₁ := S2048x2816) (s₂ := S2048x2816) 1 ug uv _ _ rfl _ fun b => by match b with | 0 => rfl | 1 => rfl

theorem stack_hi (r : Fin 2048) (j : Fin 2816) : val_main_v0 (F := Ideal) ug uv (ix2 r (hi j)) = uv (ix2 r j) :=
  concatenate_pair_apply_right (t := S2048x5632) (s₁ := S2048x2816) (s₂ := S2048x2816) 1 ug uv _ _ rfl rfl _ (fun b h => by match b with | 0 => rfl | 1 => exact absurd rfl h)
    (by show j.val + 2816 = 2816 + j.val; omega)

/-- Row `r + k` of the stacked columns below two rows of zeros. -/
theorem below (x : Fin 2048 → EReal) (o : Fin 5632) (hx : ∀ r, val_main_v0 (F := Ideal) ug uv (ix2 r o) = x r) (a : Fin 2050) :
    val_main_v2 (F := Ideal) ug uv (ix2 a o) = up x (a.val + 6) := by
  unfold up val_main_v2
  by_cases h : 2 ≤ a.val
  · rw [dif_pos ⟨by omega, by omega⟩, ← hx]
    refine concatenate_pair_apply_right (t := S2050x5632) (s₁ := S2x5632) (s₂ := S2048x5632) 0 _ _ _ _ rfl rfl _ (fun b h => ?_) ?_
    · match b with | 0 => exact absurd rfl h | 1 => rfl
    · show a.val + 6 - 8 + 2 = a.val
      omega
  · rw [dif_neg (by omega)]
    refine (concatenate_pair_apply_left (t := S2050x5632) (s₁ := S2x5632) (s₂ := S2048x5632) 0 _ _ _ _ rfl (ix2 (⟨a.val, by omega⟩ : Fin 2) o) fun b => ?_).trans ?_
    · match b with | 0 => rfl | 1 => rfl
    · pointwise [val_main_v1, val_main_cst]

/-- The reference's convolution. -/
theorem rconv (x : Fin 2048 → EReal) (o : Fin 5632) (hx : ∀ r, val_main_v0 (F := Ideal) ug uv (ix2 r o) = x r) (r : Fin 2048) :
    val_main_v27 (F := Ideal) ug uv w b (ix2 r o) = conv x (fun k => w (ix2 k o)) (b (ix1 o)) r.val := by
  have h := below ug uv x o hx
  pointwise [val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9,
    val_main_v8, val_main_v7, val_main_v6, val_main_v5, val_main_v4, val_main_v3, val_main_cst_0]
  rw [h, h, h]
  unfold conv
  rw [show 1 + r.val + 6 = r.val + 7 by omega, show 2 + r.val + 6 = r.val + 8 by omega]

theorem ref10 : val_main_v32 (F := Ideal) ug uv w b = act ug uv w b := by
  funext y
  obtain ⟨r, j, rfl⟩ : ∃ (r : Fin 2048) (j : Fin 2816), y = ix2 r j := ⟨y 0, y 1, funext fun a => by match a with | 0 => rfl | 1 => rfl⟩
  pointwise [val_main_v32, val_main_v31, val_main_v30, val_main_v29, val_main_v28, val_main_call0_v5, val_main_call0_v4, val_main_call0_v3,
    val_main_call0_v2, val_main_call0_v1, val_main_call0_v0, val_main_call0_cst, val_main_call0_cst_0]
  have e : ∀ t : EReal, -t = 0 - t := fun t => (zero_sub t).symm
  rw [e]
  exact congrArg₂ gate (rconv ug uv w b _ (lo j) (stack_lo ug uv · j) r) (rconv ug uv w b _ (hi j) (stack_hi ug uv · j) r)

end

theorem agree10 : Cert.algebraic_Kernel10Ideal_Reference10Ideal (hKernel10Ideal := Cert.Kernel10Ideal.Gen.facts)
    (hReference10Ideal := Cert.Reference10Ideal.Gen.facts) := by
  intro m g m' g' _ hag
  refine ⟨fun c => act (m ((c.tc : Thread _ _).loc Cert.Kernel10Ideal.main_arg0)) (m ((c.tc : Thread _ _).loc Cert.Kernel10Ideal.main_arg1))
    (m ((c.tc : Thread _ _).loc Cert.Kernel10Ideal.main_arg2)) (m ((c.tc : Thread _ _).loc Cert.Kernel10Ideal.main_arg3)), ?_, ?_⟩
  · refine (θ_run Cert.Kernel10Ideal.defs _ _).mono (fun r h c => ?_) (Cert.Kernel10Ideal.Value.run_blocks m g)
    exact ⟨(h c).1.trans (Cert.Kernel10Ideal.Ffn.arr m c), (h c).2⟩
  · refine (θ_run Cert.Reference10Ideal.defs _ _).mono (fun r h c => ?_) (Cert.Reference10Ideal.Value.run (F := Ideal) m' g')
    obtain ⟨a0, a1, a2, a3⟩ := hag c
    obtain ⟨r0, hargs⟩ := h c
    rw [Cert.Reference10Ideal.Read.val_main_v32_eq, ref10, a0, a1, a2, a3] at r0
    exact ⟨r0, hargs⟩

end Cert.Gate

end
-- ==== Proof.Prod.lean ====
/- The projections' products, stated once for every shape: a point's columns come in four chunks of 512 rows, or as four terms of
   512 rows each. -/
module

public import proofs.«01_k».proof.Proof.DWDown
public import Idealize.ShloMosaic.Lib.Claim
public import Idealize.ShloMosaic.Lib.Pipeline.ValueKit

@[expose] public section

set_option maxRecDepth 16384

noncomputable section

namespace Cert.Prod

open Idealize.ShloMosaic Idealize.ShloMosaic.Tactic Idealize.ShloMosaic.Pipeline

variable {M K N : Nat}

/-- Rows against columns. -/
def nn (a : FVec Ideal ⟨2, ![M, K]⟩ .bf16) (b : FVec Ideal ⟨2, ![K, N]⟩ .bf16) : FVec Ideal ⟨2, ![M, N]⟩ .f32 :=
  fun y => ∑ k : Fin K, a (ix2 (y 0) k) * b (ix2 k (y 1))

/-- Rows against rows. -/
def nt (a : FVec Ideal ⟨2, ![M, K]⟩ .bf16) (b : FVec Ideal ⟨2, ![N, K]⟩ .bf16) : FVec Ideal ⟨2, ![M, N]⟩ .f32 :=
  fun y => ∑ k : Fin K, a (ix2 (y 0) k) * b (ix2 (y 1) k)

/-- Columns against columns. -/
def tn (a : FVec Ideal ⟨2, ![K, M]⟩ .bf16) (b : FVec Ideal ⟨2, ![K, N]⟩ .bf16) : FVec Ideal ⟨2, ![M, N]⟩ .bf16 :=
  fun y => ∑ k : Fin K, a (ix2 k (y 0)) * b (ix2 k (y 1))

theorem nn_apply (a : FVec Ideal ⟨2, ![M, K]⟩ .bf16) (b : FVec Ideal ⟨2, ![K, N]⟩ .bf16) (i : Fin M) (j : Fin N) :
    nn a b (ix2 i j) = ∑ k : Fin K, a (ix2 i k) * b (ix2 k j) := rfl

theorem nt_apply (a : FVec Ideal ⟨2, ![M, K]⟩ .bf16) (b : FVec Ideal ⟨2, ![N, K]⟩ .bf16) (i : Fin M) (j : Fin N) :
    nt a b (ix2 i j) = ∑ k : Fin K, a (ix2 i k) * b (ix2 j k) := rfl

theorem tn_apply (a : FVec Ideal ⟨2, ![K, M]⟩ .bf16) (b : FVec Ideal ⟨2, ![K, N]⟩ .bf16) (i : Fin M) (j : Fin N) :
    tn a b (ix2 i j) = ∑ k : Fin K, a (ix2 k i) * b (ix2 k j) := rfl

/-- An element depends on the row and the column it is the product of. -/
theorem nn_congr {M' N' : Nat} {a : FVec Ideal ⟨2, ![M, K]⟩ .bf16} {b : FVec Ideal ⟨2, ![K, N]⟩ .bf16}
    {a' : FVec Ideal ⟨2, ![M', K]⟩ .bf16} {b' : FVec Ideal ⟨2, ![K, N']⟩ .bf16} {y : (⟨2, ![M, N]⟩ : Shape).Idx} {y' : (⟨2, ![M', N']⟩ : Shape).Idx}
    (ha : ∀ k, a (ix2 (y 0) k) = a' (ix2 (y' 0) k)) (hb : ∀ k, b (ix2 k (y 1)) = b' (ix2 k (y' 1))) : nn a b y = nn a' b' y' :=
  Finset.sum_congr rfl fun k _ => congrArg₂ (· * ·) (ha k) (hb k)

theorem nt_congr {M' N' : Nat} {a : FVec Ideal ⟨2, ![M, K]⟩ .bf16} {b : FVec Ideal ⟨2, ![N, K]⟩ .bf16}
    {a' : FVec Ideal ⟨2, ![M', K]⟩ .bf16} {b' : FVec Ideal ⟨2, ![N', K]⟩ .bf16} {y : (⟨2, ![M, N]⟩ : Shape).Idx} {y' : (⟨2, ![M', N']⟩ : Shape).Idx}
    (ha : ∀ k, a (ix2 (y 0) k) = a' (ix2 (y' 0) k)) (hb : ∀ k, b (ix2 (y 1) k) = b' (ix2 (y' 1) k)) : nt a b y = nt a' b' y' :=
  Finset.sum_congr rfl fun k _ => congrArg₂ (· * ·) (ha k) (hb k)

theorem tn_congr {M' N' : Nat} {a : FVec Ideal ⟨2, ![K, M]⟩ .bf16} {b : FVec Ideal ⟨2, ![K, N]⟩ .bf16}
    {a' : FVec Ideal ⟨2, ![K, M']⟩ .bf16} {b' : FVec Ideal ⟨2, ![K, N']⟩ .bf16} {y : (⟨2, ![M, N]⟩ : Shape).Idx} {y' : (⟨2, ![M', N']⟩ : Shape).Idx}
    (ha : ∀ k, a (ix2 k (y 0)) = a' (ix2 k (y' 0))) (hb : ∀ k, b (ix2 k (y 1)) = b' (ix2 k (y' 1))) : tn a b y = tn a' b' y' :=
  Finset.sum_congr rfl fun k _ => congrArg₂ (· * ·) (ha k) (hb k)

/-- An index of a matrix is a row and a column. -/
theorem two (x : (⟨2, ![M, N]⟩ : Shape).Idx) : ∃ (i : Fin M) (j : Fin N), x = ix2 i j :=
  ⟨x 0, x 1, funext fun a => by match a with | 0 => rfl | 1 => rfl⟩

/-- A chunk of whole rows starts at row `o`. -/
theorem emb_rows {m R C : Nat} (o : Nat) (h : ∀ a, (![o, 0] : Fin 2 → Nat) a + (![m, C] : Fin 2 → Nat) a ≤ (⟨2, ![R, C]⟩ : Shape).size a)
    (x : (⟨2, ![m, C]⟩ : Shape).Idx) (i : Fin R) (hi : i.val = o + (x 0).val) :
    (Rect.emb (Rect.unit (s := ⟨2, ![R, C]⟩) ![o, 0] ![m, C] h) x : (⟨2, ![R, C]⟩ : Shape).Idx) = ix2 i (x 1) := by
  refine funext fun a => Fin.ext ?_
  match a with
  | 0 => exact (ValueKit.rect_emb_unit_val (s := ⟨2, ![R, C]⟩) _ _ h x 0).trans hi.symm
  | 1 => exact (ValueKit.rect_emb_unit_val (s := ⟨2, ![R, C]⟩) _ _ h x 1).trans (Nat.zero_add _)

/-- A rectangle of rows within a matrix. -/
abbrev Fits (o m R C : Nat) : Prop := ∀ a, (![o, 0] : Fin 2 → Nat) a + (![m, C] : Fin 2 → Nat) a ≤ (⟨2, ![R, C]⟩ : Shape).size a

/-- `m` rows from row `o`. -/
abbrev rows {o m R C : Nat} (h : Fits o m R C) : Rect ⟨2, ![R, C]⟩ := Rect.unit (s := ⟨2, ![R, C]⟩) ![o, 0] ![m, C] h

/-- A chunk's rows against the columns are the matrix's. -/
theorem nn_chunk {o m : Nat} {a : Vec Ideal ⟨2, ![M, K]⟩ .bf16} {b : Vec Ideal ⟨2, ![K, N]⟩ .bf16} (ha : Fits o m M K) (hb : Fits 0 K K N)
    (hr : Fits o m M N) (x : (⟨2, ![m, N]⟩ : Shape).Idx) :
    nn (View.ld (Val := Elt Ideal) (e' := .bf16) a (rows ha)) (View.ld (Val := Elt Ideal) (e' := .bf16) b (rows hb)) x
      = nn a b (Rect.emb (rows hr) x) := by
  have h0 : o + (x 0).val < M := by
    have h1 : o + m ≤ M := ha 0
    have h2 : (x 0).val < m := (x 0).isLt
    omega
  rw [emb_rows o hr x ⟨_, h0⟩ rfl]
  refine Finset.sum_congr rfl fun k _ => congrArg₂ (· * ·) (congrArg a ?_) (congrArg b ?_)
  · exact emb_rows o ha (ix2 (x 0) k) ⟨_, h0⟩ rfl
  · exact emb_rows 0 hb (ix2 k (x 1)) k (Nat.zero_add _).symm

/-- A chunk's rows against the rows are the matrix's. -/
theorem nt_chunk {o m : Nat} {a : Vec Ideal ⟨2, ![M, K]⟩ .bf16} {b : Vec Ideal ⟨2, ![N, K]⟩ .bf16} (ha : Fits o m M K) (hb : Fits 0 N N K)
    (hr : Fits o m M N) (x : (⟨2, ![m, N]⟩ : Shape).Idx) :
    nt (View.ld (Val := Elt Ideal) (e' := .bf16) a (rows ha)) (View.ld (Val := Elt Ideal) (e' := .bf16) b (rows hb)) x
      = nt a b (Rect.emb (rows hr) x) := by
  have h0 : o + (x 0).val < M := by
    have h1 : o + m ≤ M := ha 0
    have h2 : (x 0).val < m := (x 0).isLt
    omega
  rw [emb_rows o hr x ⟨_, h0⟩ rfl]
  refine Finset.sum_congr rfl fun k _ => congrArg₂ (· * ·) (congrArg a ?_) (congrArg b ?_)
  · exact emb_rows o ha (ix2 (x 0) k) ⟨_, h0⟩ rfl
  · exact emb_rows 0 hb (ix2 (x 1) k) (x 1) (Nat.zero_add _).symm

/-- Columns against columns, the rows in four terms of 512 added in turn. -/
theorem tn_terms {x0 : Vec Ideal ⟨2, ![2048, M]⟩ .bf16} {x1 : Vec Ideal ⟨2, ![2048, N]⟩ .bf16}
    {first : Vec Ideal ⟨2, ![512, M]⟩ .bf16 → Vec Ideal ⟨2, ![512, N]⟩ .bf16 → Vec Ideal ⟨2, ![M, N]⟩ .f32}
    {next : Vec Ideal ⟨2, ![512, M]⟩ .bf16 → Vec Ideal ⟨2, ![512, N]⟩ .bf16 → Vec Ideal ⟨2, ![M, N]⟩ .f32 → Vec Ideal ⟨2, ![M, N]⟩ .f32}
    (hf : ∀ a b x, first a b x = tn a b x) (hn : ∀ a b s x, next a b s x = s x + tn a b x)
    (a0 : Fits 0 512 2048 M) (a1 : Fits 512 512 2048 M) (a2 : Fits 1024 512 2048 M) (a3 : Fits 1536 512 2048 M)
    (b0 : Fits 0 512 2048 N) (b1 : Fits 512 512 2048 N) (b2 : Fits 1024 512 2048 N) (b3 : Fits 1536 512 2048 N) :
    next (View.ld x0 (rows a3)) (View.ld x1 (rows b3)) (next (View.ld x0 (rows a2)) (View.ld x1 (rows b2))
      (next (View.ld x0 (rows a1)) (View.ld x1 (rows b1)) (first (View.ld x0 (rows a0)) (View.ld x1 (rows b0))))) = tn x0 x1 := by
  funext y
  refine Eq.trans ?_ (Cert.Ffn.rows4 fun k => x0 (ix2 k (y 0)) * x1 (ix2 k (y 1))).symm
  rw [hn, hn, hn, hf]
  refine congrArg₂ (· + ·) (congrArg₂ (· + ·) (congrArg₂ (· + ·) ?_ ?_) ?_) ?_
  all_goals
    refine Finset.sum_congr rfl fun k _ => ?_
    exact congrArg₂ (· * ·) (congrArg x0 (emb_rows _ _ (ix2 k (y 0)) _ (by first | rfl | exact (Nat.zero_add _).symm)))
      (congrArg x1 (emb_rows _ _ (ix2 k (y 1)) _ (by first | rfl | exact (Nat.zero_add _).symm)))

/-- Four chunks of rows against the columns, stored. -/
theorem nn_stored {x0 : Vec Ideal ⟨2, ![2048, K]⟩ .bf16} {x1 : Vec Ideal ⟨2, ![K, N]⟩ .bf16}
    {pay : Vec Ideal ⟨2, ![K, N]⟩ .bf16 → Vec Ideal ⟨2, ![512, K]⟩ .bf16 → Vec Ideal ⟨2, ![512, N]⟩ .f32}
    (hp : ∀ b a x, pay b a x = nn a b x) (hb : Fits 0 K K N)
    (a0 : Fits 0 512 2048 K) (a1 : Fits 512 512 2048 K) (a2 : Fits 1024 512 2048 K) (a3 : Fits 1536 512 2048 K)
    (r0 : Fits 0 512 2048 N) (r1 : Fits 512 512 2048 N) (r2 : Fits 1024 512 2048 N) (r3 : Fits 1536 512 2048 N)
    (y : (⟨2, ![2048, N]⟩ : Shape).Idx)
    (hc : ∃ p ∈ ([⟨rows r3, pay (View.ld x1 (rows hb)) (View.ld x0 (rows a3))⟩, ⟨rows r2, pay (View.ld x1 (rows hb)) (View.ld x0 (rows a2))⟩,
      ⟨rows r1, pay (View.ld x1 (rows hb)) (View.ld x0 (rows a1))⟩, ⟨rows r0, pay (View.ld x1 (rows hb)) (View.ld x0 (rows a0))⟩]
        : List (View.Piece (Elt Ideal) ⟨2, ![2048, N]⟩ .f32)), y ∈ p.1.set) :
    View.canon (Val := Elt Ideal) (s := ⟨2, ![2048, N]⟩) (e := .f32)
      [⟨rows r3, pay (View.ld x1 (rows hb)) (View.ld x0 (rows a3))⟩, ⟨rows r2, pay (View.ld x1 (rows hb)) (View.ld x0 (rows a2))⟩,
        ⟨rows r1, pay (View.ld x1 (rows hb)) (View.ld x0 (rows a1))⟩, ⟨rows r0, pay (View.ld x1 (rows hb)) (View.ld x0 (rows a0))⟩] y
      = nn x0 x1 y := by
  refine View.canon_apply_of_pieces (Val := Elt Ideal) (S := ⟨2, ![2048, N]⟩) (e := .f32) (nn x0 x1) _ ?_ y hc
  intro p hq x
  simp only [List.mem_cons, List.not_mem_nil, or_false] at hq
  rcases hq with rfl | rfl | rfl | rfl
  · exact (hp _ _ x).trans (nn_chunk a3 hb r3 x)
  · exact (hp _ _ x).trans (nn_chunk a2 hb r2 x)
  · exact (hp _ _ x).trans (nn_chunk a1 hb r1 x)
  · exact (hp _ _ x).trans (nn_chunk a0 hb r0 x)

/-- Four chunks of rows against the rows, stored. -/
theorem nt_stored {x0 : Vec Ideal ⟨2, ![2048, K]⟩ .bf16} {x1 : Vec Ideal ⟨2, ![N, K]⟩ .bf16}
    {pay : Vec Ideal ⟨2, ![N, K]⟩ .bf16 → Vec Ideal ⟨2, ![512, K]⟩ .bf16 → Vec Ideal ⟨2, ![512, N]⟩ .f32}
    (hp : ∀ b a x, pay b a x = nt a b x) (hb : Fits 0 N N K)
    (a0 : Fits 0 512 2048 K) (a1 : Fits 512 512 2048 K) (a2 : Fits 1024 512 2048 K) (a3 : Fits 1536 512 2048 K)
    (r0 : Fits 0 512 2048 N) (r1 : Fits 512 512 2048 N) (r2 : Fits 1024 512 2048 N) (r3 : Fits 1536 512 2048 N)
    (y : (⟨2, ![2048, N]⟩ : Shape).Idx)
    (hc : ∃ p ∈ ([⟨rows r3, pay (View.ld x1 (rows hb)) (View.ld x0 (rows a3))⟩, ⟨rows r2, pay (View.ld x1 (rows hb)) (View.ld x0 (rows a2))⟩,
      ⟨rows r1, pay (View.ld x1 (rows hb)) (View.ld x0 (rows a1))⟩, ⟨rows r0, pay (View.ld x1 (rows hb)) (View.ld x0 (rows a0))⟩]
        : List (View.Piece (Elt Ideal) ⟨2, ![2048, N]⟩ .f32)), y ∈ p.1.set) :
    View.canon (Val := Elt Ideal) (s := ⟨2, ![2048, N]⟩) (e := .f32)
      [⟨rows r3, pay (View.ld x1 (rows hb)) (View.ld x0 (rows a3))⟩, ⟨rows r2, pay (View.ld x1 (rows hb)) (View.ld x0 (rows a2))⟩,
        ⟨rows r1, pay (View.ld x1 (rows hb)) (View.ld x0 (rows a1))⟩, ⟨rows r0, pay (View.ld x1 (rows hb)) (View.ld x0 (rows a0))⟩] y
      = nt x0 x1 y := by
  refine View.canon_apply_of_pieces (Val := Elt Ideal) (S := ⟨2, ![2048, N]⟩) (e := .f32) (nt x0 x1) _ ?_ y hc
  intro p hq x
  simp only [List.mem_cons, List.not_mem_nil, or_false] at hq
  rcases hq with rfl | rfl | rfl | rfl
  · exact (hp _ _ x).trans (nt_chunk a3 hb r3 x)
  · exact (hp _ _ x).trans (nt_chunk a2 hb r2 x)
  · exact (hp _ _ x).trans (nt_chunk a1 hb r1 x)
  · exact (hp _ _ x).trans (nt_chunk a0 hb r0 x)

/-- Four chunks of rows against the columns, added to the same rows of `x2`, stored. -/
theorem nn_add_stored {x0 : Vec Ideal ⟨2, ![2048, K]⟩ .bf16} {x1 : Vec Ideal ⟨2, ![K, N]⟩ .bf16} {x2 : Vec Ideal ⟨2, ![2048, N]⟩ .f32}
    {pay : Vec Ideal ⟨2, ![K, N]⟩ .bf16 → Vec Ideal ⟨2, ![512, K]⟩ .bf16 → Vec Ideal ⟨2, ![512, N]⟩ .f32 → Vec Ideal ⟨2, ![512, N]⟩ .f32}
    (hp : ∀ b a r x, pay b a r x = nn a b x + r x) (hb : Fits 0 K K N)
    (a0 : Fits 0 512 2048 K) (a1 : Fits 512 512 2048 K) (a2 : Fits 1024 512 2048 K) (a3 : Fits 1536 512 2048 K)
    (r0 : Fits 0 512 2048 N) (r1 : Fits 512 512 2048 N) (r2 : Fits 1024 512 2048 N) (r3 : Fits 1536 512 2048 N)
    (y : (⟨2, ![2048, N]⟩ : Shape).Idx)
    (hc : ∃ p ∈ ([⟨rows r3, pay (View.ld x1 (rows hb)) (View.ld x0 (rows a3)) (View.ld x2 (rows r3))⟩, ⟨rows r2, pay (View.ld x1 (rows hb)) (View.ld x0 (rows a2)) (View.ld x2 (rows r2))⟩,
      ⟨rows r1, pay (View.ld x1 (rows hb)) (View.ld x0 (rows a1)) (View.ld x2 (rows r1))⟩, ⟨rows r0, pay (View.ld x1 (rows hb)) (View.ld x0 (rows a0)) (View.ld x2 (rows r0))⟩]
        : List (View.Piece (Elt Ideal) ⟨2, ![2048, N]⟩ .f32)), y ∈ p.1.set) :
    View.canon (Val := Elt Ideal) (s := ⟨2, ![2048, N]⟩) (e := .f32)
      [⟨rows r3, pay (View.ld x1 (rows hb)) (View.ld x0 (rows a3)) (View.ld x2 (rows r3))⟩, ⟨rows r2, pay (View.ld x1 (rows hb)) (View.ld x0 (rows a2)) (View.ld x2 (rows r2))⟩,
        ⟨rows r1, pay (View.ld x1 (rows hb)) (View.ld x0 (rows a1)) (View.ld x2 (rows r1))⟩, ⟨rows r0, pay (View.ld x1 (rows hb)) (View.ld x0 (rows a0)) (View.ld x2 (rows r0))⟩] y
      = nn x0 x1 y + x2 y := by
  refine View.canon_apply_of_pieces (Val := Elt Ideal) (S := ⟨2, ![2048, N]⟩) (e := .f32) (fun y => nn x0 x1 y + x2 y) _ ?_ y hc
  intro p hq x
  simp only [List.mem_cons, List.not_mem_nil, or_false] at hq
  rcases hq with rfl | rfl | rfl | rfl
  · exact (hp _ _ _ x).trans (congrArg₂ (· + ·) (nn_chunk a3 hb r3 x) rfl)
  · exact (hp _ _ _ x).trans (congrArg₂ (· + ·) (nn_chunk a2 hb r2 x) rfl)
  · exact (hp _ _ _ x).trans (congrArg₂ (· + ·) (nn_chunk a1 hb r1 x) rfl)
  · exact (hp _ _ _ x).trans (congrArg₂ (· + ·) (nn_chunk a0 hb r0 x) rfl)

end Cert.Prod

end
-- ==== Proof.ProdCols.lean ====
/- The projections that multiply rows by columns of the weights: each point's columns, in four chunks of rows. -/
module

public import proofs.«01_k».proof.Proof.Gen.Kernel13Ideal.Value
public import proofs.«01_k».proof.Proof.Gen.Reference13Ideal.Read
public import proofs.«01_k».proof.Proof.Gen.Kernel21Ideal.Value
public import proofs.«01_k».proof.Proof.Gen.Reference21Ideal.Read
public import proofs.«01_k».proof.Proof.Gen.Kernel22Ideal.Value
public import proofs.«01_k».proof.Proof.Gen.Reference22Ideal.Read
public import proofs.«01_k».proof.Proof.Prod
public import proofs.«01_k».proof.Defs

@[expose] public section

set_option maxRecDepth 16384

noncomputable section

namespace Cert.Kernel13Ideal.Prod

open Idealize.ShloMosaic Idealize.ShloMosaic.TcCoe Idealize.ShloMosaic.Tactic Cert.Kernel13Ideal Cert.Kernel13Ideal.Gen

theorem pay (w : Vec Ideal S1792x512 .bf16) (a : Vec Ideal S512x1792 .bf16) (x : S512x512.Idx) : k0_pay1 w a x = Cert.Prod.nn a w x := by
  obtain ⟨i, j, rfl⟩ := Cert.Prod.two x
  refine Eq.trans ?_ (Cert.Prod.nn_apply a w i j).symm
  pointwise [k0_pay1]

theorem idx : ∀ t : Fin cfg0.N, win0_0.index t = ![0, 0] ∧ win0_1.index t = ![0, t.val] ∧ win0_2.index t = ![0, t.val] := by
  decide +kernel

variable (m : (ℓ : Loc nD τ sig) → Buf (Elt Ideal) ℓ) (c : Dev nD)

/-- The call's result: the input gradient of the convolution layers' first projection, whose weights are kept transposed. -/
theorem arr : ((dats m 0 c).arrAt 2 cfg0.N : FVec Ideal S2048x1024 .f32)
    = Cert.Prod.nn (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  refine (Cert.Prod.nn_stored pay _ _ _ _ _ _ _ _ _ y (cover0_2 _ _ _ _ y)).trans (Cert.Prod.nn_congr (fun k => ?_) (fun k => ?_))
  · blk_ext [iblk, h0, h2]
  · blk_ext [iblk, h1, h2]

end Cert.Kernel13Ideal.Prod

namespace Cert.Kernel21Ideal.Prod

open Idealize.ShloMosaic Idealize.ShloMosaic.TcCoe Idealize.ShloMosaic.Tactic Cert.Kernel21Ideal Cert.Kernel21Ideal.Gen

theorem pay (w : Vec Ideal S1024x512 .bf16) (a : Vec Ideal S512x1024 .bf16) (x : S512x512.Idx) : k0_pay1 w a x = Cert.Prod.nn a w x := by
  obtain ⟨i, j, rfl⟩ := Cert.Prod.two x
  refine Eq.trans ?_ (Cert.Prod.nn_apply a w i j).symm
  pointwise [k0_pay1]

theorem idx : ∀ t : Fin cfg0.N, win0_0.index t = ![0, 0] ∧ win0_1.index t = ![0, t.val] ∧ win0_2.index t = ![0, t.val] := by
  decide +kernel

variable (m : (ℓ : Loc nD τ sig) → Buf (Elt Ideal) ℓ) (c : Dev nD)

/-- The call's result: the attention layer's first projection. -/
theorem arr : ((dats m 0 c).arrAt 2 cfg0.N : FVec Ideal S2048x1024 .f32)
    = Cert.Prod.nn (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  refine (Cert.Prod.nn_stored pay _ _ _ _ _ _ _ _ _ y (cover0_2 _ _ _ _ y)).trans (Cert.Prod.nn_congr (fun k => ?_) (fun k => ?_))
  · blk_ext [iblk, h0, h2]
  · blk_ext [iblk, h1, h2]

end Cert.Kernel21Ideal.Prod

namespace Cert.Kernel22Ideal.Prod

open Idealize.ShloMosaic Idealize.ShloMosaic.TcCoe Idealize.ShloMosaic.Tactic Cert.Kernel22Ideal Cert.Kernel22Ideal.Gen

theorem pay (w : Vec Ideal S1024x128 .bf16) (a : Vec Ideal S512x1024 .bf16) (x : S512x128.Idx) : k0_pay1 w a x = Cert.Prod.nn a w x := by
  obtain ⟨i, j, rfl⟩ := Cert.Prod.two x
  refine Eq.trans ?_ (Cert.Prod.nn_apply a w i j).symm
  pointwise [k0_pay1]

theorem idx : ∀ t : Fin cfg0.N, win0_0.index t = ![0, 0] ∧ win0_1.index t = ![0, t.val] ∧ win0_2.index t = ![0, t.val] := by
  decide +kernel

variable (m : (ℓ : Loc nD τ sig) → Buf (Elt Ideal) ℓ) (c : Dev nD)

/-- The call's result: the shared keys', values' and forget gates' projection. -/
theorem arr : ((dats m 0 c).arrAt 2 cfg0.N : FVec Ideal S2048x1664 .f32)
    = Cert.Prod.nn (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  refine (Cert.Prod.nn_stored pay _ _ _ _ _ _ _ _ _ y (cover0_2 _ _ _ _ y)).trans (Cert.Prod.nn_congr (fun k => ?_) (fun k => ?_))
  · blk_ext [iblk, h0, h2]
  · blk_ext [iblk, h1, h2]

end Cert.Kernel22Ideal.Prod

namespace Cert.Prod

open Idealize.ShloMosaic Idealize.ShloMosaic.TcCoe Idealize.ShloMosaic.Tactic Idealize.SL.Sem

open Cert.Reference13Ideal Cert.Reference13Ideal.Gen Cert.Reference13Ideal.Read in
theorem ref13 (a : FVec Ideal S2048x1792 .bf16) (w : FVec Ideal S1792x1024 .bf16) : val_main_v5 (F := Ideal) a w = nn a w := by
  funext y
  rw [val_main_v5_apply]
  refine Finset.sum_congr rfl fun k _ => ?_
  rw [val_main_v4_apply, val_main_v2_apply, val_main_v1_apply]
  refine congrArg₂ (· * ·) (congrArg a ?_) (congrArg w ?_)
  · blk_ext [lidx_main_v5]
  · blk_ext [ridx_main_v5, idx_main_v2]

theorem agree13 : Cert.algebraic_Kernel13Ideal_Reference13Ideal (hKernel13Ideal := Cert.Kernel13Ideal.Gen.facts)
    (hReference13Ideal := Cert.Reference13Ideal.Gen.facts) := by
  intro m g m' g' _ hag
  refine ⟨fun c => nn (m ((c.tc : Thread _ _).loc Cert.Kernel13Ideal.main_arg0)) (m ((c.tc : Thread _ _).loc Cert.Kernel13Ideal.main_arg1)), ?_, ?_⟩
  · refine (θ_run Cert.Kernel13Ideal.defs _ _).mono (fun r h c => ?_) (Cert.Kernel13Ideal.Value.run_blocks m g)
    exact ⟨(h c).1.trans (Cert.Kernel13Ideal.Prod.arr m c), (h c).2⟩
  · refine (θ_run Cert.Reference13Ideal.defs _ _).mono (fun r h c => ?_) (Cert.Reference13Ideal.Value.run (F := Ideal) m' g')
    obtain ⟨a0, a1⟩ := hag c
    obtain ⟨r0, hargs⟩ := h c
    rw [Cert.Reference13Ideal.Read.val_main_v5_eq, ref13, a0, a1] at r0
    exact ⟨r0, hargs⟩

open Cert.Reference21Ideal Cert.Reference21Ideal.Gen Cert.Reference21Ideal.Read in
theorem ref21 (a : FVec Ideal S2048x1024 .bf16) (w : FVec Ideal S1024x1024 .bf16) : val_main_v2 (F := Ideal) a w = nn a w := by
  funext y
  rw [val_main_v2_apply]
  refine Finset.sum_congr rfl fun k _ => ?_
  rw [val_main_v0_apply, val_main_v1_apply]
  refine congrArg₂ (· * ·) (congrArg a ?_) (congrArg w ?_)
  · blk_ext [lidx_main_v2]
  · blk_ext [ridx_main_v2]

theorem agree21 : Cert.algebraic_Kernel21Ideal_Reference21Ideal (hKernel21Ideal := Cert.Kernel21Ideal.Gen.facts)
    (hReference21Ideal := Cert.Reference21Ideal.Gen.facts) := by
  intro m g m' g' _ hag
  refine ⟨fun c => nn (m ((c.tc : Thread _ _).loc Cert.Kernel21Ideal.main_arg0)) (m ((c.tc : Thread _ _).loc Cert.Kernel21Ideal.main_arg1)), ?_, ?_⟩
  · refine (θ_run Cert.Kernel21Ideal.defs _ _).mono (fun r h c => ?_) (Cert.Kernel21Ideal.Value.run_blocks m g)
    exact ⟨(h c).1.trans (Cert.Kernel21Ideal.Prod.arr m c), (h c).2⟩
  · refine (θ_run Cert.Reference21Ideal.defs _ _).mono (fun r h c => ?_) (Cert.Reference21Ideal.Value.run (F := Ideal) m' g')
    obtain ⟨a0, a1⟩ := hag c
    obtain ⟨r0, hargs⟩ := h c
    rw [Cert.Reference21Ideal.Read.val_main_v2_eq, ref21, a0, a1] at r0
    exact ⟨r0, hargs⟩

open Cert.Reference22Ideal Cert.Reference22Ideal.Gen Cert.Reference22Ideal.Read in
theorem ref22 (a : FVec Ideal S2048x1024 .bf16) (w : FVec Ideal S1024x1664 .bf16) : val_main_v2 (F := Ideal) a w = nn a w := by
  funext y
  rw [val_main_v2_apply]
  refine Finset.sum_congr rfl fun k _ => ?_
  rw [val_main_v0_apply, val_main_v1_apply]
  refine congrArg₂ (· * ·) (congrArg a ?_) (congrArg w ?_)
  · blk_ext [lidx_main_v2]
  · blk_ext [ridx_main_v2]

theorem agree22 : Cert.algebraic_Kernel22Ideal_Reference22Ideal (hKernel22Ideal := Cert.Kernel22Ideal.Gen.facts)
    (hReference22Ideal := Cert.Reference22Ideal.Gen.facts) := by
  intro m g m' g' _ hag
  refine ⟨fun c => nn (m ((c.tc : Thread _ _).loc Cert.Kernel22Ideal.main_arg0)) (m ((c.tc : Thread _ _).loc Cert.Kernel22Ideal.main_arg1)), ?_, ?_⟩
  · refine (θ_run Cert.Kernel22Ideal.defs _ _).mono (fun r h c => ?_) (Cert.Kernel22Ideal.Value.run_blocks m g)
    exact ⟨(h c).1.trans (Cert.Kernel22Ideal.Prod.arr m c), (h c).2⟩
  · refine (θ_run Cert.Reference22Ideal.defs _ _).mono (fun r h c => ?_) (Cert.Reference22Ideal.Value.run (F := Ideal) m' g')
    obtain ⟨a0, a1⟩ := hag c
    obtain ⟨r0, hargs⟩ := h c
    rw [Cert.Reference22Ideal.Read.val_main_v2_eq, ref22, a0, a1] at r0
    exact ⟨r0, hargs⟩

end Cert.Prod

end
-- ==== Proof.ProdRows.lean ====
/- The projections that multiply rows by rows of the weights: each point's columns, in four chunks of rows. -/
module

public import proofs.«01_k».proof.Proof.Gen.Kernel15Ideal.Value
public import proofs.«01_k».proof.Proof.Gen.Reference15Ideal.Read
public import proofs.«01_k».proof.Proof.Gen.Kernel17Ideal.Value
public import proofs.«01_k».proof.Proof.Gen.Reference17Ideal.Read
public import proofs.«01_k».proof.Proof.Gen.Kernel20Ideal.Value
public import proofs.«01_k».proof.Proof.Gen.Reference20Ideal.Read
public import proofs.«01_k».proof.Proof.Prod
public import proofs.«01_k».proof.Defs

@[expose] public section

set_option maxRecDepth 16384

noncomputable section

namespace Cert.Kernel15Ideal.Prod

open Idealize.ShloMosaic Idealize.ShloMosaic.TcCoe Idealize.ShloMosaic.Tactic Cert.Kernel15Ideal Cert.Kernel15Ideal.Gen

theorem pay (w : Vec Ideal S512x1024 .bf16) (a : Vec Ideal S512x1024 .bf16) (x : S512x512.Idx) : k0_pay1 w a x = Cert.Prod.nt a w x := by
  obtain ⟨i, j, rfl⟩ := Cert.Prod.two x
  refine Eq.trans ?_ (Cert.Prod.nt_apply a w i j).symm
  pointwise [k0_pay1]

theorem idx : ∀ t : Fin cfg0.N, win0_0.index t = ![0, 0] ∧ win0_1.index t = ![t.val, 0] ∧ win0_2.index t = ![0, t.val] := by
  decide +kernel

variable (m : (ℓ : Loc nD τ sig) → Buf (Elt Ideal) ℓ) (c : Dev nD)

/-- The call's result: the input gradient of the attention layer's first projection. -/
theorem arr : ((dats m 0 c).arrAt 2 cfg0.N : FVec Ideal S2048x1024 .f32)
    = Cert.Prod.nt (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  refine (Cert.Prod.nt_stored pay _ _ _ _ _ _ _ _ _ y (cover0_2 _ _ _ _ y)).trans (Cert.Prod.nt_congr (fun k => ?_) (fun k => ?_))
  · blk_ext [iblk, h0, h2]
  · blk_ext [iblk, h1, h2]

end Cert.Kernel15Ideal.Prod

namespace Cert.Kernel17Ideal.Prod

open Idealize.ShloMosaic Idealize.ShloMosaic.TcCoe Idealize.ShloMosaic.Tactic Cert.Kernel17Ideal Cert.Kernel17Ideal.Gen

theorem pay (w : Vec Ideal S512x1664 .bf16) (a : Vec Ideal S512x1664 .bf16) (x : S512x512.Idx) : k0_pay1 w a x = Cert.Prod.nt a w x := by
  obtain ⟨i, j, rfl⟩ := Cert.Prod.two x
  refine Eq.trans ?_ (Cert.Prod.nt_apply a w i j).symm
  pointwise [k0_pay1]

theorem idx : ∀ t : Fin cfg0.N, win0_0.index t = ![0, 0] ∧ win0_1.index t = ![t.val, 0] ∧ win0_2.index t = ![0, t.val] := by
  decide +kernel

variable (m : (ℓ : Loc nD τ sig) → Buf (Elt Ideal) ℓ) (c : Dev nD)

/-- The call's result: the input gradient of the shared projection. -/
theorem arr : ((dats m 0 c).arrAt 2 cfg0.N : FVec Ideal S2048x1024 .f32)
    = Cert.Prod.nt (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  refine (Cert.Prod.nt_stored pay _ _ _ _ _ _ _ _ _ y (cover0_2 _ _ _ _ y)).trans (Cert.Prod.nt_congr (fun k => ?_) (fun k => ?_))
  · blk_ext [iblk, h0, h2]
  · blk_ext [iblk, h1, h2]

end Cert.Kernel17Ideal.Prod

namespace Cert.Kernel20Ideal.Prod

open Idealize.ShloMosaic Idealize.ShloMosaic.TcCoe Idealize.ShloMosaic.Tactic Cert.Kernel20Ideal Cert.Kernel20Ideal.Gen

theorem pay (w : Vec Ideal S256x1024 .bf16) (a : Vec Ideal S512x1024 .bf16) (x : S512x256.Idx) : k0_pay1 w a x = Cert.Prod.nt a w x := by
  obtain ⟨i, j, rfl⟩ := Cert.Prod.two x
  refine Eq.trans ?_ (Cert.Prod.nt_apply a w i j).symm
  pointwise [k0_pay1]

theorem idx : ∀ t : Fin cfg0.N, win0_0.index t = ![0, 0] ∧ win0_1.index t = ![t.val, 0] ∧ win0_2.index t = ![0, t.val] := by
  decide +kernel

variable (m : (ℓ : Loc nD τ sig) → Buf (Elt Ideal) ℓ) (c : Dev nD)

/-- The call's result: the convolution layers' first projection. -/
theorem arr : ((dats m 0 c).arrAt 2 cfg0.N : FVec Ideal S2048x1792 .f32)
    = Cert.Prod.nt (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  refine (Cert.Prod.nt_stored pay _ _ _ _ _ _ _ _ _ y (cover0_2 _ _ _ _ y)).trans (Cert.Prod.nt_congr (fun k => ?_) (fun k => ?_))
  · blk_ext [iblk, h0, h2]
  · blk_ext [iblk, h1, h2]

end Cert.Kernel20Ideal.Prod

namespace Cert.Prod

open Idealize.ShloMosaic Idealize.ShloMosaic.TcCoe Idealize.ShloMosaic.Tactic Idealize.SL.Sem

open Cert.Reference15Ideal Cert.Reference15Ideal.Gen Cert.Reference15Ideal.Read in
theorem ref15 (a : FVec Ideal S2048x1024 .bf16) (w : FVec Ideal S1024x1024 .bf16) : val_main_v4 (F := Ideal) a w = nt a w := by
  funext y
  rw [val_main_v4_apply]
  refine Finset.sum_congr rfl fun k _ => ?_
  rw [val_main_v3_apply, val_main_v1_apply]
  refine congrArg₂ (· * ·) (congrArg a ?_) (congrArg w ?_)
  · blk_ext [lidx_main_v4]
  · blk_ext [ridx_main_v4]

theorem agree15 : Cert.algebraic_Kernel15Ideal_Reference15Ideal (hKernel15Ideal := Cert.Kernel15Ideal.Gen.facts)
    (hReference15Ideal := Cert.Reference15Ideal.Gen.facts) := by
  intro m g m' g' _ hag
  refine ⟨fun c => nt (m ((c.tc : Thread _ _).loc Cert.Kernel15Ideal.main_arg0)) (m ((c.tc : Thread _ _).loc Cert.Kernel15Ideal.main_arg1)), ?_, ?_⟩
  · refine (θ_run Cert.Kernel15Ideal.defs _ _).mono (fun r h c => ?_) (Cert.Kernel15Ideal.Value.run_blocks m g)
    exact ⟨(h c).1.trans (Cert.Kernel15Ideal.Prod.arr m c), (h c).2⟩
  · refine (θ_run Cert.Reference15Ideal.defs _ _).mono (fun r h c => ?_) (Cert.Reference15Ideal.Value.run (F := Ideal) m' g')
    obtain ⟨a0, a1⟩ := hag c
    obtain ⟨r0, hargs⟩ := h c
    rw [Cert.Reference15Ideal.Read.val_main_v4_eq, ref15, a0, a1] at r0
    exact ⟨r0, hargs⟩

open Cert.Reference17Ideal Cert.Reference17Ideal.Gen Cert.Reference17Ideal.Read in
theorem ref17 (a : FVec Ideal S2048x1664 .bf16) (w : FVec Ideal S1024x1664 .bf16) : val_main_v4 (F := Ideal) a w = nt a w := by
  funext y
  rw [val_main_v4_apply]
  refine Finset.sum_congr rfl fun k _ => ?_
  rw [val_main_v3_apply, val_main_v1_apply]
  refine congrArg₂ (· * ·) (congrArg a ?_) (congrArg w ?_)
  · blk_ext [lidx_main_v4]
  · blk_ext [ridx_main_v4]

theorem agree17 : Cert.algebraic_Kernel17Ideal_Reference17Ideal (hKernel17Ideal := Cert.Kernel17Ideal.Gen.facts)
    (hReference17Ideal := Cert.Reference17Ideal.Gen.facts) := by
  intro m g m' g' _ hag
  refine ⟨fun c => nt (m ((c.tc : Thread _ _).loc Cert.Kernel17Ideal.main_arg0)) (m ((c.tc : Thread _ _).loc Cert.Kernel17Ideal.main_arg1)), ?_, ?_⟩
  · refine (θ_run Cert.Kernel17Ideal.defs _ _).mono (fun r h c => ?_) (Cert.Kernel17Ideal.Value.run_blocks m g)
    exact ⟨(h c).1.trans (Cert.Kernel17Ideal.Prod.arr m c), (h c).2⟩
  · refine (θ_run Cert.Reference17Ideal.defs _ _).mono (fun r h c => ?_) (Cert.Reference17Ideal.Value.run (F := Ideal) m' g')
    obtain ⟨a0, a1⟩ := hag c
    obtain ⟨r0, hargs⟩ := h c
    rw [Cert.Reference17Ideal.Read.val_main_v4_eq, ref17, a0, a1] at r0
    exact ⟨r0, hargs⟩

open Cert.Reference20Ideal Cert.Reference20Ideal.Gen Cert.Reference20Ideal.Read in
theorem ref20 (a : FVec Ideal S2048x1024 .bf16) (w : FVec Ideal S1792x1024 .bf16) : val_main_v3 (F := Ideal) a w = nt a w := by
  funext y
  rw [val_main_v3_apply]
  refine Finset.sum_congr rfl fun k _ => ?_
  rw [val_main_v0_apply, val_main_v2_apply, val_main_v1_apply]
  refine congrArg₂ (· * ·) (congrArg a ?_) (congrArg w ?_)
  · blk_ext [lidx_main_v3]
  · blk_ext [ridx_main_v3, idx_main_v2]

theorem agree20 : Cert.algebraic_Kernel20Ideal_Reference20Ideal (hKernel20Ideal := Cert.Kernel20Ideal.Gen.facts)
    (hReference20Ideal := Cert.Reference20Ideal.Gen.facts) := by
  intro m g m' g' _ hag
  refine ⟨fun c => nt (m ((c.tc : Thread _ _).loc Cert.Kernel20Ideal.main_arg0)) (m ((c.tc : Thread _ _).loc Cert.Kernel20Ideal.main_arg1)), ?_, ?_⟩
  · refine (θ_run Cert.Kernel20Ideal.defs _ _).mono (fun r h c => ?_) (Cert.Kernel20Ideal.Value.run_blocks m g)
    exact ⟨(h c).1.trans (Cert.Kernel20Ideal.Prod.arr m c), (h c).2⟩
  · refine (θ_run Cert.Reference20Ideal.defs _ _).mono (fun r h c => ?_) (Cert.Reference20Ideal.Value.run (F := Ideal) m' g')
    obtain ⟨a0, a1⟩ := hag c
    obtain ⟨r0, hargs⟩ := h c
    rw [Cert.Reference20Ideal.Read.val_main_v3_eq, ref20, a0, a1] at r0
    exact ⟨r0, hargs⟩

end Cert.Prod

end
-- ==== Proof.ProdGrad.lean ====
/- The gradients of the projections' weights: a point's rows, accumulated over four chunks of the sequence. -/
module

public import proofs.«01_k».proof.Proof.Gen.Kernel14Ideal.Value
public import proofs.«01_k».proof.Proof.Gen.Reference14Ideal.Read
public import proofs.«01_k».proof.Proof.Gen.Kernel16Ideal.Value
public import proofs.«01_k».proof.Proof.Gen.Reference16Ideal.Read
public import proofs.«01_k».proof.Proof.Gen.Kernel18Ideal.Value
public import proofs.«01_k».proof.Proof.Gen.Reference18Ideal.Read
public import proofs.«01_k».proof.Proof.Prod
public import proofs.«01_k».proof.Defs

@[expose] public section

set_option maxRecDepth 16384

noncomputable section

namespace Cert.Kernel14Ideal.Prod

open Idealize.ShloMosaic Idealize.ShloMosaic.TcCoe Idealize.ShloMosaic.Tactic Cert.Kernel14Ideal Cert.Kernel14Ideal.Gen

theorem first (a : Vec Ideal S512x256 .bf16) (b : Vec Ideal S512x1024 .bf16) (x : S256x1024.Idx) : k0_pay3 a b x = Cert.Prod.tn a b x := by
  obtain ⟨i, j, rfl⟩ := Cert.Prod.two x
  refine Eq.trans ?_ (Cert.Prod.tn_apply a b i j).symm
  pointwise [k0_pay3]

theorem next (a : Vec Ideal S512x256 .bf16) (b : Vec Ideal S512x1024 .bf16) (s : Vec Ideal S256x1024 .f32) (x : S256x1024.Idx) :
    k0_pay4 a b s x = s x + Cert.Prod.tn a b x := by
  obtain ⟨i, j, rfl⟩ := Cert.Prod.two x
  refine Eq.trans ?_ (congrArg (s (ix2 i j) + ·) (Cert.Prod.tn_apply a b i j).symm)
  pointwise [k0_pay4]

/-- What a point leaves. -/
theorem out (c : Dev nD) (i : grid0.Coords) (arg1 : Memref sig .tc .vmem S2048x256 .bf16) (harg1 : arg1.IsWhole)
    (arg2 : Memref sig .tc .vmem S2048x1024 .bf16) (harg2 : arg2.IsWhole) (arg3 : Memref sig .tc .vmem S256x1024 .bf16) (harg3 : arg3.IsWhole)
    (arg4 : Memref sig .tc .vmem S256x1024 .f32) (harg4 : arg4.IsWhole) (x0 : Vec Ideal S2048x256 .bf16) (x1 : Vec Ideal S2048x1024 .bf16) :
    out0_A_2 c i arg1 harg1 arg2 harg2 arg3 harg3 arg4 harg4 x0 x1 = Cert.Prod.tn x0 x1 := by
  unfold out0_A_2
  rw [View.read_writes_junk_eq_canon VO0_2]
  unfold kernelRun0_A; dsimp only; sl_unfold_words
  simp only [View.readAt_eq_ld, harg1.read_unread, harg2.read_unread, View.readCov_cons_toLoadRect]
  rw [View.canon_unit_zero Cert.Kernel3Ideal.Ffn.hz]
  exact Cert.Prod.tn_terms first next _ _ _ _ _ _ _ _

theorem idx : ∀ t : Fin cfg0.N, win0_0.index t = ![0, t.val] ∧ win0_1.index t = ![0, 0] ∧ win0_2.index t = ![t.val, 0] := by
  decide +kernel

variable (m : (ℓ : Loc nD τ sig) → Buf (Elt Ideal) ℓ) (c : Dev nD)

/-- The call's result: the gradient of the convolution layers' first weights, kept transposed. -/
theorem arr : ((dats m 0 c).arrAt 2 cfg0.N : FVec Ideal S1792x1024 .bf16)
    = Cert.Prod.tn (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  unfold outsAt0
  rw [out]
  refine Cert.Prod.tn_congr (fun k => ?_) (fun k => ?_)
  · blk_ext [iblk, h0, h2]
  · blk_ext [iblk, h1, h2]

end Cert.Kernel14Ideal.Prod

namespace Cert.Kernel16Ideal.Prod

open Idealize.ShloMosaic Idealize.ShloMosaic.TcCoe Idealize.ShloMosaic.Tactic Cert.Kernel16Ideal Cert.Kernel16Ideal.Gen

theorem first (a : Vec Ideal S512x256 .bf16) (b : Vec Ideal S512x1024 .bf16) (x : S256x1024.Idx) : k0_pay3 a b x = Cert.Prod.tn a b x := by
  obtain ⟨i, j, rfl⟩ := Cert.Prod.two x
  refine Eq.trans ?_ (Cert.Prod.tn_apply a b i j).symm
  pointwise [k0_pay3]

theorem next (a : Vec Ideal S512x256 .bf16) (b : Vec Ideal S512x1024 .bf16) (s : Vec Ideal S256x1024 .f32) (x : S256x1024.Idx) :
    k0_pay4 a b s x = s x + Cert.Prod.tn a b x := by
  obtain ⟨i, j, rfl⟩ := Cert.Prod.two x
  refine Eq.trans ?_ (congrArg (s (ix2 i j) + ·) (Cert.Prod.tn_apply a b i j).symm)
  pointwise [k0_pay4]

/-- What a point leaves. -/
theorem out (c : Dev nD) (i : grid0.Coords) (arg1 : Memref sig .tc .vmem S2048x256 .bf16) (harg1 : arg1.IsWhole)
    (arg2 : Memref sig .tc .vmem S2048x1024 .bf16) (harg2 : arg2.IsWhole) (arg3 : Memref sig .tc .vmem S256x1024 .bf16) (harg3 : arg3.IsWhole)
    (arg4 : Memref sig .tc .vmem S256x1024 .f32) (harg4 : arg4.IsWhole) (x0 : Vec Ideal S2048x256 .bf16) (x1 : Vec Ideal S2048x1024 .bf16) :
    out0_A_2 c i arg1 harg1 arg2 harg2 arg3 harg3 arg4 harg4 x0 x1 = Cert.Prod.tn x0 x1 := by
  unfold out0_A_2
  rw [View.read_writes_junk_eq_canon VO0_2]
  unfold kernelRun0_A; dsimp only; sl_unfold_words
  simp only [View.readAt_eq_ld, harg1.read_unread, harg2.read_unread, View.readCov_cons_toLoadRect]
  rw [View.canon_unit_zero Cert.Kernel3Ideal.Ffn.hz]
  exact Cert.Prod.tn_terms first next _ _ _ _ _ _ _ _

theorem idx : ∀ t : Fin cfg0.N, win0_0.index t = ![0, t.val] ∧ win0_1.index t = ![0, 0] ∧ win0_2.index t = ![t.val, 0] := by
  decide +kernel

variable (m : (ℓ : Loc nD τ sig) → Buf (Elt Ideal) ℓ) (c : Dev nD)

/-- The call's result: the gradient of the attention layer's first weights. -/
theorem arr : ((dats m 0 c).arrAt 2 cfg0.N : FVec Ideal S1024x1024 .bf16)
    = Cert.Prod.tn (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  unfold outsAt0
  rw [out]
  refine Cert.Prod.tn_congr (fun k => ?_) (fun k => ?_)
  · blk_ext [iblk, h0, h2]
  · blk_ext [iblk, h1, h2]

end Cert.Kernel16Ideal.Prod

namespace Cert.Kernel18Ideal.Prod

open Idealize.ShloMosaic Idealize.ShloMosaic.TcCoe Idealize.ShloMosaic.Tactic Cert.Kernel18Ideal Cert.Kernel18Ideal.Gen

theorem first (a : Vec Ideal S512x256 .bf16) (b : Vec Ideal S512x1664 .bf16) (x : S256x1664.Idx) : k0_pay3 a b x = Cert.Prod.tn a b x := by
  obtain ⟨i, j, rfl⟩ := Cert.Prod.two x
  refine Eq.trans ?_ (Cert.Prod.tn_apply a b i j).symm
  pointwise [k0_pay3]

theorem next (a : Vec Ideal S512x256 .bf16) (b : Vec Ideal S512x1664 .bf16) (s : Vec Ideal S256x1664 .f32) (x : S256x1664.Idx) :
    k0_pay4 a b s x = s x + Cert.Prod.tn a b x := by
  obtain ⟨i, j, rfl⟩ := Cert.Prod.two x
  refine Eq.trans ?_ (congrArg (s (ix2 i j) + ·) (Cert.Prod.tn_apply a b i j).symm)
  pointwise [k0_pay4]

/-- What a point leaves. -/
theorem out (c : Dev nD) (i : grid0.Coords) (arg1 : Memref sig .tc .vmem S2048x256 .bf16) (harg1 : arg1.IsWhole)
    (arg2 : Memref sig .tc .vmem S2048x1664 .bf16) (harg2 : arg2.IsWhole) (arg3 : Memref sig .tc .vmem S256x1664 .bf16) (harg3 : arg3.IsWhole)
    (arg4 : Memref sig .tc .vmem S256x1664 .f32) (harg4 : arg4.IsWhole) (x0 : Vec Ideal S2048x256 .bf16) (x1 : Vec Ideal S2048x1664 .bf16) :
    out0_A_2 c i arg1 harg1 arg2 harg2 arg3 harg3 arg4 harg4 x0 x1 = Cert.Prod.tn x0 x1 := by
  unfold out0_A_2
  rw [View.read_writes_junk_eq_canon VO0_2]
  unfold kernelRun0_A; dsimp only; sl_unfold_words
  simp only [View.readAt_eq_ld, harg1.read_unread, harg2.read_unread, View.readCov_cons_toLoadRect]
  rw [View.canon_unit_zero Cert.Kernel3Ideal.Ffn.hz]
  exact Cert.Prod.tn_terms first next _ _ _ _ _ _ _ _

theorem idx : ∀ t : Fin cfg0.N, win0_0.index t = ![0, t.val] ∧ win0_1.index t = ![0, 0] ∧ win0_2.index t = ![t.val, 0] := by
  decide +kernel

variable (m : (ℓ : Loc nD τ sig) → Buf (Elt Ideal) ℓ) (c : Dev nD)

/-- The call's result: the gradient of the shared projection's weights. -/
theorem arr : ((dats m 0 c).arrAt 2 cfg0.N : FVec Ideal S1024x1664 .bf16)
    = Cert.Prod.tn (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  unfold outsAt0
  rw [out]
  refine Cert.Prod.tn_congr (fun k => ?_) (fun k => ?_)
  · blk_ext [iblk, h0, h2]
  · blk_ext [iblk, h1, h2]

end Cert.Kernel18Ideal.Prod

namespace Cert.Prod

open Idealize.ShloMosaic Idealize.ShloMosaic.TcCoe Idealize.ShloMosaic.Tactic Idealize.SL.Sem

open Cert.Reference14Ideal Cert.Reference14Ideal.Gen Cert.Reference14Ideal.Read in
theorem ref14 (a : FVec Ideal S2048x1792 .bf16) (b : FVec Ideal S2048x1024 .bf16) : val_main_v8 (F := Ideal) a b = tn a b := by
  funext y
  rw [val_main_v8_apply, val_main_v7_apply, val_main_v6_apply, val_main_v5_apply]
  refine Finset.sum_congr rfl fun k _ => ?_
  rw [val_main_v4_apply, val_main_v1_apply]
  refine (congrArg₂ (· * ·) (congrArg a ?_) (congrArg b ?_))
  · blk_ext [lidx_main_v5, idx_main_v7, idx_main_v6]
  · blk_ext [ridx_main_v5, idx_main_v7, idx_main_v6]

theorem agree14 : Cert.algebraic_Kernel14Ideal_Reference14Ideal (hKernel14Ideal := Cert.Kernel14Ideal.Gen.facts)
    (hReference14Ideal := Cert.Reference14Ideal.Gen.facts) := by
  intro m g m' g' _ hag
  refine ⟨fun c => tn (m ((c.tc : Thread _ _).loc Cert.Kernel14Ideal.main_arg0)) (m ((c.tc : Thread _ _).loc Cert.Kernel14Ideal.main_arg1)), ?_, ?_⟩
  · refine (θ_run Cert.Kernel14Ideal.defs _ _).mono (fun r h c => ?_) (Cert.Kernel14Ideal.Value.run_blocks m g)
    exact ⟨(h c).1.trans (Cert.Kernel14Ideal.Prod.arr m c), (h c).2⟩
  · refine (θ_run Cert.Reference14Ideal.defs _ _).mono (fun r h c => ?_) (Cert.Reference14Ideal.Value.run (F := Ideal) m' g')
    obtain ⟨a0, a1⟩ := hag c
    obtain ⟨r0, hargs⟩ := h c
    rw [Cert.Reference14Ideal.Read.val_main_v8_eq, ref14, a0, a1] at r0
    exact ⟨r0, hargs⟩

open Cert.Reference16Ideal Cert.Reference16Ideal.Gen Cert.Reference16Ideal.Read in
theorem ref16 (a : FVec Ideal S2048x1024 .bf16) (b : FVec Ideal S2048x1024 .bf16) : val_main_v6 (F := Ideal) a b = tn a b := by
  funext y
  rw [val_main_v6_apply, val_main_v5_apply, val_main_v4_apply]
  refine Finset.sum_congr rfl fun k _ => ?_
  rw [val_main_v3_apply, val_main_v1_apply]
  refine (mul_comm _ _).trans (congrArg₂ (· * ·) (congrArg a ?_) (congrArg b ?_))
  · blk_ext [ridx_main_v4, idx_main_v5]
  · blk_ext [lidx_main_v4, idx_main_v5]

theorem agree16 : Cert.algebraic_Kernel16Ideal_Reference16Ideal (hKernel16Ideal := Cert.Kernel16Ideal.Gen.facts)
    (hReference16Ideal := Cert.Reference16Ideal.Gen.facts) := by
  intro m g m' g' _ hag
  refine ⟨fun c => tn (m ((c.tc : Thread _ _).loc Cert.Kernel16Ideal.main_arg0)) (m ((c.tc : Thread _ _).loc Cert.Kernel16Ideal.main_arg1)), ?_, ?_⟩
  · refine (θ_run Cert.Kernel16Ideal.defs _ _).mono (fun r h c => ?_) (Cert.Kernel16Ideal.Value.run_blocks m g)
    exact ⟨(h c).1.trans (Cert.Kernel16Ideal.Prod.arr m c), (h c).2⟩
  · refine (θ_run Cert.Reference16Ideal.defs _ _).mono (fun r h c => ?_) (Cert.Reference16Ideal.Value.run (F := Ideal) m' g')
    obtain ⟨a0, a1⟩ := hag c
    obtain ⟨r0, hargs⟩ := h c
    rw [Cert.Reference16Ideal.Read.val_main_v6_eq, ref16, a0, a1] at r0
    exact ⟨r0, hargs⟩

open Cert.Reference18Ideal Cert.Reference18Ideal.Gen Cert.Reference18Ideal.Read in
theorem ref18 (a : FVec Ideal S2048x1024 .bf16) (b : FVec Ideal S2048x1664 .bf16) : val_main_v6 (F := Ideal) a b = tn a b := by
  funext y
  rw [val_main_v6_apply, val_main_v5_apply, val_main_v4_apply]
  refine Finset.sum_congr rfl fun k _ => ?_
  rw [val_main_v3_apply, val_main_v1_apply]
  refine (mul_comm _ _).trans (congrArg₂ (· * ·) (congrArg a ?_) (congrArg b ?_))
  · blk_ext [ridx_main_v4, idx_main_v5]
  · blk_ext [lidx_main_v4, idx_main_v5]

theorem agree18 : Cert.algebraic_Kernel18Ideal_Reference18Ideal (hKernel18Ideal := Cert.Kernel18Ideal.Gen.facts)
    (hReference18Ideal := Cert.Reference18Ideal.Gen.facts) := by
  intro m g m' g' _ hag
  refine ⟨fun c => tn (m ((c.tc : Thread _ _).loc Cert.Kernel18Ideal.main_arg0)) (m ((c.tc : Thread _ _).loc Cert.Kernel18Ideal.main_arg1)), ?_, ?_⟩
  · refine (θ_run Cert.Kernel18Ideal.defs _ _).mono (fun r h c => ?_) (Cert.Kernel18Ideal.Value.run_blocks m g)
    exact ⟨(h c).1.trans (Cert.Kernel18Ideal.Prod.arr m c), (h c).2⟩
  · refine (θ_run Cert.Reference18Ideal.defs _ _).mono (fun r h c => ?_) (Cert.Reference18Ideal.Value.run (F := Ideal) m' g')
    obtain ⟨a0, a1⟩ := hag c
    obtain ⟨r0, hargs⟩ := h c
    rw [Cert.Reference18Ideal.Read.val_main_v6_eq, ref18, a0, a1] at r0
    exact ⟨r0, hargs⟩

end Cert.Prod

end
-- ==== Proof.ProdOut.lean ====
/- The output projection, forward and backward. Backward, the first point keeps a narrow copy of the residual gradient and every
   point reads it. -/
module

public import proofs.«01_k».proof.Proof.Gen.Kernel11Ideal.Value
public import proofs.«01_k».proof.Proof.Gen.Reference11Ideal.Read
public import proofs.«01_k».proof.Proof.Gen.Kernel12Ideal.Value
public import proofs.«01_k».proof.Proof.Gen.Reference12Ideal.Read
public import proofs.«01_k».proof.Proof.Gen.Kernel19Ideal.Value
public import proofs.«01_k».proof.Proof.Gen.Reference19Ideal.Read
public import proofs.«01_k».proof.Proof.DAct
public import proofs.«01_k».proof.Proof.Prod
public import proofs.«01_k».proof.Defs

@[expose] public section

set_option maxRecDepth 16384

noncomputable section

namespace Cert.Kernel19Ideal.Prod

open Idealize.ShloMosaic Idealize.ShloMosaic.TcCoe Idealize.ShloMosaic.Tactic Cert.Kernel19Ideal Cert.Kernel19Ideal.Gen

theorem pay (w : Vec Ideal S1024x512 .bf16) (a : Vec Ideal S512x1024 .bf16) (r : Vec Ideal S512x512 .f32) (x : S512x512.Idx) :
    k0_pay1 w a r x = Cert.Prod.nn a w x + r x := by
  obtain ⟨i, j, rfl⟩ := Cert.Prod.two x
  refine Eq.trans ?_ (congrArg (· + r (ix2 i j)) (Cert.Prod.nn_apply a w i j).symm)
  pointwise [k0_pay1]

theorem idx : ∀ t : Fin cfg0.N, win0_0.index t = ![0, 0] ∧ win0_1.index t = ![0, t.val] ∧ win0_2.index t = ![0, t.val]
    ∧ win0_3.index t = ![0, t.val] := by
  decide +kernel

variable (m : (ℓ : Loc nD τ sig) → Buf (Elt Ideal) ℓ) (c : Dev nD)

/-- The heads' outputs times the weights, added to the residual. -/
abbrev spec : FVec Ideal S2048x1024 .f32 :=
  fun y => Cert.Prod.nn (m ((c.tc : Thread nD τ).loc main_arg0)) (m ((c.tc : Thread nD τ).loc main_arg1)) y
    + (m ((c.tc : Thread nD τ).loc main_arg2) : FVec Ideal S2048x1024 .f32) y

theorem arr : ((dats m 0 c).arrAt 3 cfg0.N : FVec Ideal S2048x1024 .f32) = spec m c := by
  refine (dats m 0 c).arrAt_eq_of_covers 3 _ (by decide +kernel) fun t hf y => ?_
  obtain ⟨h0, h1, h2, h3⟩ := idx t
  show (dats m 0 c).after 3 t y = _
  rw [after0_3]
  refine (Cert.Prod.nn_add_stored pay _ _ _ _ _ _ _ _ _ y (cover0_3 _ _ _ _ y)).trans
    (congrArg₂ (· + ·) (Cert.Prod.nn_congr (fun k => ?_) (fun k => ?_)) ?_)
  · blk_ext [iblk, h0, h3]
  · blk_ext [iblk, h1, h3]
  · blk_ext [iblk, h2, h3]

end Cert.Kernel19Ideal.Prod

namespace Cert.Kernel11Ideal.Prod

open Idealize.ShloMosaic Idealize.ShloMosaic.TcCoe Idealize.ShloMosaic.Tactic Cert.Kernel11Ideal Cert.Kernel11Ideal.Gen

theorem pay (w : Vec Ideal S512x1024 .bf16) (a : Vec Ideal S512x1024 .bf16) (x : S512x512.Idx) : k0_pay5 w a x = Cert.Prod.nt a w x := by
  obtain ⟨i, j, rfl⟩ := Cert.Prod.two x
  refine Eq.trans ?_ (Cert.Prod.nt_apply a w i j).symm
  pointwise [k0_pay5]

/-- What is read of the copy is what was copied. -/
theorem cov (arg4 : Memref sig .tc .vmem S2048x1024 .bf16) (x0 : Vec Ideal S2048x1024 .f32) (r : Rect S2048x1024) :
    arg4.view.readCov (Val := Elt Ideal)
      [⟨Rect.unit ![1536, 0] ![512, 1024] inb_S2048x1024_S512x1024_1536_0, k0_pay4 (View.ld x0 (Rect.unit ![1536, 0] ![512, 1024] inb_S2048x1024_S512x1024_1536_0))⟩,
        ⟨Rect.unit ![1024, 0] ![512, 1024] inb_S2048x1024_S512x1024_1024_0, k0_pay3 (View.ld x0 (Rect.unit ![1024, 0] ![512, 1024] inb_S2048x1024_S512x1024_1024_0))⟩,
        ⟨Rect.unit ![512, 0] ![512, 1024] inb_S2048x1024_S512x1024_512_0, k0_pay2 (View.ld x0 (Rect.unit ![512, 0] ![512, 1024] inb_S2048x1024_S512x1024_512_0))⟩,
        ⟨Rect.unit ![0, 0] ![512, 1024] inb_S2048x1024_S512x1024_0_0, k0_pay1 (View.ld x0 (Rect.unit ![0, 0] ![512, 1024] inb_S2048x1024_S512x1024_0_0))⟩] r.toLoadRect
      = View.ld (Val := Elt Ideal) (e' := .bf16) x0 r := by
  rw [View.readCov_eq_canon']
  exact congrArg (fun v => View.ld (Val := Elt Ideal) (e' := .bf16) v r) (Cert.Kernel2Ideal.Ffn.copied x0)

section
variable (c : Dev nD) (i : grid0.Coords) (arg1 : Memref sig .tc .vmem S2048x1024 .f32) (harg1 : arg1.IsWhole)
  (arg2 : Memref sig .tc .vmem S512x1024 .bf16) (harg2 : arg2.IsWhole) (arg3 : Memref sig .tc .vmem S2048x512 .f32)
  (harg3 : arg3.IsWhole) (arg4 : Memref sig .tc .vmem S2048x1024 .bf16) (harg4 : arg4.IsWhole)
  (x0 : Vec Ideal S2048x1024 .f32) (x1 : Vec Ideal S512x1024 .bf16) (xs0 : Vec Ideal S2048x1024 .bf16)

theorem outB (hc0 : ¬cond0_0 i) :
    out0_B_2 c i arg1 harg1 arg2 harg2 arg3 harg3 arg4 harg4 hc0 x0 x1 xs0 = Cert.Prod.nt xs0 x1 := by
  funext y
  unfold out0_B_2
  rw [View.read_writes_junk_eq_canon VO0_2]
  unfold kernelRun0_B; dsimp only; sl_unfold_words
  simp only [View.readAt_eq_ld, harg2.read_unread, harg4.read_unread]
  exact Cert.Prod.nt_stored pay _ _ _ _ _ _ _ _ _ y (View.cover_of_tiled_head _ _ _ rfl _)

theorem outA (hc0 : cond0_0 i) :
    out0_A_2 c i arg1 harg1 arg2 harg2 arg3 harg3 arg4 harg4 hc0 x0 x1 = Cert.Prod.nt x0 x1 := by
  funext y
  unfold out0_A_2
  rw [View.read_writes_junk_eq_canon VO0_2]
  unfold kernelRun0_A; dsimp only; sl_unfold_words
  simp only [View.readAt_eq_ld, harg1.read_unread, harg2.read_unread, cov]
  exact Cert.Prod.nt_stored pay _ _ _ _ _ _ _ _ _ y (View.cover_of_tiled_head _ _ _ rfl _)

theorem soutA (hc0 : cond0_0 i) :
    sout0_A_0 c i arg1 harg1 arg2 harg2 arg3 harg3 arg4 harg4 hc0 x0 x1 = x0 := by
  unfold sout0_A_0
  rw [View.read_writes_junk_eq_canon VS0_0]
  unfold kernelRun0_A; dsimp only; sl_unfold_words
  simp only [View.readAt_eq_ld, harg1.read_unread]
  exact Cert.Kernel2Ideal.Ffn.copied x0
end

theorem idx : ∀ t : Fin cfg0.N, win0_0.index t = ![0, 0] ∧ win0_1.index t = ![t.val, 0] ∧ win0_2.index t = ![0, t.val] := by
  decide +kernel

variable (m : (ℓ : Loc nD τ sig) → Buf (Elt Ideal) ℓ) (c : Dev nD)

/-- The residual gradient's block is all of it. -/
theorem whole (t : Fin cfg0.N) : (iblk m c 0 t : Vec Ideal S2048x1024 .f32) = (m ((c.tc : Thread nD τ).loc main_arg1) : FVec Ideal S2048x1024 .f32) := by
  funext y
  obtain ⟨h0, -, -⟩ := idx t
  blk_ext [iblk, h0]

/-- The copy after any point. -/
theorem held : ∀ (n : ℕ) (hn : n < cfg0.N), (outsAt0 m c n hn).2 = (m ((c.tc : Thread nD τ).loc main_arg1) : FVec Ideal S2048x1024 .f32)
  | 0, hn => by
    rw [outsAt0_A m c ⟨0, hn⟩ rfl]
    dsimp only
    rw [soutA]
    exact whole m c _
  | n + 1, hn => by
    have hN : cfg0.N = 2 := N_0
    rw [outsAt0_B m c ⟨n + 1, hn⟩ (by dsimp only; omega)]
    exact held n (Nat.lt_of_succ_lt hn)

/-- What a point leaves, over the residual gradient. -/
theorem point (t : Fin cfg0.N) : (outsAt0 m c t.val t.isLt).1 = Cert.Prod.nt (m ((c.tc : Thread nD τ).loc main_arg1)) (iblk m c 1 t) := by
  by_cases h : t.val % 2 = 0
  · rw [outsAt0_A m c t h]
    dsimp only
    rw [outA, whole]
  · rw [outsAt0_B m c t h]
    dsimp only
    rw [outB, held]

/-- The gradient of the heads' outputs. -/
theorem arr : ((dats m 0 c).arrAt 2 cfg0.N : FVec Ideal S2048x1024 .f32)
    = Cert.Prod.nt (m ((c.tc : Thread nD τ).loc main_arg1)) (m ((c.tc : Thread nD τ).loc main_arg0)) := by
  refine (dats m 0 c).arrAt_eq_of_covers 2 _ (by decide +kernel) fun t hf y => ?_
  obtain ⟨h0, h1, h2⟩ := idx t
  show (dats m 0 c).after 2 t y = _
  rw [after0_2]
  refine (congrFun (point m c t) y).trans (Cert.Prod.nt_congr (fun k => ?_) (fun k => ?_))
  · blk_ext [h2]
  · blk_ext [iblk, h1, h2]

end Cert.Kernel11Ideal.Prod

namespace Cert.Kernel12Ideal.Prod

open Idealize.ShloMosaic Idealize.ShloMosaic.TcCoe Idealize.ShloMosaic.Tactic Cert.Kernel12Ideal Cert.Kernel12Ideal.Gen

/-- What is read of the copy is what was copied. -/
theorem cov (arg5 : Memref sig .tc .vmem S2048x1024 .bf16) (x1 : Vec Ideal S2048x1024 .f32) (r : Rect S2048x1024) :
    arg5.view.readCov (Val := Elt Ideal)
      [⟨Rect.unit ![1536, 0] ![512, 1024] inb_S2048x1024_S512x1024_1536_0, k0_pay7 (View.ld x1 (Rect.unit ![1536, 0] ![512, 1024] inb_S2048x1024_S512x1024_1536_0))⟩,
        ⟨Rect.unit ![1024, 0] ![512, 1024] inb_S2048x1024_S512x1024_1024_0, k0_pay6 (View.ld x1 (Rect.unit ![1024, 0] ![512, 1024] inb_S2048x1024_S512x1024_1024_0))⟩,
        ⟨Rect.unit ![512, 0] ![512, 1024] inb_S2048x1024_S512x1024_512_0, k0_pay5 (View.ld x1 (Rect.unit ![512, 0] ![512, 1024] inb_S2048x1024_S512x1024_512_0))⟩,
        ⟨Rect.unit ![0, 0] ![512, 1024] inb_S2048x1024_S512x1024_0_0, k0_pay4 (View.ld x1 (Rect.unit ![0, 0] ![512, 1024] inb_S2048x1024_S512x1024_0_0))⟩] r.toLoadRect
      = View.ld (Val := Elt Ideal) (e' := .bf16) x1 r := by
  rw [View.readCov_eq_canon']
  exact congrArg (fun v => View.ld (Val := Elt Ideal) (e' := .bf16) v r) (Cert.Kernel3Ideal.Ffn.copied x1)

section
variable (c : Dev nD) (i : grid0.Coords) (arg1 : Memref sig .tc .vmem S2048x256 .bf16) (harg1 : arg1.IsWhole)
  (arg2 : Memref sig .tc .vmem S2048x1024 .f32) (harg2 : arg2.IsWhole) (arg3 : Memref sig .tc .vmem S256x1024 .bf16)
  (harg3 : arg3.IsWhole) (arg4 : Memref sig .tc .vmem S256x1024 .f32) (harg4 : arg4.IsWhole)
  (arg5 : Memref sig .tc .vmem S2048x1024 .bf16) (harg5 : arg5.IsWhole)
  (x0 : Vec Ideal S2048x256 .bf16) (x1 : Vec Ideal S2048x1024 .f32) (xs1 : Vec Ideal S2048x1024 .bf16)

theorem outB (hc0 : ¬cond0_0 i) :
    out0_B_2 c i arg1 harg1 arg2 harg2 arg3 harg3 arg4 harg4 arg5 harg5 hc0 x0 x1 xs1 = Cert.Prod.tn x0 xs1 := by
  unfold out0_B_2
  rw [View.read_writes_junk_eq_canon VO0_2]
  unfold kernelRun0_B; dsimp only; sl_unfold_words
  simp only [View.readAt_eq_ld, harg1.read_unread, harg5.read_unread, View.readCov_cons_toLoadRect]
  rw [View.canon_unit_zero Cert.Kernel3Ideal.Ffn.hz]
  exact Cert.Kernel3Ideal.Ffn.chunks x0 xs1

theorem outA (hc0 : cond0_0 i) :
    out0_A_2 c i arg1 harg1 arg2 harg2 arg3 harg3 arg4 harg4 arg5 harg5 hc0 x0 x1 = Cert.Prod.tn x0 x1 := by
  unfold out0_A_2
  rw [View.read_writes_junk_eq_canon VO0_2]
  unfold kernelRun0_A; dsimp only; sl_unfold_words
  simp only [View.readAt_eq_ld, harg1.read_unread, harg2.read_unread, cov]
  simp only [View.readCov_cons_toLoadRect]
  rw [View.canon_unit_zero Cert.Kernel3Ideal.Ffn.hz]
  exact Cert.Kernel3Ideal.Ffn.chunks x0 x1

theorem soutA (hc0 : cond0_0 i) :
    sout0_A_1 c i arg1 harg1 arg2 harg2 arg3 harg3 arg4 harg4 arg5 harg5 hc0 x0 x1 = x1 := by
  unfold sout0_A_1
  rw [View.read_writes_junk_eq_canon VS0_1]
  unfold kernelRun0_A; dsimp only; sl_unfold_words
  simp only [View.readAt_eq_ld, harg2.read_unread]
  exact Cert.Kernel3Ideal.Ffn.copied x1
end

theorem idx : ∀ t : Fin cfg0.N, win0_0.index t = ![0, t.val] ∧ win0_1.index t = ![0, 0] ∧ win0_2.index t = ![t.val, 0] := by
  decide +kernel

variable (m : (ℓ : Loc nD τ sig) → Buf (Elt Ideal) ℓ) (c : Dev nD)

/-- The residual gradient's block is all of it. -/
theorem whole (t : Fin cfg0.N) : (iblk m c 1 t : Vec Ideal S2048x1024 .f32) = (m ((c.tc : Thread nD τ).loc main_arg1) : FVec Ideal S2048x1024 .f32) := by
  funext y
  obtain ⟨-, h1, -⟩ := idx t
  blk_ext [iblk, h1]

/-- The copy after any point. -/
theorem held : ∀ (n : ℕ) (hn : n < cfg0.N), (outsAt0 m c n hn).2 = (m ((c.tc : Thread nD τ).loc main_arg1) : FVec Ideal S2048x1024 .f32)
  | 0, hn => by
    rw [outsAt0_A m c ⟨0, hn⟩ rfl]
    dsimp only
    rw [soutA]
    exact whole m c _
  | n + 1, hn => by
    have hN : cfg0.N = 4 := N_0
    rw [outsAt0_B m c ⟨n + 1, hn⟩ (by dsimp only; omega)]
    exact held n (Nat.lt_of_succ_lt hn)

/-- What a point leaves, over the residual gradient. -/
theorem point (t : Fin cfg0.N) : (outsAt0 m c t.val t.isLt).1 = Cert.Prod.tn (iblk m c 0 t) (m ((c.tc : Thread nD τ).loc main_arg1)) := by
  by_cases h : t.val % 4 = 0
  · rw [outsAt0_A m c t h]
    dsimp only
    rw [outA, whole]
  · rw [outsAt0_B m c t h]
    dsimp only
    rw [outB, held]

/-- The gradient of the output projection's weights. -/
theorem arr : ((dats m 0 c).arrAt 2 cfg0.N : FVec Ideal S1024x1024 .bf16)
    = Cert.Prod.tn (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  refine (congrFun (point m c t) y).trans (Cert.Prod.tn_congr (fun k => ?_) (fun k => ?_))
  · blk_ext [iblk, h0, h2]
  · blk_ext [h2]

end Cert.Kernel12Ideal.Prod

namespace Cert.Prod

open Idealize.ShloMosaic Idealize.ShloMosaic.TcCoe Idealize.ShloMosaic.Tactic Idealize.SL.Sem

open Cert.Reference19Ideal Cert.Reference19Ideal.Gen Cert.Reference19Ideal.Read in
theorem ref19 (a : FVec Ideal S2048x1024 .bf16) (w : FVec Ideal S1024x1024 .bf16) (x : FVec Ideal S2048x1024 .f32) :
    val_main_v3 (F := Ideal) a w x = fun y => nn a w y + x y := by
  funext y
  rw [val_main_v3_apply, val_main_v2_apply]
  refine (add_comm _ _).trans (congrArg₂ (· + ·) (Finset.sum_congr rfl fun k _ => ?_) rfl)
  rw [val_main_v0_apply, val_main_v1_apply]
  refine congrArg₂ (· * ·) (congrArg a ?_) (congrArg w ?_)
  · blk_ext [lidx_main_v2]
  · blk_ext [ridx_main_v2]

theorem agree19 : Cert.algebraic_Kernel19Ideal_Reference19Ideal (hKernel19Ideal := Cert.Kernel19Ideal.Gen.facts)
    (hReference19Ideal := Cert.Reference19Ideal.Gen.facts) := by
  intro m g m' g' _ hag
  refine ⟨fun c => Cert.Kernel19Ideal.Prod.spec m c, ?_, ?_⟩
  · refine (θ_run Cert.Kernel19Ideal.defs _ _).mono (fun r h c => ?_) (Cert.Kernel19Ideal.Value.run_blocks m g)
    exact ⟨(h c).1.trans (Cert.Kernel19Ideal.Prod.arr m c), (h c).2⟩
  · refine (θ_run Cert.Reference19Ideal.defs _ _).mono (fun r h c => ?_) (Cert.Reference19Ideal.Value.run (F := Ideal) m' g')
    obtain ⟨a0, a1, a2⟩ := hag c
    obtain ⟨r0, hargs⟩ := h c
    rw [Cert.Reference19Ideal.Read.val_main_v3_eq, ref19, a0, a1, a2] at r0
    exact ⟨r0, hargs⟩

open Cert.Reference11Ideal Cert.Reference11Ideal.Gen Cert.Reference11Ideal.Read in
theorem ref11 (w : FVec Ideal S1024x1024 .bf16) (g : FVec Ideal S2048x1024 .f32) : val_main_v3 (F := Ideal) w g = nt g w := by
  funext y
  rw [val_main_v3_apply]
  refine Finset.sum_congr rfl fun k _ => congrArg₂ (· * ·) (congrArg g ?_) ?_
  · blk_ext [lidx_main_v3]
  · rw [val_main_v1_apply]
    exact congrArg w (by blk_ext [ridx_main_v3])

theorem agree11 : Cert.algebraic_Kernel11Ideal_Reference11Ideal (hKernel11Ideal := Cert.Kernel11Ideal.Gen.facts)
    (hReference11Ideal := Cert.Reference11Ideal.Gen.facts) := by
  intro m g m' g' _ hag
  refine ⟨fun c => nt (m ((c.tc : Thread _ _).loc Cert.Kernel11Ideal.main_arg1)) (m ((c.tc : Thread _ _).loc Cert.Kernel11Ideal.main_arg0)), ?_, ?_⟩
  · refine (θ_run Cert.Kernel11Ideal.defs _ _).mono (fun r h c => ?_) (Cert.Kernel11Ideal.Value.run_blocks m g)
    exact ⟨(h c).1.trans (Cert.Kernel11Ideal.Prod.arr m c), (h c).2⟩
  · refine (θ_run Cert.Reference11Ideal.defs _ _).mono (fun r h c => ?_) (Cert.Reference11Ideal.Value.run (F := Ideal) m' g')
    obtain ⟨a0, a1⟩ := hag c
    obtain ⟨r0, hargs⟩ := h c
    rw [Cert.Reference11Ideal.Read.val_main_v3_eq, ref11, a0, a1] at r0
    exact ⟨r0, hargs⟩

open Cert.Reference12Ideal Cert.Reference12Ideal.Gen Cert.Reference12Ideal.Read in
theorem ref12 (a : FVec Ideal S2048x1024 .bf16) (g : FVec Ideal S2048x1024 .f32) : val_main_v5 (F := Ideal) a g = tn a g := by
  funext y
  rw [val_main_v5_apply, val_main_v4_apply, val_main_v3_apply]
  refine Finset.sum_congr rfl fun k _ => (mul_comm _ _).trans (congrArg₂ (· * ·) ?_ (congrArg g ?_))
  · rw [val_main_v1_apply]
    exact congrArg a (by blk_ext [ridx_main_v3, idx_main_v4])
  · blk_ext [lidx_main_v3, idx_main_v4]

theorem agree12 : Cert.algebraic_Kernel12Ideal_Reference12Ideal (hKernel12Ideal := Cert.Kernel12Ideal.Gen.facts)
    (hReference12Ideal := Cert.Reference12Ideal.Gen.facts) := by
  intro m g m' g' _ hag
  refine ⟨fun c => tn (m ((c.tc : Thread _ _).loc Cert.Kernel12Ideal.main_arg0)) (m ((c.tc : Thread _ _).loc Cert.Kernel12Ideal.main_arg1)), ?_, ?_⟩
  · refine (θ_run Cert.Kernel12Ideal.defs _ _).mono (fun r h c => ?_) (Cert.Kernel12Ideal.Value.run_blocks m g)
    exact ⟨(h c).1.trans (Cert.Kernel12Ideal.Prod.arr m c), (h c).2⟩
  · refine (θ_run Cert.Reference12Ideal.defs _ _).mono (fun r h c => ?_) (Cert.Reference12Ideal.Value.run (F := Ideal) m' g')
    obtain ⟨a0, a1⟩ := hag c
    obtain ⟨r0, hargs⟩ := h c
    rw [Cert.Reference12Ideal.Read.val_main_v5_eq, ref12, a0, a1] at r0
    exact ⟨r0, hargs⟩

end Cert.Prod

end
-- ==== Proof.ProdMem.lean ====
/- The projection of the memory and its two gradients: 256 rows, all in one chunk. -/
module

public import proofs.«01_k».proof.Proof.Gen.Kernel23Ideal.Value
public import proofs.«01_k».proof.Proof.Gen.Reference23Ideal.Read
public import proofs.«01_k».proof.Proof.Gen.Kernel24Ideal.Value
public import proofs.«01_k».proof.Proof.Gen.Reference24Ideal.Read
public import proofs.«01_k».proof.Proof.Gen.Kernel25Ideal.Value
public import proofs.«01_k».proof.Proof.Gen.Reference25Ideal.Read
public import proofs.«01_k».proof.Proof.Prod
public import proofs.«01_k».proof.Defs

@[expose] public section

set_option maxRecDepth 16384

noncomputable section

namespace Cert.Kernel23Ideal.Prod

open Idealize.ShloMosaic Idealize.ShloMosaic.TcCoe Idealize.ShloMosaic.Tactic Cert.Kernel23Ideal Cert.Kernel23Ideal.Gen

theorem pay (w : Vec Ideal S512x512 .bf16) (a : Vec Ideal S256x512 .bf16) (r : Vec Ideal S256x512 .f32) (x : S256x512.Idx) :
    k0_pay1 w a r x = Cert.Prod.nt a w x + r x := by
  obtain ⟨i, j, rfl⟩ := Cert.Prod.two x
  refine Eq.trans ?_ (congrArg (· + r (ix2 i j)) (Cert.Prod.nt_apply a w i j).symm)
  pointwise [k0_pay1]

theorem idx : ∀ t : Fin cfg0.N, win0_0.index t = ![0, 0] ∧ win0_1.index t = ![t.val, 0] ∧ win0_2.index t = ![0, t.val]
    ∧ win0_3.index t = ![0, t.val] := by
  decide +kernel

variable (m : (ℓ : Loc nD τ sig) → Buf (Elt Ideal) ℓ) (c : Dev nD)

/-- The gradient of the normed memory, added to the one of the layers above. -/
abbrev spec : FVec Ideal S256x1024 .f32 :=
  fun y => Cert.Prod.nt (m ((c.tc : Thread nD τ).loc main_arg0)) (m ((c.tc : Thread nD τ).loc main_arg1)) y
    + (m ((c.tc : Thread nD τ).loc main_arg2) : FVec Ideal S256x1024 .f32) y

theorem arr : ((dats m 0 c).arrAt 3 cfg0.N : FVec Ideal S256x1024 .f32) = spec m c := by
  refine (dats m 0 c).arrAt_eq_of_covers 3 _ (by decide +kernel) fun t hf y => ?_
  obtain ⟨h0, h1, h2, h3⟩ := idx t
  show (dats m 0 c).after 3 t y = _
  rw [after0_3]
  unfold out0_3
  rw [View.canon_unit_zero Cert.Kernel3Ideal.Ffn.hz, View.ld_unit_zero Cert.Kernel3Ideal.Ffn.hz, View.ld_unit_zero Cert.Kernel3Ideal.Ffn.hz,
    View.ld_unit_zero Cert.Kernel3Ideal.Ffn.hz]
  refine (pay _ _ _ y).trans (congrArg₂ (· + ·) (Cert.Prod.nt_congr (fun k => ?_) (fun k => ?_)) ?_)
  · blk_ext [iblk, h0, h3]
  · blk_ext [iblk, h1, h3]
  · blk_ext [iblk, h2, h3]

end Cert.Kernel23Ideal.Prod

namespace Cert.Kernel24Ideal.Prod

open Idealize.ShloMosaic Idealize.ShloMosaic.TcCoe Idealize.ShloMosaic.Tactic Cert.Kernel24Ideal Cert.Kernel24Ideal.Gen

theorem pay (a : Vec Ideal S256x256 .bf16) (b : Vec Ideal S256x512 .bf16) (x : S256x512.Idx) : k0_pay2 (k0_pay1 a b) x = Cert.Prod.tn a b x := by
  obtain ⟨i, j, rfl⟩ := Cert.Prod.two x
  refine Eq.trans ?_ (Cert.Prod.tn_apply a b i j).symm
  pointwise [k0_pay2, k0_pay1]

/-- What a point leaves. -/
theorem out (c : Dev nD) (i : grid0.Coords) (arg1 : Memref sig .tc .vmem S256x256 .bf16) (harg1 : arg1.IsWhole)
    (arg2 : Memref sig .tc .vmem S256x512 .bf16) (harg2 : arg2.IsWhole) (arg3 : Memref sig .tc .vmem S256x512 .bf16) (harg3 : arg3.IsWhole)
    (arg4 : Memref sig .tc .vmem S256x512 .f32) (harg4 : arg4.IsWhole) (x0 : Vec Ideal S256x256 .bf16) (x1 : Vec Ideal S256x512 .bf16) :
    out0_A_2 c i arg1 harg1 arg2 harg2 arg3 harg3 arg4 harg4 x0 x1 = Cert.Prod.tn x0 x1 := by
  unfold out0_A_2
  rw [View.read_writes_junk_eq_canon VO0_2]
  unfold kernelRun0_A; dsimp only; sl_unfold_words
  simp only [View.readAt_eq_ld, harg1.read_unread, harg2.read_unread, View.readCov_cons_toLoadRect]
  rw [View.canon_unit_zero Cert.Kernel3Ideal.Ffn.hz, View.ld_unit_zero Cert.Kernel3Ideal.Ffn.hz, View.ld_unit_zero Cert.Kernel3Ideal.Ffn.hz]
  exact funext (pay x0 x1)

theorem idx : ∀ t : Fin cfg0.N, win0_0.index t = ![0, t.val] ∧ win0_1.index t = ![0, 0] ∧ win0_2.index t = ![t.val, 0] := by
  decide +kernel

variable (m : (ℓ : Loc nD τ sig) → Buf (Elt Ideal) ℓ) (c : Dev nD)

/-- The call's result: the gradient of the memory projection's weights. -/
theorem arr : ((dats m 0 c).arrAt 2 cfg0.N : FVec Ideal S1024x512 .bf16)
    = Cert.Prod.tn (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  unfold outsAt0
  rw [out]
  refine Cert.Prod.tn_congr (fun k => ?_) (fun k => ?_)
  · blk_ext [iblk, h0, h2]
  · blk_ext [iblk, h1, h2]

end Cert.Kernel24Ideal.Prod

namespace Cert.Kernel25Ideal.Prod

open Idealize.ShloMosaic Idealize.ShloMosaic.TcCoe Idealize.ShloMosaic.Tactic Cert.Kernel25Ideal Cert.Kernel25Ideal.Gen

theorem pay (w : Vec Ideal S1024x512 .bf16) (a : Vec Ideal S256x1024 .bf16) (x : S256x512.Idx) : k0_pay1 w a x = Cert.Prod.nn a w x := by
  obtain ⟨i, j, rfl⟩ := Cert.Prod.two x
  refine Eq.trans ?_ (Cert.Prod.nn_apply a w i j).symm
  pointwise [k0_pay1]

theorem idx : ∀ t : Fin cfg0.N, win0_0.index t = ![0, 0] ∧ win0_1.index t = ![0, t.val] ∧ win0_2.index t = ![0, t.val] := by
  decide +kernel

variable (m : (ℓ : Loc nD τ sig) → Buf (Elt Ideal) ℓ) (c : Dev nD)

/-- The memory's keys and values. -/
abbrev spec : FVec Ideal S256x512 .bf16 :=
  fun y => Cert.Prod.nn (m ((c.tc : Thread nD τ).loc main_arg0)) (m ((c.tc : Thread nD τ).loc main_arg1)) y

theorem arr : ((dats m 0 c).arrAt 2 cfg0.N : FVec Ideal S256x512 .bf16) = spec m c := by
  refine (dats m 0 c).arrAt_eq_of_covers 2 _ (by decide +kernel) fun t hf y => ?_
  obtain ⟨h0, h1, h2⟩ := idx t
  show (dats m 0 c).after 2 t y = _
  rw [after0_2]
  unfold out0_2
  rw [View.canon_unit_zero Cert.Kernel3Ideal.Ffn.hz, View.ld_unit_zero Cert.Kernel3Ideal.Ffn.hz, View.ld_unit_zero Cert.Kernel3Ideal.Ffn.hz]
  refine (pay _ _ y).trans (Cert.Prod.nn_congr (fun k => ?_) (fun k => ?_))
  · blk_ext [iblk, h0, h2]
  · blk_ext [iblk, h1, h2]

end Cert.Kernel25Ideal.Prod

namespace Cert.Prod

open Idealize.ShloMosaic Idealize.ShloMosaic.TcCoe Idealize.ShloMosaic.Tactic Idealize.SL.Sem

open Cert.Reference23Ideal Cert.Reference23Ideal.Gen Cert.Reference23Ideal.Read in
theorem ref23 (a : FVec Ideal S256x512 .bf16) (w : FVec Ideal S1024x512 .bf16) (x : FVec Ideal S256x1024 .f32) :
    val_main_v5 (F := Ideal) a w x = fun y => nt a w y + x y := by
  funext y
  rw [val_main_v5_apply, val_main_v4_apply]
  refine (add_comm _ _).trans (congrArg₂ (· + ·) (Finset.sum_congr rfl fun k _ => ?_) rfl)
  rw [val_main_v3_apply, val_main_v1_apply]
  refine congrArg₂ (· * ·) (congrArg a ?_) (congrArg w ?_)
  · blk_ext [lidx_main_v4]
  · blk_ext [ridx_main_v4]

theorem agree23 : Cert.algebraic_Kernel23Ideal_Reference23Ideal (hKernel23Ideal := Cert.Kernel23Ideal.Gen.facts)
    (hReference23Ideal := Cert.Reference23Ideal.Gen.facts) := by
  intro m g m' g' _ hag
  refine ⟨fun c => Cert.Kernel23Ideal.Prod.spec m c, ?_, ?_⟩
  · refine (θ_run Cert.Kernel23Ideal.defs _ _).mono (fun r h c => ?_) (Cert.Kernel23Ideal.Value.run_blocks m g)
    exact ⟨(h c).1.trans (Cert.Kernel23Ideal.Prod.arr m c), (h c).2⟩
  · refine (θ_run Cert.Reference23Ideal.defs _ _).mono (fun r h c => ?_) (Cert.Reference23Ideal.Value.run (F := Ideal) m' g')
    obtain ⟨a0, a1, a2⟩ := hag c
    obtain ⟨r0, hargs⟩ := h c
    rw [Cert.Reference23Ideal.Read.val_main_v5_eq, ref23, a0, a1, a2] at r0
    exact ⟨r0, hargs⟩

open Cert.Reference24Ideal Cert.Reference24Ideal.Gen Cert.Reference24Ideal.Read in
theorem ref24 (a : FVec Ideal S256x1024 .bf16) (b : FVec Ideal S256x512 .bf16) : val_main_v6 (F := Ideal) a b = tn a b := by
  funext y
  rw [val_main_v6_apply, val_main_v5_apply, val_main_v4_apply]
  refine Finset.sum_congr rfl fun k _ => ?_
  rw [val_main_v3_apply, val_main_v1_apply]
  refine (mul_comm _ _).trans (congrArg₂ (· * ·) (congrArg a ?_) (congrArg b ?_))
  · blk_ext [ridx_main_v4, idx_main_v5]
  · blk_ext [lidx_main_v4, idx_main_v5]

theorem agree24 : Cert.algebraic_Kernel24Ideal_Reference24Ideal (hKernel24Ideal := Cert.Kernel24Ideal.Gen.facts)
    (hReference24Ideal := Cert.Reference24Ideal.Gen.facts) := by
  intro m g m' g' _ hag
  refine ⟨fun c => tn (m ((c.tc : Thread _ _).loc Cert.Kernel24Ideal.main_arg0)) (m ((c.tc : Thread _ _).loc Cert.Kernel24Ideal.main_arg1)), ?_, ?_⟩
  · refine (θ_run Cert.Kernel24Ideal.defs _ _).mono (fun r h c => ?_) (Cert.Kernel24Ideal.Value.run_blocks m g)
    exact ⟨(h c).1.trans (Cert.Kernel24Ideal.Prod.arr m c), (h c).2⟩
  · refine (θ_run Cert.Reference24Ideal.defs _ _).mono (fun r h c => ?_) (Cert.Reference24Ideal.Value.run (F := Ideal) m' g')
    obtain ⟨a0, a1⟩ := hag c
    obtain ⟨r0, hargs⟩ := h c
    rw [Cert.Reference24Ideal.Read.val_main_v6_eq, ref24, a0, a1] at r0
    exact ⟨r0, hargs⟩

open Cert.Reference25Ideal Cert.Reference25Ideal.Gen Cert.Reference25Ideal.Read in
theorem ref25 (a : FVec Ideal S256x1024 .bf16) (w : FVec Ideal S1024x512 .bf16) :
    val_main_v3 (F := Ideal) a w = fun y => (nn a w y : Ideal .bf16) := by
  funext y
  rw [val_main_v3_apply, val_main_v2_apply]
  refine Finset.sum_congr rfl fun k _ => ?_
  rw [val_main_v0_apply, val_main_v1_apply]
  refine congrArg₂ (· * ·) (congrArg a ?_) (congrArg w ?_)
  · blk_ext [lidx_main_v2]
  · blk_ext [ridx_main_v2]

theorem agree25 : Cert.algebraic_Kernel25Ideal_Reference25Ideal (hKernel25Ideal := Cert.Kernel25Ideal.Gen.facts)
    (hReference25Ideal := Cert.Reference25Ideal.Gen.facts) := by
  intro m g m' g' _ hag
  refine ⟨fun c => Cert.Kernel25Ideal.Prod.spec m c, ?_, ?_⟩
  · refine (θ_run Cert.Kernel25Ideal.defs _ _).mono (fun r h c => ?_) (Cert.Kernel25Ideal.Value.run_blocks m g)
    exact ⟨(h c).1.trans (Cert.Kernel25Ideal.Prod.arr m c), (h c).2⟩
  · refine (θ_run Cert.Reference25Ideal.defs _ _).mono (fun r h c => ?_) (Cert.Reference25Ideal.Value.run (F := Ideal) m' g')
    obtain ⟨a0, a1⟩ := hag c
    obtain ⟨r0, hargs⟩ := h c
    rw [Cert.Reference25Ideal.Read.val_main_v3_eq, ref25, a0, a1] at r0
    exact ⟨r0, hargs⟩

end Cert.Prod

end
-- ==== Proof.MemFwd.lean ====
/- The memory attention's forward call: one head's probabilities and output over the 256 keys, the heads told apart by a mask on
   the channels. -/
module

public import proofs.«01_k».proof.Proof.Gen.Kernel26Ideal.Value
public import proofs.«01_k».proof.Proof.Gen.Reference26Ideal.Read
public import proofs.«01_k».proof.Proof.Gen.Kernel27Ideal.Value
public import proofs.«01_k».proof.Proof.Gen.Reference27Ideal.Read
public import proofs.«01_k».proof.Proof.Blocks
public import proofs.«01_k».proof.Proof.RefValue
public import proofs.«01_k».proof.Proof.Prod
public import proofs.«01_k».proof.Defs

@[expose] public section

set_option maxRecDepth 65536

noncomputable section

namespace Cert.Kernel26Ideal.Mem

open Idealize.ShloMosaic Idealize.ShloMosaic.TcCoe Idealize.ShloMosaic.Tactic Cert.Kernel26Ideal Cert.Kernel26Ideal.Gen

variable (mk : IVec S1x256 1) (q : FVec Ideal S256x256 .f32) (k v : FVec Ideal S256x256 .bf16)

/-- The channels from `lo` up to `hi`. -/
def MK (lo hi : BitVec 32) : IVec S1x256 1 :=
  andi (cmpi .sge (iota .tc S1x256 32 [1] iota_S1x256_d1_w32) (broadcast S1x256 lo)) (cmpi .slt (iota .tc S1x256 32 [1] iota_S1x256_d1_w32) (broadcast S1x256 hi))

/-- A mask for every row. -/
def ROWS : IVec S256x256 1 := broadcastTo S256x256 (shapeCast S1x256 mk shapeCasts_S1x256_S1x256) broadcasts_S1x256_S256x256

/-- A head's scores. -/
def SC : FVec Ideal S256x256 .f32 :=
  mulf (matmul dot_S256x256_S256x256_S256x256_1_1_0_0_n_n none (truncf .bf16 (select (ROWS mk) q (broadcast S256x256 (Scalar.ofBits .f32 0x00000000#32))) bitsLt_bf16_f32) k
    (constant S256x256 .f32 0x00000000#32)) (broadcast S256x256 (Scalar.ofBits .f32 0x3E000000#32))

/-- The exponentials of scores, less their row's maximum. -/
def EX (s : FVec Ideal S256x256 .f32) : FVec Ideal S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))

/-- Each row divided by its sum. -/
def NORM (e : FVec Ideal S256x256 .f32) : FVec Ideal S256x256 .f32 :=
  divf e (broadcastTo S256x256 (shapeCast S256x1 (multiReduction .add [1] S256 e 0x00000000#32 reduces_S256x256_S256 (.inl rfl) rfl) shapeCasts_S256_S256x1) broadcasts_S256x1_S256x256)

/-- Probabilities against the values of the mask's channels. -/
def OUT (p : FVec Ideal S256x256 .f32) : FVec Ideal S256x256 .f32 :=
  matmul dot_S256x256_S256x256_S256x256_1_0_0_1_n_n none (truncf .bf16 p bitsLt_bf16_f32)
    (select (ROWS mk) v (broadcast S256x256 (Scalar.ofBits .bf16 0x0000#16))) (constant S256x256 .f32 0x00000000#32)

/-- What a head adds to the output. -/
def TM : FVec Ideal S256x256 .f32 := OUT mk v (NORM (EX (SC mk q k)))

set_option maxHeartbeats 2000000 in
/-- What a step of the grid stores. -/
theorem stored : k0_pay1 q k v (k0_pay4 q k v (k0_pay2 q k v) k0_pay3 (Scalar.ofBits .f32 0x00000000#32)) k0_pay5 (k0_pay6 q k)
    = addf (addf (addf (addf (broadcast S256x256 (Scalar.ofBits .f32 0x00000000#32)) (TM (MK 0#32 64#32) q k v)) (TM (MK 64#32 128#32) q k v))
      (TM (MK 128#32 192#32) q k v)) (TM (MK 192#32 256#32) q k v) := rfl

theorem ROWS_apply (r c : Fin 256) : ROWS mk (ix2 r c) = mk (ix2 0 c) := by
  pointwise [ROWS]

theorem SC_apply (r m : Fin 256) : SC mk q k (ix2 r m)
    = (∑ c : Fin 256, Scalar.select (mk (ix2 0 c)) (q (ix2 r c) * k (ix2 m c)) 0) * ((1 / 8 : ℝ) : EReal) := by
  pointwise [SC, ROWS_apply]
  rw [Cert.KernelIdeal.Fox.ofBits_eighth]

theorem EX_apply (s : FVec Ideal S256x256 .f32) (r m : Fin 256) : EX s (ix2 r m)
    = Ideal.exp (s (ix2 r m) - Finset.univ.fold max ⊥ fun j : Fin 256 => s (ix2 r j)) := by
  pointwise [EX]
  rw [Cert.KernelIdeal.Fox.ofBits_neg_inf]

theorem NORM_apply (e : FVec Ideal S256x256 .f32) (r m : Fin 256) : NORM e (ix2 r m) = Ideal.div (e (ix2 r m)) (∑ j : Fin 256, e (ix2 r j)) := by
  pointwise [NORM]

theorem OUT_apply (p : FVec Ideal S256x256 .f32) (r c : Fin 256) : OUT mk v p (ix2 r c)
    = ∑ m : Fin 256, Scalar.select (mk (ix2 0 c)) (p (ix2 r m) * v (ix2 m c)) 0 := by
  pointwise [OUT, ROWS_apply]

/-- The mask of head `h`. -/
abbrev HD (h : Fin 4) : IVec S1x256 1 := MK (BitVec.ofNat 32 (64 * h.val)) (BitVec.ofNat 32 (64 * h.val + 64))

theorem HD_apply : ∀ (h : Fin 4) (c : Fin 256), HD h (ix2 0 c) = if c.val / 64 = h.val then 1#1 else 0#1 := by
  decide +kernel

/-! ## A row's attention -/

/-- Channel `d` of head `h`. -/
def ch (h : Fin 4) (d : Fin 64) : Fin 256 := ⟨64 * h.val + d.val, by omega⟩

/-- The head of a channel. -/
def hd (c : Fin 256) : Fin 4 := ⟨c.val / 64, by omega⟩

/-- A sum over the channels of a head's mask is one over the head's channels. -/
theorem msum (h : Fin 4) (f : Fin 256 → EReal) : ∑ c : Fin 256, Scalar.select (HD h (ix2 0 c)) (f c) 0 = ∑ d : Fin 64, f (ch h d) := by
  have e : ∀ c : Fin 256, Scalar.select (HD h (ix2 0 c)) (f c) 0 = if c.val / 64 = h.val then f c else 0 := fun c => by
    rw [HD_apply]
    split_ifs <;> rfl
  rw [Finset.sum_congr rfl fun c _ => e c, ← Finset.sum_filter]
  refine Finset.sum_nbij' (fun c => ⟨c.val % 64, Nat.mod_lt _ (by decide)⟩) (fun d => ch h d) ?_ ?_ ?_ ?_ ?_
  · exact fun c _ => Finset.mem_univ _
  · exact fun d _ => Finset.mem_filter.2 ⟨Finset.mem_univ _, by show (64 * h.val + d.val) / 64 = h.val; omega⟩
  · exact fun c hc => Fin.ext (by have := (Finset.mem_filter.1 hc).2; show 64 * h.val + c.val % 64 = c.val; omega)
  · exact fun d _ => Fin.ext (by show (64 * h.val + d.val) % 64 = d.val; omega)
  · exact fun c hc => congrArg f (Fin.ext (by have := (Finset.mem_filter.1 hc).2; show c.val = 64 * h.val + c.val % 64; omega))

/-- A channel is in its own head's mask only. -/
theorem own (h : Fin 4) (c : Fin 256) (x : EReal) : Scalar.select (HD h (ix2 0 c)) x 0 = if hd c = h then x else 0 := by
  rw [HD_apply]
  by_cases e : c.val / 64 = h.val
  · rw [if_pos e, if_pos (Fin.ext e)]; rfl
  · rw [if_neg e, if_neg fun e' => e (congrArg Fin.val e')]; rfl

/-- Of four masked summands the channel's own head's is left. -/
theorem four (k : Fin 4) (f : Fin 4 → EReal) : 0 + (if k = 0 then f 0 else 0) + (if k = 1 then f 1 else 0) + (if k = 2 then f 2 else 0)
    + (if k = 3 then f 3 else 0) = f k := by
  fin_cases k <;> simp

variable (Q : Fin 256 → EReal) (K V : Fin 256 → Fin 256 → EReal)

/-- A row's score at key `j` in head `h`. -/
def sc (h : Fin 4) (j : Fin 256) : EReal := (∑ d, Q (ch h d) * K j (ch h d)) * ((1 / 8 : ℝ) : EReal)

/-- The exponential of a score, less the row's maximum. -/
def ex (h : Fin 4) (j : Fin 256) : EReal := Ideal.exp (sc Q K h j - Finset.univ.fold max ⊥ fun k : Fin 256 => sc Q K h k)

/-- A row's probability at a key. -/
def pr (h : Fin 4) (j : Fin 256) : EReal := Ideal.div (ex Q K h j) (∑ k, ex Q K h k)

/-- A row's output at a channel. -/
def ov (c : Fin 256) : EReal := ∑ j, pr Q K (hd c) j * V j c

theorem ov_congr {Q Q' : Fin 256 → EReal} {K K' V V' : Fin 256 → Fin 256 → EReal} {c c' : Fin 256} (hQ : ∀ c, Q c = Q' c) (hK : ∀ j c, K j c = K' j c)
    (hV : ∀ j c, V j c = V' j c) (hc : c = c') : ov Q K V c = ov Q' K' V' c' := by
  rw [funext hQ, funext fun j => funext (hK j), funext fun j => funext (hV j), hc]

theorem SC_sc (h : Fin 4) (r j : Fin 256) : SC (HD h) q k (ix2 r j) = sc (fun c => q (ix2 r c)) (fun j c => k (ix2 j c)) h j :=
  (SC_apply _ _ _ r j).trans (congrArg (· * ((1 / 8 : ℝ) : EReal)) (msum h fun c => q (ix2 r c) * k (ix2 j c)))

theorem EX_ex (h : Fin 4) (r j : Fin 256) : EX (SC (HD h) q k) (ix2 r j) = ex (fun c => q (ix2 r c)) (fun j c => k (ix2 j c)) h j := by
  rw [EX_apply, funext fun j => SC_sc q k h r j, SC_sc]
  rfl

theorem NORM_pr (h : Fin 4) (r j : Fin 256) : NORM (EX (SC (HD h) q k)) (ix2 r j) = pr (fun c => q (ix2 r c)) (fun j c => k (ix2 j c)) h j := by
  rw [NORM_apply, Finset.sum_congr rfl fun j _ => EX_ex q k h r j, EX_ex]
  rfl

theorem TM_apply (h : Fin 4) (r c : Fin 256) : TM (HD h) q k v (ix2 r c)
    = if hd c = h then ∑ j, pr (fun c => q (ix2 r c)) (fun j c => k (ix2 j c)) h j * v (ix2 j c) else 0 := by
  unfold TM
  rw [OUT_apply, Finset.sum_congr rfl fun j _ => own h c _, Finset.sum_congr rfl fun j _ => by rw [NORM_pr]]
  split_ifs
  · rfl
  · exact Finset.sum_const_zero

/-- A step's block of outputs. -/
theorem sum_apply (r c : Fin 256) : addf (addf (addf (addf (broadcast S256x256 (Scalar.ofBits .f32 0x00000000#32)) (TM (MK 0#32 64#32) q k v))
      (TM (MK 64#32 128#32) q k v)) (TM (MK 128#32 192#32) q k v)) (TM (MK 192#32 256#32) q k v) (ix2 r c)
    = ov (fun c => q (ix2 r c)) (fun j c => k (ix2 j c)) (fun j c => v (ix2 j c)) c := by
  have z : broadcast S256x256 (Scalar.ofBits (F := Ideal) .f32 0x00000000#32) (ix2 r c) = (0 : EReal) := by pointwise
  show broadcast S256x256 (Scalar.ofBits (F := Ideal) .f32 0x00000000#32) (ix2 r c) + TM (HD 0) q k v (ix2 r c) + TM (HD 1) q k v (ix2 r c)
    + TM (HD 2) q k v (ix2 r c) + TM (HD 3) q k v (ix2 r c) = _
  rw [z, TM_apply, TM_apply, TM_apply, TM_apply]
  exact four (hd c) fun h => ∑ j, pr (fun c => q (ix2 r c)) (fun j c => k (ix2 j c)) h j * v (ix2 j c)

theorem idx : ∀ t : Fin cfg0.N, win0_0.index t = ![t.val, 6] ∧ win0_1.index t = ![0, 0] ∧ win0_2.index t = ![0, 1] ∧ win0_3.index t = ![t.val, 0] := by
  decide +kernel

variable (m : (ℓ : Loc nD τ sig) → Buf (Elt Ideal) ℓ) (c : Dev nD)

/-- The memory's keys. -/
abbrev key (mkv : FVec Ideal S256x512 .bf16) (j c : Fin 256) : EReal := mkv (ix2 j ⟨c.val, by omega⟩)

/-- The memory's values. -/
abbrev vlu (mkv : FVec Ideal S256x512 .bf16) (j c : Fin 256) : EReal := mkv (ix2 j ⟨256 + c.val, by omega⟩)

/-- The attention over the memory, of queries `q` and the keys and values of `mkv`. -/
def att (q : Fin 2048 → Fin 256 → EReal) (mkv : FVec Ideal S256x512 .bf16) : FVec Ideal S2048x256 .f32 :=
  fun y => ov (q (y 0)) (key mkv) (vlu mkv) (y 1)

/-- The queries, the last channels of the projections. -/
def que (p : FVec Ideal S2048x1792 .f32) (r : Fin 2048) (c : Fin 256) : EReal := p (ix2 r ⟨1536 + c.val, by omega⟩)

/-- The call's result. -/
abbrev spec : FVec Ideal S2048x256 .f32 := att (que (m ((c.tc : Thread nD τ).loc main_arg0))) (m ((c.tc : Thread nD τ).loc main_arg1))

theorem arr : ((dats m 0 c).arrAt 3 cfg0.N : FVec Ideal S2048x256 .f32) = spec m c := by
  refine (dats m 0 c).arrAt_eq_of_covers 3 _ (by decide +kernel) fun t hf y => ?_
  obtain ⟨h0, h1, h2, h3⟩ := idx t
  show (dats m 0 c).after 3 t y = _
  rw [after0_3]
  unfold out0_3
  rw [View.canon_unit_zero Cert.Kernel3Ideal.Ffn.hz, View.ld_unit_zero Cert.Kernel3Ideal.Ffn.hz, View.ld_unit_zero Cert.Kernel3Ideal.Ffn.hz,
    View.ld_unit_zero Cert.Kernel3Ideal.Ffn.hz, stored]
  obtain ⟨i, j, rfl⟩ := Cert.Prod.two y
  refine (sum_apply _ _ _ i j).trans (ov_congr (fun k => ?_) (fun l k => ?_) (fun l k => ?_) ?_)
  · unfold que; blk_ext [iblk, h0, h3]
  · blk_ext [iblk, h1, h3]
  · blk_ext [iblk, h2, h3]
  · refine Fin.ext ?_
    simp [h3]

end Cert.Kernel26Ideal.Mem

namespace Cert.Kernel27Ideal.Mem

open Idealize.ShloMosaic Idealize.ShloMosaic.TcCoe Idealize.ShloMosaic.Tactic Cert.Kernel27Ideal Cert.Kernel27Ideal.Gen
open Cert.Kernel26Ideal.Mem (TM MK)

set_option maxHeartbeats 2000000 in
theorem stored (q : FVec Ideal S256x256 .f32) (k v : FVec Ideal S256x256 .bf16) : k0_pay1 q k v (k0_pay4 q k v (k0_pay2 q k v) k0_pay3 (Scalar.ofBits .f32 0x00000000#32)) k0_pay5 (k0_pay6 q k)
    = addf (addf (addf (addf (broadcast S256x256 (Scalar.ofBits .f32 0x00000000#32)) (TM (MK 0#32 64#32) q k v)) (TM (MK 64#32 128#32) q k v))
      (TM (MK 128#32 192#32) q k v)) (TM (MK 192#32 256#32) q k v) := rfl

theorem idx : ∀ t : Fin cfg0.N, win0_0.index t = ![t.val, 3] ∧ win0_1.index t = ![0, 0] ∧ win0_2.index t = ![0, 1] ∧ win0_3.index t = ![t.val, 0] := by
  decide +kernel

variable (m : (ℓ : Loc nD τ sig) → Buf (Elt Ideal) ℓ) (c : Dev nD)

/-- The queries, the last channels of the projections. -/
def que (p : FVec Ideal S2048x1024 .f32) (r : Fin 2048) (c : Fin 256) : EReal := p (ix2 r ⟨768 + c.val, by omega⟩)

/-- The call's result. -/
abbrev spec : FVec Ideal S2048x256 .f32 :=
  Cert.Kernel26Ideal.Mem.att (que (m ((c.tc : Thread nD τ).loc main_arg0))) (m ((c.tc : Thread nD τ).loc main_arg1))

theorem arr : ((dats m 0 c).arrAt 3 cfg0.N : FVec Ideal S2048x256 .f32) = spec m c := by
  refine (dats m 0 c).arrAt_eq_of_covers 3 _ (by decide +kernel) fun t hf y => ?_
  obtain ⟨h0, h1, h2, h3⟩ := idx t
  show (dats m 0 c).after 3 t y = _
  rw [after0_3]
  unfold out0_3
  rw [View.canon_unit_zero Cert.Kernel3Ideal.Ffn.hz, View.ld_unit_zero Cert.Kernel3Ideal.Ffn.hz, View.ld_unit_zero Cert.Kernel3Ideal.Ffn.hz,
    View.ld_unit_zero Cert.Kernel3Ideal.Ffn.hz, stored]
  obtain ⟨i, j, rfl⟩ := Cert.Prod.two y
  refine (Cert.Kernel26Ideal.Mem.sum_apply _ _ _ i j).trans (Cert.Kernel26Ideal.Mem.ov_congr (fun k => ?_) (fun l k => ?_) (fun l k => ?_) ?_)
  · unfold que; blk_ext [iblk, h0, h3]
  · blk_ext [iblk, h1, h3]
  · blk_ext [iblk, h2, h3]
  · refine Fin.ext ?_
    simp [h3]

end Cert.Kernel27Ideal.Mem

namespace Cert.Reference26Ideal.Mem

open Idealize.ShloMosaic Idealize.ShloMosaic.TcCoe Idealize.ShloMosaic.Tactic Cert.Reference26Ideal Cert.Reference26Ideal.Gen
open Cert.Reference26Ideal.Read Cert.Kernel26Ideal.Mem

variable (x0 : FVec Ideal S2048x1792 .f32) (x1 : FVec Ideal S256x512 .bf16)

theorem v4 (r : Fin 2048) (h : Fin 4) (d : Fin 64) : val_main_v4 (F := Ideal) x0 (ix3 r h d) = que x0 r (ch h d) := by
  rw [val_main_v4_apply, val_main_v0_apply]
  refine congrArg x0 (Cert.Fox.eq2 (Fin.ext ?_) (Fin.ext ?_))
  · show ((r.val * 4 + h.val) * 64 + d.val) / 256 = r.val; omega
  · show 1536 + ((r.val * 4 + h.val) * 64 + d.val) % 256 = 1536 + (64 * h.val + d.val); omega

theorem v5 (j : Fin 256) (h : Fin 4) (d : Fin 64) : val_main_v5 (F := Ideal) x1 (ix3 j h d) = key x1 j (ch h d) := by
  rw [val_main_v5_apply, val_main_v2_apply]
  refine congrArg x1 (Cert.Fox.eq2 (Fin.ext ?_) (Fin.ext ?_))
  · show ((j.val * 4 + h.val) * 64 + d.val) / 256 = j.val; omega
  · show ((j.val * 4 + h.val) * 64 + d.val) % 256 = 64 * h.val + d.val; omega

theorem v6 (j : Fin 256) (h : Fin 4) (d : Fin 64) : val_main_v6 (F := Ideal) x1 (ix3 j h d) = vlu x1 j (ch h d) := by
  rw [val_main_v6_apply, val_main_v3_apply]
  refine congrArg x1 (Cert.Fox.eq2 (Fin.ext ?_) (Fin.ext ?_))
  · show ((j.val * 4 + h.val) * 64 + d.val) / 256 = j.val; omega
  · show 256 + ((j.val * 4 + h.val) * 64 + d.val) % 256 = 256 + (64 * h.val + d.val); omega

theorem v9 (h : Fin 4) (r : Fin 2048) (j : Fin 256) : val_main_v9 (F := Ideal) x0 x1 (ix3 h r j) = sc (que x0 r) (key x1) h j := by
  rw [val_main_v9_apply, val_main_v7_apply, val_main_v8_apply, val_main_cst_apply]
  refine congrArg₂ (· * ·) (Finset.sum_congr rfl fun d _ => ?_) Cert.KernelIdeal.Fox.ofBits_eighth
  rw [← v4, ← v5]
  exact congrArg₂ (· * ·) (congrArg _ (Cert.Fox.eq3 rfl rfl rfl)) (congrArg _ (Cert.Fox.eq3 rfl rfl rfl))

theorem v10 (h : Fin 4) (r : Fin 2048) : val_main_v10 (F := Ideal) x0 x1 (ix2 h r)
    = Finset.univ.fold max ⊥ fun j : Fin 256 => sc (que x0 r) (key x1) h j := by
  rw [val_main_v10, Host.reduce_eq_fold, Shape.ReducesTo.fold_fiber_r3_a2,
    show val_main_cst_0 (F := Ideal) (Shape.Idx.first h_S_) = ⊥ from Cert.KernelIdeal.Fox.ofBits_neg_inf]
  exact congrArg (Finset.univ.fold max ⊥) (funext fun j => v9 x0 x1 h r j)

theorem v16 (h : Fin 4) (r : Fin 2048) (j : Fin 256) : val_main_v16 (F := Ideal) x0 x1 (ix3 h r j) = ex (que x0 r) (key x1) h j := by
  rw [val_main_v16_apply, val_main_v15_apply, v9, val_main_v14_apply, val_main_v13_apply, val_main_v12_apply, val_main_v11_apply, val_main_cst_1_apply]
  refine congrArg (fun μ => Ideal.exp (sc (que x0 r) (key x1) h j - μ)) ?_
  rw [← v10]
  show max (Ideal.ofBits FTy.f32 0xFF800000#32) _ = _
  rw [Cert.KernelIdeal.Fox.ofBits_neg_inf]
  exact (max_eq_right bot_le).trans (congrArg _ (Cert.Fox.eq2 rfl rfl))

theorem v20 (h : Fin 4) (r : Fin 2048) (j : Fin 256) : val_main_v20 (F := Ideal) x0 x1 (ix3 h r j) = pr (que x0 r) (key x1) h j := by
  rw [val_main_v20_apply, v16, val_main_v19_apply, val_main_v18_apply, val_main_v17_apply, val_main_cst_2_apply]
  refine congrArg (Ideal.div _) ?_
  refine (congrArg₂ (· + ·) (Ideal.ofBits_zero FTy.f32) (Finset.sum_congr rfl fun k _ => ?_)).trans (zero_add _)
  exact (congrArg _ (Cert.Fox.eq3 rfl rfl rfl)).trans (v16 x0 x1 h r k)

theorem ref : val_main_v23 (F := Ideal) x0 x1 = att (que x0) x1 := by
  funext y
  obtain ⟨r, c, rfl⟩ := Cert.Prod.two y
  have e : idx_main_v22 (idx_main_v23 (ix2 r c)) = ix3 (hd c) ⟨c.val % 64, Nat.mod_lt _ (by decide)⟩ r := by
    refine Cert.Fox.eq3 (Fin.ext ?_) (Fin.ext ?_) (Fin.ext ?_)
    · show (r.val * 256 + c.val) / 64 % 4 = c.val / 64; omega
    · show (r.val * 256 + c.val) % 64 = c.val % 64; omega
    · show (r.val * 256 + c.val) / 256 = r.val; omega
  rw [val_main_v23_apply, val_main_v22_apply, e, val_main_v21_apply]
  show _ = ∑ j, pr (que x0 r) (key x1) (hd c) j * vlu x1 j c
  refine Finset.sum_congr rfl fun j _ => Eq.trans (mul_comm (G := EReal) _ _) (congrArg₂ (· * ·) ?_ ?_)
  · exact (congrArg _ (Cert.Fox.eq3 rfl rfl rfl)).trans (v20 x0 x1 (hd c) r j)
  · refine (congrArg _ (Cert.Fox.eq3 rfl rfl rfl)).trans ((v6 x1 j (hd c) ⟨c.val % 64, Nat.mod_lt _ (by decide)⟩).trans ?_)
    exact congrArg (vlu x1 j) (Fin.ext (by show 64 * (c.val / 64) + c.val % 64 = c.val; omega))

end Cert.Reference26Ideal.Mem

namespace Cert.Reference27Ideal.Mem

open Idealize.ShloMosaic Idealize.ShloMosaic.TcCoe Idealize.ShloMosaic.Tactic Cert.Reference27Ideal Cert.Reference27Ideal.Gen

/-- The queries among more channels. -/
def wide (p : FVec Ideal S2048x1024 .f32) : FVec Ideal Cert.Reference26Ideal.S2048x1792 .f32 :=
  fun y => p (ix2 (y 0) ⟨(y 1).val - 768, by have h : (y 1).val < 1792 := (y 1).isLt; omega⟩)

theorem que_wide (p : FVec Ideal S2048x1024 .f32) : Cert.Kernel26Ideal.Mem.que (wide p) = Cert.Kernel27Ideal.Mem.que p := by
  funext r c
  refine congrArg p (congrArg (ix2 r) (Fin.ext ?_))
  show 1536 + c.val - 768 = 768 + c.val
  omega

theorem slice_wide (p : FVec Ideal S2048x1024 .f32) : Cert.Reference26Ideal.Read.val_main_v0 (F := Ideal) (wide p) = Cert.Reference27Ideal.Read.val_main_v0 (F := Ideal) p := by
  funext y
  rw [Cert.Reference26Ideal.Read.val_main_v0_apply, Cert.Reference27Ideal.Read.val_main_v0_apply]
  refine congrArg p (Cert.Fox.eq2 rfl (Fin.ext ?_)).symm
  show 768 + (y 1).val = 1536 + (y 1).val - 768
  omega

theorem ref (p : FVec Ideal S2048x1024 .f32) (mkv : FVec Ideal S256x512 .bf16) :
    Cert.Reference27Ideal.Read.val_main_v23 (F := Ideal) p mkv = Cert.Kernel26Ideal.Mem.att (Cert.Kernel27Ideal.Mem.que p) mkv := by
  rw [← que_wide, ← Cert.Reference26Ideal.Mem.ref, ← Cert.Reference27Ideal.Read.val_main_v23_eq, ← Cert.Reference26Ideal.Read.val_main_v23_eq]
  have h := slice_wide p
  unfold Cert.Reference26Ideal.Read.val_main_v0 Cert.Reference27Ideal.Read.val_main_v0 at h
  rw [h]
  rfl

end Cert.Reference27Ideal.Mem

namespace Cert.Mem

open Idealize.ShloMosaic Idealize.ShloMosaic.TcCoe Idealize.ShloMosaic.Tactic Idealize.SL.Sem

theorem agree26 : Cert.algebraic_Kernel26Ideal_Reference26Ideal (hKernel26Ideal := Cert.Kernel26Ideal.Gen.facts)
    (hReference26Ideal := Cert.Reference26Ideal.Gen.facts) := by
  intro m g m' g' _ hag
  refine ⟨fun c => Cert.Kernel26Ideal.Mem.spec m c, ?_, ?_⟩
  · refine (θ_run Cert.Kernel26Ideal.defs _ _).mono (fun r h c => ?_) (Cert.Kernel26Ideal.Value.run_blocks m g)
    exact ⟨(h c).1.trans (Cert.Kernel26Ideal.Mem.arr m c), (h c).2⟩
  · refine (θ_run Cert.Reference26Ideal.defs _ _).mono (fun r h c => ?_) (Cert.Reference26Ideal.Value.run (F := Ideal) m' g')
    obtain ⟨a0, a1⟩ := hag c
    obtain ⟨r0, hargs⟩ := h c
    rw [Cert.Reference26Ideal.Read.val_main_v23_eq, Cert.Reference26Ideal.Mem.ref, a0, a1] at r0
    exact ⟨r0, hargs⟩

theorem agree27 : Cert.algebraic_Kernel27Ideal_Reference27Ideal (hKernel27Ideal := Cert.Kernel27Ideal.Gen.facts)
    (hReference27Ideal := Cert.Reference27Ideal.Gen.facts) := by
  intro m g m' g' _ hag
  refine ⟨fun c => Cert.Kernel27Ideal.Mem.spec m c, ?_, ?_⟩
  · refine (θ_run Cert.Kernel27Ideal.defs _ _).mono (fun r h c => ?_) (Cert.Kernel27Ideal.Value.run_blocks m g)
    exact ⟨(h c).1.trans (Cert.Kernel27Ideal.Mem.arr m c), (h c).2⟩
  · refine (θ_run Cert.Reference27Ideal.defs _ _).mono (fun r h c => ?_) (Cert.Reference27Ideal.Value.run (F := Ideal) m' g')
    obtain ⟨a0, a1⟩ := hag c
    obtain ⟨r0, hargs⟩ := h c
    rw [Cert.Reference27Ideal.Read.val_main_v23_eq, Cert.Reference27Ideal.Mem.ref, a0, a1] at r0
    exact ⟨r0, hargs⟩

end Cert.Mem

end
-- ==== Proof.MemBack.lean ====
/- The memory attention's backward call: what a step of the grid stores of the queries' gradient and adds to the keys' and the
   values' gradients, head by head, and the sum of the steps. -/
module

public import proofs.«01_k».proof.Proof.Gen.Kernel28Ideal.Value
public import proofs.«01_k».proof.Proof.MemFwd
public import Idealize.ShloMosaic.Lib.Pipeline.ValueKit

@[expose] public section

set_option maxRecDepth 65536

noncomputable section

namespace Cert.Kernel28Ideal.Mem

open Idealize.ShloMosaic Idealize.ShloMosaic.TcCoe Idealize.ShloMosaic.Tactic Cert.Kernel28Ideal Cert.Kernel28Ideal.Gen
open Cert.Kernel26Ideal.Mem (MK ROWS SC EX NORM HD ch hd msum own four pr NORM_pr ROWS_apply key vlu que)

variable (mk : IVec S1x256 1) (q dy : FVec Ideal S256x256 .f32) (k v : FVec Ideal S256x256 .bf16)

/-- The mask's channels of a block of rows. -/
def KEEP (x : FVec Ideal S256x256 .f32) : FVec Ideal S256x256 .bf16 :=
  truncf .bf16 (select (ROWS mk) x (broadcast S256x256 (Scalar.ofBits .f32 0x00000000#32))) bitsLt_bf16_f32

/-- A head's probabilities. -/
def P : FVec Ideal S256x256 .f32 := NORM (EX (SC mk q k))

/-- The gradient at a head's probabilities. -/
def DP : FVec Ideal S256x256 .f32 :=
  matmul dot_S256x256_S256x256_S256x256_1_1_0_0_n_n none (KEEP mk dy) v (constant S256x256 .f32 0x00000000#32)

/-- The gradient at the scores, of the probabilities and the gradient there. -/
def DS (p dp : FVec Ideal S256x256 .f32) : FVec Ideal S256x256 .f32 :=
  mulf p (subf dp (broadcastTo S256x256 (shapeCast S256x1 (multiReduction .add [1] S256 (mulf dp p) 0x00000000#32 reduces_S256x256_S256 (.inl rfl) rfl) shapeCasts_S256_S256x1)
    broadcasts_S256x1_S256x256))

/-- The gradient at the scores of a head. -/
def GS : FVec Ideal S256x256 .f32 := DS (P mk q k) (DP mk dy v)

/-- A head's queries' gradient. -/
def DQ (s : FVec Ideal S256x256 .f32) : FVec Ideal S256x256 .f32 :=
  mulf (matmul dot_S256x256_S256x256_S256x256_1_0_0_1_n_n none (truncf .bf16 s bitsLt_bf16_f32)
    (select (ROWS mk) k (broadcast S256x256 (Scalar.ofBits .bf16 0x0000#16))) (constant S256x256 .f32 0x00000000#32)) (broadcast S256x256 (Scalar.ofBits .f32 0x3E000000#32))

/-- A block of rows, transposed, against another block of the mask's channels. -/
def TR (x y : FVec Ideal S256x256 .f32) : FVec Ideal S256x256 .f32 :=
  matmul dot_S256x256_S256x256_S256x256_1_0_0_1_n_n none (truncf .bf16 (transpose S256x256 [1, 0] x transposes_S256x256_p1_0_S256x256) bitsLt_bf16_f32) (KEEP mk y)
    (constant S256x256 .f32 0x00000000#32)

/-- A head's share of the values' gradient, added to what is there. -/
def DV (a : FVec Ideal S256x256 .f32) : FVec Ideal S256x256 .f32 :=
  addf (shapeCast S256x256 a shapeCasts_S256x256_S256x256) (TR mk (P mk q k) dy)

/-- A head's share of the keys' gradient, added to what is there. -/
def DK (a : FVec Ideal S256x256 .f32) : FVec Ideal S256x256 .f32 :=
  addf (shapeCast S256x256 a shapeCasts_S256x256_S256x256) (mulf (TR mk (GS mk q dy k v) q) (broadcast S256x256 (Scalar.ofBits .f32 0x3E000000#32)))

/-- A step's block of the queries' gradient. -/
def QS : FVec Ideal S256x256 .f32 :=
  addf (addf (addf (addf (broadcast S256x256 (Scalar.ofBits .f32 0x00000000#32)) (DQ (HD 0) k (GS (HD 0) q dy k v))) (DQ (HD 1) k (GS (HD 1) q dy k v)))
    (DQ (HD 2) k (GS (HD 2) q dy k v))) (DQ (HD 3) k (GS (HD 3) q dy k v))

/-- A step's values' gradient, added to what is there. -/
def VS (a : FVec Ideal S256x256 .f32) : FVec Ideal S256x256 .f32 :=
  DV (HD 3) q dy k (DV (HD 2) q dy k (DV (HD 1) q dy k (DV (HD 0) q dy k a)))

/-- A step's keys' gradient, added to what is there. -/
def KS (a : FVec Ideal S256x256 .f32) : FVec Ideal S256x256 .f32 :=
  DK (HD 3) q dy k v (DK (HD 2) q dy k v (DK (HD 1) q dy k v (DK (HD 0) q dy k v a)))

set_option maxHeartbeats 2000000 in
theorem storedQ : k0_pay38 k v dy (k0_pay28 k v (k0_pay20 k v dy (k0_pay11 k v k0_pay4 k0_pay5 (k0_pay7 q k) (k0_pay8 dy)) k0_pay13 (k0_pay14 q)) k0_pay22 (k0_pay24 q k) (k0_pay25 dy))
    k0_pay30 (k0_pay32 q k) (k0_pay33 q k) = QS q dy k v := rfl

set_option maxHeartbeats 2000000 in
theorem storedK (a : FVec Ideal S256x256 .f32) : k0_pay1 (k0_pay39 (k0_pay29 v (k0_pay23 q) (k0_pay24 q k) (k0_pay25 dy)
    (k0_pay21 (k0_pay15 (k0_pay14 q)) (k0_pay19 k v dy k0_pay13 (k0_pay14 q)) (k0_pay12 v (k0_pay6 q) (k0_pay7 q k) (k0_pay8 dy) a))))
    (k0_pay40 v dy k0_pay30 (k0_pay31 q) (k0_pay32 q k) (k0_pay33 q k)) = KS q dy k v a := rfl

set_option maxHeartbeats 2000000 in
theorem storedV (a : FVec Ideal S256x256 .f32) : k0_pay36 dy k0_pay30 (k0_pay32 q k) (k0_pay33 q k) (k0_pay26 q k dy (k0_pay18 k dy k0_pay13 (k0_pay14 q)
    (k0_pay9 (k0_pay7 q k) (k0_pay8 dy) a))) = VS q dy k a := rfl

/-- A load of a whole block. -/
theorem ldz {e : EltTy} (x : Vec Ideal S256x256 e) (inb : ∀ a, (![0, 0] : Fin 2 → Nat) a + S256x256.size a ≤ S256x256.size a) :
    View.ld (Val := Elt Ideal) (e' := e) x (Rect.unit ![0, 0] ![256, 256] inb) = x :=
  View.ld_unit_zero Cert.Kernel3Ideal.Ffn.hz _ x

/-- What a whole block's last store leaves. -/
theorem cnz (x : Vec Ideal S256x256 .f32) (inb : ∀ a, (![0, 0] : Fin 2 → Nat) a + S256x256.size a ≤ S256x256.size a) (L : List (View.Piece (Elt Ideal) S256x256 .f32)) :
    View.canon ((⟨Rect.unit ![0, 0] ![256, 256] inb, x⟩ : View.Piece (Elt Ideal) S256x256 .f32) :: L) = x :=
  View.canon_cons_unit_zero Cert.Kernel3Ideal.Ffn.hz _ x L

section
variable (c : Dev nD) (i : grid0.Coords) (arg1 : Memref sig .tc .vmem S256x256 .f32) (harg1 : arg1.IsWhole) (arg2 : Memref sig .tc .vmem S256x256 .bf16) (harg2 : arg2.IsWhole)
  (arg3 : Memref sig .tc .vmem S256x256 .bf16) (harg3 : arg3.IsWhole) (arg4 : Memref sig .tc .vmem S256x256 .f32) (harg4 : arg4.IsWhole)
  (arg5 : Memref sig .tc .vmem S256x256 .f32) (harg5 : arg5.IsWhole) (arg6 : Memref sig .tc .vmem S256x256 .f32) (harg6 : arg6.IsWhole)
  (arg7 : Memref sig .tc .vmem S256x256 .f32) (harg7 : arg7.IsWhole) (xo5 xo6 : Vec Ideal S256x256 .f32)

theorem outA4 (hc0 : cond0_0 i) : out0_A_4 (F := Ideal) c i arg1 harg1 arg2 harg2 arg3 harg3 arg4 harg4 arg5 harg5 arg6 harg6 arg7 harg7 hc0 q k v dy = QS q dy k v := by
  unfold out0_A_4
  rw [View.read_writes_junk_eq_canon VO0_4]
  unfold kernelRun0_A; dsimp only; sl_unfold_words
  simp only [View.readAt_eq_ld, harg1.read_unread, harg2.read_unread, harg3.read_unread, harg4.read_unread, ldz]
  rw [cnz]
  exact storedQ q dy k v

theorem outA5 (hc0 : cond0_0 i) : out0_A_5 (F := Ideal) c i arg1 harg1 arg2 harg2 arg3 harg3 arg4 harg4 arg5 harg5 arg6 harg6 arg7 harg7 hc0 q k v dy = KS q dy k v k0_pay2 := by
  unfold out0_A_5
  rw [View.read_writes_junk_eq_canon VO0_5]
  unfold kernelRun0_A; dsimp only; sl_unfold_words
  simp only [View.readAt_eq_ld, harg1.read_unread, harg2.read_unread, harg3.read_unread, harg4.read_unread, ldz, View.readCov_cons_toLoadRect]
  rw [cnz]
  exact storedK q dy k v _

theorem outA6 (hc0 : cond0_0 i) : out0_A_6 (F := Ideal) c i arg1 harg1 arg2 harg2 arg3 harg3 arg4 harg4 arg5 harg5 arg6 harg6 arg7 harg7 hc0 q k v dy = VS q dy k k0_pay3 := by
  unfold out0_A_6
  rw [View.read_writes_junk_eq_canon VO0_6]
  unfold kernelRun0_A; dsimp only; sl_unfold_words
  simp only [View.readAt_eq_ld, harg1.read_unread, harg2.read_unread, harg3.read_unread, harg4.read_unread, ldz, View.readCov_cons_toLoadRect]
  rw [cnz]
  exact storedV q dy k _

theorem outB4 (hc0 : ¬cond0_0 i) : out0_B_4 (F := Ideal) c i arg1 harg1 arg2 harg2 arg3 harg3 arg4 harg4 arg5 harg5 arg6 harg6 arg7 harg7 hc0 q k v dy xo5 xo6 = QS q dy k v := by
  unfold out0_B_4
  rw [View.read_writes_junk_eq_canon VO0_4]
  unfold kernelRun0_B; dsimp only; sl_unfold_words
  simp only [View.readAt_eq_ld, harg1.read_unread, harg2.read_unread, harg3.read_unread, harg4.read_unread, ldz]
  rw [cnz]
  exact storedQ q dy k v

theorem outB5 (hc0 : ¬cond0_0 i) : out0_B_5 (F := Ideal) c i arg1 harg1 arg2 harg2 arg3 harg3 arg4 harg4 arg5 harg5 arg6 harg6 arg7 harg7 hc0 q k v dy xo5 xo6 = KS q dy k v xo5 := by
  unfold out0_B_5
  rw [View.read_writes_junk_eq_canon VO0_5]
  unfold kernelRun0_B; dsimp only; sl_unfold_words
  simp only [View.readAt_eq_ld, harg1.read_unread, harg2.read_unread, harg3.read_unread, harg4.read_unread, harg6.read_unread, ldz, View.readCov_cons_toLoadRect]
  rw [cnz]
  exact storedK q dy k v _

theorem outB6 (hc0 : ¬cond0_0 i) : out0_B_6 (F := Ideal) c i arg1 harg1 arg2 harg2 arg3 harg3 arg4 harg4 arg5 harg5 arg6 harg6 arg7 harg7 hc0 q k v dy xo5 xo6 = VS q dy k xo6 := by
  unfold out0_B_6
  rw [View.read_writes_junk_eq_canon VO0_6]
  unfold kernelRun0_B; dsimp only; sl_unfold_words
  simp only [View.readAt_eq_ld, harg1.read_unread, harg2.read_unread, harg3.read_unread, harg4.read_unread, harg7.read_unread, ldz, View.readCov_cons_toLoadRect]
  rw [cnz]
  exact storedV q dy k _

end

/-! ## The entries -/

theorem P_pr (h : Fin 4) (r j : Fin 256) : P (HD h) q k (ix2 r j) = pr (fun c => q (ix2 r c)) (fun j c => k (ix2 j c)) h j := NORM_pr q k h r j

theorem DP_apply (r j : Fin 256) : DP mk dy v (ix2 r j) = ∑ c : Fin 256, Scalar.select (mk (ix2 0 c)) (dy (ix2 r c) * v (ix2 j c)) 0 := by
  pointwise [DP, KEEP, ROWS_apply]

theorem DS_apply (p dp : FVec Ideal S256x256 .f32) (r j : Fin 256) : DS p dp (ix2 r j) = p (ix2 r j) * (dp (ix2 r j) - ∑ k : Fin 256, dp (ix2 r k) * p (ix2 r k)) := by
  pointwise [DS]

theorem DQ_apply (s : FVec Ideal S256x256 .f32) (r c : Fin 256) : DQ mk k s (ix2 r c)
    = (∑ j : Fin 256, Scalar.select (mk (ix2 0 c)) (s (ix2 r j) * k (ix2 j c)) 0) * ((1 / 8 : ℝ) : EReal) := by
  pointwise [DQ, ROWS_apply]
  rw [Cert.KernelIdeal.Fox.ofBits_eighth]

theorem TR_apply (x y : FVec Ideal S256x256 .f32) (j c : Fin 256) : TR mk x y (ix2 j c)
    = ∑ r : Fin 256, Scalar.select (mk (ix2 0 c)) (x (ix2 r j) * y (ix2 r c)) 0 := by
  pointwise [TR, KEEP, ROWS_apply]

theorem DV_apply (a : FVec Ideal S256x256 .f32) (j c : Fin 256) : DV mk q dy k a (ix2 j c) = a (ix2 j c) + TR mk (P mk q k) dy (ix2 j c) := by
  pointwise [DV]

theorem DK_apply (a : FVec Ideal S256x256 .f32) (j c : Fin 256) : DK mk q dy k v a (ix2 j c)
    = a (ix2 j c) + TR mk (GS mk q dy k v) q (ix2 j c) * ((1 / 8 : ℝ) : EReal) := by
  pointwise [DK]
  rw [Cert.KernelIdeal.Fox.ofBits_eighth]

variable (Q G : Fin 256 → EReal) (K V : Fin 256 → Fin 256 → EReal)

/-- The gradient at a row's probability of key `j` in head `h`. -/
def dpr (h : Fin 4) (j : Fin 256) : EReal := ∑ d, G (ch h d) * V j (ch h d)

/-- The gradient at a row's score. -/
def dsc (h : Fin 4) (j : Fin 256) : EReal := pr Q K h j * (dpr G V h j - ∑ k, dpr G V h k * pr Q K h k)

/-- The gradient at a row's query. -/
def dqr (c : Fin 256) : EReal := (∑ j, dsc Q G K V (hd c) j * K j c) * ((1 / 8 : ℝ) : EReal)

theorem GS_dsc (h : Fin 4) (r j : Fin 256) : GS (HD h) q dy k v (ix2 r j)
    = dsc (fun c => q (ix2 r c)) (fun c => dy (ix2 r c)) (fun j c => k (ix2 j c)) (fun j c => v (ix2 j c)) h j := by
  have e : ∀ j, DP (HD h) dy v (ix2 r j) = dpr (fun c => dy (ix2 r c)) (fun j c => v (ix2 j c)) h j := fun j =>
    (DP_apply _ _ _ r j).trans (msum h fun c => dy (ix2 r c) * v (ix2 j c))
  unfold GS dsc
  rw [DS_apply, e, P_pr, Finset.sum_congr rfl fun k' _ => by rw [e, P_pr]]

/-- A masked sum is the channel's own head's. -/
theorem mine {n : ℕ} (h : Fin 4) (c : Fin 256) (f : Fin n → EReal) : ∑ i, Scalar.select (HD h (ix2 0 c)) (f i) 0 = if hd c = h then ∑ i, f i else 0 := by
  rw [Finset.sum_congr rfl fun i _ => own h c (f i)]
  split_ifs
  · rfl
  · exact Finset.sum_const_zero

theorem DQ_dsc (h : Fin 4) (r c : Fin 256) : DQ (HD h) k (GS (HD h) q dy k v) (ix2 r c) = if hd c = h then
    (∑ j, dsc (fun c => q (ix2 r c)) (fun c => dy (ix2 r c)) (fun j c => k (ix2 j c)) (fun j c => v (ix2 j c)) h j * k (ix2 j c)) * ((1 / 8 : ℝ) : EReal) else 0 := by
  rw [DQ_apply, mine, Finset.sum_congr rfl fun j _ => by rw [GS_dsc]]
  split_ifs
  · rfl
  · exact zero_mul _

theorem TRP (h : Fin 4) (j c : Fin 256) : TR (HD h) (P (HD h) q k) dy (ix2 j c) = if hd c = h then
    ∑ r, pr (fun c => q (ix2 r c)) (fun j c => k (ix2 j c)) h j * dy (ix2 r c) else 0 := by
  rw [TR_apply, mine, Finset.sum_congr rfl fun r _ => by rw [P_pr]]

theorem TRS (h : Fin 4) (j c : Fin 256) : TR (HD h) (GS (HD h) q dy k v) q (ix2 j c) * ((1 / 8 : ℝ) : EReal) = if hd c = h then
    (∑ r, dsc (fun c => q (ix2 r c)) (fun c => dy (ix2 r c)) (fun j c => k (ix2 j c)) (fun j c => v (ix2 j c)) h j * q (ix2 r c)) * ((1 / 8 : ℝ) : EReal) else 0 := by
  rw [TR_apply, mine, Finset.sum_congr rfl fun r _ => by rw [GS_dsc]]
  split_ifs
  · rfl
  · exact zero_mul _

/-- Four masked summands add the channel's own head's. -/
theorem four' (k : Fin 4) (a : EReal) (f : Fin 4 → EReal) : a + (if k = 0 then f 0 else 0) + (if k = 1 then f 1 else 0) + (if k = 2 then f 2 else 0)
    + (if k = 3 then f 3 else 0) = a + f k := by
  fin_cases k <;> simp

theorem QS_apply (r c : Fin 256) : QS q dy k v (ix2 r c)
    = dqr (fun c => q (ix2 r c)) (fun c => dy (ix2 r c)) (fun j c => k (ix2 j c)) (fun j c => v (ix2 j c)) c := by
  have z : broadcast S256x256 (Scalar.ofBits (F := Ideal) .f32 0x00000000#32) (ix2 r c) = (0 : EReal) := by pointwise
  show broadcast S256x256 (Scalar.ofBits (F := Ideal) .f32 0x00000000#32) (ix2 r c) + DQ (HD 0) k (GS (HD 0) q dy k v) (ix2 r c)
    + DQ (HD 1) k (GS (HD 1) q dy k v) (ix2 r c) + DQ (HD 2) k (GS (HD 2) q dy k v) (ix2 r c) + DQ (HD 3) k (GS (HD 3) q dy k v) (ix2 r c) = _
  rw [z, DQ_dsc, DQ_dsc, DQ_dsc, DQ_dsc]
  exact four (hd c) fun h => (∑ j, dsc (fun c => q (ix2 r c)) (fun c => dy (ix2 r c)) (fun j c => k (ix2 j c)) (fun j c => v (ix2 j c)) h j * k (ix2 j c)) * ((1 / 8 : ℝ) : EReal)

theorem VS_apply (a : FVec Ideal S256x256 .f32) (j c : Fin 256) : VS q dy k a (ix2 j c)
    = a (ix2 j c) + ∑ r, pr (fun c => q (ix2 r c)) (fun j c => k (ix2 j c)) (hd c) j * dy (ix2 r c) := by
  unfold VS
  rw [DV_apply, DV_apply, DV_apply, DV_apply, TRP, TRP, TRP, TRP]
  exact four' (hd c) _ fun h => ∑ r, pr (fun c => q (ix2 r c)) (fun j c => k (ix2 j c)) h j * dy (ix2 r c)

theorem KS_apply (a : FVec Ideal S256x256 .f32) (j c : Fin 256) : KS q dy k v a (ix2 j c) = a (ix2 j c)
    + (∑ r, dsc (fun c => q (ix2 r c)) (fun c => dy (ix2 r c)) (fun j c => k (ix2 j c)) (fun j c => v (ix2 j c)) (hd c) j * q (ix2 r c)) * ((1 / 8 : ℝ) : EReal) := by
  unfold KS
  rw [DK_apply, DK_apply, DK_apply, DK_apply, TRS, TRS, TRS, TRS]
  exact four' (hd c) _ fun h => (∑ r, dsc (fun c => q (ix2 r c)) (fun c => dy (ix2 r c)) (fun j c => k (ix2 j c)) (fun j c => v (ix2 j c)) h j * q (ix2 r c)) * ((1 / 8 : ℝ) : EReal)

/-- What steps leave that each add to what the step before left. -/
theorem runs {N : ℕ} (o : (n : ℕ) → n < N → EReal) (f : Fin N → EReal) (h0 : ∀ h, o 0 h = f ⟨0, h⟩)
    (hs : ∀ n (h : n + 1 < N), o (n + 1) h = o n (Nat.lt_of_succ_lt h) + f ⟨n + 1, h⟩) :
    ∀ n (h : n < N), o n h = ∑ t : Fin (n + 1), f ⟨t.val, Nat.lt_of_lt_of_le t.isLt h⟩
  | 0, h => (h0 h).trans (Fin.sum_univ_one fun t : Fin 1 => f ⟨t.val, Nat.lt_of_lt_of_le t.isLt h⟩).symm
  | n + 1, h => by
    refine Eq.trans ?_ (Fin.sum_univ_castSucc _).symm
    rw [hs, runs o f h0 hs n]
    rfl

/-! ## The call's results -/

/-- Row `r` of the `t`-th block of rows. -/
def row8 (t : Fin 8) (r : Fin 256) : Fin 2048 := ⟨256 * t.val + r.val, by omega⟩

/-- The gradient at the attention's outputs, the last channels of the concatenation. -/
def gro (d : FVec Ideal S2048x1024 .f32) (r : Fin 2048) (c : Fin 256) : EReal := d (ix2 r ⟨768 + c.val, by omega⟩)

variable (Qs Gs : Fin 2048 → Fin 256 → EReal) (mkv : FVec Ideal S256x512 .bf16)

/-- The queries' gradient. -/
def dqs : FVec Ideal S2048x256 .f32 := fun y => dqr (Qs (y 0)) (Gs (y 0)) (key mkv) (vlu mkv) (y 1)

/-- What a block of rows adds to the keys' gradient. -/
def kst (j d : Fin 256) (t : Fin 8) : EReal :=
  (∑ r : Fin 256, dsc (Qs (row8 t r)) (Gs (row8 t r)) (key mkv) (vlu mkv) (hd d) j * Qs (row8 t r) d) * ((1 / 8 : ℝ) : EReal)

/-- What a block of rows adds to the values' gradient. -/
def vst (j d : Fin 256) (t : Fin 8) : EReal := ∑ r : Fin 256, pr (Qs (row8 t r)) (key mkv) (hd d) j * Gs (row8 t r) d

/-- The keys' gradient. -/
def dks : FVec Ideal S256x256 .f32 := fun y => ∑ t, kst Qs Gs mkv (y 0) (y 1) t

/-- The values' gradient. -/
def dvs : FVec Ideal S256x256 .f32 := fun y => ∑ t, vst Qs Gs mkv (y 0) (y 1) t

theorem idx : ∀ t : Fin cfg0.N, win0_0.index t = ![t.val, 6] ∧ win0_1.index t = ![0, 0] ∧ win0_2.index t = ![0, 1] ∧ win0_3.index t = ![t.val, 3]
    ∧ win0_4.index t = ![t.val, 0] ∧ win0_5.index t = ![0, 0] ∧ win0_6.index t = ![0, 0] := by
  decide +kernel

variable (m : (ℓ : Loc nD τ sig) → Buf (Elt Ideal) ℓ) (c : Dev nD)

/-- The projections, the memory's keys and values, and the gradient at the concatenation. -/
abbrev a0 : FVec Ideal S2048x1792 .f32 := m ((c.tc : Thread nD τ).loc main_arg0)
abbrev a1 : FVec Ideal S256x512 .bf16 := m ((c.tc : Thread nD τ).loc main_arg1)
abbrev a2 : FVec Ideal S2048x1024 .f32 := m ((c.tc : Thread nD τ).loc main_arg2)

theorem bq (t : Fin cfg0.N) (r : Fin 256) : (fun d => (iblk m c 0 t : Vec Ideal S256x256 .f32) (ix2 r d)) = que (a0 m c) (row8 t r) := by
  funext d
  obtain ⟨h0, -⟩ := idx t
  unfold que
  blk_ext [iblk, h0, row8]

theorem bk (t : Fin cfg0.N) : (fun j d => (iblk m c 1 t : Vec Ideal S256x256 .bf16) (ix2 j d)) = key (a1 m c) := by
  funext j d
  obtain ⟨-, h1, -⟩ := idx t
  blk_ext [iblk, h1]

theorem bv (t : Fin cfg0.N) : (fun j d => (iblk m c 2 t : Vec Ideal S256x256 .bf16) (ix2 j d)) = vlu (a1 m c) := by
  funext j d
  obtain ⟨-, -, h2, -⟩ := idx t
  blk_ext [iblk, h2]

theorem bg (t : Fin cfg0.N) (r : Fin 256) : (fun d => (iblk m c 3 t : Vec Ideal S256x256 .f32) (ix2 r d)) = gro (a2 m c) (row8 t r) := by
  funext d
  obtain ⟨-, -, -, h3, -⟩ := idx t
  unfold gro
  blk_ext [iblk, h3, row8]

theorem point (t : Fin cfg0.N) : (outsAt0 m c t.val t.isLt).1 = QS (iblk m c 0 t) (iblk m c 3 t) (iblk m c 1 t) (iblk m c 2 t) := by
  by_cases h : t.val % 8 = 0
  · rw [outsAt0_A m c t h]
    dsimp only
    rw [outA4]
  · rw [outsAt0_B m c t h]
    dsimp only
    rw [outB4]

theorem zero_apply (y : S256x256.Idx) : broadcast S256x256 (Scalar.ofBits (F := Ideal) .f32 0x00000000#32) y = (0 : EReal) := by
  obtain ⟨i, j, rfl⟩ := Cert.Prod.two y
  pointwise

theorem heldK (j d : Fin 256) : ∀ (n : ℕ) (hn : n < cfg0.N), (outsAt0 m c n hn).2.1 (ix2 j d)
    = ∑ t : Fin (n + 1), kst (que (a0 m c)) (gro (a2 m c)) (a1 m c) j d ⟨t.val, Nat.lt_of_lt_of_le t.isLt hn⟩ := by
  have e : ∀ (t : Fin cfg0.N) (a : FVec Ideal S256x256 .f32), KS (iblk m c 0 t) (iblk m c 3 t) (iblk m c 1 t) (iblk m c 2 t) a (ix2 j d)
      = a (ix2 j d) + kst (que (a0 m c)) (gro (a2 m c)) (a1 m c) j d t := fun t a => by
    rw [KS_apply, bk, bv, Finset.sum_congr rfl fun r _ => by rw [bq, bg, congrFun (bq m c t r) d]]
    rfl
  refine runs (fun n hn => (outsAt0 m c n hn).2.1 (ix2 j d)) (kst (que (a0 m c)) (gro (a2 m c)) (a1 m c) j d) (fun h => ?_) (fun n h => ?_)
  · show (outsAt0 m c 0 h).2.1 (ix2 j d) = _
    rw [outsAt0_A m c ⟨0, h⟩ rfl]
    dsimp only
    rw [outA5, e]
    exact (congrArg (· + _) (zero_apply (ix2 j d))).trans (zero_add _)
  · have hN : cfg0.N = 8 := N_0
    show (outsAt0 m c (n + 1) h).2.1 (ix2 j d) = _
    rw [outsAt0_B m c ⟨n + 1, h⟩ (by dsimp only; omega)]
    dsimp only
    rw [outB5, e]
    rfl

theorem heldV (j d : Fin 256) : ∀ (n : ℕ) (hn : n < cfg0.N), (outsAt0 m c n hn).2.2 (ix2 j d)
    = ∑ t : Fin (n + 1), vst (que (a0 m c)) (gro (a2 m c)) (a1 m c) j d ⟨t.val, Nat.lt_of_lt_of_le t.isLt hn⟩ := by
  have e : ∀ (t : Fin cfg0.N) (a : FVec Ideal S256x256 .f32), VS (iblk m c 0 t) (iblk m c 3 t) (iblk m c 1 t) a (ix2 j d)
      = a (ix2 j d) + vst (que (a0 m c)) (gro (a2 m c)) (a1 m c) j d t := fun t a => by
    rw [VS_apply, bk, Finset.sum_congr rfl fun r _ => by rw [bq, congrFun (bg m c t r) d]]
    rfl
  refine runs (fun n hn => (outsAt0 m c n hn).2.2 (ix2 j d)) (vst (que (a0 m c)) (gro (a2 m c)) (a1 m c) j d) (fun h => ?_) (fun n h => ?_)
  · show (outsAt0 m c 0 h).2.2 (ix2 j d) = _
    rw [outsAt0_A m c ⟨0, h⟩ rfl]
    dsimp only
    rw [outA6, e]
    exact (congrArg (· + _) (zero_apply (ix2 j d))).trans (zero_add _)
  · have hN : cfg0.N = 8 := N_0
    show (outsAt0 m c (n + 1) h).2.2 (ix2 j d) = _
    rw [outsAt0_B m c ⟨n + 1, h⟩ (by dsimp only; omega)]
    dsimp only
    rw [outB6, e]
    rfl

theorem last : ∀ t : Fin cfg0.N, (win0_5.flush t = true → t.val = 7) ∧ (win0_6.flush t = true → t.val = 7) := by
  decide +kernel

theorem arr4 : ((dats m 0 c).arrAt 4 cfg0.N : FVec Ideal S2048x256 .f32) = dqs (que (a0 m c)) (gro (a2 m c)) (a1 m c) := by
  refine (dats m 0 c).arrAt_eq_of_covers 4 _ (by decide +kernel) fun t hf y => ?_
  obtain ⟨-, -, -, -, h4, -⟩ := idx t
  show (dats m 0 c).after 4 t y = _
  rw [after0_4, point]
  obtain ⟨i, j, rfl⟩ := Cert.Prod.two y
  rw [QS_apply, bq, bg, bk, bv]
  refine Eq.trans (b := dqs (que (a0 m c)) (gro (a2 m c)) (a1 m c) (ix2 (row8 t i) j)) rfl ?_
  refine congrArg _ (?_ : _ = _)
  refine (Cert.Fox.eq2 (Fin.ext ?_) (Fin.ext ?_)).symm
  · simp [h4, row8]; exact mul_comm _ _
  · simp [h4]

theorem endK (i j : Fin 256) : ∀ t : Fin cfg0.N, t.val = 7 → (outsAt0 m c t.val t.isLt).2.1 (ix2 i j) = dks (que (a0 m c)) (gro (a2 m c)) (a1 m c) (ix2 i j) := by
  rintro ⟨_, hn⟩ rfl
  exact heldK m c i j 7 hn

theorem arr5 : ((dats m 0 c).arrAt 5 cfg0.N : FVec Ideal S256x256 .f32) = dks (que (a0 m c)) (gro (a2 m c)) (a1 m c) := by
  refine (dats m 0 c).arrAt_eq_of_covers 5 _ (by decide +kernel) fun t hf y => ?_
  obtain ⟨-, -, -, -, -, h5, -⟩ := idx t
  show (dats m 0 c).after 5 t y = _
  rw [after0_5]
  obtain ⟨i, j, rfl⟩ := Cert.Prod.two y
  refine (endK m c i j t ((last t).1 hf)).trans (congrArg _ ?_)
  refine (Cert.Fox.eq2 (Fin.ext ?_) (Fin.ext ?_)).symm
  · simp [h5]
  · simp [h5]

theorem endV (i j : Fin 256) : ∀ t : Fin cfg0.N, t.val = 7 → (outsAt0 m c t.val t.isLt).2.2 (ix2 i j) = dvs (que (a0 m c)) (gro (a2 m c)) (a1 m c) (ix2 i j) := by
  rintro ⟨_, hn⟩ rfl
  exact heldV m c i j 7 hn

theorem arr6 : ((dats m 0 c).arrAt 6 cfg0.N : FVec Ideal S256x256 .f32) = dvs (que (a0 m c)) (gro (a2 m c)) (a1 m c) := by
  refine (dats m 0 c).arrAt_eq_of_covers 6 _ (by decide +kernel) fun t hf y => ?_
  obtain ⟨-, -, -, -, -, -, h6⟩ := idx t
  show (dats m 0 c).after 6 t y = _
  rw [after0_6]
  obtain ⟨i, j, rfl⟩ := Cert.Prod.two y
  refine (endV m c i j t ((last t).2 hf)).trans (congrArg _ ?_)
  refine (Cert.Fox.eq2 (Fin.ext ?_) (Fin.ext ?_)).symm
  · simp [h6]
  · simp [h6]

end Cert.Kernel28Ideal.Mem
-- ==== Proof.MemGrad.lean ====
/- The memory attention's gradient: the plain gradient's stages, over real queries and keys, are the kernel's three results. -/
module

public import proofs.«01_k».proof.Proof.Gen.Reference28Ideal.Read
public import proofs.«01_k».proof.Proof.MemBack
public import proofs.«01_k».proof.Proof.Finite
public import proofs.«01_k».proof.Proof.Gen.Pre_finite28

@[expose] public section

set_option maxRecDepth 65536

noncomputable section

namespace Cert.Kernel28Ideal.Mem

open Idealize.ShloMosaic Idealize.ShloMosaic.TcCoe Idealize.ShloMosaic.Tactic
open Cert.Kernel26Ideal.Mem (ch hd pr ex sc key vlu que)
open Cert.Fox (coe_sum)

/-! ## Real rows -/

variable (q : Fin 256 → ℝ) (k : Fin 256 → Fin 256 → ℝ) (Q G : Fin 256 → EReal) (K V : Fin 256 → Fin 256 → EReal) (h : Fin 4)

/-- The largest of 256 real numbers is real. -/
theorem fold_real (f : Fin 256 → ℝ) : ∃ x : ℝ, (Finset.univ.fold max ⊥ fun j => ((f j : ℝ) : EReal)) = x := by
  obtain ⟨i, -, e⟩ := Finset.exists_mem_eq_sup Finset.univ ⟨(0 : Fin 256), Finset.mem_univ _⟩ fun j => ((f j : ℝ) : EReal)
  exact ⟨f i, e⟩

/-- A row's exponentials are positive real numbers. -/
theorem ex_real : ∃ e : Fin 256 → ℝ, (∀ j, 0 < e j) ∧ ∀ j, ex (fun c => (q c : EReal)) (fun j c => (k j c : EReal)) h j = e j := by
  have s : ∀ j, sc (fun c => (q c : EReal)) (fun j c => (k j c : EReal)) h j = (((∑ d, q (ch h d) * k j (ch h d)) * (1 / 8) : ℝ) : EReal) := fun j => by
    unfold sc
    rw [Finset.sum_congr rfl fun d _ => (EReal.coe_mul _ _).symm, coe_sum, ← EReal.coe_mul]
  obtain ⟨x, hx⟩ := fold_real fun j => (∑ d, q (ch h d) * k j (ch h d)) * (1 / 8)
  refine ⟨fun j => Real.exp ((∑ d, q (ch h d) * k j (ch h d)) * (1 / 8) - x), fun j => Real.exp_pos _, fun j => ?_⟩
  unfold ex
  rw [funext s, hx, ← EReal.coe_sub]
  rfl

/-- A positive real factor common to the summands. -/
theorem pull {n : ℕ} (f : Fin n → EReal) {a : ℝ} (ha : 0 ≤ a) : ∑ i, f i * (a : EReal) = (∑ i, f i) * (a : EReal) := by
  induction n with
  | zero => rw [Fin.sum_univ_zero, Fin.sum_univ_zero, zero_mul]
  | succ n ih =>
    rw [Fin.sum_univ_succ, Fin.sum_univ_succ, ih, EReal.right_distrib_of_nonneg_of_ne_top (EReal.coe_nonneg.mpr ha) (EReal.coe_ne_top a)]

/-- Where a row's queries and keys are real, the plain gradient's form of the gradient at the scores, by the exponentials and their
    sum, is the kernel's by the probabilities: dividing by a positive number goes through every sum, infinite or not. -/
theorem dsc_real (hQ : ∀ c, Q c = ((EReal.toReal (Q c) : ℝ) : EReal)) (hK : ∀ j c, K j c = ((EReal.toReal (K j c) : ℝ) : EReal)) (j : Fin 256) :
    (Ideal.div (dpr G V h j) (∑ i, ex Q K h i)
      + -(∑ i, dpr G V h i * Ideal.div 1 ((∑ i, ex Q K h i) * ∑ i, ex Q K h i) * ex Q K h i)) * ex Q K h j = dsc Q G K V h j := by
  obtain ⟨e, he, hex⟩ := ex_real (fun c => EReal.toReal (Q c)) (fun j c => EReal.toReal (K j c)) h
  rw [← (funext hQ : Q = fun c => ((EReal.toReal (Q c) : ℝ) : EReal)), ← (funext fun j => funext (hK j) : K = fun j c => ((EReal.toReal (K j c) : ℝ) : EReal))] at hex
  have hL : 0 < ∑ i, e i := Finset.sum_pos (fun i _ => he i) ⟨(0 : Fin 256), Finset.mem_univ _⟩
  have hS : ∑ i, ex Q K h i = ((∑ i, e i : ℝ) : EReal) := by
    rw [Finset.sum_congr rfl fun i _ => hex i, coe_sum]
  generalize hl : ∑ i, e i = L at hL hS
  have hw : 0 ≤ 1 / L := (one_div_pos.mpr hL).le
  have hp : ∀ j, pr Q K h j = (e j : EReal) * ((1 / L : ℝ) : EReal) := fun j => by
    unfold pr
    rw [hS, hex, Ideal.div_coe hL.ne']
  have hR : ∑ i, dpr G V h i * Ideal.div 1 ((L : EReal) * L) * ex Q K h i = (∑ i, dpr G V h i * pr Q K h i) * ((1 / L : ℝ) : EReal) := by
    rw [← pull _ hw, ← EReal.coe_mul, Ideal.div_coe (mul_pos hL hL).ne', one_mul, ← one_div_mul_one_div, EReal.coe_mul]
    refine Finset.sum_congr rfl fun i _ => ?_
    rw [hp, hex]
    ac_rfl
  unfold dsc
  rw [hS, hR, hp, hex, Ideal.div_coe hL.ne', ← EReal.neg_mul, ← EReal.right_distrib_of_nonneg_of_ne_top (EReal.coe_nonneg.mpr hw) (EReal.coe_ne_top _), ← sub_eq_add_neg]
  ac_rfl

/-- A sum over the rows, block by block. -/
theorem blocks (f : Fin 2048 → EReal) : ∑ r, f r = ∑ t : Fin 8, ∑ r : Fin 256, f (row8 t r) := by
  rw [← Fintype.sum_prod_type']
  refine (Fintype.sum_equiv (finProdFinEquiv (m := 8) (n := 256)) _ _ fun x => ?_).symm
  exact congrArg f (Fin.ext (by show 256 * x.1.val + x.2.val = x.2.val + 256 * x.1.val; omega))

end Cert.Kernel28Ideal.Mem

namespace Cert.Reference28Ideal.Mem

open Idealize.ShloMosaic Idealize.ShloMosaic.TcCoe Idealize.ShloMosaic.Tactic Cert.Reference28Ideal Cert.Reference28Ideal.Gen
open Cert.Reference28Ideal.Read Cert.Kernel28Ideal.Mem
open Cert.Kernel26Ideal.Mem (ch hd pr ex sc key vlu que)

variable (x0 : FVec Ideal S2048x1792 .f32) (x1 : FVec Ideal S256x512 .bf16) (x2 : FVec Ideal S2048x1024 .f32)

theorem v4 (r : Fin 2048) (h : Fin 4) (d : Fin 64) : val_main_v4 (F := Ideal) x0 (ix3 r h d) = que x0 r (ch h d) := Cert.Reference26Ideal.Mem.v4 x0 r h d

theorem v5 (j : Fin 256) (h : Fin 4) (d : Fin 64) : val_main_v5 (F := Ideal) x1 (ix3 j h d) = key x1 j (ch h d) := Cert.Reference26Ideal.Mem.v5 x1 j h d

theorem v6 (j : Fin 256) (h : Fin 4) (d : Fin 64) : val_main_v6 (F := Ideal) x1 (ix3 j h d) = vlu x1 j (ch h d) := Cert.Reference26Ideal.Mem.v6 x1 j h d

theorem v30 (h : Fin 4) (r : Fin 2048) (j : Fin 256) : val_main_v30 (F := Ideal) x0 x1 (ix3 h r j) = ex (que x0 r) (key x1) h j :=
  Cert.Reference26Ideal.Mem.v16 x0 x1 h r j

theorem v34 (h : Fin 4) (r : Fin 2048) (j : Fin 256) : val_main_v34 (F := Ideal) x0 x1 (ix3 h r j) = pr (que x0 r) (key x1) h j :=
  Cert.Reference26Ideal.Mem.v20 x0 x1 h r j

theorem v32 (h : Fin 4) (r : Fin 2048) (i : S4x2048x1.Idx) (h0 : i 0 = h) (h1 : i 1 = r) : val_main_v32 (F := Ideal) x0 x1 i = ∑ j, ex (que x0 r) (key x1) h j := by
  obtain ⟨z, rfl⟩ : ∃ z, i = ix3 h r z := ⟨i 2, Cert.Fox.eq3 h0 h1 rfl⟩
  rw [val_main_v32_apply, val_main_v31_apply]
  refine (congrArg₂ (· + ·) (Ideal.ofBits_zero FTy.f32) (Finset.sum_congr rfl fun k _ => ?_)).trans (zero_add _)
  exact (congrArg _ (Cert.Fox.eq3 rfl rfl rfl)).trans (v30 x0 x1 h r k)

theorem v43 (h : Fin 4) (d : Fin 64) (r : Fin 2048) : val_main_v43 (F := Ideal) x2 (ix3 h d r) = gro x2 r (ch h d) := by
  rw [val_main_v43_apply, val_main_v42_apply, val_main_v41_apply]
  refine congrArg x2 (Cert.Fox.eq2 (Fin.ext ?_) (Fin.ext ?_))
  · show ((r.val * 4 + h.val) * 64 + d.val) / 256 = r.val; omega
  · show 768 + ((r.val * 4 + h.val) * 64 + d.val) % 256 = 768 + (64 * h.val + d.val); omega

theorem v44 (h : Fin 4) (r : Fin 2048) (j : Fin 256) : val_main_v44 (F := Ideal) x1 x2 (ix3 h r j) = dpr (gro x2 r) (vlu x1) h j := by
  rw [val_main_v44_apply]
  refine Finset.sum_congr rfl fun d _ => ?_
  rw [← v43, ← v6]
  exact congrArg₂ (· * ·) (congrArg _ (Cert.Fox.eq3 rfl rfl rfl)) (congrArg _ (Cert.Fox.eq3 rfl rfl rfl))

theorem v49 (h : Fin 4) (r : Fin 2048) (j : Fin 256) : val_main_v49 (F := Ideal) x0 x1 x2 (ix3 h r j) = dpr (gro x2 r) (vlu x1) h j
    * Ideal.div 1 ((∑ i, ex (que x0 r) (key x1) h i) * ∑ i, ex (que x0 r) (key x1) h i) * ex (que x0 r) (key x1) h j := by
  rw [val_main_v49_apply, v30, val_main_v48_apply, v44, val_main_v47_apply, val_main_v37_apply, val_main_v35_apply, v32 x0 x1 h r _ rfl rfl, val_main_v36_apply, val_main_cst_9_apply]
  refine congrArg (fun o => dpr (gro x2 r) (vlu x1) h j * Ideal.div o _ * ex (que x0 r) (key x1) h j) ?_
  exact Ideal.ofBits_one_f32

theorem v52 (h : Fin 4) (r : Fin 2048) (i : S4x2048x1.Idx) (h0 : i 0 = h) (h1 : i 1 = r) : val_main_v52 (F := Ideal) x0 x1 x2 i = -∑ j, dpr (gro x2 r) (vlu x1) h j
    * Ideal.div 1 ((∑ i, ex (que x0 r) (key x1) h i) * ∑ i, ex (que x0 r) (key x1) h i) * ex (que x0 r) (key x1) h j := by
  obtain ⟨z, rfl⟩ : ∃ z, i = ix3 h r z := ⟨i 2, Cert.Fox.eq3 h0 h1 rfl⟩
  rw [val_main_v52_apply, val_main_v51_apply, val_main_v50_apply]
  refine congrArg (fun o : EReal => -o) ?_
  refine (congrArg₂ (· + ·) (Ideal.ofBits_zero FTy.f32) (Finset.sum_congr rfl fun k _ => ?_)).trans (zero_add _)
  refine (congrArg _ (Cert.Fox.eq3 (Fin.ext ?_) (Fin.ext ?_) rfl)).trans (v49 x0 x1 x2 h r k)
  · show ((h.val * 2048 + r.val) * 1 + z.val) / 2048 = h.val; omega
  · show ((h.val * 2048 + r.val) * 1 + z.val) % 2048 = r.val; omega

theorem v60 (h : Fin 4) (r : Fin 2048) (j : Fin 256) : val_main_v60 (F := Ideal) x0 x1 x2 (ix3 h r j)
    = (Ideal.div (dpr (gro x2 r) (vlu x1) h j) (∑ i, ex (que x0 r) (key x1) h i) + -∑ j, dpr (gro x2 r) (vlu x1) h j
    * Ideal.div 1 ((∑ i, ex (que x0 r) (key x1) h i) * ∑ i, ex (que x0 r) (key x1) h i) * ex (que x0 r) (key x1) h j)
      * ex (que x0 r) (key x1) h j * ((1 / 8 : ℝ) : EReal) := by
  rw [val_main_v60_apply, val_main_v58_apply, v30, val_main_v57_apply, val_main_v54_apply, v44, val_main_v53_apply, v32 x0 x1 h r _ rfl rfl, val_main_v59_apply, val_main_cst_12_apply,
    val_main_v56_apply, val_main_v55_apply, Fin.sum_univ_one, v52 x0 x1 x2 h r _ rfl rfl]
  refine congrArg₂ (fun o e : EReal => (Ideal.div (dpr (gro x2 r) (vlu x1) h j) (∑ i, ex (que x0 r) (key x1) h i) + o) * ex (que x0 r) (key x1) h j * e) ?_
    Cert.KernelIdeal.Fox.ofBits_eighth
  exact (congrArg (· + _) (Ideal.ofBits_zero FTy.f32)).trans (zero_add _)

variable (g0 : Cert.Fox.IsReal (val_main_v0 (F := Ideal) x0)) (g1 : Cert.Fox.IsReal (val_main_v2 (F := Ideal) x1))

include g0 in
theorem real_que (r : Fin 2048) (c : Fin 256) : que x0 r c = ((EReal.toReal (que x0 r c) : ℝ) : EReal) := by
  have e : val_main_v0 (F := Ideal) x0 (ix2 r c) = que x0 r c := by
    rw [val_main_v0_apply]
    exact congrArg x0 (Cert.Fox.eq2 rfl rfl)
  exact e ▸ g0 (ix2 r c)

include g1 in
theorem real_key (j c : Fin 256) : key x1 j c = ((EReal.toReal (key x1 j c) : ℝ) : EReal) := by
  have e : val_main_v2 (F := Ideal) x1 (ix2 j c) = key x1 j c := by
    rw [val_main_v2_apply]
    exact congrArg x1 (Cert.Fox.eq2 rfl rfl)
  exact e ▸ g1 (ix2 j c)

include g0 g1 in
/-- Over real queries and keys the plain gradient at the scores is the kernel's times the scale. -/
theorem scores (h : Fin 4) (r : Fin 2048) (j : Fin 256) :
    val_main_v60 (F := Ideal) x0 x1 x2 (ix3 h r j) = dsc (que x0 r) (gro x2 r) (key x1) (vlu x1) h j * ((1 / 8 : ℝ) : EReal) :=
  (v60 x0 x1 x2 h r j).trans (congrArg (· * ((1 / 8 : ℝ) : EReal)) (dsc_real _ _ _ _ h (real_que x0 g0 r) (real_key x1 g1) j))

/-- A channel's place in its head. -/
abbrev wi (c : Fin 256) : Fin 64 := ⟨c.val % 64, Nat.mod_lt _ (by decide)⟩

theorem ch_wi (c : Fin 256) : ch (hd c) (wi c) = c := Fin.ext (by show 64 * (c.val / 64) + c.val % 64 = c.val; omega)

include g0 g1 in
theorem ref_dq : val_main_v67 (F := Ideal) x0 x1 x2 = dqs (que x0) (gro x2) x1 := by
  funext y
  obtain ⟨r, c, rfl⟩ := Cert.Prod.two y
  have e : idx_main_v64 (idx_main_v67 (ix2 r c)) = ix3 (hd c) r (wi c) := by
    refine Cert.Fox.eq3 (Fin.ext ?_) (Fin.ext ?_) (Fin.ext ?_)
    · show (r.val * 256 + c.val) / 64 % 4 = c.val / 64; omega
    · show (r.val * 256 + c.val) / 256 = r.val; omega
    · show (r.val * 256 + c.val) % 64 = c.val % 64; omega
  rw [val_main_v67_apply, val_main_v64_apply, e, val_main_v63_apply]
  refine Eq.trans (Finset.sum_congr rfl fun j _ => (congrArg₂ (· * ·) ?_ ?_).trans (mul_right_comm (G := EReal)
    (dsc (que x0 r) (gro x2 r) (key x1) (vlu x1) (hd c) j) _ (key x1 j c))) (pull _ (by norm_num))
  · exact (congrArg _ (Cert.Fox.eq3 rfl rfl rfl)).trans (scores x0 x1 x2 g0 g1 (hd c) r j)
  · refine (congrArg _ (Cert.Fox.eq3 rfl rfl rfl)).trans ((v5 x1 j (hd c) (wi c)).trans ?_)
    rw [ch_wi]

include g0 g1 in
theorem ref_dk : val_main_v66 (F := Ideal) x0 x1 x2 = dks (que x0) (gro x2) x1 := by
  funext y
  obtain ⟨j, c, rfl⟩ := Cert.Prod.two y
  have e : idx_main_v62 (idx_main_v66 (ix2 j c)) = ix3 (hd c) j (wi c) := by
    refine Cert.Fox.eq3 (Fin.ext ?_) (Fin.ext ?_) (Fin.ext ?_)
    · show (j.val * 256 + c.val) / 64 % 4 = c.val / 64; omega
    · show (j.val * 256 + c.val) / 256 = j.val; omega
    · show (j.val * 256 + c.val) % 64 = c.val % 64; omega
  rw [val_main_v66_apply, val_main_v62_apply, e, val_main_v61_apply, blocks]
  refine Finset.sum_congr rfl fun t _ => ?_
  refine Eq.trans (Finset.sum_congr rfl fun r _ => (congrArg₂ (· * ·) ?_ ?_).trans (mul_right_comm (G := EReal)
    (dsc (que x0 (row8 t r)) (gro x2 (row8 t r)) (key x1) (vlu x1) (hd c) j) _ (que x0 (row8 t r) c))) (pull _ (by norm_num))
  · exact (congrArg _ (Cert.Fox.eq3 rfl rfl rfl)).trans (scores x0 x1 x2 g0 g1 (hd c) (row8 t r) j)
  · refine (congrArg _ (Cert.Fox.eq3 rfl rfl rfl)).trans ((v4 x0 (row8 t r) (hd c) (wi c)).trans ?_)
    rw [ch_wi]

theorem ref_dv : val_main_v65 (F := Ideal) x0 x1 x2 = dvs (que x0) (gro x2) x1 := by
  funext y
  obtain ⟨j, c, rfl⟩ := Cert.Prod.two y
  have e : idx_main_v46 (idx_main_v65 (ix2 j c)) = ix3 (hd c) (wi c) j := by
    refine Cert.Fox.eq3 (Fin.ext ?_) (Fin.ext ?_) (Fin.ext ?_)
    · show (j.val * 256 + c.val) / 64 % 4 = c.val / 64; omega
    · show (j.val * 256 + c.val) % 64 = c.val % 64; omega
    · show (j.val * 256 + c.val) / 256 = j.val; omega
  rw [val_main_v65_apply, val_main_v46_apply, e, val_main_v45_apply, blocks]
  refine Finset.sum_congr rfl fun t _ => Finset.sum_congr rfl fun r _ => Eq.trans (mul_comm (G := EReal) _ _) (congrArg₂ (· * ·) ?_ ?_)
  · exact (congrArg _ (Cert.Fox.eq3 rfl rfl rfl)).trans (v34 x0 x1 (hd c) (row8 t r) j)
  · refine (congrArg _ (Cert.Fox.eq3 rfl rfl rfl)).trans ((v43 x2 (hd c) (wi c) (row8 t r)).trans ?_)
    rw [ch_wi]
    rfl

end Cert.Reference28Ideal.Mem

namespace Cert.Mem

open Idealize.ShloMosaic Idealize.ShloMosaic.TcCoe Idealize.ShloMosaic.Tactic Idealize.SL.Sem
open Cert.Kernel26Ideal.Mem (que)
open Cert.Kernel28Ideal.Mem

theorem agree28 : Cert.algebraic_Kernel28Ideal_Reference28Ideal_pre_finite28 (hKernel28Ideal := Cert.Kernel28Ideal.Gen.facts)
    (hReference28Ideal := Cert.Reference28Ideal.Gen.facts) (hPre_finite28 := Cert.Pre_finite28.Gen.facts) := by
  intro m g m' g' hpre hag
  refine ⟨fun c => dqs (que (a0 m c)) (gro (a2 m c)) (a1 m c), fun c => dks (que (a0 m c)) (gro (a2 m c)) (a1 m c), fun c => dvs (que (a0 m c)) (gro (a2 m c)) (a1 m c), ?_, ?_⟩
  · refine (θ_run Cert.Kernel28Ideal.defs _ _).mono (fun r h c => ?_) (Cert.Kernel28Ideal.Value.run_blocks m g)
    exact ⟨(h c).1.trans (arr4 m c), (h c).2.1.trans (arr5 m c), (h c).2.2.1.trans (arr6 m c), (h c).2.2.2⟩
  · refine (θ_run Cert.Reference28Ideal.defs _ _).mono (fun r h c => ?_) (Cert.Reference28Ideal.Value.run (F := Ideal) m' g')
    obtain ⟨e0, e1, e2⟩ := hag c
    obtain ⟨r0, r1, r2, hargs⟩ := h c
    obtain ⟨p0, p1⟩ := hpre c
    unfold Cert.Pre_finite28.fn at p0 p1
    have G0 : Cert.Fox.IsReal (Cert.Reference28Ideal.Read.val_main_v0 (F := Ideal) (a0 m c)) := Cert.Fox.isReal_of _ _ _ p0
    have G1 : Cert.Fox.IsReal (Cert.Reference28Ideal.Read.val_main_v2 (F := Ideal) (a1 m c)) := Cert.Fox.isReal_of _ _ _ p1
    rw [Cert.Reference28Ideal.Read.val_main_v67_eq, e0, e1, e2, Cert.Reference28Ideal.Mem.ref_dq _ _ _ G0 G1] at r0
    rw [Cert.Reference28Ideal.Read.val_main_v66_eq, e0, e1, e2, Cert.Reference28Ideal.Mem.ref_dk _ _ _ G0 G1] at r1
    rw [Cert.Reference28Ideal.Read.val_main_v65_eq, e0, e1, e2, Cert.Reference28Ideal.Mem.ref_dv] at r2
    exact ⟨r0, r1, r2, hargs⟩

end Cert.Mem

end
-- ==== Proof.MemSelf.lean ====
/- The memory attention's backward call of the other layers, whose projections are fewer: the same steps, over the queries where
   these projections hold them. -/
module

public import proofs.«01_k».proof.Proof.Gen.Kernel29Ideal.Value
public import proofs.«01_k».proof.Proof.Gen.Reference29Ideal.Read
public import proofs.«01_k».proof.Proof.MemGrad
public import proofs.«01_k».proof.Proof.Gen.Pre_finite29

@[expose] public section

set_option maxRecDepth 65536

noncomputable section

namespace Cert.Kernel29Ideal.Mem

open Idealize.ShloMosaic Idealize.ShloMosaic.TcCoe Idealize.ShloMosaic.Tactic Cert.Kernel29Ideal Cert.Kernel29Ideal.Gen
open Cert.Kernel26Ideal.Mem (key vlu)
open Cert.Kernel27Ideal.Mem (que)
open Cert.Kernel28Ideal.Mem (QS KS VS QS_apply KS_apply VS_apply storedQ storedK storedV ldz cnz runs row8 gro dqs dks dvs kst vst zero_apply)

variable (q dy : FVec Ideal S256x256 .f32) (k v : FVec Ideal S256x256 .bf16)

section
variable (c : Dev nD) (i : grid0.Coords) (arg1 : Memref sig .tc .vmem S256x256 .f32) (harg1 : arg1.IsWhole) (arg2 : Memref sig .tc .vmem S256x256 .bf16) (harg2 : arg2.IsWhole)
  (arg3 : Memref sig .tc .vmem S256x256 .bf16) (harg3 : arg3.IsWhole) (arg4 : Memref sig .tc .vmem S256x256 .f32) (harg4 : arg4.IsWhole)
  (arg5 : Memref sig .tc .vmem S256x256 .f32) (harg5 : arg5.IsWhole) (arg6 : Memref sig .tc .vmem S256x256 .f32) (harg6 : arg6.IsWhole)
  (arg7 : Memref sig .tc .vmem S256x256 .f32) (harg7 : arg7.IsWhole) (xo5 xo6 : Vec Ideal S256x256 .f32)

theorem outA4 (hc0 : cond0_0 i) : out0_A_4 (F := Ideal) c i arg1 harg1 arg2 harg2 arg3 harg3 arg4 harg4 arg5 harg5 arg6 harg6 arg7 harg7 hc0 q k v dy = QS q dy k v := by
  unfold out0_A_4
  rw [View.read_writes_junk_eq_canon VO0_4]
  unfold kernelRun0_A; dsimp only; sl_unfold_words
  simp only [View.readAt_eq_ld, harg1.read_unread, harg2.read_unread, harg3.read_unread, harg4.read_unread, ldz]
  rw [cnz]
  exact storedQ q dy k v

theorem outA5 (hc0 : cond0_0 i) : out0_A_5 (F := Ideal) c i arg1 harg1 arg2 harg2 arg3 harg3 arg4 harg4 arg5 harg5 arg6 harg6 arg7 harg7 hc0 q k v dy = KS q dy k v k0_pay2 := by
  unfold out0_A_5
  rw [View.read_writes_junk_eq_canon VO0_5]
  unfold kernelRun0_A; dsimp only; sl_unfold_words
  simp only [View.readAt_eq_ld, harg1.read_unread, harg2.read_unread, harg3.read_unread, harg4.read_unread, ldz, View.readCov_cons_toLoadRect]
  rw [cnz]
  exact storedK q dy k v _

theorem outA6 (hc0 : cond0_0 i) : out0_A_6 (F := Ideal) c i arg1 harg1 arg2 harg2 arg3 harg3 arg4 harg4 arg5 harg5 arg6 harg6 arg7 harg7 hc0 q k v dy = VS q dy k k0_pay3 := by
  unfold out0_A_6
  rw [View.read_writes_junk_eq_canon VO0_6]
  unfold kernelRun0_A; dsimp only; sl_unfold_words
  simp only [View.readAt_eq_ld, harg1.read_unread, harg2.read_unread, harg3.read_unread, harg4.read_unread, ldz, View.readCov_cons_toLoadRect]
  rw [cnz]
  exact storedV q dy k _

theorem outB4 (hc0 : ¬cond0_0 i) : out0_B_4 (F := Ideal) c i arg1 harg1 arg2 harg2 arg3 harg3 arg4 harg4 arg5 harg5 arg6 harg6 arg7 harg7 hc0 q k v dy xo5 xo6 = QS q dy k v := by
  unfold out0_B_4
  rw [View.read_writes_junk_eq_canon VO0_4]
  unfold kernelRun0_B; dsimp only; sl_unfold_words
  simp only [View.readAt_eq_ld, harg1.read_unread, harg2.read_unread, harg3.read_unread, harg4.read_unread, ldz]
  rw [cnz]
  exact storedQ q dy k v

theorem outB5 (hc0 : ¬cond0_0 i) : out0_B_5 (F := Ideal) c i arg1 harg1 arg2 harg2 arg3 harg3 arg4 harg4 arg5 harg5 arg6 harg6 arg7 harg7 hc0 q k v dy xo5 xo6 = KS q dy k v xo5 := by
  unfold out0_B_5
  rw [View.read_writes_junk_eq_canon VO0_5]
  unfold kernelRun0_B; dsimp only; sl_unfold_words
  simp only [View.readAt_eq_ld, harg1.read_unread, harg2.read_unread, harg3.read_unread, harg4.read_unread, harg6.read_unread, ldz, View.readCov_cons_toLoadRect]
  rw [cnz]
  exact storedK q dy k v _

theorem outB6 (hc0 : ¬cond0_0 i) : out0_B_6 (F := Ideal) c i arg1 harg1 arg2 harg2 arg3 harg3 arg4 harg4 arg5 harg5 arg6 harg6 arg7 harg7 hc0 q k v dy xo5 xo6 = VS q dy k xo6 := by
  unfold out0_B_6
  rw [View.read_writes_junk_eq_canon VO0_6]
  unfold kernelRun0_B; dsimp only; sl_unfold_words
  simp only [View.readAt_eq_ld, harg1.read_unread, harg2.read_unread, harg3.read_unread, harg4.read_unread, harg7.read_unread, ldz, View.readCov_cons_toLoadRect]
  rw [cnz]
  exact storedV q dy k _

end

theorem idx : ∀ t : Fin cfg0.N, win0_0.index t = ![t.val, 3] ∧ win0_1.index t = ![0, 0] ∧ win0_2.index t = ![0, 1] ∧ win0_3.index t = ![t.val, 3]
    ∧ win0_4.index t = ![t.val, 0] ∧ win0_5.index t = ![0, 0] ∧ win0_6.index t = ![0, 0] := by
  decide +kernel

variable (m : (ℓ : Loc nD τ sig) → Buf (Elt Ideal) ℓ) (c : Dev nD)

/-- The projections, the memory's keys and values, and the gradient at the concatenation. -/
abbrev a0 : FVec Ideal S2048x1024 .f32 := m ((c.tc : Thread nD τ).loc main_arg0)
abbrev a1 : FVec Ideal S256x512 .bf16 := m ((c.tc : Thread nD τ).loc main_arg1)
abbrev a2 : FVec Ideal S2048x1024 .f32 := m ((c.tc : Thread nD τ).loc main_arg2)

theorem bq (t : Fin cfg0.N) (r : Fin 256) : (fun d => (iblk m c 0 t : Vec Ideal S256x256 .f32) (ix2 r d)) = que (a0 m c) (row8 t r) := by
  funext d
  obtain ⟨h0, -⟩ := idx t
  unfold que
  blk_ext [iblk, h0, row8]

theorem bk (t : Fin cfg0.N) : (fun j d => (iblk m c 1 t : Vec Ideal S256x256 .bf16) (ix2 j d)) = key (a1 m c) := by
  funext j d
  obtain ⟨-, h1, -⟩ := idx t
  blk_ext [iblk, h1]

theorem bv (t : Fin cfg0.N) : (fun j d => (iblk m c 2 t : Vec Ideal S256x256 .bf16) (ix2 j d)) = vlu (a1 m c) := by
  funext j d
  obtain ⟨-, -, h2, -⟩ := idx t
  blk_ext [iblk, h2]

theorem bg (t : Fin cfg0.N) (r : Fin 256) : (fun d => (iblk m c 3 t : Vec Ideal S256x256 .f32) (ix2 r d)) = gro (a2 m c) (row8 t r) := by
  funext d
  obtain ⟨-, -, -, h3, -⟩ := idx t
  unfold gro
  blk_ext [iblk, h3, row8]

theorem point (t : Fin cfg0.N) : (outsAt0 m c t.val t.isLt).1 = QS (iblk m c 0 t) (iblk m c 3 t) (iblk m c 1 t) (iblk m c 2 t) := by
  by_cases h : t.val % 8 = 0
  · rw [outsAt0_A m c t h]
    dsimp only
    rw [outA4]
  · rw [outsAt0_B m c t h]
    dsimp only
    rw [outB4]

theorem heldK (j d : Fin 256) : ∀ (n : ℕ) (hn : n < cfg0.N), (outsAt0 m c n hn).2.1 (ix2 j d)
    = ∑ t : Fin (n + 1), kst (que (a0 m c)) (gro (a2 m c)) (a1 m c) j d ⟨t.val, Nat.lt_of_lt_of_le t.isLt hn⟩ := by
  have e : ∀ (t : Fin cfg0.N) (a : FVec Ideal S256x256 .f32), KS (iblk m c 0 t) (iblk m c 3 t) (iblk m c 1 t) (iblk m c 2 t) a (ix2 j d)
      = a (ix2 j d) + kst (que (a0 m c)) (gro (a2 m c)) (a1 m c) j d t := fun t a => by
    rw [KS_apply, bk, bv, Finset.sum_congr rfl fun r _ => by rw [bq, bg, congrFun (bq m c t r) d]]
    rfl
  refine runs (fun n hn => (outsAt0 m c n hn).2.1 (ix2 j d)) (kst (que (a0 m c)) (gro (a2 m c)) (a1 m c) j d) (fun h => ?_) (fun n h => ?_)
  · show (outsAt0 m c 0 h).2.1 (ix2 j d) = _
    rw [outsAt0_A m c ⟨0, h⟩ rfl]
    dsimp only
    rw [outA5, e]
    exact (congrArg (· + _) (zero_apply (ix2 j d))).trans (zero_add _)
  · have hN : cfg0.N = 8 := N_0
    show (outsAt0 m c (n + 1) h).2.1 (ix2 j d) = _
    rw [outsAt0_B m c ⟨n + 1, h⟩ (by dsimp only; omega)]
    dsimp only
    rw [outB5, e]
    rfl

theorem heldV (j d : Fin 256) : ∀ (n : ℕ) (hn : n < cfg0.N), (outsAt0 m c n hn).2.2 (ix2 j d)
    = ∑ t : Fin (n + 1), vst (que (a0 m c)) (gro (a2 m c)) (a1 m c) j d ⟨t.val, Nat.lt_of_lt_of_le t.isLt hn⟩ := by
  have e : ∀ (t : Fin cfg0.N) (a : FVec Ideal S256x256 .f32), VS (iblk m c 0 t) (iblk m c 3 t) (iblk m c 1 t) a (ix2 j d)
      = a (ix2 j d) + vst (que (a0 m c)) (gro (a2 m c)) (a1 m c) j d t := fun t a => by
    rw [VS_apply, bk, Finset.sum_congr rfl fun r _ => by rw [bq, congrFun (bg m c t r) d]]
    rfl
  refine runs (fun n hn => (outsAt0 m c n hn).2.2 (ix2 j d)) (vst (que (a0 m c)) (gro (a2 m c)) (a1 m c) j d) (fun h => ?_) (fun n h => ?_)
  · show (outsAt0 m c 0 h).2.2 (ix2 j d) = _
    rw [outsAt0_A m c ⟨0, h⟩ rfl]
    dsimp only
    rw [outA6, e]
    exact (congrArg (· + _) (zero_apply (ix2 j d))).trans (zero_add _)
  · have hN : cfg0.N = 8 := N_0
    show (outsAt0 m c (n + 1) h).2.2 (ix2 j d) = _
    rw [outsAt0_B m c ⟨n + 1, h⟩ (by dsimp only; omega)]
    dsimp only
    rw [outB6, e]
    rfl

theorem last : ∀ t : Fin cfg0.N, (win0_5.flush t = true → t.val = 7) ∧ (win0_6.flush t = true → t.val = 7) := by
  decide +kernel

theorem arr4 : ((dats m 0 c).arrAt 4 cfg0.N : FVec Ideal S2048x256 .f32) = dqs (que (a0 m c)) (gro (a2 m c)) (a1 m c) := by
  refine (dats m 0 c).arrAt_eq_of_covers 4 _ (by decide +kernel) fun t hf y => ?_
  obtain ⟨-, -, -, -, h4, -⟩ := idx t
  show (dats m 0 c).after 4 t y = _
  rw [after0_4, point]
  obtain ⟨i, j, rfl⟩ := Cert.Prod.two y
  rw [QS_apply, bq, bg, bk, bv]
  refine Eq.trans (b := dqs (que (a0 m c)) (gro (a2 m c)) (a1 m c) (ix2 (row8 t i) j)) rfl ?_
  refine congrArg _ (?_ : _ = _)
  refine (Cert.Fox.eq2 (Fin.ext ?_) (Fin.ext ?_)).symm
  · simp [h4, row8]; exact mul_comm _ _
  · simp [h4]

theorem endK (i j : Fin 256) : ∀ t : Fin cfg0.N, t.val = 7 → (outsAt0 m c t.val t.isLt).2.1 (ix2 i j) = dks (que (a0 m c)) (gro (a2 m c)) (a1 m c) (ix2 i j) := by
  rintro ⟨_, hn⟩ rfl
  exact heldK m c i j 7 hn

theorem arr5 : ((dats m 0 c).arrAt 5 cfg0.N : FVec Ideal S256x256 .f32) = dks (que (a0 m c)) (gro (a2 m c)) (a1 m c) := by
  refine (dats m 0 c).arrAt_eq_of_covers 5 _ (by decide +kernel) fun t hf y => ?_
  obtain ⟨-, -, -, -, -, h5, -⟩ := idx t
  show (dats m 0 c).after 5 t y = _
  rw [after0_5]
  obtain ⟨i, j, rfl⟩ := Cert.Prod.two y
  refine (endK m c i j t ((last t).1 hf)).trans (congrArg _ ?_)
  refine (Cert.Fox.eq2 (Fin.ext ?_) (Fin.ext ?_)).symm
  · simp [h5]
  · simp [h5]

theorem endV (i j : Fin 256) : ∀ t : Fin cfg0.N, t.val = 7 → (outsAt0 m c t.val t.isLt).2.2 (ix2 i j) = dvs (que (a0 m c)) (gro (a2 m c)) (a1 m c) (ix2 i j) := by
  rintro ⟨_, hn⟩ rfl
  exact heldV m c i j 7 hn

theorem arr6 : ((dats m 0 c).arrAt 6 cfg0.N : FVec Ideal S256x256 .f32) = dvs (que (a0 m c)) (gro (a2 m c)) (a1 m c) := by
  refine (dats m 0 c).arrAt_eq_of_covers 6 _ (by decide +kernel) fun t hf y => ?_
  obtain ⟨-, -, -, -, -, -, h6⟩ := idx t
  show (dats m 0 c).after 6 t y = _
  rw [after0_6]
  obtain ⟨i, j, rfl⟩ := Cert.Prod.two y
  refine (endV m c i j t ((last t).2 hf)).trans (congrArg _ ?_)
  refine (Cert.Fox.eq2 (Fin.ext ?_) (Fin.ext ?_)).symm
  · simp [h6]
  · simp [h6]

end Cert.Kernel29Ideal.Mem

namespace Cert.Reference29Ideal.Mem

open Idealize.ShloMosaic Idealize.ShloMosaic.TcCoe Idealize.ShloMosaic.Tactic Cert.Reference29Ideal Cert.Reference29Ideal.Gen
open Cert.Kernel27Ideal.Mem (que)
open Cert.Kernel28Ideal.Mem (gro dqs dks dvs)
open Cert.Reference27Ideal.Mem (wide que_wide)

variable (x0 : FVec Ideal S2048x1024 .f32) (x1 : FVec Ideal S256x512 .bf16) (x2 : FVec Ideal S2048x1024 .f32)

theorem slice_wide : Cert.Reference28Ideal.Read.val_main_v0 (F := Ideal) (wide x0) = Cert.Reference29Ideal.Read.val_main_v0 (F := Ideal) x0 :=
  Cert.Reference27Ideal.Mem.slice_wide x0

/-- The queries are the same whichever way the projections are laid out, and so is what follows from them alone. -/
theorem query_wide : Cert.Reference28Ideal.Read.val_main_v4 (F := Ideal) (wide x0) = Cert.Reference29Ideal.Read.val_main_v4 (F := Ideal) x0 := by
  unfold Cert.Reference28Ideal.Read.val_main_v4
  rw [slice_wide]
  rfl

theorem prod_wide : Cert.Reference28Ideal.Read.val_main_v7 (F := Ideal) (wide x0) x1 = Cert.Reference29Ideal.Read.val_main_v7 (F := Ideal) x0 x1 := by
  unfold Cert.Reference28Ideal.Read.val_main_v7
  rw [query_wide]
  rfl

theorem exp_wide : Cert.Reference28Ideal.Read.val_main_v30 (F := Ideal) (wide x0) x1 = Cert.Reference29Ideal.Read.val_main_v30 (F := Ideal) x0 x1 := by
  unfold Cert.Reference28Ideal.Read.val_main_v30 Cert.Reference28Ideal.Read.val_main_v29 Cert.Reference28Ideal.Read.val_main_v28 Cert.Reference28Ideal.Read.val_main_v27 Cert.Reference28Ideal.Read.val_main_v17 Cert.Reference28Ideal.Read.val_main_v10 Cert.Reference28Ideal.Read.val_main_v9
  rw [prod_wide]
  rfl

theorem sum_wide : Cert.Reference28Ideal.Read.val_main_v32 (F := Ideal) (wide x0) x1 = Cert.Reference29Ideal.Read.val_main_v32 (F := Ideal) x0 x1 := by
  unfold Cert.Reference28Ideal.Read.val_main_v32 Cert.Reference28Ideal.Read.val_main_v31
  rw [exp_wide]
  rfl

theorem weights_wide : Cert.Reference28Ideal.Read.val_main_v34 (F := Ideal) (wide x0) x1 = Cert.Reference29Ideal.Read.val_main_v34 (F := Ideal) x0 x1 := by
  unfold Cert.Reference28Ideal.Read.val_main_v34 Cert.Reference28Ideal.Read.val_main_v33
  rw [exp_wide, sum_wide]
  rfl

/-- The scores' gradient. -/
theorem scores_wide : Cert.Reference28Ideal.Read.val_main_v60 (F := Ideal) (wide x0) x1 x2 = Cert.Reference29Ideal.Read.val_main_v60 (F := Ideal) x0 x1 x2 := by
  unfold Cert.Reference28Ideal.Read.val_main_v60 Cert.Reference28Ideal.Read.val_main_v58 Cert.Reference28Ideal.Read.val_main_v57 Cert.Reference28Ideal.Read.val_main_v56 Cert.Reference28Ideal.Read.val_main_v55 Cert.Reference28Ideal.Read.val_main_v54 Cert.Reference28Ideal.Read.val_main_v53 Cert.Reference28Ideal.Read.val_main_v52 Cert.Reference28Ideal.Read.val_main_v51 Cert.Reference28Ideal.Read.val_main_v50 Cert.Reference28Ideal.Read.val_main_v49 Cert.Reference28Ideal.Read.val_main_v48 Cert.Reference28Ideal.Read.val_main_v47 Cert.Reference28Ideal.Read.val_main_v37 Cert.Reference28Ideal.Read.val_main_v35
  rw [exp_wide, sum_wide]
  rfl

section
variable (g0 : Cert.Fox.IsReal (Cert.Reference29Ideal.Read.val_main_v0 (F := Ideal) x0)) (g1 : Cert.Fox.IsReal (Cert.Reference29Ideal.Read.val_main_v2 (F := Ideal) x1))
include g0 g1

theorem ref_dq : Cert.Reference29Ideal.Read.val_main_v67 (F := Ideal) x0 x1 x2 = dqs (que x0) (gro x2) x1 := by
  rw [← que_wide, ← Cert.Reference28Ideal.Mem.ref_dq (wide x0) x1 x2 ((slice_wide x0).symm ▸ g0) g1]
  unfold Cert.Reference28Ideal.Read.val_main_v67 Cert.Reference28Ideal.Read.val_main_v64 Cert.Reference28Ideal.Read.val_main_v63
  rw [scores_wide]
  rfl

theorem ref_dk : Cert.Reference29Ideal.Read.val_main_v66 (F := Ideal) x0 x1 x2 = dks (que x0) (gro x2) x1 := by
  rw [← que_wide, ← Cert.Reference28Ideal.Mem.ref_dk (wide x0) x1 x2 ((slice_wide x0).symm ▸ g0) g1]
  unfold Cert.Reference28Ideal.Read.val_main_v66 Cert.Reference28Ideal.Read.val_main_v62 Cert.Reference28Ideal.Read.val_main_v61
  rw [scores_wide, query_wide]
  rfl
end

theorem ref_dv : Cert.Reference29Ideal.Read.val_main_v65 (F := Ideal) x0 x1 x2 = dvs (que x0) (gro x2) x1 := by
  rw [← que_wide, ← Cert.Reference28Ideal.Mem.ref_dv]
  unfold Cert.Reference28Ideal.Read.val_main_v65 Cert.Reference28Ideal.Read.val_main_v46 Cert.Reference28Ideal.Read.val_main_v45
  rw [weights_wide]
  rfl

end Cert.Reference29Ideal.Mem

namespace Cert.Mem

open Idealize.ShloMosaic Idealize.ShloMosaic.TcCoe Idealize.ShloMosaic.Tactic Idealize.SL.Sem
open Cert.Kernel27Ideal.Mem (que)
open Cert.Kernel28Ideal.Mem (gro dqs dks dvs)
open Cert.Kernel29Ideal.Mem

theorem agree29 : Cert.algebraic_Kernel29Ideal_Reference29Ideal_pre_finite29 (hKernel29Ideal := Cert.Kernel29Ideal.Gen.facts)
    (hReference29Ideal := Cert.Reference29Ideal.Gen.facts) (hPre_finite29 := Cert.Pre_finite29.Gen.facts) := by
  intro m g m' g' hpre hag
  refine ⟨fun c => dqs (que (a0 m c)) (gro (a2 m c)) (a1 m c), fun c => dks (que (a0 m c)) (gro (a2 m c)) (a1 m c), fun c => dvs (que (a0 m c)) (gro (a2 m c)) (a1 m c), ?_, ?_⟩
  · refine (θ_run Cert.Kernel29Ideal.defs _ _).mono (fun r h c => ?_) (Cert.Kernel29Ideal.Value.run_blocks m g)
    exact ⟨(h c).1.trans (arr4 m c), (h c).2.1.trans (arr5 m c), (h c).2.2.1.trans (arr6 m c), (h c).2.2.2⟩
  · refine (θ_run Cert.Reference29Ideal.defs _ _).mono (fun r h c => ?_) (Cert.Reference29Ideal.Value.run (F := Ideal) m' g')
    obtain ⟨e0, e1, e2⟩ := hag c
    obtain ⟨r0, r1, r2, hargs⟩ := h c
    obtain ⟨p0, p1⟩ := hpre c
    unfold Cert.Pre_finite29.fn at p0 p1
    have G0 : Cert.Fox.IsReal (Cert.Reference29Ideal.Read.val_main_v0 (F := Ideal) (a0 m c)) := Cert.Fox.isReal_of _ _ _ p0
    have G1 : Cert.Fox.IsReal (Cert.Reference29Ideal.Read.val_main_v2 (F := Ideal) (a1 m c)) := Cert.Fox.isReal_of _ _ _ p1
    rw [Cert.Reference29Ideal.Read.val_main_v67_eq, e0, e1, e2, Cert.Reference29Ideal.Mem.ref_dq _ _ _ G0 G1] at r0
    rw [Cert.Reference29Ideal.Read.val_main_v66_eq, e0, e1, e2, Cert.Reference29Ideal.Mem.ref_dk _ _ _ G0 G1] at r1
    rw [Cert.Reference29Ideal.Read.val_main_v65_eq, e0, e1, e2, Cert.Reference29Ideal.Mem.ref_dv] at r2
    exact ⟨r0, r1, r2, hargs⟩

end Cert.Mem

end
-- ==== Proof.Norm.lean ====
/- The norms: the root-mean-square norm of rows (the mixing and feed-forward blocks' and the memory's), and the layer norm
   with silu whose result stands beside the memory's columns. -/
module

public import proofs.«01_k».proof.Proof.Gate
public import proofs.«01_k».proof.Proof.Gen.Kernel30Ideal.Value
public import proofs.«01_k».proof.Proof.Gen.Kernel31Ideal.Value
public import proofs.«01_k».proof.Proof.Gen.Kernel32Ideal.Value
public import proofs.«01_k».proof.Proof.Gen.Reference30Ideal.Read
public import proofs.«01_k».proof.Proof.Gen.Reference31Ideal.Read
public import proofs.«01_k».proof.Proof.Gen.Reference32Ideal.Read
public import proofs.«01_k».proof.Defs

@[expose] public section

set_option maxRecDepth 16384

noncomputable section

namespace Cert.Norm

open Idealize.ShloMosaic

/-- A row's element, divided by the root of the row's mean square and scaled. -/
def rms (x : Fin 1024 → EReal) (g : EReal) (j : Fin 1024) : EReal :=
  x j * Ideal.rsqrt (Ideal.div (∑ k, x k * x k) (Ideal.ofBits .f32 0x44800000#32) + Ideal.ofBits .f32 0x358637BD#32) * g

theorem rms_congr {x x' : Fin 1024 → EReal} {g g' : EReal} {j j' : Fin 1024} (hx : ∀ k, x k = x' k) (hg : g = g') (hj : j.val = j'.val) :
    rms x g j = rms x' g' j' := by
  rw [funext hx, hg, Fin.ext hj]

/-- The norm of every row. -/
def rmss {n : ℕ} (x : FVec Ideal ⟨2, ![n, 1024]⟩ .f32) (g : FVec Ideal ⟨1, ![1024]⟩ .f32) : FVec Ideal ⟨2, ![n, 1024]⟩ .bf16 :=
  fun y => rms (fun k => x (ix2 (y 0) k)) (g (ix1 (y 1))) (y 1)

/-- A row's element less the row's mean. -/
def dev (x : Fin 768 → EReal) (j : Fin 768) : EReal := x j - Ideal.div (∑ k, x k) (Ideal.ofBits .f32 0x44400000#32)

/-- A row's layer norm. -/
def ln (x : Fin 768 → EReal) (g b : EReal) (j : Fin 768) : EReal :=
  dev x j * Ideal.rsqrt (Ideal.div (∑ k, dev x k * dev x k) (Ideal.ofBits .f32 0x44400000#32) + Ideal.ofBits .f32 0x3727C5AC#32) * g + b

/-- Its silu. -/
def lns (x : Fin 768 → EReal) (g b : EReal) (j : Fin 768) : EReal :=
  ln x g b j * Cert.Gate.lg (ln x g b j)

/-- A row of 768 columns of silu beside 256 columns of memory. -/
def beside (x : Fin 768 → EReal) (g b : Fin 768 → EReal) (m : Fin 256 → EReal) (j : Fin 1024) : EReal :=
  if h : j.val < 768 then lns x (g ⟨j.val, h⟩) (b ⟨j.val, h⟩) ⟨j.val, h⟩ else m ⟨j.val - 768, by omega⟩

theorem beside_congr {x x' g g' b b' : Fin 768 → EReal} {m m' : Fin 256 → EReal} {j j' : Fin 1024} (hx : ∀ k, x k = x' k) (hg : ∀ k, g k = g' k)
    (hb : ∀ k, b k = b' k) (hm : ∀ k, m k = m' k) (hj : j.val = j'.val) : beside x g b m j = beside x' g' b' m' j' := by
  rw [funext hx, funext hg, funext hb, funext hm, Fin.ext hj]

/-- The layer norm's silu beside the memory. -/
def cat (v : FVec Ideal ⟨2, ![2048, 768]⟩ .f32) (g b : FVec Ideal ⟨1, ![768]⟩ .f32) (m : FVec Ideal ⟨2, ![2048, 256]⟩ .f32) :
    FVec Ideal ⟨2, ![2048, 1024]⟩ .bf16 :=
  fun y => beside (fun k => v (ix2 (y 0) k)) (fun k => g (ix1 k)) (fun k => b (ix1 k)) (fun k => m (ix2 (y 0) k)) (y 1)

end Cert.Norm

namespace Cert.Kernel30Ideal.Norms

open Idealize.ShloMosaic Idealize.ShloMosaic.TcCoe Idealize.ShloMosaic.Tactic Cert.Kernel30Ideal Cert.Kernel30Ideal.Gen Cert.Norm

/-- What the body stores for 512 rows. -/
theorem out_eq (x0 : Vec Ideal S512x1024 .f32) (x1 : Vec Ideal S1x1024 .f32) (r : Fin 512) (j : Fin 1024) :
    out0_2 x0 x1 (ix2 r j) = rms (fun k => x0 (ix2 r k)) (x1 (ix2 0 j)) j := by
  unfold out0_2
  rw [Value.canon2_eq]
  pointwise [k0_pay1]
  rfl

theorem idx : ∀ t : Fin cfg0.N, win0_0.index t = ![t.val, 0] ∧ win0_1.index t = ![0, 0] ∧ win0_2.index t = ![t.val, 0] := by
  decide +kernel

variable (m : (ℓ : Loc nD τ sig) → Buf (Elt Ideal) ℓ) (c : Dev nD)

/-- The scale as the call takes it: one row. -/
theorem scale_eq (j : Fin 1024) :
    (V m c main_v0 : FVec Ideal S1x1024 .f32) (ix2 0 j) = (m ((c.tc : Thread nD τ).loc main_arg1) : FVec Ideal S1024 .f32) (ix1 j) := by
  unfold_abbrev_sides
  after_results
  pointwise

/-- The call's result. -/
theorem arr : ((dats m 0 c).arrAt 2 cfg0.N : FVec Ideal S2048x1024 .bf16)
    = rmss (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  obtain ⟨r, j, rfl⟩ : ∃ (r : Fin 512) (j : Fin 1024), y = ix2 r j := ⟨y 0, y 1, funext fun a => by match a with | 0 => rfl | 1 => rfl⟩
  rw [out_eq]
  refine rms_congr (fun k => ?_) ?_ ?_
  · refine Eq.trans ?_ (congrFun (V_main_arg0 m c) _); blk_ext [iblk, h0, h2]
  · refine Eq.trans ?_ (scale_eq m c _); blk_ext [iblk, h1, h2]
  · blk_ext [h2]

end Cert.Kernel30Ideal.Norms

namespace Cert.Kernel31Ideal.Norms

open Idealize.ShloMosaic Idealize.ShloMosaic.TcCoe Idealize.ShloMosaic.Tactic Cert.Kernel31Ideal Cert.Kernel31Ideal.Gen Cert.Norm

/-- What the body stores for 256 rows. -/
theorem out_eq (x0 : Vec Ideal S256x1024 .f32) (x1 : Vec Ideal S1x1024 .f32) (r : Fin 256) (j : Fin 1024) :
    out0_2 x0 x1 (ix2 r j) = rms (fun k => x0 (ix2 r k)) (x1 (ix2 0 j)) j := by
  unfold out0_2
  rw [Value.canon2_eq]
  pointwise [k0_pay1]
  rfl

theorem idx : ∀ t : Fin cfg0.N, win0_0.index t = ![t.val, 0] ∧ win0_1.index t = ![0, 0] ∧ win0_2.index t = ![t.val, 0] := by
  decide +kernel

variable (m : (ℓ : Loc nD τ sig) → Buf (Elt Ideal) ℓ) (c : Dev nD)

/-- The scale as the call takes it: one row. -/
theorem scale_eq (j : Fin 1024) :
    (V m c main_v0 : FVec Ideal S1x1024 .f32) (ix2 0 j) = (m ((c.tc : Thread nD τ).loc main_arg1) : FVec Ideal S1024 .f32) (ix1 j) := by
  unfold_abbrev_sides
  after_results
  pointwise

/-- The call's result. -/
theorem arr : ((dats m 0 c).arrAt 2 cfg0.N : FVec Ideal S256x1024 .bf16)
    = rmss (m ((c.tc : Thread nD τ).loc main_arg0)) (m ((c.tc : Thread nD τ).loc main_arg1)) := by
  refine (dats m 0 c).arrAt_eq_of_covers 2 _ (by decide +kernel) fun t hf y => ?_
  obtain ⟨h0, h1, h2⟩ := idx t
  show (dats m 0 c).after 2 t y = _
  rw [after0_2]
  obtain ⟨r, j, rfl⟩ : ∃ (r : Fin 256) (j : Fin 1024), y = ix2 r j := ⟨y 0, y 1, funext fun a => by match a with | 0 => rfl | 1 => rfl⟩
  rw [out_eq]
  refine rms_congr (fun k => ?_) ?_ ?_
  · refine Eq.trans ?_ (congrFun (V_main_arg0 m c) _); blk_ext [iblk, h0, h2]
  · refine Eq.trans ?_ (scale_eq m c _); blk_ext [iblk, h1, h2]
  · blk_ext [h2]

end Cert.Kernel31Ideal.Norms

namespace Cert.Kernel32Ideal.Norms

open Idealize.ShloMosaic Idealize.ShloMosaic.TcCoe Idealize.ShloMosaic.Tactic Cert.Kernel32Ideal Cert.Kernel32Ideal.Gen Cert.Norm

/-- What the body stores in the first columns. -/
theorem pay1 (v : Vec Ideal S256x768 .f32) (g b : Vec Ideal S1x768 .f32) (r : Fin 256) (j : Fin 768) :
    k0_pay1 v g b (ix2 r j) = lns (fun k => v (ix2 r k)) (g (ix2 0 j)) (b (ix2 0 j)) j := by
  pointwise [k0_pay1]
  rfl

/-- The columns of 256 rows. -/
def blk (x0 : Vec Ideal S256x768 .f32) (x1 x2 : Vec Ideal S1x768 .f32) (x3 : Vec Ideal S256x256 .f32) : Vec Ideal S256x1024 .bf16 :=
  fun y => beside (fun k => x0 (ix2 (y 0) k)) (fun k => x1 (ix2 0 k)) (fun k => x2 (ix2 0 k)) (fun k => x3 (ix2 (y 0) k)) (y 1)

/-- Where the stored columns stand. -/
theorem silu_at (r : Fin 256) (j : Fin 768) :
    (Rect.unit (s := S256x1024) ![0, 0] ![256, 768] inb_S256x1024_S256x768_0_0).emb (ix2 r j) = ix2 r (⟨j.val, by omega⟩ : Fin 1024) :=
  funext fun a => Fin.ext (by
    match a with
    | 0 => show 0 + 1 * r.val = r.val; omega
    | 1 => show 0 + 1 * j.val = j.val; omega)

theorem mem_at (r j : Fin 256) :
    (Rect.unit (s := S256x1024) ![0, 768] ![256, 256] inb_S256x1024_S256x256_0_768).emb (ix2 r j) = ix2 r (⟨768 + j.val, by omega⟩ : Fin 1024) :=
  funext fun a => Fin.ext (by
    match a with
    | 0 => show 0 + 1 * r.val = r.val; omega
    | 1 => show 768 + 1 * j.val = 768 + j.val; omega)

section
variable (c : Dev nD) (i : grid0.Coords) (arg1 : Memref sig .tc .vmem S256x768 .f32) (harg1 : arg1.IsWhole)
  (arg2 : Memref sig .tc .vmem S1x768 .f32) (harg2 : arg2.IsWhole) (arg3 : Memref sig .tc .vmem S1x768 .f32) (harg3 : arg3.IsWhole)
  (arg4 : Memref sig .tc .vmem S256x256 .f32) (harg4 : arg4.IsWhole) (arg5 : Memref sig .tc .vmem S256x1024 .bf16) (harg5 : arg5.IsWhole)
  (x0 : Vec Ideal S256x768 .f32) (x1 x2 : Vec Ideal S1x768 .f32) (x3 : Vec Ideal S256x256 .f32)

/-- The body's result block. -/
theorem out_eq : out0_A_4 (F := Ideal) c i arg1 harg1 arg2 harg2 arg3 harg3 arg4 harg4 arg5 harg5 x0 x1 x2 x3 = blk x0 x1 x2 x3 := by
  funext y
  unfold out0_A_4
  rw [View.read_writes_junk_eq_canon]
  refine View.canon_apply_of_pieces (Val := Elt Ideal) (S := S256x1024) (e := .bf16) (blk x0 x1 x2 x3) _ (fun p hp x => ?_) y
    (cover0_A_4 c i arg1 harg1 arg2 harg2 arg3 harg3 arg4 harg4 arg5 harg5 x0 x1 x2 x3 y)
  unfold kernelRun0_A at hp
  dsimp only at hp
  rcases List.mem_cons.mp hp with rfl | hp
  · obtain ⟨r, j, rfl⟩ : ∃ (r : Fin 256) (j : Fin 256), x = ix2 r j := ⟨x 0, x 1, funext fun a => by match a with | 0 => rfl | 1 => rfl⟩
    unfold kernelRun0_A.sl.r
    dsimp only
    rw [Cert.Gate.load_all arg4 harg4 x3]
    refine Eq.trans ?_ (congrArg (blk x0 x1 x2 x3) (mem_at r j)).symm
    pointwise [k0_pay2]
    refine Eq.trans ?_ (dif_neg (by show ¬ 768 + j.val < 768; omega)).symm
    exact congrArg (fun k => x3 (ix2 r k)) (Fin.ext (by show j.val = 768 + j.val - 768; omega))
  rcases List.mem_cons.mp hp with rfl | hp
  · obtain ⟨r, j, rfl⟩ : ∃ (r : Fin 256) (j : Fin 768), x = ix2 r j := ⟨x 0, x 1, funext fun a => by match a with | 0 => rfl | 1 => rfl⟩
    dsimp only
    rw [Cert.Gate.load_all arg1 harg1 x0, Cert.Gate.load_all arg2 harg2 x1, Cert.Gate.load_all arg3 harg3 x2, pay1]
    refine Eq.trans ?_ (congrArg (blk x0 x1 x2 x3) (silu_at r j)).symm
    refine Eq.trans ?_ (dif_pos (by show j.val < 768; omega)).symm
    rfl
  nomatch hp
end

theorem idx : ∀ t : Fin cfg0.N, win0_0.index t = ![t.val, 0] ∧ win0_1.index t = ![0, 0] ∧ win0_2.index t = ![0, 0]
    ∧ win0_3.index t = ![t.val, 0] ∧ win0_4.index t = ![t.val, 0] := by
  decide +kernel

variable (m : (ℓ : Loc nD τ sig) → Buf (Elt Ideal) ℓ) (c : Dev nD)

/-- The scale and the shift as the call takes them: one row each. -/
theorem scale_eq (j : Fin 768) :
    (V m c main_v0 : FVec Ideal S1x768 .f32) (ix2 0 j) = (m ((c.tc : Thread nD τ).loc main_arg1) : FVec Ideal S768 .f32) (ix1 j) := by
  unfold_abbrev_sides
  after_results
  pointwise

theorem shift_eq (j : Fin 768) :
    (V m c main_v1 : FVec Ideal S1x768 .f32) (ix2 0 j) = (m ((c.tc : Thread nD τ).loc main_arg2) : FVec Ideal S768 .f32) (ix1 j) := by
  unfold_abbrev_sides
  after_results
  pointwise

/-- The call's result. -/
theorem arr : ((dats m 0 c).arrAt 4 cfg0.N : FVec Ideal S2048x1024 .bf16)
    = cat (m ((c.tc : Thread nD τ).loc main_arg0)) (m ((c.tc : Thread nD τ).loc main_arg1)) (m ((c.tc : Thread nD τ).loc main_arg2))
      (m ((c.tc : Thread nD τ).loc main_arg3)) := by
  refine (dats m 0 c).arrAt_eq_of_covers 4 _ (by decide +kernel) fun t hf y => ?_
  obtain ⟨h0, h1, h2, h3, h4⟩ := idx t
  show (dats m 0 c).after 4 t y = _
  rw [after0_4]
  unfold outsAt0
  rw [out_eq]
  obtain ⟨r, j, rfl⟩ : ∃ (r : Fin 256) (j : Fin 1024), y = ix2 r j := ⟨y 0, y 1, funext fun a => by match a with | 0 => rfl | 1 => rfl⟩
  refine beside_congr (fun k => ?_) (fun k => ?_) (fun k => ?_) (fun k => ?_) ?_
  · refine Eq.trans ?_ (congrFun (V_main_arg0 m c) _); blk_ext [iblk, h0, h4]
  · refine Eq.trans ?_ (scale_eq m c _); blk_ext [iblk, h1, h4]
  · refine Eq.trans ?_ (shift_eq m c _); blk_ext [iblk, h2, h4]
  · refine Eq.trans ?_ (congrFun (V_main_arg3 m c) _); blk_ext [iblk, h3, h4]
  · blk_ext [h4]

end Cert.Kernel32Ideal.Norms

namespace Cert.Norm

open Idealize.ShloMosaic Idealize.ShloMosaic.TcCoe Idealize.ShloMosaic.Tactic Idealize.SL.Sem

section
open Cert.Reference30Ideal Cert.Reference30Ideal.Gen Cert.Reference30Ideal.Read

theorem ref30 (x : FVec Ideal S2048x1024 .f32) (g : FVec Ideal S1024 .f32) : val_main_v13 (F := Ideal) x g = rmss x g := by
  funext y
  obtain ⟨r, j, rfl⟩ : ∃ (r : Fin 2048) (j : Fin 1024), y = ix2 r j := ⟨y 0, y 1, funext fun a => by match a with | 0 => rfl | 1 => rfl⟩
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

end

section
open Cert.Reference31Ideal Cert.Reference31Ideal.Gen Cert.Reference31Ideal.Read

theorem ref31 (x : FVec Ideal S256x1024 .f32) (g : FVec Ideal S1024 .f32) : val_main_v13 (F := Ideal) x g = rmss x g := by
  funext y
  obtain ⟨r, j, rfl⟩ : ∃ (r : Fin 256) (j : Fin 1024), y = ix2 r j := ⟨y 0, y 1, funext fun a => by match a with | 0 => rfl | 1 => rfl⟩
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

end

section
open Cert.Reference32Ideal Cert.Reference32Ideal.Gen Cert.Reference32Ideal.Read

variable (v : FVec Ideal S2048x768 .f32) (g b : FVec Ideal S768 .f32) (mm : FVec Ideal S2048x256 .f32)

/-- The reference's silu of the layer norm. -/
theorem rlns (r : Fin 2048) (j : Fin 768) : val_main_v24 (F := Ideal) v g b (ix2 r j) = lns (fun k => v (ix2 r k)) (g (ix1 j)) (b (ix1 j)) j := by
  pointwise [val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2, val_main_cst_3,
    val_main_call0_v5, val_main_call0_v4, val_main_call0_v3, val_main_call0_v2, val_main_call0_v1, val_main_call0_v0, val_main_call0_cst, val_main_call0_cst_0]
  have e : ∀ t : EReal, -t = 0 - t := fun t => (zero_sub t).symm
  rw [e]
  rfl

theorem ref32 : val_main_v26 (F := Ideal) v g b mm = cat v g b mm := by
  funext y
  obtain ⟨r, j, rfl⟩ : ∃ (r : Fin 2048) (j : Fin 1024), y = ix2 r j := ⟨y 0, y 1, funext fun a => by match a with | 0 => rfl | 1 => rfl⟩
  show val_main_v25 (F := Ideal) v g b mm (ix2 r j) = beside (fun k => v (ix2 r k)) (fun k => g (ix1 k)) (fun k => b (ix1 k)) (fun k => mm (ix2 r k)) j
  unfold beside val_main_v25
  by_cases h : j.val < 768
  · rw [dif_pos h]
    refine Eq.trans ?_ (rlns v g b r ⟨j.val, h⟩)
    exact concatenate_pair_apply_left (t := S2048x1024) (s₁ := S2048x768) (s₂ := S2048x256) 1 _ _ _ _ rfl (ix2 r (⟨j.val, h⟩ : Fin 768)) fun b => by
      match b with | 0 => rfl | 1 => rfl
  · rw [dif_neg h]
    exact concatenate_pair_apply_right (t := S2048x1024) (s₁ := S2048x768) (s₂ := S2048x256) 1 _ _ _ _ rfl rfl (ix2 r (⟨j.val - 768, by omega⟩ : Fin 256))
      (fun b h => by match b with | 0 => rfl | 1 => exact absurd rfl h) (by show j.val - 768 + 768 = j.val; omega)

end

theorem agree30 : Cert.algebraic_Kernel30Ideal_Reference30Ideal (hKernel30Ideal := Cert.Kernel30Ideal.Gen.facts)
    (hReference30Ideal := Cert.Reference30Ideal.Gen.facts) := by
  intro m g m' g' _ hag
  refine ⟨fun c => rmss (m ((c.tc : Thread _ _).loc Cert.Kernel30Ideal.main_arg0)) (m ((c.tc : Thread _ _).loc Cert.Kernel30Ideal.main_arg1)), ?_, ?_⟩
  · refine (θ_run Cert.Kernel30Ideal.defs _ _).mono (fun r h c => ?_) (Cert.Kernel30Ideal.Value.run_blocks m g)
    exact ⟨(h c).1.trans (Cert.Kernel30Ideal.Norms.arr m c), (h c).2⟩
  · refine (θ_run Cert.Reference30Ideal.defs _ _).mono (fun r h c => ?_) (Cert.Reference30Ideal.Value.run (F := Ideal) m' g')
    obtain ⟨a0, a1⟩ := hag c
    obtain ⟨r0, hargs⟩ := h c
    rw [Cert.Reference30Ideal.Read.val_main_v13_eq, ref30, a0, a1] at r0
    exact ⟨r0, hargs⟩

theorem agree31 : Cert.algebraic_Kernel31Ideal_Reference31Ideal (hKernel31Ideal := Cert.Kernel31Ideal.Gen.facts)
    (hReference31Ideal := Cert.Reference31Ideal.Gen.facts) := by
  intro m g m' g' _ hag
  refine ⟨fun c => rmss (m ((c.tc : Thread _ _).loc Cert.Kernel31Ideal.main_arg0)) (m ((c.tc : Thread _ _).loc Cert.Kernel31Ideal.main_arg1)), ?_, ?_⟩
  · refine (θ_run Cert.Kernel31Ideal.defs _ _).mono (fun r h c => ?_) (Cert.Kernel31Ideal.Value.run_blocks m g)
    exact ⟨(h c).1.trans (Cert.Kernel31Ideal.Norms.arr m c), (h c).2⟩
  · refine (θ_run Cert.Reference31Ideal.defs _ _).mono (fun r h c => ?_) (Cert.Reference31Ideal.Value.run (F := Ideal) m' g')
    obtain ⟨a0, a1⟩ := hag c
    obtain ⟨r0, hargs⟩ := h c
    rw [Cert.Reference31Ideal.Read.val_main_v13_eq, ref31, a0, a1] at r0
    exact ⟨r0, hargs⟩

theorem agree32 : Cert.algebraic_Kernel32Ideal_Reference32Ideal (hKernel32Ideal := Cert.Kernel32Ideal.Gen.facts)
    (hReference32Ideal := Cert.Reference32Ideal.Gen.facts) := by
  intro m g m' g' _ hag
  refine ⟨fun c => cat (m ((c.tc : Thread _ _).loc Cert.Kernel32Ideal.main_arg0)) (m ((c.tc : Thread _ _).loc Cert.Kernel32Ideal.main_arg1))
    (m ((c.tc : Thread _ _).loc Cert.Kernel32Ideal.main_arg2)) (m ((c.tc : Thread _ _).loc Cert.Kernel32Ideal.main_arg3)), ?_, ?_⟩
  · refine (θ_run Cert.Kernel32Ideal.defs _ _).mono (fun r h c => ?_) (Cert.Kernel32Ideal.Value.run_blocks m g)
    exact ⟨(h c).1.trans (Cert.Kernel32Ideal.Norms.arr m c), (h c).2⟩
  · refine (θ_run Cert.Reference32Ideal.defs _ _).mono (fun r h c => ?_) (Cert.Reference32Ideal.Value.run (F := Ideal) m' g')
    obtain ⟨a0, a1, a2, a3⟩ := hag c
    obtain ⟨r0, hargs⟩ := h c
    rw [Cert.Reference32Ideal.Read.val_main_v26_eq, ref32, a0, a1, a2, a3] at r0
    exact ⟨r0, hargs⟩

end Cert.Norm

end
-- ==== Proof.NormRow.lean ====
/- One row of the root-mean-square norm's gradient: the derivative taken through the root is the kernel's shorter form of it, for
   every row of extended reals. -/
module

public import proofs.«01_k».proof.Proof.MemGrad

@[expose] public section

set_option maxRecDepth 16384

noncomputable section

namespace Cert.Norm

open Idealize.ShloMosaic
open Cert.Fox (coe_sum)
open Cert.Kernel28Ideal.Mem (pull)

/-- The constants: the length of a row, what is added to the mean square, and the derivative's factor. -/
theorem ofBits_len : Ideal.ofBits FTy.f32 0x44800000#32 = ((1024 : ℝ) : EReal) := by
  simp [Ideal.ofBits, Ideal.ieee, -EReal.coe_mul]; norm_num

theorem ofBits_eps : ∃ e : ℝ, 0 < e ∧ Ideal.ofBits FTy.f32 0x358637BD#32 = (e : EReal) := by
  refine ⟨8796093 * (2 : ℝ) ^ (-43 : ℤ), by positivity, ?_⟩
  simp [Ideal.ofBits, Ideal.ieee, -EReal.coe_mul]

theorem ofBits_half : Ideal.ofBits FTy.f32 0xBF000000#32 = ((-(1 / 2) : ℝ) : EReal) := by
  simp [Ideal.ofBits, Ideal.ieee, -EReal.coe_mul]; norm_num

/-- A row's mean square, and a little. -/
def msq (x : Fin 1024 → EReal) : EReal := Ideal.div (∑ k, x k * x k) (Ideal.ofBits .f32 0x44800000#32) + Ideal.ofBits .f32 0x358637BD#32

/-- One over its root. -/
def rt (x : Fin 1024 → EReal) : EReal := Ideal.rsqrt (msq x)

/-- The gradient at a row's element, of the gradient `w` at the normed row, added to what is there. -/
def dxr (x w : Fin 1024 → EReal) (d : EReal) (j : Fin 1024) : EReal :=
  d + rt x * (w j - x j * rt x * Ideal.div (∑ k, w k * (x k * rt x)) (Ideal.ofBits .f32 0x44800000#32))

theorem dxr_congr {x x' w w' : Fin 1024 → EReal} {d d' : EReal} {j j' : Fin 1024} (hx : ∀ k, x k = x' k) (hw : ∀ k, w k = w' k) (hd : d = d')
    (hj : j.val = j'.val) : dxr x w d j = dxr x' w' d' j' := by
  rw [funext hx, funext hw, hd, Fin.ext hj]

/-- What the derivative through the root adds to each element, by the element. -/
def thr (x w : Fin 1024 → EReal) : EReal :=
  Ideal.div ((∑ k, x k * w k) * (Ideal.ofBits .f32 0xBF000000#32 * Ideal.div (rt x) (msq x))) (Ideal.ofBits .f32 0x44800000#32)

/-- A row's mean square is a positive real number where the row is real, and infinite where it is not. -/
theorem msq_real (x : Fin 1024 → ℝ) : ∃ q : ℝ, 0 < q ∧ msq (fun k => (x k : EReal)) = q := by
  obtain ⟨e, he, h⟩ := ofBits_eps
  refine ⟨(∑ k, x k * x k) * (1 / 1024) + e, add_pos_of_nonneg_of_pos (mul_nonneg (Finset.sum_nonneg fun k _ => mul_self_nonneg _) (by norm_num)) he, ?_⟩
  unfold msq
  rw [h, ofBits_len, Ideal.div_coe (by norm_num), Finset.sum_congr rfl fun k _ => (EReal.coe_mul _ _).symm, coe_sum, ← EReal.coe_mul, ← EReal.coe_add]

theorem sq_nonneg' (a : EReal) : 0 ≤ a * a := by
  induction a with
  | bot => rw [EReal.bot_mul_bot]; exact le_top
  | top => rw [EReal.top_mul_top]; exact le_top
  | coe r => rw [← EReal.coe_mul]; exact EReal.coe_nonneg.mpr (mul_self_nonneg r)

theorem msq_top (x : Fin 1024 → EReal) (k : Fin 1024) (hk : x k * x k = ⊤) : msq x = ⊤ := by
  obtain ⟨e, he, h⟩ := ofBits_eps
  have s : ∑ k, x k * x k = ⊤ := top_le_iff.mp (hk ▸ Finset.single_le_sum (f := fun k => x k * x k) (fun k _ => sq_nonneg' (x k)) (Finset.mem_univ k))
  unfold msq
  rw [s, h, ofBits_len, Ideal.div_coe (by norm_num), EReal.top_mul_coe_of_pos (by norm_num), EReal.top_add_coe]

/-- The derivative through the root is the kernel's form. -/
theorem through (x w : Fin 1024 → EReal) (d : EReal) (j : Fin 1024) : d + (w j * rt x + x j * thr x w + thr x w * x j) = dxr x w d j := by
  unfold dxr thr
  rw [ofBits_len, ofBits_half, Ideal.div_coe (by norm_num), Ideal.div_coe (by norm_num)]
  by_cases hr : ∀ k, x k = ((EReal.toReal (x k) : ℝ) : EReal)
  · obtain ⟨X, rfl⟩ : ∃ X : Fin 1024 → ℝ, x = fun k => (X k : EReal) := ⟨fun k => EReal.toReal (x k), funext hr⟩
    obtain ⟨q, hq, e⟩ := msq_real X
    have hs : 0 < Real.sqrt q := Real.sqrt_pos.mpr hq
    have hrt : rt (fun k => (X k : EReal)) = (((Real.sqrt q)⁻¹ : ℝ) : EReal) := by
      unfold rt
      rw [e, Ideal.rsqrt_coe, if_neg hq.le.not_gt, if_neg hq.ne']
    have hss : Real.sqrt q * Real.sqrt q = q := Real.mul_self_sqrt hq.le
    have S : ∑ k, w k * ((X k : EReal) * (((Real.sqrt q)⁻¹ : ℝ) : EReal)) = (∑ k, (X k : EReal) * w k) * (((Real.sqrt q)⁻¹ : ℝ) : EReal) := by
      rw [← pull _ (inv_nonneg.mpr hs.le)]
      exact Finset.sum_congr rfl fun k _ => by rw [← mul_assoc, mul_comm (w k)]
    rw [hrt, e, S, Ideal.div_coe hq.ne', ← EReal.coe_mul, ← EReal.coe_mul]
    generalize (∑ k, (X k : EReal) * w k) = A
    have dbl : ∀ u : EReal, u + u = u * ((2 : ℝ) : EReal) := fun u => by
      induction u with
      | bot => rw [EReal.bot_mul_coe_of_pos (by norm_num)]; rfl
      | top => rw [EReal.top_mul_coe_of_pos (by norm_num)]; rfl
      | coe r => rw [← EReal.coe_add, ← EReal.coe_mul, mul_two]
    have sub : ∀ a b : EReal, (((Real.sqrt q)⁻¹ : ℝ) : EReal) * (a - b) = a * (((Real.sqrt q)⁻¹ : ℝ) : EReal) + b * ((-(Real.sqrt q)⁻¹ : ℝ) : EReal) := fun a b => by
      rw [sub_eq_add_neg, EReal.left_distrib_of_nonneg_of_ne_top (EReal.coe_nonneg.mpr (inv_nonneg.mpr hs.le)) (EReal.coe_ne_top _), mul_comm _ a, EReal.coe_neg,
        mul_neg, mul_neg, mul_comm _ b]
    rw [sub, add_assoc, mul_comm (_ * _) (X j : EReal), dbl]
    refine congrArg (fun t => d + (w j * (((Real.sqrt q)⁻¹ : ℝ) : EReal) + t)) ?_
    have l : ∀ a b : ℝ, (X j : EReal) * (A * (a : EReal) * (b : EReal)) * ((2 : ℝ) : EReal) = A * ((X j * a * b * 2 : ℝ) : EReal) := fun a b => by
      simp only [EReal.coe_mul]; ac_rfl
    have r : ∀ a b c : ℝ, (X j : EReal) * (a : EReal) * (A * (a : EReal) * (b : EReal)) * (c : EReal) = A * ((X j * a * a * b * c : ℝ) : EReal) := fun a b c => by
      simp only [EReal.coe_mul]; ac_rfl
    rw [l, r]
    refine congrArg (fun t : ℝ => A * (t : EReal)) ?_
    have hi : 1 / q = (Real.sqrt q)⁻¹ * (Real.sqrt q)⁻¹ := by rw [← mul_inv, hss, one_div]
    rw [hi]
    ring
  · obtain ⟨k, hk⟩ := not_forall.mp hr
    have ht : x k * x k = ⊤ := by
      generalize x k = a at hk
      induction a with
      | bot => exact EReal.bot_mul_bot
      | top => exact EReal.top_mul_top
      | coe r => exact absurd rfl hk
    have hm := msq_top x k ht
    have h0 : rt x = 0 := by unfold rt; rw [hm]; rfl
    have hd : Ideal.div 0 ⊤ = 0 := by unfold Ideal.div; rw [if_neg EReal.top_ne_zero, zero_mul]
    rw [h0, hm, hd]
    simp only [mul_zero, zero_mul, add_zero]

end Cert.Norm

end
-- ==== Proof.NormGrad.lean ====
/- The gradients of the root-mean-square norm: the rows' and the scale's, of the mixing and feed-forward blocks' norms, and the scale's,
   of the memory's. -/
module

public import proofs.«01_k».proof.Proof.Norm
public import proofs.«01_k».proof.Proof.NormRow
public import proofs.«01_k».proof.Proof.Gen.Kernel33Ideal.Value
public import proofs.«01_k».proof.Proof.Gen.Kernel34Ideal.Value
public import proofs.«01_k».proof.Proof.Gen.Reference33Ideal.Read
public import proofs.«01_k».proof.Proof.Gen.Reference34Ideal.Read

@[expose] public section

set_option maxRecDepth 16384

noncomputable section

namespace Cert.Norm

open Idealize.ShloMosaic

/-- What a row adds to the scale's gradient. -/
def dgr (x h : Fin 1024 → EReal) (j : Fin 1024) : EReal := h j * (x j * rt x)

/-- The scale's gradient: over every row. -/
def dgs {n : ℕ} (x h : FVec Ideal ⟨2, ![n, 1024]⟩ .f32) : FVec Ideal ⟨2, ![1, 1024]⟩ .f32 :=
  fun y => ∑ r : Fin n, dgr (fun k => x (ix2 r k)) (fun k => h (ix2 r k)) (y 1)

/-- The rows' gradient, added to what is there. -/
def dxs {n : ℕ} (x : FVec Ideal ⟨2, ![n, 1024]⟩ .f32) (g : FVec Ideal ⟨1, ![1024]⟩ .f32) (h d : FVec Ideal ⟨2, ![n, 1024]⟩ .f32) :
    FVec Ideal ⟨2, ![n, 1024]⟩ .f32 :=
  fun y => dxr (fun k => x (ix2 (y 0) k)) (fun k => h (ix2 (y 0) k) * g (ix1 k)) (d y) (y 1)

theorem dgr_congr {x x' h h' : Fin 1024 → EReal} {j j' : Fin 1024} (hx : ∀ k, x k = x' k) (hh : ∀ k, h k = h' k) (hj : j.val = j'.val) :
    dgr x h j = dgr x' h' j' := by
  rw [funext hx, funext hh, Fin.ext hj]

theorem rows_congr {n : ℕ} {x x' h h' : Fin n → Fin 1024 → EReal} {j j' : Fin 1024} (hx : ∀ r k, x r k = x' r k) (hh : ∀ r k, h r k = h' r k)
    (hj : j.val = j'.val) : ∑ r, dgr (x r) (h r) j = ∑ r, dgr (x' r) (h' r) j' :=
  Finset.sum_congr rfl fun r _ => dgr_congr (hx r) (hh r) hj

end Cert.Norm

namespace Cert.Kernel34Ideal.Norms

open Idealize.ShloMosaic Idealize.ShloMosaic.TcCoe Idealize.ShloMosaic.Tactic Cert.Kernel34Ideal Cert.Kernel34Ideal.Gen Cert.Norm

/-- What the body stores. -/
theorem pay (x h : Vec Ideal S256x1024 .f32) (i : Fin 1) (j : Fin 1024) :
    k0_pay1 x h (ix2 i j) = ∑ r : Fin 256, dgr (fun k => x (ix2 r k)) (fun k => h (ix2 r k)) j := by
  pointwise [k0_pay1]
  rfl

section
variable (c : Dev nD) (i : grid0.Coords) (arg1 : Memref sig .tc .vmem S256x1024 .f32) (harg1 : arg1.IsWhole)
  (arg2 : Memref sig .tc .vmem S1x1024 .f32) (harg2 : arg2.IsWhole) (arg3 : Memref sig .tc .vmem S256x1024 .f32) (harg3 : arg3.IsWhole)
  (arg4 : Memref sig .tc .vmem S1x1024 .f32) (harg4 : arg4.IsWhole) (hc0 : cond0_0 i) (hc1 : ¬cond0_1 i)
  (x0 : Vec Ideal S256x1024 .f32) (x1 : Vec Ideal S1x1024 .f32) (x2 : Vec Ideal S256x1024 .f32)

theorem out_eq : out0_A_3 (F := Ideal) c i arg1 harg1 arg2 harg2 arg3 harg3 arg4 harg4 hc0 hc1 x0 x1 x2 = k0_pay1 x0 x2 := by
  unfold out0_A_3
  rw [View.read_writes_junk_eq_canon VO0_3]
  unfold kernelRun0_A; dsimp only; sl_unfold_words
  rw [Cert.Gate.load_all arg1 harg1 x0, Cert.Gate.load_all arg3 harg3 x2]
  exact View.canon_cons_unit_zero Cert.Kernel3Ideal.Ffn.hz _ _ _
end

theorem idx : ∀ t : Fin cfg0.N, win0_0.index t = ![t.val, 0] ∧ win0_2.index t = ![t.val, 0] ∧ win0_3.index t = ![0, 0] ∧ t.val = 0 := by
  decide +kernel

variable (m : (ℓ : Loc nD τ sig) → Buf (Elt Ideal) ℓ) (c : Dev nD)

/-- The call's result. -/
theorem arr : ((dats m 0 c).arrAt 3 cfg0.N : FVec Ideal S1x1024 .f32)
    = dgs (n := 256) (m ((c.tc : Thread nD τ).loc main_arg0)) (m ((c.tc : Thread nD τ).loc main_arg2)) := by
  refine (dats m 0 c).arrAt_eq_of_covers 3 _ (by decide +kernel) fun t hf y => ?_
  obtain ⟨h0, h2, h3, ht⟩ := idx t
  show (dats m 0 c).after 3 t y = _
  rw [after0_3]
  unfold outsAt0
  rw [out_eq]
  obtain ⟨i, j, rfl⟩ := Cert.Prod.two y
  rw [pay]
  refine rows_congr (fun r k => ?_) (fun r k => ?_) ?_
  · refine Eq.trans ?_ (congrFun (V_main_arg0 m c) _); blk_ext [iblk, h0, ht]
  · refine Eq.trans ?_ (congrFun (V_main_arg2 m c) _); blk_ext [iblk, h2, ht]
  · blk_ext [h3]

end Cert.Kernel34Ideal.Norms

namespace Cert.Kernel33Ideal.Norms

open Idealize.ShloMosaic Idealize.ShloMosaic.TcCoe Idealize.ShloMosaic.Tactic Cert.Kernel33Ideal Cert.Kernel33Ideal.Gen Cert.Norm

/-- What the body stores of the rows' gradient, and a block's share of the scale's. -/
theorem payX (x h : Vec Ideal S512x1024 .f32) (g : Vec Ideal S1x1024 .f32) (d : Vec Ideal S512x1024 .f32) (r : Fin 512) (j : Fin 1024) :
    k0_pay4 x h g d (ix2 r j) = dxr (fun k => x (ix2 r k)) (fun k => h (ix2 r k) * g (ix2 0 k)) (d (ix2 r j)) j := by
  pointwise [k0_pay4, k0_pay3, k0_pay2]
  rfl

theorem payG (x h : Vec Ideal S512x1024 .f32) (i : Fin 1) (j : Fin 1024) :
    k0_pay5 x h (ix2 i j) = ∑ r : Fin 512, dgr (fun k => x (ix2 r k)) (fun k => h (ix2 r k)) j := by
  pointwise [k0_pay5, k0_pay3, k0_pay2]
  rfl

theorem payS (v a : Vec Ideal S1x1024 .f32) (i : Fin 1) (j : Fin 1024) : k0_pay1 v a (ix2 i j) = a (ix2 i j) + v (ix2 i j) := by
  pointwise [k0_pay1]

section
variable (c : Dev nD) (i : grid0.Coords) (arg1 : Memref sig .tc .vmem S512x1024 .f32) (harg1 : arg1.IsWhole)
  (arg2 : Memref sig .tc .vmem S1x1024 .f32) (harg2 : arg2.IsWhole) (arg3 : Memref sig .tc .vmem S512x1024 .f32) (harg3 : arg3.IsWhole)
  (arg4 : Memref sig .tc .vmem S512x1024 .f32) (harg4 : arg4.IsWhole) (arg5 : Memref sig .tc .vmem S512x1024 .f32) (harg5 : arg5.IsWhole)
  (arg6 : Memref sig .tc .vmem S1x1024 .f32) (harg6 : arg6.IsWhole)
  (x0 : Vec Ideal S512x1024 .f32) (x1 : Vec Ideal S1x1024 .f32) (x2 x3 : Vec Ideal S512x1024 .f32) (xo5 : Vec Ideal S1x1024 .f32)

theorem outA4 (hc0 : cond0_0 i) (hc1 : ¬cond0_1 i) :
    out0_A_4 (F := Ideal) c i arg1 harg1 arg2 harg2 arg3 harg3 arg4 harg4 arg5 harg5 arg6 harg6 hc0 hc1 x0 x1 x2 x3 = k0_pay4 x0 x2 x1 x3 := by
  unfold out0_A_4
  rw [View.read_writes_junk_eq_canon VO0_4]
  unfold kernelRun0_A; dsimp only; sl_unfold_words
  rw [Cert.Gate.load_all arg1 harg1 x0, Cert.Gate.load_all arg2 harg2 x1, Cert.Gate.load_all arg3 harg3 x2, Cert.Gate.load_all arg4 harg4 x3]
  exact View.canon_cons_unit_zero Cert.Kernel3Ideal.Ffn.hz _ _ _

theorem outA5 (hc0 : cond0_0 i) (hc1 : ¬cond0_1 i) :
    out0_A_5 (F := Ideal) c i arg1 harg1 arg2 harg2 arg3 harg3 arg4 harg4 arg5 harg5 arg6 harg6 hc0 hc1 x0 x1 x2 x3 = k0_pay5 x0 x2 := by
  unfold out0_A_5
  rw [View.read_writes_junk_eq_canon VO0_5]
  unfold kernelRun0_A; dsimp only; sl_unfold_words
  rw [Cert.Gate.load_all arg1 harg1 x0, Cert.Gate.load_all arg3 harg3 x2]
  exact View.canon_cons_unit_zero Cert.Kernel3Ideal.Ffn.hz _ _ _

theorem outB4 (hc0 : ¬cond0_0 i) (hc1 : cond0_1 i) :
    out0_B_4 (F := Ideal) c i arg1 harg1 arg2 harg2 arg3 harg3 arg4 harg4 arg5 harg5 arg6 harg6 hc0 hc1 x0 x1 x2 x3 xo5 = k0_pay4 x0 x2 x1 x3 := by
  unfold out0_B_4
  rw [View.read_writes_junk_eq_canon VO0_4]
  unfold kernelRun0_B; dsimp only; sl_unfold_words
  rw [Cert.Gate.load_all arg1 harg1 x0, Cert.Gate.load_all arg2 harg2 x1, Cert.Gate.load_all arg3 harg3 x2, Cert.Gate.load_all arg4 harg4 x3]
  exact View.canon_cons_unit_zero Cert.Kernel3Ideal.Ffn.hz _ _ _

theorem outB5 (hc0 : ¬cond0_0 i) (hc1 : cond0_1 i) :
    out0_B_5 (F := Ideal) c i arg1 harg1 arg2 harg2 arg3 harg3 arg4 harg4 arg5 harg5 arg6 harg6 hc0 hc1 x0 x1 x2 x3 xo5 = k0_pay1 (k0_pay5 x0 x2) xo5 := by
  unfold out0_B_5
  rw [View.read_writes_junk_eq_canon VO0_5]
  unfold kernelRun0_B; dsimp only; sl_unfold_words
  rw [Cert.Gate.load_all arg1 harg1 x0, Cert.Gate.load_all arg3 harg3 x2, Cert.Gate.load_all arg6 harg6 xo5]
  exact View.canon_cons_unit_zero Cert.Kernel3Ideal.Ffn.hz _ _ _
end

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] := by
  decide +kernel

variable (m : (ℓ : Loc nD τ sig) → Buf (Elt Ideal) ℓ) (c : Dev nD)

/-- The rows, the scale, the gradient at the normed rows, and what the rows' gradient is added to. -/
abbrev b0 : FVec Ideal S2048x1024 .f32 := m ((c.tc : Thread nD τ).loc main_arg0)
abbrev b1 : FVec Ideal S1024 .f32 := m ((c.tc : Thread nD τ).loc main_arg1)
abbrev b2 : FVec Ideal S2048x1024 .f32 := m ((c.tc : Thread nD τ).loc main_arg2)
abbrev b3 : FVec Ideal S2048x1024 .f32 := m ((c.tc : Thread nD τ).loc main_arg3)

/-- The scale as the call takes it: one row. -/
theorem scale_eq (j : Fin 1024) : (V m c main_v0 : FVec Ideal S1x1024 .f32) (ix2 0 j) = b1 m c (ix1 j) := by
  unfold_abbrev_sides
  after_results
  pointwise

/-- Row `r` of the `t`-th block of rows. -/
def row4 (t : Fin 4) (r : Fin 512) : Fin 2048 := ⟨512 * t.val + r.val, by omega⟩

/-- What a block of rows adds to the scale's gradient. -/
def gst (x h : FVec Ideal S2048x1024 .f32) (j : Fin 1024) (t : Fin 4) : EReal :=
  ∑ r : Fin 512, dgr (fun k => x (ix2 (row4 t r) k)) (fun k => h (ix2 (row4 t r) k)) j

theorem point (t : Fin cfg0.N) : (outsAt0 m c t.val t.isLt).1 = k0_pay4 (iblk m c 0 t) (iblk m c 2 t) (iblk m c 1 t) (iblk m c 3 t) := by
  have hN : t.val < 4 := Nat.lt_of_lt_of_eq t.isLt N_0
  by_cases h : t.val % 4 = 0
  · rw [outsAt0_A m c t h (by omega)]
    dsimp only
    rw [outA4]
  · rw [outsAt0_B m c t h (by omega)]
    dsimp only
    rw [outB4]

/-- The rows' gradient. -/
theorem arr4 : ((dats m 0 c).arrAt 4 cfg0.N : FVec Ideal S2048x1024 .f32) = dxs (n := 2048) (b0 m c) (b1 m c) (b2 m c) (b3 m c) := by
  refine (dats m 0 c).arrAt_eq_of_covers 4 _ (by decide +kernel) fun t hf y => ?_
  obtain ⟨h0, h1, h2, h3, h4, -⟩ := idx t
  show (dats m 0 c).after 4 t y = _
  rw [after0_4, point]
  obtain ⟨r, j, rfl⟩ := Cert.Prod.two y
  rw [payX]
  refine dxr_congr (fun k => ?_) (fun k => congrArg₂ (· * ·) ?_ ?_) ?_ ?_
  · refine Eq.trans ?_ (congrFun (V_main_arg0 m c) _); blk_ext [iblk, h0, h4]
  · refine Eq.trans ?_ (congrFun (V_main_arg2 m c) _); blk_ext [iblk, h2, h4]
  · refine Eq.trans ?_ (scale_eq m c _); blk_ext [iblk, h1, h4]
  · refine Eq.trans ?_ (congrFun (V_main_arg3 m c) _); blk_ext [iblk, h3, h4]
  · blk_ext [h4]

theorem share (t : Fin cfg0.N) (i : Fin 1) (j : Fin 1024) : k0_pay5 (F := Ideal) (iblk m c 0 t) (iblk m c 2 t) (ix2 i j) = gst (b0 m c) (b2 m c) j t := by
  obtain ⟨h0, -, h2, -⟩ := idx t
  rw [payG]
  refine Finset.sum_congr rfl fun r _ => dgr_congr (fun k => ?_) (fun k => ?_) rfl
  · blk_ext [iblk, h0, row4]
  · blk_ext [iblk, h2, row4]

theorem held (i : Fin 1) (j : Fin 1024) : ∀ (n : ℕ) (hn : n < cfg0.N), (outsAt0 m c n hn).2 (ix2 i j)
    = ∑ t : Fin (n + 1), gst (b0 m c) (b2 m c) j ⟨t.val, Nat.lt_of_lt_of_le t.isLt hn⟩ := by
  refine Cert.Kernel28Ideal.Mem.runs (fun n hn => (outsAt0 m c n hn).2 (ix2 i j)) (gst (b0 m c) (b2 m c) j) (fun h => ?_) (fun n h => ?_)
  · show (outsAt0 m c 0 h).2 (ix2 i j) = _
    rw [outsAt0_A m c ⟨0, h⟩ rfl (by dsimp only; omega)]
    dsimp only
    rw [outA5, share]
  · have hN : cfg0.N = 4 := N_0
    show (outsAt0 m c (n + 1) h).2 (ix2 i j) = _
    rw [outsAt0_B m c ⟨n + 1, h⟩ (by dsimp only; omega) (by dsimp only; omega)]
    dsimp only
    rw [outB5, payS, share]
    rfl

theorem last : ∀ t : Fin cfg0.N, win0_5.flush t = true → t.val = 3 := by
  decide +kernel

/-- The blocks' shares are the whole sum. -/
theorem whole (x h : FVec Ideal S2048x1024 .f32) (i : Fin 1) (j : Fin 1024) : ∑ t, gst x h j t = dgs (n := 2048) x h (ix2 i j) := by
  refine Eq.trans ?_ (Cert.Ffn.rows4 fun r => dgr (fun k => x (ix2 r k)) (fun k => h (ix2 r k)) j).symm
  rw [Fin.sum_univ_four]
  refine congrArg₂ (· + ·) (congrArg₂ (· + ·) (congrArg₂ (· + ·) ?_ ?_) ?_) ?_ <;>
    exact Finset.sum_congr rfl fun r _ => congrArg (fun r' : Fin 2048 => dgr (fun k => x (ix2 r' k)) (fun k => h (ix2 r' k)) j) (Fin.ext (by simp [row4]))

theorem ends (i : Fin 1) (j : Fin 1024) : ∀ t : Fin cfg0.N, t.val = 3 → (outsAt0 m c t.val t.isLt).2 (ix2 i j) = dgs (n := 2048) (b0 m c) (b2 m c) (ix2 i j) := by
  rintro ⟨_, hn⟩ rfl
  exact (held m c i j 3 hn).trans (whole _ _ i j)

/-- The scale's gradient. -/
theorem arr5 : ((dats m 0 c).arrAt 5 cfg0.N : FVec Ideal S1x1024 .f32) = dgs (n := 2048) (b0 m c) (b2 m c) := by
  refine (dats m 0 c).arrAt_eq_of_covers 5 _ (by decide +kernel) fun t hf y => ?_
  obtain ⟨-, -, -, -, -, h5⟩ := idx t
  show (dats m 0 c).after 5 t y = _
  rw [after0_5]
  obtain ⟨i, j, rfl⟩ := Cert.Prod.two y
  refine (ends m c i j t (last t hf)).trans (congrArg _ ?_)
  refine (Cert.Fox.eq2 (Fin.ext ?_) (Fin.ext ?_)).symm
  · simp [h5]
  · simp [h5]

end Cert.Kernel33Ideal.Norms

namespace Cert.Norm

open Idealize.ShloMosaic Idealize.ShloMosaic.TcCoe Idealize.ShloMosaic.Tactic Idealize.SL.Sem

section
open Cert.Reference34Ideal Cert.Reference34Ideal.Gen Cert.Reference34Ideal.Read

theorem ref34 (x h : FVec Ideal S256x1024 .f32) : val_main_v17 (F := Ideal) x h = dgs (n := 256) x h := by
  funext y
  obtain ⟨i, j, rfl⟩ := Cert.Prod.two y
  pointwise [val_main_v17, val_main_v16, val_main_v15, val_main_v14, val_main_v13, val_main_v9, val_main_v8, val_main_v7, val_main_v6, val_main_v5, val_main_v4,
    val_main_v3, val_main_v2, val_main_v1, val_main_v0, val_main_cst, val_main_cst_0, val_main_cst_1, val_main_cst_2, val_main_cst_3]
  simp only [Fin.sum_univ_one]
  exact Finset.sum_congr (M := EReal) rfl fun r _ => mul_comm _ _

end

section
open Cert.Reference33Ideal Cert.Reference33Ideal.Gen Cert.Reference33Ideal.Read

theorem ref33g (x h : FVec Ideal S2048x1024 .f32) : val_main_v37 (F := Ideal) x h = dgs (n := 2048) x h := by
  funext y
  obtain ⟨i, j, rfl⟩ := Cert.Prod.two y
  pointwise [val_main_v37, val_main_v21, val_main_v18, val_main_v17, val_main_v16, val_main_v12, val_main_v11, val_main_v7, val_main_v6, val_main_v5, val_main_v4,
    val_main_v3, val_main_v2, val_main_v1, val_main_v0, val_main_cst, val_main_cst_0, val_main_cst_1, val_main_cst_3, val_main_cst_4]
  simp only [Fin.sum_univ_one]
  exact Finset.sum_congr (M := EReal) rfl fun r _ => mul_comm _ _

theorem ref33x (x : FVec Ideal S2048x1024 .f32) (g : FVec Ideal S1024 .f32) (h d : FVec Ideal S2048x1024 .f32) :
    val_main_v36 (F := Ideal) x g h d = dxs (n := 2048) x g h d := by
  funext y
  obtain ⟨r, j, rfl⟩ := Cert.Prod.two y
  refine Eq.trans ?_ (through (fun k => x (ix2 r k)) (fun k => h (ix2 r k) * g (ix1 k)) (d (ix2 r j)) j)
  pointwise [val_main_v36, val_main_v35, val_main_v34, val_main_v33, val_main_v32, val_main_v31, val_main_v30, val_main_v29, val_main_v28, val_main_v27,
    val_main_v26, val_main_v25, val_main_v24, val_main_v23, val_main_v22, val_main_v20, val_main_v19, val_main_v13, val_main_v10, val_main_v9, val_main_v8,
    val_main_v7, val_main_v6, val_main_v5, val_main_v4, val_main_v3, val_main_v2, val_main_v1, val_main_v0, val_main_cst, val_main_cst_0, val_main_cst_1,
    val_main_cst_2, val_main_cst_5, val_main_cst_6, val_main_cst_7]
  simp only [Fin.sum_univ_one]
  rfl

end

theorem agree34 : Cert.algebraic_Kernel34Ideal_Reference34Ideal (hKernel34Ideal := Cert.Kernel34Ideal.Gen.facts)
    (hReference34Ideal := Cert.Reference34Ideal.Gen.facts) := by
  intro m g m' g' _ hag
  refine ⟨fun c => dgs (n := 256) (m ((c.tc : Thread _ _).loc Cert.Kernel34Ideal.main_arg0)) (m ((c.tc : Thread _ _).loc Cert.Kernel34Ideal.main_arg2)), ?_, ?_⟩
  · refine (θ_run Cert.Kernel34Ideal.defs _ _).mono (fun r h c => ?_) (Cert.Kernel34Ideal.Value.run_blocks m g)
    exact ⟨(h c).1.trans (Cert.Kernel34Ideal.Norms.arr m c), (h c).2⟩
  · refine (θ_run Cert.Reference34Ideal.defs _ _).mono (fun r h c => ?_) (Cert.Reference34Ideal.Value.run (F := Ideal) m' g')
    obtain ⟨a0, a1, a2⟩ := hag c
    obtain ⟨r0, hargs⟩ := h c
    rw [Cert.Reference34Ideal.Read.val_main_v17_eq, ref34, a0, a2] at r0
    exact ⟨r0, hargs⟩

theorem agree33 : Cert.algebraic_Kernel33Ideal_Reference33Ideal (hKernel33Ideal := Cert.Kernel33Ideal.Gen.facts)
    (hReference33Ideal := Cert.Reference33Ideal.Gen.facts) := by
  intro m g m' g' _ hag
  refine ⟨fun c => dxs (n := 2048) (m ((c.tc : Thread _ _).loc Cert.Kernel33Ideal.main_arg0)) (m ((c.tc : Thread _ _).loc Cert.Kernel33Ideal.main_arg1))
      (m ((c.tc : Thread _ _).loc Cert.Kernel33Ideal.main_arg2)) (m ((c.tc : Thread _ _).loc Cert.Kernel33Ideal.main_arg3)),
    fun c => dgs (n := 2048) (m ((c.tc : Thread _ _).loc Cert.Kernel33Ideal.main_arg0)) (m ((c.tc : Thread _ _).loc Cert.Kernel33Ideal.main_arg2)), ?_, ?_⟩
  · refine (θ_run Cert.Kernel33Ideal.defs _ _).mono (fun r h c => ?_) (Cert.Kernel33Ideal.Value.run_blocks m g)
    exact ⟨(h c).1.trans (Cert.Kernel33Ideal.Norms.arr4 m c), (h c).2.1.trans (Cert.Kernel33Ideal.Norms.arr5 m c), (h c).2.2⟩
  · refine (θ_run Cert.Reference33Ideal.defs _ _).mono (fun r h c => ?_) (Cert.Reference33Ideal.Value.run (F := Ideal) m' g')
    obtain ⟨a0, a1, a2, a3⟩ := hag c
    obtain ⟨r0, r1, hargs⟩ := h c
    rw [Cert.Reference33Ideal.Read.val_main_v36_eq, ref33x, a0, a1, a2, a3] at r0
    rw [Cert.Reference33Ideal.Read.val_main_v37_eq, ref33g, a0, a2] at r1
    exact ⟨r0, r1, hargs⟩

end Cert.Norm

end
-- ==== Proof.LossHead.lean ====
/- The loss head: the loss of the last norm's rows against the target, and its gradients for the rows and for the norm's scale. -/
module

public import proofs.«01_k».proof.Proof.NormGrad
public import proofs.«01_k».proof.Proof.Gen.Kernel35Ideal.Value
public import proofs.«01_k».proof.Proof.Gen.Reference35Ideal.Read

@[expose] public section

set_option maxRecDepth 16384

noncomputable section

namespace Cert.Norm

open Idealize.ShloMosaic
open Cert.Kernel28Ideal.Mem (pull)

/-- The normed row less the target. -/
def er (x g t : Fin 1024 → EReal) (j : Fin 1024) : EReal := x j * rt x * g j - t j

/-- The loss's gradient at the normed row. -/
def wo (x g t : Fin 1024 → EReal) (j : Fin 1024) : EReal := er x g t j * Ideal.ofBits .f32 0x3A800000#32

/-- A row's sum of squares. -/
def ssq (x g t : Fin 1024 → EReal) : EReal := ∑ k, er x g t k * er x g t k

theorem wo_congr {x x' g g' t t' : Fin 1024 → EReal} {j j' : Fin 1024} (hx : ∀ k, x k = x' k) (hg : ∀ k, g k = g' k) (ht : ∀ k, t k = t' k)
    (hj : j.val = j'.val) : wo x g t j = wo x' g' t' j' := by
  rw [funext hx, funext hg, funext ht, Fin.ext hj]

theorem ssq_congr {x x' g g' t t' : Fin 1024 → EReal} (hx : ∀ k, x k = x' k) (hg : ∀ k, g k = g' k) (ht : ∀ k, t k = t' k) :
    ssq x g t = ssq x' g' t' := by
  rw [funext hx, funext hg, funext ht]

/-- The gradient at the normed rows. -/
def wos {n : ℕ} (x : FVec Ideal ⟨2, ![n, 1024]⟩ .f32) (g : FVec Ideal ⟨1, ![1024]⟩ .f32) (t : FVec Ideal ⟨2, ![n, 1024]⟩ .f32) :
    FVec Ideal ⟨2, ![n, 1024]⟩ .f32 :=
  fun y => wo (fun k => x (ix2 (y 0) k)) (fun k => g (ix1 k)) (fun k => t (ix2 (y 0) k)) (y 1)

/-- The loss, at every place of a small array. -/
def losses {n : ℕ} (x : FVec Ideal ⟨2, ![n, 1024]⟩ .f32) (g : FVec Ideal ⟨1, ![1024]⟩ .f32) (t : FVec Ideal ⟨2, ![n, 1024]⟩ .f32) :
    FVec Ideal ⟨2, ![8, 128]⟩ .f32 :=
  fun _ => (∑ r : Fin n, ssq (fun k => x (ix2 r k)) (fun k => g (ix1 k)) (fun k => t (ix2 r k))) * ((1 / 2048 : ℝ) : EReal)

/-- The constants: the factors of the loss and of its gradient. -/
theorem ofBits_loss : Ideal.ofBits FTy.f32 0x3A000000#32 = ((1 / 2048 : ℝ) : EReal) := by
  simp [Ideal.ofBits, Ideal.ieee, -EReal.coe_mul]; norm_num
theorem ofBits_cot : Ideal.ofBits FTy.f32 0x3A800000#32 = ((1 / 1024 : ℝ) : EReal) := by
  simp [Ideal.ofBits, Ideal.ieee, -EReal.coe_mul]; norm_num
theorem ofBits_two : Ideal.ofBits FTy.f32 0x40000000#32 = ((2 : ℝ) : EReal) := by
  simp [Ideal.ofBits, Ideal.ieee, -EReal.coe_mul]; norm_num
theorem ofBits_pos_half : Ideal.ofBits FTy.f32 0x3F000000#32 = ((1 / 2 : ℝ) : EReal) := by
  simp [Ideal.ofBits, Ideal.ieee, -EReal.coe_mul]; norm_num

/-- The derivative of the square and of the mean. -/
theorem cot (e : EReal) : Ideal.div (Ideal.ofBits .f32 0x3F000000#32) (Ideal.ofBits .f32 0x44800000#32) * (Ideal.ofBits .f32 0x40000000#32 * e)
    = e * Ideal.ofBits .f32 0x3A800000#32 := by
  rw [ofBits_pos_half, ofBits_len, ofBits_two, ofBits_cot, Ideal.div_coe (by norm_num), ← EReal.coe_mul, ← mul_assoc, ← EReal.coe_mul, mul_comm]
  norm_num

/-- The loss by the rows' means. -/
theorem means {n : ℕ} (f : Fin n → EReal) : Ideal.ofBits .f32 0x3F000000#32 * ∑ r, Ideal.div (f r) (Ideal.ofBits .f32 0x44800000#32)
    = (∑ r, f r) * ((1 / 2048 : ℝ) : EReal) := by
  rw [ofBits_pos_half, ofBits_len, Finset.sum_congr rfl fun r _ => Ideal.div_coe (by norm_num) (f r), pull f (by norm_num), mul_comm, mul_assoc, ← EReal.coe_mul]
  norm_num

end Cert.Norm

namespace Cert.Kernel35Ideal.Norms

open Idealize.ShloMosaic Idealize.ShloMosaic.TcCoe Idealize.ShloMosaic.Tactic Cert.Kernel35Ideal Cert.Kernel35Ideal.Gen Cert.Norm
open Cert.Kernel33Ideal.Norms (row4)

theorem payW (x : Vec Ideal S512x1024 .f32) (g : Vec Ideal S1x1024 .f32) (t : Vec Ideal S512x1024 .f32) (r : Fin 512) (j : Fin 1024) :
    k0_pay7 x g t (ix2 r j) = wo (fun k => x (ix2 r k)) (fun k => g (ix2 0 k)) (fun k => t (ix2 r k)) j := by
  pointwise [k0_pay7, k0_pay6, k0_pay5, k0_pay4]
  rfl

/-- What the body stores of the rows' gradient, and a block's shares of the scale's gradient and of the loss. -/
theorem payX (x : Vec Ideal S512x1024 .f32) (g : Vec Ideal S1x1024 .f32) (t : Vec Ideal S512x1024 .f32) (r : Fin 512) (j : Fin 1024) :
    k0_pay8 x g t g (ix2 r j) = dxr (fun k => x (ix2 r k)) (fun k => wo (fun k => x (ix2 r k)) (fun k => g (ix2 0 k)) (fun k => t (ix2 r k)) k * g (ix2 0 k)) 0 j := by
  pointwise [k0_pay8, payW, k0_pay5, k0_pay4]
  exact (zero_add _).symm

theorem payG (x : Vec Ideal S512x1024 .f32) (g : Vec Ideal S1x1024 .f32) (t : Vec Ideal S512x1024 .f32) (i : Fin 1) (j : Fin 1024) :
    k0_pay9 x g t (ix2 i j) = ∑ r : Fin 512, dgr (fun k => x (ix2 r k)) (wo (fun k => x (ix2 r k)) (fun k => g (ix2 0 k)) (fun k => t (ix2 r k))) j := by
  pointwise [k0_pay9, payW, k0_pay5, k0_pay4]
  rfl

theorem payL (x : Vec Ideal S512x1024 .f32) (g : Vec Ideal S1x1024 .f32) (t : Vec Ideal S512x1024 .f32) (i : Fin 8) (j : Fin 128) :
    k0_pay1 k0_pay10 (k0_pay11 x g t) (ix2 i j)
      = (∑ r : Fin 512, ssq (fun k => x (ix2 r k)) (fun k => g (ix2 0 k)) (fun k => t (ix2 r k))) * ((1 / 2048 : ℝ) : EReal) := by
  rw [← ofBits_loss]
  pointwise [k0_pay1, k0_pay10, k0_pay11, k0_pay6, k0_pay5, k0_pay4]
  exact mul_comm _ _

theorem payS (v a : Vec Ideal S1x1024 .f32) (i : Fin 1) (j : Fin 1024) : k0_pay2 v a (ix2 i j) = a (ix2 i j) + v (ix2 i j) := by
  pointwise [k0_pay2]

theorem payT (v : Vec Ideal S8x128 .f32) (u : Vec Ideal S1x512x1024 .f32) (a : Vec Ideal S8x128 .f32) (i : Fin 8) (j : Fin 128) :
    k0_pay3 v u a (ix2 i j) = a (ix2 i j) + k0_pay1 v u (ix2 i j) := by
  pointwise [k0_pay3]

section
variable (c : Dev nD) (i : grid0.Coords) (arg1 : Memref sig .tc .vmem S512x1024 .f32) (harg1 : arg1.IsWhole)
  (arg2 : Memref sig .tc .vmem S1x1024 .f32) (harg2 : arg2.IsWhole) (arg3 : Memref sig .tc .vmem S512x1024 .f32) (harg3 : arg3.IsWhole)
  (arg4 : Memref sig .tc .vmem S512x1024 .f32) (harg4 : arg4.IsWhole) (arg5 : Memref sig .tc .vmem S1x1024 .f32) (harg5 : arg5.IsWhole)
  (arg6 : Memref sig .tc .vmem S8x128 .f32) (harg6 : arg6.IsWhole)
  (x0 : Vec Ideal S512x1024 .f32) (x1 : Vec Ideal S1x1024 .f32) (x2 : Vec Ideal S512x1024 .f32) (xo4 : Vec Ideal S1x1024 .f32) (xo5 : Vec Ideal S8x128 .f32)

theorem outA3 (hc0 : cond0_0 i) (hc1 : ¬cond0_1 i) :
    out0_A_3 (F := Ideal) c i arg1 harg1 arg2 harg2 arg3 harg3 arg4 harg4 arg5 harg5 arg6 harg6 hc0 hc1 x0 x1 x2 = k0_pay8 x0 x1 x2 x1 := by
  unfold out0_A_3
  rw [View.read_writes_junk_eq_canon VO0_3]
  unfold kernelRun0_A; dsimp only; sl_unfold_words
  rw [Cert.Gate.load_all arg1 harg1 x0, Cert.Gate.load_all arg2 harg2 x1, Cert.Gate.load_all arg3 harg3 x2]
  exact View.canon_cons_unit_zero Cert.Kernel3Ideal.Ffn.hz _ _ _

theorem outA4 (hc0 : cond0_0 i) (hc1 : ¬cond0_1 i) :
    out0_A_4 (F := Ideal) c i arg1 harg1 arg2 harg2 arg3 harg3 arg4 harg4 arg5 harg5 arg6 harg6 hc0 hc1 x0 x1 x2 = k0_pay9 x0 x1 x2 := by
  unfold out0_A_4
  rw [View.read_writes_junk_eq_canon VO0_4]
  unfold kernelRun0_A; dsimp only; sl_unfold_words
  rw [Cert.Gate.load_all arg1 harg1 x0, Cert.Gate.load_all arg2 harg2 x1, Cert.Gate.load_all arg3 harg3 x2]
  exact View.canon_cons_unit_zero Cert.Kernel3Ideal.Ffn.hz _ _ _

theorem outA5 (hc0 : cond0_0 i) (hc1 : ¬cond0_1 i) :
    out0_A_5 (F := Ideal) c i arg1 harg1 arg2 harg2 arg3 harg3 arg4 harg4 arg5 harg5 arg6 harg6 hc0 hc1 x0 x1 x2 = k0_pay1 k0_pay10 (k0_pay11 x0 x1 x2) := by
  unfold out0_A_5
  rw [View.read_writes_junk_eq_canon VO0_5]
  unfold kernelRun0_A; dsimp only; sl_unfold_words
  rw [Cert.Gate.load_all arg1 harg1 x0, Cert.Gate.load_all arg2 harg2 x1, Cert.Gate.load_all arg3 harg3 x2]
  exact View.canon_cons_unit_zero Cert.Kernel3Ideal.Ffn.hz _ _ _

theorem outB3 (hc0 : ¬cond0_0 i) (hc1 : cond0_1 i) :
    out0_B_3 (F := Ideal) c i arg1 harg1 arg2 harg2 arg3 harg3 arg4 harg4 arg5 harg5 arg6 harg6 hc0 hc1 x0 x1 x2 xo4 xo5 = k0_pay8 x0 x1 x2 x1 := by
  unfold out0_B_3
  rw [View.read_writes_junk_eq_canon VO0_3]
  unfold kernelRun0_B; dsimp only; sl_unfold_words
  rw [Cert.Gate.load_all arg1 harg1 x0, Cert.Gate.load_all arg2 harg2 x1, Cert.Gate.load_all arg3 harg3 x2]
  exact View.canon_cons_unit_zero Cert.Kernel3Ideal.Ffn.hz _ _ _

theorem outB4 (hc0 : ¬cond0_0 i) (hc1 : cond0_1 i) :
    out0_B_4 (F := Ideal) c i arg1 harg1 arg2 harg2 arg3 harg3 arg4 harg4 arg5 harg5 arg6 harg6 hc0 hc1 x0 x1 x2 xo4 xo5 = k0_pay2 (k0_pay9 x0 x1 x2) xo4 := by
  unfold out0_B_4
  rw [View.read_writes_junk_eq_canon VO0_4]
  unfold kernelRun0_B; dsimp only; sl_unfold_words
  rw [Cert.Gate.load_all arg1 harg1 x0, Cert.Gate.load_all arg2 harg2 x1, Cert.Gate.load_all arg3 harg3 x2, Cert.Gate.load_all arg5 harg5 xo4]
  exact View.canon_cons_unit_zero Cert.Kernel3Ideal.Ffn.hz _ _ _

theorem outB5 (hc0 : ¬cond0_0 i) (hc1 : cond0_1 i) :
    out0_B_5 (F := Ideal) c i arg1 harg1 arg2 harg2 arg3 harg3 arg4 harg4 arg5 harg5 arg6 harg6 hc0 hc1 x0 x1 x2 xo4 xo5
      = k0_pay3 k0_pay10 (k0_pay11 x0 x1 x2) xo5 := by
  unfold out0_B_5
  rw [View.read_writes_junk_eq_canon VO0_5]
  unfold kernelRun0_B; dsimp only; sl_unfold_words
  rw [Cert.Gate.load_all arg1 harg1 x0, Cert.Gate.load_all arg2 harg2 x1, Cert.Gate.load_all arg3 harg3 x2, Cert.Gate.load_all arg6 harg6 xo5]
  exact View.canon_cons_unit_zero Cert.Kernel3Ideal.Ffn.hz _ _ _
end

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] := by
  decide +kernel

variable (m : (ℓ : Loc nD τ sig) → Buf (Elt Ideal) ℓ) (c : Dev nD)

/-- The rows, the scale and the target. -/
abbrev b0 : FVec Ideal S2048x1024 .f32 := m ((c.tc : Thread nD τ).loc main_arg0)
abbrev b1 : FVec Ideal S1024 .f32 := m ((c.tc : Thread nD τ).loc main_arg1)
abbrev b2 : FVec Ideal S2048x1024 .f32 := m ((c.tc : Thread nD τ).loc main_arg2)

/-- The scale as the call takes it: one row. -/
theorem scale_eq (j : Fin 1024) : (V m c main_v0 : FVec Ideal S1x1024 .f32) (ix2 0 j) = b1 m c (ix1 j) := by
  unfold_abbrev_sides
  after_results
  pointwise

theorem bx (t : Fin cfg0.N) (r : Fin 512) (k : Fin 1024) : (iblk m c 0 t : Vec Ideal S512x1024 .f32) (ix2 r k) = b0 m c (ix2 (row4 t r) k) := by
  obtain ⟨h0, -⟩ := idx t
  blk_ext [iblk, h0, row4]

theorem bg (t : Fin cfg0.N) (k : Fin 1024) : (iblk m c 1 t : Vec Ideal S1x1024 .f32) (ix2 0 k) = b1 m c (ix1 k) := by
  obtain ⟨-, h1, -⟩ := idx t
  refine Eq.trans ?_ (scale_eq m c _)
  blk_ext [iblk, h1]

theorem bt (t : Fin cfg0.N) (r : Fin 512) (k : Fin 1024) : (iblk m c 2 t : Vec Ideal S512x1024 .f32) (ix2 r k) = b2 m c (ix2 (row4 t r) k) := by
  obtain ⟨-, -, h2, -⟩ := idx t
  blk_ext [iblk, h2, row4]

theorem point (t : Fin cfg0.N) : (outsAt0 m c t.val t.isLt).1 = k0_pay8 (iblk m c 0 t) (iblk m c 1 t) (iblk m c 2 t) (iblk m c 1 t) := by
  have hN : t.val < 4 := Nat.lt_of_lt_of_eq t.isLt N_0
  by_cases h : t.val % 4 = 0
  · rw [outsAt0_A m c t h (by omega)]
    dsimp only
    rw [outA3]
  · rw [outsAt0_B m c t h (by omega)]
    dsimp only
    rw [outB3]

/-- The rows' gradient. -/
theorem arr3 : ((dats m 0 c).arrAt 3 cfg0.N : FVec Ideal S2048x1024 .f32)
    = dxs (n := 2048) (b0 m c) (b1 m c) (wos (b0 m c) (b1 m c) (b2 m c)) (fun _ => (0 : EReal)) := by
  refine (dats m 0 c).arrAt_eq_of_covers 3 _ (by decide +kernel) fun t hf y => ?_
  obtain ⟨-, -, -, h3, -⟩ := idx t
  show (dats m 0 c).after 3 t y = _
  rw [after0_3, point]
  obtain ⟨r, j, rfl⟩ := Cert.Prod.two y
  rw [payX]
  refine Eq.trans (b := dxs (n := 2048) (b0 m c) (b1 m c) (wos (b0 m c) (b1 m c) (b2 m c)) (fun _ => (0 : EReal)) (ix2 (row4 t r) j)) ?_ ?_
  · exact dxr_congr (bx m c t r) (fun k => congrArg₂ (· * ·) (wo_congr (bx m c t r) (bg m c t) (bt m c t r) rfl) (bg m c t k)) rfl rfl
  · refine congrArg _ (?_ : _ = _)
    refine (Cert.Fox.eq2 (Fin.ext ?_) (Fin.ext ?_)).symm
    · simp [h3, row4]; exact mul_comm _ _
    · simp [h3]

/-- What a block of rows adds to the scale's gradient, and to the loss. -/
def gst (x : FVec Ideal S2048x1024 .f32) (g : FVec Ideal S1024 .f32) (d : FVec Ideal S2048x1024 .f32) (j : Fin 1024) (t : Fin 4) : EReal :=
  Cert.Kernel33Ideal.Norms.gst x (wos (n := 2048) x g d) j t

def lst (x : FVec Ideal S2048x1024 .f32) (g : FVec Ideal S1024 .f32) (d : FVec Ideal S2048x1024 .f32) (t : Fin 4) : EReal :=
  (∑ r : Fin 512, ssq (fun k => x (ix2 (row4 t r) k)) (fun k => g (ix1 k)) (fun k => d (ix2 (row4 t r) k))) * ((1 / 2048 : ℝ) : EReal)

theorem shareG (t : Fin cfg0.N) (i : Fin 1) (j : Fin 1024) : k0_pay9 (F := Ideal) (iblk m c 0 t) (iblk m c 1 t) (iblk m c 2 t) (ix2 i j)
    = gst (b0 m c) (b1 m c) (b2 m c) j t := by
  rw [payG]
  exact rows_congr (bx m c t) (fun r k => wo_congr (bx m c t r) (bg m c t) (bt m c t r) rfl) rfl

theorem shareL (t : Fin cfg0.N) (i : Fin 8) (j : Fin 128) : k0_pay1 (F := Ideal) k0_pay10 (k0_pay11 (iblk m c 0 t) (iblk m c 1 t) (iblk m c 2 t)) (ix2 i j)
    = lst (b0 m c) (b1 m c) (b2 m c) t := by
  rw [payL]
  exact congrArg (· * _) (Finset.sum_congr rfl fun r _ => ssq_congr (bx m c t r) (bg m c t) (bt m c t r))

theorem heldG (i : Fin 1) (j : Fin 1024) : ∀ (n : ℕ) (hn : n < cfg0.N), (outsAt0 m c n hn).2.1 (ix2 i j)
    = ∑ t : Fin (n + 1), gst (b0 m c) (b1 m c) (b2 m c) j ⟨t.val, Nat.lt_of_lt_of_le t.isLt hn⟩ := by
  refine Cert.Kernel28Ideal.Mem.runs (fun n hn => (outsAt0 m c n hn).2.1 (ix2 i j)) (gst (b0 m c) (b1 m c) (b2 m c) j) (fun h => ?_) (fun n h => ?_)
  · show (outsAt0 m c 0 h).2.1 (ix2 i j) = _
    rw [outsAt0_A m c ⟨0, h⟩ rfl (by dsimp only; omega)]
    dsimp only
    rw [outA4, shareG]
  · have hN : cfg0.N = 4 := N_0
    show (outsAt0 m c (n + 1) h).2.1 (ix2 i j) = _
    rw [outsAt0_B m c ⟨n + 1, h⟩ (by dsimp only; omega) (by dsimp only; omega)]
    dsimp only
    rw [outB4, payS, shareG]
    rfl

theorem heldL (i : Fin 8) (j : Fin 128) : ∀ (n : ℕ) (hn : n < cfg0.N), (outsAt0 m c n hn).2.2 (ix2 i j)
    = ∑ t : Fin (n + 1), lst (b0 m c) (b1 m c) (b2 m c) ⟨t.val, Nat.lt_of_lt_of_le t.isLt hn⟩ := by
  refine Cert.Kernel28Ideal.Mem.runs (fun n hn => (outsAt0 m c n hn).2.2 (ix2 i j)) (lst (b0 m c) (b1 m c) (b2 m c)) (fun h => ?_) (fun n h => ?_)
  · show (outsAt0 m c 0 h).2.2 (ix2 i j) = _
    rw [outsAt0_A m c ⟨0, h⟩ rfl (by dsimp only; omega)]
    dsimp only
    rw [outA5, shareL]
  · have hN : cfg0.N = 4 := N_0
    show (outsAt0 m c (n + 1) h).2.2 (ix2 i j) = _
    rw [outsAt0_B m c ⟨n + 1, h⟩ (by dsimp only; omega) (by dsimp only; omega)]
    dsimp only
    rw [outB5, payT, shareL]
    rfl

theorem last : ∀ t : Fin cfg0.N, (win0_4.flush t = true → t.val = 3) ∧ (win0_5.flush t = true → t.val = 3) := by
  decide +kernel

/-- The blocks' shares of the loss are the whole. -/
theorem whole (x : FVec Ideal S2048x1024 .f32) (g : FVec Ideal S1024 .f32) (d : FVec Ideal S2048x1024 .f32) (i : Fin 8) (j : Fin 128) :
    ∑ t, lst x g d t = losses (n := 2048) x g d (ix2 i j) := by
  unfold lst
  rw [Cert.Kernel28Ideal.Mem.pull _ (by norm_num)]
  refine congrArg (· * _) (Eq.trans ?_ (Cert.Ffn.rows4 fun r => ssq (fun k => x (ix2 r k)) (fun k => g (ix1 k)) (fun k => d (ix2 r k))).symm)
  rw [Fin.sum_univ_four]
  refine congrArg₂ (· + ·) (congrArg₂ (· + ·) (congrArg₂ (· + ·) ?_ ?_) ?_) ?_ <;>
    exact Finset.sum_congr rfl fun r _ => congrArg (fun r' : Fin 2048 => ssq (fun k => x (ix2 r' k)) (fun k => g (ix1 k)) (fun k => d (ix2 r' k)))
      (Fin.ext (by simp [row4]))

theorem endG (i : Fin 1) (j : Fin 1024) : ∀ t : Fin cfg0.N, t.val = 3 →
    (outsAt0 m c t.val t.isLt).2.1 (ix2 i j) = dgs (n := 2048) (b0 m c) (wos (b0 m c) (b1 m c) (b2 m c)) (ix2 i j) := by
  rintro ⟨_, hn⟩ rfl
  exact (heldG m c i j 3 hn).trans (Cert.Kernel33Ideal.Norms.whole _ _ i j)

theorem endL (i : Fin 8) (j : Fin 128) : ∀ t : Fin cfg0.N, t.val = 3 →
    (outsAt0 m c t.val t.isLt).2.2 (ix2 i j) = losses (n := 2048) (b0 m c) (b1 m c) (b2 m c) (ix2 i j) := by
  rintro ⟨_, hn⟩ rfl
  exact (heldL m c i j 3 hn).trans (whole _ _ _ i j)

/-- The scale's gradient. -/
theorem arr4 : ((dats m 0 c).arrAt 4 cfg0.N : FVec Ideal S1x1024 .f32) = dgs (n := 2048) (b0 m c) (wos (b0 m c) (b1 m c) (b2 m c)) := by
  refine (dats m 0 c).arrAt_eq_of_covers 4 _ (by decide +kernel) fun t hf y => ?_
  obtain ⟨-, -, -, -, h4, -⟩ := idx t
  show (dats m 0 c).after 4 t y = _
  rw [after0_4]
  obtain ⟨i, j, rfl⟩ := Cert.Prod.two y
  refine (endG m c i j t ((last t).1 hf)).trans (congrArg _ ?_)
  refine (Cert.Fox.eq2 (Fin.ext ?_) (Fin.ext ?_)).symm
  · simp [h4]
  · simp [h4]

/-- The loss. -/
theorem arr5 : ((dats m 0 c).arrAt 5 cfg0.N : FVec Ideal S8x128 .f32) = losses (n := 2048) (b0 m c) (b1 m c) (b2 m c) := by
  refine (dats m 0 c).arrAt_eq_of_covers 5 _ (by decide +kernel) fun t hf y => ?_
  show (dats m 0 c).after 5 t y = _
  rw [after0_5]
  obtain ⟨i, j, rfl⟩ := Cert.Prod.two y
  exact endL m c i j t ((last t).2 hf)

end Cert.Kernel35Ideal.Norms

namespace Cert.Norm

open Idealize.ShloMosaic Idealize.ShloMosaic.TcCoe Idealize.ShloMosaic.Tactic Idealize.SL.Sem

section
open Cert.Reference35Ideal Cert.Reference35Ideal.Gen Cert.Reference35Ideal.Read

variable (x : FVec Ideal S2048x1024 .f32) (g : FVec Ideal S1024 .f32) (t : FVec Ideal S2048x1024 .f32)

/-- The reference's normed row less the target. -/
theorem rer (r : Fin 2048) (j : Fin 1024) : val_main_v16 (F := Ideal) x g t (ix2 r j) = er (fun k => x (ix2 r k)) (fun k => g (ix1 k)) (fun k => t (ix2 r k)) j := by
  pointwise [val_main_v16, val_main_v15, val_main_v14, val_main_v13, val_main_v12, val_main_v11, val_main_v7, val_main_v6, val_main_v5, val_main_v4,
    val_main_v3, val_main_v2, val_main_v1, val_main_v0, val_main_cst, val_main_cst_0, val_main_cst_1]
  rfl

/-- The loss's gradient there. -/
theorem rwo : val_main_v30 (F := Ideal) x g t = wos (n := 2048) x g t := by
  funext y
  obtain ⟨r, j, rfl⟩ := Cert.Prod.two y
  refine Eq.trans ?_ (cot (er (fun k => x (ix2 r k)) (fun k => g (ix1 k)) (fun k => t (ix2 r k)) j))
  pointwise [val_main_v30, val_main_v29, val_main_v28, val_main_v27, val_main_v26, val_main_v25, val_main_v19, val_main_v18, rer, val_main_cst_3, val_main_cst_8,
    val_main_cst_9, val_main_cst_10]

theorem ref35l : val_main_v51 (F := Ideal) x g t = losses (n := 2048) x g t := by
  funext y
  obtain ⟨i, j, rfl⟩ := Cert.Prod.two y
  refine Eq.trans ?_ (means fun r : Fin 2048 => ssq (fun k => x (ix2 r k)) (fun k => g (ix1 k)) (fun k => t (ix2 r k)))
  pointwise [val_main_v51, val_main_v24, val_main_v23, val_main_v22, val_main_v21, val_main_v20, val_main_v17, rer, val_main_cst_4, val_main_cst_5, val_main_cst_6,
    val_main_cst_7]
  rfl

theorem ref35g : val_main_v52 (F := Ideal) x g t = dgs (n := 2048) x (wos x g t) := by
  funext y
  obtain ⟨i, j, rfl⟩ := Cert.Prod.two y
  pointwise [val_main_v52, val_main_v36, val_main_v33, val_main_v32, val_main_v31, rwo, val_main_v12, val_main_v11, val_main_v7, val_main_v6, val_main_v5,
    val_main_v4, val_main_v3, val_main_v2, val_main_v1, val_main_v0, val_main_cst, val_main_cst_0, val_main_cst_1, val_main_cst_11, val_main_cst_12]
  simp only [Fin.sum_univ_one]
  exact Finset.sum_congr (M := EReal) rfl fun r _ => mul_comm _ _

theorem ref35x : val_main_v50 (F := Ideal) x g t = dxs (n := 2048) x g (wos x g t) (fun _ => (0 : EReal)) := by
  funext y
  obtain ⟨r, j, rfl⟩ := Cert.Prod.two y
  refine Eq.trans ?_ (through (fun k => x (ix2 r k)) (fun k => wos (n := 2048) x g t (ix2 r k) * g (ix1 k)) 0 j)
  pointwise [val_main_v50, val_main_v49, val_main_v48, val_main_v47, val_main_v46, val_main_v45, val_main_v44, val_main_v43, val_main_v42, val_main_v41,
    val_main_v40, val_main_v39, val_main_v38, val_main_v37, val_main_v35, val_main_v34, rwo, val_main_v13, val_main_v10, val_main_v9, val_main_v8,
    val_main_v7, val_main_v6, val_main_v5, val_main_v4, val_main_v3, val_main_v2, val_main_v1, val_main_v0, val_main_cst, val_main_cst_0, val_main_cst_1,
    val_main_cst_2, val_main_cst_13, val_main_cst_14, val_main_cst_15]
  simp only [Fin.sum_univ_one]
  rfl

end

theorem agree35 : Cert.algebraic_Kernel35Ideal_Reference35Ideal (hKernel35Ideal := Cert.Kernel35Ideal.Gen.facts)
    (hReference35Ideal := Cert.Reference35Ideal.Gen.facts) := by
  intro m g m' g' _ hag
  refine ⟨fun c => losses (n := 2048) (Cert.Kernel35Ideal.Norms.b0 m c) (Cert.Kernel35Ideal.Norms.b1 m c) (Cert.Kernel35Ideal.Norms.b2 m c),
    fun c => dxs (n := 2048) (Cert.Kernel35Ideal.Norms.b0 m c) (Cert.Kernel35Ideal.Norms.b1 m c)
      (wos (Cert.Kernel35Ideal.Norms.b0 m c) (Cert.Kernel35Ideal.Norms.b1 m c) (Cert.Kernel35Ideal.Norms.b2 m c)) (fun _ => (0 : EReal)),
    fun c => dgs (n := 2048) (Cert.Kernel35Ideal.Norms.b0 m c)
      (wos (Cert.Kernel35Ideal.Norms.b0 m c) (Cert.Kernel35Ideal.Norms.b1 m c) (Cert.Kernel35Ideal.Norms.b2 m c)), ?_, ?_⟩
  · refine (θ_run Cert.Kernel35Ideal.defs _ _).mono (fun r h c => ?_) (Cert.Kernel35Ideal.Value.run_blocks m g)
    obtain ⟨h3, h4, h5, hargs⟩ := h c
    exact ⟨h5.trans (Cert.Kernel35Ideal.Norms.arr5 m c), h3.trans (Cert.Kernel35Ideal.Norms.arr3 m c), h4.trans (Cert.Kernel35Ideal.Norms.arr4 m c), hargs⟩
  · refine (θ_run Cert.Reference35Ideal.defs _ _).mono (fun r h c => ?_) (Cert.Reference35Ideal.Value.run (F := Ideal) m' g')
    obtain ⟨a0, a1, a2⟩ := hag c
    obtain ⟨r0, r1, r2, hargs⟩ := h c
    rw [Cert.Reference35Ideal.Read.val_main_v51_eq, ref35l, a0, a1, a2] at r0
    rw [Cert.Reference35Ideal.Read.val_main_v50_eq, ref35x, a0, a1, a2] at r1
    rw [Cert.Reference35Ideal.Read.val_main_v52_eq, ref35g, a0, a1, a2] at r2
    exact ⟨r0, r1, r2, hargs⟩

end Cert.Norm

end
-- ==== Proof.Adam.lean ====
/- The update of the parameters: the gradient's sum over the devices' parts, and the step by the running means of the gradient and of its square. -/
module

public import proofs.«01_k».proof.Proof.NormGrad
public import proofs.«01_k».proof.Proof.Gen.Kernel36Ideal.Value
public import proofs.«01_k».proof.Proof.Gen.Reference36Ideal.Read

@[expose] public section

set_option maxRecDepth 16384

noncomputable section

namespace Cert.Adam

open Idealize.ShloMosaic

/-- The running means of the gradient and of its square, and the step, for one parameter. -/
def mom (m g : EReal) : EReal := Ideal.ofBits .f32 0x3F666666#32 * m + Ideal.ofBits .f32 0x3DCCCCCD#32 * g
def vel (v g : EReal) : EReal := Ideal.ofBits .f32 0x3F7FBE77#32 * v + Ideal.ofBits .f32 0x3A83126F#32 * (g * g)
def stp (w m v g : EReal) : EReal :=
  Ideal.ofBits .f32 0xBA83126F#32 * (Ideal.div (Ideal.div (mom m g) (Ideal.ofBits .f32 0x3F26BD02#32))
      (Ideal.sqrt (Ideal.div (vel v g) (Ideal.ofBits .f32 0x3C231ACC#32)) + Ideal.ofBits .f32 0x322BCC77#32)
    + Ideal.ofBits .f32 0x3C23D70A#32 * w)

variable {R L : ℕ}

/-- The sum over the devices' parts. -/
def grads {φ : FTy} (r : FVec Ideal ⟨3, ![8, R, L]⟩ φ) : FVec Ideal ⟨2, ![R, L]⟩ .f32 := fun y => ∑ s : Fin 8, r (ix3 s (y 0) (y 1))

def moms {φ : FTy} (r : FVec Ideal ⟨3, ![8, R, L]⟩ φ) (m : FVec Ideal ⟨2, ![R, L]⟩ .f32) : FVec Ideal ⟨2, ![R, L]⟩ .f32 :=
  fun y => mom (m y) (grads r y)
def vels {φ : FTy} (r : FVec Ideal ⟨3, ![8, R, L]⟩ φ) (v : FVec Ideal ⟨2, ![R, L]⟩ .f32) : FVec Ideal ⟨2, ![R, L]⟩ .f32 :=
  fun y => vel (v y) (grads r y)
def steps {φ : FTy} (r : FVec Ideal ⟨3, ![8, R, L]⟩ φ) (w m v : FVec Ideal ⟨2, ![R, L]⟩ .f32) : FVec Ideal ⟨2, ![R, L]⟩ .f32 :=
  fun y => stp (w y) (m y) (v y) (grads r y)

end Cert.Adam

namespace Cert.Kernel36Ideal.Adam

open Idealize.ShloMosaic Idealize.ShloMosaic.TcCoe Idealize.ShloMosaic.Tactic Cert.Kernel36Ideal Cert.Kernel36Ideal.Gen Cert.Adam

variable (x0 : Vec Ideal S8x16x1024 .f32) (x1 x2 x3 : Vec Ideal S16x1024 .f32)

/-- What the body stores. -/
theorem payG (i : Fin 16) (j : Fin 1024) : k0_pay5 x0 x1 x2 x3 (ix2 i j) = ∑ s : Fin 8, x0 (ix3 s i j) := by
  rw [Fin.sum_univ_eight]
  pointwise [k0_pay5, k0_pay3]

theorem out4 (i : Fin 16) (j : Fin 1024) : out0_4 x0 x1 x2 x3 (ix2 i j) = ∑ s : Fin 8, x0 (ix3 s i j) := by
  unfold out0_4
  rw [View.canon_unit_zero Cert.Kernel3Ideal.Ffn.hz]
  exact payG x0 x1 x2 x3 i j

theorem out6 (i : Fin 16) (j : Fin 1024) : out0_6 x0 x1 x2 x3 (ix2 i j) = mom (x2 (ix2 i j)) (∑ s : Fin 8, x0 (ix3 s i j)) := by
  unfold out0_6
  rw [View.canon_unit_zero Cert.Kernel3Ideal.Ffn.hz]
  rw [← payG x0 x1 x2 x3]
  pointwise [k0_pay6, k0_pay4]
  rfl

theorem out7 (i : Fin 16) (j : Fin 1024) : out0_7 x0 x1 x2 x3 (ix2 i j) = vel (x3 (ix2 i j)) (∑ s : Fin 8, x0 (ix3 s i j)) := by
  unfold out0_7
  rw [View.canon_unit_zero Cert.Kernel3Ideal.Ffn.hz]
  rw [← payG x0 x1 x2 x3]
  pointwise [k0_pay1]
  rfl

theorem out5 (i : Fin 16) (j : Fin 1024) : out0_5 x0 x1 x2 x3 (ix2 i j) = stp (x1 (ix2 i j)) (x2 (ix2 i j)) (x3 (ix2 i j)) (∑ s : Fin 8, x0 (ix3 s i j)) := by
  unfold out0_5
  rw [View.canon_unit_zero Cert.Kernel3Ideal.Ffn.hz]
  rw [← payG x0 x1 x2 x3]
  pointwise [k0_pay2, k0_pay1, k0_pay6, k0_pay4]
  rfl

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

variable (m : (ℓ : Loc nD τ sig) → Buf (Elt Ideal) ℓ) (c : Dev nD)

/-- The gradient's parts, the parameters and the two running means. -/
abbrev b0 : FVec Ideal S8x144x1024 .f32 := m ((c.tc : Thread nD τ).loc main_arg0)
abbrev b1 : FVec Ideal S144x1024 .f32 := m ((c.tc : Thread nD τ).loc main_arg1)
abbrev b2 : FVec Ideal S144x1024 .f32 := m ((c.tc : Thread nD τ).loc main_arg2)
abbrev b3 : FVec Ideal S144x1024 .f32 := m ((c.tc : Thread nD τ).loc main_arg3)

/-- A block's row among all rows. -/
def row (t : Fin cfg0.N) (i : Fin 16) : Fin 144 := ⟨t.val * 16 + i.val, by have := t.isLt; have hN : cfg0.N = 9 := N_0; omega⟩

theorem e0 (t : Fin cfg0.N) (s : Fin 8) (i : Fin 16) (j : Fin 1024) : (iblk m c 0 t : Vec Ideal S8x16x1024 .f32) (ix3 s i j) = b0 m c (ix3 s (row t i) j) := by
  obtain ⟨h, -⟩ := idx t
  blk_ext [iblk, h, row]
theorem e1 (t : Fin cfg0.N) (i : Fin 16) (j : Fin 1024) : (iblk m c 1 t : Vec Ideal S16x1024 .f32) (ix2 i j) = b1 m c (ix2 (row t i) j) := by
  obtain ⟨-, h, -⟩ := idx t
  blk_ext [iblk, h, row]
theorem e2 (t : Fin cfg0.N) (i : Fin 16) (j : Fin 1024) : (iblk m c 2 t : Vec Ideal S16x1024 .f32) (ix2 i j) = b2 m c (ix2 (row t i) j) := by
  obtain ⟨-, -, h, -⟩ := idx t
  blk_ext [iblk, h, row]
theorem e3 (t : Fin cfg0.N) (i : Fin 16) (j : Fin 1024) : (iblk m c 3 t : Vec Ideal S16x1024 .f32) (ix2 i j) = b3 m c (ix2 (row t i) j) := by
  obtain ⟨-, -, -, h, -⟩ := idx t
  blk_ext [iblk, h, row]

theorem sums (t : Fin cfg0.N) (i : Fin 16) (j : Fin 1024) : Finset.sum (M := EReal) Finset.univ (fun s : Fin 8 => (iblk m c 0 t : Vec Ideal S8x16x1024 .f32) (ix3 s i j)) = grads (b0 m c) (ix2 (row t i) j) :=
  Finset.sum_congr (M := EReal) rfl fun s _ => e0 m c t s i j

/-- The four arrays. -/
theorem arr4 : ((dats m 0 c).arrAt 4 cfg0.N : FVec Ideal S144x1024 .f32) = grads (R := 144) (L := 1024) (b0 m c) := by
  refine (dats m 0 c).arrAt_eq_of_covers 4 _ (by decide +kernel) fun t _ y => ?_
  obtain ⟨-, -, -, -, h, -⟩ := idx t
  show (dats m 0 c).after 4 t y = _
  rw [after0_4]
  obtain ⟨i, j, rfl⟩ := Cert.Prod.two y
  refine (out4 _ _ _ _ i j).trans ((sums m c t i j).trans (congrArg _ (?_ : _ = _)))
  refine (Cert.Fox.eq2 (Fin.ext ?_) (Fin.ext ?_)).symm
  · simp [h, row]
    try exact mul_comm _ _
  · simp [h]

theorem arr5 : ((dats m 0 c).arrAt 5 cfg0.N : FVec Ideal S144x1024 .f32) = steps (R := 144) (L := 1024) (b0 m c) (b1 m c) (b2 m c) (b3 m c) := by
  refine (dats m 0 c).arrAt_eq_of_covers 5 _ (by decide +kernel) fun t _ y => ?_
  obtain ⟨-, -, -, -, -, h, -⟩ := idx t
  show (dats m 0 c).after 5 t y = _
  rw [after0_5]
  obtain ⟨i, j, rfl⟩ := Cert.Prod.two y
  refine (out5 _ _ _ _ i j).trans ?_
  rw [sums, e1, e2, e3]
  refine congrArg (steps (R := 144) (L := 1024) (b0 m c) (b1 m c) (b2 m c) (b3 m c)) (?_ : _ = _)
  refine (Cert.Fox.eq2 (Fin.ext ?_) (Fin.ext ?_)).symm
  · simp [h, row]
    try exact mul_comm _ _
  · simp [h]

theorem arr6 : ((dats m 0 c).arrAt 6 cfg0.N : FVec Ideal S144x1024 .f32) = moms (R := 144) (L := 1024) (b0 m c) (b2 m c) := by
  refine (dats m 0 c).arrAt_eq_of_covers 6 _ (by decide +kernel) fun t _ y => ?_
  obtain ⟨-, -, -, -, -, -, h, -⟩ := idx t
  show (dats m 0 c).after 6 t y = _
  rw [after0_6]
  obtain ⟨i, j, rfl⟩ := Cert.Prod.two y
  refine (out6 _ _ _ _ i j).trans ?_
  rw [sums, e2]
  refine congrArg (moms (R := 144) (L := 1024) (b0 m c) (b2 m c)) (?_ : _ = _)
  refine (Cert.Fox.eq2 (Fin.ext ?_) (Fin.ext ?_)).symm
  · simp [h, row]
    try exact mul_comm _ _
  · simp [h]

theorem arr7 : ((dats m 0 c).arrAt 7 cfg0.N : FVec Ideal S144x1024 .f32) = vels (R := 144) (L := 1024) (b0 m c) (b3 m c) := by
  refine (dats m 0 c).arrAt_eq_of_covers 7 _ (by decide +kernel) fun t _ y => ?_
  obtain ⟨-, -, -, -, -, -, -, h⟩ := idx t
  show (dats m 0 c).after 7 t y = _
  rw [after0_7]
  obtain ⟨i, j, rfl⟩ := Cert.Prod.two y
  refine (out7 _ _ _ _ i j).trans ?_
  rw [sums, e3]
  refine congrArg (vels (R := 144) (L := 1024) (b0 m c) (b3 m c)) (?_ : _ = _)
  refine (Cert.Fox.eq2 (Fin.ext ?_) (Fin.ext ?_)).symm
  · simp [h, row]
    try exact mul_comm _ _
  · simp [h]

end Cert.Kernel36Ideal.Adam

namespace Cert.Adam

open Idealize.ShloMosaic Idealize.ShloMosaic.TcCoe Idealize.ShloMosaic.Tactic Idealize.SL.Sem

namespace Ref36
open Cert.Reference36Ideal Cert.Reference36Ideal.Gen Cert.Reference36Ideal.Read

variable (r : FVec Ideal S8x144x1024 .f32) (w m v : FVec Ideal S144x1024 .f32)

theorem g : val_main_v0 (F := Ideal) r = grads (R := 144) (L := 1024) r := by
  funext y
  obtain ⟨i, j, rfl⟩ := Cert.Prod.two y
  pointwise [val_main_v0, val_main_cst]
  rfl

theorem mo : val_main_v5 (F := Ideal) r m = moms (R := 144) (L := 1024) r m := by
  funext y
  obtain ⟨i, j, rfl⟩ := Cert.Prod.two y
  pointwise [val_main_v5, val_main_v4, val_main_v3, val_main_v2, val_main_v1, g, val_main_cst_0, val_main_cst_1]
  rfl

theorem ve : val_main_v11 (F := Ideal) r v = vels (R := 144) (L := 1024) r v := by
  funext y
  obtain ⟨i, j, rfl⟩ := Cert.Prod.two y
  pointwise [val_main_v11, val_main_v10, val_main_v9, val_main_v8, val_main_v7, val_main_v6, g, val_main_cst_2, val_main_cst_3]
  rfl

theorem st : val_main_v24 (F := Ideal) r w m v = steps (R := 144) (L := 1024) r w m v := by
  funext y
  obtain ⟨i, j, rfl⟩ := Cert.Prod.two y
  pointwise [val_main_v24, val_main_v23, val_main_v22, val_main_v21, val_main_v20, val_main_v19, val_main_v18, val_main_v17, val_main_v16, val_main_v15,
    val_main_v14, val_main_v13, val_main_v12, mo, ve, val_main_cst_4, val_main_cst_5, val_main_cst_6, val_main_cst_7, val_main_cst_8]
  rfl

end Ref36

theorem agree36 : Cert.algebraic_Kernel36Ideal_Reference36Ideal (hKernel36Ideal := Cert.Kernel36Ideal.Gen.facts)
    (hReference36Ideal := Cert.Reference36Ideal.Gen.facts) := by
  intro m g m' g' _ hag
  refine ⟨fun c => grads (R := 144) (L := 1024) (Cert.Kernel36Ideal.Adam.b0 m c),
    fun c => steps (R := 144) (L := 1024) (Cert.Kernel36Ideal.Adam.b0 m c) (Cert.Kernel36Ideal.Adam.b1 m c) (Cert.Kernel36Ideal.Adam.b2 m c) (Cert.Kernel36Ideal.Adam.b3 m c),
    fun c => moms (R := 144) (L := 1024) (Cert.Kernel36Ideal.Adam.b0 m c) (Cert.Kernel36Ideal.Adam.b2 m c),
    fun c => vels (R := 144) (L := 1024) (Cert.Kernel36Ideal.Adam.b0 m c) (Cert.Kernel36Ideal.Adam.b3 m c), ?_, ?_⟩
  · refine (θ_run Cert.Kernel36Ideal.defs _ _).mono (fun r h c => ?_) (Cert.Kernel36Ideal.Value.run_blocks m g)
    obtain ⟨h4, h5, h6, h7, hargs⟩ := h c
    exact ⟨h4.trans (Cert.Kernel36Ideal.Adam.arr4 m c), h5.trans (Cert.Kernel36Ideal.Adam.arr5 m c), h6.trans (Cert.Kernel36Ideal.Adam.arr6 m c),
      h7.trans (Cert.Kernel36Ideal.Adam.arr7 m c), hargs⟩
  · refine (θ_run Cert.Reference36Ideal.defs _ _).mono (fun r h c => ?_) (Cert.Reference36Ideal.Value.run (F := Ideal) m' g')
    obtain ⟨a0, a1, a2, a3⟩ := hag c
    obtain ⟨r0, r1, r2, r3, hargs⟩ := h c
    rw [Cert.Reference36Ideal.Read.val_main_v0_eq, Ref36.g, a0] at r0
    rw [Cert.Reference36Ideal.Read.val_main_v24_eq, Ref36.st, a0, a1, a2, a3] at r1
    rw [Cert.Reference36Ideal.Read.val_main_v5_eq, Ref36.mo, a0, a2] at r2
    rw [Cert.Reference36Ideal.Read.val_main_v11_eq, Ref36.ve, a0, a3] at r3
    exact ⟨r0, r1, r2, r3, hargs⟩

end Cert.Adam

end
-- ==== Proof.AdamSmall.lean ====
/- The update of the second pack of small parameters, by the same steps as in `Adam`. -/
module

public import proofs.«01_k».proof.Proof.Adam
public import proofs.«01_k».proof.Proof.Gen.Kernel37Ideal.Value
public import proofs.«01_k».proof.Proof.Gen.Reference37Ideal.Read

@[expose] public section

set_option maxRecDepth 16384

noncomputable section

namespace Cert.Kernel37Ideal.Adam

open Idealize.ShloMosaic Idealize.ShloMosaic.TcCoe Idealize.ShloMosaic.Tactic Cert.Kernel37Ideal Cert.Kernel37Ideal.Gen Cert.Adam

variable (x0 : Vec Ideal S8x32x1024 .f32) (x1 x2 x3 : Vec Ideal S32x1024 .f32)

/-- What the body stores. -/
theorem payG (i : Fin 32) (j : Fin 1024) : k0_pay5 x0 x1 x2 x3 (ix2 i j) = ∑ s : Fin 8, x0 (ix3 s i j) := by
  rw [Fin.sum_univ_eight]
  pointwise [k0_pay5, k0_pay3]

theorem out4 (i : Fin 32) (j : Fin 1024) : out0_4 x0 x1 x2 x3 (ix2 i j) = ∑ s : Fin 8, x0 (ix3 s i j) := by
  unfold out0_4
  rw [View.canon_unit_zero Cert.Kernel3Ideal.Ffn.hz]
  exact payG x0 x1 x2 x3 i j

theorem out6 (i : Fin 32) (j : Fin 1024) : out0_6 x0 x1 x2 x3 (ix2 i j) = mom (x2 (ix2 i j)) (∑ s : Fin 8, x0 (ix3 s i j)) := by
  unfold out0_6
  rw [View.canon_unit_zero Cert.Kernel3Ideal.Ffn.hz]
  rw [← payG x0 x1 x2 x3]
  pointwise [k0_pay6, k0_pay4]
  rfl

theorem out7 (i : Fin 32) (j : Fin 1024) : out0_7 x0 x1 x2 x3 (ix2 i j) = vel (x3 (ix2 i j)) (∑ s : Fin 8, x0 (ix3 s i j)) := by
  unfold out0_7
  rw [View.canon_unit_zero Cert.Kernel3Ideal.Ffn.hz]
  rw [← payG x0 x1 x2 x3]
  pointwise [k0_pay1]
  rfl

theorem out5 (i : Fin 32) (j : Fin 1024) : out0_5 x0 x1 x2 x3 (ix2 i j) = stp (x1 (ix2 i j)) (x2 (ix2 i j)) (x3 (ix2 i j)) (∑ s : Fin 8, x0 (ix3 s i j)) := by
  unfold out0_5
  rw [View.canon_unit_zero Cert.Kernel3Ideal.Ffn.hz]
  rw [← payG x0 x1 x2 x3]
  pointwise [k0_pay2, k0_pay1, k0_pay6, k0_pay4]
  rfl

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

variable (m : (ℓ : Loc nD τ sig) → Buf (Elt Ideal) ℓ) (c : Dev nD)

/-- The gradient's parts, the parameters and the two running means. -/
abbrev b0 : FVec Ideal S8x96x1024 .f32 := m ((c.tc : Thread nD τ).loc main_arg0)
abbrev b1 : FVec Ideal S96x1024 .f32 := m ((c.tc : Thread nD τ).loc main_arg1)
abbrev b2 : FVec Ideal S96x1024 .f32 := m ((c.tc : Thread nD τ).loc main_arg2)
abbrev b3 : FVec Ideal S96x1024 .f32 := m ((c.tc : Thread nD τ).loc main_arg3)

/-- A block's row among all rows. -/
def row (t : Fin cfg0.N) (i : Fin 32) : Fin 96 := ⟨t.val * 32 + i.val, by have := t.isLt; have hN : cfg0.N = 3 := N_0; omega⟩

theorem e0 (t : Fin cfg0.N) (s : Fin 8) (i : Fin 32) (j : Fin 1024) : (iblk m c 0 t : Vec Ideal S8x32x1024 .f32) (ix3 s i j) = b0 m c (ix3 s (row t i) j) := by
  obtain ⟨h, -⟩ := idx t
  blk_ext [iblk, h, row]
theorem e1 (t : Fin cfg0.N) (i : Fin 32) (j : Fin 1024) : (iblk m c 1 t : Vec Ideal S32x1024 .f32) (ix2 i j) = b1 m c (ix2 (row t i) j) := by
  obtain ⟨-, h, -⟩ := idx t
  blk_ext [iblk, h, row]
theorem e2 (t : Fin cfg0.N) (i : Fin 32) (j : Fin 1024) : (iblk m c 2 t : Vec Ideal S32x1024 .f32) (ix2 i j) = b2 m c (ix2 (row t i) j) := by
  obtain ⟨-, -, h, -⟩ := idx t
  blk_ext [iblk, h, row]
theorem e3 (t : Fin cfg0.N) (i : Fin 32) (j : Fin 1024) : (iblk m c 3 t : Vec Ideal S32x1024 .f32) (ix2 i j) = b3 m c (ix2 (row t i) j) := by
  obtain ⟨-, -, -, h, -⟩ := idx t
  blk_ext [iblk, h, row]

theorem sums (t : Fin cfg0.N) (i : Fin 32) (j : Fin 1024) : Finset.sum (M := EReal) Finset.univ (fun s : Fin 8 => (iblk m c 0 t : Vec Ideal S8x32x1024 .f32) (ix3 s i j)) = grads (b0 m c) (ix2 (row t i) j) :=
  Finset.sum_congr (M := EReal) rfl fun s _ => e0 m c t s i j

/-- The four arrays. -/
theorem arr4 : ((dats m 0 c).arrAt 4 cfg0.N : FVec Ideal S96x1024 .f32) = grads (R := 96) (L := 1024) (b0 m c) := by
  refine (dats m 0 c).arrAt_eq_of_covers 4 _ (by decide +kernel) fun t _ y => ?_
  obtain ⟨-, -, -, -, h, -⟩ := idx t
  show (dats m 0 c).after 4 t y = _
  rw [after0_4]
  obtain ⟨i, j, rfl⟩ := Cert.Prod.two y
  refine (out4 _ _ _ _ i j).trans ((sums m c t i j).trans (congrArg _ (?_ : _ = _)))
  refine (Cert.Fox.eq2 (Fin.ext ?_) (Fin.ext ?_)).symm
  · simp [h, row]
    try exact mul_comm _ _
  · simp [h]

theorem arr5 : ((dats m 0 c).arrAt 5 cfg0.N : FVec Ideal S96x1024 .f32) = steps (R := 96) (L := 1024) (b0 m c) (b1 m c) (b2 m c) (b3 m c) := by
  refine (dats m 0 c).arrAt_eq_of_covers 5 _ (by decide +kernel) fun t _ y => ?_
  obtain ⟨-, -, -, -, -, h, -⟩ := idx t
  show (dats m 0 c).after 5 t y = _
  rw [after0_5]
  obtain ⟨i, j, rfl⟩ := Cert.Prod.two y
  refine (out5 _ _ _ _ i j).trans ?_
  rw [sums, e1, e2, e3]
  refine congrArg (steps (R := 96) (L := 1024) (b0 m c) (b1 m c) (b2 m c) (b3 m c)) (?_ : _ = _)
  refine (Cert.Fox.eq2 (Fin.ext ?_) (Fin.ext ?_)).symm
  · simp [h, row]
    try exact mul_comm _ _
  · simp [h]

theorem arr6 : ((dats m 0 c).arrAt 6 cfg0.N : FVec Ideal S96x1024 .f32) = moms (R := 96) (L := 1024) (b0 m c) (b2 m c) := by
  refine (dats m 0 c).arrAt_eq_of_covers 6 _ (by decide +kernel) fun t _ y => ?_
  obtain ⟨-, -, -, -, -, -, h, -⟩ := idx t
  show (dats m 0 c).after 6 t y = _
  rw [after0_6]
  obtain ⟨i, j, rfl⟩ := Cert.Prod.two y
  refine (out6 _ _ _ _ i j).trans ?_
  rw [sums, e2]
  refine congrArg (moms (R := 96) (L := 1024) (b0 m c) (b2 m c)) (?_ : _ = _)
  refine (Cert.Fox.eq2 (Fin.ext ?_) (Fin.ext ?_)).symm
  · simp [h, row]
    try exact mul_comm _ _
  · simp [h]

theorem arr7 : ((dats m 0 c).arrAt 7 cfg0.N : FVec Ideal S96x1024 .f32) = vels (R := 96) (L := 1024) (b0 m c) (b3 m c) := by
  refine (dats m 0 c).arrAt_eq_of_covers 7 _ (by decide +kernel) fun t _ y => ?_
  obtain ⟨-, -, -, -, -, -, -, h⟩ := idx t
  show (dats m 0 c).after 7 t y = _
  rw [after0_7]
  obtain ⟨i, j, rfl⟩ := Cert.Prod.two y
  refine (out7 _ _ _ _ i j).trans ?_
  rw [sums, e3]
  refine congrArg (vels (R := 96) (L := 1024) (b0 m c) (b3 m c)) (?_ : _ = _)
  refine (Cert.Fox.eq2 (Fin.ext ?_) (Fin.ext ?_)).symm
  · simp [h, row]
    try exact mul_comm _ _
  · simp [h]

end Cert.Kernel37Ideal.Adam

namespace Cert.Adam

open Idealize.ShloMosaic Idealize.ShloMosaic.TcCoe Idealize.ShloMosaic.Tactic Idealize.SL.Sem

namespace Ref37
open Cert.Reference37Ideal Cert.Reference37Ideal.Gen Cert.Reference37Ideal.Read

variable (r : FVec Ideal S8x96x1024 .f32) (w m v : FVec Ideal S96x1024 .f32)

theorem g : val_main_v0 (F := Ideal) r = grads (R := 96) (L := 1024) r := by
  funext y
  obtain ⟨i, j, rfl⟩ := Cert.Prod.two y
  pointwise [val_main_v0, val_main_cst]
  rfl

theorem mo : val_main_v5 (F := Ideal) r m = moms (R := 96) (L := 1024) r m := by
  funext y
  obtain ⟨i, j, rfl⟩ := Cert.Prod.two y
  pointwise [val_main_v5, val_main_v4, val_main_v3, val_main_v2, val_main_v1, g, val_main_cst_0, val_main_cst_1]
  rfl

theorem ve : val_main_v11 (F := Ideal) r v = vels (R := 96) (L := 1024) r v := by
  funext y
  obtain ⟨i, j, rfl⟩ := Cert.Prod.two y
  pointwise [val_main_v11, val_main_v10, val_main_v9, val_main_v8, val_main_v7, val_main_v6, g, val_main_cst_2, val_main_cst_3]
  rfl

theorem st : val_main_v24 (F := Ideal) r w m v = steps (R := 96) (L := 1024) r w m v := by
  funext y
  obtain ⟨i, j, rfl⟩ := Cert.Prod.two y
  pointwise [val_main_v24, val_main_v23, val_main_v22, val_main_v21, val_main_v20, val_main_v19, val_main_v18, val_main_v17, val_main_v16, val_main_v15,
    val_main_v14, val_main_v13, val_main_v12, mo, ve, val_main_cst_4, val_main_cst_5, val_main_cst_6, val_main_cst_7, val_main_cst_8]
  rfl

end Ref37

theorem agree37 : Cert.algebraic_Kernel37Ideal_Reference37Ideal (hKernel37Ideal := Cert.Kernel37Ideal.Gen.facts)
    (hReference37Ideal := Cert.Reference37Ideal.Gen.facts) := by
  intro m g m' g' _ hag
  refine ⟨fun c => grads (R := 96) (L := 1024) (Cert.Kernel37Ideal.Adam.b0 m c),
    fun c => steps (R := 96) (L := 1024) (Cert.Kernel37Ideal.Adam.b0 m c) (Cert.Kernel37Ideal.Adam.b1 m c) (Cert.Kernel37Ideal.Adam.b2 m c) (Cert.Kernel37Ideal.Adam.b3 m c),
    fun c => moms (R := 96) (L := 1024) (Cert.Kernel37Ideal.Adam.b0 m c) (Cert.Kernel37Ideal.Adam.b2 m c),
    fun c => vels (R := 96) (L := 1024) (Cert.Kernel37Ideal.Adam.b0 m c) (Cert.Kernel37Ideal.Adam.b3 m c), ?_, ?_⟩
  · refine (θ_run Cert.Kernel37Ideal.defs _ _).mono (fun r h c => ?_) (Cert.Kernel37Ideal.Value.run_blocks m g)
    obtain ⟨h4, h5, h6, h7, hargs⟩ := h c
    exact ⟨h4.trans (Cert.Kernel37Ideal.Adam.arr4 m c), h5.trans (Cert.Kernel37Ideal.Adam.arr5 m c), h6.trans (Cert.Kernel37Ideal.Adam.arr6 m c),
      h7.trans (Cert.Kernel37Ideal.Adam.arr7 m c), hargs⟩
  · refine (θ_run Cert.Reference37Ideal.defs _ _).mono (fun r h c => ?_) (Cert.Reference37Ideal.Value.run (F := Ideal) m' g')
    obtain ⟨a0, a1, a2, a3⟩ := hag c
    obtain ⟨r0, r1, r2, r3, hargs⟩ := h c
    rw [Cert.Reference37Ideal.Read.val_main_v0_eq, Ref37.g, a0] at r0
    rw [Cert.Reference37Ideal.Read.val_main_v24_eq, Ref37.st, a0, a1, a2, a3] at r1
    rw [Cert.Reference37Ideal.Read.val_main_v5_eq, Ref37.mo, a0, a2] at r2
    rw [Cert.Reference37Ideal.Read.val_main_v11_eq, Ref37.ve, a0, a3] at r3
    exact ⟨r0, r1, r2, r3, hargs⟩

end Cert.Adam

end
-- ==== Proof.AdamLayer.lean ====
/- The update of one layer of a stacked weight: the layer is written, the other layers are kept. -/
module

public import proofs.«01_k».proof.Proof.Adam

@[expose] public section

set_option maxRecDepth 16384

noncomputable section

namespace Cert.AdamLayer

open Idealize.ShloMosaic Cert.Adam

variable {n R L : ℕ}

theorem hz3 : (![0, 0, 0] : Fin 3 → Nat) = fun _ => 0 := funext fun a => by fin_cases a <;> rfl

theorem three {a b c : ℕ} (y : (⟨3, ![a, b, c]⟩ : Shape).Idx) : ∃ (i : Fin a) (j : Fin b) (k : Fin c), y = ix3 i j k :=
  ⟨y 0, y 1, y 2, funext fun x => by match x with | 0 => rfl | 1 => rfl | 2 => rfl⟩

theorem one3 {b c : ℕ} (y : (⟨3, ![1, b, c]⟩ : Shape).Idx) : ∃ (j : Fin b) (k : Fin c), y = ix3 0 j k := by
  obtain ⟨i, j, k, rfl⟩ := three y
  exact ⟨j, k, congrArg (fun i : Fin 1 => ix3 i j k) (Subsingleton.elim i 0)⟩

/-- A stack whose first layer is new. -/
def upd (e p : FVec Ideal ⟨3, ![n, R, L]⟩ .f32) : FVec Ideal ⟨3, ![n, R, L]⟩ .f32 := fun y => if (y 0).val = 0 then e y else p y

theorem upd_new (e p : FVec Ideal ⟨3, ![n, R, L]⟩ .f32) (y : (⟨3, ![n, R, L]⟩ : Shape).Idx) (h : (y 0).val = 0) : upd e p y = e y := if_pos h
theorem upd_old (e p : FVec Ideal ⟨3, ![n, R, L]⟩ .f32) (y : (⟨3, ![n, R, L]⟩ : Shape).Idx) (h : (y 0).val ≠ 0) : upd e p y = p y := if_neg h

/-- A new first layer before the other layers of a stack. -/
theorem stack {k : ℕ} (p x : FVec Ideal ⟨3, ![k + 1, R, L]⟩ .f32) (u : FVec Ideal ⟨3, ![1, R, L]⟩ .f32) (hs) (hc) (hx : ∀ i j, u (ix3 0 i j) = x (ix3 0 i j)) :
    concatenate ⟨3, ![k + 1, R, L]⟩ 0 [⟨⟨3, ![1, R, L]⟩, u⟩, ⟨⟨3, ![k, R, L]⟩, extractStridedSlice ⟨3, ![k, R, L]⟩ ![1, 0, 0] p hs⟩] hc = upd x p := by
  funext y
  obtain ⟨o, i, j, rfl⟩ := three y
  by_cases ho : o.val = 0
  · obtain rfl : o = 0 := Fin.ext ho
    refine Eq.trans ?_ (upd_new x p (ix3 0 i j) rfl).symm
    refine Eq.trans ?_ (hx i j)
    exact concatenate_pair_apply_left (t := ⟨3, ![k + 1, R, L]⟩) (s₁ := ⟨3, ![1, R, L]⟩) (s₂ := ⟨3, ![k, R, L]⟩) 0 _ _ _ _ rfl (ix3 (0 : Fin 1) i j) fun b => by match b with | 0 => rfl | 1 => rfl | 2 => rfl
  · refine Eq.trans ?_ (upd_old x p (ix3 o i j) ho).symm
    have hlt := o.isLt
    refine (concatenate_pair_apply_right (t := ⟨3, ![k + 1, R, L]⟩) (s₁ := ⟨3, ![1, R, L]⟩) (s₂ := ⟨3, ![k, R, L]⟩) 0 _ _ _ _ rfl rfl (ix3 (⟨o.val - 1, by omega⟩ : Fin k) i j)
      (fun b hb => by match b with | 0 => exact absurd rfl hb | 1 => rfl | 2 => rfl) (by show o.val - 1 + 1 = o.val; omega)).trans ?_
    exact extractStridedSlice_apply _ _ _ _ (ix3 o i j) fun b => by
      match b with
      | 0 => show o.val = 1 + (o.val - 1); omega
      | 1 => exact (Nat.zero_add _).symm
      | 2 => exact (Nat.zero_add _).symm

/-- One device's part, loaded. -/
abbrev ldPart (x : Vec Ideal ⟨3, ![8, R, L]⟩ .bf16) (s : ℕ) (inb) := View.ld x (Rect.unit (s := ⟨3, ![8, R, L]⟩) ![s, 0, 0] ![1, R, L] inb)

theorem part (x : Vec Ideal ⟨3, ![8, R, L]⟩ .bf16) (s : ℕ) (hs : s < 8) (inb) (i : Fin R) (j : Fin L) :
    ldPart x s inb (ix3 (0 : Fin 1) i j) = x (ix3 (⟨s, hs⟩ : Fin 8) i j) :=
  View.ld_unit_apply_of _ _ _ _ _ _ fun a => by
    match a with
    | 0 => rfl
    | 1 => exact (Nat.zero_add _).symm
    | 2 => exact (Nat.zero_add _).symm

/-- A whole block, loaded. -/
theorem whole (x : Vec Ideal ⟨3, ![1, R, L]⟩ .f32) (inb) : View.ld x (Rect.unit (s := ⟨3, ![1, R, L]⟩) ![0, 0, 0] ![1, R, L] inb) = x := by
  funext y
  exact View.ld_unit_apply_of _ _ _ _ _ y fun a => by
    match a with
    | 0 => exact (Nat.zero_add _).symm
    | 1 => exact (Nat.zero_add _).symm
    | 2 => exact (Nat.zero_add _).symm

/-- The parts of a block, summed. -/
def tot (x : FVec Ideal ⟨3, ![8, R, L]⟩ .bf16) : FVec Ideal ⟨2, ![R, L]⟩ .f32 := fun y => Finset.sum (M := EReal) Finset.univ fun s : Fin 8 => x (ix3 s (y 0) (y 1))

/-- The sum over the devices' parts, the running means and the step, at each layer. -/
def grads (r : FVec Ideal ⟨3, ![8, R, L]⟩ .bf16) : FVec Ideal ⟨3, ![n, R, L]⟩ .f32 :=
  fun y => Finset.sum (M := EReal) Finset.univ fun s : Fin 8 => r (ix3 s (y 1) (y 2))
def moms (r : FVec Ideal ⟨3, ![8, R, L]⟩ .bf16) (m : FVec Ideal ⟨3, ![n, R, L]⟩ .f32) : FVec Ideal ⟨3, ![n, R, L]⟩ .f32 :=
  fun y => mom (m y) (grads (n := n) r y)
def vels (r : FVec Ideal ⟨3, ![8, R, L]⟩ .bf16) (v : FVec Ideal ⟨3, ![n, R, L]⟩ .f32) : FVec Ideal ⟨3, ![n, R, L]⟩ .f32 :=
  fun y => vel (v y) (grads (n := n) r y)
def steps (r : FVec Ideal ⟨3, ![8, R, L]⟩ .bf16) (w m v : FVec Ideal ⟨3, ![n, R, L]⟩ .f32) : FVec Ideal ⟨3, ![n, R, L]⟩ .f32 :=
  fun y => stp (w y) (m y) (v y) (grads (n := n) r y)

/-- A constant at every place, and the update of a layer as the reference writes it. -/
def bc (hb : (⟨0, ![]⟩ : Shape).BroadcastsInDim ⟨2, ![R, L]⟩ (![] : Fin 0 → Fin 2)) (x : BitVec 32) : FVec Ideal ⟨2, ![R, L]⟩ .f32 :=
  broadcastInDim ⟨2, ![R, L]⟩ ![] hb (constant ⟨0, ![]⟩ .f32 x)

theorem bc_apply (hb) (x : BitVec 32) (y) : bc (R := R) (L := L) hb x y = Ideal.ofBits .f32 x :=
  broadcastInDim_apply _ hb (constant (F := Ideal) ⟨0, ![]⟩ .f32 x) y (fun a => a.elim0) fun a => a.elim0

variable (hb : (⟨0, ![]⟩ : Shape).BroadcastsInDim ⟨2, ![R, L]⟩ (![] : Fin 0 → Fin 2)) (G W M V : FVec Ideal ⟨2, ![R, L]⟩ .f32)

def rmom : FVec Ideal ⟨2, ![R, L]⟩ .f32 := addf (mulf (bc hb 0x3F666666#32) M) (mulf (bc hb 0x3DCCCCCD#32) G)
def rvel : FVec Ideal ⟨2, ![R, L]⟩ .f32 := addf (mulf (bc hb 0x3F7FBE77#32) V) (mulf (bc hb 0x3A83126F#32) (mulf G G))
def rstp : FVec Ideal ⟨2, ![R, L]⟩ .f32 :=
  mulf (bc hb 0xBA83126F#32) (addf (Host.divf (Host.divf (rmom hb G M) (bc hb 0x3F26BD02#32))
    (addf (Host.sqrt (Host.divf (rvel hb G V) (bc hb 0x3C231ACC#32))) (bc hb 0x322BCC77#32))) (mulf (bc hb 0x3C23D70A#32) W))

theorem rmom_apply (y) : rmom hb G M y = mom (M y) (G y) := by
  show bc hb _ y * M y + bc hb _ y * G y = _
  rw [bc_apply, bc_apply]
  rfl

theorem rvel_apply (y) : rvel hb G V y = vel (V y) (G y) := by
  show bc hb _ y * V y + bc hb _ y * (G y * G y) = _
  rw [bc_apply, bc_apply]
  rfl

theorem rstp_apply (y) : rstp hb G W M V y = stp (W y) (M y) (V y) (G y) := by
  show bc hb _ y * (Ideal.div (Ideal.div (rmom hb G M y) (bc hb _ y)) (Ideal.sqrt (Ideal.div (rvel hb G V y) (bc hb _ y)) + bc hb _ y) + bc hb _ y * W y) = _
  rw [bc_apply, bc_apply, bc_apply, bc_apply, bc_apply, rmom_apply, rvel_apply]
  rfl

/-- The first layer of a stack. -/
theorem first (x : FVec Ideal ⟨3, ![n + 1, R, L]⟩ .f32) (hs) (hc) (i : Fin R) (j : Fin L) :
    shapeCast ⟨2, ![R, L]⟩ (extractStridedSlice ⟨3, ![1, R, L]⟩ ![0, 0, 0] x hs) hc (ix2 i j) = x (ix3 0 i j) := by
  refine (shapeCast_apply _ hc (ix2 i j) (ix3 (0 : Fin 1) i j) ?_).trans ?_
  · rw [Shape.rowMajor_val_three, Shape.rowMajor_val_two]
    show (0 * R + i.val) * L + j.val = i.val * L + j.val
    rw [Nat.zero_mul, Nat.zero_add]
  · exact extractStridedSlice_apply _ _ _ _ (ix3 (0 : Fin (n + 1)) i j) fun b => by
      match b with
      | 0 => rfl
      | 1 => exact (Nat.zero_add _).symm
      | 2 => exact (Nat.zero_add _).symm

end Cert.AdamLayer

end
-- ==== Proof.AdamKvf.lean ====
/- The update of the first layer of `w_kvf`. -/
module

public import proofs.«01_k».proof.Proof.AdamLayer
public import proofs.«01_k».proof.Proof.Gen.Kernel38Ideal.Value
public import proofs.«01_k».proof.Proof.Gen.Reference38Ideal.Read

@[expose] public section

set_option maxRecDepth 16384

noncomputable section

namespace Cert.Kernel38Ideal.Adam

open Idealize.ShloMosaic Idealize.ShloMosaic.TcCoe Idealize.ShloMosaic.Tactic Cert.Kernel38Ideal Cert.Kernel38Ideal.Gen Cert.Adam Cert.AdamLayer

variable (x0 : Vec Ideal S8x128x1548 .bf16) (x1 x2 x3 : Vec Ideal S1x128x1548 .f32)

theorem sum8 (u0 u1 u2 u3 u4 u5 u6 u7 : Vec Ideal S1x128x1548 .bf16) (i : Fin 128) (j : Fin 1548) :
    k0_pay3 u0 u1 u2 u3 u4 u5 u6 u7 (ix2 i j) = u0 (ix3 0 i j) + u1 (ix3 0 i j) + u2 (ix3 0 i j) + u3 (ix3 0 i j) + u4 (ix3 0 i j) + u5 (ix3 0 i j) + u6 (ix3 0 i j) + u7 (ix3 0 i j) := by
  pointwise [k0_pay3]

/-- The parts, loaded and summed. -/
theorem pay3 (p0 p1 p2 p3 p4 p5 p6 p7) : k0_pay3 (F := Ideal) (ldPart x0 0 p0) (ldPart x0 1 p1) (ldPart x0 2 p2) (ldPart x0 3 p3) (ldPart x0 4 p4) (ldPart x0 5 p5) (ldPart x0 6 p6) (ldPart x0 7 p7) = tot x0 := by
  funext y
  obtain ⟨i, j, rfl⟩ := Cert.Prod.two y
  rw [sum8, part x0 0 (by decide), part x0 1 (by decide), part x0 2 (by decide), part x0 3 (by decide), part x0 4 (by decide), part x0 5 (by decide), part x0 6 (by decide), part x0 7 (by decide)]
  exact (Fin.sum_univ_eight (M := EReal) fun s : Fin 8 => x0 (ix3 s i j)).symm

section
variable (c : Dev nD) (i : grid0.Coords) (a1 : Memref sig .tc .vmem S8x128x1548 .bf16) (h1 : a1.IsWhole) (a2 : Memref sig .tc .vmem S1x128x1548 .f32) (h2 : a2.IsWhole) (a3 : Memref sig .tc .vmem S1x128x1548 .f32) (h3 : a3.IsWhole) (a4 : Memref sig .tc .vmem S1x128x1548 .f32) (h4 : a4.IsWhole) (a9 : Memref sig .tc .vmem S1x128x1548 .f32) (h9 : a9.IsWhole) (a10 : Memref sig .tc .vmem S1x128x1548 .f32) (h10 : a10.IsWhole) (a11 : Memref sig .tc .vmem S1x128x1548 .f32) (h11 : a11.IsWhole) (a12 : Memref sig .tc .vmem S1x128x1548 .f32) (h12 : a12.IsWhole)

/-- What the body stores. -/
theorem out4 :
    out0_A_4 c i a1 h1 a2 h2 a3 h3 a4 h4 a9 h9 a10 h10 a11 h11 a12 h12 x0 x1 x2 x3 = k0_pay6 (tot x0) := by
  unfold out0_A_4
  rw [View.read_writes_junk_eq_canon VO0_4]
  unfold kernelRun0_A; dsimp only; sl_unfold_words
  simp only [View.readAt_eq_ld, h1.read_unread, h2.read_unread, h3.read_unread, h4.read_unread]
  rw [View.canon_unit_zero hz3, pay3]
theorem out5 :
    out0_A_5 c i a1 h1 a2 h2 a3 h3 a4 h4 a9 h9 a10 h10 a11 h11 a12 h12 x0 x1 x2 x3 = k0_pay7 (tot x0) x2 x3 x1 := by
  unfold out0_A_5
  rw [View.read_writes_junk_eq_canon VO0_5]
  unfold kernelRun0_A; dsimp only; sl_unfold_words
  simp only [View.readAt_eq_ld, h1.read_unread, h2.read_unread, h3.read_unread, h4.read_unread]
  rw [View.canon_unit_zero hz3, pay3, whole, whole, whole]
theorem out6 :
    out0_A_6 c i a1 h1 a2 h2 a3 h3 a4 h4 a9 h9 a10 h10 a11 h11 a12 h12 x0 x1 x2 x3 = k0_pay1 (k0_pay4 (tot x0) x2) := by
  unfold out0_A_6
  rw [View.read_writes_junk_eq_canon VO0_6]
  unfold kernelRun0_A; dsimp only; sl_unfold_words
  simp only [View.readAt_eq_ld, h1.read_unread, h2.read_unread, h3.read_unread, h4.read_unread]
  rw [View.canon_unit_zero hz3, pay3, whole]
theorem out7 :
    out0_A_7 c i a1 h1 a2 h2 a3 h3 a4 h4 a9 h9 a10 h10 a11 h11 a12 h12 x0 x1 x2 x3 = k0_pay2 (k0_pay5 (tot x0) x3) := by
  unfold out0_A_7
  rw [View.read_writes_junk_eq_canon VO0_7]
  unfold kernelRun0_A; dsimp only; sl_unfold_words
  simp only [View.readAt_eq_ld, h1.read_unread, h2.read_unread, h3.read_unread, h4.read_unread]
  rw [View.canon_unit_zero hz3, pay3, whole]

end

theorem val4 (g : FVec Ideal ⟨2, ![128, 1548]⟩ .f32) (i : Fin 128) (j : Fin 1548) : k0_pay6 g (ix3 0 i j) = g (ix2 i j) := by
  pointwise [k0_pay6]
theorem val5 (g : FVec Ideal ⟨2, ![128, 1548]⟩ .f32) (i : Fin 128) (j : Fin 1548) :
    k0_pay7 g x2 x3 x1 (ix3 0 i j) = stp (x1 (ix3 0 i j)) (x2 (ix3 0 i j)) (x3 (ix3 0 i j)) (g (ix2 i j)) := by
  pointwise [k0_pay7, k0_pay4, k0_pay5]
  rfl
theorem val6 (g : FVec Ideal ⟨2, ![128, 1548]⟩ .f32) (i : Fin 128) (j : Fin 1548) : k0_pay1 (k0_pay4 g x2) (ix3 0 i j) = mom (x2 (ix3 0 i j)) (g (ix2 i j)) := by
  pointwise [k0_pay1, k0_pay4]
  rfl
theorem val7 (g : FVec Ideal ⟨2, ![128, 1548]⟩ .f32) (i : Fin 128) (j : Fin 1548) : k0_pay2 (k0_pay5 g x3) (ix3 0 i j) = vel (x3 (ix3 0 i j)) (g (ix2 i j)) := by
  pointwise [k0_pay2, k0_pay5]
  rfl

theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] := by
  decide +kernel

variable (m : (ℓ : Loc nD τ sig) → Buf (Elt Ideal) ℓ) (c : Dev nD)

/-- The gradient's parts, the parameters, the two running means and the arrays written over. -/
abbrev b0 : FVec Ideal S8x128x1548 .bf16 := m ((c.tc : Thread nD τ).loc main_arg0)
abbrev b1 : FVec Ideal S1x128x1548 .f32 := m ((c.tc : Thread nD τ).loc main_arg1)
abbrev b2 : FVec Ideal S1x128x1548 .f32 := m ((c.tc : Thread nD τ).loc main_arg2)
abbrev b3 : FVec Ideal S1x128x1548 .f32 := m ((c.tc : Thread nD τ).loc main_arg3)
abbrev b4 : FVec Ideal S1x128x1548 .f32 := m ((c.tc : Thread nD τ).loc main_arg4)
abbrev b5 : FVec Ideal S1x128x1548 .f32 := m ((c.tc : Thread nD τ).loc main_arg5)
abbrev b6 : FVec Ideal S1x128x1548 .f32 := m ((c.tc : Thread nD τ).loc main_arg6)
abbrev b7 : FVec Ideal S1x128x1548 .f32 := m ((c.tc : Thread nD τ).loc main_arg7)

/-- What a point leaves. -/
theorem outs (t : Fin cfg0.N) :
    (outsAt0 m c t).1 = k0_pay6 (F := Ideal) (tot (iblk m c 0 t)) ∧ (outsAt0 m c t).2.1 = k0_pay7 (F := Ideal) (tot (iblk m c 0 t)) (iblk m c 2 t) (iblk m c 3 t) (iblk m c 1 t)
    ∧ (outsAt0 m c t).2.2.1 = k0_pay1 (F := Ideal) (k0_pay4 (F := Ideal) (tot (iblk m c 0 t)) (iblk m c 2 t))
    ∧ (outsAt0 m c t).2.2.2 = k0_pay2 (F := Ideal) (k0_pay5 (F := Ideal) (tot (iblk m c 0 t)) (iblk m c 3 t)) := by
  unfold outsAt0
  refine ⟨?_, ?_, ?_, ?_⟩
  · rw [out4]
  · rw [out5]
  · rw [out6]
  · rw [out7]

/-- A block's row among all rows. -/
def row (t : Fin cfg0.N) (i : Fin 128) : Fin 128 := ⟨t.val * 128 + i.val, by have := t.isLt; have hN : cfg0.N = 1 := N_0; omega⟩

theorem e0 (t : Fin cfg0.N) (s : Fin 8) (i : Fin 128) (j : Fin 1548) : (iblk m c 0 t : Vec Ideal S8x128x1548 .bf16) (ix3 s i j) = b0 m c (ix3 s (row t i) j) := by
  obtain ⟨h, -⟩ := idx t
  blk_ext [iblk, h, row]
theorem e1 (t : Fin cfg0.N) (i : Fin 128) (j : Fin 1548) : (iblk m c 1 t : Vec Ideal S1x128x1548 .f32) (ix3 0 i j) = b1 m c (ix3 (0 : Fin 1) (row t i) j) := by
  obtain ⟨-, h, -⟩ := idx t
  blk_ext [iblk, h, row]
theorem e2 (t : Fin cfg0.N) (i : Fin 128) (j : Fin 1548) : (iblk m c 2 t : Vec Ideal S1x128x1548 .f32) (ix3 0 i j) = b2 m c (ix3 (0 : Fin 1) (row t i) j) := by
  obtain ⟨-, -, h, -⟩ := idx t
  blk_ext [iblk, h, row]
theorem e3 (t : Fin cfg0.N) (i : Fin 128) (j : Fin 1548) : (iblk m c 3 t : Vec Ideal S1x128x1548 .f32) (ix3 0 i j) = b3 m c (ix3 (0 : Fin 1) (row t i) j) := by
  obtain ⟨-, -, -, h, -⟩ := idx t
  blk_ext [iblk, h, row]

theorem sums (t : Fin cfg0.N) (i : Fin 128) (j : Fin 1548) : tot (iblk m c 0 t : Vec Ideal S8x128x1548 .bf16) (ix2 i j) = grads (n := 1) (R := 128) (L := 1548) (b0 m c) (ix3 0 (row t i) j) :=
  Finset.sum_congr (M := EReal) rfl fun s _ => e0 m c t s i j

/-- The four arrays. -/
abbrev s4 : FVec Ideal S1x128x1548 .f32 := upd (grads (n := 1) (R := 128) (L := 1548) (b0 m c)) (b4 m c)
abbrev s5 : FVec Ideal S1x128x1548 .f32 := upd (steps (n := 1) (R := 128) (L := 1548) (b0 m c) (b1 m c) (b2 m c) (b3 m c)) (b5 m c)
abbrev s6 : FVec Ideal S1x128x1548 .f32 := upd (moms (n := 1) (R := 128) (L := 1548) (b0 m c) (b2 m c)) (b6 m c)
abbrev s7 : FVec Ideal S1x128x1548 .f32 := upd (vels (n := 1) (R := 128) (L := 1548) (b0 m c) (b3 m c)) (b7 m c)
theorem arr4 : ((dats m 0 c).arrAt 4 cfg0.N : FVec Ideal S1x128x1548 .f32) = s4 m c := by
  refine (dats m 0 c).arrAt_eq_of_coversWhere_of_agree 4 _ (fun β => β (0 : Fin 3) = 0) (by decide +kernel) (fun t hf y => ?_) (fun j hj => ?_)
  · obtain ⟨-, -, -, -, h, -⟩ := idx t
    show (dats m 0 c).after 4 t y = _
    rw [after0_4]
    obtain ⟨i, j, rfl⟩ := one3 y
    rw [(outs m c t).1, val4, sums]
    refine (upd_new _ (b4 m c) (ix3 0 (row t i) j) rfl).symm.trans (congrArg (s4 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b4 m c) j hj').symm
    exact congrFun (show StableHlo.after hostOps0 (fun b => m (c, b)) (Proc.devRef .tc main_v0_0) = m (c, Proc.devRef .tc main_arg4) by after_results; rfl) j

theorem arr5 : ((dats m 0 c).arrAt 5 cfg0.N : FVec Ideal S1x128x1548 .f32) = s5 m c := by
  refine (dats m 0 c).arrAt_eq_of_coversWhere_of_agree 5 _ (fun β => β (0 : Fin 3) = 0) (by decide +kernel) (fun t hf y => ?_) (fun j hj => ?_)
  · obtain ⟨-, -, -, -, -, h, -⟩ := idx t
    show (dats m 0 c).after 5 t y = _
    rw [after0_5]
    obtain ⟨i, j, rfl⟩ := one3 y
    rw [(outs m c t).2.1, val5, sums, e1, e2, e3]
    refine (upd_new _ (b5 m c) (ix3 0 (row t i) j) rfl).symm.trans (congrArg (s5 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b5 m c) j hj').symm
    exact congrFun (show StableHlo.after hostOps0 (fun b => m (c, b)) (Proc.devRef .tc main_v0_1) = m (c, Proc.devRef .tc main_arg5) by after_results; rfl) j

theorem arr6 : ((dats m 0 c).arrAt 6 cfg0.N : FVec Ideal S1x128x1548 .f32) = s6 m c := by
  refine (dats m 0 c).arrAt_eq_of_coversWhere_of_agree 6 _ (fun β => β (0 : Fin 3) = 0) (by decide +kernel) (fun t hf y => ?_) (fun j hj => ?_)
  · obtain ⟨-, -, -, -, -, -, h, -⟩ := idx t
    show (dats m 0 c).after 6 t y = _
    rw [after0_6]
    obtain ⟨i, j, rfl⟩ := one3 y
    rw [(outs m c t).2.2.1, val6, sums, e2]
    refine (upd_new _ (b6 m c) (ix3 0 (row t i) j) rfl).symm.trans (congrArg (s6 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b6 m c) j hj').symm
    exact congrFun (show StableHlo.after hostOps0 (fun b => m (c, b)) (Proc.devRef .tc main_v0_2) = m (c, Proc.devRef .tc main_arg6) by after_results; rfl) j

theorem arr7 : ((dats m 0 c).arrAt 7 cfg0.N : FVec Ideal S1x128x1548 .f32) = s7 m c := by
  refine (dats m 0 c).arrAt_eq_of_coversWhere_of_agree 7 _ (fun β => β (0 : Fin 3) = 0) (by decide +kernel) (fun t hf y => ?_) (fun j hj => ?_)
  · obtain ⟨-, -, -, -, -, -, -, h⟩ := idx t
    show (dats m 0 c).after 7 t y = _
    rw [after0_7]
    obtain ⟨i, j, rfl⟩ := one3 y
    rw [(outs m c t).2.2.2, val7, sums, e3]
    refine (upd_new _ (b7 m c) (ix3 0 (row t i) j) rfl).symm.trans (congrArg (s7 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b7 m c) j hj').symm
    exact congrFun (show StableHlo.after hostOps0 (fun b => m (c, b)) (Proc.devRef .tc main_v0_3) = m (c, Proc.devRef .tc main_arg7) by after_results; rfl) j

end Cert.Kernel38Ideal.Adam

namespace Cert.AdamLayer

open Idealize.ShloMosaic Idealize.ShloMosaic.TcCoe Idealize.ShloMosaic.Tactic Idealize.SL.Sem Cert.Adam

namespace Ref38
open Cert.Reference38Ideal Cert.Reference38Ideal.Gen Cert.Reference38Ideal.Read

variable (r : FVec Ideal S8x128x1548 .bf16) (w m v p : FVec Ideal S1x128x1548 .f32)

theorem gr : val_main_v2 (F := Ideal) r = grads (n := 1) (R := 128) (L := 1548) r := by
  funext y
  obtain ⟨o, i, j, rfl⟩ := three y
  obtain rfl : o = 0 := Subsingleton.elim _ _
  pointwise [val_main_v2, val_main_v1, val_main_v0, val_main_cst]
  rfl

theorem mm : val_main_v7 (F := Ideal) r m = moms (n := 1) (R := 128) (L := 1548) r m := by
  funext y
  obtain ⟨o, i, j, rfl⟩ := three y
  obtain rfl : o = 0 := Subsingleton.elim _ _
  pointwise [val_main_v7, val_main_v6, val_main_v5, val_main_v4, val_main_v3, gr, val_main_cst_0, val_main_cst_1]
  rfl

theorem vv : val_main_v13 (F := Ideal) r v = vels (n := 1) (R := 128) (L := 1548) r v := by
  funext y
  obtain ⟨o, i, j, rfl⟩ := three y
  obtain rfl : o = 0 := Subsingleton.elim _ _
  pointwise [val_main_v13, val_main_v12, val_main_v11, val_main_v10, val_main_v9, val_main_v8, gr, val_main_cst_2, val_main_cst_3]
  rfl

theorem ss : val_main_v26 (F := Ideal) r w m v = steps (n := 1) (R := 128) (L := 1548) r w m v := by
  funext y
  obtain ⟨o, i, j, rfl⟩ := three y
  obtain rfl : o = 0 := Subsingleton.elim _ _
  pointwise [val_main_v26, val_main_v25, val_main_v24, val_main_v23, val_main_v22, val_main_v21, val_main_v20, val_main_v19, val_main_v18, val_main_v17, val_main_v16, val_main_v15, val_main_v14, mm, vv, val_main_cst_4, val_main_cst_5, val_main_cst_6, val_main_cst_7, val_main_cst_8]
  rfl

theorem same (e : FVec Ideal S1x128x1548 .f32) : e = upd e p := by
  funext y
  obtain ⟨o, i, j, rfl⟩ := three y
  obtain rfl : o = 0 := Subsingleton.elim _ _
  exact (upd_new e p (ix3 0 i j) rfl).symm

theorem g : val_main_v2 (F := Ideal) r = upd (grads (n := 1) (R := 128) (L := 1548) r) p := (gr r).trans (same p _)
theorem mo : val_main_v7 (F := Ideal) r m = upd (moms (n := 1) (R := 128) (L := 1548) r m) p := (mm r m).trans (same p _)
theorem ve : val_main_v13 (F := Ideal) r v = upd (vels (n := 1) (R := 128) (L := 1548) r v) p := (vv r v).trans (same p _)
theorem st : val_main_v26 (F := Ideal) r w m v = upd (steps (n := 1) (R := 128) (L := 1548) r w m v) p := (ss r w m v).trans (same p _)

end Ref38

theorem agree38 : Cert.algebraic_Kernel38Ideal_Reference38Ideal (hKernel38Ideal := Cert.Kernel38Ideal.Gen.facts)
    (hReference38Ideal := Cert.Reference38Ideal.Gen.facts) := by
  intro m g m' g' _ hag
  refine ⟨fun c => Cert.Kernel38Ideal.Adam.s4 m c, fun c => Cert.Kernel38Ideal.Adam.s5 m c, fun c => Cert.Kernel38Ideal.Adam.s6 m c, fun c => Cert.Kernel38Ideal.Adam.s7 m c, ?_, ?_⟩
  · refine (θ_run Cert.Kernel38Ideal.defs _ _).mono (fun r h c => ?_) (Cert.Kernel38Ideal.Value.run_blocks m g)
    obtain ⟨h4, h5, h6, h7, hargs⟩ := h c
    exact ⟨h4.trans (Cert.Kernel38Ideal.Adam.arr4 m c), h5.trans (Cert.Kernel38Ideal.Adam.arr5 m c), h6.trans (Cert.Kernel38Ideal.Adam.arr6 m c), h7.trans (Cert.Kernel38Ideal.Adam.arr7 m c), hargs⟩
  · refine (θ_run Cert.Reference38Ideal.defs _ _).mono (fun r h c => ?_) (Cert.Reference38Ideal.Value.run (F := Ideal) m' g')
    obtain ⟨a0, a1, a2, a3, a4, a5, a6, a7⟩ := hag c
    obtain ⟨r0, r1, r2, r3, hargs⟩ := h c
    rw [Cert.Reference38Ideal.Read.val_main_v2_eq, Ref38.g (p := Cert.Kernel38Ideal.Adam.b4 m c), a0] at r0
    rw [Cert.Reference38Ideal.Read.val_main_v26_eq, Ref38.st (p := Cert.Kernel38Ideal.Adam.b5 m c), a0, a1, a2, a3] at r1
    rw [Cert.Reference38Ideal.Read.val_main_v7_eq, Ref38.mo (p := Cert.Kernel38Ideal.Adam.b6 m c), a0, a2] at r2
    rw [Cert.Reference38Ideal.Read.val_main_v13_eq, Ref38.ve (p := Cert.Kernel38Ideal.Adam.b7 m c), a0, a3] at r3
    exact ⟨r0, r1, r2, r3, hargs⟩

end Cert.AdamLayer

end
-- ==== Proof.AdamInA.lean ====
/- The update of the first layer of `w_in_a`. -/
module

public import proofs.«01_k».proof.Proof.AdamLayer
public import proofs.«01_k».proof.Proof.Gen.Kernel39Ideal.Value
public import proofs.«01_k».proof.Proof.Gen.Reference39Ideal.Read

@[expose] public section

set_option maxRecDepth 16384

noncomputable section

namespace Cert.Kernel39Ideal.Adam

open Idealize.ShloMosaic Idealize.ShloMosaic.TcCoe Idealize.ShloMosaic.Tactic Cert.Kernel39Ideal Cert.Kernel39Ideal.Gen Cert.Adam Cert.AdamLayer

variable (x0 : Vec Ideal S8x112x1024 .bf16) (x1 x2 x3 : Vec Ideal S1x112x1024 .f32)

theorem sum8 (u0 u1 u2 u3 u4 u5 u6 u7 : Vec Ideal S1x112x1024 .bf16) (i : Fin 112) (j : Fin 1024) :
    k0_pay3 u0 u1 u2 u3 u4 u5 u6 u7 (ix2 i j) = u0 (ix3 0 i j) + u1 (ix3 0 i j) + u2 (ix3 0 i j) + u3 (ix3 0 i j) + u4 (ix3 0 i j) + u5 (ix3 0 i j) + u6 (ix3 0 i j) + u7 (ix3 0 i j) := by
  pointwise [k0_pay3]

/-- The parts, loaded and summed. -/
theorem pay3 (p0 p1 p2 p3 p4 p5 p6 p7) : k0_pay3 (F := Ideal) (ldPart x0 0 p0) (ldPart x0 1 p1) (ldPart x0 2 p2) (ldPart x0 3 p3) (ldPart x0 4 p4) (ldPart x0 5 p5) (ldPart x0 6 p6) (ldPart x0 7 p7) = tot x0 := by
  funext y
  obtain ⟨i, j, rfl⟩ := Cert.Prod.two y
  rw [sum8, part x0 0 (by decide), part x0 1 (by decide), part x0 2 (by decide), part x0 3 (by decide), part x0 4 (by decide), part x0 5 (by decide), part x0 6 (by decide), part x0 7 (by decide)]
  exact (Fin.sum_univ_eight (M := EReal) fun s : Fin 8 => x0 (ix3 s i j)).symm

section
variable (c : Dev nD) (i : grid0.Coords) (a1 : Memref sig .tc .vmem S8x112x1024 .bf16) (h1 : a1.IsWhole) (a2 : Memref sig .tc .vmem S1x112x1024 .f32) (h2 : a2.IsWhole) (a3 : Memref sig .tc .vmem S1x112x1024 .f32) (h3 : a3.IsWhole) (a4 : Memref sig .tc .vmem S1x112x1024 .f32) (h4 : a4.IsWhole) (a9 : Memref sig .tc .vmem S1x112x1024 .f32) (h9 : a9.IsWhole) (a10 : Memref sig .tc .vmem S1x112x1024 .f32) (h10 : a10.IsWhole) (a11 : Memref sig .tc .vmem S1x112x1024 .f32) (h11 : a11.IsWhole) (a12 : Memref sig .tc .vmem S1x112x1024 .f32) (h12 : a12.IsWhole)

/-- What the body stores. -/
theorem out4 :
    out0_A_4 c i a1 h1 a2 h2 a3 h3 a4 h4 a9 h9 a10 h10 a11 h11 a12 h12 x0 x1 x2 x3 = k0_pay6 (tot x0) := by
  unfold out0_A_4
  rw [View.read_writes_junk_eq_canon VO0_4]
  unfold kernelRun0_A; dsimp only; sl_unfold_words
  simp only [View.readAt_eq_ld, h1.read_unread, h2.read_unread, h3.read_unread, h4.read_unread]
  rw [View.canon_unit_zero hz3, pay3]
theorem out5 :
    out0_A_5 c i a1 h1 a2 h2 a3 h3 a4 h4 a9 h9 a10 h10 a11 h11 a12 h12 x0 x1 x2 x3 = k0_pay7 (tot x0) x2 x3 x1 := by
  unfold out0_A_5
  rw [View.read_writes_junk_eq_canon VO0_5]
  unfold kernelRun0_A; dsimp only; sl_unfold_words
  simp only [View.readAt_eq_ld, h1.read_unread, h2.read_unread, h3.read_unread, h4.read_unread]
  rw [View.canon_unit_zero hz3, pay3, whole, whole, whole]
theorem out6 :
    out0_A_6 c i a1 h1 a2 h2 a3 h3 a4 h4 a9 h9 a10 h10 a11 h11 a12 h12 x0 x1 x2 x3 = k0_pay1 (k0_pay4 (tot x0) x2) := by
  unfold out0_A_6
  rw [View.read_writes_junk_eq_canon VO0_6]
  unfold kernelRun0_A; dsimp only; sl_unfold_words
  simp only [View.readAt_eq_ld, h1.read_unread, h2.read_unread, h3.read_unread, h4.read_unread]
  rw [View.canon_unit_zero hz3, pay3, whole]
theorem out7 :
    out0_A_7 c i a1 h1 a2 h2 a3 h3 a4 h4 a9 h9 a10 h10 a11 h11 a12 h12 x0 x1 x2 x3 = k0_pay2 (k0_pay5 (tot x0) x3) := by
  unfold out0_A_7
  rw [View.read_writes_junk_eq_canon VO0_7]
  unfold kernelRun0_A; dsimp only; sl_unfold_words
  simp only [View.readAt_eq_ld, h1.read_unread, h2.read_unread, h3.read_unread, h4.read_unread]
  rw [View.canon_unit_zero hz3, pay3, whole]

end

theorem val4 (g : FVec Ideal ⟨2, ![112, 1024]⟩ .f32) (i : Fin 112) (j : Fin 1024) : k0_pay6 g (ix3 0 i j) = g (ix2 i j) := by
  pointwise [k0_pay6]
theorem val5 (g : FVec Ideal ⟨2, ![112, 1024]⟩ .f32) (i : Fin 112) (j : Fin 1024) :
    k0_pay7 g x2 x3 x1 (ix3 0 i j) = stp (x1 (ix3 0 i j)) (x2 (ix3 0 i j)) (x3 (ix3 0 i j)) (g (ix2 i j)) := by
  pointwise [k0_pay7, k0_pay4, k0_pay5]
  rfl
theorem val6 (g : FVec Ideal ⟨2, ![112, 1024]⟩ .f32) (i : Fin 112) (j : Fin 1024) : k0_pay1 (k0_pay4 g x2) (ix3 0 i j) = mom (x2 (ix3 0 i j)) (g (ix2 i j)) := by
  pointwise [k0_pay1, k0_pay4]
  rfl
theorem val7 (g : FVec Ideal ⟨2, ![112, 1024]⟩ .f32) (i : Fin 112) (j : Fin 1024) : k0_pay2 (k0_pay5 g x3) (ix3 0 i j) = vel (x3 (ix3 0 i j)) (g (ix2 i j)) := by
  pointwise [k0_pay2, k0_pay5]
  rfl

theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] := by
  decide +kernel

variable (m : (ℓ : Loc nD τ sig) → Buf (Elt Ideal) ℓ) (c : Dev nD)

/-- The gradient's parts, the parameters, the two running means and the arrays written over. -/
abbrev b0 : FVec Ideal S8x224x1024 .bf16 := m ((c.tc : Thread nD τ).loc main_arg0)
abbrev b1 : FVec Ideal S2x224x1024 .f32 := m ((c.tc : Thread nD τ).loc main_arg1)
abbrev b2 : FVec Ideal S2x224x1024 .f32 := m ((c.tc : Thread nD τ).loc main_arg2)
abbrev b3 : FVec Ideal S2x224x1024 .f32 := m ((c.tc : Thread nD τ).loc main_arg3)
abbrev b4 : FVec Ideal S2x224x1024 .f32 := m ((c.tc : Thread nD τ).loc main_arg4)
abbrev b5 : FVec Ideal S2x224x1024 .f32 := m ((c.tc : Thread nD τ).loc main_arg5)
abbrev b6 : FVec Ideal S2x224x1024 .f32 := m ((c.tc : Thread nD τ).loc main_arg6)
abbrev b7 : FVec Ideal S2x224x1024 .f32 := m ((c.tc : Thread nD τ).loc main_arg7)

/-- What a point leaves. -/
theorem outs (t : Fin cfg0.N) :
    (outsAt0 m c t).1 = k0_pay6 (F := Ideal) (tot (iblk m c 0 t)) ∧ (outsAt0 m c t).2.1 = k0_pay7 (F := Ideal) (tot (iblk m c 0 t)) (iblk m c 2 t) (iblk m c 3 t) (iblk m c 1 t)
    ∧ (outsAt0 m c t).2.2.1 = k0_pay1 (F := Ideal) (k0_pay4 (F := Ideal) (tot (iblk m c 0 t)) (iblk m c 2 t))
    ∧ (outsAt0 m c t).2.2.2 = k0_pay2 (F := Ideal) (k0_pay5 (F := Ideal) (tot (iblk m c 0 t)) (iblk m c 3 t)) := by
  unfold outsAt0
  refine ⟨?_, ?_, ?_, ?_⟩
  · rw [out4]
  · rw [out5]
  · rw [out6]
  · rw [out7]

/-- A block's row among all rows. -/
def row (t : Fin cfg0.N) (i : Fin 112) : Fin 224 := ⟨t.val * 112 + i.val, by have := t.isLt; have hN : cfg0.N = 2 := N_0; omega⟩

theorem e0 (t : Fin cfg0.N) (s : Fin 8) (i : Fin 112) (j : Fin 1024) : (iblk m c 0 t : Vec Ideal S8x112x1024 .bf16) (ix3 s i j) = b0 m c (ix3 s (row t i) j) := by
  obtain ⟨h, -⟩ := idx t
  blk_ext [iblk, h, row]
theorem e1 (t : Fin cfg0.N) (i : Fin 112) (j : Fin 1024) : (iblk m c 1 t : Vec Ideal S1x112x1024 .f32) (ix3 0 i j) = b1 m c (ix3 (0 : Fin 2) (row t i) j) := by
  obtain ⟨-, h, -⟩ := idx t
  blk_ext [iblk, h, row]
theorem e2 (t : Fin cfg0.N) (i : Fin 112) (j : Fin 1024) : (iblk m c 2 t : Vec Ideal S1x112x1024 .f32) (ix3 0 i j) = b2 m c (ix3 (0 : Fin 2) (row t i) j) := by
  obtain ⟨-, -, h, -⟩ := idx t
  blk_ext [iblk, h, row]
theorem e3 (t : Fin cfg0.N) (i : Fin 112) (j : Fin 1024) : (iblk m c 3 t : Vec Ideal S1x112x1024 .f32) (ix3 0 i j) = b3 m c (ix3 (0 : Fin 2) (row t i) j) := by
  obtain ⟨-, -, -, h, -⟩ := idx t
  blk_ext [iblk, h, row]

theorem sums (t : Fin cfg0.N) (i : Fin 112) (j : Fin 1024) : tot (iblk m c 0 t : Vec Ideal S8x112x1024 .bf16) (ix2 i j) = grads (n := 2) (R := 224) (L := 1024) (b0 m c) (ix3 0 (row t i) j) :=
  Finset.sum_congr (M := EReal) rfl fun s _ => e0 m c t s i j

/-- The four arrays. -/
abbrev s4 : FVec Ideal S2x224x1024 .f32 := upd (grads (n := 2) (R := 224) (L := 1024) (b0 m c)) (b4 m c)
abbrev s5 : FVec Ideal S2x224x1024 .f32 := upd (steps (n := 2) (R := 224) (L := 1024) (b0 m c) (b1 m c) (b2 m c) (b3 m c)) (b5 m c)
abbrev s6 : FVec Ideal S2x224x1024 .f32 := upd (moms (n := 2) (R := 224) (L := 1024) (b0 m c) (b2 m c)) (b6 m c)
abbrev s7 : FVec Ideal S2x224x1024 .f32 := upd (vels (n := 2) (R := 224) (L := 1024) (b0 m c) (b3 m c)) (b7 m c)
theorem arr4 : ((dats m 0 c).arrAt 4 cfg0.N : FVec Ideal S2x224x1024 .f32) = s4 m c := by
  refine (dats m 0 c).arrAt_eq_of_coversWhere_of_agree 4 _ (fun β => β (0 : Fin 3) = 0) (by decide +kernel) (fun t hf y => ?_) (fun j hj => ?_)
  · obtain ⟨-, -, -, -, h, -⟩ := idx t
    show (dats m 0 c).after 4 t y = _
    rw [after0_4]
    obtain ⟨i, j, rfl⟩ := one3 y
    rw [(outs m c t).1, val4, sums]
    refine (upd_new _ (b4 m c) (ix3 0 (row t i) j) rfl).symm.trans (congrArg (s4 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b4 m c) j hj').symm
    exact congrFun (show StableHlo.after hostOps0 (fun b => m (c, b)) (Proc.devRef .tc main_v0_0) = m (c, Proc.devRef .tc main_arg4) by after_results; rfl) j

theorem arr5 : ((dats m 0 c).arrAt 5 cfg0.N : FVec Ideal S2x224x1024 .f32) = s5 m c := by
  refine (dats m 0 c).arrAt_eq_of_coversWhere_of_agree 5 _ (fun β => β (0 : Fin 3) = 0) (by decide +kernel) (fun t hf y => ?_) (fun j hj => ?_)
  · obtain ⟨-, -, -, -, -, h, -⟩ := idx t
    show (dats m 0 c).after 5 t y = _
    rw [after0_5]
    obtain ⟨i, j, rfl⟩ := one3 y
    rw [(outs m c t).2.1, val5, sums, e1, e2, e3]
    refine (upd_new _ (b5 m c) (ix3 0 (row t i) j) rfl).symm.trans (congrArg (s5 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b5 m c) j hj').symm
    exact congrFun (show StableHlo.after hostOps0 (fun b => m (c, b)) (Proc.devRef .tc main_v0_1) = m (c, Proc.devRef .tc main_arg5) by after_results; rfl) j

theorem arr6 : ((dats m 0 c).arrAt 6 cfg0.N : FVec Ideal S2x224x1024 .f32) = s6 m c := by
  refine (dats m 0 c).arrAt_eq_of_coversWhere_of_agree 6 _ (fun β => β (0 : Fin 3) = 0) (by decide +kernel) (fun t hf y => ?_) (fun j hj => ?_)
  · obtain ⟨-, -, -, -, -, -, h, -⟩ := idx t
    show (dats m 0 c).after 6 t y = _
    rw [after0_6]
    obtain ⟨i, j, rfl⟩ := one3 y
    rw [(outs m c t).2.2.1, val6, sums, e2]
    refine (upd_new _ (b6 m c) (ix3 0 (row t i) j) rfl).symm.trans (congrArg (s6 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b6 m c) j hj').symm
    exact congrFun (show StableHlo.after hostOps0 (fun b => m (c, b)) (Proc.devRef .tc main_v0_2) = m (c, Proc.devRef .tc main_arg6) by after_results; rfl) j

theorem arr7 : ((dats m 0 c).arrAt 7 cfg0.N : FVec Ideal S2x224x1024 .f32) = s7 m c := by
  refine (dats m 0 c).arrAt_eq_of_coversWhere_of_agree 7 _ (fun β => β (0 : Fin 3) = 0) (by decide +kernel) (fun t hf y => ?_) (fun j hj => ?_)
  · obtain ⟨-, -, -, -, -, -, -, h⟩ := idx t
    show (dats m 0 c).after 7 t y = _
    rw [after0_7]
    obtain ⟨i, j, rfl⟩ := one3 y
    rw [(outs m c t).2.2.2, val7, sums, e3]
    refine (upd_new _ (b7 m c) (ix3 0 (row t i) j) rfl).symm.trans (congrArg (s7 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b7 m c) j hj').symm
    exact congrFun (show StableHlo.after hostOps0 (fun b => m (c, b)) (Proc.devRef .tc main_v0_3) = m (c, Proc.devRef .tc main_arg7) by after_results; rfl) j

end Cert.Kernel39Ideal.Adam

namespace Cert.AdamLayer

open Idealize.ShloMosaic Idealize.ShloMosaic.TcCoe Idealize.ShloMosaic.Tactic Idealize.SL.Sem Cert.Adam

namespace Ref39
open Cert.Reference39Ideal Cert.Reference39Ideal.Gen Cert.Reference39Ideal.Read

variable (r : FVec Ideal S8x224x1024 .bf16) (w m v p : FVec Ideal S2x224x1024 .f32)

theorem gr (i : Fin 224) (j : Fin 1024) : val_main_v1 (F := Ideal) r (ix2 i j) = grads (n := 2) (R := 224) (L := 1024) r (ix3 0 i j) := by
  pointwise [val_main_v1, val_main_v0, val_main_cst]
  rfl

theorem lay (e : FVec Ideal S224x1024 .f32) (h) (i : Fin 224) (j : Fin 1024) : broadcastInDim S1x224x1024 ![1, 2] h e (ix3 0 i j) = e (ix2 i j) :=
  broadcastInDim_apply _ _ _ _ (ix2 i j) fun b => by match b with | 0 => rfl | 1 => rfl

theorem g : val_main_v34 (F := Ideal) r p = upd (grads (n := 2) (R := 224) (L := 1024) r) p := stack p _ _ _ _ fun i j => (lay _ _ i j).trans (gr r i j)
theorem st : val_main_v37 (F := Ideal) r w m v p = upd (steps (n := 2) (R := 224) (L := 1024) r w m v) p := stack p _ _ _ _ fun i j => by
  refine (lay _ _ i j).trans ((rstp_apply bcast_S_S224x1024 (val_main_v1 (F := Ideal) r) (val_main_v3 (F := Ideal) w) (val_main_v5 (F := Ideal) m) (val_main_v7 (F := Ideal) v) _).trans ?_)
  rw [gr, show val_main_v3 (F := Ideal) w (ix2 i j) = _ from first w _ _ i j, show val_main_v5 (F := Ideal) m (ix2 i j) = _ from first m _ _ i j, show val_main_v7 (F := Ideal) v (ix2 i j) = _ from first v _ _ i j]
  rfl
theorem mo : val_main_v40 (F := Ideal) r m p = upd (moms (n := 2) (R := 224) (L := 1024) r m) p := stack p _ _ _ _ fun i j => by
  refine (lay _ _ i j).trans ((rmom_apply bcast_S_S224x1024 (val_main_v1 (F := Ideal) r) (val_main_v5 (F := Ideal) m) _).trans ?_)
  rw [gr, show val_main_v5 (F := Ideal) m (ix2 i j) = _ from first m _ _ i j]
  rfl
theorem ve : val_main_v43 (F := Ideal) r v p = upd (vels (n := 2) (R := 224) (L := 1024) r v) p := stack p _ _ _ _ fun i j => by
  refine (lay _ _ i j).trans ((rvel_apply bcast_S_S224x1024 (val_main_v1 (F := Ideal) r) (val_main_v7 (F := Ideal) v) _).trans ?_)
  rw [gr, show val_main_v7 (F := Ideal) v (ix2 i j) = _ from first v _ _ i j]
  rfl

end Ref39

theorem agree39 : Cert.algebraic_Kernel39Ideal_Reference39Ideal (hKernel39Ideal := Cert.Kernel39Ideal.Gen.facts)
    (hReference39Ideal := Cert.Reference39Ideal.Gen.facts) := by
  intro m g m' g' _ hag
  refine ⟨fun c => Cert.Kernel39Ideal.Adam.s4 m c, fun c => Cert.Kernel39Ideal.Adam.s5 m c, fun c => Cert.Kernel39Ideal.Adam.s6 m c, fun c => Cert.Kernel39Ideal.Adam.s7 m c, ?_, ?_⟩
  · refine (θ_run Cert.Kernel39Ideal.defs _ _).mono (fun r h c => ?_) (Cert.Kernel39Ideal.Value.run_blocks m g)
    obtain ⟨h4, h5, h6, h7, hargs⟩ := h c
    exact ⟨h4.trans (Cert.Kernel39Ideal.Adam.arr4 m c), h5.trans (Cert.Kernel39Ideal.Adam.arr5 m c), h6.trans (Cert.Kernel39Ideal.Adam.arr6 m c), h7.trans (Cert.Kernel39Ideal.Adam.arr7 m c), hargs⟩
  · refine (θ_run Cert.Reference39Ideal.defs _ _).mono (fun r h c => ?_) (Cert.Reference39Ideal.Value.run (F := Ideal) m' g')
    obtain ⟨a0, a1, a2, a3, a4, a5, a6, a7⟩ := hag c
    obtain ⟨r0, r1, r2, r3, hargs⟩ := h c
    rw [Cert.Reference39Ideal.Read.val_main_v34_eq, Ref39.g , a0, a4] at r0
    rw [Cert.Reference39Ideal.Read.val_main_v37_eq, Ref39.st , a0, a1, a2, a3, a5] at r1
    rw [Cert.Reference39Ideal.Read.val_main_v40_eq, Ref39.mo , a0, a2, a6] at r2
    rw [Cert.Reference39Ideal.Read.val_main_v43_eq, Ref39.ve , a0, a3, a7] at r3
    exact ⟨r0, r1, r2, r3, hargs⟩

end Cert.AdamLayer

end
-- ==== Proof.AdamInB.lean ====
/- The update of the first layer of `w_in_b`. -/
module

public import proofs.«01_k».proof.Proof.AdamLayer
public import proofs.«01_k».proof.Proof.Gen.Kernel40Ideal.Value
public import proofs.«01_k».proof.Proof.Gen.Reference40Ideal.Read

@[expose] public section

set_option maxRecDepth 16384

noncomputable section

namespace Cert.Kernel40Ideal.Adam

open Idealize.ShloMosaic Idealize.ShloMosaic.TcCoe Idealize.ShloMosaic.Tactic Cert.Kernel40Ideal Cert.Kernel40Ideal.Gen Cert.Adam Cert.AdamLayer

variable (x0 : Vec Ideal S8x128x1024 .bf16) (x1 x2 x3 : Vec Ideal S1x128x1024 .f32)

theorem sum8 (u0 u1 u2 u3 u4 u5 u6 u7 : Vec Ideal S1x128x1024 .bf16) (i : Fin 128) (j : Fin 1024) :
    k0_pay3 u0 u1 u2 u3 u4 u5 u6 u7 (ix2 i j) = u0 (ix3 0 i j) + u1 (ix3 0 i j) + u2 (ix3 0 i j) + u3 (ix3 0 i j) + u4 (ix3 0 i j) + u5 (ix3 0 i j) + u6 (ix3 0 i j) + u7 (ix3 0 i j) := by
  pointwise [k0_pay3]

/-- The parts, loaded and summed. -/
theorem pay3 (p0 p1 p2 p3 p4 p5 p6 p7) : k0_pay3 (F := Ideal) (ldPart x0 0 p0) (ldPart x0 1 p1) (ldPart x0 2 p2) (ldPart x0 3 p3) (ldPart x0 4 p4) (ldPart x0 5 p5) (ldPart x0 6 p6) (ldPart x0 7 p7) = tot x0 := by
  funext y
  obtain ⟨i, j, rfl⟩ := Cert.Prod.two y
  rw [sum8, part x0 0 (by decide), part x0 1 (by decide), part x0 2 (by decide), part x0 3 (by decide), part x0 4 (by decide), part x0 5 (by decide), part x0 6 (by decide), part x0 7 (by decide)]
  exact (Fin.sum_univ_eight (M := EReal) fun s : Fin 8 => x0 (ix3 s i j)).symm

section
variable (c : Dev nD) (i : grid0.Coords) (a1 : Memref sig .tc .vmem S8x128x1024 .bf16) (h1 : a1.IsWhole) (a2 : Memref sig .tc .vmem S1x128x1024 .f32) (h2 : a2.IsWhole) (a3 : Memref sig .tc .vmem S1x128x1024 .f32) (h3 : a3.IsWhole) (a4 : Memref sig .tc .vmem S1x128x1024 .f32) (h4 : a4.IsWhole) (a9 : Memref sig .tc .vmem S1x128x1024 .f32) (h9 : a9.IsWhole) (a10 : Memref sig .tc .vmem S1x128x1024 .f32) (h10 : a10.IsWhole) (a11 : Memref sig .tc .vmem S1x128x1024 .f32) (h11 : a11.IsWhole) (a12 : Memref sig .tc .vmem S1x128x1024 .f32) (h12 : a12.IsWhole)

/-- What the body stores. -/
theorem out4 :
    out0_A_4 c i a1 h1 a2 h2 a3 h3 a4 h4 a9 h9 a10 h10 a11 h11 a12 h12 x0 x1 x2 x3 = k0_pay6 (tot x0) := by
  unfold out0_A_4
  rw [View.read_writes_junk_eq_canon VO0_4]
  unfold kernelRun0_A; dsimp only; sl_unfold_words
  simp only [View.readAt_eq_ld, h1.read_unread, h2.read_unread, h3.read_unread, h4.read_unread]
  rw [View.canon_unit_zero hz3, pay3]
theorem out5 :
    out0_A_5 c i a1 h1 a2 h2 a3 h3 a4 h4 a9 h9 a10 h10 a11 h11 a12 h12 x0 x1 x2 x3 = k0_pay7 (tot x0) x2 x3 x1 := by
  unfold out0_A_5
  rw [View.read_writes_junk_eq_canon VO0_5]
  unfold kernelRun0_A; dsimp only; sl_unfold_words
  simp only [View.readAt_eq_ld, h1.read_unread, h2.read_unread, h3.read_unread, h4.read_unread]
  rw [View.canon_unit_zero hz3, pay3, whole, whole, whole]
theorem out6 :
    out0_A_6 c i a1 h1 a2 h2 a3 h3 a4 h4 a9 h9 a10 h10 a11 h11 a12 h12 x0 x1 x2 x3 = k0_pay1 (k0_pay4 (tot x0) x2) := by
  unfold out0_A_6
  rw [View.read_writes_junk_eq_canon VO0_6]
  unfold kernelRun0_A; dsimp only; sl_unfold_words
  simp only [View.readAt_eq_ld, h1.read_unread, h2.read_unread, h3.read_unread, h4.read_unread]
  rw [View.canon_unit_zero hz3, pay3, whole]
theorem out7 :
    out0_A_7 c i a1 h1 a2 h2 a3 h3 a4 h4 a9 h9 a10 h10 a11 h11 a12 h12 x0 x1 x2 x3 = k0_pay2 (k0_pay5 (tot x0) x3) := by
  unfold out0_A_7
  rw [View.read_writes_junk_eq_canon VO0_7]
  unfold kernelRun0_A; dsimp only; sl_unfold_words
  simp only [View.readAt_eq_ld, h1.read_unread, h2.read_unread, h3.read_unread, h4.read_unread]
  rw [View.canon_unit_zero hz3, pay3, whole]

end

theorem val4 (g : FVec Ideal ⟨2, ![128, 1024]⟩ .f32) (i : Fin 128) (j : Fin 1024) : k0_pay6 g (ix3 0 i j) = g (ix2 i j) := by
  pointwise [k0_pay6]
theorem val5 (g : FVec Ideal ⟨2, ![128, 1024]⟩ .f32) (i : Fin 128) (j : Fin 1024) :
    k0_pay7 g x2 x3 x1 (ix3 0 i j) = stp (x1 (ix3 0 i j)) (x2 (ix3 0 i j)) (x3 (ix3 0 i j)) (g (ix2 i j)) := by
  pointwise [k0_pay7, k0_pay4, k0_pay5]
  rfl
theorem val6 (g : FVec Ideal ⟨2, ![128, 1024]⟩ .f32) (i : Fin 128) (j : Fin 1024) : k0_pay1 (k0_pay4 g x2) (ix3 0 i j) = mom (x2 (ix3 0 i j)) (g (ix2 i j)) := by
  pointwise [k0_pay1, k0_pay4]
  rfl
theorem val7 (g : FVec Ideal ⟨2, ![128, 1024]⟩ .f32) (i : Fin 128) (j : Fin 1024) : k0_pay2 (k0_pay5 g x3) (ix3 0 i j) = vel (x3 (ix3 0 i j)) (g (ix2 i j)) := by
  pointwise [k0_pay2, k0_pay5]
  rfl

theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] := by
  decide +kernel

variable (m : (ℓ : Loc nD τ sig) → Buf (Elt Ideal) ℓ) (c : Dev nD)

/-- The gradient's parts, the parameters, the two running means and the arrays written over. -/
abbrev b0 : FVec Ideal S8x128x1024 .bf16 := m ((c.tc : Thread nD τ).loc main_arg0)
abbrev b1 : FVec Ideal S2x128x1024 .f32 := m ((c.tc : Thread nD τ).loc main_arg1)
abbrev b2 : FVec Ideal S2x128x1024 .f32 := m ((c.tc : Thread nD τ).loc main_arg2)
abbrev b3 : FVec Ideal S2x128x1024 .f32 := m ((c.tc : Thread nD τ).loc main_arg3)
abbrev b4 : FVec Ideal S2x128x1024 .f32 := m ((c.tc : Thread nD τ).loc main_arg4)
abbrev b5 : FVec Ideal S2x128x1024 .f32 := m ((c.tc : Thread nD τ).loc main_arg5)
abbrev b6 : FVec Ideal S2x128x1024 .f32 := m ((c.tc : Thread nD τ).loc main_arg6)
abbrev b7 : FVec Ideal S2x128x1024 .f32 := m ((c.tc : Thread nD τ).loc main_arg7)

/-- What a point leaves. -/
theorem outs (t : Fin cfg0.N) :
    (outsAt0 m c t).1 = k0_pay6 (F := Ideal) (tot (iblk m c 0 t)) ∧ (outsAt0 m c t).2.1 = k0_pay7 (F := Ideal) (tot (iblk m c 0 t)) (iblk m c 2 t) (iblk m c 3 t) (iblk m c 1 t)
    ∧ (outsAt0 m c t).2.2.1 = k0_pay1 (F := Ideal) (k0_pay4 (F := Ideal) (tot (iblk m c 0 t)) (iblk m c 2 t))
    ∧ (outsAt0 m c t).2.2.2 = k0_pay2 (F := Ideal) (k0_pay5 (F := Ideal) (tot (iblk m c 0 t)) (iblk m c 3 t)) := by
  unfold outsAt0
  refine ⟨?_, ?_, ?_, ?_⟩
  · rw [out4]
  · rw [out5]
  · rw [out6]
  · rw [out7]

/-- A block's row among all rows. -/
def row (t : Fin cfg0.N) (i : Fin 128) : Fin 128 := ⟨t.val * 128 + i.val, by have := t.isLt; have hN : cfg0.N = 1 := N_0; omega⟩

theorem e0 (t : Fin cfg0.N) (s : Fin 8) (i : Fin 128) (j : Fin 1024) : (iblk m c 0 t : Vec Ideal S8x128x1024 .bf16) (ix3 s i j) = b0 m c (ix3 s (row t i) j) := by
  obtain ⟨h, -⟩ := idx t
  blk_ext [iblk, h, row]
theorem e1 (t : Fin cfg0.N) (i : Fin 128) (j : Fin 1024) : (iblk m c 1 t : Vec Ideal S1x128x1024 .f32) (ix3 0 i j) = b1 m c (ix3 (0 : Fin 2) (row t i) j) := by
  obtain ⟨-, h, -⟩ := idx t
  blk_ext [iblk, h, row]
theorem e2 (t : Fin cfg0.N) (i : Fin 128) (j : Fin 1024) : (iblk m c 2 t : Vec Ideal S1x128x1024 .f32) (ix3 0 i j) = b2 m c (ix3 (0 : Fin 2) (row t i) j) := by
  obtain ⟨-, -, h, -⟩ := idx t
  blk_ext [iblk, h, row]
theorem e3 (t : Fin cfg0.N) (i : Fin 128) (j : Fin 1024) : (iblk m c 3 t : Vec Ideal S1x128x1024 .f32) (ix3 0 i j) = b3 m c (ix3 (0 : Fin 2) (row t i) j) := by
  obtain ⟨-, -, -, h, -⟩ := idx t
  blk_ext [iblk, h, row]

theorem sums (t : Fin cfg0.N) (i : Fin 128) (j : Fin 1024) : tot (iblk m c 0 t : Vec Ideal S8x128x1024 .bf16) (ix2 i j) = grads (n := 2) (R := 128) (L := 1024) (b0 m c) (ix3 0 (row t i) j) :=
  Finset.sum_congr (M := EReal) rfl fun s _ => e0 m c t s i j

/-- The four arrays. -/
abbrev s4 : FVec Ideal S2x128x1024 .f32 := upd (grads (n := 2) (R := 128) (L := 1024) (b0 m c)) (b4 m c)
abbrev s5 : FVec Ideal S2x128x1024 .f32 := upd (steps (n := 2) (R := 128) (L := 1024) (b0 m c) (b1 m c) (b2 m c) (b3 m c)) (b5 m c)
abbrev s6 : FVec Ideal S2x128x1024 .f32 := upd (moms (n := 2) (R := 128) (L := 1024) (b0 m c) (b2 m c)) (b6 m c)
abbrev s7 : FVec Ideal S2x128x1024 .f32 := upd (vels (n := 2) (R := 128) (L := 1024) (b0 m c) (b3 m c)) (b7 m c)
theorem arr4 : ((dats m 0 c).arrAt 4 cfg0.N : FVec Ideal S2x128x1024 .f32) = s4 m c := by
  refine (dats m 0 c).arrAt_eq_of_coversWhere_of_agree 4 _ (fun β => β (0 : Fin 3) = 0) (by decide +kernel) (fun t hf y => ?_) (fun j hj => ?_)
  · obtain ⟨-, -, -, -, h, -⟩ := idx t
    show (dats m 0 c).after 4 t y = _
    rw [after0_4]
    obtain ⟨i, j, rfl⟩ := one3 y
    rw [(outs m c t).1, val4, sums]
    refine (upd_new _ (b4 m c) (ix3 0 (row t i) j) rfl).symm.trans (congrArg (s4 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b4 m c) j hj').symm
    exact congrFun (show StableHlo.after hostOps0 (fun b => m (c, b)) (Proc.devRef .tc main_v0_0) = m (c, Proc.devRef .tc main_arg4) by after_results; rfl) j

theorem arr5 : ((dats m 0 c).arrAt 5 cfg0.N : FVec Ideal S2x128x1024 .f32) = s5 m c := by
  refine (dats m 0 c).arrAt_eq_of_coversWhere_of_agree 5 _ (fun β => β (0 : Fin 3) = 0) (by decide +kernel) (fun t hf y => ?_) (fun j hj => ?_)
  · obtain ⟨-, -, -, -, -, h, -⟩ := idx t
    show (dats m 0 c).after 5 t y = _
    rw [after0_5]
    obtain ⟨i, j, rfl⟩ := one3 y
    rw [(outs m c t).2.1, val5, sums, e1, e2, e3]
    refine (upd_new _ (b5 m c) (ix3 0 (row t i) j) rfl).symm.trans (congrArg (s5 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b5 m c) j hj').symm
    exact congrFun (show StableHlo.after hostOps0 (fun b => m (c, b)) (Proc.devRef .tc main_v0_1) = m (c, Proc.devRef .tc main_arg5) by after_results; rfl) j

theorem arr6 : ((dats m 0 c).arrAt 6 cfg0.N : FVec Ideal S2x128x1024 .f32) = s6 m c := by
  refine (dats m 0 c).arrAt_eq_of_coversWhere_of_agree 6 _ (fun β => β (0 : Fin 3) = 0) (by decide +kernel) (fun t hf y => ?_) (fun j hj => ?_)
  · obtain ⟨-, -, -, -, -, -, h, -⟩ := idx t
    show (dats m 0 c).after 6 t y = _
    rw [after0_6]
    obtain ⟨i, j, rfl⟩ := one3 y
    rw [(outs m c t).2.2.1, val6, sums, e2]
    refine (upd_new _ (b6 m c) (ix3 0 (row t i) j) rfl).symm.trans (congrArg (s6 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b6 m c) j hj').symm
    exact congrFun (show StableHlo.after hostOps0 (fun b => m (c, b)) (Proc.devRef .tc main_v0_2) = m (c, Proc.devRef .tc main_arg6) by after_results; rfl) j

theorem arr7 : ((dats m 0 c).arrAt 7 cfg0.N : FVec Ideal S2x128x1024 .f32) = s7 m c := by
  refine (dats m 0 c).arrAt_eq_of_coversWhere_of_agree 7 _ (fun β => β (0 : Fin 3) = 0) (by decide +kernel) (fun t hf y => ?_) (fun j hj => ?_)
  · obtain ⟨-, -, -, -, -, -, -, h⟩ := idx t
    show (dats m 0 c).after 7 t y = _
    rw [after0_7]
    obtain ⟨i, j, rfl⟩ := one3 y
    rw [(outs m c t).2.2.2, val7, sums, e3]
    refine (upd_new _ (b7 m c) (ix3 0 (row t i) j) rfl).symm.trans (congrArg (s7 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b7 m c) j hj').symm
    exact congrFun (show StableHlo.after hostOps0 (fun b => m (c, b)) (Proc.devRef .tc main_v0_3) = m (c, Proc.devRef .tc main_arg7) by after_results; rfl) j

end Cert.Kernel40Ideal.Adam

namespace Cert.AdamLayer

open Idealize.ShloMosaic Idealize.ShloMosaic.TcCoe Idealize.ShloMosaic.Tactic Idealize.SL.Sem Cert.Adam

namespace Ref40
open Cert.Reference40Ideal Cert.Reference40Ideal.Gen Cert.Reference40Ideal.Read

variable (r : FVec Ideal S8x128x1024 .bf16) (w m v p : FVec Ideal S2x128x1024 .f32)

theorem gr (i : Fin 128) (j : Fin 1024) : val_main_v1 (F := Ideal) r (ix2 i j) = grads (n := 2) (R := 128) (L := 1024) r (ix3 0 i j) := by
  pointwise [val_main_v1, val_main_v0, val_main_cst]
  rfl

theorem lay (e : FVec Ideal S128x1024 .f32) (h) (i : Fin 128) (j : Fin 1024) : broadcastInDim S1x128x1024 ![1, 2] h e (ix3 0 i j) = e (ix2 i j) :=
  broadcastInDim_apply _ _ _ _ (ix2 i j) fun b => by match b with | 0 => rfl | 1 => rfl

theorem g : val_main_v34 (F := Ideal) r p = upd (grads (n := 2) (R := 128) (L := 1024) r) p := stack p _ _ _ _ fun i j => (lay _ _ i j).trans (gr r i j)
theorem st : val_main_v37 (F := Ideal) r w m v p = upd (steps (n := 2) (R := 128) (L := 1024) r w m v) p := stack p _ _ _ _ fun i j => by
  refine (lay _ _ i j).trans ((rstp_apply bcast_S_S128x1024 (val_main_v1 (F := Ideal) r) (val_main_v3 (F := Ideal) w) (val_main_v5 (F := Ideal) m) (val_main_v7 (F := Ideal) v) _).trans ?_)
  rw [gr, show val_main_v3 (F := Ideal) w (ix2 i j) = _ from first w _ _ i j, show val_main_v5 (F := Ideal) m (ix2 i j) = _ from first m _ _ i j, show val_main_v7 (F := Ideal) v (ix2 i j) = _ from first v _ _ i j]
  rfl
theorem mo : val_main_v40 (F := Ideal) r m p = upd (moms (n := 2) (R := 128) (L := 1024) r m) p := stack p _ _ _ _ fun i j => by
  refine (lay _ _ i j).trans ((rmom_apply bcast_S_S128x1024 (val_main_v1 (F := Ideal) r) (val_main_v5 (F := Ideal) m) _).trans ?_)
  rw [gr, show val_main_v5 (F := Ideal) m (ix2 i j) = _ from first m _ _ i j]
  rfl
theorem ve : val_main_v43 (F := Ideal) r v p = upd (vels (n := 2) (R := 128) (L := 1024) r v) p := stack p _ _ _ _ fun i j => by
  refine (lay _ _ i j).trans ((rvel_apply bcast_S_S128x1024 (val_main_v1 (F := Ideal) r) (val_main_v7 (F := Ideal) v) _).trans ?_)
  rw [gr, show val_main_v7 (F := Ideal) v (ix2 i j) = _ from first v _ _ i j]
  rfl

end Ref40

theorem agree40 : Cert.algebraic_Kernel40Ideal_Reference40Ideal (hKernel40Ideal := Cert.Kernel40Ideal.Gen.facts)
    (hReference40Ideal := Cert.Reference40Ideal.Gen.facts) := by
  intro m g m' g' _ hag
  refine ⟨fun c => Cert.Kernel40Ideal.Adam.s4 m c, fun c => Cert.Kernel40Ideal.Adam.s5 m c, fun c => Cert.Kernel40Ideal.Adam.s6 m c, fun c => Cert.Kernel40Ideal.Adam.s7 m c, ?_, ?_⟩
  · refine (θ_run Cert.Kernel40Ideal.defs _ _).mono (fun r h c => ?_) (Cert.Kernel40Ideal.Value.run_blocks m g)
    obtain ⟨h4, h5, h6, h7, hargs⟩ := h c
    exact ⟨h4.trans (Cert.Kernel40Ideal.Adam.arr4 m c), h5.trans (Cert.Kernel40Ideal.Adam.arr5 m c), h6.trans (Cert.Kernel40Ideal.Adam.arr6 m c), h7.trans (Cert.Kernel40Ideal.Adam.arr7 m c), hargs⟩
  · refine (θ_run Cert.Reference40Ideal.defs _ _).mono (fun r h c => ?_) (Cert.Reference40Ideal.Value.run (F := Ideal) m' g')
    obtain ⟨a0, a1, a2, a3, a4, a5, a6, a7⟩ := hag c
    obtain ⟨r0, r1, r2, r3, hargs⟩ := h c
    rw [Cert.Reference40Ideal.Read.val_main_v34_eq, Ref40.g , a0, a4] at r0
    rw [Cert.Reference40Ideal.Read.val_main_v37_eq, Ref40.st , a0, a1, a2, a3, a5] at r1
    rw [Cert.Reference40Ideal.Read.val_main_v40_eq, Ref40.mo , a0, a2, a6] at r2
    rw [Cert.Reference40Ideal.Read.val_main_v43_eq, Ref40.ve , a0, a3, a7] at r3
    exact ⟨r0, r1, r2, r3, hargs⟩

end Cert.AdamLayer

end
-- ==== Proof.AdamMemKv.lean ====
/- The update of the first layer of `w_mem_kv`. -/
module

public import proofs.«01_k».proof.Proof.AdamLayer
public import proofs.«01_k».proof.Proof.Gen.Kernel41Ideal.Value
public import proofs.«01_k».proof.Proof.Gen.Reference41Ideal.Read

@[expose] public section

set_option maxRecDepth 16384

noncomputable section

namespace Cert.Kernel41Ideal.Adam

open Idealize.ShloMosaic Idealize.ShloMosaic.TcCoe Idealize.ShloMosaic.Tactic Cert.Kernel41Ideal Cert.Kernel41Ideal.Gen Cert.Adam Cert.AdamLayer

variable (x0 : Vec Ideal S8x128x512 .bf16) (x1 x2 x3 : Vec Ideal S1x128x512 .f32)

theorem sum8 (u0 u1 u2 u3 u4 u5 u6 u7 : Vec Ideal S1x128x512 .bf16) (i : Fin 128) (j : Fin 512) :
    k0_pay3 u0 u1 u2 u3 u4 u5 u6 u7 (ix2 i j) = u0 (ix3 0 i j) + u1 (ix3 0 i j) + u2 (ix3 0 i j) + u3 (ix3 0 i j) + u4 (ix3 0 i j) + u5 (ix3 0 i j) + u6 (ix3 0 i j) + u7 (ix3 0 i j) := by
  pointwise [k0_pay3]

/-- The parts, loaded and summed. -/
theorem pay3 (p0 p1 p2 p3 p4 p5 p6 p7) : k0_pay3 (F := Ideal) (ldPart x0 0 p0) (ldPart x0 1 p1) (ldPart x0 2 p2) (ldPart x0 3 p3) (ldPart x0 4 p4) (ldPart x0 5 p5) (ldPart x0 6 p6) (ldPart x0 7 p7) = tot x0 := by
  funext y
  obtain ⟨i, j, rfl⟩ := Cert.Prod.two y
  rw [sum8, part x0 0 (by decide), part x0 1 (by decide), part x0 2 (by decide), part x0 3 (by decide), part x0 4 (by decide), part x0 5 (by decide), part x0 6 (by decide), part x0 7 (by decide)]
  exact (Fin.sum_univ_eight (M := EReal) fun s : Fin 8 => x0 (ix3 s i j)).symm

section
variable (c : Dev nD) (i : grid0.Coords) (a1 : Memref sig .tc .vmem S8x128x512 .bf16) (h1 : a1.IsWhole) (a2 : Memref sig .tc .vmem S1x128x512 .f32) (h2 : a2.IsWhole) (a3 : Memref sig .tc .vmem S1x128x512 .f32) (h3 : a3.IsWhole) (a4 : Memref sig .tc .vmem S1x128x512 .f32) (h4 : a4.IsWhole) (a9 : Memref sig .tc .vmem S1x128x512 .f32) (h9 : a9.IsWhole) (a10 : Memref sig .tc .vmem S1x128x512 .f32) (h10 : a10.IsWhole) (a11 : Memref sig .tc .vmem S1x128x512 .f32) (h11 : a11.IsWhole) (a12 : Memref sig .tc .vmem S1x128x512 .f32) (h12 : a12.IsWhole)

/-- What the body stores. -/
theorem out4 :
    out0_A_4 c i a1 h1 a2 h2 a3 h3 a4 h4 a9 h9 a10 h10 a11 h11 a12 h12 x0 x1 x2 x3 = k0_pay6 (tot x0) := by
  unfold out0_A_4
  rw [View.read_writes_junk_eq_canon VO0_4]
  unfold kernelRun0_A; dsimp only; sl_unfold_words
  simp only [View.readAt_eq_ld, h1.read_unread, h2.read_unread, h3.read_unread, h4.read_unread]
  rw [View.canon_unit_zero hz3, pay3]
theorem out5 :
    out0_A_5 c i a1 h1 a2 h2 a3 h3 a4 h4 a9 h9 a10 h10 a11 h11 a12 h12 x0 x1 x2 x3 = k0_pay7 (tot x0) x2 x3 x1 := by
  unfold out0_A_5
  rw [View.read_writes_junk_eq_canon VO0_5]
  unfold kernelRun0_A; dsimp only; sl_unfold_words
  simp only [View.readAt_eq_ld, h1.read_unread, h2.read_unread, h3.read_unread, h4.read_unread]
  rw [View.canon_unit_zero hz3, pay3, whole, whole, whole]
theorem out6 :
    out0_A_6 c i a1 h1 a2 h2 a3 h3 a4 h4 a9 h9 a10 h10 a11 h11 a12 h12 x0 x1 x2 x3 = k0_pay1 (k0_pay4 (tot x0) x2) := by
  unfold out0_A_6
  rw [View.read_writes_junk_eq_canon VO0_6]
  unfold kernelRun0_A; dsimp only; sl_unfold_words
  simp only [View.readAt_eq_ld, h1.read_unread, h2.read_unread, h3.read_unread, h4.read_unread]
  rw [View.canon_unit_zero hz3, pay3, whole]
theorem out7 :
    out0_A_7 c i a1 h1 a2 h2 a3 h3 a4 h4 a9 h9 a10 h10 a11 h11 a12 h12 x0 x1 x2 x3 = k0_pay2 (k0_pay5 (tot x0) x3) := by
  unfold out0_A_7
  rw [View.read_writes_junk_eq_canon VO0_7]
  unfold kernelRun0_A; dsimp only; sl_unfold_words
  simp only [View.readAt_eq_ld, h1.read_unread, h2.read_unread, h3.read_unread, h4.read_unread]
  rw [View.canon_unit_zero hz3, pay3, whole]

end

theorem val4 (g : FVec Ideal ⟨2, ![128, 512]⟩ .f32) (i : Fin 128) (j : Fin 512) : k0_pay6 g (ix3 0 i j) = g (ix2 i j) := by
  pointwise [k0_pay6]
theorem val5 (g : FVec Ideal ⟨2, ![128, 512]⟩ .f32) (i : Fin 128) (j : Fin 512) :
    k0_pay7 g x2 x3 x1 (ix3 0 i j) = stp (x1 (ix3 0 i j)) (x2 (ix3 0 i j)) (x3 (ix3 0 i j)) (g (ix2 i j)) := by
  pointwise [k0_pay7, k0_pay4, k0_pay5]
  rfl
theorem val6 (g : FVec Ideal ⟨2, ![128, 512]⟩ .f32) (i : Fin 128) (j : Fin 512) : k0_pay1 (k0_pay4 g x2) (ix3 0 i j) = mom (x2 (ix3 0 i j)) (g (ix2 i j)) := by
  pointwise [k0_pay1, k0_pay4]
  rfl
theorem val7 (g : FVec Ideal ⟨2, ![128, 512]⟩ .f32) (i : Fin 128) (j : Fin 512) : k0_pay2 (k0_pay5 g x3) (ix3 0 i j) = vel (x3 (ix3 0 i j)) (g (ix2 i j)) := by
  pointwise [k0_pay2, k0_pay5]
  rfl

theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] := by
  decide +kernel

variable (m : (ℓ : Loc nD τ sig) → Buf (Elt Ideal) ℓ) (c : Dev nD)

/-- The gradient's parts, the parameters, the two running means and the arrays written over. -/
abbrev b0 : FVec Ideal S8x128x512 .bf16 := m ((c.tc : Thread nD τ).loc main_arg0)
abbrev b1 : FVec Ideal S4x128x512 .f32 := m ((c.tc : Thread nD τ).loc main_arg1)
abbrev b2 : FVec Ideal S4x128x512 .f32 := m ((c.tc : Thread nD τ).loc main_arg2)
abbrev b3 : FVec Ideal S4x128x512 .f32 := m ((c.tc : Thread nD τ).loc main_arg3)
abbrev b4 : FVec Ideal S4x128x512 .f32 := m ((c.tc : Thread nD τ).loc main_arg4)
abbrev b5 : FVec Ideal S4x128x512 .f32 := m ((c.tc : Thread nD τ).loc main_arg5)
abbrev b6 : FVec Ideal S4x128x512 .f32 := m ((c.tc : Thread nD τ).loc main_arg6)
abbrev b7 : FVec Ideal S4x128x512 .f32 := m ((c.tc : Thread nD τ).loc main_arg7)

/-- What a point leaves. -/
theorem outs (t : Fin cfg0.N) :
    (outsAt0 m c t).1 = k0_pay6 (F := Ideal) (tot (iblk m c 0 t)) ∧ (outsAt0 m c t).2.1 = k0_pay7 (F := Ideal) (tot (iblk m c 0 t)) (iblk m c 2 t) (iblk m c 3 t) (iblk m c 1 t)
    ∧ (outsAt0 m c t).2.2.1 = k0_pay1 (F := Ideal) (k0_pay4 (F := Ideal) (tot (iblk m c 0 t)) (iblk m c 2 t))
    ∧ (outsAt0 m c t).2.2.2 = k0_pay2 (F := Ideal) (k0_pay5 (F := Ideal) (tot (iblk m c 0 t)) (iblk m c 3 t)) := by
  unfold outsAt0
  refine ⟨?_, ?_, ?_, ?_⟩
  · rw [out4]
  · rw [out5]
  · rw [out6]
  · rw [out7]

/-- A block's row among all rows. -/
def row (t : Fin cfg0.N) (i : Fin 128) : Fin 128 := ⟨t.val * 128 + i.val, by have := t.isLt; have hN : cfg0.N = 1 := N_0; omega⟩

theorem e0 (t : Fin cfg0.N) (s : Fin 8) (i : Fin 128) (j : Fin 512) : (iblk m c 0 t : Vec Ideal S8x128x512 .bf16) (ix3 s i j) = b0 m c (ix3 s (row t i) j) := by
  obtain ⟨h, -⟩ := idx t
  blk_ext [iblk, h, row]
theorem e1 (t : Fin cfg0.N) (i : Fin 128) (j : Fin 512) : (iblk m c 1 t : Vec Ideal S1x128x512 .f32) (ix3 0 i j) = b1 m c (ix3 (0 : Fin 4) (row t i) j) := by
  obtain ⟨-, h, -⟩ := idx t
  blk_ext [iblk, h, row]
theorem e2 (t : Fin cfg0.N) (i : Fin 128) (j : Fin 512) : (iblk m c 2 t : Vec Ideal S1x128x512 .f32) (ix3 0 i j) = b2 m c (ix3 (0 : Fin 4) (row t i) j) := by
  obtain ⟨-, -, h, -⟩ := idx t
  blk_ext [iblk, h, row]
theorem e3 (t : Fin cfg0.N) (i : Fin 128) (j : Fin 512) : (iblk m c 3 t : Vec Ideal S1x128x512 .f32) (ix3 0 i j) = b3 m c (ix3 (0 : Fin 4) (row t i) j) := by
  obtain ⟨-, -, -, h, -⟩ := idx t
  blk_ext [iblk, h, row]

theorem sums (t : Fin cfg0.N) (i : Fin 128) (j : Fin 512) : tot (iblk m c 0 t : Vec Ideal S8x128x512 .bf16) (ix2 i j) = grads (n := 4) (R := 128) (L := 512) (b0 m c) (ix3 0 (row t i) j) :=
  Finset.sum_congr (M := EReal) rfl fun s _ => e0 m c t s i j

/-- The four arrays. -/
abbrev s4 : FVec Ideal S4x128x512 .f32 := upd (grads (n := 4) (R := 128) (L := 512) (b0 m c)) (b4 m c)
abbrev s5 : FVec Ideal S4x128x512 .f32 := upd (steps (n := 4) (R := 128) (L := 512) (b0 m c) (b1 m c) (b2 m c) (b3 m c)) (b5 m c)
abbrev s6 : FVec Ideal S4x128x512 .f32 := upd (moms (n := 4) (R := 128) (L := 512) (b0 m c) (b2 m c)) (b6 m c)
abbrev s7 : FVec Ideal S4x128x512 .f32 := upd (vels (n := 4) (R := 128) (L := 512) (b0 m c) (b3 m c)) (b7 m c)
theorem arr4 : ((dats m 0 c).arrAt 4 cfg0.N : FVec Ideal S4x128x512 .f32) = s4 m c := by
  refine (dats m 0 c).arrAt_eq_of_coversWhere_of_agree 4 _ (fun β => β (0 : Fin 3) = 0) (by decide +kernel) (fun t hf y => ?_) (fun j hj => ?_)
  · obtain ⟨-, -, -, -, h, -⟩ := idx t
    show (dats m 0 c).after 4 t y = _
    rw [after0_4]
    obtain ⟨i, j, rfl⟩ := one3 y
    rw [(outs m c t).1, val4, sums]
    refine (upd_new _ (b4 m c) (ix3 0 (row t i) j) rfl).symm.trans (congrArg (s4 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b4 m c) j hj').symm
    exact congrFun (show StableHlo.after hostOps0 (fun b => m (c, b)) (Proc.devRef .tc main_v0_0) = m (c, Proc.devRef .tc main_arg4) by after_results; rfl) j

theorem arr5 : ((dats m 0 c).arrAt 5 cfg0.N : FVec Ideal S4x128x512 .f32) = s5 m c := by
  refine (dats m 0 c).arrAt_eq_of_coversWhere_of_agree 5 _ (fun β => β (0 : Fin 3) = 0) (by decide +kernel) (fun t hf y => ?_) (fun j hj => ?_)
  · obtain ⟨-, -, -, -, -, h, -⟩ := idx t
    show (dats m 0 c).after 5 t y = _
    rw [after0_5]
    obtain ⟨i, j, rfl⟩ := one3 y
    rw [(outs m c t).2.1, val5, sums, e1, e2, e3]
    refine (upd_new _ (b5 m c) (ix3 0 (row t i) j) rfl).symm.trans (congrArg (s5 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b5 m c) j hj').symm
    exact congrFun (show StableHlo.after hostOps0 (fun b => m (c, b)) (Proc.devRef .tc main_v0_1) = m (c, Proc.devRef .tc main_arg5) by after_results; rfl) j

theorem arr6 : ((dats m 0 c).arrAt 6 cfg0.N : FVec Ideal S4x128x512 .f32) = s6 m c := by
  refine (dats m 0 c).arrAt_eq_of_coversWhere_of_agree 6 _ (fun β => β (0 : Fin 3) = 0) (by decide +kernel) (fun t hf y => ?_) (fun j hj => ?_)
  · obtain ⟨-, -, -, -, -, -, h, -⟩ := idx t
    show (dats m 0 c).after 6 t y = _
    rw [after0_6]
    obtain ⟨i, j, rfl⟩ := one3 y
    rw [(outs m c t).2.2.1, val6, sums, e2]
    refine (upd_new _ (b6 m c) (ix3 0 (row t i) j) rfl).symm.trans (congrArg (s6 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b6 m c) j hj').symm
    exact congrFun (show StableHlo.after hostOps0 (fun b => m (c, b)) (Proc.devRef .tc main_v0_2) = m (c, Proc.devRef .tc main_arg6) by after_results; rfl) j

theorem arr7 : ((dats m 0 c).arrAt 7 cfg0.N : FVec Ideal S4x128x512 .f32) = s7 m c := by
  refine (dats m 0 c).arrAt_eq_of_coversWhere_of_agree 7 _ (fun β => β (0 : Fin 3) = 0) (by decide +kernel) (fun t hf y => ?_) (fun j hj => ?_)
  · obtain ⟨-, -, -, -, -, -, -, h⟩ := idx t
    show (dats m 0 c).after 7 t y = _
    rw [after0_7]
    obtain ⟨i, j, rfl⟩ := one3 y
    rw [(outs m c t).2.2.2, val7, sums, e3]
    refine (upd_new _ (b7 m c) (ix3 0 (row t i) j) rfl).symm.trans (congrArg (s7 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b7 m c) j hj').symm
    exact congrFun (show StableHlo.after hostOps0 (fun b => m (c, b)) (Proc.devRef .tc main_v0_3) = m (c, Proc.devRef .tc main_arg7) by after_results; rfl) j

end Cert.Kernel41Ideal.Adam

namespace Cert.AdamLayer

open Idealize.ShloMosaic Idealize.ShloMosaic.TcCoe Idealize.ShloMosaic.Tactic Idealize.SL.Sem Cert.Adam

namespace Ref41
open Cert.Reference41Ideal Cert.Reference41Ideal.Gen Cert.Reference41Ideal.Read

variable (r : FVec Ideal S8x128x512 .bf16) (w m v p : FVec Ideal S4x128x512 .f32)

theorem gr (i : Fin 128) (j : Fin 512) : val_main_v1 (F := Ideal) r (ix2 i j) = grads (n := 4) (R := 128) (L := 512) r (ix3 0 i j) := by
  pointwise [val_main_v1, val_main_v0, val_main_cst]
  rfl

theorem lay (e : FVec Ideal S128x512 .f32) (h) (i : Fin 128) (j : Fin 512) : broadcastInDim S1x128x512 ![1, 2] h e (ix3 0 i j) = e (ix2 i j) :=
  broadcastInDim_apply _ _ _ _ (ix2 i j) fun b => by match b with | 0 => rfl | 1 => rfl

theorem g : val_main_v34 (F := Ideal) r p = upd (grads (n := 4) (R := 128) (L := 512) r) p := stack p _ _ _ _ fun i j => (lay _ _ i j).trans (gr r i j)
theorem st : val_main_v37 (F := Ideal) r w m v p = upd (steps (n := 4) (R := 128) (L := 512) r w m v) p := stack p _ _ _ _ fun i j => by
  refine (lay _ _ i j).trans ((rstp_apply bcast_S_S128x512 (val_main_v1 (F := Ideal) r) (val_main_v3 (F := Ideal) w) (val_main_v5 (F := Ideal) m) (val_main_v7 (F := Ideal) v) _).trans ?_)
  rw [gr, show val_main_v3 (F := Ideal) w (ix2 i j) = _ from first w _ _ i j, show val_main_v5 (F := Ideal) m (ix2 i j) = _ from first m _ _ i j, show val_main_v7 (F := Ideal) v (ix2 i j) = _ from first v _ _ i j]
  rfl
theorem mo : val_main_v40 (F := Ideal) r m p = upd (moms (n := 4) (R := 128) (L := 512) r m) p := stack p _ _ _ _ fun i j => by
  refine (lay _ _ i j).trans ((rmom_apply bcast_S_S128x512 (val_main_v1 (F := Ideal) r) (val_main_v5 (F := Ideal) m) _).trans ?_)
  rw [gr, show val_main_v5 (F := Ideal) m (ix2 i j) = _ from first m _ _ i j]
  rfl
theorem ve : val_main_v43 (F := Ideal) r v p = upd (vels (n := 4) (R := 128) (L := 512) r v) p := stack p _ _ _ _ fun i j => by
  refine (lay _ _ i j).trans ((rvel_apply bcast_S_S128x512 (val_main_v1 (F := Ideal) r) (val_main_v7 (F := Ideal) v) _).trans ?_)
  rw [gr, show val_main_v7 (F := Ideal) v (ix2 i j) = _ from first v _ _ i j]
  rfl

end Ref41

theorem agree41 : Cert.algebraic_Kernel41Ideal_Reference41Ideal (hKernel41Ideal := Cert.Kernel41Ideal.Gen.facts)
    (hReference41Ideal := Cert.Reference41Ideal.Gen.facts) := by
  intro m g m' g' _ hag
  refine ⟨fun c => Cert.Kernel41Ideal.Adam.s4 m c, fun c => Cert.Kernel41Ideal.Adam.s5 m c, fun c => Cert.Kernel41Ideal.Adam.s6 m c, fun c => Cert.Kernel41Ideal.Adam.s7 m c, ?_, ?_⟩
  · refine (θ_run Cert.Kernel41Ideal.defs _ _).mono (fun r h c => ?_) (Cert.Kernel41Ideal.Value.run_blocks m g)
    obtain ⟨h4, h5, h6, h7, hargs⟩ := h c
    exact ⟨h4.trans (Cert.Kernel41Ideal.Adam.arr4 m c), h5.trans (Cert.Kernel41Ideal.Adam.arr5 m c), h6.trans (Cert.Kernel41Ideal.Adam.arr6 m c), h7.trans (Cert.Kernel41Ideal.Adam.arr7 m c), hargs⟩
  · refine (θ_run Cert.Reference41Ideal.defs _ _).mono (fun r h c => ?_) (Cert.Reference41Ideal.Value.run (F := Ideal) m' g')
    obtain ⟨a0, a1, a2, a3, a4, a5, a6, a7⟩ := hag c
    obtain ⟨r0, r1, r2, r3, hargs⟩ := h c
    rw [Cert.Reference41Ideal.Read.val_main_v34_eq, Ref41.g , a0, a4] at r0
    rw [Cert.Reference41Ideal.Read.val_main_v37_eq, Ref41.st , a0, a1, a2, a3, a5] at r1
    rw [Cert.Reference41Ideal.Read.val_main_v40_eq, Ref41.mo , a0, a2, a6] at r2
    rw [Cert.Reference41Ideal.Read.val_main_v43_eq, Ref41.ve , a0, a3, a7] at r3
    exact ⟨r0, r1, r2, r3, hargs⟩

end Cert.AdamLayer

end
-- ==== Proof.AdamOut.lean ====
/- The update of the first layer of `w_out`. -/
module

public import proofs.«01_k».proof.Proof.AdamLayer
public import proofs.«01_k».proof.Proof.Gen.Kernel42Ideal.Value
public import proofs.«01_k».proof.Proof.Gen.Reference42Ideal.Read

@[expose] public section

set_option maxRecDepth 16384

noncomputable section

namespace Cert.Kernel42Ideal.Adam

open Idealize.ShloMosaic Idealize.ShloMosaic.TcCoe Idealize.ShloMosaic.Tactic Cert.Kernel42Ideal Cert.Kernel42Ideal.Gen Cert.Adam Cert.AdamLayer

variable (x0 : Vec Ideal S8x128x1024 .bf16) (x1 x2 x3 : Vec Ideal S1x128x1024 .f32)

theorem sum8 (u0 u1 u2 u3 u4 u5 u6 u7 : Vec Ideal S1x128x1024 .bf16) (i : Fin 128) (j : Fin 1024) :
    k0_pay3 u0 u1 u2 u3 u4 u5 u6 u7 (ix2 i j) = u0 (ix3 0 i j) + u1 (ix3 0 i j) + u2 (ix3 0 i j) + u3 (ix3 0 i j) + u4 (ix3 0 i j) + u5 (ix3 0 i j) + u6 (ix3 0 i j) + u7 (ix3 0 i j) := by
  pointwise [k0_pay3]

/-- The parts, loaded and summed. -/
theorem pay3 (p0 p1 p2 p3 p4 p5 p6 p7) : k0_pay3 (F := Ideal) (ldPart x0 0 p0) (ldPart x0 1 p1) (ldPart x0 2 p2) (ldPart x0 3 p3) (ldPart x0 4 p4) (ldPart x0 5 p5) (ldPart x0 6 p6) (ldPart x0 7 p7) = tot x0 := by
  funext y
  obtain ⟨i, j, rfl⟩ := Cert.Prod.two y
  rw [sum8, part x0 0 (by decide), part x0 1 (by decide), part x0 2 (by decide), part x0 3 (by decide), part x0 4 (by decide), part x0 5 (by decide), part x0 6 (by decide), part x0 7 (by decide)]
  exact (Fin.sum_univ_eight (M := EReal) fun s : Fin 8 => x0 (ix3 s i j)).symm

section
variable (c : Dev nD) (i : grid0.Coords) (a1 : Memref sig .tc .vmem S8x128x1024 .bf16) (h1 : a1.IsWhole) (a2 : Memref sig .tc .vmem S1x128x1024 .f32) (h2 : a2.IsWhole) (a3 : Memref sig .tc .vmem S1x128x1024 .f32) (h3 : a3.IsWhole) (a4 : Memref sig .tc .vmem S1x128x1024 .f32) (h4 : a4.IsWhole) (a9 : Memref sig .tc .vmem S1x128x1024 .f32) (h9 : a9.IsWhole) (a10 : Memref sig .tc .vmem S1x128x1024 .f32) (h10 : a10.IsWhole) (a11 : Memref sig .tc .vmem S1x128x1024 .f32) (h11 : a11.IsWhole) (a12 : Memref sig .tc .vmem S1x128x1024 .f32) (h12 : a12.IsWhole)

/-- What the body stores. -/
theorem out4 :
    out0_A_4 c i a1 h1 a2 h2 a3 h3 a4 h4 a9 h9 a10 h10 a11 h11 a12 h12 x0 x1 x2 x3 = k0_pay6 (tot x0) := by
  unfold out0_A_4
  rw [View.read_writes_junk_eq_canon VO0_4]
  unfold kernelRun0_A; dsimp only; sl_unfold_words
  simp only [View.readAt_eq_ld, h1.read_unread, h2.read_unread, h3.read_unread, h4.read_unread]
  rw [View.canon_unit_zero hz3, pay3]
theorem out5 :
    out0_A_5 c i a1 h1 a2 h2 a3 h3 a4 h4 a9 h9 a10 h10 a11 h11 a12 h12 x0 x1 x2 x3 = k0_pay7 (tot x0) x2 x3 x1 := by
  unfold out0_A_5
  rw [View.read_writes_junk_eq_canon VO0_5]
  unfold kernelRun0_A; dsimp only; sl_unfold_words
  simp only [View.readAt_eq_ld, h1.read_unread, h2.read_unread, h3.read_unread, h4.read_unread]
  rw [View.canon_unit_zero hz3, pay3, whole, whole, whole]
theorem out6 :
    out0_A_6 c i a1 h1 a2 h2 a3 h3 a4 h4 a9 h9 a10 h10 a11 h11 a12 h12 x0 x1 x2 x3 = k0_pay1 (k0_pay4 (tot x0) x2) := by
  unfold out0_A_6
  rw [View.read_writes_junk_eq_canon VO0_6]
  unfold kernelRun0_A; dsimp only; sl_unfold_words
  simp only [View.readAt_eq_ld, h1.read_unread, h2.read_unread, h3.read_unread, h4.read_unread]
  rw [View.canon_unit_zero hz3, pay3, whole]
theorem out7 :
    out0_A_7 c i a1 h1 a2 h2 a3 h3 a4 h4 a9 h9 a10 h10 a11 h11 a12 h12 x0 x1 x2 x3 = k0_pay2 (k0_pay5 (tot x0) x3) := by
  unfold out0_A_7
  rw [View.read_writes_junk_eq_canon VO0_7]
  unfold kernelRun0_A; dsimp only; sl_unfold_words
  simp only [View.readAt_eq_ld, h1.read_unread, h2.read_unread, h3.read_unread, h4.read_unread]
  rw [View.canon_unit_zero hz3, pay3, whole]

end

theorem val4 (g : FVec Ideal ⟨2, ![128, 1024]⟩ .f32) (i : Fin 128) (j : Fin 1024) : k0_pay6 g (ix3 0 i j) = g (ix2 i j) := by
  pointwise [k0_pay6]
theorem val5 (g : FVec Ideal ⟨2, ![128, 1024]⟩ .f32) (i : Fin 128) (j : Fin 1024) :
    k0_pay7 g x2 x3 x1 (ix3 0 i j) = stp (x1 (ix3 0 i j)) (x2 (ix3 0 i j)) (x3 (ix3 0 i j)) (g (ix2 i j)) := by
  pointwise [k0_pay7, k0_pay4, k0_pay5]
  rfl
theorem val6 (g : FVec Ideal ⟨2, ![128, 1024]⟩ .f32) (i : Fin 128) (j : Fin 1024) : k0_pay1 (k0_pay4 g x2) (ix3 0 i j) = mom (x2 (ix3 0 i j)) (g (ix2 i j)) := by
  pointwise [k0_pay1, k0_pay4]
  rfl
theorem val7 (g : FVec Ideal ⟨2, ![128, 1024]⟩ .f32) (i : Fin 128) (j : Fin 1024) : k0_pay2 (k0_pay5 g x3) (ix3 0 i j) = vel (x3 (ix3 0 i j)) (g (ix2 i j)) := by
  pointwise [k0_pay2, k0_pay5]
  rfl

theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] := by
  decide +kernel

variable (m : (ℓ : Loc nD τ sig) → Buf (Elt Ideal) ℓ) (c : Dev nD)

/-- The gradient's parts, the parameters, the two running means and the arrays written over. -/
abbrev b0 : FVec Ideal S8x128x1024 .bf16 := m ((c.tc : Thread nD τ).loc main_arg0)
abbrev b1 : FVec Ideal S4x128x1024 .f32 := m ((c.tc : Thread nD τ).loc main_arg1)
abbrev b2 : FVec Ideal S4x128x1024 .f32 := m ((c.tc : Thread nD τ).loc main_arg2)
abbrev b3 : FVec Ideal S4x128x1024 .f32 := m ((c.tc : Thread nD τ).loc main_arg3)
abbrev b4 : FVec Ideal S4x128x1024 .f32 := m ((c.tc : Thread nD τ).loc main_arg4)
abbrev b5 : FVec Ideal S4x128x1024 .f32 := m ((c.tc : Thread nD τ).loc main_arg5)
abbrev b6 : FVec Ideal S4x128x1024 .f32 := m ((c.tc : Thread nD τ).loc main_arg6)
abbrev b7 : FVec Ideal S4x128x1024 .f32 := m ((c.tc : Thread nD τ).loc main_arg7)

/-- What a point leaves. -/
theorem outs (t : Fin cfg0.N) :
    (outsAt0 m c t).1 = k0_pay6 (F := Ideal) (tot (iblk m c 0 t)) ∧ (outsAt0 m c t).2.1 = k0_pay7 (F := Ideal) (tot (iblk m c 0 t)) (iblk m c 2 t) (iblk m c 3 t) (iblk m c 1 t)
    ∧ (outsAt0 m c t).2.2.1 = k0_pay1 (F := Ideal) (k0_pay4 (F := Ideal) (tot (iblk m c 0 t)) (iblk m c 2 t))
    ∧ (outsAt0 m c t).2.2.2 = k0_pay2 (F := Ideal) (k0_pay5 (F := Ideal) (tot (iblk m c 0 t)) (iblk m c 3 t)) := by
  unfold outsAt0
  refine ⟨?_, ?_, ?_, ?_⟩
  · rw [out4]
  · rw [out5]
  · rw [out6]
  · rw [out7]

/-- A block's row among all rows. -/
def row (t : Fin cfg0.N) (i : Fin 128) : Fin 128 := ⟨t.val * 128 + i.val, by have := t.isLt; have hN : cfg0.N = 1 := N_0; omega⟩

theorem e0 (t : Fin cfg0.N) (s : Fin 8) (i : Fin 128) (j : Fin 1024) : (iblk m c 0 t : Vec Ideal S8x128x1024 .bf16) (ix3 s i j) = b0 m c (ix3 s (row t i) j) := by
  obtain ⟨h, -⟩ := idx t
  blk_ext [iblk, h, row]
theorem e1 (t : Fin cfg0.N) (i : Fin 128) (j : Fin 1024) : (iblk m c 1 t : Vec Ideal S1x128x1024 .f32) (ix3 0 i j) = b1 m c (ix3 (0 : Fin 4) (row t i) j) := by
  obtain ⟨-, h, -⟩ := idx t
  blk_ext [iblk, h, row]
theorem e2 (t : Fin cfg0.N) (i : Fin 128) (j : Fin 1024) : (iblk m c 2 t : Vec Ideal S1x128x1024 .f32) (ix3 0 i j) = b2 m c (ix3 (0 : Fin 4) (row t i) j) := by
  obtain ⟨-, -, h, -⟩ := idx t
  blk_ext [iblk, h, row]
theorem e3 (t : Fin cfg0.N) (i : Fin 128) (j : Fin 1024) : (iblk m c 3 t : Vec Ideal S1x128x1024 .f32) (ix3 0 i j) = b3 m c (ix3 (0 : Fin 4) (row t i) j) := by
  obtain ⟨-, -, -, h, -⟩ := idx t
  blk_ext [iblk, h, row]

theorem sums (t : Fin cfg0.N) (i : Fin 128) (j : Fin 1024) : tot (iblk m c 0 t : Vec Ideal S8x128x1024 .bf16) (ix2 i j) = grads (n := 4) (R := 128) (L := 1024) (b0 m c) (ix3 0 (row t i) j) :=
  Finset.sum_congr (M := EReal) rfl fun s _ => e0 m c t s i j

/-- The four arrays. -/
abbrev s4 : FVec Ideal S4x128x1024 .f32 := upd (grads (n := 4) (R := 128) (L := 1024) (b0 m c)) (b4 m c)
abbrev s5 : FVec Ideal S4x128x1024 .f32 := upd (steps (n := 4) (R := 128) (L := 1024) (b0 m c) (b1 m c) (b2 m c) (b3 m c)) (b5 m c)
abbrev s6 : FVec Ideal S4x128x1024 .f32 := upd (moms (n := 4) (R := 128) (L := 1024) (b0 m c) (b2 m c)) (b6 m c)
abbrev s7 : FVec Ideal S4x128x1024 .f32 := upd (vels (n := 4) (R := 128) (L := 1024) (b0 m c) (b3 m c)) (b7 m c)
theorem arr4 : ((dats m 0 c).arrAt 4 cfg0.N : FVec Ideal S4x128x1024 .f32) = s4 m c := by
  refine (dats m 0 c).arrAt_eq_of_coversWhere_of_agree 4 _ (fun β => β (0 : Fin 3) = 0) (by decide +kernel) (fun t hf y => ?_) (fun j hj => ?_)
  · obtain ⟨-, -, -, -, h, -⟩ := idx t
    show (dats m 0 c).after 4 t y = _
    rw [after0_4]
    obtain ⟨i, j, rfl⟩ := one3 y
    rw [(outs m c t).1, val4, sums]
    refine (upd_new _ (b4 m c) (ix3 0 (row t i) j) rfl).symm.trans (congrArg (s4 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b4 m c) j hj').symm
    exact congrFun (show StableHlo.after hostOps0 (fun b => m (c, b)) (Proc.devRef .tc main_v0_0) = m (c, Proc.devRef .tc main_arg4) by after_results; rfl) j

theorem arr5 : ((dats m 0 c).arrAt 5 cfg0.N : FVec Ideal S4x128x1024 .f32) = s5 m c := by
  refine (dats m 0 c).arrAt_eq_of_coversWhere_of_agree 5 _ (fun β => β (0 : Fin 3) = 0) (by decide +kernel) (fun t hf y => ?_) (fun j hj => ?_)
  · obtain ⟨-, -, -, -, -, h, -⟩ := idx t
    show (dats m 0 c).after 5 t y = _
    rw [after0_5]
    obtain ⟨i, j, rfl⟩ := one3 y
    rw [(outs m c t).2.1, val5, sums, e1, e2, e3]
    refine (upd_new _ (b5 m c) (ix3 0 (row t i) j) rfl).symm.trans (congrArg (s5 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b5 m c) j hj').symm
    exact congrFun (show StableHlo.after hostOps0 (fun b => m (c, b)) (Proc.devRef .tc main_v0_1) = m (c, Proc.devRef .tc main_arg5) by after_results; rfl) j

theorem arr6 : ((dats m 0 c).arrAt 6 cfg0.N : FVec Ideal S4x128x1024 .f32) = s6 m c := by
  refine (dats m 0 c).arrAt_eq_of_coversWhere_of_agree 6 _ (fun β => β (0 : Fin 3) = 0) (by decide +kernel) (fun t hf y => ?_) (fun j hj => ?_)
  · obtain ⟨-, -, -, -, -, -, h, -⟩ := idx t
    show (dats m 0 c).after 6 t y = _
    rw [after0_6]
    obtain ⟨i, j, rfl⟩ := one3 y
    rw [(outs m c t).2.2.1, val6, sums, e2]
    refine (upd_new _ (b6 m c) (ix3 0 (row t i) j) rfl).symm.trans (congrArg (s6 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b6 m c) j hj').symm
    exact congrFun (show StableHlo.after hostOps0 (fun b => m (c, b)) (Proc.devRef .tc main_v0_2) = m (c, Proc.devRef .tc main_arg6) by after_results; rfl) j

theorem arr7 : ((dats m 0 c).arrAt 7 cfg0.N : FVec Ideal S4x128x1024 .f32) = s7 m c := by
  refine (dats m 0 c).arrAt_eq_of_coversWhere_of_agree 7 _ (fun β => β (0 : Fin 3) = 0) (by decide +kernel) (fun t hf y => ?_) (fun j hj => ?_)
  · obtain ⟨-, -, -, -, -, -, -, h⟩ := idx t
    show (dats m 0 c).after 7 t y = _
    rw [after0_7]
    obtain ⟨i, j, rfl⟩ := one3 y
    rw [(outs m c t).2.2.2, val7, sums, e3]
    refine (upd_new _ (b7 m c) (ix3 0 (row t i) j) rfl).symm.trans (congrArg (s7 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b7 m c) j hj').symm
    exact congrFun (show StableHlo.after hostOps0 (fun b => m (c, b)) (Proc.devRef .tc main_v0_3) = m (c, Proc.devRef .tc main_arg7) by after_results; rfl) j

end Cert.Kernel42Ideal.Adam

namespace Cert.AdamLayer

open Idealize.ShloMosaic Idealize.ShloMosaic.TcCoe Idealize.ShloMosaic.Tactic Idealize.SL.Sem Cert.Adam

namespace Ref42
open Cert.Reference42Ideal Cert.Reference42Ideal.Gen Cert.Reference42Ideal.Read

variable (r : FVec Ideal S8x128x1024 .bf16) (w m v p : FVec Ideal S4x128x1024 .f32)

theorem gr (i : Fin 128) (j : Fin 1024) : val_main_v1 (F := Ideal) r (ix2 i j) = grads (n := 4) (R := 128) (L := 1024) r (ix3 0 i j) := by
  pointwise [val_main_v1, val_main_v0, val_main_cst]
  rfl

theorem lay (e : FVec Ideal S128x1024 .f32) (h) (i : Fin 128) (j : Fin 1024) : broadcastInDim S1x128x1024 ![1, 2] h e (ix3 0 i j) = e (ix2 i j) :=
  broadcastInDim_apply _ _ _ _ (ix2 i j) fun b => by match b with | 0 => rfl | 1 => rfl

theorem g : val_main_v34 (F := Ideal) r p = upd (grads (n := 4) (R := 128) (L := 1024) r) p := stack p _ _ _ _ fun i j => (lay _ _ i j).trans (gr r i j)
theorem st : val_main_v37 (F := Ideal) r w m v p = upd (steps (n := 4) (R := 128) (L := 1024) r w m v) p := stack p _ _ _ _ fun i j => by
  refine (lay _ _ i j).trans ((rstp_apply bcast_S_S128x1024 (val_main_v1 (F := Ideal) r) (val_main_v3 (F := Ideal) w) (val_main_v5 (F := Ideal) m) (val_main_v7 (F := Ideal) v) _).trans ?_)
  rw [gr, show val_main_v3 (F := Ideal) w (ix2 i j) = _ from first w _ _ i j, show val_main_v5 (F := Ideal) m (ix2 i j) = _ from first m _ _ i j, show val_main_v7 (F := Ideal) v (ix2 i j) = _ from first v _ _ i j]
  rfl
theorem mo : val_main_v40 (F := Ideal) r m p = upd (moms (n := 4) (R := 128) (L := 1024) r m) p := stack p _ _ _ _ fun i j => by
  refine (lay _ _ i j).trans ((rmom_apply bcast_S_S128x1024 (val_main_v1 (F := Ideal) r) (val_main_v5 (F := Ideal) m) _).trans ?_)
  rw [gr, show val_main_v5 (F := Ideal) m (ix2 i j) = _ from first m _ _ i j]
  rfl
theorem ve : val_main_v43 (F := Ideal) r v p = upd (vels (n := 4) (R := 128) (L := 1024) r v) p := stack p _ _ _ _ fun i j => by
  refine (lay _ _ i j).trans ((rvel_apply bcast_S_S128x1024 (val_main_v1 (F := Ideal) r) (val_main_v7 (F := Ideal) v) _).trans ?_)
  rw [gr, show val_main_v7 (F := Ideal) v (ix2 i j) = _ from first v _ _ i j]
  rfl

end Ref42

theorem agree42 : Cert.algebraic_Kernel42Ideal_Reference42Ideal (hKernel42Ideal := Cert.Kernel42Ideal.Gen.facts)
    (hReference42Ideal := Cert.Reference42Ideal.Gen.facts) := by
  intro m g m' g' _ hag
  refine ⟨fun c => Cert.Kernel42Ideal.Adam.s4 m c, fun c => Cert.Kernel42Ideal.Adam.s5 m c, fun c => Cert.Kernel42Ideal.Adam.s6 m c, fun c => Cert.Kernel42Ideal.Adam.s7 m c, ?_, ?_⟩
  · refine (θ_run Cert.Kernel42Ideal.defs _ _).mono (fun r h c => ?_) (Cert.Kernel42Ideal.Value.run_blocks m g)
    obtain ⟨h4, h5, h6, h7, hargs⟩ := h c
    exact ⟨h4.trans (Cert.Kernel42Ideal.Adam.arr4 m c), h5.trans (Cert.Kernel42Ideal.Adam.arr5 m c), h6.trans (Cert.Kernel42Ideal.Adam.arr6 m c), h7.trans (Cert.Kernel42Ideal.Adam.arr7 m c), hargs⟩
  · refine (θ_run Cert.Reference42Ideal.defs _ _).mono (fun r h c => ?_) (Cert.Reference42Ideal.Value.run (F := Ideal) m' g')
    obtain ⟨a0, a1, a2, a3, a4, a5, a6, a7⟩ := hag c
    obtain ⟨r0, r1, r2, r3, hargs⟩ := h c
    rw [Cert.Reference42Ideal.Read.val_main_v34_eq, Ref42.g , a0, a4] at r0
    rw [Cert.Reference42Ideal.Read.val_main_v37_eq, Ref42.st , a0, a1, a2, a3, a5] at r1
    rw [Cert.Reference42Ideal.Read.val_main_v40_eq, Ref42.mo , a0, a2, a6] at r2
    rw [Cert.Reference42Ideal.Read.val_main_v43_eq, Ref42.ve , a0, a3, a7] at r3
    exact ⟨r0, r1, r2, r3, hargs⟩

end Cert.AdamLayer

end
-- ==== Proof.AdamUp.lean ====
/- The update of the first layer of `w_up`. -/
module

public import proofs.«01_k».proof.Proof.AdamLayer
public import proofs.«01_k».proof.Proof.Gen.Kernel43Ideal.Value
public import proofs.«01_k».proof.Proof.Gen.Reference43Ideal.Read

@[expose] public section

set_option maxRecDepth 16384

noncomputable section

namespace Cert.Kernel43Ideal.Adam

open Idealize.ShloMosaic Idealize.ShloMosaic.TcCoe Idealize.ShloMosaic.Tactic Cert.Kernel43Ideal Cert.Kernel43Ideal.Gen Cert.Adam Cert.AdamLayer

variable (x0 : Vec Ideal S8x176x1024 .bf16) (x1 x2 x3 : Vec Ideal S1x176x1024 .f32)

theorem sum8 (u0 u1 u2 u3 u4 u5 u6 u7 : Vec Ideal S1x176x1024 .bf16) (i : Fin 176) (j : Fin 1024) :
    k0_pay3 u0 u1 u2 u3 u4 u5 u6 u7 (ix2 i j) = u0 (ix3 0 i j) + u1 (ix3 0 i j) + u2 (ix3 0 i j) + u3 (ix3 0 i j) + u4 (ix3 0 i j) + u5 (ix3 0 i j) + u6 (ix3 0 i j) + u7 (ix3 0 i j) := by
  pointwise [k0_pay3]

/-- The parts, loaded and summed. -/
theorem pay3 (p0 p1 p2 p3 p4 p5 p6 p7) : k0_pay3 (F := Ideal) (ldPart x0 0 p0) (ldPart x0 1 p1) (ldPart x0 2 p2) (ldPart x0 3 p3) (ldPart x0 4 p4) (ldPart x0 5 p5) (ldPart x0 6 p6) (ldPart x0 7 p7) = tot x0 := by
  funext y
  obtain ⟨i, j, rfl⟩ := Cert.Prod.two y
  rw [sum8, part x0 0 (by decide), part x0 1 (by decide), part x0 2 (by decide), part x0 3 (by decide), part x0 4 (by decide), part x0 5 (by decide), part x0 6 (by decide), part x0 7 (by decide)]
  exact (Fin.sum_univ_eight (M := EReal) fun s : Fin 8 => x0 (ix3 s i j)).symm

section
variable (c : Dev nD) (i : grid0.Coords) (a1 : Memref sig .tc .vmem S8x176x1024 .bf16) (h1 : a1.IsWhole) (a2 : Memref sig .tc .vmem S1x176x1024 .f32) (h2 : a2.IsWhole) (a3 : Memref sig .tc .vmem S1x176x1024 .f32) (h3 : a3.IsWhole) (a4 : Memref sig .tc .vmem S1x176x1024 .f32) (h4 : a4.IsWhole) (a9 : Memref sig .tc .vmem S1x176x1024 .f32) (h9 : a9.IsWhole) (a10 : Memref sig .tc .vmem S1x176x1024 .f32) (h10 : a10.IsWhole) (a11 : Memref sig .tc .vmem S1x176x1024 .f32) (h11 : a11.IsWhole) (a12 : Memref sig .tc .vmem S1x176x1024 .f32) (h12 : a12.IsWhole)

/-- What the body stores. -/
theorem out4 :
    out0_A_4 c i a1 h1 a2 h2 a3 h3 a4 h4 a9 h9 a10 h10 a11 h11 a12 h12 x0 x1 x2 x3 = k0_pay6 (tot x0) := by
  unfold out0_A_4
  rw [View.read_writes_junk_eq_canon VO0_4]
  unfold kernelRun0_A; dsimp only; sl_unfold_words
  simp only [View.readAt_eq_ld, h1.read_unread, h2.read_unread, h3.read_unread, h4.read_unread]
  rw [View.canon_unit_zero hz3, pay3]
theorem out5 :
    out0_A_5 c i a1 h1 a2 h2 a3 h3 a4 h4 a9 h9 a10 h10 a11 h11 a12 h12 x0 x1 x2 x3 = k0_pay7 (tot x0) x2 x3 x1 := by
  unfold out0_A_5
  rw [View.read_writes_junk_eq_canon VO0_5]
  unfold kernelRun0_A; dsimp only; sl_unfold_words
  simp only [View.readAt_eq_ld, h1.read_unread, h2.read_unread, h3.read_unread, h4.read_unread]
  rw [View.canon_unit_zero hz3, pay3, whole, whole, whole]
theorem out6 :
    out0_A_6 c i a1 h1 a2 h2 a3 h3 a4 h4 a9 h9 a10 h10 a11 h11 a12 h12 x0 x1 x2 x3 = k0_pay1 (k0_pay4 (tot x0) x2) := by
  unfold out0_A_6
  rw [View.read_writes_junk_eq_canon VO0_6]
  unfold kernelRun0_A; dsimp only; sl_unfold_words
  simp only [View.readAt_eq_ld, h1.read_unread, h2.read_unread, h3.read_unread, h4.read_unread]
  rw [View.canon_unit_zero hz3, pay3, whole]
theorem out7 :
    out0_A_7 c i a1 h1 a2 h2 a3 h3 a4 h4 a9 h9 a10 h10 a11 h11 a12 h12 x0 x1 x2 x3 = k0_pay2 (k0_pay5 (tot x0) x3) := by
  unfold out0_A_7
  rw [View.read_writes_junk_eq_canon VO0_7]
  unfold kernelRun0_A; dsimp only; sl_unfold_words
  simp only [View.readAt_eq_ld, h1.read_unread, h2.read_unread, h3.read_unread, h4.read_unread]
  rw [View.canon_unit_zero hz3, pay3, whole]

end

theorem val4 (g : FVec Ideal ⟨2, ![176, 1024]⟩ .f32) (i : Fin 176) (j : Fin 1024) : k0_pay6 g (ix3 0 i j) = g (ix2 i j) := by
  pointwise [k0_pay6]
theorem val5 (g : FVec Ideal ⟨2, ![176, 1024]⟩ .f32) (i : Fin 176) (j : Fin 1024) :
    k0_pay7 g x2 x3 x1 (ix3 0 i j) = stp (x1 (ix3 0 i j)) (x2 (ix3 0 i j)) (x3 (ix3 0 i j)) (g (ix2 i j)) := by
  pointwise [k0_pay7, k0_pay4, k0_pay5]
  rfl
theorem val6 (g : FVec Ideal ⟨2, ![176, 1024]⟩ .f32) (i : Fin 176) (j : Fin 1024) : k0_pay1 (k0_pay4 g x2) (ix3 0 i j) = mom (x2 (ix3 0 i j)) (g (ix2 i j)) := by
  pointwise [k0_pay1, k0_pay4]
  rfl
theorem val7 (g : FVec Ideal ⟨2, ![176, 1024]⟩ .f32) (i : Fin 176) (j : Fin 1024) : k0_pay2 (k0_pay5 g x3) (ix3 0 i j) = vel (x3 (ix3 0 i j)) (g (ix2 i j)) := by
  pointwise [k0_pay2, k0_pay5]
  rfl

theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] := by
  decide +kernel

variable (m : (ℓ : Loc nD τ sig) → Buf (Elt Ideal) ℓ) (c : Dev nD)

/-- The gradient's parts, the parameters, the two running means and the arrays written over. -/
abbrev b0 : FVec Ideal S8x704x1024 .bf16 := m ((c.tc : Thread nD τ).loc main_arg0)
abbrev b1 : FVec Ideal S4x704x1024 .f32 := m ((c.tc : Thread nD τ).loc main_arg1)
abbrev b2 : FVec Ideal S4x704x1024 .f32 := m ((c.tc : Thread nD τ).loc main_arg2)
abbrev b3 : FVec Ideal S4x704x1024 .f32 := m ((c.tc : Thread nD τ).loc main_arg3)
abbrev b4 : FVec Ideal S4x704x1024 .f32 := m ((c.tc : Thread nD τ).loc main_arg4)
abbrev b5 : FVec Ideal S4x704x1024 .f32 := m ((c.tc : Thread nD τ).loc main_arg5)
abbrev b6 : FVec Ideal S4x704x1024 .f32 := m ((c.tc : Thread nD τ).loc main_arg6)
abbrev b7 : FVec Ideal S4x704x1024 .f32 := m ((c.tc : Thread nD τ).loc main_arg7)

/-- What a point leaves. -/
theorem outs (t : Fin cfg0.N) :
    (outsAt0 m c t).1 = k0_pay6 (F := Ideal) (tot (iblk m c 0 t)) ∧ (outsAt0 m c t).2.1 = k0_pay7 (F := Ideal) (tot (iblk m c 0 t)) (iblk m c 2 t) (iblk m c 3 t) (iblk m c 1 t)
    ∧ (outsAt0 m c t).2.2.1 = k0_pay1 (F := Ideal) (k0_pay4 (F := Ideal) (tot (iblk m c 0 t)) (iblk m c 2 t))
    ∧ (outsAt0 m c t).2.2.2 = k0_pay2 (F := Ideal) (k0_pay5 (F := Ideal) (tot (iblk m c 0 t)) (iblk m c 3 t)) := by
  unfold outsAt0
  refine ⟨?_, ?_, ?_, ?_⟩
  · rw [out4]
  · rw [out5]
  · rw [out6]
  · rw [out7]

/-- A block's row among all rows. -/
def row (t : Fin cfg0.N) (i : Fin 176) : Fin 704 := ⟨t.val * 176 + i.val, by have := t.isLt; have hN : cfg0.N = 4 := N_0; omega⟩

theorem e0 (t : Fin cfg0.N) (s : Fin 8) (i : Fin 176) (j : Fin 1024) : (iblk m c 0 t : Vec Ideal S8x176x1024 .bf16) (ix3 s i j) = b0 m c (ix3 s (row t i) j) := by
  obtain ⟨h, -⟩ := idx t
  blk_ext [iblk, h, row]
theorem e1 (t : Fin cfg0.N) (i : Fin 176) (j : Fin 1024) : (iblk m c 1 t : Vec Ideal S1x176x1024 .f32) (ix3 0 i j) = b1 m c (ix3 (0 : Fin 4) (row t i) j) := by
  obtain ⟨-, h, -⟩ := idx t
  blk_ext [iblk, h, row]
theorem e2 (t : Fin cfg0.N) (i : Fin 176) (j : Fin 1024) : (iblk m c 2 t : Vec Ideal S1x176x1024 .f32) (ix3 0 i j) = b2 m c (ix3 (0 : Fin 4) (row t i) j) := by
  obtain ⟨-, -, h, -⟩ := idx t
  blk_ext [iblk, h, row]
theorem e3 (t : Fin cfg0.N) (i : Fin 176) (j : Fin 1024) : (iblk m c 3 t : Vec Ideal S1x176x1024 .f32) (ix3 0 i j) = b3 m c (ix3 (0 : Fin 4) (row t i) j) := by
  obtain ⟨-, -, -, h, -⟩ := idx t
  blk_ext [iblk, h, row]

theorem sums (t : Fin cfg0.N) (i : Fin 176) (j : Fin 1024) : tot (iblk m c 0 t : Vec Ideal S8x176x1024 .bf16) (ix2 i j) = grads (n := 4) (R := 704) (L := 1024) (b0 m c) (ix3 0 (row t i) j) :=
  Finset.sum_congr (M := EReal) rfl fun s _ => e0 m c t s i j

/-- The four arrays. -/
abbrev s4 : FVec Ideal S4x704x1024 .f32 := upd (grads (n := 4) (R := 704) (L := 1024) (b0 m c)) (b4 m c)
abbrev s5 : FVec Ideal S4x704x1024 .f32 := upd (steps (n := 4) (R := 704) (L := 1024) (b0 m c) (b1 m c) (b2 m c) (b3 m c)) (b5 m c)
abbrev s6 : FVec Ideal S4x704x1024 .f32 := upd (moms (n := 4) (R := 704) (L := 1024) (b0 m c) (b2 m c)) (b6 m c)
abbrev s7 : FVec Ideal S4x704x1024 .f32 := upd (vels (n := 4) (R := 704) (L := 1024) (b0 m c) (b3 m c)) (b7 m c)
theorem arr4 : ((dats m 0 c).arrAt 4 cfg0.N : FVec Ideal S4x704x1024 .f32) = s4 m c := by
  refine (dats m 0 c).arrAt_eq_of_coversWhere_of_agree 4 _ (fun β => β (0 : Fin 3) = 0) (by decide +kernel) (fun t hf y => ?_) (fun j hj => ?_)
  · obtain ⟨-, -, -, -, h, -⟩ := idx t
    show (dats m 0 c).after 4 t y = _
    rw [after0_4]
    obtain ⟨i, j, rfl⟩ := one3 y
    rw [(outs m c t).1, val4, sums]
    refine (upd_new _ (b4 m c) (ix3 0 (row t i) j) rfl).symm.trans (congrArg (s4 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b4 m c) j hj').symm
    exact congrFun (show StableHlo.after hostOps0 (fun b => m (c, b)) (Proc.devRef .tc main_v0_0) = m (c, Proc.devRef .tc main_arg4) by after_results; rfl) j

theorem arr5 : ((dats m 0 c).arrAt 5 cfg0.N : FVec Ideal S4x704x1024 .f32) = s5 m c := by
  refine (dats m 0 c).arrAt_eq_of_coversWhere_of_agree 5 _ (fun β => β (0 : Fin 3) = 0) (by decide +kernel) (fun t hf y => ?_) (fun j hj => ?_)
  · obtain ⟨-, -, -, -, -, h, -⟩ := idx t
    show (dats m 0 c).after 5 t y = _
    rw [after0_5]
    obtain ⟨i, j, rfl⟩ := one3 y
    rw [(outs m c t).2.1, val5, sums, e1, e2, e3]
    refine (upd_new _ (b5 m c) (ix3 0 (row t i) j) rfl).symm.trans (congrArg (s5 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b5 m c) j hj').symm
    exact congrFun (show StableHlo.after hostOps0 (fun b => m (c, b)) (Proc.devRef .tc main_v0_1) = m (c, Proc.devRef .tc main_arg5) by after_results; rfl) j

theorem arr6 : ((dats m 0 c).arrAt 6 cfg0.N : FVec Ideal S4x704x1024 .f32) = s6 m c := by
  refine (dats m 0 c).arrAt_eq_of_coversWhere_of_agree 6 _ (fun β => β (0 : Fin 3) = 0) (by decide +kernel) (fun t hf y => ?_) (fun j hj => ?_)
  · obtain ⟨-, -, -, -, -, -, h, -⟩ := idx t
    show (dats m 0 c).after 6 t y = _
    rw [after0_6]
    obtain ⟨i, j, rfl⟩ := one3 y
    rw [(outs m c t).2.2.1, val6, sums, e2]
    refine (upd_new _ (b6 m c) (ix3 0 (row t i) j) rfl).symm.trans (congrArg (s6 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b6 m c) j hj').symm
    exact congrFun (show StableHlo.after hostOps0 (fun b => m (c, b)) (Proc.devRef .tc main_v0_2) = m (c, Proc.devRef .tc main_arg6) by after_results; rfl) j

theorem arr7 : ((dats m 0 c).arrAt 7 cfg0.N : FVec Ideal S4x704x1024 .f32) = s7 m c := by
  refine (dats m 0 c).arrAt_eq_of_coversWhere_of_agree 7 _ (fun β => β (0 : Fin 3) = 0) (by decide +kernel) (fun t hf y => ?_) (fun j hj => ?_)
  · obtain ⟨-, -, -, -, -, -, -, h⟩ := idx t
    show (dats m 0 c).after 7 t y = _
    rw [after0_7]
    obtain ⟨i, j, rfl⟩ := one3 y
    rw [(outs m c t).2.2.2, val7, sums, e3]
    refine (upd_new _ (b7 m c) (ix3 0 (row t i) j) rfl).symm.trans (congrArg (s7 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b7 m c) j hj').symm
    exact congrFun (show StableHlo.after hostOps0 (fun b => m (c, b)) (Proc.devRef .tc main_v0_3) = m (c, Proc.devRef .tc main_arg7) by after_results; rfl) j

end Cert.Kernel43Ideal.Adam

namespace Cert.AdamLayer

open Idealize.ShloMosaic Idealize.ShloMosaic.TcCoe Idealize.ShloMosaic.Tactic Idealize.SL.Sem Cert.Adam

namespace Ref43
open Cert.Reference43Ideal Cert.Reference43Ideal.Gen Cert.Reference43Ideal.Read

variable (r : FVec Ideal S8x704x1024 .bf16) (w m v p : FVec Ideal S4x704x1024 .f32)

theorem gr (i : Fin 704) (j : Fin 1024) : val_main_v1 (F := Ideal) r (ix2 i j) = grads (n := 4) (R := 704) (L := 1024) r (ix3 0 i j) := by
  pointwise [val_main_v1, val_main_v0, val_main_cst]
  rfl

theorem lay (e : FVec Ideal S704x1024 .f32) (h) (i : Fin 704) (j : Fin 1024) : broadcastInDim S1x704x1024 ![1, 2] h e (ix3 0 i j) = e (ix2 i j) :=
  broadcastInDim_apply _ _ _ _ (ix2 i j) fun b => by match b with | 0 => rfl | 1 => rfl

theorem g : val_main_v34 (F := Ideal) r p = upd (grads (n := 4) (R := 704) (L := 1024) r) p := stack p _ _ _ _ fun i j => (lay _ _ i j).trans (gr r i j)
theorem st : val_main_v37 (F := Ideal) r w m v p = upd (steps (n := 4) (R := 704) (L := 1024) r w m v) p := stack p _ _ _ _ fun i j => by
  refine (lay _ _ i j).trans ((rstp_apply bcast_S_S704x1024 (val_main_v1 (F := Ideal) r) (val_main_v3 (F := Ideal) w) (val_main_v5 (F := Ideal) m) (val_main_v7 (F := Ideal) v) _).trans ?_)
  rw [gr, show val_main_v3 (F := Ideal) w (ix2 i j) = _ from first w _ _ i j, show val_main_v5 (F := Ideal) m (ix2 i j) = _ from first m _ _ i j, show val_main_v7 (F := Ideal) v (ix2 i j) = _ from first v _ _ i j]
  rfl
theorem mo : val_main_v40 (F := Ideal) r m p = upd (moms (n := 4) (R := 704) (L := 1024) r m) p := stack p _ _ _ _ fun i j => by
  refine (lay _ _ i j).trans ((rmom_apply bcast_S_S704x1024 (val_main_v1 (F := Ideal) r) (val_main_v5 (F := Ideal) m) _).trans ?_)
  rw [gr, show val_main_v5 (F := Ideal) m (ix2 i j) = _ from first m _ _ i j]
  rfl
theorem ve : val_main_v43 (F := Ideal) r v p = upd (vels (n := 4) (R := 704) (L := 1024) r v) p := stack p _ _ _ _ fun i j => by
  refine (lay _ _ i j).trans ((rvel_apply bcast_S_S704x1024 (val_main_v1 (F := Ideal) r) (val_main_v7 (F := Ideal) v) _).trans ?_)
  rw [gr, show val_main_v7 (F := Ideal) v (ix2 i j) = _ from first v _ _ i j]
  rfl

end Ref43

theorem agree43 : Cert.algebraic_Kernel43Ideal_Reference43Ideal (hKernel43Ideal := Cert.Kernel43Ideal.Gen.facts)
    (hReference43Ideal := Cert.Reference43Ideal.Gen.facts) := by
  intro m g m' g' _ hag
  refine ⟨fun c => Cert.Kernel43Ideal.Adam.s4 m c, fun c => Cert.Kernel43Ideal.Adam.s5 m c, fun c => Cert.Kernel43Ideal.Adam.s6 m c, fun c => Cert.Kernel43Ideal.Adam.s7 m c, ?_, ?_⟩
  · refine (θ_run Cert.Kernel43Ideal.defs _ _).mono (fun r h c => ?_) (Cert.Kernel43Ideal.Value.run_blocks m g)
    obtain ⟨h4, h5, h6, h7, hargs⟩ := h c
    exact ⟨h4.trans (Cert.Kernel43Ideal.Adam.arr4 m c), h5.trans (Cert.Kernel43Ideal.Adam.arr5 m c), h6.trans (Cert.Kernel43Ideal.Adam.arr6 m c), h7.trans (Cert.Kernel43Ideal.Adam.arr7 m c), hargs⟩
  · refine (θ_run Cert.Reference43Ideal.defs _ _).mono (fun r h c => ?_) (Cert.Reference43Ideal.Value.run (F := Ideal) m' g')
    obtain ⟨a0, a1, a2, a3, a4, a5, a6, a7⟩ := hag c
    obtain ⟨r0, r1, r2, r3, hargs⟩ := h c
    rw [Cert.Reference43Ideal.Read.val_main_v34_eq, Ref43.g , a0, a4] at r0
    rw [Cert.Reference43Ideal.Read.val_main_v37_eq, Ref43.st , a0, a1, a2, a3, a5] at r1
    rw [Cert.Reference43Ideal.Read.val_main_v40_eq, Ref43.mo , a0, a2, a6] at r2
    rw [Cert.Reference43Ideal.Read.val_main_v43_eq, Ref43.ve , a0, a3, a7] at r3
    exact ⟨r0, r1, r2, r3, hargs⟩

end Cert.AdamLayer

end
-- ==== Proof.AdamDown.lean ====
/- The update of the first layer of `w_down`. -/
module

public import proofs.«01_k».proof.Proof.AdamLayer
public import proofs.«01_k».proof.Proof.Gen.Kernel44Ideal.Value
public import proofs.«01_k».proof.Proof.Gen.Reference44Ideal.Read

@[expose] public section

set_option maxRecDepth 16384

noncomputable section

namespace Cert.Kernel44Ideal.Adam

open Idealize.ShloMosaic Idealize.ShloMosaic.TcCoe Idealize.ShloMosaic.Tactic Cert.Kernel44Ideal Cert.Kernel44Ideal.Gen Cert.Adam Cert.AdamLayer

variable (x0 : Vec Ideal S8x176x1024 .bf16) (x1 x2 x3 : Vec Ideal S1x176x1024 .f32)

theorem sum8 (u0 u1 u2 u3 u4 u5 u6 u7 : Vec Ideal S1x176x1024 .bf16) (i : Fin 176) (j : Fin 1024) :
    k0_pay3 u0 u1 u2 u3 u4 u5 u6 u7 (ix2 i j) = u0 (ix3 0 i j) + u1 (ix3 0 i j) + u2 (ix3 0 i j) + u3 (ix3 0 i j) + u4 (ix3 0 i j) + u5 (ix3 0 i j) + u6 (ix3 0 i j) + u7 (ix3 0 i j) := by
  pointwise [k0_pay3]

/-- The parts, loaded and summed. -/
theorem pay3 (p0 p1 p2 p3 p4 p5 p6 p7) : k0_pay3 (F := Ideal) (ldPart x0 0 p0) (ldPart x0 1 p1) (ldPart x0 2 p2) (ldPart x0 3 p3) (ldPart x0 4 p4) (ldPart x0 5 p5) (ldPart x0 6 p6) (ldPart x0 7 p7) = tot x0 := by
  funext y
  obtain ⟨i, j, rfl⟩ := Cert.Prod.two y
  rw [sum8, part x0 0 (by decide), part x0 1 (by decide), part x0 2 (by decide), part x0 3 (by decide), part x0 4 (by decide), part x0 5 (by decide), part x0 6 (by decide), part x0 7 (by decide)]
  exact (Fin.sum_univ_eight (M := EReal) fun s : Fin 8 => x0 (ix3 s i j)).symm

section
variable (c : Dev nD) (i : grid0.Coords) (a1 : Memref sig .tc .vmem S8x176x1024 .bf16) (h1 : a1.IsWhole) (a2 : Memref sig .tc .vmem S1x176x1024 .f32) (h2 : a2.IsWhole) (a3 : Memref sig .tc .vmem S1x176x1024 .f32) (h3 : a3.IsWhole) (a4 : Memref sig .tc .vmem S1x176x1024 .f32) (h4 : a4.IsWhole) (a9 : Memref sig .tc .vmem S1x176x1024 .f32) (h9 : a9.IsWhole) (a10 : Memref sig .tc .vmem S1x176x1024 .f32) (h10 : a10.IsWhole) (a11 : Memref sig .tc .vmem S1x176x1024 .f32) (h11 : a11.IsWhole) (a12 : Memref sig .tc .vmem S1x176x1024 .f32) (h12 : a12.IsWhole)

/-- What the body stores. -/
theorem out4 :
    out0_A_4 c i a1 h1 a2 h2 a3 h3 a4 h4 a9 h9 a10 h10 a11 h11 a12 h12 x0 x1 x2 x3 = k0_pay6 (tot x0) := by
  unfold out0_A_4
  rw [View.read_writes_junk_eq_canon VO0_4]
  unfold kernelRun0_A; dsimp only; sl_unfold_words
  simp only [View.readAt_eq_ld, h1.read_unread, h2.read_unread, h3.read_unread, h4.read_unread]
  rw [View.canon_unit_zero hz3, pay3]
theorem out5 :
    out0_A_5 c i a1 h1 a2 h2 a3 h3 a4 h4 a9 h9 a10 h10 a11 h11 a12 h12 x0 x1 x2 x3 = k0_pay7 (tot x0) x2 x3 x1 := by
  unfold out0_A_5
  rw [View.read_writes_junk_eq_canon VO0_5]
  unfold kernelRun0_A; dsimp only; sl_unfold_words
  simp only [View.readAt_eq_ld, h1.read_unread, h2.read_unread, h3.read_unread, h4.read_unread]
  rw [View.canon_unit_zero hz3, pay3, whole, whole, whole]
theorem out6 :
    out0_A_6 c i a1 h1 a2 h2 a3 h3 a4 h4 a9 h9 a10 h10 a11 h11 a12 h12 x0 x1 x2 x3 = k0_pay1 (k0_pay4 (tot x0) x2) := by
  unfold out0_A_6
  rw [View.read_writes_junk_eq_canon VO0_6]
  unfold kernelRun0_A; dsimp only; sl_unfold_words
  simp only [View.readAt_eq_ld, h1.read_unread, h2.read_unread, h3.read_unread, h4.read_unread]
  rw [View.canon_unit_zero hz3, pay3, whole]
theorem out7 :
    out0_A_7 c i a1 h1 a2 h2 a3 h3 a4 h4 a9 h9 a10 h10 a11 h11 a12 h12 x0 x1 x2 x3 = k0_pay2 (k0_pay5 (tot x0) x3) := by
  unfold out0_A_7
  rw [View.read_writes_junk_eq_canon VO0_7]
  unfold kernelRun0_A; dsimp only; sl_unfold_words
  simp only [View.readAt_eq_ld, h1.read_unread, h2.read_unread, h3.read_unread, h4.read_unread]
  rw [View.canon_unit_zero hz3, pay3, whole]

end

theorem val4 (g : FVec Ideal ⟨2, ![176, 1024]⟩ .f32) (i : Fin 176) (j : Fin 1024) : k0_pay6 g (ix3 0 i j) = g (ix2 i j) := by
  pointwise [k0_pay6]
theorem val5 (g : FVec Ideal ⟨2, ![176, 1024]⟩ .f32) (i : Fin 176) (j : Fin 1024) :
    k0_pay7 g x2 x3 x1 (ix3 0 i j) = stp (x1 (ix3 0 i j)) (x2 (ix3 0 i j)) (x3 (ix3 0 i j)) (g (ix2 i j)) := by
  pointwise [k0_pay7, k0_pay4, k0_pay5]
  rfl
theorem val6 (g : FVec Ideal ⟨2, ![176, 1024]⟩ .f32) (i : Fin 176) (j : Fin 1024) : k0_pay1 (k0_pay4 g x2) (ix3 0 i j) = mom (x2 (ix3 0 i j)) (g (ix2 i j)) := by
  pointwise [k0_pay1, k0_pay4]
  rfl
theorem val7 (g : FVec Ideal ⟨2, ![176, 1024]⟩ .f32) (i : Fin 176) (j : Fin 1024) : k0_pay2 (k0_pay5 g x3) (ix3 0 i j) = vel (x3 (ix3 0 i j)) (g (ix2 i j)) := by
  pointwise [k0_pay2, k0_pay5]
  rfl

theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] := by
  decide +kernel

variable (m : (ℓ : Loc nD τ sig) → Buf (Elt Ideal) ℓ) (c : Dev nD)

/-- The gradient's parts, the parameters, the two running means and the arrays written over. -/
abbrev b0 : FVec Ideal S8x352x1024 .bf16 := m ((c.tc : Thread nD τ).loc main_arg0)
abbrev b1 : FVec Ideal S4x352x1024 .f32 := m ((c.tc : Thread nD τ).loc main_arg1)
abbrev b2 : FVec Ideal S4x352x1024 .f32 := m ((c.tc : Thread nD τ).loc main_arg2)
abbrev b3 : FVec Ideal S4x352x1024 .f32 := m ((c.tc : Thread nD τ).loc main_arg3)
abbrev b4 : FVec Ideal S4x352x1024 .f32 := m ((c.tc : Thread nD τ).loc main_arg4)
abbrev b5 : FVec Ideal S4x352x1024 .f32 := m ((c.tc : Thread nD τ).loc main_arg5)
abbrev b6 : FVec Ideal S4x352x1024 .f32 := m ((c.tc : Thread nD τ).loc main_arg6)
abbrev b7 : FVec Ideal S4x352x1024 .f32 := m ((c.tc : Thread nD τ).loc main_arg7)

/-- What a point leaves. -/
theorem outs (t : Fin cfg0.N) :
    (outsAt0 m c t).1 = k0_pay6 (F := Ideal) (tot (iblk m c 0 t)) ∧ (outsAt0 m c t).2.1 = k0_pay7 (F := Ideal) (tot (iblk m c 0 t)) (iblk m c 2 t) (iblk m c 3 t) (iblk m c 1 t)
    ∧ (outsAt0 m c t).2.2.1 = k0_pay1 (F := Ideal) (k0_pay4 (F := Ideal) (tot (iblk m c 0 t)) (iblk m c 2 t))
    ∧ (outsAt0 m c t).2.2.2 = k0_pay2 (F := Ideal) (k0_pay5 (F := Ideal) (tot (iblk m c 0 t)) (iblk m c 3 t)) := by
  unfold outsAt0
  refine ⟨?_, ?_, ?_, ?_⟩
  · rw [out4]
  · rw [out5]
  · rw [out6]
  · rw [out7]

/-- A block's row among all rows. -/
def row (t : Fin cfg0.N) (i : Fin 176) : Fin 352 := ⟨t.val * 176 + i.val, by have := t.isLt; have hN : cfg0.N = 2 := N_0; omega⟩

theorem e0 (t : Fin cfg0.N) (s : Fin 8) (i : Fin 176) (j : Fin 1024) : (iblk m c 0 t : Vec Ideal S8x176x1024 .bf16) (ix3 s i j) = b0 m c (ix3 s (row t i) j) := by
  obtain ⟨h, -⟩ := idx t
  blk_ext [iblk, h, row]
theorem e1 (t : Fin cfg0.N) (i : Fin 176) (j : Fin 1024) : (iblk m c 1 t : Vec Ideal S1x176x1024 .f32) (ix3 0 i j) = b1 m c (ix3 (0 : Fin 4) (row t i) j) := by
  obtain ⟨-, h, -⟩ := idx t
  blk_ext [iblk, h, row]
theorem e2 (t : Fin cfg0.N) (i : Fin 176) (j : Fin 1024) : (iblk m c 2 t : Vec Ideal S1x176x1024 .f32) (ix3 0 i j) = b2 m c (ix3 (0 : Fin 4) (row t i) j) := by
  obtain ⟨-, -, h, -⟩ := idx t
  blk_ext [iblk, h, row]
theorem e3 (t : Fin cfg0.N) (i : Fin 176) (j : Fin 1024) : (iblk m c 3 t : Vec Ideal S1x176x1024 .f32) (ix3 0 i j) = b3 m c (ix3 (0 : Fin 4) (row t i) j) := by
  obtain ⟨-, -, -, h, -⟩ := idx t
  blk_ext [iblk, h, row]

theorem sums (t : Fin cfg0.N) (i : Fin 176) (j : Fin 1024) : tot (iblk m c 0 t : Vec Ideal S8x176x1024 .bf16) (ix2 i j) = grads (n := 4) (R := 352) (L := 1024) (b0 m c) (ix3 0 (row t i) j) :=
  Finset.sum_congr (M := EReal) rfl fun s _ => e0 m c t s i j

/-- The four arrays. -/
abbrev s4 : FVec Ideal S4x352x1024 .f32 := upd (grads (n := 4) (R := 352) (L := 1024) (b0 m c)) (b4 m c)
abbrev s5 : FVec Ideal S4x352x1024 .f32 := upd (steps (n := 4) (R := 352) (L := 1024) (b0 m c) (b1 m c) (b2 m c) (b3 m c)) (b5 m c)
abbrev s6 : FVec Ideal S4x352x1024 .f32 := upd (moms (n := 4) (R := 352) (L := 1024) (b0 m c) (b2 m c)) (b6 m c)
abbrev s7 : FVec Ideal S4x352x1024 .f32 := upd (vels (n := 4) (R := 352) (L := 1024) (b0 m c) (b3 m c)) (b7 m c)
theorem arr4 : ((dats m 0 c).arrAt 4 cfg0.N : FVec Ideal S4x352x1024 .f32) = s4 m c := by
  refine (dats m 0 c).arrAt_eq_of_coversWhere_of_agree 4 _ (fun β => β (0 : Fin 3) = 0) (by decide +kernel) (fun t hf y => ?_) (fun j hj => ?_)
  · obtain ⟨-, -, -, -, h, -⟩ := idx t
    show (dats m 0 c).after 4 t y = _
    rw [after0_4]
    obtain ⟨i, j, rfl⟩ := one3 y
    rw [(outs m c t).1, val4, sums]
    refine (upd_new _ (b4 m c) (ix3 0 (row t i) j) rfl).symm.trans (congrArg (s4 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b4 m c) j hj').symm
    exact congrFun (show StableHlo.after hostOps0 (fun b => m (c, b)) (Proc.devRef .tc main_v0_0) = m (c, Proc.devRef .tc main_arg4) by after_results; rfl) j

theorem arr5 : ((dats m 0 c).arrAt 5 cfg0.N : FVec Ideal S4x352x1024 .f32) = s5 m c := by
  refine (dats m 0 c).arrAt_eq_of_coversWhere_of_agree 5 _ (fun β => β (0 : Fin 3) = 0) (by decide +kernel) (fun t hf y => ?_) (fun j hj => ?_)
  · obtain ⟨-, -, -, -, -, h, -⟩ := idx t
    show (dats m 0 c).after 5 t y = _
    rw [after0_5]
    obtain ⟨i, j, rfl⟩ := one3 y
    rw [(outs m c t).2.1, val5, sums, e1, e2, e3]
    refine (upd_new _ (b5 m c) (ix3 0 (row t i) j) rfl).symm.trans (congrArg (s5 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b5 m c) j hj').symm
    exact congrFun (show StableHlo.after hostOps0 (fun b => m (c, b)) (Proc.devRef .tc main_v0_1) = m (c, Proc.devRef .tc main_arg5) by after_results; rfl) j

theorem arr6 : ((dats m 0 c).arrAt 6 cfg0.N : FVec Ideal S4x352x1024 .f32) = s6 m c := by
  refine (dats m 0 c).arrAt_eq_of_coversWhere_of_agree 6 _ (fun β => β (0 : Fin 3) = 0) (by decide +kernel) (fun t hf y => ?_) (fun j hj => ?_)
  · obtain ⟨-, -, -, -, -, -, h, -⟩ := idx t
    show (dats m 0 c).after 6 t y = _
    rw [after0_6]
    obtain ⟨i, j, rfl⟩ := one3 y
    rw [(outs m c t).2.2.1, val6, sums, e2]
    refine (upd_new _ (b6 m c) (ix3 0 (row t i) j) rfl).symm.trans (congrArg (s6 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b6 m c) j hj').symm
    exact congrFun (show StableHlo.after hostOps0 (fun b => m (c, b)) (Proc.devRef .tc main_v0_2) = m (c, Proc.devRef .tc main_arg6) by after_results; rfl) j

theorem arr7 : ((dats m 0 c).arrAt 7 cfg0.N : FVec Ideal S4x352x1024 .f32) = s7 m c := by
  refine (dats m 0 c).arrAt_eq_of_coversWhere_of_agree 7 _ (fun β => β (0 : Fin 3) = 0) (by decide +kernel) (fun t hf y => ?_) (fun j hj => ?_)
  · obtain ⟨-, -, -, -, -, -, -, h⟩ := idx t
    show (dats m 0 c).after 7 t y = _
    rw [after0_7]
    obtain ⟨i, j, rfl⟩ := one3 y
    rw [(outs m c t).2.2.2, val7, sums, e3]
    refine (upd_new _ (b7 m c) (ix3 0 (row t i) j) rfl).symm.trans (congrArg (s7 m c) (?_ : _ = _))
    refine (Cert.Fox.eq3 (Fin.ext ?_) (Fin.ext ?_) (Fin.ext ?_)).symm
    · simp [h]
    · simp [h, row]
      try exact mul_comm _ _
    · simp [h]
  · have hj' : (j 0).val ≠ 0 := fun h => hj (by show (j 0).val / 1 = 0; omega)
    rw [A_eq]
    refine Eq.trans ?_ (upd_old _ (b7 m c) j hj').symm
    exact congrFun (show StableHlo.after hostOps0 (fun b => m (c, b)) (Proc.devRef .tc main_v0_3) = m (c, Proc.devRef .tc main_arg7) by after_results; rfl) j

end Cert.Kernel44Ideal.Adam

namespace Cert.AdamLayer

open Idealize.ShloMosaic Idealize.ShloMosaic.TcCoe Idealize.ShloMosaic.Tactic Idealize.SL.Sem Cert.Adam

namespace Ref44
open Cert.Reference44Ideal Cert.Reference44Ideal.Gen Cert.Reference44Ideal.Read

variable (r : FVec Ideal S8x352x1024 .bf16) (w m v p : FVec Ideal S4x352x1024 .f32)

theorem gr (i : Fin 352) (j : Fin 1024) : val_main_v1 (F := Ideal) r (ix2 i j) = grads (n := 4) (R := 352) (L := 1024) r (ix3 0 i j) := by
  pointwise [val_main_v1, val_main_v0, val_main_cst]
  rfl

theorem lay (e : FVec Ideal S352x1024 .f32) (h) (i : Fin 352) (j : Fin 1024) : broadcastInDim S1x352x1024 ![1, 2] h e (ix3 0 i j) = e (ix2 i j) :=
  broadcastInDim_apply _ _ _ _ (ix2 i j) fun b => by match b with | 0 => rfl | 1 => rfl

theorem g : val_main_v34 (F := Ideal) r p = upd (grads (n := 4) (R := 352) (L := 1024) r) p := stack p _ _ _ _ fun i j => (lay _ _ i j).trans (gr r i j)
theorem st : val_main_v37 (F := Ideal) r w m v p = upd (steps (n := 4) (R := 352) (L := 1024) r w m v) p := stack p _ _ _ _ fun i j => by
  refine (lay _ _ i j).trans ((rstp_apply bcast_S_S352x1024 (val_main_v1 (F := Ideal) r) (val_main_v3 (F := Ideal) w) (val_main_v5 (F := Ideal) m) (val_main_v7 (F := Ideal) v) _).trans ?_)
  rw [gr, show val_main_v3 (F := Ideal) w (ix2 i j) = _ from first w _ _ i j, show val_main_v5 (F := Ideal) m (ix2 i j) = _ from first m _ _ i j, show val_main_v7 (F := Ideal) v (ix2 i j) = _ from first v _ _ i j]
  rfl
theorem mo : val_main_v40 (F := Ideal) r m p = upd (moms (n := 4) (R := 352) (L := 1024) r m) p := stack p _ _ _ _ fun i j => by
  refine (lay _ _ i j).trans ((rmom_apply bcast_S_S352x1024 (val_main_v1 (F := Ideal) r) (val_main_v5 (F := Ideal) m) _).trans ?_)
  rw [gr, show val_main_v5 (F := Ideal) m (ix2 i j) = _ from first m _ _ i j]
  rfl
theorem ve : val_main_v43 (F := Ideal) r v p = upd (vels (n := 4) (R := 352) (L := 1024) r v) p := stack p _ _ _ _ fun i j => by
  refine (lay _ _ i j).trans ((rvel_apply bcast_S_S352x1024 (val_main_v1 (F := Ideal) r) (val_main_v7 (F := Ideal) v) _).trans ?_)
  rw [gr, show val_main_v7 (F := Ideal) v (ix2 i j) = _ from first v _ _ i j]
  rfl

end Ref44

theorem agree44 : Cert.algebraic_Kernel44Ideal_Reference44Ideal (hKernel44Ideal := Cert.Kernel44Ideal.Gen.facts)
    (hReference44Ideal := Cert.Reference44Ideal.Gen.facts) := by
  intro m g m' g' _ hag
  refine ⟨fun c => Cert.Kernel44Ideal.Adam.s4 m c, fun c => Cert.Kernel44Ideal.Adam.s5 m c, fun c => Cert.Kernel44Ideal.Adam.s6 m c, fun c => Cert.Kernel44Ideal.Adam.s7 m c, ?_, ?_⟩
  · refine (θ_run Cert.Kernel44Ideal.defs _ _).mono (fun r h c => ?_) (Cert.Kernel44Ideal.Value.run_blocks m g)
    obtain ⟨h4, h5, h6, h7, hargs⟩ := h c
    exact ⟨h4.trans (Cert.Kernel44Ideal.Adam.arr4 m c), h5.trans (Cert.Kernel44Ideal.Adam.arr5 m c), h6.trans (Cert.Kernel44Ideal.Adam.arr6 m c), h7.trans (Cert.Kernel44Ideal.Adam.arr7 m c), hargs⟩
  · refine (θ_run Cert.Reference44Ideal.defs _ _).mono (fun r h c => ?_) (Cert.Reference44Ideal.Value.run (F := Ideal) m' g')
    obtain ⟨a0, a1, a2, a3, a4, a5, a6, a7⟩ := hag c
    obtain ⟨r0, r1, r2, r3, hargs⟩ := h c
    rw [Cert.Reference44Ideal.Read.val_main_v34_eq, Ref44.g , a0, a4] at r0
    rw [Cert.Reference44Ideal.Read.val_main_v37_eq, Ref44.st , a0, a1, a2, a3, a5] at r1
    rw [Cert.Reference44Ideal.Read.val_main_v40_eq, Ref44.mo , a0, a2, a6] at r2
    rw [Cert.Reference44Ideal.Read.val_main_v43_eq, Ref44.ve , a0, a3, a7] at r3
    exact ⟨r0, r1, r2, r3, hargs⟩

end Cert.AdamLayer

end
-- ==== Proof.lean ====
/- The claims, put together: the frames, the naming of the mask, and the agreement of each kernel with its reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Loops
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Pre_finite28
public import proofs.«01_k».proof.Proof.Gen.Kernel29
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Pre_finite29
public import proofs.«01_k».proof.Proof.Gen.Kernel30
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Gen.Kernel37
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.Gen.Kernel38
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import proofs.«01_k».proof.Proof.Gen.Kernel39
public import proofs.«01_k».proof.Proof.Gen.Kernel39Ideal
public import proofs.«01_k».proof.Proof.Gen.Kernel39Ideal.Skeleton
public import proofs.«01_k».proof.Proof.Gen.Kernel39Ideal.Launch
public import proofs.«01_k».proof.Proof.Gen.Kernel39Ideal.Points
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Reference39Ideal.Read
public import proofs.«01_k».proof.Proof.Gen.Kernel40
public import proofs.«01_k».proof.Proof.Gen.Kernel40Ideal
public import proofs.«01_k».proof.Proof.Gen.Kernel40Ideal.Skeleton
public import proofs.«01_k».proof.Proof.Gen.Kernel40Ideal.Launch
public import proofs.«01_k».proof.Proof.Gen.Kernel40Ideal.Points
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Reference40Ideal.Read
public import proofs.«01_k».proof.Proof.Gen.Kernel41
public import proofs.«01_k».proof.Proof.Gen.Kernel41Ideal
public import proofs.«01_k».proof.Proof.Gen.Kernel41Ideal.Skeleton
public import proofs.«01_k».proof.Proof.Gen.Kernel41Ideal.Launch
public import proofs.«01_k».proof.Proof.Gen.Kernel41Ideal.Points
public import proofs.«01_k».proof.Proof.Gen.Kernel41Ideal.Frame
public import proofs.«01_k».proof.Proof.Gen.Kernel41Ideal.Value
public import proofs.«01_k».proof.Proof.Gen.Reference41Ideal
public import proofs.«01_k».proof.Proof.Gen.Reference41Ideal.Run
public import proofs.«01_k».proof.Proof.Gen.Reference41Ideal.Read
public import proofs.«01_k».proof.Proof.Gen.Kernel42
public import proofs.«01_k».proof.Proof.Gen.Kernel42Ideal
public import proofs.«01_k».proof.Proof.Gen.Kernel42Ideal.Skeleton
public import proofs.«01_k».proof.Proof.Gen.Kernel42Ideal.Launch
public import proofs.«01_k».proof.Proof.Gen.Kernel42Ideal.Points
public import proofs.«01_k».proof.Proof.Gen.Kernel42Ideal.Frame
public import proofs.«01_k».proof.Proof.Gen.Kernel42Ideal.Value
public import proofs.«01_k».proof.Proof.Gen.Reference42Ideal
public import proofs.«01_k».proof.Proof.Gen.Reference42Ideal.Run
public import proofs.«01_k».proof.Proof.Gen.Reference42Ideal.Read
public import proofs.«01_k».proof.Proof.Gen.Kernel43
public import proofs.«01_k».proof.Proof.Gen.Kernel43Ideal
public import proofs.«01_k».proof.Proof.Gen.Kernel43Ideal.Skeleton
public import proofs.«01_k».proof.Proof.Gen.Kernel43Ideal.Launch
public import proofs.«01_k».proof.Proof.Gen.Kernel43Ideal.Points
public import proofs.«01_k».proof.Proof.Gen.Kernel43Ideal.Frame
public import proofs.«01_k».proof.Proof.Gen.Kernel43Ideal.Value
public import proofs.«01_k».proof.Proof.Gen.Reference43Ideal
public import proofs.«01_k».proof.Proof.Gen.Reference43Ideal.Run
public import proofs.«01_k».proof.Proof.Gen.Reference43Ideal.Read
public import proofs.«01_k».proof.Proof.Gen.Kernel44
public import proofs.«01_k».proof.Proof.Gen.Kernel44Ideal
public import proofs.«01_k».proof.Proof.Gen.Kernel44Ideal.Skeleton
public import proofs.«01_k».proof.Proof.Gen.Kernel44Ideal.Launch
public import proofs.«01_k».proof.Proof.Gen.Kernel44Ideal.Points
public import proofs.«01_k».proof.Proof.Gen.Kernel44Ideal.Frame
public import proofs.«01_k».proof.Proof.Gen.Kernel44Ideal.Value
public import proofs.«01_k».proof.Proof.Gen.Reference44Ideal
public import proofs.«01_k».proof.Proof.Gen.Reference44Ideal.Run
public import proofs.«01_k».proof.Proof.Gen.Reference44Ideal.Read
public import proofs.«01_k».proof.Proof.Agree
public import Idealize.ShloMosaic.Adequacy
public import Idealize.ShloMosaic.Init
public import proofs.«01_k».proof.Proof.UpProj
public import proofs.«01_k».proof.Proof.DownProj
public import proofs.«01_k».proof.Proof.DUp
public import proofs.«01_k».proof.Proof.DAct
public import proofs.«01_k».proof.Proof.DWDown
public import proofs.«01_k».proof.Proof.DWUp
public import proofs.«01_k».proof.Proof.GateAct
public import proofs.«01_k».proof.Proof.ProdCols
public import proofs.«01_k».proof.Proof.ProdRows
public import proofs.«01_k».proof.Proof.ProdGrad
public import proofs.«01_k».proof.Proof.ProdOut
public import proofs.«01_k».proof.Proof.ProdMem
public import proofs.«01_k».proof.Proof.MemFwd
public import proofs.«01_k».proof.Proof.MemGrad
public import proofs.«01_k».proof.Proof.MemSelf
public import proofs.«01_k».proof.Proof.Norm
public import proofs.«01_k».proof.Proof.NormGrad
public import proofs.«01_k».proof.Proof.LossHead
public import proofs.«01_k».proof.Proof.Adam
public import proofs.«01_k».proof.Proof.AdamSmall
public import proofs.«01_k».proof.Proof.AdamKvf
public import proofs.«01_k».proof.Proof.AdamInA
public import proofs.«01_k».proof.Proof.AdamInB
public import proofs.«01_k».proof.Proof.AdamMemKv
public import proofs.«01_k».proof.Proof.AdamOut
public import proofs.«01_k».proof.Proof.AdamUp
public import proofs.«01_k».proof.Proof.AdamDown

@[expose] public section

noncomputable section

namespace Cert.Proof

open Idealize.ShloMosaic Idealize.SL.Sem Cert.Kernel

/-- The reference's frame: its run, with the results forgotten. -/
theorem frame_ri : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-! The frames of the products' kernels and of their references. Each kernel is the same program at the two readings: its
tables of bodies are equal label by label, and its frame over words is that of the run that holds over any kind of element. -/

theorem same_k2 : Cert.Kernel2.defs (F := Bits) = Cert.Kernel2Ideal.defs (F := Bits) :=
  congrArg (Pipeline.defs (Cert.Kernel2.pcfgs (F := Bits))) (congrArg Defs.onTc (funext fun l => by
    match l with
    | 0 => rfl))
theorem frame_k2 : Cert.quiescent_Kernel2 := fun m ρ _ => by
  rw [same_k2]
  exact Cert.Kernel2Ideal.Gen.frame (F := Bits) m ρ
theorem frame_r2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

theorem same_k3 : Cert.Kernel3.defs (F := Bits) = Cert.Kernel3Ideal.defs (F := Bits) :=
  congrArg (Pipeline.defs (Cert.Kernel3.pcfgs (F := Bits))) (congrArg Defs.onTc (funext fun l => by
    match l with
    | 0 => rfl))
theorem frame_k3 : Cert.quiescent_Kernel3 := fun m ρ _ => by
  rw [same_k3]
  exact Cert.Kernel3Ideal.Gen.frame (F := Bits) m ρ
theorem frame_r3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

theorem same_k4 : Cert.Kernel4.defs (F := Bits) = Cert.Kernel4Ideal.defs (F := Bits) :=
  congrArg (Pipeline.defs (Cert.Kernel4.pcfgs (F := Bits))) (congrArg Defs.onTc (funext fun l => by
    match l with
    | 0 => rfl))
theorem frame_k4 : Cert.quiescent_Kernel4 := fun m ρ _ => by
  rw [same_k4]
  exact Cert.Kernel4Ideal.Gen.frame (F := Bits) m ρ
theorem frame_r4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

theorem same_k5 : Cert.Kernel5.defs (F := Bits) = Cert.Kernel5Ideal.defs (F := Bits) :=
  congrArg (Pipeline.defs (Cert.Kernel5.pcfgs (F := Bits))) (congrArg Defs.onTc (funext fun l => by
    match l with
    | 0 => rfl
    | 1 => rfl))
theorem frame_k5 : Cert.quiescent_Kernel5 := fun m ρ _ => by
  rw [same_k5]
  exact Cert.Kernel5Ideal.Gen.frame (F := Bits) m ρ
theorem frame_r5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

theorem same_k6 : Cert.Kernel6.defs (F := Bits) = Cert.Kernel6Ideal.defs (F := Bits) :=
  congrArg (Pipeline.defs (Cert.Kernel6.pcfgs (F := Bits))) (congrArg Defs.onTc (funext fun l => by
    match l with
    | 0 => rfl))
theorem frame_k6 : Cert.quiescent_Kernel6 := fun m ρ _ => by
  rw [same_k6]
  exact Cert.Kernel6Ideal.Gen.frame (F := Bits) m ρ
theorem frame_r6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem same_k7 : Cert.Kernel7.defs (F := Bits) = Cert.Kernel7Ideal.defs (F := Bits) :=
  congrArg (Pipeline.defs (Cert.Kernel7.pcfgs (F := Bits))) (congrArg Defs.onTc (funext fun l => by
    match l with
    | 0 => rfl))
theorem frame_k7 : Cert.quiescent_Kernel7 := fun m ρ _ => by
  rw [same_k7]
  exact Cert.Kernel7Ideal.Gen.frame (F := Bits) m ρ
theorem frame_r7 : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

theorem same_k8 : Cert.Kernel8.defs (F := Bits) = Cert.Kernel8Ideal.defs (F := Bits) :=
  congrArg (Pipeline.defs (Cert.Kernel8.pcfgs (F := Bits))) (congrArg Defs.onTc (funext fun l => by
    match l with
    | 0 => rfl))
theorem frame_k8 : Cert.quiescent_Kernel8 := fun m ρ _ => by
  rw [same_k8]
  exact Cert.Kernel8Ideal.Gen.frame (F := Bits) m ρ
theorem frame_r8 : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

theorem same_k10 : Cert.Kernel10.defs (F := Bits) = Cert.Kernel10Ideal.defs (F := Bits) :=
  congrArg (Pipeline.defs (Cert.Kernel10.pcfgs (F := Bits))) (congrArg Defs.onTc (funext fun l => by
    match l with
    | 0 => rfl))
theorem frame_k10 : Cert.quiescent_Kernel10 := fun m ρ _ => by
  rw [same_k10]
  exact Cert.Kernel10Ideal.Gen.frame (F := Bits) m ρ
theorem frame_r10 : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

theorem same_k11 : Cert.Kernel11.defs (F := Bits) = Cert.Kernel11Ideal.defs (F := Bits) :=
  congrArg (Pipeline.defs (Cert.Kernel11.pcfgs (F := Bits))) (congrArg Defs.onTc (funext fun l => by
    match l with
    | 0 => rfl))
theorem frame_k11 : Cert.quiescent_Kernel11 := fun m ρ _ => by
  rw [same_k11]
  exact Cert.Kernel11Ideal.Gen.frame (F := Bits) m ρ
theorem frame_r11 : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

theorem same_k12 : Cert.Kernel12.defs (F := Bits) = Cert.Kernel12Ideal.defs (F := Bits) :=
  congrArg (Pipeline.defs (Cert.Kernel12.pcfgs (F := Bits))) (congrArg Defs.onTc (funext fun l => by
    match l with
    | 0 => rfl))
theorem frame_k12 : Cert.quiescent_Kernel12 := fun m ρ _ => by
  rw [same_k12]
  exact Cert.Kernel12Ideal.Gen.frame (F := Bits) m ρ
theorem frame_r12 : Cert.quiescent_Reference12Ideal := fun m ρ _ =>
  (θ_run Cert.Reference12Ideal.defs _ _).mono
    (fun r h => ⟨fun c => (h c).2, sem_eq_zero_of_no_sems (by decide) r.2⟩)
    (Cert.Reference12Ideal.Value.run (F := Ideal) m ρ)

theorem same_k13 : Cert.Kernel13.defs (F := Bits) = Cert.Kernel13Ideal.defs (F := Bits) :=
  congrArg (Pipeline.defs (Cert.Kernel13.pcfgs (F := Bits))) (congrArg Defs.onTc (funext fun l => by
    match l with
    | 0 => rfl))
theorem frame_k13 : Cert.quiescent_Kernel13 := fun m ρ _ => by
  rw [same_k13]
  exact Cert.Kernel13Ideal.Gen.frame (F := Bits) m ρ
theorem frame_r13 : Cert.quiescent_Reference13Ideal := fun m ρ _ =>
  (θ_run Cert.Reference13Ideal.defs _ _).mono
    (fun r h => ⟨fun c => (h c).2, sem_eq_zero_of_no_sems (by decide) r.2⟩)
    (Cert.Reference13Ideal.Value.run (F := Ideal) m ρ)

theorem same_k14 : Cert.Kernel14.defs (F := Bits) = Cert.Kernel14Ideal.defs (F := Bits) :=
  congrArg (Pipeline.defs (Cert.Kernel14.pcfgs (F := Bits))) (congrArg Defs.onTc (funext fun l => by
    match l with
    | 0 => rfl))
theorem frame_k14 : Cert.quiescent_Kernel14 := fun m ρ _ => by
  rw [same_k14]
  exact Cert.Kernel14Ideal.Gen.frame (F := Bits) m ρ
theorem frame_r14 : Cert.quiescent_Reference14Ideal := fun m ρ _ =>
  (θ_run Cert.Reference14Ideal.defs _ _).mono
    (fun r h => ⟨fun c => (h c).2, sem_eq_zero_of_no_sems (by decide) r.2⟩)
    (Cert.Reference14Ideal.Value.run (F := Ideal) m ρ)

theorem same_k15 : Cert.Kernel15.defs (F := Bits) = Cert.Kernel15Ideal.defs (F := Bits) :=
  congrArg (Pipeline.defs (Cert.Kernel15.pcfgs (F := Bits))) (congrArg Defs.onTc (funext fun l => by
    match l with
    | 0 => rfl))
theorem frame_k15 : Cert.quiescent_Kernel15 := fun m ρ _ => by
  rw [same_k15]
  exact Cert.Kernel15Ideal.Gen.frame (F := Bits) m ρ
theorem frame_r15 : Cert.quiescent_Reference15Ideal := fun m ρ _ =>
  (θ_run Cert.Reference15Ideal.defs _ _).mono
    (fun r h => ⟨fun c => (h c).2, sem_eq_zero_of_no_sems (by decide) r.2⟩)
    (Cert.Reference15Ideal.Value.run (F := Ideal) m ρ)

theorem same_k16 : Cert.Kernel16.defs (F := Bits) = Cert.Kernel16Ideal.defs (F := Bits) :=
  congrArg (Pipeline.defs (Cert.Kernel16.pcfgs (F := Bits))) (congrArg Defs.onTc (funext fun l => by
    match l with
    | 0 => rfl))
theorem frame_k16 : Cert.quiescent_Kernel16 := fun m ρ _ => by
  rw [same_k16]
  exact Cert.Kernel16Ideal.Gen.frame (F := Bits) m ρ
theorem frame_r16 : Cert.quiescent_Reference16Ideal := fun m ρ _ =>
  (θ_run Cert.Reference16Ideal.defs _ _).mono
    (fun r h => ⟨fun c => (h c).2, sem_eq_zero_of_no_sems (by decide) r.2⟩)
    (Cert.Reference16Ideal.Value.run (F := Ideal) m ρ)

theorem same_k17 : Cert.Kernel17.defs (F := Bits) = Cert.Kernel17Ideal.defs (F := Bits) :=
  congrArg (Pipeline.defs (Cert.Kernel17.pcfgs (F := Bits))) (congrArg Defs.onTc (funext fun l => by
    match l with
    | 0 => rfl))
theorem frame_k17 : Cert.quiescent_Kernel17 := fun m ρ _ => by
  rw [same_k17]
  exact Cert.Kernel17Ideal.Gen.frame (F := Bits) m ρ
theorem frame_r17 : Cert.quiescent_Reference17Ideal := fun m ρ _ =>
  (θ_run Cert.Reference17Ideal.defs _ _).mono
    (fun r h => ⟨fun c => (h c).2, sem_eq_zero_of_no_sems (by decide) r.2⟩)
    (Cert.Reference17Ideal.Value.run (F := Ideal) m ρ)

theorem same_k18 : Cert.Kernel18.defs (F := Bits) = Cert.Kernel18Ideal.defs (F := Bits) :=
  congrArg (Pipeline.defs (Cert.Kernel18.pcfgs (F := Bits))) (congrArg Defs.onTc (funext fun l => by
    match l with
    | 0 => rfl))
theorem frame_k18 : Cert.quiescent_Kernel18 := fun m ρ _ => by
  rw [same_k18]
  exact Cert.Kernel18Ideal.Gen.frame (F := Bits) m ρ
theorem frame_r18 : Cert.quiescent_Reference18Ideal := fun m ρ _ =>
  (θ_run Cert.Reference18Ideal.defs _ _).mono
    (fun r h => ⟨fun c => (h c).2, sem_eq_zero_of_no_sems (by decide) r.2⟩)
    (Cert.Reference18Ideal.Value.run (F := Ideal) m ρ)

theorem same_k19 : Cert.Kernel19.defs (F := Bits) = Cert.Kernel19Ideal.defs (F := Bits) :=
  congrArg (Pipeline.defs (Cert.Kernel19.pcfgs (F := Bits))) (congrArg Defs.onTc (funext fun l => by
    match l with
    | 0 => rfl))
theorem frame_k19 : Cert.quiescent_Kernel19 := fun m ρ _ => by
  rw [same_k19]
  exact Cert.Kernel19Ideal.Gen.frame (F := Bits) m ρ
theorem frame_r19 : Cert.quiescent_Reference19Ideal := fun m ρ _ =>
  (θ_run Cert.Reference19Ideal.defs _ _).mono
    (fun r h => ⟨fun c => (h c).2, sem_eq_zero_of_no_sems (by decide) r.2⟩)
    (Cert.Reference19Ideal.Value.run (F := Ideal) m ρ)

theorem same_k20 : Cert.Kernel20.defs (F := Bits) = Cert.Kernel20Ideal.defs (F := Bits) :=
  congrArg (Pipeline.defs (Cert.Kernel20.pcfgs (F := Bits))) (congrArg Defs.onTc (funext fun l => by
    match l with
    | 0 => rfl))
theorem frame_k20 : Cert.quiescent_Kernel20 := fun m ρ _ => by
  rw [same_k20]
  exact Cert.Kernel20Ideal.Gen.frame (F := Bits) m ρ
theorem frame_r20 : Cert.quiescent_Reference20Ideal := fun m ρ _ =>
  (θ_run Cert.Reference20Ideal.defs _ _).mono
    (fun r h => ⟨fun c => (h c).2, sem_eq_zero_of_no_sems (by decide) r.2⟩)
    (Cert.Reference20Ideal.Value.run (F := Ideal) m ρ)

theorem same_k21 : Cert.Kernel21.defs (F := Bits) = Cert.Kernel21Ideal.defs (F := Bits) :=
  congrArg (Pipeline.defs (Cert.Kernel21.pcfgs (F := Bits))) (congrArg Defs.onTc (funext fun l => by
    match l with
    | 0 => rfl))
theorem frame_k21 : Cert.quiescent_Kernel21 := fun m ρ _ => by
  rw [same_k21]
  exact Cert.Kernel21Ideal.Gen.frame (F := Bits) m ρ
theorem frame_r21 : Cert.quiescent_Reference21Ideal := fun m ρ _ =>
  (θ_run Cert.Reference21Ideal.defs _ _).mono
    (fun r h => ⟨fun c => (h c).2, sem_eq_zero_of_no_sems (by decide) r.2⟩)
    (Cert.Reference21Ideal.Value.run (F := Ideal) m ρ)

theorem same_k22 : Cert.Kernel22.defs (F := Bits) = Cert.Kernel22Ideal.defs (F := Bits) :=
  congrArg (Pipeline.defs (Cert.Kernel22.pcfgs (F := Bits))) (congrArg Defs.onTc (funext fun l => by
    match l with
    | 0 => rfl))
theorem frame_k22 : Cert.quiescent_Kernel22 := fun m ρ _ => by
  rw [same_k22]
  exact Cert.Kernel22Ideal.Gen.frame (F := Bits) m ρ
theorem frame_r22 : Cert.quiescent_Reference22Ideal := fun m ρ _ =>
  (θ_run Cert.Reference22Ideal.defs _ _).mono
    (fun r h => ⟨fun c => (h c).2, sem_eq_zero_of_no_sems (by decide) r.2⟩)
    (Cert.Reference22Ideal.Value.run (F := Ideal) m ρ)

theorem same_k23 : Cert.Kernel23.defs (F := Bits) = Cert.Kernel23Ideal.defs (F := Bits) :=
  congrArg (Pipeline.defs (Cert.Kernel23.pcfgs (F := Bits))) (congrArg Defs.onTc (funext fun l => by
    match l with
    | 0 => rfl))
theorem frame_k23 : Cert.quiescent_Kernel23 := fun m ρ _ => by
  rw [same_k23]
  exact Cert.Kernel23Ideal.Gen.frame (F := Bits) m ρ
theorem frame_r23 : Cert.quiescent_Reference23Ideal := fun m ρ _ =>
  (θ_run Cert.Reference23Ideal.defs _ _).mono
    (fun r h => ⟨fun c => (h c).2, sem_eq_zero_of_no_sems (by decide) r.2⟩)
    (Cert.Reference23Ideal.Value.run (F := Ideal) m ρ)

theorem same_k24 : Cert.Kernel24.defs (F := Bits) = Cert.Kernel24Ideal.defs (F := Bits) :=
  congrArg (Pipeline.defs (Cert.Kernel24.pcfgs (F := Bits))) (congrArg Defs.onTc (funext fun l => by
    match l with
    | 0 => rfl))
theorem frame_k24 : Cert.quiescent_Kernel24 := fun m ρ _ => by
  rw [same_k24]
  exact Cert.Kernel24Ideal.Gen.frame (F := Bits) m ρ
theorem frame_r24 : Cert.quiescent_Reference24Ideal := fun m ρ _ =>
  (θ_run Cert.Reference24Ideal.defs _ _).mono
    (fun r h => ⟨fun c => (h c).2, sem_eq_zero_of_no_sems (by decide) r.2⟩)
    (Cert.Reference24Ideal.Value.run (F := Ideal) m ρ)

theorem same_k25 : Cert.Kernel25.defs (F := Bits) = Cert.Kernel25Ideal.defs (F := Bits) :=
  congrArg (Pipeline.defs (Cert.Kernel25.pcfgs (F := Bits))) (congrArg Defs.onTc (funext fun l => by
    match l with
    | 0 => rfl))
theorem frame_k25 : Cert.quiescent_Kernel25 := fun m ρ _ => by
  rw [same_k25]
  exact Cert.Kernel25Ideal.Gen.frame (F := Bits) m ρ
theorem frame_r25 : Cert.quiescent_Reference25Ideal := fun m ρ _ =>
  (θ_run Cert.Reference25Ideal.defs _ _).mono
    (fun r h => ⟨fun c => (h c).2, sem_eq_zero_of_no_sems (by decide) r.2⟩)
    (Cert.Reference25Ideal.Value.run (F := Ideal) m ρ)

theorem same_k26 : Cert.Kernel26.defs (F := Bits) = Cert.Kernel26Ideal.defs (F := Bits) :=
  congrArg (Pipeline.defs (Cert.Kernel26.pcfgs (F := Bits))) (congrArg Defs.onTc (funext fun l => by
    match l with
    | 0 => rfl))
theorem frame_k26 : Cert.quiescent_Kernel26 := fun m ρ _ => by
  rw [same_k26]
  exact Cert.Kernel26Ideal.Gen.frame (F := Bits) m ρ
theorem frame_r26 : Cert.quiescent_Reference26Ideal := fun m ρ _ =>
  (θ_run Cert.Reference26Ideal.defs _ _).mono
    (fun r h => ⟨fun c => (h c).2, sem_eq_zero_of_no_sems (by decide) r.2⟩)
    (Cert.Reference26Ideal.Value.run (F := Ideal) m ρ)

theorem same_k27 : Cert.Kernel27.defs (F := Bits) = Cert.Kernel27Ideal.defs (F := Bits) :=
  congrArg (Pipeline.defs (Cert.Kernel27.pcfgs (F := Bits))) (congrArg Defs.onTc (funext fun l => by
    match l with
    | 0 => rfl))
theorem frame_k27 : Cert.quiescent_Kernel27 := fun m ρ _ => by
  rw [same_k27]
  exact Cert.Kernel27Ideal.Gen.frame (F := Bits) m ρ
theorem frame_r27 : Cert.quiescent_Reference27Ideal := fun m ρ _ =>
  (θ_run Cert.Reference27Ideal.defs _ _).mono
    (fun r h => ⟨fun c => (h c).2, sem_eq_zero_of_no_sems (by decide) r.2⟩)
    (Cert.Reference27Ideal.Value.run (F := Ideal) m ρ)

theorem same_k28 : Cert.Kernel28.defs (F := Bits) = Cert.Kernel28Ideal.defs (F := Bits) :=
  congrArg (Pipeline.defs (Cert.Kernel28.pcfgs (F := Bits))) (congrArg Defs.onTc (funext fun l => by
    match l with
    | 0 => rfl))
theorem frame_k28 : Cert.quiescent_Kernel28 := fun m ρ _ => by
  rw [same_k28]
  exact Cert.Kernel28Ideal.Gen.frame (F := Bits) m ρ
theorem frame_r28 : Cert.quiescent_Reference28Ideal := fun m ρ _ =>
  (θ_run Cert.Reference28Ideal.defs _ _).mono
    (fun r h => ⟨fun c => (h c).2.2.2, sem_eq_zero_of_no_sems (by decide) r.2⟩)
    (Cert.Reference28Ideal.Value.run (F := Ideal) m ρ)

theorem same_k29 : Cert.Kernel29.defs (F := Bits) = Cert.Kernel29Ideal.defs (F := Bits) :=
  congrArg (Pipeline.defs (Cert.Kernel29.pcfgs (F := Bits))) (congrArg Defs.onTc (funext fun l => by
    match l with
    | 0 => rfl))
theorem frame_k29 : Cert.quiescent_Kernel29 := fun m ρ _ => by
  rw [same_k29]
  exact Cert.Kernel29Ideal.Gen.frame (F := Bits) m ρ
theorem frame_r29 : Cert.quiescent_Reference29Ideal := fun m ρ _ =>
  (θ_run Cert.Reference29Ideal.defs _ _).mono
    (fun r h => ⟨fun c => (h c).2.2.2, sem_eq_zero_of_no_sems (by decide) r.2⟩)
    (Cert.Reference29Ideal.Value.run (F := Ideal) m ρ)

theorem same_k30 : Cert.Kernel30.defs (F := Bits) = Cert.Kernel30Ideal.defs (F := Bits) :=
  congrArg (Pipeline.defs (Cert.Kernel30.pcfgs (F := Bits))) (congrArg Defs.onTc (funext fun l => by
    match l with
    | 0 => rfl))
theorem frame_k30 : Cert.quiescent_Kernel30 := fun m ρ _ => by
  rw [same_k30]
  exact Cert.Kernel30Ideal.Gen.frame (F := Bits) m ρ
theorem frame_r30 : Cert.quiescent_Reference30Ideal := fun m ρ _ =>
  (θ_run Cert.Reference30Ideal.defs _ _).mono
    (fun r h => ⟨fun c => (h c).2, sem_eq_zero_of_no_sems (by decide) r.2⟩)
    (Cert.Reference30Ideal.Value.run (F := Ideal) m ρ)

theorem same_k31 : Cert.Kernel31.defs (F := Bits) = Cert.Kernel31Ideal.defs (F := Bits) :=
  congrArg (Pipeline.defs (Cert.Kernel31.pcfgs (F := Bits))) (congrArg Defs.onTc (funext fun l => by
    match l with
    | 0 => rfl))
theorem frame_k31 : Cert.quiescent_Kernel31 := fun m ρ _ => by
  rw [same_k31]
  exact Cert.Kernel31Ideal.Gen.frame (F := Bits) m ρ
theorem frame_r31 : Cert.quiescent_Reference31Ideal := fun m ρ _ =>
  (θ_run Cert.Reference31Ideal.defs _ _).mono
    (fun r h => ⟨fun c => (h c).2, sem_eq_zero_of_no_sems (by decide) r.2⟩)
    (Cert.Reference31Ideal.Value.run (F := Ideal) m ρ)

theorem same_k32 : Cert.Kernel32.defs (F := Bits) = Cert.Kernel32Ideal.defs (F := Bits) :=
  congrArg (Pipeline.defs (Cert.Kernel32.pcfgs (F := Bits))) (congrArg Defs.onTc (funext fun l => by
    match l with
    | 0 => rfl))
theorem frame_k32 : Cert.quiescent_Kernel32 := fun m ρ _ => by
  rw [same_k32]
  exact Cert.Kernel32Ideal.Gen.frame (F := Bits) m ρ
theorem frame_r32 : Cert.quiescent_Reference32Ideal := fun m ρ _ =>
  (θ_run Cert.Reference32Ideal.defs _ _).mono
    (fun r h => ⟨fun c => (h c).2, sem_eq_zero_of_no_sems (by decide) r.2⟩)
    (Cert.Reference32Ideal.Value.run (F := Ideal) m ρ)

theorem same_k33 : Cert.Kernel33.defs (F := Bits) = Cert.Kernel33Ideal.defs (F := Bits) :=
  congrArg (Pipeline.defs (Cert.Kernel33.pcfgs (F := Bits))) (congrArg Defs.onTc (funext fun l => by
    match l with
    | 0 => rfl))
theorem frame_k33 : Cert.quiescent_Kernel33 := fun m ρ _ => by
  rw [same_k33]
  exact Cert.Kernel33Ideal.Gen.frame (F := Bits) m ρ
theorem frame_r33 : Cert.quiescent_Reference33Ideal := fun m ρ _ =>
  (θ_run Cert.Reference33Ideal.defs _ _).mono
    (fun r h => ⟨fun c => (h c).2.2, sem_eq_zero_of_no_sems (by decide) r.2⟩)
    (Cert.Reference33Ideal.Value.run (F := Ideal) m ρ)

theorem same_k34 : Cert.Kernel34.defs (F := Bits) = Cert.Kernel34Ideal.defs (F := Bits) :=
  congrArg (Pipeline.defs (Cert.Kernel34.pcfgs (F := Bits))) (congrArg Defs.onTc (funext fun l => by
    match l with
    | 0 => rfl))
theorem frame_k34 : Cert.quiescent_Kernel34 := fun m ρ _ => by
  rw [same_k34]
  exact Cert.Kernel34Ideal.Gen.frame (F := Bits) m ρ
theorem frame_r34 : Cert.quiescent_Reference34Ideal := fun m ρ _ =>
  (θ_run Cert.Reference34Ideal.defs _ _).mono
    (fun r h => ⟨fun c => (h c).2, sem_eq_zero_of_no_sems (by decide) r.2⟩)
    (Cert.Reference34Ideal.Value.run (F := Ideal) m ρ)

theorem same_k35 : Cert.Kernel35.defs (F := Bits) = Cert.Kernel35Ideal.defs (F := Bits) :=
  congrArg (Pipeline.defs (Cert.Kernel35.pcfgs (F := Bits))) (congrArg Defs.onTc (funext fun l => by
    match l with
    | 0 => rfl))
theorem frame_k35 : Cert.quiescent_Kernel35 := fun m ρ _ => by
  rw [same_k35]
  exact Cert.Kernel35Ideal.Gen.frame (F := Bits) m ρ
theorem frame_r35 : Cert.quiescent_Reference35Ideal := fun m ρ _ =>
  (θ_run Cert.Reference35Ideal.defs _ _).mono
    (fun r h => ⟨fun c => (h c).2.2.2, sem_eq_zero_of_no_sems (by decide) r.2⟩)
    (Cert.Reference35Ideal.Value.run (F := Ideal) m ρ)

theorem same_k36 : Cert.Kernel36.defs (F := Bits) = Cert.Kernel36Ideal.defs (F := Bits) :=
  congrArg (Pipeline.defs (Cert.Kernel36.pcfgs (F := Bits))) (congrArg Defs.onTc (funext fun l => by
    match l with
    | 0 => rfl))
theorem frame_k36 : Cert.quiescent_Kernel36 := fun m ρ _ => by
  rw [same_k36]
  exact Cert.Kernel36Ideal.Gen.frame (F := Bits) m ρ
theorem frame_r36 : Cert.quiescent_Reference36Ideal := fun m ρ _ =>
  (θ_run Cert.Reference36Ideal.defs _ _).mono
    (fun r h => ⟨fun c => (h c).2.2.2.2, sem_eq_zero_of_no_sems (by decide) r.2⟩)
    (Cert.Reference36Ideal.Value.run (F := Ideal) m ρ)

theorem same_k37 : Cert.Kernel37.defs (F := Bits) = Cert.Kernel37Ideal.defs (F := Bits) :=
  congrArg (Pipeline.defs (Cert.Kernel37.pcfgs (F := Bits))) (congrArg Defs.onTc (funext fun l => by
    match l with
    | 0 => rfl))
theorem frame_k37 : Cert.quiescent_Kernel37 := fun m ρ _ => by
  rw [same_k37]
  exact Cert.Kernel37Ideal.Gen.frame (F := Bits) m ρ
theorem frame_r37 : Cert.quiescent_Reference37Ideal := fun m ρ _ =>
  (θ_run Cert.Reference37Ideal.defs _ _).mono
    (fun r h => ⟨fun c => (h c).2.2.2.2, sem_eq_zero_of_no_sems (by decide) r.2⟩)
    (Cert.Reference37Ideal.Value.run (F := Ideal) m ρ)

theorem same_k38 : Cert.Kernel38.defs (F := Bits) = Cert.Kernel38Ideal.defs (F := Bits) :=
  congrArg (Pipeline.defs (Cert.Kernel38.pcfgs (F := Bits))) (congrArg Defs.onTc (funext fun l => by
    match l with
    | 0 => rfl))
theorem frame_k38 : Cert.quiescent_Kernel38 := fun m ρ _ => by
  rw [same_k38]
  exact Cert.Kernel38Ideal.Gen.frame (F := Bits) m ρ
theorem frame_r38 : Cert.quiescent_Reference38Ideal := fun m ρ _ =>
  (θ_run Cert.Reference38Ideal.defs _ _).mono
    (fun r h => ⟨fun c => (h c).2.2.2.2, sem_eq_zero_of_no_sems (by decide) r.2⟩)
    (Cert.Reference38Ideal.Value.run (F := Ideal) m ρ)

theorem same_k39 : Cert.Kernel39.defs (F := Bits) = Cert.Kernel39Ideal.defs (F := Bits) :=
  congrArg (Pipeline.defs (Cert.Kernel39.pcfgs (F := Bits))) (congrArg Defs.onTc (funext fun l => by
    match l with
    | 0 => rfl))
theorem frame_k39 : Cert.quiescent_Kernel39 := fun m ρ _ => by
  rw [same_k39]
  exact Cert.Kernel39Ideal.Gen.frame (F := Bits) m ρ
theorem frame_r39 : Cert.quiescent_Reference39Ideal := fun m ρ _ =>
  (θ_run Cert.Reference39Ideal.defs _ _).mono
    (fun r h => ⟨fun c => (h c).2.2.2.2, sem_eq_zero_of_no_sems (by decide) r.2⟩)
    (Cert.Reference39Ideal.Value.run (F := Ideal) m ρ)

theorem same_k40 : Cert.Kernel40.defs (F := Bits) = Cert.Kernel40Ideal.defs (F := Bits) :=
  congrArg (Pipeline.defs (Cert.Kernel40.pcfgs (F := Bits))) (congrArg Defs.onTc (funext fun l => by
    match l with
    | 0 => rfl))
theorem frame_k40 : Cert.quiescent_Kernel40 := fun m ρ _ => by
  rw [same_k40]
  exact Cert.Kernel40Ideal.Gen.frame (F := Bits) m ρ
theorem frame_r40 : Cert.quiescent_Reference40Ideal := fun m ρ _ =>
  (θ_run Cert.Reference40Ideal.defs _ _).mono
    (fun r h => ⟨fun c => (h c).2.2.2.2, sem_eq_zero_of_no_sems (by decide) r.2⟩)
    (Cert.Reference40Ideal.Value.run (F := Ideal) m ρ)

theorem same_k41 : Cert.Kernel41.defs (F := Bits) = Cert.Kernel41Ideal.defs (F := Bits) :=
  congrArg (Pipeline.defs (Cert.Kernel41.pcfgs (F := Bits))) (congrArg Defs.onTc (funext fun l => by
    match l with
    | 0 => rfl))
theorem frame_k41 : Cert.quiescent_Kernel41 := fun m ρ _ => by
  rw [same_k41]
  exact Cert.Kernel41Ideal.Gen.frame (F := Bits) m ρ
theorem frame_r41 : Cert.quiescent_Reference41Ideal := fun m ρ _ =>
  (θ_run Cert.Reference41Ideal.defs _ _).mono
    (fun r h => ⟨fun c => (h c).2.2.2.2, sem_eq_zero_of_no_sems (by decide) r.2⟩)
    (Cert.Reference41Ideal.Value.run (F := Ideal) m ρ)

theorem same_k42 : Cert.Kernel42.defs (F := Bits) = Cert.Kernel42Ideal.defs (F := Bits) :=
  congrArg (Pipeline.defs (Cert.Kernel42.pcfgs (F := Bits))) (congrArg Defs.onTc (funext fun l => by
    match l with
    | 0 => rfl))
theorem frame_k42 : Cert.quiescent_Kernel42 := fun m ρ _ => by
  rw [same_k42]
  exact Cert.Kernel42Ideal.Gen.frame (F := Bits) m ρ
theorem frame_r42 : Cert.quiescent_Reference42Ideal := fun m ρ _ =>
  (θ_run Cert.Reference42Ideal.defs _ _).mono
    (fun r h => ⟨fun c => (h c).2.2.2.2, sem_eq_zero_of_no_sems (by decide) r.2⟩)
    (Cert.Reference42Ideal.Value.run (F := Ideal) m ρ)

theorem same_k43 : Cert.Kernel43.defs (F := Bits) = Cert.Kernel43Ideal.defs (F := Bits) :=
  congrArg (Pipeline.defs (Cert.Kernel43.pcfgs (F := Bits))) (congrArg Defs.onTc (funext fun l => by
    match l with
    | 0 => rfl))
theorem frame_k43 : Cert.quiescent_Kernel43 := fun m ρ _ => by
  rw [same_k43]
  exact Cert.Kernel43Ideal.Gen.frame (F := Bits) m ρ
theorem frame_r43 : Cert.quiescent_Reference43Ideal := fun m ρ _ =>
  (θ_run Cert.Reference43Ideal.defs _ _).mono
    (fun r h => ⟨fun c => (h c).2.2.2.2, sem_eq_zero_of_no_sems (by decide) r.2⟩)
    (Cert.Reference43Ideal.Value.run (F := Ideal) m ρ)

theorem same_k44 : Cert.Kernel44.defs (F := Bits) = Cert.Kernel44Ideal.defs (F := Bits) :=
  congrArg (Pipeline.defs (Cert.Kernel44.pcfgs (F := Bits))) (congrArg Defs.onTc (funext fun l => by
    match l with
    | 0 => rfl))
theorem frame_k44 : Cert.quiescent_Kernel44 := fun m ρ _ => by
  rw [same_k44]
  exact Cert.Kernel44Ideal.Gen.frame (F := Bits) m ρ
theorem frame_r44 : Cert.quiescent_Reference44Ideal := fun m ρ _ =>
  (θ_run Cert.Reference44Ideal.defs _ _).mono
    (fun r h => ⟨fun c => (h c).2.2.2.2, sem_eq_zero_of_no_sems (by decide) r.2⟩)
    (Cert.Reference44Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Kernel41.Gen.facts, Cert.Kernel41Ideal.Gen.facts, Cert.Reference41Ideal.Gen.facts,
    Cert.Kernel42.Gen.facts, Cert.Kernel42Ideal.Gen.facts, Cert.Reference42Ideal.Gen.facts,
    Cert.Kernel43.Gen.facts, Cert.Kernel43Ideal.Gen.facts, Cert.Reference43Ideal.Gen.facts,
    Cert.Kernel44.Gen.facts, Cert.Kernel44Ideal.Gen.facts, Cert.Reference44Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Pre_finite.Gen.facts,
    Cert.Pre_finite28.Gen.facts,
    Cert.Pre_finite29.Gen.facts,
    fun m ρ _ => Cert.Kernel.Gen.frame m ρ,
    fun m ρ _ => Cert.KernelIdeal.Gen.frame m ρ,
    fun m ρ _ => Cert.KernelIdeal.Gen.frame m ρ,
    frame_ri,
    fun m ρ _ => frame_ri m ρ trivial,
    frame_k2, fun m ρ _ => Cert.Kernel2Ideal.Gen.frame m ρ, frame_r2,
    frame_k3, fun m ρ _ => Cert.Kernel3Ideal.Gen.frame m ρ, frame_r3,
    frame_k4, fun m ρ _ => Cert.Kernel4Ideal.Gen.frame m ρ, frame_r4,
    frame_k5, fun m ρ _ => Cert.Kernel5Ideal.Gen.frame m ρ, frame_r5,
    frame_k6, fun m ρ _ => Cert.Kernel6Ideal.Gen.frame m ρ, frame_r6,
    frame_k7, fun m ρ _ => Cert.Kernel7Ideal.Gen.frame m ρ, frame_r7,
    frame_k8, fun m ρ _ => Cert.Kernel8Ideal.Gen.frame m ρ, frame_r8,
    frame_k10, fun m ρ _ => Cert.Kernel10Ideal.Gen.frame m ρ, frame_r10,
    frame_k11, fun m ρ _ => Cert.Kernel11Ideal.Gen.frame m ρ, frame_r11,
    frame_k12, fun m ρ _ => Cert.Kernel12Ideal.Gen.frame m ρ, frame_r12,
    frame_k13, fun m ρ _ => Cert.Kernel13Ideal.Gen.frame m ρ, frame_r13,
    frame_k14, fun m ρ _ => Cert.Kernel14Ideal.Gen.frame m ρ, frame_r14,
    frame_k15, fun m ρ _ => Cert.Kernel15Ideal.Gen.frame m ρ, frame_r15,
    frame_k16, fun m ρ _ => Cert.Kernel16Ideal.Gen.frame m ρ, frame_r16,
    frame_k17, fun m ρ _ => Cert.Kernel17Ideal.Gen.frame m ρ, frame_r17,
    frame_k18, fun m ρ _ => Cert.Kernel18Ideal.Gen.frame m ρ, frame_r18,
    frame_k19, fun m ρ _ => Cert.Kernel19Ideal.Gen.frame m ρ, frame_r19,
    frame_k20, fun m ρ _ => Cert.Kernel20Ideal.Gen.frame m ρ, frame_r20,
    frame_k21, fun m ρ _ => Cert.Kernel21Ideal.Gen.frame m ρ, frame_r21,
    frame_k22, fun m ρ _ => Cert.Kernel22Ideal.Gen.frame m ρ, frame_r22,
    frame_k23, fun m ρ _ => Cert.Kernel23Ideal.Gen.frame m ρ, frame_r23,
    frame_k24, fun m ρ _ => Cert.Kernel24Ideal.Gen.frame m ρ, frame_r24,
    frame_k25, fun m ρ _ => Cert.Kernel25Ideal.Gen.frame m ρ, frame_r25,
    frame_k26, fun m ρ _ => Cert.Kernel26Ideal.Gen.frame m ρ, frame_r26,
    frame_k27, fun m ρ _ => Cert.Kernel27Ideal.Gen.frame m ρ, frame_r27,
    frame_k30, fun m ρ _ => Cert.Kernel30Ideal.Gen.frame m ρ, frame_r30,
    frame_k31, fun m ρ _ => Cert.Kernel31Ideal.Gen.frame m ρ, frame_r31,
    frame_k32, fun m ρ _ => Cert.Kernel32Ideal.Gen.frame m ρ, frame_r32,
    frame_k33, fun m ρ _ => Cert.Kernel33Ideal.Gen.frame m ρ, frame_r33,
    frame_k34, fun m ρ _ => Cert.Kernel34Ideal.Gen.frame m ρ, frame_r34,
    frame_k35, fun m ρ _ => Cert.Kernel35Ideal.Gen.frame m ρ, frame_r35,
    frame_k36, fun m ρ _ => Cert.Kernel36Ideal.Gen.frame m ρ, frame_r36,
    frame_k37, fun m ρ _ => Cert.Kernel37Ideal.Gen.frame m ρ, frame_r37,
    frame_k38, fun m ρ _ => Cert.Kernel38Ideal.Gen.frame m ρ, frame_r38,
    frame_k39, fun m ρ _ => Cert.Kernel39Ideal.Gen.frame m ρ, frame_r39,
    frame_k40, fun m ρ _ => Cert.Kernel40Ideal.Gen.frame m ρ, frame_r40,
    frame_k41, fun m ρ _ => Cert.Kernel41Ideal.Gen.frame m ρ, frame_r41,
    frame_k42, fun m ρ _ => Cert.Kernel42Ideal.Gen.frame m ρ, frame_r42,
    frame_k43, fun m ρ _ => Cert.Kernel43Ideal.Gen.frame m ρ, frame_r43,
    frame_k44, fun m ρ _ => Cert.Kernel44Ideal.Gen.frame m ρ, frame_r44,
    frame_k28, fun m ρ _ => Cert.Kernel28Ideal.Gen.frame m ρ, fun m ρ _ => Cert.Kernel28Ideal.Gen.frame m ρ, frame_r28, fun m ρ _ => frame_r28 m ρ trivial,
    frame_k29, fun m ρ _ => Cert.Kernel29Ideal.Gen.frame m ρ, fun m ρ _ => Cert.Kernel29Ideal.Gen.frame m ρ, frame_r29, fun m ρ _ => frame_r29 m ρ trivial,
    IdealRules.named_const.statement Cert.KernelIdeal.κ "mask" .f32 0xF149F2CA#32 ⊥ rfl,
    Cert.Fox.agree,
    trivial, Cert.Ffn.agree2,
    trivial, Cert.Ffn.agree3,
    trivial, Cert.Ffn.agree4,
    trivial, Cert.Ffn.agree5,
    trivial, Cert.Ffn.agree6,
    trivial, Cert.Ffn.agree7,
    trivial, Cert.Ffn.agree8,
    trivial, Cert.Gate.agree10,
    trivial, Cert.Prod.agree11,
    trivial, Cert.Prod.agree12,
    trivial, Cert.Prod.agree13,
    trivial, Cert.Prod.agree14,
    trivial, Cert.Prod.agree15,
    trivial, Cert.Prod.agree16,
    trivial, Cert.Prod.agree17,
    trivial, Cert.Prod.agree18,
    trivial, Cert.Prod.agree19,
    trivial, Cert.Prod.agree20,
    trivial, Cert.Prod.agree21,
    trivial, Cert.Prod.agree22,
    trivial, Cert.Prod.agree23,
    trivial, Cert.Prod.agree24,
    trivial, Cert.Prod.agree25,
    trivial, Cert.Mem.agree26,
    trivial, Cert.Mem.agree27,
    trivial, Cert.Norm.agree30,
    trivial, Cert.Norm.agree31,
    trivial, Cert.Norm.agree32,
    trivial, Cert.Norm.agree33,
    trivial, Cert.Norm.agree34,
    trivial, Cert.Norm.agree35,
    trivial, Cert.Adam.agree36,
    trivial, Cert.Adam.agree37,
    trivial, Cert.AdamLayer.agree38,
    trivial, Cert.AdamLayer.agree39,
    trivial, Cert.AdamLayer.agree40,
    trivial, Cert.AdamLayer.agree41,
    trivial, Cert.AdamLayer.agree42,
    trivial, Cert.AdamLayer.agree43,
    trivial, Cert.AdamLayer.agree44,
    trivial, Cert.Mem.agree28,
    trivial, Cert.Mem.agree29⟩

end Cert.Proof

end
